-- ==== Defs.lean ====
def Pre_DxEven (m : (ℓ : Loc Cert.DxEven.nD Cert.DxEven.τ Cert.DxEven.sig) → Buf (Elt Bits) ℓ) : Prop :=
  True

def Pre_DxEvenIdeal (m : (ℓ : Loc Cert.DxEvenIdeal.nD Cert.DxEvenIdeal.τ Cert.DxEvenIdeal.sig) → Buf (Elt Ideal) ℓ) : Prop :=
  True

def Pre_DxEvenRefIdeal (m : (ℓ : Loc Cert.DxEvenRefIdeal.nD Cert.DxEvenRefIdeal.τ Cert.DxEvenRefIdeal.sig) → Buf (Elt Ideal) ℓ) : Prop :=
  True

def Pre_DxOdd (m : (ℓ : Loc Cert.DxOdd.nD Cert.DxOdd.τ Cert.DxOdd.sig) → Buf (Elt Bits) ℓ) : Prop :=
  True

def Pre_DxOddIdeal (m : (ℓ : Loc Cert.DxOddIdeal.nD Cert.DxOddIdeal.τ Cert.DxOddIdeal.sig) → Buf (Elt Ideal) ℓ) : Prop :=
  True

def Pre_DxOddRefIdeal (m : (ℓ : Loc Cert.DxOddRefIdeal.nD Cert.DxOddRefIdeal.τ Cert.DxOddRefIdeal.sig) → Buf (Elt Ideal) ℓ) : Prop :=
  True

def Pre_DwInEven (m : (ℓ : Loc Cert.DwInEven.nD Cert.DwInEven.τ Cert.DwInEven.sig) → Buf (Elt Bits) ℓ) : Prop :=
  True

def Pre_DwInEvenIdeal (m : (ℓ : Loc Cert.DwInEvenIdeal.nD Cert.DwInEvenIdeal.τ Cert.DwInEvenIdeal.sig) → Buf (Elt Ideal) ℓ) : Prop :=
  True

def Pre_DwInEvenRefIdeal (m : (ℓ : Loc Cert.DwInEvenRefIdeal.nD Cert.DwInEvenRefIdeal.τ Cert.DwInEvenRefIdeal.sig) → Buf (Elt Ideal) ℓ) : Prop :=
  True

def Pre_DwInOdd (m : (ℓ : Loc Cert.DwInOdd.nD Cert.DwInOdd.τ Cert.DwInOdd.sig) → Buf (Elt Bits) ℓ) : Prop :=
  True

def Pre_DwInOddIdeal (m : (ℓ : Loc Cert.DwInOddIdeal.nD Cert.DwInOddIdeal.τ Cert.DwInOddIdeal.sig) → Buf (Elt Ideal) ℓ) : Prop :=
  True

def Pre_DwInOddRefIdeal (m : (ℓ : Loc Cert.DwInOddRefIdeal.nD Cert.DwInOddRefIdeal.τ Cert.DwInOddRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_InEven (m : (ℓ : Loc Cert.InEven.nD Cert.InEven.τ Cert.InEven.sig) → Buf (Elt Bits) ℓ) : Prop :=
  True

def Pre_InEvenIdeal (m : (ℓ : Loc Cert.InEvenIdeal.nD Cert.InEvenIdeal.τ Cert.InEvenIdeal.sig) → Buf (Elt Ideal) ℓ) : Prop :=
  True

def Pre_InEvenRefIdeal (m : (ℓ : Loc Cert.InEvenRefIdeal.nD Cert.InEvenRefIdeal.τ Cert.InEvenRefIdeal.sig) → Buf (Elt Ideal) ℓ) : Prop :=
  True

def Pre_InOdd (m : (ℓ : Loc Cert.InOdd.nD Cert.InOdd.τ Cert.InOdd.sig) → Buf (Elt Bits) ℓ) : Prop :=
  True

def Pre_InOddIdeal (m : (ℓ : Loc Cert.InOddIdeal.nD Cert.InOddIdeal.τ Cert.InOddIdeal.sig) → Buf (Elt Ideal) ℓ) : Prop :=
  True

def Pre_InOddRefIdeal (m : (ℓ : Loc Cert.InOddRefIdeal.nD Cert.InOddRefIdeal.τ Cert.InOddRefIdeal.sig) → Buf (Elt Ideal) ℓ) : Prop :=
  True

def Pre_KvIn (m : (ℓ : Loc Cert.KvIn.nD Cert.KvIn.τ Cert.KvIn.sig) → Buf (Elt Bits) ℓ) : Prop :=
  True

def Pre_KvInIdeal (m : (ℓ : Loc Cert.KvInIdeal.nD Cert.KvInIdeal.τ Cert.KvInIdeal.sig) → Buf (Elt Ideal) ℓ) : Prop :=
  True

def Pre_KvInRefIdeal (m : (ℓ : Loc Cert.KvInRefIdeal.nD Cert.KvInRefIdeal.τ Cert.KvInRefIdeal.sig) → Buf (Elt Ideal) ℓ) : Prop :=
  True

def Pre_KvBwd (m : (ℓ : Loc Cert.KvBwd.nD Cert.KvBwd.τ Cert.KvBwd.sig) → Buf (Elt Bits) ℓ) : Prop :=
  True

def Pre_KvBwdIdeal (m : (ℓ : Loc Cert.KvBwdIdeal.nD Cert.KvBwdIdeal.τ Cert.KvBwdIdeal.sig) → Buf (Elt Ideal) ℓ) : Prop :=
  True

def Pre_KvBwdRefIdeal (m : (ℓ : Loc Cert.KvBwdRefIdeal.nD Cert.KvBwdRefIdeal.τ Cert.KvBwdRefIdeal.sig) → Buf (Elt Ideal) ℓ) : Prop :=
  True

def Pre_AdamInEven (m : (ℓ : Loc Cert.AdamInEven.nD Cert.AdamInEven.τ Cert.AdamInEven.sig) → Buf (Elt Bits) ℓ) : Prop :=
  True

def Pre_AdamInEvenIdeal (m : (ℓ : Loc Cert.AdamInEvenIdeal.nD Cert.AdamInEvenIdeal.τ Cert.AdamInEvenIdeal.sig) → Buf (Elt Ideal) ℓ) : Prop :=
  True

def Pre_AdamInEvenRefIdeal (m : (ℓ : Loc Cert.AdamInEvenRefIdeal.nD Cert.AdamInEvenRefIdeal.τ Cert.AdamInEvenRefIdeal.sig) → Buf (Elt Ideal) ℓ) : Prop :=
  True

def Pre_AdamInOdd (m : (ℓ : Loc Cert.AdamInOdd.nD Cert.AdamInOdd.τ Cert.AdamInOdd.sig) → Buf (Elt Bits) ℓ) : Prop :=
  True

def Pre_AdamInOddIdeal (m : (ℓ : Loc Cert.AdamInOddIdeal.nD Cert.AdamInOddIdeal.τ Cert.AdamInOddIdeal.sig) → Buf (Elt Ideal) ℓ) : Prop :=
  True

def Pre_AdamInOddRefIdeal (m : (ℓ : Loc Cert.AdamInOddRefIdeal.nD Cert.AdamInOddRefIdeal.τ Cert.AdamInOddRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamPw (m : (ℓ : Loc Cert.AdamPw.nD Cert.AdamPw.τ Cert.AdamPw.sig) → Buf (Elt Bits) ℓ) : Prop :=
  True

def Pre_AdamPwIdeal (m : (ℓ : Loc Cert.AdamPwIdeal.nD Cert.AdamPwIdeal.τ Cert.AdamPwIdeal.sig) → Buf (Elt Ideal) ℓ) : Prop :=
  True

def Pre_AdamPwRefIdeal (m : (ℓ : Loc Cert.AdamPwRefIdeal.nD Cert.AdamPwRefIdeal.τ Cert.AdamPwRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_DxEven [hDxEven : Cert.DxEven.Facts] : Prop :=
  ∀ (m : (ℓ : Loc Cert.DxEven.nD Cert.DxEven.τ Cert.DxEven.sig) → Buf (Elt Bits) ℓ) (g : Dev Cert.DxEven.nD → PrngReg), Pre_DxEven m →
    θ_run (Cert.DxEven.defs (F := Bits)) (onTc (τ := Cert.DxEven.τ) (Cert.DxEven.main (F := Bits))) ⟨m, fun _ => 0, g⟩ (fun r => (∀ c : Dev Cert.DxEven.nD,
      r.2.mem ((c.tc : Thread Cert.DxEven.nD Cert.DxEven.τ).loc Cert.DxEven.main_arg0) = m ((c.tc : Thread Cert.DxEven.nD Cert.DxEven.τ).loc Cert.DxEven.main_arg0)
      ∧ r.2.mem ((c.tc : Thread Cert.DxEven.nD Cert.DxEven.τ).loc Cert.DxEven.main_arg1) = m ((c.tc : Thread Cert.DxEven.nD Cert.DxEven.τ).loc Cert.DxEven.main_arg1)
      ∧ r.2.mem ((c.tc : Thread Cert.DxEven.nD Cert.DxEven.τ).loc Cert.DxEven.main_arg2) = m ((c.tc : Thread Cert.DxEven.nD Cert.DxEven.τ).loc Cert.DxEven.main_arg2)
      ∧ r.2.mem ((c.tc : Thread Cert.DxEven.nD Cert.DxEven.τ).loc Cert.DxEven.main_arg3) = m ((c.tc : Thread Cert.DxEven.nD Cert.DxEven.τ).loc Cert.DxEven.main_arg3)
      ∧ r.2.mem ((c.tc : Thread Cert.DxEven.nD Cert.DxEven.τ).loc Cert.DxEven.main_arg4) = m ((c.tc : Thread Cert.DxEven.nD Cert.DxEven.τ).loc Cert.DxEven.main_arg4))
      ∧ r.2.sem = fun _ => 0)

def quiescent_DxEvenIdeal [hDxEvenIdeal : Cert.DxEvenIdeal.Facts] : Prop :=
  ∀ (m : (ℓ : Loc Cert.DxEvenIdeal.nD Cert.DxEvenIdeal.τ Cert.DxEvenIdeal.sig) → Buf (Elt Ideal) ℓ) (g : Dev Cert.DxEvenIdeal.nD → PrngReg), Pre_DxEvenIdeal m →
    θ_run (Cert.DxEvenIdeal.defs (F := Ideal)) (onTc (τ := Cert.DxEvenIdeal.τ) (Cert.DxEvenIdeal.main (F := Ideal))) ⟨m, fun _ => 0, g⟩ (fun r => (∀ c : Dev Cert.DxEvenIdeal.nD,
      r.2.mem ((c.tc : Thread Cert.DxEvenIdeal.nD Cert.DxEvenIdeal.τ).loc Cert.DxEvenIdeal.main_arg0) = m ((c.tc : Thread Cert.DxEvenIdeal.nD Cert.DxEvenIdeal.τ).loc Cert.DxEvenIdeal.main_arg0)
      ∧ r.2.mem ((c.tc : Thread Cert.DxEvenIdeal.nD Cert.DxEvenIdeal.τ).loc Cert.DxEvenIdeal.main_arg1) = m ((c.tc : Thread Cert.DxEvenIdeal.nD Cert.DxEvenIdeal.τ).loc Cert.DxEvenIdeal.main_arg1)
      ∧ r.2.mem ((c.tc : Thread Cert.DxEvenIdeal.nD Cert.DxEvenIdeal.τ).loc Cert.DxEvenIdeal.main_arg2) = m ((c.tc : Thread Cert.DxEvenIdeal.nD Cert.DxEvenIdeal.τ).loc Cert.DxEvenIdeal.main_arg2)
      ∧ r.2.mem ((c.tc : Thread Cert.DxEvenIdeal.nD Cert.DxEvenIdeal.τ).loc Cert.DxEvenIdeal.main_arg3) = m ((c.tc : Thread Cert.DxEvenIdeal.nD Cert.DxEvenIdeal.τ).loc Cert.DxEvenIdeal.main_arg3)
      ∧ r.2.mem ((c.tc : Thread Cert.DxEvenIdeal.nD Cert.DxEvenIdeal.τ).loc Cert.DxEvenIdeal.main_arg4) = m ((c.tc : Thread Cert.DxEvenIdeal.nD Cert.DxEvenIdeal.τ).loc Cert.DxEvenIdeal.main_arg4))
      ∧ r.2.sem = fun _ => 0)

def quiescent_DxEvenRefIdeal [hDxEvenRefIdeal : Cert.DxEvenRefIdeal.Facts] : Prop :=
  ∀ (m : (ℓ : Loc Cert.DxEvenRefIdeal.nD Cert.DxEvenRefIdeal.τ Cert.DxEvenRefIdeal.sig) → Buf (Elt Ideal) ℓ) (g : Dev Cert.DxEvenRefIdeal.nD → PrngReg), Pre_DxEvenRefIdeal m →
    θ_run (Cert.DxEvenRefIdeal.defs (F := Ideal)) (onTc (τ := Cert.DxEvenRefIdeal.τ) (Cert.DxEvenRefIdeal.main (F := Ideal))) ⟨m, fun _ => 0, g⟩ (fun r => (∀ c : Dev Cert.DxEvenRefIdeal.nD,
      r.2.mem ((c.tc : Thread Cert.DxEvenRefIdeal.nD Cert.DxEvenRefIdeal.τ).loc Cert.DxEvenRefIdeal.main_arg0) = m ((c.tc : Thread Cert.DxEvenRefIdeal.nD Cert.DxEvenRefIdeal.τ).loc Cert.DxEvenRefIdeal.main_arg0)
      ∧ r.2.mem ((c.tc : Thread Cert.DxEvenRefIdeal.nD Cert.DxEvenRefIdeal.τ).loc Cert.DxEvenRefIdeal.main_arg1) = m ((c.tc : Thread Cert.DxEvenRefIdeal.nD Cert.DxEvenRefIdeal.τ).loc Cert.DxEvenRefIdeal.main_arg1)
      ∧ r.2.mem ((c.tc : Thread Cert.DxEvenRefIdeal.nD Cert.DxEvenRefIdeal.τ).loc Cert.DxEvenRefIdeal.main_arg2) = m ((c.tc : Thread Cert.DxEvenRefIdeal.nD Cert.DxEvenRefIdeal.τ).loc Cert.DxEvenRefIdeal.main_arg2)
      ∧ r.2.mem ((c.tc : Thread Cert.DxEvenRefIdeal.nD Cert.DxEvenRefIdeal.τ).loc Cert.DxEvenRefIdeal.main_arg3) = m ((c.tc : Thread Cert.DxEvenRefIdeal.nD Cert.DxEvenRefIdeal.τ).loc Cert.DxEvenRefIdeal.main_arg3)
      ∧ r.2.mem ((c.tc : Thread Cert.DxEvenRefIdeal.nD Cert.DxEvenRefIdeal.τ).loc Cert.DxEvenRefIdeal.main_arg4) = m ((c.tc : Thread Cert.DxEvenRefIdeal.nD Cert.DxEvenRefIdeal.τ).loc Cert.DxEvenRefIdeal.main_arg4))
      ∧ r.2.sem = fun _ => 0)

def quiescent_DxOdd [hDxOdd : Cert.DxOdd.Facts] : Prop :=
  ∀ (m : (ℓ : Loc Cert.DxOdd.nD Cert.DxOdd.τ Cert.DxOdd.sig) → Buf (Elt Bits) ℓ) (g : Dev Cert.DxOdd.nD → PrngReg), Pre_DxOdd m →
    θ_run (Cert.DxOdd.defs (F := Bits)) (onTc (τ := Cert.DxOdd.τ) (Cert.DxOdd.main (F := Bits))) ⟨m, fun _ => 0, g⟩ (fun r => (∀ c : Dev Cert.DxOdd.nD,
      r.2.mem ((c.tc : Thread Cert.DxOdd.nD Cert.DxOdd.τ).loc Cert.DxOdd.main_arg0) = m ((c.tc : Thread Cert.DxOdd.nD Cert.DxOdd.τ).loc Cert.DxOdd.main_arg0)
      ∧ r.2.mem ((c.tc : Thread Cert.DxOdd.nD Cert.DxOdd.τ).loc Cert.DxOdd.main_arg1) = m ((c.tc : Thread Cert.DxOdd.nD Cert.DxOdd.τ).loc Cert.DxOdd.main_arg1)
      ∧ r.2.mem ((c.tc : Thread Cert.DxOdd.nD Cert.DxOdd.τ).loc Cert.DxOdd.main_arg2) = m ((c.tc : Thread Cert.DxOdd.nD Cert.DxOdd.τ).loc Cert.DxOdd.main_arg2)
      ∧ r.2.mem ((c.tc : Thread Cert.DxOdd.nD Cert.DxOdd.τ).loc Cert.DxOdd.main_arg3) = m ((c.tc : Thread Cert.DxOdd.nD Cert.DxOdd.τ).loc Cert.DxOdd.main_arg3)
      ∧ r.2.mem ((c.tc : Thread Cert.DxOdd.nD Cert.DxOdd.τ).loc Cert.DxOdd.main_arg4) = m ((c.tc : Thread Cert.DxOdd.nD Cert.DxOdd.τ).loc Cert.DxOdd.main_arg4))
      ∧ r.2.sem = fun _ => 0)

def quiescent_DxOddIdeal [hDxOddIdeal : Cert.DxOddIdeal.Facts] : Prop :=
  ∀ (m : (ℓ : Loc Cert.DxOddIdeal.nD Cert.DxOddIdeal.τ Cert.DxOddIdeal.sig) → Buf (Elt Ideal) ℓ) (g : Dev Cert.DxOddIdeal.nD → PrngReg), Pre_DxOddIdeal m →
    θ_run (Cert.DxOddIdeal.defs (F := Ideal)) (onTc (τ := Cert.DxOddIdeal.τ) (Cert.DxOddIdeal.main (F := Ideal))) ⟨m, fun _ => 0, g⟩ (fun r => (∀ c : Dev Cert.DxOddIdeal.nD,
      r.2.mem ((c.tc : Thread Cert.DxOddIdeal.nD Cert.DxOddIdeal.τ).loc Cert.DxOddIdeal.main_arg0) = m ((c.tc : Thread Cert.DxOddIdeal.nD Cert.DxOddIdeal.τ).loc Cert.DxOddIdeal.main_arg0)
      ∧ r.2.mem ((c.tc : Thread Cert.DxOddIdeal.nD Cert.DxOddIdeal.τ).loc Cert.DxOddIdeal.main_arg1) = m ((c.tc : Thread Cert.DxOddIdeal.nD Cert.DxOddIdeal.τ).loc Cert.DxOddIdeal.main_arg1)
      ∧ r.2.mem ((c.tc : Thread Cert.DxOddIdeal.nD Cert.DxOddIdeal.τ).loc Cert.DxOddIdeal.main_arg2) = m ((c.tc : Thread Cert.DxOddIdeal.nD Cert.DxOddIdeal.τ).loc Cert.DxOddIdeal.main_arg2)
      ∧ r.2.mem ((c.tc : Thread Cert.DxOddIdeal.nD Cert.DxOddIdeal.τ).loc Cert.DxOddIdeal.main_arg3) = m ((c.tc : Thread Cert.DxOddIdeal.nD Cert.DxOddIdeal.τ).loc Cert.DxOddIdeal.main_arg3)
      ∧ r.2.mem ((c.tc : Thread Cert.DxOddIdeal.nD Cert.DxOddIdeal.τ).loc Cert.DxOddIdeal.main_arg4) = m ((c.tc : Thread Cert.DxOddIdeal.nD Cert.DxOddIdeal.τ).loc Cert.DxOddIdeal.main_arg4))
      ∧ r.2.sem = fun _ => 0)

def quiescent_DxOddRefIdeal [hDxOddRefIdeal : Cert.DxOddRefIdeal.Facts] : Prop :=
  ∀ (m : (ℓ : Loc Cert.DxOddRefIdeal.nD Cert.DxOddRefIdeal.τ Cert.DxOddRefIdeal.sig) → Buf (Elt Ideal) ℓ) (g : Dev Cert.DxOddRefIdeal.nD → PrngReg), Pre_DxOddRefIdeal m →
    θ_run (Cert.DxOddRefIdeal.defs (F := Ideal)) (onTc (τ := Cert.DxOddRefIdeal.τ) (Cert.DxOddRefIdeal.main (F := Ideal))) ⟨m, fun _ => 0, g⟩ (fun r => (∀ c : Dev Cert.DxOddRefIdeal.nD,
      r.2.mem ((c.tc : Thread Cert.DxOddRefIdeal.nD Cert.DxOddRefIdeal.τ).loc Cert.DxOddRefIdeal.main_arg0) = m ((c.tc : Thread Cert.DxOddRefIdeal.nD Cert.DxOddRefIdeal.τ).loc Cert.DxOddRefIdeal.main_arg0)
      ∧ r.2.mem ((c.tc : Thread Cert.DxOddRefIdeal.nD Cert.DxOddRefIdeal.τ).loc Cert.DxOddRefIdeal.main_arg1) = m ((c.tc : Thread Cert.DxOddRefIdeal.nD Cert.DxOddRefIdeal.τ).loc Cert.DxOddRefIdeal.main_arg1)
      ∧ r.2.mem ((c.tc : Thread Cert.DxOddRefIdeal.nD Cert.DxOddRefIdeal.τ).loc Cert.DxOddRefIdeal.main_arg2) = m ((c.tc : Thread Cert.DxOddRefIdeal.nD Cert.DxOddRefIdeal.τ).loc Cert.DxOddRefIdeal.main_arg2)
      ∧ r.2.mem ((c.tc : Thread Cert.DxOddRefIdeal.nD Cert.DxOddRefIdeal.τ).loc Cert.DxOddRefIdeal.main_arg3) = m ((c.tc : Thread Cert.DxOddRefIdeal.nD Cert.DxOddRefIdeal.τ).loc Cert.DxOddRefIdeal.main_arg3)
      ∧ r.2.mem ((c.tc : Thread Cert.DxOddRefIdeal.nD Cert.DxOddRefIdeal.τ).loc Cert.DxOddRefIdeal.main_arg4) = m ((c.tc : Thread Cert.DxOddRefIdeal.nD Cert.DxOddRefIdeal.τ).loc Cert.DxOddRefIdeal.main_arg4))
      ∧ r.2.sem = fun _ => 0)

def quiescent_DwInEven [hDwInEven : Cert.DwInEven.Facts] : Prop :=
  ∀ (m : (ℓ : Loc Cert.DwInEven.nD Cert.DwInEven.τ Cert.DwInEven.sig) → Buf (Elt Bits) ℓ) (g : Dev Cert.DwInEven.nD → PrngReg), Pre_DwInEven m →
    θ_run (Cert.DwInEven.defs (F := Bits)) (onTc (τ := Cert.DwInEven.τ) (Cert.DwInEven.main (F := Bits))) ⟨m, fun _ => 0, g⟩ (fun r => (∀ c : Dev Cert.DwInEven.nD,
      r.2.mem ((c.tc : Thread Cert.DwInEven.nD Cert.DwInEven.τ).loc Cert.DwInEven.main_arg0) = m ((c.tc : Thread Cert.DwInEven.nD Cert.DwInEven.τ).loc Cert.DwInEven.main_arg0)
      ∧ r.2.mem ((c.tc : Thread Cert.DwInEven.nD Cert.DwInEven.τ).loc Cert.DwInEven.main_arg1) = m ((c.tc : Thread Cert.DwInEven.nD Cert.DwInEven.τ).loc Cert.DwInEven.main_arg1)
      ∧ r.2.mem ((c.tc : Thread Cert.DwInEven.nD Cert.DwInEven.τ).loc Cert.DwInEven.main_arg2) = m ((c.tc : Thread Cert.DwInEven.nD Cert.DwInEven.τ).loc Cert.DwInEven.main_arg2)
      ∧ r.2.mem ((c.tc : Thread Cert.DwInEven.nD Cert.DwInEven.τ).loc Cert.DwInEven.main_arg3) = m ((c.tc : Thread Cert.DwInEven.nD Cert.DwInEven.τ).loc Cert.DwInEven.main_arg3))
      ∧ r.2.sem = fun _ => 0)

def quiescent_DwInEvenIdeal [hDwInEvenIdeal : Cert.DwInEvenIdeal.Facts] : Prop :=
  ∀ (m : (ℓ : Loc Cert.DwInEvenIdeal.nD Cert.DwInEvenIdeal.τ Cert.DwInEvenIdeal.sig) → Buf (Elt Ideal) ℓ) (g : Dev Cert.DwInEvenIdeal.nD → PrngReg), Pre_DwInEvenIdeal m →
    θ_run (Cert.DwInEvenIdeal.defs (F := Ideal)) (onTc (τ := Cert.DwInEvenIdeal.τ) (Cert.DwInEvenIdeal.main (F := Ideal))) ⟨m, fun _ => 0, g⟩ (fun r => (∀ c : Dev Cert.DwInEvenIdeal.nD,
      r.2.mem ((c.tc : Thread Cert.DwInEvenIdeal.nD Cert.DwInEvenIdeal.τ).loc Cert.DwInEvenIdeal.main_arg0) = m ((c.tc : Thread Cert.DwInEvenIdeal.nD Cert.DwInEvenIdeal.τ).loc Cert.DwInEvenIdeal.main_arg0)
      ∧ r.2.mem ((c.tc : Thread Cert.DwInEvenIdeal.nD Cert.DwInEvenIdeal.τ).loc Cert.DwInEvenIdeal.main_arg1) = m ((c.tc : Thread Cert.DwInEvenIdeal.nD Cert.DwInEvenIdeal.τ).loc Cert.DwInEvenIdeal.main_arg1)
      ∧ r.2.mem ((c.tc : Thread Cert.DwInEvenIdeal.nD Cert.DwInEvenIdeal.τ).loc Cert.DwInEvenIdeal.main_arg2) = m ((c.tc : Thread Cert.DwInEvenIdeal.nD Cert.DwInEvenIdeal.τ).loc Cert.DwInEvenIdeal.main_arg2)
      ∧ r.2.mem ((c.tc : Thread Cert.DwInEvenIdeal.nD Cert.DwInEvenIdeal.τ).loc Cert.DwInEvenIdeal.main_arg3) = m ((c.tc : Thread Cert.DwInEvenIdeal.nD Cert.DwInEvenIdeal.τ).loc Cert.DwInEvenIdeal.main_arg3))
      ∧ r.2.sem = fun _ => 0)

def quiescent_DwInEvenRefIdeal [hDwInEvenRefIdeal : Cert.DwInEvenRefIdeal.Facts] : Prop :=
  ∀ (m : (ℓ : Loc Cert.DwInEvenRefIdeal.nD Cert.DwInEvenRefIdeal.τ Cert.DwInEvenRefIdeal.sig) → Buf (Elt Ideal) ℓ) (g : Dev Cert.DwInEvenRefIdeal.nD → PrngReg), Pre_DwInEvenRefIdeal m →
    θ_run (Cert.DwInEvenRefIdeal.defs (F := Ideal)) (onTc (τ := Cert.DwInEvenRefIdeal.τ) (Cert.DwInEvenRefIdeal.main (F := Ideal))) ⟨m, fun _ => 0, g⟩ (fun r => (∀ c : Dev Cert.DwInEvenRefIdeal.nD,
      r.2.mem ((c.tc : Thread Cert.DwInEvenRefIdeal.nD Cert.DwInEvenRefIdeal.τ).loc Cert.DwInEvenRefIdeal.main_arg0) = m ((c.tc : Thread Cert.DwInEvenRefIdeal.nD Cert.DwInEvenRefIdeal.τ).loc Cert.DwInEvenRefIdeal.main_arg0)
      ∧ r.2.mem ((c.tc : Thread Cert.DwInEvenRefIdeal.nD Cert.DwInEvenRefIdeal.τ).loc Cert.DwInEvenRefIdeal.main_arg1) = m ((c.tc : Thread Cert.DwInEvenRefIdeal.nD Cert.DwInEvenRefIdeal.τ).loc Cert.DwInEvenRefIdeal.main_arg1)
      ∧ r.2.mem ((c.tc : Thread Cert.DwInEvenRefIdeal.nD Cert.DwInEvenRefIdeal.τ).loc Cert.DwInEvenRefIdeal.main_arg2) = m ((c.tc : Thread Cert.DwInEvenRefIdeal.nD Cert.DwInEvenRefIdeal.τ).loc Cert.DwInEvenRefIdeal.main_arg2)
      ∧ r.2.mem ((c.tc : Thread Cert.DwInEvenRefIdeal.nD Cert.DwInEvenRefIdeal.τ).loc Cert.DwInEvenRefIdeal.main_arg3) = m ((c.tc : Thread Cert.DwInEvenRefIdeal.nD Cert.DwInEvenRefIdeal.τ).loc Cert.DwInEvenRefIdeal.main_arg3))
      ∧ r.2.sem = fun _ => 0)

def quiescent_DwInOdd [hDwInOdd : Cert.DwInOdd.Facts] : Prop :=
  ∀ (m : (ℓ : Loc Cert.DwInOdd.nD Cert.DwInOdd.τ Cert.DwInOdd.sig) → Buf (Elt Bits) ℓ) (g : Dev Cert.DwInOdd.nD → PrngReg), Pre_DwInOdd m →
    θ_run (Cert.DwInOdd.defs (F := Bits)) (onTc (τ := Cert.DwInOdd.τ) (Cert.DwInOdd.main (F := Bits))) ⟨m, fun _ => 0, g⟩ (fun r => (∀ c : Dev Cert.DwInOdd.nD,
      r.2.mem ((c.tc : Thread Cert.DwInOdd.nD Cert.DwInOdd.τ).loc Cert.DwInOdd.main_arg0) = m ((c.tc : Thread Cert.DwInOdd.nD Cert.DwInOdd.τ).loc Cert.DwInOdd.main_arg0)
      ∧ r.2.mem ((c.tc : Thread Cert.DwInOdd.nD Cert.DwInOdd.τ).loc Cert.DwInOdd.main_arg1) = m ((c.tc : Thread Cert.DwInOdd.nD Cert.DwInOdd.τ).loc Cert.DwInOdd.main_arg1)
      ∧ r.2.mem ((c.tc : Thread Cert.DwInOdd.nD Cert.DwInOdd.τ).loc Cert.DwInOdd.main_arg2) = m ((c.tc : Thread Cert.DwInOdd.nD Cert.DwInOdd.τ).loc Cert.DwInOdd.main_arg2)
      ∧ r.2.mem ((c.tc : Thread Cert.DwInOdd.nD Cert.DwInOdd.τ).loc Cert.DwInOdd.main_arg3) = m ((c.tc : Thread Cert.DwInOdd.nD Cert.DwInOdd.τ).loc Cert.DwInOdd.main_arg3))
      ∧ r.2.sem = fun _ => 0)

def quiescent_DwInOddIdeal [hDwInOddIdeal : Cert.DwInOddIdeal.Facts] : Prop :=
  ∀ (m : (ℓ : Loc Cert.DwInOddIdeal.nD Cert.DwInOddIdeal.τ Cert.DwInOddIdeal.sig) → Buf (Elt Ideal) ℓ) (g : Dev Cert.DwInOddIdeal.nD → PrngReg), Pre_DwInOddIdeal m →
    θ_run (Cert.DwInOddIdeal.defs (F := Ideal)) (onTc (τ := Cert.DwInOddIdeal.τ) (Cert.DwInOddIdeal.main (F := Ideal))) ⟨m, fun _ => 0, g⟩ (fun r => (∀ c : Dev Cert.DwInOddIdeal.nD,
      r.2.mem ((c.tc : Thread Cert.DwInOddIdeal.nD Cert.DwInOddIdeal.τ).loc Cert.DwInOddIdeal.main_arg0) = m ((c.tc : Thread Cert.DwInOddIdeal.nD Cert.DwInOddIdeal.τ).loc Cert.DwInOddIdeal.main_arg0)
      ∧ r.2.mem ((c.tc : Thread Cert.DwInOddIdeal.nD Cert.DwInOddIdeal.τ).loc Cert.DwInOddIdeal.main_arg1) = m ((c.tc : Thread Cert.DwInOddIdeal.nD Cert.DwInOddIdeal.τ).loc Cert.DwInOddIdeal.main_arg1)
      ∧ r.2.mem ((c.tc : Thread Cert.DwInOddIdeal.nD Cert.DwInOddIdeal.τ).loc Cert.DwInOddIdeal.main_arg2) = m ((c.tc : Thread Cert.DwInOddIdeal.nD Cert.DwInOddIdeal.τ).loc Cert.DwInOddIdeal.main_arg2)
      ∧ r.2.mem ((c.tc : Thread Cert.DwInOddIdeal.nD Cert.DwInOddIdeal.τ).loc Cert.DwInOddIdeal.main_arg3) = m ((c.tc : Thread Cert.DwInOddIdeal.nD Cert.DwInOddIdeal.τ).loc Cert.DwInOddIdeal.main_arg3))
      ∧ r.2.sem = fun _ => 0)

def quiescent_DwInOddRefIdeal [hDwInOddRefIdeal : Cert.DwInOddRefIdeal.Facts] : Prop :=
  ∀ (m : (ℓ : Loc Cert.DwInOddRefIdeal.nD Cert.DwInOddRefIdeal.τ Cert.DwInOddRefIdeal.sig) → Buf (Elt Ideal) ℓ) (g : Dev Cert.DwInOddRefIdeal.nD → PrngReg), Pre_DwInOddRefIdeal m →
    θ_run (Cert.DwInOddRefIdeal.defs (F := Ideal)) (onTc (τ := Cert.DwInOddRefIdeal.τ) (Cert.DwInOddRefIdeal.main (F := Ideal))) ⟨m, fun _ => 0, g⟩ (fun r => (∀ c : Dev Cert.DwInOddRefIdeal.nD,
      r.2.mem ((c.tc : Thread Cert.DwInOddRefIdeal.nD Cert.DwInOddRefIdeal.τ).loc Cert.DwInOddRefIdeal.main_arg0) = m ((c.tc : Thread Cert.DwInOddRefIdeal.nD Cert.DwInOddRefIdeal.τ).loc Cert.DwInOddRefIdeal.main_arg0)
      ∧ r.2.mem ((c.tc : Thread Cert.DwInOddRefIdeal.nD Cert.DwInOddRefIdeal.τ).loc Cert.DwInOddRefIdeal.main_arg1) = m ((c.tc : Thread Cert.DwInOddRefIdeal.nD Cert.DwInOddRefIdeal.τ).loc Cert.DwInOddRefIdeal.main_arg1)
      ∧ r.2.mem ((c.tc : Thread Cert.DwInOddRefIdeal.nD Cert.DwInOddRefIdeal.τ).loc Cert.DwInOddRefIdeal.main_arg2) = m ((c.tc : Thread Cert.DwInOddRefIdeal.nD Cert.DwInOddRefIdeal.τ).loc Cert.DwInOddRefIdeal.main_arg2)
      ∧ r.2.mem ((c.tc : Thread Cert.DwInOddRefIdeal.nD Cert.DwInOddRefIdeal.τ).loc Cert.DwInOddRefIdeal.main_arg3) = m ((c.tc : Thread Cert.DwInOddRefIdeal.nD Cert.DwInOddRefIdeal.τ).loc Cert.DwInOddRefIdeal.main_arg3))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2))
      ∧ r.2.sem = fun _ => 0)

def quiescent_InEven [hInEven : Cert.InEven.Facts] : Prop :=
  ∀ (m : (ℓ : Loc Cert.InEven.nD Cert.InEven.τ Cert.InEven.sig) → Buf (Elt Bits) ℓ) (g : Dev Cert.InEven.nD → PrngReg), Pre_InEven m →
    θ_run (Cert.InEven.defs (F := Bits)) (onTc (τ := Cert.InEven.τ) (Cert.InEven.main (F := Bits))) ⟨m, fun _ => 0, g⟩ (fun r => (∀ c : Dev Cert.InEven.nD,
      r.2.mem ((c.tc : Thread Cert.InEven.nD Cert.InEven.τ).loc Cert.InEven.main_arg0) = m ((c.tc : Thread Cert.InEven.nD Cert.InEven.τ).loc Cert.InEven.main_arg0)
      ∧ r.2.mem ((c.tc : Thread Cert.InEven.nD Cert.InEven.τ).loc Cert.InEven.main_arg1) = m ((c.tc : Thread Cert.InEven.nD Cert.InEven.τ).loc Cert.InEven.main_arg1)
      ∧ r.2.mem ((c.tc : Thread Cert.InEven.nD Cert.InEven.τ).loc Cert.InEven.main_arg2) = m ((c.tc : Thread Cert.InEven.nD Cert.InEven.τ).loc Cert.InEven.main_arg2))
      ∧ r.2.sem = fun _ => 0)

def quiescent_InEvenIdeal [hInEvenIdeal : Cert.InEvenIdeal.Facts] : Prop :=
  ∀ (m : (ℓ : Loc Cert.InEvenIdeal.nD Cert.InEvenIdeal.τ Cert.InEvenIdeal.sig) → Buf (Elt Ideal) ℓ) (g : Dev Cert.InEvenIdeal.nD → PrngReg), Pre_InEvenIdeal m →
    θ_run (Cert.InEvenIdeal.defs (F := Ideal)) (onTc (τ := Cert.InEvenIdeal.τ) (Cert.InEvenIdeal.main (F := Ideal))) ⟨m, fun _ => 0, g⟩ (fun r => (∀ c : Dev Cert.InEvenIdeal.nD,
      r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
      ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
      ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2))
      ∧ r.2.sem = fun _ => 0)

def quiescent_InEvenRefIdeal [hInEvenRefIdeal : Cert.InEvenRefIdeal.Facts] : Prop :=
  ∀ (m : (ℓ : Loc Cert.InEvenRefIdeal.nD Cert.InEvenRefIdeal.τ Cert.InEvenRefIdeal.sig) → Buf (Elt Ideal) ℓ) (g : Dev Cert.InEvenRefIdeal.nD → PrngReg), Pre_InEvenRefIdeal m →
    θ_run (Cert.InEvenRefIdeal.defs (F := Ideal)) (onTc (τ := Cert.InEvenRefIdeal.τ) (Cert.InEvenRefIdeal.main (F := Ideal))) ⟨m, fun _ => 0, g⟩ (fun r => (∀ c : Dev Cert.InEvenRefIdeal.nD,
      r.2.mem ((c.tc : Thread Cert.InEvenRefIdeal.nD Cert.InEvenRefIdeal.τ).loc Cert.InEvenRefIdeal.main_arg0) = m ((c.tc : Thread Cert.InEvenRefIdeal.nD Cert.InEvenRefIdeal.τ).loc Cert.InEvenRefIdeal.main_arg0)
      ∧ r.2.mem ((c.tc : Thread Cert.InEvenRefIdeal.nD Cert.InEvenRefIdeal.τ).loc Cert.InEvenRefIdeal.main_arg1) = m ((c.tc : Thread Cert.InEvenRefIdeal.nD Cert.InEvenRefIdeal.τ).loc Cert.InEvenRefIdeal.main_arg1)
      ∧ r.2.mem ((c.tc : Thread Cert.InEvenRefIdeal.nD Cert.InEvenRefIdeal.τ).loc Cert.InEvenRefIdeal.main_arg2) = m ((c.tc : Thread Cert.InEvenRefIdeal.nD Cert.InEvenRefIdeal.τ).loc Cert.InEvenRefIdeal.main_arg2))
      ∧ r.2.sem = fun _ => 0)

def quiescent_InOdd [hInOdd : Cert.InOdd.Facts] : Prop :=
  ∀ (m : (ℓ : Loc Cert.InOdd.nD Cert.InOdd.τ Cert.InOdd.sig) → Buf (Elt Bits) ℓ) (g : Dev Cert.InOdd.nD → PrngReg), Pre_InOdd m →
    θ_run (Cert.InOdd.defs (F := Bits)) (onTc (τ := Cert.InOdd.τ) (Cert.InOdd.main (F := Bits))) ⟨m, fun _ => 0, g⟩ (fun r => (∀ c : Dev Cert.InOdd.nD,
      r.2.mem ((c.tc : Thread Cert.InOdd.nD Cert.InOdd.τ).loc Cert.InOdd.main_arg0) = m ((c.tc : Thread Cert.InOdd.nD Cert.InOdd.τ).loc Cert.InOdd.main_arg0)
      ∧ r.2.mem ((c.tc : Thread Cert.InOdd.nD Cert.InOdd.τ).loc Cert.InOdd.main_arg1) = m ((c.tc : Thread Cert.InOdd.nD Cert.InOdd.τ).loc Cert.InOdd.main_arg1)
      ∧ r.2.mem ((c.tc : Thread Cert.InOdd.nD Cert.InOdd.τ).loc Cert.InOdd.main_arg2) = m ((c.tc : Thread Cert.InOdd.nD Cert.InOdd.τ).loc Cert.InOdd.main_arg2))
      ∧ r.2.sem = fun _ => 0)

def quiescent_InOddIdeal [hInOddIdeal : Cert.InOddIdeal.Facts] : Prop :=
  ∀ (m : (ℓ : Loc Cert.InOddIdeal.nD Cert.InOddIdeal.τ Cert.InOddIdeal.sig) → Buf (Elt Ideal) ℓ) (g : Dev Cert.InOddIdeal.nD → PrngReg), Pre_InOddIdeal m →
    θ_run (Cert.InOddIdeal.defs (F := Ideal)) (onTc (τ := Cert.InOddIdeal.τ) (Cert.InOddIdeal.main (F := Ideal))) ⟨m, fun _ => 0, g⟩ (fun r => (∀ c : Dev Cert.InOddIdeal.nD,
      r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
      ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
      ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ r.2.sem = fun _ => 0)

def quiescent_InOddRefIdeal [hInOddRefIdeal : Cert.InOddRefIdeal.Facts] : Prop :=
  ∀ (m : (ℓ : Loc Cert.InOddRefIdeal.nD Cert.InOddRefIdeal.τ Cert.InOddRefIdeal.sig) → Buf (Elt Ideal) ℓ) (g : Dev Cert.InOddRefIdeal.nD → PrngReg), Pre_InOddRefIdeal m →
    θ_run (Cert.InOddRefIdeal.defs (F := Ideal)) (onTc (τ := Cert.InOddRefIdeal.τ) (Cert.InOddRefIdeal.main (F := Ideal))) ⟨m, fun _ => 0, g⟩ (fun r => (∀ c : Dev Cert.InOddRefIdeal.nD,
      r.2.mem ((c.tc : Thread Cert.InOddRefIdeal.nD Cert.InOddRefIdeal.τ).loc Cert.InOddRefIdeal.main_arg0) = m ((c.tc : Thread Cert.InOddRefIdeal.nD Cert.InOddRefIdeal.τ).loc Cert.InOddRefIdeal.main_arg0)
      ∧ r.2.mem ((c.tc : Thread Cert.InOddRefIdeal.nD Cert.InOddRefIdeal.τ).loc Cert.InOddRefIdeal.main_arg1) = m ((c.tc : Thread Cert.InOddRefIdeal.nD Cert.InOddRefIdeal.τ).loc Cert.InOddRefIdeal.main_arg1)
      ∧ r.2.mem ((c.tc : Thread Cert.InOddRefIdeal.nD Cert.InOddRefIdeal.τ).loc Cert.InOddRefIdeal.main_arg2) = m ((c.tc : Thread Cert.InOddRefIdeal.nD Cert.InOddRefIdeal.τ).loc Cert.InOddRefIdeal.main_arg2))
      ∧ r.2.sem = fun _ => 0)

def quiescent_KvIn [hKvIn : Cert.KvIn.Facts] : Prop :=
  ∀ (m : (ℓ : Loc Cert.KvIn.nD Cert.KvIn.τ Cert.KvIn.sig) → Buf (Elt Bits) ℓ) (g : Dev Cert.KvIn.nD → PrngReg), Pre_KvIn m →
    θ_run (Cert.KvIn.defs (F := Bits)) (onTc (τ := Cert.KvIn.τ) (Cert.KvIn.main (F := Bits))) ⟨m, fun _ => 0, g⟩ (fun r => (∀ c : Dev Cert.KvIn.nD,
      r.2.mem ((c.tc : Thread Cert.KvIn.nD Cert.KvIn.τ).loc Cert.KvIn.main_arg0) = m ((c.tc : Thread Cert.KvIn.nD Cert.KvIn.τ).loc Cert.KvIn.main_arg0)
      ∧ r.2.mem ((c.tc : Thread Cert.KvIn.nD Cert.KvIn.τ).loc Cert.KvIn.main_arg1) = m ((c.tc : Thread Cert.KvIn.nD Cert.KvIn.τ).loc Cert.KvIn.main_arg1)
      ∧ r.2.mem ((c.tc : Thread Cert.KvIn.nD Cert.KvIn.τ).loc Cert.KvIn.main_arg2) = m ((c.tc : Thread Cert.KvIn.nD Cert.KvIn.τ).loc Cert.KvIn.main_arg2))
      ∧ r.2.sem = fun _ => 0)

def quiescent_KvInIdeal [hKvInIdeal : Cert.KvInIdeal.Facts] : Prop :=
  ∀ (m : (ℓ : Loc Cert.KvInIdeal.nD Cert.KvInIdeal.τ Cert.KvInIdeal.sig) → Buf (Elt Ideal) ℓ) (g : Dev Cert.KvInIdeal.nD → PrngReg), Pre_KvInIdeal m →
    θ_run (Cert.KvInIdeal.defs (F := Ideal)) (onTc (τ := Cert.KvInIdeal.τ) (Cert.KvInIdeal.main (F := Ideal))) ⟨m, fun _ => 0, g⟩ (fun r => (∀ c : Dev Cert.KvInIdeal.nD,
      r.2.mem ((c.tc : Thread Cert.KvInIdeal.nD Cert.KvInIdeal.τ).loc Cert.KvInIdeal.main_arg0) = m ((c.tc : Thread Cert.KvInIdeal.nD Cert.KvInIdeal.τ).loc Cert.KvInIdeal.main_arg0)
      ∧ r.2.mem ((c.tc : Thread Cert.KvInIdeal.nD Cert.KvInIdeal.τ).loc Cert.KvInIdeal.main_arg1) = m ((c.tc : Thread Cert.KvInIdeal.nD Cert.KvInIdeal.τ).loc Cert.KvInIdeal.main_arg1)
      ∧ r.2.mem ((c.tc : Thread Cert.KvInIdeal.nD Cert.KvInIdeal.τ).loc Cert.KvInIdeal.main_arg2) = m ((c.tc : Thread Cert.KvInIdeal.nD Cert.KvInIdeal.τ).loc Cert.KvInIdeal.main_arg2))
      ∧ r.2.sem = fun _ => 0)

def quiescent_KvInRefIdeal [hKvInRefIdeal : Cert.KvInRefIdeal.Facts] : Prop :=
  ∀ (m : (ℓ : Loc Cert.KvInRefIdeal.nD Cert.KvInRefIdeal.τ Cert.KvInRefIdeal.sig) → Buf (Elt Ideal) ℓ) (g : Dev Cert.KvInRefIdeal.nD → PrngReg), Pre_KvInRefIdeal m →
    θ_run (Cert.KvInRefIdeal.defs (F := Ideal)) (onTc (τ := Cert.KvInRefIdeal.τ) (Cert.KvInRefIdeal.main (F := Ideal))) ⟨m, fun _ => 0, g⟩ (fun r => (∀ c : Dev Cert.KvInRefIdeal.nD,
      r.2.mem ((c.tc : Thread Cert.KvInRefIdeal.nD Cert.KvInRefIdeal.τ).loc Cert.KvInRefIdeal.main_arg0) = m ((c.tc : Thread Cert.KvInRefIdeal.nD Cert.KvInRefIdeal.τ).loc Cert.KvInRefIdeal.main_arg0)
      ∧ r.2.mem ((c.tc : Thread Cert.KvInRefIdeal.nD Cert.KvInRefIdeal.τ).loc Cert.KvInRefIdeal.main_arg1) = m ((c.tc : Thread Cert.KvInRefIdeal.nD Cert.KvInRefIdeal.τ).loc Cert.KvInRefIdeal.main_arg1)
      ∧ r.2.mem ((c.tc : Thread Cert.KvInRefIdeal.nD Cert.KvInRefIdeal.τ).loc Cert.KvInRefIdeal.main_arg2) = m ((c.tc : Thread Cert.KvInRefIdeal.nD Cert.KvInRefIdeal.τ).loc Cert.KvInRefIdeal.main_arg2))
      ∧ r.2.sem = fun _ => 0)

def quiescent_KvBwd [hKvBwd : Cert.KvBwd.Facts] : Prop :=
  ∀ (m : (ℓ : Loc Cert.KvBwd.nD Cert.KvBwd.τ Cert.KvBwd.sig) → Buf (Elt Bits) ℓ) (g : Dev Cert.KvBwd.nD → PrngReg), Pre_KvBwd m →
    θ_run (Cert.KvBwd.defs (F := Bits)) (onTc (τ := Cert.KvBwd.τ) (Cert.KvBwd.main (F := Bits))) ⟨m, fun _ => 0, g⟩ (fun r => (∀ c : Dev Cert.KvBwd.nD,
      r.2.mem ((c.tc : Thread Cert.KvBwd.nD Cert.KvBwd.τ).loc Cert.KvBwd.main_arg0) = m ((c.tc : Thread Cert.KvBwd.nD Cert.KvBwd.τ).loc Cert.KvBwd.main_arg0)
      ∧ r.2.mem ((c.tc : Thread Cert.KvBwd.nD Cert.KvBwd.τ).loc Cert.KvBwd.main_arg1) = m ((c.tc : Thread Cert.KvBwd.nD Cert.KvBwd.τ).loc Cert.KvBwd.main_arg1)
      ∧ r.2.mem ((c.tc : Thread Cert.KvBwd.nD Cert.KvBwd.τ).loc Cert.KvBwd.main_arg2) = m ((c.tc : Thread Cert.KvBwd.nD Cert.KvBwd.τ).loc Cert.KvBwd.main_arg2)
      ∧ r.2.mem ((c.tc : Thread Cert.KvBwd.nD Cert.KvBwd.τ).loc Cert.KvBwd.main_arg3) = m ((c.tc : Thread Cert.KvBwd.nD Cert.KvBwd.τ).loc Cert.KvBwd.main_arg3))
      ∧ r.2.sem = fun _ => 0)

def quiescent_KvBwdIdeal [hKvBwdIdeal : Cert.KvBwdIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg), Pre_KvBwdIdeal m →
    θ_run (Cert.KvBwdIdeal.defs (F := Ideal)) (onTc (τ := Cert.KvBwdIdeal.τ) (Cert.KvBwdIdeal.main (F := Ideal))) ⟨m, fun _ => 0, g⟩ (fun r => (∀ c : Dev Cert.KvBwdIdeal.nD,
      r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
      ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
      ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
      ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3))
      ∧ r.2.sem = fun _ => 0)

def quiescent_KvBwdRefIdeal [hKvBwdRefIdeal : Cert.KvBwdRefIdeal.Facts] : Prop :=
  ∀ (m : (ℓ : Loc Cert.KvBwdRefIdeal.nD Cert.KvBwdRefIdeal.τ Cert.KvBwdRefIdeal.sig) → Buf (Elt Ideal) ℓ) (g : Dev Cert.KvBwdRefIdeal.nD → PrngReg), Pre_KvBwdRefIdeal m →
    θ_run (Cert.KvBwdRefIdeal.defs (F := Ideal)) (onTc (τ := Cert.KvBwdRefIdeal.τ) (Cert.KvBwdRefIdeal.main (F := Ideal))) ⟨m, fun _ => 0, g⟩ (fun r => (∀ c : Dev Cert.KvBwdRefIdeal.nD,
      r.2.mem ((c.tc : Thread Cert.KvBwdRefIdeal.nD Cert.KvBwdRefIdeal.τ).loc Cert.KvBwdRefIdeal.main_arg0) = m ((c.tc : Thread Cert.KvBwdRefIdeal.nD Cert.KvBwdRefIdeal.τ).loc Cert.KvBwdRefIdeal.main_arg0)
      ∧ r.2.mem ((c.tc : Thread Cert.KvBwdRefIdeal.nD Cert.KvBwdRefIdeal.τ).loc Cert.KvBwdRefIdeal.main_arg1) = m ((c.tc : Thread Cert.KvBwdRefIdeal.nD Cert.KvBwdRefIdeal.τ).loc Cert.KvBwdRefIdeal.main_arg1)
      ∧ r.2.mem ((c.tc : Thread Cert.KvBwdRefIdeal.nD Cert.KvBwdRefIdeal.τ).loc Cert.KvBwdRefIdeal.main_arg2) = m ((c.tc : Thread Cert.KvBwdRefIdeal.nD Cert.KvBwdRefIdeal.τ).loc Cert.KvBwdRefIdeal.main_arg2)
      ∧ r.2.mem ((c.tc : Thread Cert.KvBwdRefIdeal.nD Cert.KvBwdRefIdeal.τ).loc Cert.KvBwdRefIdeal.main_arg3) = m ((c.tc : Thread Cert.KvBwdRefIdeal.nD Cert.KvBwdRefIdeal.τ).loc Cert.KvBwdRefIdeal.main_arg3))
      ∧ r.2.sem = fun _ => 0)

def quiescent_AdamInEven [hAdamInEven : Cert.AdamInEven.Facts] : Prop :=
  ∀ (m : (ℓ : Loc Cert.AdamInEven.nD Cert.AdamInEven.τ Cert.AdamInEven.sig) → Buf (Elt Bits) ℓ) (g : Dev Cert.AdamInEven.nD → PrngReg), Pre_AdamInEven m →
    θ_run (Cert.AdamInEven.defs (F := Bits)) (onTc (τ := Cert.AdamInEven.τ) (Cert.AdamInEven.main (F := Bits))) ⟨m, fun _ => 0, g⟩ (fun r => (∀ c : Dev Cert.AdamInEven.nD,
      r.2.mem ((c.tc : Thread Cert.AdamInEven.nD Cert.AdamInEven.τ).loc Cert.AdamInEven.main_arg0) = m ((c.tc : Thread Cert.AdamInEven.nD Cert.AdamInEven.τ).loc Cert.AdamInEven.main_arg0)
      ∧ r.2.mem ((c.tc : Thread Cert.AdamInEven.nD Cert.AdamInEven.τ).loc Cert.AdamInEven.main_arg1) = m ((c.tc : Thread Cert.AdamInEven.nD Cert.AdamInEven.τ).loc Cert.AdamInEven.main_arg1)
      ∧ r.2.mem ((c.tc : Thread Cert.AdamInEven.nD Cert.AdamInEven.τ).loc Cert.AdamInEven.main_arg2) = m ((c.tc : Thread Cert.AdamInEven.nD Cert.AdamInEven.τ).loc Cert.AdamInEven.main_arg2)
      ∧ r.2.mem ((c.tc : Thread Cert.AdamInEven.nD Cert.AdamInEven.τ).loc Cert.AdamInEven.main_arg3) = m ((c.tc : Thread Cert.AdamInEven.nD Cert.AdamInEven.τ).loc Cert.AdamInEven.main_arg3))
      ∧ r.2.sem = fun _ => 0)

def quiescent_AdamInEvenIdeal [hAdamInEvenIdeal : Cert.AdamInEvenIdeal.Facts] : Prop :=
  ∀ (m : (ℓ : Loc Cert.AdamInEvenIdeal.nD Cert.AdamInEvenIdeal.τ Cert.AdamInEvenIdeal.sig) → Buf (Elt Ideal) ℓ) (g : Dev Cert.AdamInEvenIdeal.nD → PrngReg), Pre_AdamInEvenIdeal m →
    θ_run (Cert.AdamInEvenIdeal.defs (F := Ideal)) (onTc (τ := Cert.AdamInEvenIdeal.τ) (Cert.AdamInEvenIdeal.main (F := Ideal))) ⟨m, fun _ => 0, g⟩ (fun r => (∀ c : Dev Cert.AdamInEvenIdeal.nD,
      r.2.mem ((c.tc : Thread Cert.AdamInEvenIdeal.nD Cert.AdamInEvenIdeal.τ).loc Cert.AdamInEvenIdeal.main_arg0) = m ((c.tc : Thread Cert.AdamInEvenIdeal.nD Cert.AdamInEvenIdeal.τ).loc Cert.AdamInEvenIdeal.main_arg0)
      ∧ r.2.mem ((c.tc : Thread Cert.AdamInEvenIdeal.nD Cert.AdamInEvenIdeal.τ).loc Cert.AdamInEvenIdeal.main_arg1) = m ((c.tc : Thread Cert.AdamInEvenIdeal.nD Cert.AdamInEvenIdeal.τ).loc Cert.AdamInEvenIdeal.main_arg1)
      ∧ r.2.mem ((c.tc : Thread Cert.AdamInEvenIdeal.nD Cert.AdamInEvenIdeal.τ).loc Cert.AdamInEvenIdeal.main_arg2) = m ((c.tc : Thread Cert.AdamInEvenIdeal.nD Cert.AdamInEvenIdeal.τ).loc Cert.AdamInEvenIdeal.main_arg2)
      ∧ r.2.mem ((c.tc : Thread Cert.AdamInEvenIdeal.nD Cert.AdamInEvenIdeal.τ).loc Cert.AdamInEvenIdeal.main_arg3) = m ((c.tc : Thread Cert.AdamInEvenIdeal.nD Cert.AdamInEvenIdeal.τ).loc Cert.AdamInEvenIdeal.main_arg3))
      ∧ r.2.sem = fun _ => 0)

def quiescent_AdamInEvenRefIdeal [hAdamInEvenRefIdeal : Cert.AdamInEvenRefIdeal.Facts] : Prop :=
  ∀ (m : (ℓ : Loc Cert.AdamInEvenRefIdeal.nD Cert.AdamInEvenRefIdeal.τ Cert.AdamInEvenRefIdeal.sig) → Buf (Elt Ideal) ℓ) (g : Dev Cert.AdamInEvenRefIdeal.nD → PrngReg), Pre_AdamInEvenRefIdeal m →
    θ_run (Cert.AdamInEvenRefIdeal.defs (F := Ideal)) (onTc (τ := Cert.AdamInEvenRefIdeal.τ) (Cert.AdamInEvenRefIdeal.main (F := Ideal))) ⟨m, fun _ => 0, g⟩ (fun r => (∀ c : Dev Cert.AdamInEvenRefIdeal.nD,
      r.2.mem ((c.tc : Thread Cert.AdamInEvenRefIdeal.nD Cert.AdamInEvenRefIdeal.τ).loc Cert.AdamInEvenRefIdeal.main_arg0) = m ((c.tc : Thread Cert.AdamInEvenRefIdeal.nD Cert.AdamInEvenRefIdeal.τ).loc Cert.AdamInEvenRefIdeal.main_arg0)
      ∧ r.2.mem ((c.tc : Thread Cert.AdamInEvenRefIdeal.nD Cert.AdamInEvenRefIdeal.τ).loc Cert.AdamInEvenRefIdeal.main_arg1) = m ((c.tc : Thread Cert.AdamInEvenRefIdeal.nD Cert.AdamInEvenRefIdeal.τ).loc Cert.AdamInEvenRefIdeal.main_arg1)
      ∧ r.2.mem ((c.tc : Thread Cert.AdamInEvenRefIdeal.nD Cert.AdamInEvenRefIdeal.τ).loc Cert.AdamInEvenRefIdeal.main_arg2) = m ((c.tc : Thread Cert.AdamInEvenRefIdeal.nD Cert.AdamInEvenRefIdeal.τ).loc Cert.AdamInEvenRefIdeal.main_arg2)
      ∧ r.2.mem ((c.tc : Thread Cert.AdamInEvenRefIdeal.nD Cert.AdamInEvenRefIdeal.τ).loc Cert.AdamInEvenRefIdeal.main_arg3) = m ((c.tc : Thread Cert.AdamInEvenRefIdeal.nD Cert.AdamInEvenRefIdeal.τ).loc Cert.AdamInEvenRefIdeal.main_arg3))
      ∧ r.2.sem = fun _ => 0)

def quiescent_AdamInOdd [hAdamInOdd : Cert.AdamInOdd.Facts] : Prop :=
  ∀ (m : (ℓ : Loc Cert.AdamInOdd.nD Cert.AdamInOdd.τ Cert.AdamInOdd.sig) → Buf (Elt Bits) ℓ) (g : Dev Cert.AdamInOdd.nD → PrngReg), Pre_AdamInOdd m →
    θ_run (Cert.AdamInOdd.defs (F := Bits)) (onTc (τ := Cert.AdamInOdd.τ) (Cert.AdamInOdd.main (F := Bits))) ⟨m, fun _ => 0, g⟩ (fun r => (∀ c : Dev Cert.AdamInOdd.nD,
      r.2.mem ((c.tc : Thread Cert.AdamInOdd.nD Cert.AdamInOdd.τ).loc Cert.AdamInOdd.main_arg0) = m ((c.tc : Thread Cert.AdamInOdd.nD Cert.AdamInOdd.τ).loc Cert.AdamInOdd.main_arg0)
      ∧ r.2.mem ((c.tc : Thread Cert.AdamInOdd.nD Cert.AdamInOdd.τ).loc Cert.AdamInOdd.main_arg1) = m ((c.tc : Thread Cert.AdamInOdd.nD Cert.AdamInOdd.τ).loc Cert.AdamInOdd.main_arg1)
      ∧ r.2.mem ((c.tc : Thread Cert.AdamInOdd.nD Cert.AdamInOdd.τ).loc Cert.AdamInOdd.main_arg2) = m ((c.tc : Thread Cert.AdamInOdd.nD Cert.AdamInOdd.τ).loc Cert.AdamInOdd.main_arg2)
      ∧ r.2.mem ((c.tc : Thread Cert.AdamInOdd.nD Cert.AdamInOdd.τ).loc Cert.AdamInOdd.main_arg3) = m ((c.tc : Thread Cert.AdamInOdd.nD Cert.AdamInOdd.τ).loc Cert.AdamInOdd.main_arg3))
      ∧ r.2.sem = fun _ => 0)

def quiescent_AdamInOddIdeal [hAdamInOddIdeal : Cert.AdamInOddIdeal.Facts] : Prop :=
  ∀ (m : (ℓ : Loc Cert.AdamInOddIdeal.nD Cert.AdamInOddIdeal.τ Cert.AdamInOddIdeal.sig) → Buf (Elt Ideal) ℓ) (g : Dev Cert.AdamInOddIdeal.nD → PrngReg), Pre_AdamInOddIdeal m →
    θ_run (Cert.AdamInOddIdeal.defs (F := Ideal)) (onTc (τ := Cert.AdamInOddIdeal.τ) (Cert.AdamInOddIdeal.main (F := Ideal))) ⟨m, fun _ => 0, g⟩ (fun r => (∀ c : Dev Cert.AdamInOddIdeal.nD,
      r.2.mem ((c.tc : Thread Cert.AdamInOddIdeal.nD Cert.AdamInOddIdeal.τ).loc Cert.AdamInOddIdeal.main_arg0) = m ((c.tc : Thread Cert.AdamInOddIdeal.nD Cert.AdamInOddIdeal.τ).loc Cert.AdamInOddIdeal.main_arg0)
      ∧ r.2.mem ((c.tc : Thread Cert.AdamInOddIdeal.nD Cert.AdamInOddIdeal.τ).loc Cert.AdamInOddIdeal.main_arg1) = m ((c.tc : Thread Cert.AdamInOddIdeal.nD Cert.AdamInOddIdeal.τ).loc Cert.AdamInOddIdeal.main_arg1)
      ∧ r.2.mem ((c.tc : Thread Cert.AdamInOddIdeal.nD Cert.AdamInOddIdeal.τ).loc Cert.AdamInOddIdeal.main_arg2) = m ((c.tc : Thread Cert.AdamInOddIdeal.nD Cert.AdamInOddIdeal.τ).loc Cert.AdamInOddIdeal.main_arg2)
      ∧ r.2.mem ((c.tc : Thread Cert.AdamInOddIdeal.nD Cert.AdamInOddIdeal.τ).loc Cert.AdamInOddIdeal.main_arg3) = m ((c.tc : Thread Cert.AdamInOddIdeal.nD Cert.AdamInOddIdeal.τ).loc Cert.AdamInOddIdeal.main_arg3))
      ∧ r.2.sem = fun _ => 0)

def quiescent_AdamInOddRefIdeal [hAdamInOddRefIdeal : Cert.AdamInOddRefIdeal.Facts] : Prop :=
  ∀ (m : (ℓ : Loc Cert.AdamInOddRefIdeal.nD Cert.AdamInOddRefIdeal.τ Cert.AdamInOddRefIdeal.sig) → Buf (Elt Ideal) ℓ) (g : Dev Cert.AdamInOddRefIdeal.nD → PrngReg), Pre_AdamInOddRefIdeal m →
    θ_run (Cert.AdamInOddRefIdeal.defs (F := Ideal)) (onTc (τ := Cert.AdamInOddRefIdeal.τ) (Cert.AdamInOddRefIdeal.main (F := Ideal))) ⟨m, fun _ => 0, g⟩ (fun r => (∀ c : Dev Cert.AdamInOddRefIdeal.nD,
      r.2.mem ((c.tc : Thread Cert.AdamInOddRefIdeal.nD Cert.AdamInOddRefIdeal.τ).loc Cert.AdamInOddRefIdeal.main_arg0) = m ((c.tc : Thread Cert.AdamInOddRefIdeal.nD Cert.AdamInOddRefIdeal.τ).loc Cert.AdamInOddRefIdeal.main_arg0)
      ∧ r.2.mem ((c.tc : Thread Cert.AdamInOddRefIdeal.nD Cert.AdamInOddRefIdeal.τ).loc Cert.AdamInOddRefIdeal.main_arg1) = m ((c.tc : Thread Cert.AdamInOddRefIdeal.nD Cert.AdamInOddRefIdeal.τ).loc Cert.AdamInOddRefIdeal.main_arg1)
      ∧ r.2.mem ((c.tc : Thread Cert.AdamInOddRefIdeal.nD Cert.AdamInOddRefIdeal.τ).loc Cert.AdamInOddRefIdeal.main_arg2) = m ((c.tc : Thread Cert.AdamInOddRefIdeal.nD Cert.AdamInOddRefIdeal.τ).loc Cert.AdamInOddRefIdeal.main_arg2)
      ∧ r.2.mem ((c.tc : Thread Cert.AdamInOddRefIdeal.nD Cert.AdamInOddRefIdeal.τ).loc Cert.AdamInOddRefIdeal.main_arg3) = m ((c.tc : Thread Cert.AdamInOddRefIdeal.nD Cert.AdamInOddRefIdeal.τ).loc Cert.AdamInOddRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamPw [hAdamPw : Cert.AdamPw.Facts] : Prop :=
  ∀ (m : (ℓ : Loc Cert.AdamPw.nD Cert.AdamPw.τ Cert.AdamPw.sig) → Buf (Elt Bits) ℓ) (g : Dev Cert.AdamPw.nD → PrngReg), Pre_AdamPw m →
    θ_run (Cert.AdamPw.defs (F := Bits)) (onTc (τ := Cert.AdamPw.τ) (Cert.AdamPw.main (F := Bits))) ⟨m, fun _ => 0, g⟩ (fun r => (∀ c : Dev Cert.AdamPw.nD,
      r.2.mem ((c.tc : Thread Cert.AdamPw.nD Cert.AdamPw.τ).loc Cert.AdamPw.main_arg0) = m ((c.tc : Thread Cert.AdamPw.nD Cert.AdamPw.τ).loc Cert.AdamPw.main_arg0)
      ∧ r.2.mem ((c.tc : Thread Cert.AdamPw.nD Cert.AdamPw.τ).loc Cert.AdamPw.main_arg1) = m ((c.tc : Thread Cert.AdamPw.nD Cert.AdamPw.τ).loc Cert.AdamPw.main_arg1)
      ∧ r.2.mem ((c.tc : Thread Cert.AdamPw.nD Cert.AdamPw.τ).loc Cert.AdamPw.main_arg2) = m ((c.tc : Thread Cert.AdamPw.nD Cert.AdamPw.τ).loc Cert.AdamPw.main_arg2)
      ∧ r.2.mem ((c.tc : Thread Cert.AdamPw.nD Cert.AdamPw.τ).loc Cert.AdamPw.main_arg3) = m ((c.tc : Thread Cert.AdamPw.nD Cert.AdamPw.τ).loc Cert.AdamPw.main_arg3))
      ∧ r.2.sem = fun _ => 0)

def quiescent_AdamPwIdeal [hAdamPwIdeal : Cert.AdamPwIdeal.Facts] : Prop :=
  ∀ (m : (ℓ : Loc Cert.AdamPwIdeal.nD Cert.AdamPwIdeal.τ Cert.AdamPwIdeal.sig) → Buf (Elt Ideal) ℓ) (g : Dev Cert.AdamPwIdeal.nD → PrngReg), Pre_AdamPwIdeal m →
    θ_run (Cert.AdamPwIdeal.defs (F := Ideal)) (onTc (τ := Cert.AdamPwIdeal.τ) (Cert.AdamPwIdeal.main (F := Ideal))) ⟨m, fun _ => 0, g⟩ (fun r => (∀ c : Dev Cert.AdamPwIdeal.nD,
      r.2.mem ((c.tc : Thread Cert.AdamPwIdeal.nD Cert.AdamPwIdeal.τ).loc Cert.AdamPwIdeal.main_arg0) = m ((c.tc : Thread Cert.AdamPwIdeal.nD Cert.AdamPwIdeal.τ).loc Cert.AdamPwIdeal.main_arg0)
      ∧ r.2.mem ((c.tc : Thread Cert.AdamPwIdeal.nD Cert.AdamPwIdeal.τ).loc Cert.AdamPwIdeal.main_arg1) = m ((c.tc : Thread Cert.AdamPwIdeal.nD Cert.AdamPwIdeal.τ).loc Cert.AdamPwIdeal.main_arg1)
      ∧ r.2.mem ((c.tc : Thread Cert.AdamPwIdeal.nD Cert.AdamPwIdeal.τ).loc Cert.AdamPwIdeal.main_arg2) = m ((c.tc : Thread Cert.AdamPwIdeal.nD Cert.AdamPwIdeal.τ).loc Cert.AdamPwIdeal.main_arg2)
      ∧ r.2.mem ((c.tc : Thread Cert.AdamPwIdeal.nD Cert.AdamPwIdeal.τ).loc Cert.AdamPwIdeal.main_arg3) = m ((c.tc : Thread Cert.AdamPwIdeal.nD Cert.AdamPwIdeal.τ).loc Cert.AdamPwIdeal.main_arg3))
      ∧ r.2.sem = fun _ => 0)

def quiescent_AdamPwRefIdeal [hAdamPwRefIdeal : Cert.AdamPwRefIdeal.Facts] : Prop :=
  ∀ (m : (ℓ : Loc Cert.AdamPwRefIdeal.nD Cert.AdamPwRefIdeal.τ Cert.AdamPwRefIdeal.sig) → Buf (Elt Ideal) ℓ) (g : Dev Cert.AdamPwRefIdeal.nD → PrngReg), Pre_AdamPwRefIdeal m →
    θ_run (Cert.AdamPwRefIdeal.defs (F := Ideal)) (onTc (τ := Cert.AdamPwRefIdeal.τ) (Cert.AdamPwRefIdeal.main (F := Ideal))) ⟨m, fun _ => 0, g⟩ (fun r => (∀ c : Dev Cert.AdamPwRefIdeal.nD,
      r.2.mem ((c.tc : Thread Cert.AdamPwRefIdeal.nD Cert.AdamPwRefIdeal.τ).loc Cert.AdamPwRefIdeal.main_arg0) = m ((c.tc : Thread Cert.AdamPwRefIdeal.nD Cert.AdamPwRefIdeal.τ).loc Cert.AdamPwRefIdeal.main_arg0)
      ∧ r.2.mem ((c.tc : Thread Cert.AdamPwRefIdeal.nD Cert.AdamPwRefIdeal.τ).loc Cert.AdamPwRefIdeal.main_arg1) = m ((c.tc : Thread Cert.AdamPwRefIdeal.nD Cert.AdamPwRefIdeal.τ).loc Cert.AdamPwRefIdeal.main_arg1)
      ∧ r.2.mem ((c.tc : Thread Cert.AdamPwRefIdeal.nD Cert.AdamPwRefIdeal.τ).loc Cert.AdamPwRefIdeal.main_arg2) = m ((c.tc : Thread Cert.AdamPwRefIdeal.nD Cert.AdamPwRefIdeal.τ).loc Cert.AdamPwRefIdeal.main_arg2)
      ∧ r.2.mem ((c.tc : Thread Cert.AdamPwRefIdeal.nD Cert.AdamPwRefIdeal.τ).loc Cert.AdamPwRefIdeal.main_arg3) = m ((c.tc : Thread Cert.AdamPwRefIdeal.nD Cert.AdamPwRefIdeal.τ).loc Cert.AdamPwRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39)
      ∧ r.2.mem ((c.tc : Thread Cert.AdamSmall.nD Cert.AdamSmall.τ).loc Cert.AdamSmall.main_arg40) = m ((c.tc : Thread Cert.AdamSmall.nD Cert.AdamSmall.τ).loc Cert.AdamSmall.main_arg40)
      ∧ r.2.mem ((c.tc : Thread Cert.AdamSmall.nD Cert.AdamSmall.τ).loc Cert.AdamSmall.main_arg41) = m ((c.tc : Thread Cert.AdamSmall.nD Cert.AdamSmall.τ).loc Cert.AdamSmall.main_arg41)
      ∧ r.2.mem ((c.tc : Thread Cert.AdamSmall.nD Cert.AdamSmall.τ).loc Cert.AdamSmall.main_arg42) = m ((c.tc : Thread Cert.AdamSmall.nD Cert.AdamSmall.τ).loc Cert.AdamSmall.main_arg42)
      ∧ r.2.mem ((c.tc : Thread Cert.AdamSmall.nD Cert.AdamSmall.τ).loc Cert.AdamSmall.main_arg43) = m ((c.tc : Thread Cert.AdamSmall.nD Cert.AdamSmall.τ).loc Cert.AdamSmall.main_arg43)
      ∧ r.2.mem ((c.tc : Thread Cert.AdamSmall.nD Cert.AdamSmall.τ).loc Cert.AdamSmall.main_arg44) = m ((c.tc : Thread Cert.AdamSmall.nD Cert.AdamSmall.τ).loc Cert.AdamSmall.main_arg44)
      ∧ r.2.mem ((c.tc : Thread Cert.AdamSmall.nD Cert.AdamSmall.τ).loc Cert.AdamSmall.main_arg45) = m ((c.tc : Thread Cert.AdamSmall.nD Cert.AdamSmall.τ).loc Cert.AdamSmall.main_arg45)
      ∧ r.2.mem ((c.tc : Thread Cert.AdamSmall.nD Cert.AdamSmall.τ).loc Cert.AdamSmall.main_arg46) = m ((c.tc : Thread Cert.AdamSmall.nD Cert.AdamSmall.τ).loc Cert.AdamSmall.main_arg46)
      ∧ r.2.mem ((c.tc : Thread Cert.AdamSmall.nD Cert.AdamSmall.τ).loc Cert.AdamSmall.main_arg47) = m ((c.tc : Thread Cert.AdamSmall.nD Cert.AdamSmall.τ).loc Cert.AdamSmall.main_arg47)
      ∧ r.2.mem ((c.tc : Thread Cert.AdamSmall.nD Cert.AdamSmall.τ).loc Cert.AdamSmall.main_arg48) = m ((c.tc : Thread Cert.AdamSmall.nD Cert.AdamSmall.τ).loc Cert.AdamSmall.main_arg48)
      ∧ r.2.mem ((c.tc : Thread Cert.AdamSmall.nD Cert.AdamSmall.τ).loc Cert.AdamSmall.main_arg49) = m ((c.tc : Thread Cert.AdamSmall.nD Cert.AdamSmall.τ).loc Cert.AdamSmall.main_arg49)
      ∧ r.2.mem ((c.tc : Thread Cert.AdamSmall.nD Cert.AdamSmall.τ).loc Cert.AdamSmall.main_arg50) = m ((c.tc : Thread Cert.AdamSmall.nD Cert.AdamSmall.τ).loc Cert.AdamSmall.main_arg50)
      ∧ r.2.mem ((c.tc : Thread Cert.AdamSmall.nD Cert.AdamSmall.τ).loc Cert.AdamSmall.main_arg51) = m ((c.tc : Thread Cert.AdamSmall.nD Cert.AdamSmall.τ).loc Cert.AdamSmall.main_arg51)
      ∧ r.2.mem ((c.tc : Thread Cert.AdamSmall.nD Cert.AdamSmall.τ).loc Cert.AdamSmall.main_arg52) = m ((c.tc : Thread Cert.AdamSmall.nD Cert.AdamSmall.τ).loc Cert.AdamSmall.main_arg52)
      ∧ r.2.mem ((c.tc : Thread Cert.AdamSmall.nD Cert.AdamSmall.τ).loc Cert.AdamSmall.main_arg53) = m ((c.tc : Thread Cert.AdamSmall.nD Cert.AdamSmall.τ).loc Cert.AdamSmall.main_arg53)
      ∧ r.2.mem ((c.tc : Thread Cert.AdamSmall.nD Cert.AdamSmall.τ).loc Cert.AdamSmall.main_arg54) = m ((c.tc : Thread Cert.AdamSmall.nD Cert.AdamSmall.τ).loc Cert.AdamSmall.main_arg54)
      ∧ r.2.mem ((c.tc : Thread Cert.AdamSmall.nD Cert.AdamSmall.τ).loc Cert.AdamSmall.main_arg55) = m ((c.tc : Thread Cert.AdamSmall.nD Cert.AdamSmall.τ).loc Cert.AdamSmall.main_arg55)
      ∧ r.2.mem ((c.tc : Thread Cert.AdamSmall.nD Cert.AdamSmall.τ).loc Cert.AdamSmall.main_arg56) = m ((c.tc : Thread Cert.AdamSmall.nD Cert.AdamSmall.τ).loc Cert.AdamSmall.main_arg56)
      ∧ r.2.mem ((c.tc : Thread Cert.AdamSmall.nD Cert.AdamSmall.τ).loc Cert.AdamSmall.main_arg57) = m ((c.tc : Thread Cert.AdamSmall.nD Cert.AdamSmall.τ).loc Cert.AdamSmall.main_arg57)
      ∧ r.2.mem ((c.tc : Thread Cert.AdamSmall.nD Cert.AdamSmall.τ).loc Cert.AdamSmall.main_arg58) = m ((c.tc : Thread Cert.AdamSmall.nD Cert.AdamSmall.τ).loc Cert.AdamSmall.main_arg58)
      ∧ r.2.mem ((c.tc : Thread Cert.AdamSmall.nD Cert.AdamSmall.τ).loc Cert.AdamSmall.main_arg59) = m ((c.tc : Thread Cert.AdamSmall.nD Cert.AdamSmall.τ).loc Cert.AdamSmall.main_arg59)
      ∧ r.2.mem ((c.tc : Thread Cert.AdamSmall.nD Cert.AdamSmall.τ).loc Cert.AdamSmall.main_arg60) = m ((c.tc : Thread Cert.AdamSmall.nD Cert.AdamSmall.τ).loc Cert.AdamSmall.main_arg60))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
      ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
      ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
      ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
      ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
      ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
      ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
      ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
      ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
      ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
      ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
      ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
      ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51)
      ∧ r.2.mem ((c.tc : Thread Cert.AdamSmallIdeal.nD Cert.AdamSmallIdeal.τ).loc Cert.AdamSmallIdeal.main_arg52) = m ((c.tc : Thread Cert.AdamSmallIdeal.nD Cert.AdamSmallIdeal.τ).loc Cert.AdamSmallIdeal.main_arg52)
      ∧ r.2.mem ((c.tc : Thread Cert.AdamSmallIdeal.nD Cert.AdamSmallIdeal.τ).loc Cert.AdamSmallIdeal.main_arg53) = m ((c.tc : Thread Cert.AdamSmallIdeal.nD Cert.AdamSmallIdeal.τ).loc Cert.AdamSmallIdeal.main_arg53)
      ∧ r.2.mem ((c.tc : Thread Cert.AdamSmallIdeal.nD Cert.AdamSmallIdeal.τ).loc Cert.AdamSmallIdeal.main_arg54) = m ((c.tc : Thread Cert.AdamSmallIdeal.nD Cert.AdamSmallIdeal.τ).loc Cert.AdamSmallIdeal.main_arg54)
      ∧ r.2.mem ((c.tc : Thread Cert.AdamSmallIdeal.nD Cert.AdamSmallIdeal.τ).loc Cert.AdamSmallIdeal.main_arg55) = m ((c.tc : Thread Cert.AdamSmallIdeal.nD Cert.AdamSmallIdeal.τ).loc Cert.AdamSmallIdeal.main_arg55)
      ∧ r.2.mem ((c.tc : Thread Cert.AdamSmallIdeal.nD Cert.AdamSmallIdeal.τ).loc Cert.AdamSmallIdeal.main_arg56) = m ((c.tc : Thread Cert.AdamSmallIdeal.nD Cert.AdamSmallIdeal.τ).loc Cert.AdamSmallIdeal.main_arg56)
      ∧ r.2.mem ((c.tc : Thread Cert.AdamSmallIdeal.nD Cert.AdamSmallIdeal.τ).loc Cert.AdamSmallIdeal.main_arg57) = m ((c.tc : Thread Cert.AdamSmallIdeal.nD Cert.AdamSmallIdeal.τ).loc Cert.AdamSmallIdeal.main_arg57)
      ∧ r.2.mem ((c.tc : Thread Cert.AdamSmallIdeal.nD Cert.AdamSmallIdeal.τ).loc Cert.AdamSmallIdeal.main_arg58) = m ((c.tc : Thread Cert.AdamSmallIdeal.nD Cert.AdamSmallIdeal.τ).loc Cert.AdamSmallIdeal.main_arg58)
      ∧ r.2.mem ((c.tc : Thread Cert.AdamSmallIdeal.nD Cert.AdamSmallIdeal.τ).loc Cert.AdamSmallIdeal.main_arg59) = m ((c.tc : Thread Cert.AdamSmallIdeal.nD Cert.AdamSmallIdeal.τ).loc Cert.AdamSmallIdeal.main_arg59)
      ∧ r.2.mem ((c.tc : Thread Cert.AdamSmallIdeal.nD Cert.AdamSmallIdeal.τ).loc Cert.AdamSmallIdeal.main_arg60) = m ((c.tc : Thread Cert.AdamSmallIdeal.nD Cert.AdamSmallIdeal.τ).loc Cert.AdamSmallIdeal.main_arg60))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39)
      ∧ r.2.mem ((c.tc : Thread Cert.AdamSmallRefIdeal.nD Cert.AdamSmallRefIdeal.τ).loc Cert.AdamSmallRefIdeal.main_arg40) = m ((c.tc : Thread Cert.AdamSmallRefIdeal.nD Cert.AdamSmallRefIdeal.τ).loc Cert.AdamSmallRefIdeal.main_arg40)
      ∧ r.2.mem ((c.tc : Thread Cert.AdamSmallRefIdeal.nD Cert.AdamSmallRefIdeal.τ).loc Cert.AdamSmallRefIdeal.main_arg41) = m ((c.tc : Thread Cert.AdamSmallRefIdeal.nD Cert.AdamSmallRefIdeal.τ).loc Cert.AdamSmallRefIdeal.main_arg41)
      ∧ r.2.mem ((c.tc : Thread Cert.AdamSmallRefIdeal.nD Cert.AdamSmallRefIdeal.τ).loc Cert.AdamSmallRefIdeal.main_arg42) = m ((c.tc : Thread Cert.AdamSmallRefIdeal.nD Cert.AdamSmallRefIdeal.τ).loc Cert.AdamSmallRefIdeal.main_arg42)
      ∧ r.2.mem ((c.tc : Thread Cert.AdamSmallRefIdeal.nD Cert.AdamSmallRefIdeal.τ).loc Cert.AdamSmallRefIdeal.main_arg43) = m ((c.tc : Thread Cert.AdamSmallRefIdeal.nD Cert.AdamSmallRefIdeal.τ).loc Cert.AdamSmallRefIdeal.main_arg43)
      ∧ r.2.mem ((c.tc : Thread Cert.AdamSmallRefIdeal.nD Cert.AdamSmallRefIdeal.τ).loc Cert.AdamSmallRefIdeal.main_arg44) = m ((c.tc : Thread Cert.AdamSmallRefIdeal.nD Cert.AdamSmallRefIdeal.τ).loc Cert.AdamSmallRefIdeal.main_arg44)
      ∧ r.2.mem ((c.tc : Thread Cert.AdamSmallRefIdeal.nD Cert.AdamSmallRefIdeal.τ).loc Cert.AdamSmallRefIdeal.main_arg45) = m ((c.tc : Thread Cert.AdamSmallRefIdeal.nD Cert.AdamSmallRefIdeal.τ).loc Cert.AdamSmallRefIdeal.main_arg45)
      ∧ r.2.mem ((c.tc : Thread Cert.AdamSmallRefIdeal.nD Cert.AdamSmallRefIdeal.τ).loc Cert.AdamSmallRefIdeal.main_arg46) = m ((c.tc : Thread Cert.AdamSmallRefIdeal.nD Cert.AdamSmallRefIdeal.τ).loc Cert.AdamSmallRefIdeal.main_arg46)
      ∧ r.2.mem ((c.tc : Thread Cert.AdamSmallRefIdeal.nD Cert.AdamSmallRefIdeal.τ).loc Cert.AdamSmallRefIdeal.main_arg47) = m ((c.tc : Thread Cert.AdamSmallRefIdeal.nD Cert.AdamSmallRefIdeal.τ).loc Cert.AdamSmallRefIdeal.main_arg47)
      ∧ r.2.mem ((c.tc : Thread Cert.AdamSmallRefIdeal.nD Cert.AdamSmallRefIdeal.τ).loc Cert.AdamSmallRefIdeal.main_arg48) = m ((c.tc : Thread Cert.AdamSmallRefIdeal.nD Cert.AdamSmallRefIdeal.τ).loc Cert.AdamSmallRefIdeal.main_arg48)
      ∧ r.2.mem ((c.tc : Thread Cert.AdamSmallRefIdeal.nD Cert.AdamSmallRefIdeal.τ).loc Cert.AdamSmallRefIdeal.main_arg49) = m ((c.tc : Thread Cert.AdamSmallRefIdeal.nD Cert.AdamSmallRefIdeal.τ).loc Cert.AdamSmallRefIdeal.main_arg49)
      ∧ r.2.mem ((c.tc : Thread Cert.AdamSmallRefIdeal.nD Cert.AdamSmallRefIdeal.τ).loc Cert.AdamSmallRefIdeal.main_arg50) = m ((c.tc : Thread Cert.AdamSmallRefIdeal.nD Cert.AdamSmallRefIdeal.τ).loc Cert.AdamSmallRefIdeal.main_arg50)
      ∧ r.2.mem ((c.tc : Thread Cert.AdamSmallRefIdeal.nD Cert.AdamSmallRefIdeal.τ).loc Cert.AdamSmallRefIdeal.main_arg51) = m ((c.tc : Thread Cert.AdamSmallRefIdeal.nD Cert.AdamSmallRefIdeal.τ).loc Cert.AdamSmallRefIdeal.main_arg51)
      ∧ r.2.mem ((c.tc : Thread Cert.AdamSmallRefIdeal.nD Cert.AdamSmallRefIdeal.τ).loc Cert.AdamSmallRefIdeal.main_arg52) = m ((c.tc : Thread Cert.AdamSmallRefIdeal.nD Cert.AdamSmallRefIdeal.τ).loc Cert.AdamSmallRefIdeal.main_arg52)
      ∧ r.2.mem ((c.tc : Thread Cert.AdamSmallRefIdeal.nD Cert.AdamSmallRefIdeal.τ).loc Cert.AdamSmallRefIdeal.main_arg53) = m ((c.tc : Thread Cert.AdamSmallRefIdeal.nD Cert.AdamSmallRefIdeal.τ).loc Cert.AdamSmallRefIdeal.main_arg53)
      ∧ r.2.mem ((c.tc : Thread Cert.AdamSmallRefIdeal.nD Cert.AdamSmallRefIdeal.τ).loc Cert.AdamSmallRefIdeal.main_arg54) = m ((c.tc : Thread Cert.AdamSmallRefIdeal.nD Cert.AdamSmallRefIdeal.τ).loc Cert.AdamSmallRefIdeal.main_arg54)
      ∧ r.2.mem ((c.tc : Thread Cert.AdamSmallRefIdeal.nD Cert.AdamSmallRefIdeal.τ).loc Cert.AdamSmallRefIdeal.main_arg55) = m ((c.tc : Thread Cert.AdamSmallRefIdeal.nD Cert.AdamSmallRefIdeal.τ).loc Cert.AdamSmallRefIdeal.main_arg55)
      ∧ r.2.mem ((c.tc : Thread Cert.AdamSmallRefIdeal.nD Cert.AdamSmallRefIdeal.τ).loc Cert.AdamSmallRefIdeal.main_arg56) = m ((c.tc : Thread Cert.AdamSmallRefIdeal.nD Cert.AdamSmallRefIdeal.τ).loc Cert.AdamSmallRefIdeal.main_arg56)
      ∧ r.2.mem ((c.tc : Thread Cert.AdamSmallRefIdeal.nD Cert.AdamSmallRefIdeal.τ).loc Cert.AdamSmallRefIdeal.main_arg57) = m ((c.tc : Thread Cert.AdamSmallRefIdeal.nD Cert.AdamSmallRefIdeal.τ).loc Cert.AdamSmallRefIdeal.main_arg57)
      ∧ r.2.mem ((c.tc : Thread Cert.AdamSmallRefIdeal.nD Cert.AdamSmallRefIdeal.τ).loc Cert.AdamSmallRefIdeal.main_arg58) = m ((c.tc : Thread Cert.AdamSmallRefIdeal.nD Cert.AdamSmallRefIdeal.τ).loc Cert.AdamSmallRefIdeal.main_arg58)
      ∧ r.2.mem ((c.tc : Thread Cert.AdamSmallRefIdeal.nD Cert.AdamSmallRefIdeal.τ).loc Cert.AdamSmallRefIdeal.main_arg59) = m ((c.tc : Thread Cert.AdamSmallRefIdeal.nD Cert.AdamSmallRefIdeal.τ).loc Cert.AdamSmallRefIdeal.main_arg59)
      ∧ r.2.mem ((c.tc : Thread Cert.AdamSmallRefIdeal.nD Cert.AdamSmallRefIdeal.τ).loc Cert.AdamSmallRefIdeal.main_arg60) = m ((c.tc : Thread Cert.AdamSmallRefIdeal.nD Cert.AdamSmallRefIdeal.τ).loc Cert.AdamSmallRefIdeal.main_arg60))
      ∧ r.2.sem = fun _ => 0)

def preserves_DxEven_DxEvenIdeal : Prop :=
  True

def algebraic_DxEvenIdeal_DxEvenRefIdeal [hDxEvenIdeal : Cert.DxEvenIdeal.Facts] [hDxEvenRefIdeal : Cert.DxEvenRefIdeal.Facts] : Prop :=
  ∀ (m : (ℓ : Loc Cert.DxEvenIdeal.nD Cert.DxEvenIdeal.τ Cert.DxEvenIdeal.sig) → Buf (Elt Ideal) ℓ) (g : Dev Cert.DxEvenIdeal.nD → PrngReg)
    (m' : (ℓ : Loc Cert.DxEvenRefIdeal.nD Cert.DxEvenRefIdeal.τ Cert.DxEvenRefIdeal.sig) → Buf (Elt Ideal) ℓ) (g' : Dev Cert.DxEvenRefIdeal.nD → PrngReg), Pre_DxEvenIdeal m →
    (∀ c : Dev Cert.DxEvenIdeal.nD,
      m' ((c.tc : Thread Cert.DxEvenRefIdeal.nD Cert.DxEvenRefIdeal.τ).loc Cert.DxEvenRefIdeal.main_arg0) = m ((c.tc : Thread Cert.DxEvenIdeal.nD Cert.DxEvenIdeal.τ).loc Cert.DxEvenIdeal.main_arg0)
      ∧ m' ((c.tc : Thread Cert.DxEvenRefIdeal.nD Cert.DxEvenRefIdeal.τ).loc Cert.DxEvenRefIdeal.main_arg1) = m ((c.tc : Thread Cert.DxEvenIdeal.nD Cert.DxEvenIdeal.τ).loc Cert.DxEvenIdeal.main_arg1)
      ∧ m' ((c.tc : Thread Cert.DxEvenRefIdeal.nD Cert.DxEvenRefIdeal.τ).loc Cert.DxEvenRefIdeal.main_arg2) = m ((c.tc : Thread Cert.DxEvenIdeal.nD Cert.DxEvenIdeal.τ).loc Cert.DxEvenIdeal.main_arg2)
      ∧ m' ((c.tc : Thread Cert.DxEvenRefIdeal.nD Cert.DxEvenRefIdeal.τ).loc Cert.DxEvenRefIdeal.main_arg3) = m ((c.tc : Thread Cert.DxEvenIdeal.nD Cert.DxEvenIdeal.τ).loc Cert.DxEvenIdeal.main_arg3)
      ∧ m' ((c.tc : Thread Cert.DxEvenRefIdeal.nD Cert.DxEvenRefIdeal.τ).loc Cert.DxEvenRefIdeal.main_arg4) = m ((c.tc : Thread Cert.DxEvenIdeal.nD Cert.DxEvenIdeal.τ).loc Cert.DxEvenIdeal.main_arg4)) →
    ∃ (v0 : (c : Dev Cert.DxEvenIdeal.nD) → Buf (Elt Ideal) ((c.tc : Thread Cert.DxEvenIdeal.nD Cert.DxEvenIdeal.τ).loc Cert.DxEvenIdeal.main_v3_0)) (v1 : (c : Dev Cert.DxEvenIdeal.nD) → Buf (Elt Ideal) ((c.tc : Thread Cert.DxEvenIdeal.nD Cert.DxEvenIdeal.τ).loc Cert.DxEvenIdeal.main_v3_1)),
      θ_run (Cert.DxEvenIdeal.defs (F := Ideal)) (onTc (τ := Cert.DxEvenIdeal.τ) (Cert.DxEvenIdeal.main (F := Ideal))) ⟨m, fun _ => 0, g⟩ (fun r => ∀ c : Dev Cert.DxEvenIdeal.nD,
          r.2.mem ((c.tc : Thread Cert.DxEvenIdeal.nD Cert.DxEvenIdeal.τ).loc Cert.DxEvenIdeal.main_v3_0) = v0 c
          ∧ r.2.mem ((c.tc : Thread Cert.DxEvenIdeal.nD Cert.DxEvenIdeal.τ).loc Cert.DxEvenIdeal.main_v3_1) = v1 c
          ∧ r.2.mem ((c.tc : Thread Cert.DxEvenIdeal.nD Cert.DxEvenIdeal.τ).loc Cert.DxEvenIdeal.main_arg0) = m ((c.tc : Thread Cert.DxEvenIdeal.nD Cert.DxEvenIdeal.τ).loc Cert.DxEvenIdeal.main_arg0)
          ∧ r.2.mem ((c.tc : Thread Cert.DxEvenIdeal.nD Cert.DxEvenIdeal.τ).loc Cert.DxEvenIdeal.main_arg1) = m ((c.tc : Thread Cert.DxEvenIdeal.nD Cert.DxEvenIdeal.τ).loc Cert.DxEvenIdeal.main_arg1)
          ∧ r.2.mem ((c.tc : Thread Cert.DxEvenIdeal.nD Cert.DxEvenIdeal.τ).loc Cert.DxEvenIdeal.main_arg2) = m ((c.tc : Thread Cert.DxEvenIdeal.nD Cert.DxEvenIdeal.τ).loc Cert.DxEvenIdeal.main_arg2)
          ∧ r.2.mem ((c.tc : Thread Cert.DxEvenIdeal.nD Cert.DxEvenIdeal.τ).loc Cert.DxEvenIdeal.main_arg3) = m ((c.tc : Thread Cert.DxEvenIdeal.nD Cert.DxEvenIdeal.τ).loc Cert.DxEvenIdeal.main_arg3)
          ∧ r.2.mem ((c.tc : Thread Cert.DxEvenIdeal.nD Cert.DxEvenIdeal.τ).loc Cert.DxEvenIdeal.main_arg4) = m ((c.tc : Thread Cert.DxEvenIdeal.nD Cert.DxEvenIdeal.τ).loc Cert.DxEvenIdeal.main_arg4))
      ∧ θ_run (Cert.DxEvenRefIdeal.defs (F := Ideal)) (onTc (τ := Cert.DxEvenRefIdeal.τ) (Cert.DxEvenRefIdeal.main (F := Ideal))) ⟨m', fun _ => 0, g'⟩ (fun r => ∀ c : Dev Cert.DxEvenRefIdeal.nD,
          r.2.mem ((c.tc : Thread Cert.DxEvenRefIdeal.nD Cert.DxEvenRefIdeal.τ).loc Cert.DxEvenRefIdeal.main_v38) = v0 c
          ∧ r.2.mem ((c.tc : Thread Cert.DxEvenRefIdeal.nD Cert.DxEvenRefIdeal.τ).loc Cert.DxEvenRefIdeal.main_v21) = v1 c
          ∧ r.2.mem ((c.tc : Thread Cert.DxEvenRefIdeal.nD Cert.DxEvenRefIdeal.τ).loc Cert.DxEvenRefIdeal.main_arg0) = m' ((c.tc : Thread Cert.DxEvenRefIdeal.nD Cert.DxEvenRefIdeal.τ).loc Cert.DxEvenRefIdeal.main_arg0)
          ∧ r.2.mem ((c.tc : Thread Cert.DxEvenRefIdeal.nD Cert.DxEvenRefIdeal.τ).loc Cert.DxEvenRefIdeal.main_arg1) = m' ((c.tc : Thread Cert.DxEvenRefIdeal.nD Cert.DxEvenRefIdeal.τ).loc Cert.DxEvenRefIdeal.main_arg1)
          ∧ r.2.mem ((c.tc : Thread Cert.DxEvenRefIdeal.nD Cert.DxEvenRefIdeal.τ).loc Cert.DxEvenRefIdeal.main_arg2) = m' ((c.tc : Thread Cert.DxEvenRefIdeal.nD Cert.DxEvenRefIdeal.τ).loc Cert.DxEvenRefIdeal.main_arg2)
          ∧ r.2.mem ((c.tc : Thread Cert.DxEvenRefIdeal.nD Cert.DxEvenRefIdeal.τ).loc Cert.DxEvenRefIdeal.main_arg3) = m' ((c.tc : Thread Cert.DxEvenRefIdeal.nD Cert.DxEvenRefIdeal.τ).loc Cert.DxEvenRefIdeal.main_arg3)
          ∧ r.2.mem ((c.tc : Thread Cert.DxEvenRefIdeal.nD Cert.DxEvenRefIdeal.τ).loc Cert.DxEvenRefIdeal.main_arg4) = m' ((c.tc : Thread Cert.DxEvenRefIdeal.nD Cert.DxEvenRefIdeal.τ).loc Cert.DxEvenRefIdeal.main_arg4))

def preserves_DxOdd_DxOddIdeal : Prop :=
  True

def algebraic_DxOddIdeal_DxOddRefIdeal [hDxOddIdeal : Cert.DxOddIdeal.Facts] [hDxOddRefIdeal : Cert.DxOddRefIdeal.Facts] : Prop :=
  ∀ (m : (ℓ : Loc Cert.DxOddIdeal.nD Cert.DxOddIdeal.τ Cert.DxOddIdeal.sig) → Buf (Elt Ideal) ℓ) (g : Dev Cert.DxOddIdeal.nD → PrngReg)
    (m' : (ℓ : Loc Cert.DxOddRefIdeal.nD Cert.DxOddRefIdeal.τ Cert.DxOddRefIdeal.sig) → Buf (Elt Ideal) ℓ) (g' : Dev Cert.DxOddRefIdeal.nD → PrngReg), Pre_DxOddIdeal m →
    (∀ c : Dev Cert.DxOddIdeal.nD,
      m' ((c.tc : Thread Cert.DxOddRefIdeal.nD Cert.DxOddRefIdeal.τ).loc Cert.DxOddRefIdeal.main_arg0) = m ((c.tc : Thread Cert.DxOddIdeal.nD Cert.DxOddIdeal.τ).loc Cert.DxOddIdeal.main_arg0)
      ∧ m' ((c.tc : Thread Cert.DxOddRefIdeal.nD Cert.DxOddRefIdeal.τ).loc Cert.DxOddRefIdeal.main_arg1) = m ((c.tc : Thread Cert.DxOddIdeal.nD Cert.DxOddIdeal.τ).loc Cert.DxOddIdeal.main_arg1)
      ∧ m' ((c.tc : Thread Cert.DxOddRefIdeal.nD Cert.DxOddRefIdeal.τ).loc Cert.DxOddRefIdeal.main_arg2) = m ((c.tc : Thread Cert.DxOddIdeal.nD Cert.DxOddIdeal.τ).loc Cert.DxOddIdeal.main_arg2)
      ∧ m' ((c.tc : Thread Cert.DxOddRefIdeal.nD Cert.DxOddRefIdeal.τ).loc Cert.DxOddRefIdeal.main_arg3) = m ((c.tc : Thread Cert.DxOddIdeal.nD Cert.DxOddIdeal.τ).loc Cert.DxOddIdeal.main_arg3)
      ∧ m' ((c.tc : Thread Cert.DxOddRefIdeal.nD Cert.DxOddRefIdeal.τ).loc Cert.DxOddRefIdeal.main_arg4) = m ((c.tc : Thread Cert.DxOddIdeal.nD Cert.DxOddIdeal.τ).loc Cert.DxOddIdeal.main_arg4)) →
    ∃ (v0 : (c : Dev Cert.DxOddIdeal.nD) → Buf (Elt Ideal) ((c.tc : Thread Cert.DxOddIdeal.nD Cert.DxOddIdeal.τ).loc Cert.DxOddIdeal.main_v3_0)) (v1 : (c : Dev Cert.DxOddIdeal.nD) → Buf (Elt Ideal) ((c.tc : Thread Cert.DxOddIdeal.nD Cert.DxOddIdeal.τ).loc Cert.DxOddIdeal.main_v3_1)),
      θ_run (Cert.DxOddIdeal.defs (F := Ideal)) (onTc (τ := Cert.DxOddIdeal.τ) (Cert.DxOddIdeal.main (F := Ideal))) ⟨m, fun _ => 0, g⟩ (fun r => ∀ c : Dev Cert.DxOddIdeal.nD,
          r.2.mem ((c.tc : Thread Cert.DxOddIdeal.nD Cert.DxOddIdeal.τ).loc Cert.DxOddIdeal.main_v3_0) = v0 c
          ∧ r.2.mem ((c.tc : Thread Cert.DxOddIdeal.nD Cert.DxOddIdeal.τ).loc Cert.DxOddIdeal.main_v3_1) = v1 c
          ∧ r.2.mem ((c.tc : Thread Cert.DxOddIdeal.nD Cert.DxOddIdeal.τ).loc Cert.DxOddIdeal.main_arg0) = m ((c.tc : Thread Cert.DxOddIdeal.nD Cert.DxOddIdeal.τ).loc Cert.DxOddIdeal.main_arg0)
          ∧ r.2.mem ((c.tc : Thread Cert.DxOddIdeal.nD Cert.DxOddIdeal.τ).loc Cert.DxOddIdeal.main_arg1) = m ((c.tc : Thread Cert.DxOddIdeal.nD Cert.DxOddIdeal.τ).loc Cert.DxOddIdeal.main_arg1)
          ∧ r.2.mem ((c.tc : Thread Cert.DxOddIdeal.nD Cert.DxOddIdeal.τ).loc Cert.DxOddIdeal.main_arg2) = m ((c.tc : Thread Cert.DxOddIdeal.nD Cert.DxOddIdeal.τ).loc Cert.DxOddIdeal.main_arg2)
          ∧ r.2.mem ((c.tc : Thread Cert.DxOddIdeal.nD Cert.DxOddIdeal.τ).loc Cert.DxOddIdeal.main_arg3) = m ((c.tc : Thread Cert.DxOddIdeal.nD Cert.DxOddIdeal.τ).loc Cert.DxOddIdeal.main_arg3)
          ∧ r.2.mem ((c.tc : Thread Cert.DxOddIdeal.nD Cert.DxOddIdeal.τ).loc Cert.DxOddIdeal.main_arg4) = m ((c.tc : Thread Cert.DxOddIdeal.nD Cert.DxOddIdeal.τ).loc Cert.DxOddIdeal.main_arg4))
      ∧ θ_run (Cert.DxOddRefIdeal.defs (F := Ideal)) (onTc (τ := Cert.DxOddRefIdeal.τ) (Cert.DxOddRefIdeal.main (F := Ideal))) ⟨m', fun _ => 0, g'⟩ (fun r => ∀ c : Dev Cert.DxOddRefIdeal.nD,
          r.2.mem ((c.tc : Thread Cert.DxOddRefIdeal.nD Cert.DxOddRefIdeal.τ).loc Cert.DxOddRefIdeal.main_v38) = v0 c
          ∧ r.2.mem ((c.tc : Thread Cert.DxOddRefIdeal.nD Cert.DxOddRefIdeal.τ).loc Cert.DxOddRefIdeal.main_v21) = v1 c
          ∧ r.2.mem ((c.tc : Thread Cert.DxOddRefIdeal.nD Cert.DxOddRefIdeal.τ).loc Cert.DxOddRefIdeal.main_arg0) = m' ((c.tc : Thread Cert.DxOddRefIdeal.nD Cert.DxOddRefIdeal.τ).loc Cert.DxOddRefIdeal.main_arg0)
          ∧ r.2.mem ((c.tc : Thread Cert.DxOddRefIdeal.nD Cert.DxOddRefIdeal.τ).loc Cert.DxOddRefIdeal.main_arg1) = m' ((c.tc : Thread Cert.DxOddRefIdeal.nD Cert.DxOddRefIdeal.τ).loc Cert.DxOddRefIdeal.main_arg1)
          ∧ r.2.mem ((c.tc : Thread Cert.DxOddRefIdeal.nD Cert.DxOddRefIdeal.τ).loc Cert.DxOddRefIdeal.main_arg2) = m' ((c.tc : Thread Cert.DxOddRefIdeal.nD Cert.DxOddRefIdeal.τ).loc Cert.DxOddRefIdeal.main_arg2)
          ∧ r.2.mem ((c.tc : Thread Cert.DxOddRefIdeal.nD Cert.DxOddRefIdeal.τ).loc Cert.DxOddRefIdeal.main_arg3) = m' ((c.tc : Thread Cert.DxOddRefIdeal.nD Cert.DxOddRefIdeal.τ).loc Cert.DxOddRefIdeal.main_arg3)
          ∧ r.2.mem ((c.tc : Thread Cert.DxOddRefIdeal.nD Cert.DxOddRefIdeal.τ).loc Cert.DxOddRefIdeal.main_arg4) = m' ((c.tc : Thread Cert.DxOddRefIdeal.nD Cert.DxOddRefIdeal.τ).loc Cert.DxOddRefIdeal.main_arg4))

def preserves_DwInEven_DwInEvenIdeal : Prop :=
  True

def algebraic_DwInEvenIdeal_DwInEvenRefIdeal [hDwInEvenIdeal : Cert.DwInEvenIdeal.Facts] [hDwInEvenRefIdeal : Cert.DwInEvenRefIdeal.Facts] : Prop :=
  ∀ (m : (ℓ : Loc Cert.DwInEvenIdeal.nD Cert.DwInEvenIdeal.τ Cert.DwInEvenIdeal.sig) → Buf (Elt Ideal) ℓ) (g : Dev Cert.DwInEvenIdeal.nD → PrngReg)
    (m' : (ℓ : Loc Cert.DwInEvenRefIdeal.nD Cert.DwInEvenRefIdeal.τ Cert.DwInEvenRefIdeal.sig) → Buf (Elt Ideal) ℓ) (g' : Dev Cert.DwInEvenRefIdeal.nD → PrngReg), Pre_DwInEvenIdeal m →
    (∀ c : Dev Cert.DwInEvenIdeal.nD,
      m' ((c.tc : Thread Cert.DwInEvenRefIdeal.nD Cert.DwInEvenRefIdeal.τ).loc Cert.DwInEvenRefIdeal.main_arg0) = m ((c.tc : Thread Cert.DwInEvenIdeal.nD Cert.DwInEvenIdeal.τ).loc Cert.DwInEvenIdeal.main_arg0)
      ∧ m' ((c.tc : Thread Cert.DwInEvenRefIdeal.nD Cert.DwInEvenRefIdeal.τ).loc Cert.DwInEvenRefIdeal.main_arg1) = m ((c.tc : Thread Cert.DwInEvenIdeal.nD Cert.DwInEvenIdeal.τ).loc Cert.DwInEvenIdeal.main_arg1)
      ∧ m' ((c.tc : Thread Cert.DwInEvenRefIdeal.nD Cert.DwInEvenRefIdeal.τ).loc Cert.DwInEvenRefIdeal.main_arg2) = m ((c.tc : Thread Cert.DwInEvenIdeal.nD Cert.DwInEvenIdeal.τ).loc Cert.DwInEvenIdeal.main_arg2)
      ∧ m' ((c.tc : Thread Cert.DwInEvenRefIdeal.nD Cert.DwInEvenRefIdeal.τ).loc Cert.DwInEvenRefIdeal.main_arg3) = m ((c.tc : Thread Cert.DwInEvenIdeal.nD Cert.DwInEvenIdeal.τ).loc Cert.DwInEvenIdeal.main_arg3)) →
    ∃ (v0 : (c : Dev Cert.DwInEvenIdeal.nD) → Buf (Elt Ideal) ((c.tc : Thread Cert.DwInEvenIdeal.nD Cert.DwInEvenIdeal.τ).loc Cert.DwInEvenIdeal.main_v14)),
      θ_run (Cert.DwInEvenIdeal.defs (F := Ideal)) (onTc (τ := Cert.DwInEvenIdeal.τ) (Cert.DwInEvenIdeal.main (F := Ideal))) ⟨m, fun _ => 0, g⟩ (fun r => ∀ c : Dev Cert.DwInEvenIdeal.nD,
          r.2.mem ((c.tc : Thread Cert.DwInEvenIdeal.nD Cert.DwInEvenIdeal.τ).loc Cert.DwInEvenIdeal.main_v14) = v0 c
          ∧ r.2.mem ((c.tc : Thread Cert.DwInEvenIdeal.nD Cert.DwInEvenIdeal.τ).loc Cert.DwInEvenIdeal.main_arg0) = m ((c.tc : Thread Cert.DwInEvenIdeal.nD Cert.DwInEvenIdeal.τ).loc Cert.DwInEvenIdeal.main_arg0)
          ∧ r.2.mem ((c.tc : Thread Cert.DwInEvenIdeal.nD Cert.DwInEvenIdeal.τ).loc Cert.DwInEvenIdeal.main_arg1) = m ((c.tc : Thread Cert.DwInEvenIdeal.nD Cert.DwInEvenIdeal.τ).loc Cert.DwInEvenIdeal.main_arg1)
          ∧ r.2.mem ((c.tc : Thread Cert.DwInEvenIdeal.nD Cert.DwInEvenIdeal.τ).loc Cert.DwInEvenIdeal.main_arg2) = m ((c.tc : Thread Cert.DwInEvenIdeal.nD Cert.DwInEvenIdeal.τ).loc Cert.DwInEvenIdeal.main_arg2)
          ∧ r.2.mem ((c.tc : Thread Cert.DwInEvenIdeal.nD Cert.DwInEvenIdeal.τ).loc Cert.DwInEvenIdeal.main_arg3) = m ((c.tc : Thread Cert.DwInEvenIdeal.nD Cert.DwInEvenIdeal.τ).loc Cert.DwInEvenIdeal.main_arg3))
      ∧ θ_run (Cert.DwInEvenRefIdeal.defs (F := Ideal)) (onTc (τ := Cert.DwInEvenRefIdeal.τ) (Cert.DwInEvenRefIdeal.main (F := Ideal))) ⟨m', fun _ => 0, g'⟩ (fun r => ∀ c : Dev Cert.DwInEvenRefIdeal.nD,
          r.2.mem ((c.tc : Thread Cert.DwInEvenRefIdeal.nD Cert.DwInEvenRefIdeal.τ).loc Cert.DwInEvenRefIdeal.main_v16) = v0 c
          ∧ r.2.mem ((c.tc : Thread Cert.DwInEvenRefIdeal.nD Cert.DwInEvenRefIdeal.τ).loc Cert.DwInEvenRefIdeal.main_arg0) = m' ((c.tc : Thread Cert.DwInEvenRefIdeal.nD Cert.DwInEvenRefIdeal.τ).loc Cert.DwInEvenRefIdeal.main_arg0)
          ∧ r.2.mem ((c.tc : Thread Cert.DwInEvenRefIdeal.nD Cert.DwInEvenRefIdeal.τ).loc Cert.DwInEvenRefIdeal.main_arg1) = m' ((c.tc : Thread Cert.DwInEvenRefIdeal.nD Cert.DwInEvenRefIdeal.τ).loc Cert.DwInEvenRefIdeal.main_arg1)
          ∧ r.2.mem ((c.tc : Thread Cert.DwInEvenRefIdeal.nD Cert.DwInEvenRefIdeal.τ).loc Cert.DwInEvenRefIdeal.main_arg2) = m' ((c.tc : Thread Cert.DwInEvenRefIdeal.nD Cert.DwInEvenRefIdeal.τ).loc Cert.DwInEvenRefIdeal.main_arg2)
          ∧ r.2.mem ((c.tc : Thread Cert.DwInEvenRefIdeal.nD Cert.DwInEvenRefIdeal.τ).loc Cert.DwInEvenRefIdeal.main_arg3) = m' ((c.tc : Thread Cert.DwInEvenRefIdeal.nD Cert.DwInEvenRefIdeal.τ).loc Cert.DwInEvenRefIdeal.main_arg3))

def preserves_DwInOdd_DwInOddIdeal : Prop :=
  True

def algebraic_DwInOddIdeal_DwInOddRefIdeal [hDwInOddIdeal : Cert.DwInOddIdeal.Facts] [hDwInOddRefIdeal : Cert.DwInOddRefIdeal.Facts] : Prop :=
  ∀ (m : (ℓ : Loc Cert.DwInOddIdeal.nD Cert.DwInOddIdeal.τ Cert.DwInOddIdeal.sig) → Buf (Elt Ideal) ℓ) (g : Dev Cert.DwInOddIdeal.nD → PrngReg)
    (m' : (ℓ : Loc Cert.DwInOddRefIdeal.nD Cert.DwInOddRefIdeal.τ Cert.DwInOddRefIdeal.sig) → Buf (Elt Ideal) ℓ) (g' : Dev Cert.DwInOddRefIdeal.nD → PrngReg), Pre_DwInOddIdeal m →
    (∀ c : Dev Cert.DwInOddIdeal.nD,
      m' ((c.tc : Thread Cert.DwInOddRefIdeal.nD Cert.DwInOddRefIdeal.τ).loc Cert.DwInOddRefIdeal.main_arg0) = m ((c.tc : Thread Cert.DwInOddIdeal.nD Cert.DwInOddIdeal.τ).loc Cert.DwInOddIdeal.main_arg0)
      ∧ m' ((c.tc : Thread Cert.DwInOddRefIdeal.nD Cert.DwInOddRefIdeal.τ).loc Cert.DwInOddRefIdeal.main_arg1) = m ((c.tc : Thread Cert.DwInOddIdeal.nD Cert.DwInOddIdeal.τ).loc Cert.DwInOddIdeal.main_arg1)
      ∧ m' ((c.tc : Thread Cert.DwInOddRefIdeal.nD Cert.DwInOddRefIdeal.τ).loc Cert.DwInOddRefIdeal.main_arg2) = m ((c.tc : Thread Cert.DwInOddIdeal.nD Cert.DwInOddIdeal.τ).loc Cert.DwInOddIdeal.main_arg2)
      ∧ m' ((c.tc : Thread Cert.DwInOddRefIdeal.nD Cert.DwInOddRefIdeal.τ).loc Cert.DwInOddRefIdeal.main_arg3) = m ((c.tc : Thread Cert.DwInOddIdeal.nD Cert.DwInOddIdeal.τ).loc Cert.DwInOddIdeal.main_arg3)) →
    ∃ (v0 : (c : Dev Cert.DwInOddIdeal.nD) → Buf (Elt Ideal) ((c.tc : Thread Cert.DwInOddIdeal.nD Cert.DwInOddIdeal.τ).loc Cert.DwInOddIdeal.main_v14)),
      θ_run (Cert.DwInOddIdeal.defs (F := Ideal)) (onTc (τ := Cert.DwInOddIdeal.τ) (Cert.DwInOddIdeal.main (F := Ideal))) ⟨m, fun _ => 0, g⟩ (fun r => ∀ c : Dev Cert.DwInOddIdeal.nD,
          r.2.mem ((c.tc : Thread Cert.DwInOddIdeal.nD Cert.DwInOddIdeal.τ).loc Cert.DwInOddIdeal.main_v14) = v0 c
          ∧ r.2.mem ((c.tc : Thread Cert.DwInOddIdeal.nD Cert.DwInOddIdeal.τ).loc Cert.DwInOddIdeal.main_arg0) = m ((c.tc : Thread Cert.DwInOddIdeal.nD Cert.DwInOddIdeal.τ).loc Cert.DwInOddIdeal.main_arg0)
          ∧ r.2.mem ((c.tc : Thread Cert.DwInOddIdeal.nD Cert.DwInOddIdeal.τ).loc Cert.DwInOddIdeal.main_arg1) = m ((c.tc : Thread Cert.DwInOddIdeal.nD Cert.DwInOddIdeal.τ).loc Cert.DwInOddIdeal.main_arg1)
          ∧ r.2.mem ((c.tc : Thread Cert.DwInOddIdeal.nD Cert.DwInOddIdeal.τ).loc Cert.DwInOddIdeal.main_arg2) = m ((c.tc : Thread Cert.DwInOddIdeal.nD Cert.DwInOddIdeal.τ).loc Cert.DwInOddIdeal.main_arg2)
          ∧ r.2.mem ((c.tc : Thread Cert.DwInOddIdeal.nD Cert.DwInOddIdeal.τ).loc Cert.DwInOddIdeal.main_arg3) = m ((c.tc : Thread Cert.DwInOddIdeal.nD Cert.DwInOddIdeal.τ).loc Cert.DwInOddIdeal.main_arg3))
      ∧ θ_run (Cert.DwInOddRefIdeal.defs (F := Ideal)) (onTc (τ := Cert.DwInOddRefIdeal.τ) (Cert.DwInOddRefIdeal.main (F := Ideal))) ⟨m', fun _ => 0, g'⟩ (fun r => ∀ c : Dev Cert.DwInOddRefIdeal.nD,
          r.2.mem ((c.tc : Thread Cert.DwInOddRefIdeal.nD Cert.DwInOddRefIdeal.τ).loc Cert.DwInOddRefIdeal.main_v16) = v0 c
          ∧ r.2.mem ((c.tc : Thread Cert.DwInOddRefIdeal.nD Cert.DwInOddRefIdeal.τ).loc Cert.DwInOddRefIdeal.main_arg0) = m' ((c.tc : Thread Cert.DwInOddRefIdeal.nD Cert.DwInOddRefIdeal.τ).loc Cert.DwInOddRefIdeal.main_arg0)
          ∧ r.2.mem ((c.tc : Thread Cert.DwInOddRefIdeal.nD Cert.DwInOddRefIdeal.τ).loc Cert.DwInOddRefIdeal.main_arg1) = m' ((c.tc : Thread Cert.DwInOddRefIdeal.nD Cert.DwInOddRefIdeal.τ).loc Cert.DwInOddRefIdeal.main_arg1)
          ∧ r.2.mem ((c.tc : Thread Cert.DwInOddRefIdeal.nD Cert.DwInOddRefIdeal.τ).loc Cert.DwInOddRefIdeal.main_arg2) = m' ((c.tc : Thread Cert.DwInOddRefIdeal.nD Cert.DwInOddRefIdeal.τ).loc Cert.DwInOddRefIdeal.main_arg2)
          ∧ r.2.mem ((c.tc : Thread Cert.DwInOddRefIdeal.nD Cert.DwInOddRefIdeal.τ).loc Cert.DwInOddRefIdeal.main_arg3) = m' ((c.tc : Thread Cert.DwInOddRefIdeal.nD Cert.DwInOddRefIdeal.τ).loc Cert.DwInOddRefIdeal.main_arg3))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v2)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v2) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v3) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2))

def preserves_InEven_InEvenIdeal : Prop :=
  True

def algebraic_InEvenIdeal_InEvenRefIdeal [hInEvenIdeal : Cert.InEvenIdeal.Facts] [hInEvenRefIdeal : Cert.InEvenRefIdeal.Facts] : Prop :=
  ∀ (m : (ℓ : Loc Cert.InEvenIdeal.nD Cert.InEvenIdeal.τ Cert.InEvenIdeal.sig) → Buf (Elt Ideal) ℓ) (g : Dev Cert.InEvenIdeal.nD → PrngReg)
    (m' : (ℓ : Loc Cert.InEvenRefIdeal.nD Cert.InEvenRefIdeal.τ Cert.InEvenRefIdeal.sig) → Buf (Elt Ideal) ℓ) (g' : Dev Cert.InEvenRefIdeal.nD → PrngReg), Pre_InEvenIdeal m →
    (∀ c : Dev Cert.InEvenIdeal.nD,
      m' ((c.tc : Thread Cert.InEvenRefIdeal.nD Cert.InEvenRefIdeal.τ).loc Cert.InEvenRefIdeal.main_arg0) = m ((c.tc : Thread Cert.InEvenIdeal.nD Cert.InEvenIdeal.τ).loc Cert.InEvenIdeal.main_arg0)
      ∧ m' ((c.tc : Thread Cert.InEvenRefIdeal.nD Cert.InEvenRefIdeal.τ).loc Cert.InEvenRefIdeal.main_arg1) = m ((c.tc : Thread Cert.InEvenIdeal.nD Cert.InEvenIdeal.τ).loc Cert.InEvenIdeal.main_arg1)
      ∧ m' ((c.tc : Thread Cert.InEvenRefIdeal.nD Cert.InEvenRefIdeal.τ).loc Cert.InEvenRefIdeal.main_arg2) = m ((c.tc : Thread Cert.InEvenIdeal.nD Cert.InEvenIdeal.τ).loc Cert.InEvenIdeal.main_arg2)) →
    ∃ (v0 : (c : Dev Cert.InEvenIdeal.nD) → Buf (Elt Ideal) ((c.tc : Thread Cert.InEvenIdeal.nD Cert.InEvenIdeal.τ).loc Cert.InEvenIdeal.main_v2_0)) (v1 : (c : Dev Cert.InEvenIdeal.nD) → Buf (Elt Ideal) ((c.tc : Thread Cert.InEvenIdeal.nD Cert.InEvenIdeal.τ).loc Cert.InEvenIdeal.main_v2_1)),
      θ_run (Cert.InEvenIdeal.defs (F := Ideal)) (onTc (τ := Cert.InEvenIdeal.τ) (Cert.InEvenIdeal.main (F := Ideal))) ⟨m, fun _ => 0, g⟩ (fun r => ∀ c : Dev Cert.InEvenIdeal.nD,
          r.2.mem ((c.tc : Thread Cert.InEvenIdeal.nD Cert.InEvenIdeal.τ).loc Cert.InEvenIdeal.main_v2_0) = v0 c
          ∧ r.2.mem ((c.tc : Thread Cert.InEvenIdeal.nD Cert.InEvenIdeal.τ).loc Cert.InEvenIdeal.main_v2_1) = v1 c
          ∧ r.2.mem ((c.tc : Thread Cert.InEvenIdeal.nD Cert.InEvenIdeal.τ).loc Cert.InEvenIdeal.main_arg0) = m ((c.tc : Thread Cert.InEvenIdeal.nD Cert.InEvenIdeal.τ).loc Cert.InEvenIdeal.main_arg0)
          ∧ r.2.mem ((c.tc : Thread Cert.InEvenIdeal.nD Cert.InEvenIdeal.τ).loc Cert.InEvenIdeal.main_arg1) = m ((c.tc : Thread Cert.InEvenIdeal.nD Cert.InEvenIdeal.τ).loc Cert.InEvenIdeal.main_arg1)
          ∧ r.2.mem ((c.tc : Thread Cert.InEvenIdeal.nD Cert.InEvenIdeal.τ).loc Cert.InEvenIdeal.main_arg2) = m ((c.tc : Thread Cert.InEvenIdeal.nD Cert.InEvenIdeal.τ).loc Cert.InEvenIdeal.main_arg2))
      ∧ θ_run (Cert.InEvenRefIdeal.defs (F := Ideal)) (onTc (τ := Cert.InEvenRefIdeal.τ) (Cert.InEvenRefIdeal.main (F := Ideal))) ⟨m', fun _ => 0, g'⟩ (fun r => ∀ c : Dev Cert.InEvenRefIdeal.nD,
          r.2.mem ((c.tc : Thread Cert.InEvenRefIdeal.nD Cert.InEvenRefIdeal.τ).loc Cert.InEvenRefIdeal.main_v12) = v0 c
          ∧ r.2.mem ((c.tc : Thread Cert.InEvenRefIdeal.nD Cert.InEvenRefIdeal.τ).loc Cert.InEvenRefIdeal.main_v13) = v1 c
          ∧ r.2.mem ((c.tc : Thread Cert.InEvenRefIdeal.nD Cert.InEvenRefIdeal.τ).loc Cert.InEvenRefIdeal.main_arg0) = m' ((c.tc : Thread Cert.InEvenRefIdeal.nD Cert.InEvenRefIdeal.τ).loc Cert.InEvenRefIdeal.main_arg0)
          ∧ r.2.mem ((c.tc : Thread Cert.InEvenRefIdeal.nD Cert.InEvenRefIdeal.τ).loc Cert.InEvenRefIdeal.main_arg1) = m' ((c.tc : Thread Cert.InEvenRefIdeal.nD Cert.InEvenRefIdeal.τ).loc Cert.InEvenRefIdeal.main_arg1)
          ∧ r.2.mem ((c.tc : Thread Cert.InEvenRefIdeal.nD Cert.InEvenRefIdeal.τ).loc Cert.InEvenRefIdeal.main_arg2) = m' ((c.tc : Thread Cert.InEvenRefIdeal.nD Cert.InEvenRefIdeal.τ).loc Cert.InEvenRefIdeal.main_arg2))

def preserves_InOdd_InOddIdeal : Prop :=
  True

def algebraic_InOddIdeal_InOddRefIdeal [hInOddIdeal : Cert.InOddIdeal.Facts] [hInOddRefIdeal : Cert.InOddRefIdeal.Facts] : Prop :=
  ∀ (m : (ℓ : Loc Cert.InOddIdeal.nD Cert.InOddIdeal.τ Cert.InOddIdeal.sig) → Buf (Elt Ideal) ℓ) (g : Dev Cert.InOddIdeal.nD → PrngReg)
    (m' : (ℓ : Loc Cert.InOddRefIdeal.nD Cert.InOddRefIdeal.τ Cert.InOddRefIdeal.sig) → Buf (Elt Ideal) ℓ) (g' : Dev Cert.InOddRefIdeal.nD → PrngReg), Pre_InOddIdeal m →
    (∀ c : Dev Cert.InOddIdeal.nD,
      m' ((c.tc : Thread Cert.InOddRefIdeal.nD Cert.InOddRefIdeal.τ).loc Cert.InOddRefIdeal.main_arg0) = m ((c.tc : Thread Cert.InOddIdeal.nD Cert.InOddIdeal.τ).loc Cert.InOddIdeal.main_arg0)
      ∧ m' ((c.tc : Thread Cert.InOddRefIdeal.nD Cert.InOddRefIdeal.τ).loc Cert.InOddRefIdeal.main_arg1) = m ((c.tc : Thread Cert.InOddIdeal.nD Cert.InOddIdeal.τ).loc Cert.InOddIdeal.main_arg1)
      ∧ m' ((c.tc : Thread Cert.InOddRefIdeal.nD Cert.InOddRefIdeal.τ).loc Cert.InOddRefIdeal.main_arg2) = m ((c.tc : Thread Cert.InOddIdeal.nD Cert.InOddIdeal.τ).loc Cert.InOddIdeal.main_arg2)) →
    ∃ (v0 : (c : Dev Cert.InOddIdeal.nD) → Buf (Elt Ideal) ((c.tc : Thread Cert.InOddIdeal.nD Cert.InOddIdeal.τ).loc Cert.InOddIdeal.main_v2_0)) (v1 : (c : Dev Cert.InOddIdeal.nD) → Buf (Elt Ideal) ((c.tc : Thread Cert.InOddIdeal.nD Cert.InOddIdeal.τ).loc Cert.InOddIdeal.main_v2_1)),
      θ_run (Cert.InOddIdeal.defs (F := Ideal)) (onTc (τ := Cert.InOddIdeal.τ) (Cert.InOddIdeal.main (F := Ideal))) ⟨m, fun _ => 0, g⟩ (fun r => ∀ c : Dev Cert.InOddIdeal.nD,
          r.2.mem ((c.tc : Thread Cert.InOddIdeal.nD Cert.InOddIdeal.τ).loc Cert.InOddIdeal.main_v2_0) = v0 c
          ∧ r.2.mem ((c.tc : Thread Cert.InOddIdeal.nD Cert.InOddIdeal.τ).loc Cert.InOddIdeal.main_v2_1) = v1 c
          ∧ r.2.mem ((c.tc : Thread Cert.InOddIdeal.nD Cert.InOddIdeal.τ).loc Cert.InOddIdeal.main_arg0) = m ((c.tc : Thread Cert.InOddIdeal.nD Cert.InOddIdeal.τ).loc Cert.InOddIdeal.main_arg0)
          ∧ r.2.mem ((c.tc : Thread Cert.InOddIdeal.nD Cert.InOddIdeal.τ).loc Cert.InOddIdeal.main_arg1) = m ((c.tc : Thread Cert.InOddIdeal.nD Cert.InOddIdeal.τ).loc Cert.InOddIdeal.main_arg1)
          ∧ r.2.mem ((c.tc : Thread Cert.InOddIdeal.nD Cert.InOddIdeal.τ).loc Cert.InOddIdeal.main_arg2) = m ((c.tc : Thread Cert.InOddIdeal.nD Cert.InOddIdeal.τ).loc Cert.InOddIdeal.main_arg2))
      ∧ θ_run (Cert.InOddRefIdeal.defs (F := Ideal)) (onTc (τ := Cert.InOddRefIdeal.τ) (Cert.InOddRefIdeal.main (F := Ideal))) ⟨m', fun _ => 0, g'⟩ (fun r => ∀ c : Dev Cert.InOddRefIdeal.nD,
          r.2.mem ((c.tc : Thread Cert.InOddRefIdeal.nD Cert.InOddRefIdeal.τ).loc Cert.InOddRefIdeal.main_v12) = v0 c
          ∧ r.2.mem ((c.tc : Thread Cert.InOddRefIdeal.nD Cert.InOddRefIdeal.τ).loc Cert.InOddRefIdeal.main_v13) = v1 c
          ∧ r.2.mem ((c.tc : Thread Cert.InOddRefIdeal.nD Cert.InOddRefIdeal.τ).loc Cert.InOddRefIdeal.main_arg0) = m' ((c.tc : Thread Cert.InOddRefIdeal.nD Cert.InOddRefIdeal.τ).loc Cert.InOddRefIdeal.main_arg0)
          ∧ r.2.mem ((c.tc : Thread Cert.InOddRefIdeal.nD Cert.InOddRefIdeal.τ).loc Cert.InOddRefIdeal.main_arg1) = m' ((c.tc : Thread Cert.InOddRefIdeal.nD Cert.InOddRefIdeal.τ).loc Cert.InOddRefIdeal.main_arg1)
          ∧ r.2.mem ((c.tc : Thread Cert.InOddRefIdeal.nD Cert.InOddRefIdeal.τ).loc Cert.InOddRefIdeal.main_arg2) = m' ((c.tc : Thread Cert.InOddRefIdeal.nD Cert.InOddRefIdeal.τ).loc Cert.InOddRefIdeal.main_arg2))

def preserves_KvIn_KvInIdeal : Prop :=
  True

def algebraic_KvInIdeal_KvInRefIdeal [hKvInIdeal : Cert.KvInIdeal.Facts] [hKvInRefIdeal : Cert.KvInRefIdeal.Facts] : Prop :=
  ∀ (m : (ℓ : Loc Cert.KvInIdeal.nD Cert.KvInIdeal.τ Cert.KvInIdeal.sig) → Buf (Elt Ideal) ℓ) (g : Dev Cert.KvInIdeal.nD → PrngReg)
    (m' : (ℓ : Loc Cert.KvInRefIdeal.nD Cert.KvInRefIdeal.τ Cert.KvInRefIdeal.sig) → Buf (Elt Ideal) ℓ) (g' : Dev Cert.KvInRefIdeal.nD → PrngReg), Pre_KvInIdeal m →
    (∀ c : Dev Cert.KvInIdeal.nD,
      m' ((c.tc : Thread Cert.KvInRefIdeal.nD Cert.KvInRefIdeal.τ).loc Cert.KvInRefIdeal.main_arg0) = m ((c.tc : Thread Cert.KvInIdeal.nD Cert.KvInIdeal.τ).loc Cert.KvInIdeal.main_arg0)
      ∧ m' ((c.tc : Thread Cert.KvInRefIdeal.nD Cert.KvInRefIdeal.τ).loc Cert.KvInRefIdeal.main_arg1) = m ((c.tc : Thread Cert.KvInIdeal.nD Cert.KvInIdeal.τ).loc Cert.KvInIdeal.main_arg1)
      ∧ m' ((c.tc : Thread Cert.KvInRefIdeal.nD Cert.KvInRefIdeal.τ).loc Cert.KvInRefIdeal.main_arg2) = m ((c.tc : Thread Cert.KvInIdeal.nD Cert.KvInIdeal.τ).loc Cert.KvInIdeal.main_arg2)) →
    ∃ (v0 : (c : Dev Cert.KvInIdeal.nD) → Buf (Elt Ideal) ((c.tc : Thread Cert.KvInIdeal.nD Cert.KvInIdeal.τ).loc Cert.KvInIdeal.main_v1_0)) (v1 : (c : Dev Cert.KvInIdeal.nD) → Buf (Elt Ideal) ((c.tc : Thread Cert.KvInIdeal.nD Cert.KvInIdeal.τ).loc Cert.KvInIdeal.main_v1_1)),
      θ_run (Cert.KvInIdeal.defs (F := Ideal)) (onTc (τ := Cert.KvInIdeal.τ) (Cert.KvInIdeal.main (F := Ideal))) ⟨m, fun _ => 0, g⟩ (fun r => ∀ c : Dev Cert.KvInIdeal.nD,
          r.2.mem ((c.tc : Thread Cert.KvInIdeal.nD Cert.KvInIdeal.τ).loc Cert.KvInIdeal.main_v1_0) = v0 c
          ∧ r.2.mem ((c.tc : Thread Cert.KvInIdeal.nD Cert.KvInIdeal.τ).loc Cert.KvInIdeal.main_v1_1) = v1 c
          ∧ r.2.mem ((c.tc : Thread Cert.KvInIdeal.nD Cert.KvInIdeal.τ).loc Cert.KvInIdeal.main_arg0) = m ((c.tc : Thread Cert.KvInIdeal.nD Cert.KvInIdeal.τ).loc Cert.KvInIdeal.main_arg0)
          ∧ r.2.mem ((c.tc : Thread Cert.KvInIdeal.nD Cert.KvInIdeal.τ).loc Cert.KvInIdeal.main_arg1) = m ((c.tc : Thread Cert.KvInIdeal.nD Cert.KvInIdeal.τ).loc Cert.KvInIdeal.main_arg1)
          ∧ r.2.mem ((c.tc : Thread Cert.KvInIdeal.nD Cert.KvInIdeal.τ).loc Cert.KvInIdeal.main_arg2) = m ((c.tc : Thread Cert.KvInIdeal.nD Cert.KvInIdeal.τ).loc Cert.KvInIdeal.main_arg2))
      ∧ θ_run (Cert.KvInRefIdeal.defs (F := Ideal)) (onTc (τ := Cert.KvInRefIdeal.τ) (Cert.KvInRefIdeal.main (F := Ideal))) ⟨m', fun _ => 0, g'⟩ (fun r => ∀ c : Dev Cert.KvInRefIdeal.nD,
          r.2.mem ((c.tc : Thread Cert.KvInRefIdeal.nD Cert.KvInRefIdeal.τ).loc Cert.KvInRefIdeal.main_v13) = v0 c
          ∧ r.2.mem ((c.tc : Thread Cert.KvInRefIdeal.nD Cert.KvInRefIdeal.τ).loc Cert.KvInRefIdeal.main_v14) = v1 c
          ∧ r.2.mem ((c.tc : Thread Cert.KvInRefIdeal.nD Cert.KvInRefIdeal.τ).loc Cert.KvInRefIdeal.main_arg0) = m' ((c.tc : Thread Cert.KvInRefIdeal.nD Cert.KvInRefIdeal.τ).loc Cert.KvInRefIdeal.main_arg0)
          ∧ r.2.mem ((c.tc : Thread Cert.KvInRefIdeal.nD Cert.KvInRefIdeal.τ).loc Cert.KvInRefIdeal.main_arg1) = m' ((c.tc : Thread Cert.KvInRefIdeal.nD Cert.KvInRefIdeal.τ).loc Cert.KvInRefIdeal.main_arg1)
          ∧ r.2.mem ((c.tc : Thread Cert.KvInRefIdeal.nD Cert.KvInRefIdeal.τ).loc Cert.KvInRefIdeal.main_arg2) = m' ((c.tc : Thread Cert.KvInRefIdeal.nD Cert.KvInRefIdeal.τ).loc Cert.KvInRefIdeal.main_arg2))

def preserves_KvBwd_KvBwdIdeal : Prop :=
  True

def algebraic_KvBwdIdeal_KvBwdRefIdeal [hKvBwdIdeal : Cert.KvBwdIdeal.Facts] [hKvBwdRefIdeal : Cert.KvBwdRefIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg)
    (m' : (ℓ : Loc Cert.KvBwdRefIdeal.nD Cert.KvBwdRefIdeal.τ Cert.KvBwdRefIdeal.sig) → Buf (Elt Ideal) ℓ) (g' : Dev Cert.KvBwdRefIdeal.nD → PrngReg), Pre_KvBwdIdeal m →
    (∀ c : Dev Cert.KvBwdIdeal.nD,
      m' ((c.tc : Thread Cert.KvBwdRefIdeal.nD Cert.KvBwdRefIdeal.τ).loc Cert.KvBwdRefIdeal.main_arg0) = m ((c.tc : Thread Cert.KvBwdIdeal.nD Cert.KvBwdIdeal.τ).loc Cert.KvBwdIdeal.main_arg0)
      ∧ m' ((c.tc : Thread Cert.KvBwdRefIdeal.nD Cert.KvBwdRefIdeal.τ).loc Cert.KvBwdRefIdeal.main_arg1) = m ((c.tc : Thread Cert.KvBwdIdeal.nD Cert.KvBwdIdeal.τ).loc Cert.KvBwdIdeal.main_arg1)
      ∧ m' ((c.tc : Thread Cert.KvBwdRefIdeal.nD Cert.KvBwdRefIdeal.τ).loc Cert.KvBwdRefIdeal.main_arg2) = m ((c.tc : Thread Cert.KvBwdIdeal.nD Cert.KvBwdIdeal.τ).loc Cert.KvBwdIdeal.main_arg2)
      ∧ m' ((c.tc : Thread Cert.KvBwdRefIdeal.nD Cert.KvBwdRefIdeal.τ).loc Cert.KvBwdRefIdeal.main_arg3) = m ((c.tc : Thread Cert.KvBwdIdeal.nD Cert.KvBwdIdeal.τ).loc Cert.KvBwdIdeal.main_arg3)) →
    ∃ (v0 : (c : Dev Cert.KvBwdIdeal.nD) → Buf (Elt Ideal) ((c.tc : Thread Cert.KvBwdIdeal.nD Cert.KvBwdIdeal.τ).loc Cert.KvBwdIdeal.main_v15_0)) (v1 : (c : Dev Cert.KvBwdIdeal.nD) → Buf (Elt Ideal) ((c.tc : Thread Cert.KvBwdIdeal.nD Cert.KvBwdIdeal.τ).loc Cert.KvBwdIdeal.main_v15_1)),
      θ_run (Cert.KvBwdIdeal.defs (F := Ideal)) (onTc (τ := Cert.KvBwdIdeal.τ) (Cert.KvBwdIdeal.main (F := Ideal))) ⟨m, fun _ => 0, g⟩ (fun r => ∀ c : Dev Cert.KvBwdIdeal.nD,
          r.2.mem ((c.tc : Thread Cert.KvBwdIdeal.nD Cert.KvBwdIdeal.τ).loc Cert.KvBwdIdeal.main_v15_0) = v0 c
          ∧ r.2.mem ((c.tc : Thread Cert.KvBwdIdeal.nD Cert.KvBwdIdeal.τ).loc Cert.KvBwdIdeal.main_v15_1) = v1 c
          ∧ r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
          ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
          ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
          ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3))
      ∧ θ_run (Cert.KvBwdRefIdeal.defs (F := Ideal)) (onTc (τ := Cert.KvBwdRefIdeal.τ) (Cert.KvBwdRefIdeal.main (F := Ideal))) ⟨m', fun _ => 0, g'⟩ (fun r => ∀ c : Dev Cert.KvBwdRefIdeal.nD,
          r.2.mem ((c.tc : Thread Cert.KvBwdRefIdeal.nD Cert.KvBwdRefIdeal.τ).loc Cert.KvBwdRefIdeal.main_v19) = v0 c
          ∧ r.2.mem ((c.tc : Thread Cert.KvBwdRefIdeal.nD Cert.KvBwdRefIdeal.τ).loc Cert.KvBwdRefIdeal.main_v18) = v1 c
          ∧ r.2.mem ((c.tc : Thread Cert.KvBwdRefIdeal.nD Cert.KvBwdRefIdeal.τ).loc Cert.KvBwdRefIdeal.main_arg0) = m' ((c.tc : Thread Cert.KvBwdRefIdeal.nD Cert.KvBwdRefIdeal.τ).loc Cert.KvBwdRefIdeal.main_arg0)
          ∧ r.2.mem ((c.tc : Thread Cert.KvBwdRefIdeal.nD Cert.KvBwdRefIdeal.τ).loc Cert.KvBwdRefIdeal.main_arg1) = m' ((c.tc : Thread Cert.KvBwdRefIdeal.nD Cert.KvBwdRefIdeal.τ).loc Cert.KvBwdRefIdeal.main_arg1)
          ∧ r.2.mem ((c.tc : Thread Cert.KvBwdRefIdeal.nD Cert.KvBwdRefIdeal.τ).loc Cert.KvBwdRefIdeal.main_arg2) = m' ((c.tc : Thread Cert.KvBwdRefIdeal.nD Cert.KvBwdRefIdeal.τ).loc Cert.KvBwdRefIdeal.main_arg2)
          ∧ r.2.mem ((c.tc : Thread Cert.KvBwdRefIdeal.nD Cert.KvBwdRefIdeal.τ).loc Cert.KvBwdRefIdeal.main_arg3) = m' ((c.tc : Thread Cert.KvBwdRefIdeal.nD Cert.KvBwdRefIdeal.τ).loc Cert.KvBwdRefIdeal.main_arg3))

def preserves_AdamInEven_AdamInEvenIdeal : Prop :=
  True

def algebraic_AdamInEvenIdeal_AdamInEvenRefIdeal [hAdamInEvenIdeal : Cert.AdamInEvenIdeal.Facts] [hAdamInEvenRefIdeal : Cert.AdamInEvenRefIdeal.Facts] : Prop :=
  ∀ (m : (ℓ : Loc Cert.AdamInEvenIdeal.nD Cert.AdamInEvenIdeal.τ Cert.AdamInEvenIdeal.sig) → Buf (Elt Ideal) ℓ) (g : Dev Cert.AdamInEvenIdeal.nD → PrngReg)
    (m' : (ℓ : Loc Cert.AdamInEvenRefIdeal.nD Cert.AdamInEvenRefIdeal.τ Cert.AdamInEvenRefIdeal.sig) → Buf (Elt Ideal) ℓ) (g' : Dev Cert.AdamInEvenRefIdeal.nD → PrngReg), Pre_AdamInEvenIdeal m →
    (∀ c : Dev Cert.AdamInEvenIdeal.nD,
      m' ((c.tc : Thread Cert.AdamInEvenRefIdeal.nD Cert.AdamInEvenRefIdeal.τ).loc Cert.AdamInEvenRefIdeal.main_arg0) = m ((c.tc : Thread Cert.AdamInEvenIdeal.nD Cert.AdamInEvenIdeal.τ).loc Cert.AdamInEvenIdeal.main_arg0)
      ∧ m' ((c.tc : Thread Cert.AdamInEvenRefIdeal.nD Cert.AdamInEvenRefIdeal.τ).loc Cert.AdamInEvenRefIdeal.main_arg1) = m ((c.tc : Thread Cert.AdamInEvenIdeal.nD Cert.AdamInEvenIdeal.τ).loc Cert.AdamInEvenIdeal.main_arg1)
      ∧ m' ((c.tc : Thread Cert.AdamInEvenRefIdeal.nD Cert.AdamInEvenRefIdeal.τ).loc Cert.AdamInEvenRefIdeal.main_arg2) = m ((c.tc : Thread Cert.AdamInEvenIdeal.nD Cert.AdamInEvenIdeal.τ).loc Cert.AdamInEvenIdeal.main_arg2)
      ∧ m' ((c.tc : Thread Cert.AdamInEvenRefIdeal.nD Cert.AdamInEvenRefIdeal.τ).loc Cert.AdamInEvenRefIdeal.main_arg3) = m ((c.tc : Thread Cert.AdamInEvenIdeal.nD Cert.AdamInEvenIdeal.τ).loc Cert.AdamInEvenIdeal.main_arg3)) →
    ∃ (v0 : (c : Dev Cert.AdamInEvenIdeal.nD) → Buf (Elt Ideal) ((c.tc : Thread Cert.AdamInEvenIdeal.nD Cert.AdamInEvenIdeal.τ).loc Cert.AdamInEvenIdeal.main_v1_0)) (v1 : (c : Dev Cert.AdamInEvenIdeal.nD) → Buf (Elt Ideal) ((c.tc : Thread Cert.AdamInEvenIdeal.nD Cert.AdamInEvenIdeal.τ).loc Cert.AdamInEvenIdeal.main_v1_1)) (v2 : (c : Dev Cert.AdamInEvenIdeal.nD) → Buf (Elt Ideal) ((c.tc : Thread Cert.AdamInEvenIdeal.nD Cert.AdamInEvenIdeal.τ).loc Cert.AdamInEvenIdeal.main_v1_2)) (v3 : (c : Dev Cert.AdamInEvenIdeal.nD) → Buf (Elt Ideal) ((c.tc : Thread Cert.AdamInEvenIdeal.nD Cert.AdamInEvenIdeal.τ).loc Cert.AdamInEvenIdeal.main_v1_3)),
      θ_run (Cert.AdamInEvenIdeal.defs (F := Ideal)) (onTc (τ := Cert.AdamInEvenIdeal.τ) (Cert.AdamInEvenIdeal.main (F := Ideal))) ⟨m, fun _ => 0, g⟩ (fun r => ∀ c : Dev Cert.AdamInEvenIdeal.nD,
          r.2.mem ((c.tc : Thread Cert.AdamInEvenIdeal.nD Cert.AdamInEvenIdeal.τ).loc Cert.AdamInEvenIdeal.main_v1_0) = v0 c
          ∧ r.2.mem ((c.tc : Thread Cert.AdamInEvenIdeal.nD Cert.AdamInEvenIdeal.τ).loc Cert.AdamInEvenIdeal.main_v1_1) = v1 c
          ∧ r.2.mem ((c.tc : Thread Cert.AdamInEvenIdeal.nD Cert.AdamInEvenIdeal.τ).loc Cert.AdamInEvenIdeal.main_v1_2) = v2 c
          ∧ r.2.mem ((c.tc : Thread Cert.AdamInEvenIdeal.nD Cert.AdamInEvenIdeal.τ).loc Cert.AdamInEvenIdeal.main_v1_3) = v3 c
          ∧ r.2.mem ((c.tc : Thread Cert.AdamInEvenIdeal.nD Cert.AdamInEvenIdeal.τ).loc Cert.AdamInEvenIdeal.main_arg0) = m ((c.tc : Thread Cert.AdamInEvenIdeal.nD Cert.AdamInEvenIdeal.τ).loc Cert.AdamInEvenIdeal.main_arg0)
          ∧ r.2.mem ((c.tc : Thread Cert.AdamInEvenIdeal.nD Cert.AdamInEvenIdeal.τ).loc Cert.AdamInEvenIdeal.main_arg1) = m ((c.tc : Thread Cert.AdamInEvenIdeal.nD Cert.AdamInEvenIdeal.τ).loc Cert.AdamInEvenIdeal.main_arg1)
          ∧ r.2.mem ((c.tc : Thread Cert.AdamInEvenIdeal.nD Cert.AdamInEvenIdeal.τ).loc Cert.AdamInEvenIdeal.main_arg2) = m ((c.tc : Thread Cert.AdamInEvenIdeal.nD Cert.AdamInEvenIdeal.τ).loc Cert.AdamInEvenIdeal.main_arg2)
          ∧ r.2.mem ((c.tc : Thread Cert.AdamInEvenIdeal.nD Cert.AdamInEvenIdeal.τ).loc Cert.AdamInEvenIdeal.main_arg3) = m ((c.tc : Thread Cert.AdamInEvenIdeal.nD Cert.AdamInEvenIdeal.τ).loc Cert.AdamInEvenIdeal.main_arg3))
      ∧ θ_run (Cert.AdamInEvenRefIdeal.defs (F := Ideal)) (onTc (τ := Cert.AdamInEvenRefIdeal.τ) (Cert.AdamInEvenRefIdeal.main (F := Ideal))) ⟨m', fun _ => 0, g'⟩ (fun r => ∀ c : Dev Cert.AdamInEvenRefIdeal.nD,
          r.2.mem ((c.tc : Thread Cert.AdamInEvenRefIdeal.nD Cert.AdamInEvenRefIdeal.τ).loc Cert.AdamInEvenRefIdeal.main_v0) = v0 c
          ∧ r.2.mem ((c.tc : Thread Cert.AdamInEvenRefIdeal.nD Cert.AdamInEvenRefIdeal.τ).loc Cert.AdamInEvenRefIdeal.main_v24) = v1 c
          ∧ r.2.mem ((c.tc : Thread Cert.AdamInEvenRefIdeal.nD Cert.AdamInEvenRefIdeal.τ).loc Cert.AdamInEvenRefIdeal.main_v5) = v2 c
          ∧ r.2.mem ((c.tc : Thread Cert.AdamInEvenRefIdeal.nD Cert.AdamInEvenRefIdeal.τ).loc Cert.AdamInEvenRefIdeal.main_v11) = v3 c
          ∧ r.2.mem ((c.tc : Thread Cert.AdamInEvenRefIdeal.nD Cert.AdamInEvenRefIdeal.τ).loc Cert.AdamInEvenRefIdeal.main_arg0) = m' ((c.tc : Thread Cert.AdamInEvenRefIdeal.nD Cert.AdamInEvenRefIdeal.τ).loc Cert.AdamInEvenRefIdeal.main_arg0)
          ∧ r.2.mem ((c.tc : Thread Cert.AdamInEvenRefIdeal.nD Cert.AdamInEvenRefIdeal.τ).loc Cert.AdamInEvenRefIdeal.main_arg1) = m' ((c.tc : Thread Cert.AdamInEvenRefIdeal.nD Cert.AdamInEvenRefIdeal.τ).loc Cert.AdamInEvenRefIdeal.main_arg1)
          ∧ r.2.mem ((c.tc : Thread Cert.AdamInEvenRefIdeal.nD Cert.AdamInEvenRefIdeal.τ).loc Cert.AdamInEvenRefIdeal.main_arg2) = m' ((c.tc : Thread Cert.AdamInEvenRefIdeal.nD Cert.AdamInEvenRefIdeal.τ).loc Cert.AdamInEvenRefIdeal.main_arg2)
          ∧ r.2.mem ((c.tc : Thread Cert.AdamInEvenRefIdeal.nD Cert.AdamInEvenRefIdeal.τ).loc Cert.AdamInEvenRefIdeal.main_arg3) = m' ((c.tc : Thread Cert.AdamInEvenRefIdeal.nD Cert.AdamInEvenRefIdeal.τ).loc Cert.AdamInEvenRefIdeal.main_arg3))

def preserves_AdamInOdd_AdamInOddIdeal : Prop :=
  True

def algebraic_AdamInOddIdeal_AdamInOddRefIdeal [hAdamInOddIdeal : Cert.AdamInOddIdeal.Facts] [hAdamInOddRefIdeal : Cert.AdamInOddRefIdeal.Facts] : Prop :=
  ∀ (m : (ℓ : Loc Cert.AdamInOddIdeal.nD Cert.AdamInOddIdeal.τ Cert.AdamInOddIdeal.sig) → Buf (Elt Ideal) ℓ) (g : Dev Cert.AdamInOddIdeal.nD → PrngReg)
    (m' : (ℓ : Loc Cert.AdamInOddRefIdeal.nD Cert.AdamInOddRefIdeal.τ Cert.AdamInOddRefIdeal.sig) → Buf (Elt Ideal) ℓ) (g' : Dev Cert.AdamInOddRefIdeal.nD → PrngReg), Pre_AdamInOddIdeal m →
    (∀ c : Dev Cert.AdamInOddIdeal.nD,
      m' ((c.tc : Thread Cert.AdamInOddRefIdeal.nD Cert.AdamInOddRefIdeal.τ).loc Cert.AdamInOddRefIdeal.main_arg0) = m ((c.tc : Thread Cert.AdamInOddIdeal.nD Cert.AdamInOddIdeal.τ).loc Cert.AdamInOddIdeal.main_arg0)
      ∧ m' ((c.tc : Thread Cert.AdamInOddRefIdeal.nD Cert.AdamInOddRefIdeal.τ).loc Cert.AdamInOddRefIdeal.main_arg1) = m ((c.tc : Thread Cert.AdamInOddIdeal.nD Cert.AdamInOddIdeal.τ).loc Cert.AdamInOddIdeal.main_arg1)
      ∧ m' ((c.tc : Thread Cert.AdamInOddRefIdeal.nD Cert.AdamInOddRefIdeal.τ).loc Cert.AdamInOddRefIdeal.main_arg2) = m ((c.tc : Thread Cert.AdamInOddIdeal.nD Cert.AdamInOddIdeal.τ).loc Cert.AdamInOddIdeal.main_arg2)
      ∧ m' ((c.tc : Thread Cert.AdamInOddRefIdeal.nD Cert.AdamInOddRefIdeal.τ).loc Cert.AdamInOddRefIdeal.main_arg3) = m ((c.tc : Thread Cert.AdamInOddIdeal.nD Cert.AdamInOddIdeal.τ).loc Cert.AdamInOddIdeal.main_arg3)) →
    ∃ (v0 : (c : Dev Cert.AdamInOddIdeal.nD) → Buf (Elt Ideal) ((c.tc : Thread Cert.AdamInOddIdeal.nD Cert.AdamInOddIdeal.τ).loc Cert.AdamInOddIdeal.main_v1_0)) (v1 : (c : Dev Cert.AdamInOddIdeal.nD) → Buf (Elt Ideal) ((c.tc : Thread Cert.AdamInOddIdeal.nD Cert.AdamInOddIdeal.τ).loc Cert.AdamInOddIdeal.main_v1_1)) (v2 : (c : Dev Cert.AdamInOddIdeal.nD) → Buf (Elt Ideal) ((c.tc : Thread Cert.AdamInOddIdeal.nD Cert.AdamInOddIdeal.τ).loc Cert.AdamInOddIdeal.main_v1_2)) (v3 : (c : Dev Cert.AdamInOddIdeal.nD) → Buf (Elt Ideal) ((c.tc : Thread Cert.AdamInOddIdeal.nD Cert.AdamInOddIdeal.τ).loc Cert.AdamInOddIdeal.main_v1_3)),
      θ_run (Cert.AdamInOddIdeal.defs (F := Ideal)) (onTc (τ := Cert.AdamInOddIdeal.τ) (Cert.AdamInOddIdeal.main (F := Ideal))) ⟨m, fun _ => 0, g⟩ (fun r => ∀ c : Dev Cert.AdamInOddIdeal.nD,
          r.2.mem ((c.tc : Thread Cert.AdamInOddIdeal.nD Cert.AdamInOddIdeal.τ).loc Cert.AdamInOddIdeal.main_v1_0) = v0 c
          ∧ r.2.mem ((c.tc : Thread Cert.AdamInOddIdeal.nD Cert.AdamInOddIdeal.τ).loc Cert.AdamInOddIdeal.main_v1_1) = v1 c
          ∧ r.2.mem ((c.tc : Thread Cert.AdamInOddIdeal.nD Cert.AdamInOddIdeal.τ).loc Cert.AdamInOddIdeal.main_v1_2) = v2 c
          ∧ r.2.mem ((c.tc : Thread Cert.AdamInOddIdeal.nD Cert.AdamInOddIdeal.τ).loc Cert.AdamInOddIdeal.main_v1_3) = v3 c
          ∧ r.2.mem ((c.tc : Thread Cert.AdamInOddIdeal.nD Cert.AdamInOddIdeal.τ).loc Cert.AdamInOddIdeal.main_arg0) = m ((c.tc : Thread Cert.AdamInOddIdeal.nD Cert.AdamInOddIdeal.τ).loc Cert.AdamInOddIdeal.main_arg0)
          ∧ r.2.mem ((c.tc : Thread Cert.AdamInOddIdeal.nD Cert.AdamInOddIdeal.τ).loc Cert.AdamInOddIdeal.main_arg1) = m ((c.tc : Thread Cert.AdamInOddIdeal.nD Cert.AdamInOddIdeal.τ).loc Cert.AdamInOddIdeal.main_arg1)
          ∧ r.2.mem ((c.tc : Thread Cert.AdamInOddIdeal.nD Cert.AdamInOddIdeal.τ).loc Cert.AdamInOddIdeal.main_arg2) = m ((c.tc : Thread Cert.AdamInOddIdeal.nD Cert.AdamInOddIdeal.τ).loc Cert.AdamInOddIdeal.main_arg2)
          ∧ r.2.mem ((c.tc : Thread Cert.AdamInOddIdeal.nD Cert.AdamInOddIdeal.τ).loc Cert.AdamInOddIdeal.main_arg3) = m ((c.tc : Thread Cert.AdamInOddIdeal.nD Cert.AdamInOddIdeal.τ).loc Cert.AdamInOddIdeal.main_arg3))
      ∧ θ_run (Cert.AdamInOddRefIdeal.defs (F := Ideal)) (onTc (τ := Cert.AdamInOddRefIdeal.τ) (Cert.AdamInOddRefIdeal.main (F := Ideal))) ⟨m', fun _ => 0, g'⟩ (fun r => ∀ c : Dev Cert.AdamInOddRefIdeal.nD,
          r.2.mem ((c.tc : Thread Cert.AdamInOddRefIdeal.nD Cert.AdamInOddRefIdeal.τ).loc Cert.AdamInOddRefIdeal.main_v0) = v0 c
          ∧ r.2.mem ((c.tc : Thread Cert.AdamInOddRefIdeal.nD Cert.AdamInOddRefIdeal.τ).loc Cert.AdamInOddRefIdeal.main_v24) = v1 c
          ∧ r.2.mem ((c.tc : Thread Cert.AdamInOddRefIdeal.nD Cert.AdamInOddRefIdeal.τ).loc Cert.AdamInOddRefIdeal.main_v5) = v2 c
          ∧ r.2.mem ((c.tc : Thread Cert.AdamInOddRefIdeal.nD Cert.AdamInOddRefIdeal.τ).loc Cert.AdamInOddRefIdeal.main_v11) = v3 c
          ∧ r.2.mem ((c.tc : Thread Cert.AdamInOddRefIdeal.nD Cert.AdamInOddRefIdeal.τ).loc Cert.AdamInOddRefIdeal.main_arg0) = m' ((c.tc : Thread Cert.AdamInOddRefIdeal.nD Cert.AdamInOddRefIdeal.τ).loc Cert.AdamInOddRefIdeal.main_arg0)
          ∧ r.2.mem ((c.tc : Thread Cert.AdamInOddRefIdeal.nD Cert.AdamInOddRefIdeal.τ).loc Cert.AdamInOddRefIdeal.main_arg1) = m' ((c.tc : Thread Cert.AdamInOddRefIdeal.nD Cert.AdamInOddRefIdeal.τ).loc Cert.AdamInOddRefIdeal.main_arg1)
          ∧ r.2.mem ((c.tc : Thread Cert.AdamInOddRefIdeal.nD Cert.AdamInOddRefIdeal.τ).loc Cert.AdamInOddRefIdeal.main_arg2) = m' ((c.tc : Thread Cert.AdamInOddRefIdeal.nD Cert.AdamInOddRefIdeal.τ).loc Cert.AdamInOddRefIdeal.main_arg2)
          ∧ r.2.mem ((c.tc : Thread Cert.AdamInOddRefIdeal.nD Cert.AdamInOddRefIdeal.τ).loc Cert.AdamInOddRefIdeal.main_arg3) = m' ((c.tc : Thread Cert.AdamInOddRefIdeal.nD Cert.AdamInOddRefIdeal.τ).loc Cert.AdamInOddRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v1_0)) (v1 : (c : Dev Cert.AdamKvIdeal.nD) → Buf (Elt Ideal) ((c.tc : Thread Cert.AdamKvIdeal.nD Cert.AdamKvIdeal.τ).loc Cert.AdamKvIdeal.main_v1_1)) (v2 : (c : Dev Cert.AdamKvIdeal.nD) → Buf (Elt Ideal) ((c.tc : Thread Cert.AdamKvIdeal.nD Cert.AdamKvIdeal.τ).loc Cert.AdamKvIdeal.main_v1_2)) (v3 : (c : Dev Cert.AdamKvIdeal.nD) → Buf (Elt Ideal) ((c.tc : Thread Cert.AdamKvIdeal.nD Cert.AdamKvIdeal.τ).loc Cert.AdamKvIdeal.main_v1_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v1_0) = v0 c
          ∧ r.2.mem ((c.tc : Thread Cert.AdamKvIdeal.nD Cert.AdamKvIdeal.τ).loc Cert.AdamKvIdeal.main_v1_1) = v1 c
          ∧ r.2.mem ((c.tc : Thread Cert.AdamKvIdeal.nD Cert.AdamKvIdeal.τ).loc Cert.AdamKvIdeal.main_v1_2) = v2 c
          ∧ r.2.mem ((c.tc : Thread Cert.AdamKvIdeal.nD Cert.AdamKvIdeal.τ).loc Cert.AdamKvIdeal.main_v1_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v0) = v0 c
          ∧ r.2.mem ((c.tc : Thread Cert.AdamKvRefIdeal.nD Cert.AdamKvRefIdeal.τ).loc Cert.AdamKvRefIdeal.main_v24) = v1 c
          ∧ r.2.mem ((c.tc : Thread Cert.AdamKvRefIdeal.nD Cert.AdamKvRefIdeal.τ).loc Cert.AdamKvRefIdeal.main_v5) = v2 c
          ∧ r.2.mem ((c.tc : Thread Cert.AdamKvRefIdeal.nD Cert.AdamKvRefIdeal.τ).loc Cert.AdamKvRefIdeal.main_v11) = v3 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v1_0)) (v1 : (c : Dev Cert.AdamOutIdeal.nD) → Buf (Elt Ideal) ((c.tc : Thread Cert.AdamOutIdeal.nD Cert.AdamOutIdeal.τ).loc Cert.AdamOutIdeal.main_v1_1)) (v2 : (c : Dev Cert.AdamOutIdeal.nD) → Buf (Elt Ideal) ((c.tc : Thread Cert.AdamOutIdeal.nD Cert.AdamOutIdeal.τ).loc Cert.AdamOutIdeal.main_v1_2)) (v3 : (c : Dev Cert.AdamOutIdeal.nD) → Buf (Elt Ideal) ((c.tc : Thread Cert.AdamOutIdeal.nD Cert.AdamOutIdeal.τ).loc Cert.AdamOutIdeal.main_v1_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v1_0) = v0 c
          ∧ r.2.mem ((c.tc : Thread Cert.AdamOutIdeal.nD Cert.AdamOutIdeal.τ).loc Cert.AdamOutIdeal.main_v1_1) = v1 c
          ∧ r.2.mem ((c.tc : Thread Cert.AdamOutIdeal.nD Cert.AdamOutIdeal.τ).loc Cert.AdamOutIdeal.main_v1_2) = v2 c
          ∧ r.2.mem ((c.tc : Thread Cert.AdamOutIdeal.nD Cert.AdamOutIdeal.τ).loc Cert.AdamOutIdeal.main_v1_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v0) = v0 c
          ∧ r.2.mem ((c.tc : Thread Cert.AdamOutRefIdeal.nD Cert.AdamOutRefIdeal.τ).loc Cert.AdamOutRefIdeal.main_v24) = v1 c
          ∧ r.2.mem ((c.tc : Thread Cert.AdamOutRefIdeal.nD Cert.AdamOutRefIdeal.τ).loc Cert.AdamOutRefIdeal.main_v5) = v2 c
          ∧ r.2.mem ((c.tc : Thread Cert.AdamOutRefIdeal.nD Cert.AdamOutRefIdeal.τ).loc Cert.AdamOutRefIdeal.main_v11) = v3 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamPw_AdamPwIdeal : Prop :=
  True

def algebraic_AdamPwIdeal_AdamPwRefIdeal [hAdamPwIdeal : Cert.AdamPwIdeal.Facts] [hAdamPwRefIdeal : Cert.AdamPwRefIdeal.Facts] : Prop :=
  ∀ (m : (ℓ : Loc Cert.AdamPwIdeal.nD Cert.AdamPwIdeal.τ Cert.AdamPwIdeal.sig) → Buf (Elt Ideal) ℓ) (g : Dev Cert.AdamPwIdeal.nD → PrngReg)
    (m' : (ℓ : Loc Cert.AdamPwRefIdeal.nD Cert.AdamPwRefIdeal.τ Cert.AdamPwRefIdeal.sig) → Buf (Elt Ideal) ℓ) (g' : Dev Cert.AdamPwRefIdeal.nD → PrngReg), Pre_AdamPwIdeal m →
    (∀ c : Dev Cert.AdamPwIdeal.nD,
      m' ((c.tc : Thread Cert.AdamPwRefIdeal.nD Cert.AdamPwRefIdeal.τ).loc Cert.AdamPwRefIdeal.main_arg0) = m ((c.tc : Thread Cert.AdamPwIdeal.nD Cert.AdamPwIdeal.τ).loc Cert.AdamPwIdeal.main_arg0)
      ∧ m' ((c.tc : Thread Cert.AdamPwRefIdeal.nD Cert.AdamPwRefIdeal.τ).loc Cert.AdamPwRefIdeal.main_arg1) = m ((c.tc : Thread Cert.AdamPwIdeal.nD Cert.AdamPwIdeal.τ).loc Cert.AdamPwIdeal.main_arg1)
      ∧ m' ((c.tc : Thread Cert.AdamPwRefIdeal.nD Cert.AdamPwRefIdeal.τ).loc Cert.AdamPwRefIdeal.main_arg2) = m ((c.tc : Thread Cert.AdamPwIdeal.nD Cert.AdamPwIdeal.τ).loc Cert.AdamPwIdeal.main_arg2)
      ∧ m' ((c.tc : Thread Cert.AdamPwRefIdeal.nD Cert.AdamPwRefIdeal.τ).loc Cert.AdamPwRefIdeal.main_arg3) = m ((c.tc : Thread Cert.AdamPwIdeal.nD Cert.AdamPwIdeal.τ).loc Cert.AdamPwIdeal.main_arg3)) →
    ∃ (v0 : (c : Dev Cert.AdamPwIdeal.nD) → Buf (Elt Ideal) ((c.tc : Thread Cert.AdamPwIdeal.nD Cert.AdamPwIdeal.τ).loc Cert.AdamPwIdeal.main_v1_0)) (v1 : (c : Dev Cert.AdamPwIdeal.nD) → Buf (Elt Ideal) ((c.tc : Thread Cert.AdamPwIdeal.nD Cert.AdamPwIdeal.τ).loc Cert.AdamPwIdeal.main_v1_1)) (v2 : (c : Dev Cert.AdamPwIdeal.nD) → Buf (Elt Ideal) ((c.tc : Thread Cert.AdamPwIdeal.nD Cert.AdamPwIdeal.τ).loc Cert.AdamPwIdeal.main_v1_2)) (v3 : (c : Dev Cert.AdamPwIdeal.nD) → Buf (Elt Ideal) ((c.tc : Thread Cert.AdamPwIdeal.nD Cert.AdamPwIdeal.τ).loc Cert.AdamPwIdeal.main_v1_3)),
      θ_run (Cert.AdamPwIdeal.defs (F := Ideal)) (onTc (τ := Cert.AdamPwIdeal.τ) (Cert.AdamPwIdeal.main (F := Ideal))) ⟨m, fun _ => 0, g⟩ (fun r => ∀ c : Dev Cert.AdamPwIdeal.nD,
          r.2.mem ((c.tc : Thread Cert.AdamPwIdeal.nD Cert.AdamPwIdeal.τ).loc Cert.AdamPwIdeal.main_v1_0) = v0 c
          ∧ r.2.mem ((c.tc : Thread Cert.AdamPwIdeal.nD Cert.AdamPwIdeal.τ).loc Cert.AdamPwIdeal.main_v1_1) = v1 c
          ∧ r.2.mem ((c.tc : Thread Cert.AdamPwIdeal.nD Cert.AdamPwIdeal.τ).loc Cert.AdamPwIdeal.main_v1_2) = v2 c
          ∧ r.2.mem ((c.tc : Thread Cert.AdamPwIdeal.nD Cert.AdamPwIdeal.τ).loc Cert.AdamPwIdeal.main_v1_3) = v3 c
          ∧ r.2.mem ((c.tc : Thread Cert.AdamPwIdeal.nD Cert.AdamPwIdeal.τ).loc Cert.AdamPwIdeal.main_arg0) = m ((c.tc : Thread Cert.AdamPwIdeal.nD Cert.AdamPwIdeal.τ).loc Cert.AdamPwIdeal.main_arg0)
          ∧ r.2.mem ((c.tc : Thread Cert.AdamPwIdeal.nD Cert.AdamPwIdeal.τ).loc Cert.AdamPwIdeal.main_arg1) = m ((c.tc : Thread Cert.AdamPwIdeal.nD Cert.AdamPwIdeal.τ).loc Cert.AdamPwIdeal.main_arg1)
          ∧ r.2.mem ((c.tc : Thread Cert.AdamPwIdeal.nD Cert.AdamPwIdeal.τ).loc Cert.AdamPwIdeal.main_arg2) = m ((c.tc : Thread Cert.AdamPwIdeal.nD Cert.AdamPwIdeal.τ).loc Cert.AdamPwIdeal.main_arg2)
          ∧ r.2.mem ((c.tc : Thread Cert.AdamPwIdeal.nD Cert.AdamPwIdeal.τ).loc Cert.AdamPwIdeal.main_arg3) = m ((c.tc : Thread Cert.AdamPwIdeal.nD Cert.AdamPwIdeal.τ).loc Cert.AdamPwIdeal.main_arg3))
      ∧ θ_run (Cert.AdamPwRefIdeal.defs (F := Ideal)) (onTc (τ := Cert.AdamPwRefIdeal.τ) (Cert.AdamPwRefIdeal.main (F := Ideal))) ⟨m', fun _ => 0, g'⟩ (fun r => ∀ c : Dev Cert.AdamPwRefIdeal.nD,
          r.2.mem ((c.tc : Thread Cert.AdamPwRefIdeal.nD Cert.AdamPwRefIdeal.τ).loc Cert.AdamPwRefIdeal.main_v0) = v0 c
          ∧ r.2.mem ((c.tc : Thread Cert.AdamPwRefIdeal.nD Cert.AdamPwRefIdeal.τ).loc Cert.AdamPwRefIdeal.main_v24) = v1 c
          ∧ r.2.mem ((c.tc : Thread Cert.AdamPwRefIdeal.nD Cert.AdamPwRefIdeal.τ).loc Cert.AdamPwRefIdeal.main_v5) = v2 c
          ∧ r.2.mem ((c.tc : Thread Cert.AdamPwRefIdeal.nD Cert.AdamPwRefIdeal.τ).loc Cert.AdamPwRefIdeal.main_v11) = v3 c
          ∧ r.2.mem ((c.tc : Thread Cert.AdamPwRefIdeal.nD Cert.AdamPwRefIdeal.τ).loc Cert.AdamPwRefIdeal.main_arg0) = m' ((c.tc : Thread Cert.AdamPwRefIdeal.nD Cert.AdamPwRefIdeal.τ).loc Cert.AdamPwRefIdeal.main_arg0)
          ∧ r.2.mem ((c.tc : Thread Cert.AdamPwRefIdeal.nD Cert.AdamPwRefIdeal.τ).loc Cert.AdamPwRefIdeal.main_arg1) = m' ((c.tc : Thread Cert.AdamPwRefIdeal.nD Cert.AdamPwRefIdeal.τ).loc Cert.AdamPwRefIdeal.main_arg1)
          ∧ r.2.mem ((c.tc : Thread Cert.AdamPwRefIdeal.nD Cert.AdamPwRefIdeal.τ).loc Cert.AdamPwRefIdeal.main_arg2) = m' ((c.tc : Thread Cert.AdamPwRefIdeal.nD Cert.AdamPwRefIdeal.τ).loc Cert.AdamPwRefIdeal.main_arg2)
          ∧ r.2.mem ((c.tc : Thread Cert.AdamPwRefIdeal.nD Cert.AdamPwRefIdeal.τ).loc Cert.AdamPwRefIdeal.main_arg3) = m' ((c.tc : Thread Cert.AdamPwRefIdeal.nD Cert.AdamPwRefIdeal.τ).loc Cert.AdamPwRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)
      ∧ m' ((c.tc : Thread Cert.AdamSmallRefIdeal.nD Cert.AdamSmallRefIdeal.τ).loc Cert.AdamSmallRefIdeal.main_arg40) = m ((c.tc : Thread Cert.AdamSmallIdeal.nD Cert.AdamSmallIdeal.τ).loc Cert.AdamSmallIdeal.main_arg40)
      ∧ m' ((c.tc : Thread Cert.AdamSmallRefIdeal.nD Cert.AdamSmallRefIdeal.τ).loc Cert.AdamSmallRefIdeal.main_arg41) = m ((c.tc : Thread Cert.AdamSmallIdeal.nD Cert.AdamSmallIdeal.τ).loc Cert.AdamSmallIdeal.main_arg41)
      ∧ m' ((c.tc : Thread Cert.AdamSmallRefIdeal.nD Cert.AdamSmallRefIdeal.τ).loc Cert.AdamSmallRefIdeal.main_arg42) = m ((c.tc : Thread Cert.AdamSmallIdeal.nD Cert.AdamSmallIdeal.τ).loc Cert.AdamSmallIdeal.main_arg42)
      ∧ m' ((c.tc : Thread Cert.AdamSmallRefIdeal.nD Cert.AdamSmallRefIdeal.τ).loc Cert.AdamSmallRefIdeal.main_arg43) = m ((c.tc : Thread Cert.AdamSmallIdeal.nD Cert.AdamSmallIdeal.τ).loc Cert.AdamSmallIdeal.main_arg43)
      ∧ m' ((c.tc : Thread Cert.AdamSmallRefIdeal.nD Cert.AdamSmallRefIdeal.τ).loc Cert.AdamSmallRefIdeal.main_arg44) = m ((c.tc : Thread Cert.AdamSmallIdeal.nD Cert.AdamSmallIdeal.τ).loc Cert.AdamSmallIdeal.main_arg44)
      ∧ m' ((c.tc : Thread Cert.AdamSmallRefIdeal.nD Cert.AdamSmallRefIdeal.τ).loc Cert.AdamSmallRefIdeal.main_arg45) = m ((c.tc : Thread Cert.AdamSmallIdeal.nD Cert.AdamSmallIdeal.τ).loc Cert.AdamSmallIdeal.main_arg45)
      ∧ m' ((c.tc : Thread Cert.AdamSmallRefIdeal.nD Cert.AdamSmallRefIdeal.τ).loc Cert.AdamSmallRefIdeal.main_arg46) = m ((c.tc : Thread Cert.AdamSmallIdeal.nD Cert.AdamSmallIdeal.τ).loc Cert.AdamSmallIdeal.main_arg46)
      ∧ m' ((c.tc : Thread Cert.AdamSmallRefIdeal.nD Cert.AdamSmallRefIdeal.τ).loc Cert.AdamSmallRefIdeal.main_arg47) = m ((c.tc : Thread Cert.AdamSmallIdeal.nD Cert.AdamSmallIdeal.τ).loc Cert.AdamSmallIdeal.main_arg47)
      ∧ m' ((c.tc : Thread Cert.AdamSmallRefIdeal.nD Cert.AdamSmallRefIdeal.τ).loc Cert.AdamSmallRefIdeal.main_arg48) = m ((c.tc : Thread Cert.AdamSmallIdeal.nD Cert.AdamSmallIdeal.τ).loc Cert.AdamSmallIdeal.main_arg48)
      ∧ m' ((c.tc : Thread Cert.AdamSmallRefIdeal.nD Cert.AdamSmallRefIdeal.τ).loc Cert.AdamSmallRefIdeal.main_arg49) = m ((c.tc : Thread Cert.AdamSmallIdeal.nD Cert.AdamSmallIdeal.τ).loc Cert.AdamSmallIdeal.main_arg49)
      ∧ m' ((c.tc : Thread Cert.AdamSmallRefIdeal.nD Cert.AdamSmallRefIdeal.τ).loc Cert.AdamSmallRefIdeal.main_arg50) = m ((c.tc : Thread Cert.AdamSmallIdeal.nD Cert.AdamSmallIdeal.τ).loc Cert.AdamSmallIdeal.main_arg50)
      ∧ m' ((c.tc : Thread Cert.AdamSmallRefIdeal.nD Cert.AdamSmallRefIdeal.τ).loc Cert.AdamSmallRefIdeal.main_arg51) = m ((c.tc : Thread Cert.AdamSmallIdeal.nD Cert.AdamSmallIdeal.τ).loc Cert.AdamSmallIdeal.main_arg51)
      ∧ m' ((c.tc : Thread Cert.AdamSmallRefIdeal.nD Cert.AdamSmallRefIdeal.τ).loc Cert.AdamSmallRefIdeal.main_arg52) = m ((c.tc : Thread Cert.AdamSmallIdeal.nD Cert.AdamSmallIdeal.τ).loc Cert.AdamSmallIdeal.main_arg52)
      ∧ m' ((c.tc : Thread Cert.AdamSmallRefIdeal.nD Cert.AdamSmallRefIdeal.τ).loc Cert.AdamSmallRefIdeal.main_arg53) = m ((c.tc : Thread Cert.AdamSmallIdeal.nD Cert.AdamSmallIdeal.τ).loc Cert.AdamSmallIdeal.main_arg53)
      ∧ m' ((c.tc : Thread Cert.AdamSmallRefIdeal.nD Cert.AdamSmallRefIdeal.τ).loc Cert.AdamSmallRefIdeal.main_arg54) = m ((c.tc : Thread Cert.AdamSmallIdeal.nD Cert.AdamSmallIdeal.τ).loc Cert.AdamSmallIdeal.main_arg54)
      ∧ m' ((c.tc : Thread Cert.AdamSmallRefIdeal.nD Cert.AdamSmallRefIdeal.τ).loc Cert.AdamSmallRefIdeal.main_arg55) = m ((c.tc : Thread Cert.AdamSmallIdeal.nD Cert.AdamSmallIdeal.τ).loc Cert.AdamSmallIdeal.main_arg55)
      ∧ m' ((c.tc : Thread Cert.AdamSmallRefIdeal.nD Cert.AdamSmallRefIdeal.τ).loc Cert.AdamSmallRefIdeal.main_arg56) = m ((c.tc : Thread Cert.AdamSmallIdeal.nD Cert.AdamSmallIdeal.τ).loc Cert.AdamSmallIdeal.main_arg56)
      ∧ m' ((c.tc : Thread Cert.AdamSmallRefIdeal.nD Cert.AdamSmallRefIdeal.τ).loc Cert.AdamSmallRefIdeal.main_arg57) = m ((c.tc : Thread Cert.AdamSmallIdeal.nD Cert.AdamSmallIdeal.τ).loc Cert.AdamSmallIdeal.main_arg57)
      ∧ m' ((c.tc : Thread Cert.AdamSmallRefIdeal.nD Cert.AdamSmallRefIdeal.τ).loc Cert.AdamSmallRefIdeal.main_arg58) = m ((c.tc : Thread Cert.AdamSmallIdeal.nD Cert.AdamSmallIdeal.τ).loc Cert.AdamSmallIdeal.main_arg58)
      ∧ m' ((c.tc : Thread Cert.AdamSmallRefIdeal.nD Cert.AdamSmallRefIdeal.τ).loc Cert.AdamSmallRefIdeal.main_arg59) = m ((c.tc : Thread Cert.AdamSmallIdeal.nD Cert.AdamSmallIdeal.τ).loc Cert.AdamSmallIdeal.main_arg59)
      ∧ m' ((c.tc : Thread Cert.AdamSmallRefIdeal.nD Cert.AdamSmallRefIdeal.τ).loc Cert.AdamSmallRefIdeal.main_arg60) = m ((c.tc : Thread Cert.AdamSmallIdeal.nD Cert.AdamSmallIdeal.τ).loc Cert.AdamSmallIdeal.main_arg60)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)) (v4 : (c : Dev Cert.AdamSmallIdeal.nD) → Buf (Elt Ideal) ((c.tc : Thread Cert.AdamSmallIdeal.nD Cert.AdamSmallIdeal.τ).loc Cert.AdamSmallIdeal.main_v0_4)) (v5 : (c : Dev Cert.AdamSmallIdeal.nD) → Buf (Elt Ideal) ((c.tc : Thread Cert.AdamSmallIdeal.nD Cert.AdamSmallIdeal.τ).loc Cert.AdamSmallIdeal.main_v0_5)) (v6 : (c : Dev Cert.AdamSmallIdeal.nD) → Buf (Elt Ideal) ((c.tc : Thread Cert.AdamSmallIdeal.nD Cert.AdamSmallIdeal.τ).loc Cert.AdamSmallIdeal.main_v0_6)) (v7 : (c : Dev Cert.AdamSmallIdeal.nD) → Buf (Elt Ideal) ((c.tc : Thread Cert.AdamSmallIdeal.nD Cert.AdamSmallIdeal.τ).loc Cert.AdamSmallIdeal.main_v0_7)) (v8 : (c : Dev Cert.AdamSmallIdeal.nD) → Buf (Elt Ideal) ((c.tc : Thread Cert.AdamSmallIdeal.nD Cert.AdamSmallIdeal.τ).loc Cert.AdamSmallIdeal.main_v0_8)) (v9 : (c : Dev Cert.AdamSmallIdeal.nD) → Buf (Elt Ideal) ((c.tc : Thread Cert.AdamSmallIdeal.nD Cert.AdamSmallIdeal.τ).loc Cert.AdamSmallIdeal.main_v0_9)) (v10 : (c : Dev Cert.AdamSmallIdeal.nD) → Buf (Elt Ideal) ((c.tc : Thread Cert.AdamSmallIdeal.nD Cert.AdamSmallIdeal.τ).loc Cert.AdamSmallIdeal.main_v0_10)) (v11 : (c : Dev Cert.AdamSmallIdeal.nD) → Buf (Elt Ideal) ((c.tc : Thread Cert.AdamSmallIdeal.nD Cert.AdamSmallIdeal.τ).loc Cert.AdamSmallIdeal.main_v0_11)) (v12 : (c : Dev Cert.AdamSmallIdeal.nD) → Buf (Elt Ideal) ((c.tc : Thread Cert.AdamSmallIdeal.nD Cert.AdamSmallIdeal.τ).loc Cert.AdamSmallIdeal.main_v0_12)) (v13 : (c : Dev Cert.AdamSmallIdeal.nD) → Buf (Elt Ideal) ((c.tc : Thread Cert.AdamSmallIdeal.nD Cert.AdamSmallIdeal.τ).loc Cert.AdamSmallIdeal.main_v0_13)) (v14 : (c : Dev Cert.AdamSmallIdeal.nD) → Buf (Elt Ideal) ((c.tc : Thread Cert.AdamSmallIdeal.nD Cert.AdamSmallIdeal.τ).loc Cert.AdamSmallIdeal.main_v0_14)) (v15 : (c : Dev Cert.AdamSmallIdeal.nD) → Buf (Elt Ideal) ((c.tc : Thread Cert.AdamSmallIdeal.nD Cert.AdamSmallIdeal.τ).loc Cert.AdamSmallIdeal.main_v0_15)) (v16 : (c : Dev Cert.AdamSmallIdeal.nD) → Buf (Elt Ideal) ((c.tc : Thread Cert.AdamSmallIdeal.nD Cert.AdamSmallIdeal.τ).loc Cert.AdamSmallIdeal.main_v0_16)) (v17 : (c : Dev Cert.AdamSmallIdeal.nD) → Buf (Elt Ideal) ((c.tc : Thread Cert.AdamSmallIdeal.nD Cert.AdamSmallIdeal.τ).loc Cert.AdamSmallIdeal.main_v0_17)) (v18 : (c : Dev Cert.AdamSmallIdeal.nD) → Buf (Elt Ideal) ((c.tc : Thread Cert.AdamSmallIdeal.nD Cert.AdamSmallIdeal.τ).loc Cert.AdamSmallIdeal.main_v0_18)) (v19 : (c : Dev Cert.AdamSmallIdeal.nD) → Buf (Elt Ideal) ((c.tc : Thread Cert.AdamSmallIdeal.nD Cert.AdamSmallIdeal.τ).loc Cert.AdamSmallIdeal.main_v0_19)) (v20 : (c : Dev Cert.AdamSmallIdeal.nD) → Buf (Elt Ideal) ((c.tc : Thread Cert.AdamSmallIdeal.nD Cert.AdamSmallIdeal.τ).loc Cert.AdamSmallIdeal.main_v0_20)) (v21 : (c : Dev Cert.AdamSmallIdeal.nD) → Buf (Elt Ideal) ((c.tc : Thread Cert.AdamSmallIdeal.nD Cert.AdamSmallIdeal.τ).loc Cert.AdamSmallIdeal.main_v0_21)) (v22 : (c : Dev Cert.AdamSmallIdeal.nD) → Buf (Elt Ideal) ((c.tc : Thread Cert.AdamSmallIdeal.nD Cert.AdamSmallIdeal.τ).loc Cert.AdamSmallIdeal.main_v0_22)) (v23 : (c : Dev Cert.AdamSmallIdeal.nD) → Buf (Elt Ideal) ((c.tc : Thread Cert.AdamSmallIdeal.nD Cert.AdamSmallIdeal.τ).loc Cert.AdamSmallIdeal.main_v0_23)) (v24 : (c : Dev Cert.AdamSmallIdeal.nD) → Buf (Elt Ideal) ((c.tc : Thread Cert.AdamSmallIdeal.nD Cert.AdamSmallIdeal.τ).loc Cert.AdamSmallIdeal.main_v0_24)) (v25 : (c : Dev Cert.AdamSmallIdeal.nD) → Buf (Elt Ideal) ((c.tc : Thread Cert.AdamSmallIdeal.nD Cert.AdamSmallIdeal.τ).loc Cert.AdamSmallIdeal.main_v0_25)) (v26 : (c : Dev Cert.AdamSmallIdeal.nD) → Buf (Elt Ideal) ((c.tc : Thread Cert.AdamSmallIdeal.nD Cert.AdamSmallIdeal.τ).loc Cert.AdamSmallIdeal.main_v0_26)) (v27 : (c : Dev Cert.AdamSmallIdeal.nD) → Buf (Elt Ideal) ((c.tc : Thread Cert.AdamSmallIdeal.nD Cert.AdamSmallIdeal.τ).loc Cert.AdamSmallIdeal.main_v0_27)) (v28 : (c : Dev Cert.AdamSmallIdeal.nD) → Buf (Elt Ideal) ((c.tc : Thread Cert.AdamSmallIdeal.nD Cert.AdamSmallIdeal.τ).loc Cert.AdamSmallIdeal.main_v0_28)) (v29 : (c : Dev Cert.AdamSmallIdeal.nD) → Buf (Elt Ideal) ((c.tc : Thread Cert.AdamSmallIdeal.nD Cert.AdamSmallIdeal.τ).loc Cert.AdamSmallIdeal.main_v0_29)) (v30 : (c : Dev Cert.AdamSmallIdeal.nD) → Buf (Elt Ideal) ((c.tc : Thread Cert.AdamSmallIdeal.nD Cert.AdamSmallIdeal.τ).loc Cert.AdamSmallIdeal.main_v0_30)) (v31 : (c : Dev Cert.AdamSmallIdeal.nD) → Buf (Elt Ideal) ((c.tc : Thread Cert.AdamSmallIdeal.nD Cert.AdamSmallIdeal.τ).loc Cert.AdamSmallIdeal.main_v0_31)) (v32 : (c : Dev Cert.AdamSmallIdeal.nD) → Buf (Elt Ideal) ((c.tc : Thread Cert.AdamSmallIdeal.nD Cert.AdamSmallIdeal.τ).loc Cert.AdamSmallIdeal.main_v0_32)) (v33 : (c : Dev Cert.AdamSmallIdeal.nD) → Buf (Elt Ideal) ((c.tc : Thread Cert.AdamSmallIdeal.nD Cert.AdamSmallIdeal.τ).loc Cert.AdamSmallIdeal.main_v0_33)) (v34 : (c : Dev Cert.AdamSmallIdeal.nD) → Buf (Elt Ideal) ((c.tc : Thread Cert.AdamSmallIdeal.nD Cert.AdamSmallIdeal.τ).loc Cert.AdamSmallIdeal.main_v0_34)) (v35 : (c : Dev Cert.AdamSmallIdeal.nD) → Buf (Elt Ideal) ((c.tc : Thread Cert.AdamSmallIdeal.nD Cert.AdamSmallIdeal.τ).loc Cert.AdamSmallIdeal.main_v0_35)) (v36 : (c : Dev Cert.AdamSmallIdeal.nD) → Buf (Elt Ideal) ((c.tc : Thread Cert.AdamSmallIdeal.nD Cert.AdamSmallIdeal.τ).loc Cert.AdamSmallIdeal.main_v0_36)) (v37 : (c : Dev Cert.AdamSmallIdeal.nD) → Buf (Elt Ideal) ((c.tc : Thread Cert.AdamSmallIdeal.nD Cert.AdamSmallIdeal.τ).loc Cert.AdamSmallIdeal.main_v0_37)) (v38 : (c : Dev Cert.AdamSmallIdeal.nD) → Buf (Elt Ideal) ((c.tc : Thread Cert.AdamSmallIdeal.nD Cert.AdamSmallIdeal.τ).loc Cert.AdamSmallIdeal.main_v0_38)) (v39 : (c : Dev Cert.AdamSmallIdeal.nD) → Buf (Elt Ideal) ((c.tc : Thread Cert.AdamSmallIdeal.nD Cert.AdamSmallIdeal.τ).loc Cert.AdamSmallIdeal.main_v0_39)) (v40 : (c : Dev Cert.AdamSmallIdeal.nD) → Buf (Elt Ideal) ((c.tc : Thread Cert.AdamSmallIdeal.nD Cert.AdamSmallIdeal.τ).loc Cert.AdamSmallIdeal.main_v0_40)) (v41 : (c : Dev Cert.AdamSmallIdeal.nD) → Buf (Elt Ideal) ((c.tc : Thread Cert.AdamSmallIdeal.nD Cert.AdamSmallIdeal.τ).loc Cert.AdamSmallIdeal.main_v0_41)) (v42 : (c : Dev Cert.AdamSmallIdeal.nD) → Buf (Elt Ideal) ((c.tc : Thread Cert.AdamSmallIdeal.nD Cert.AdamSmallIdeal.τ).loc Cert.AdamSmallIdeal.main_v0_42)) (v43 : (c : Dev Cert.AdamSmallIdeal.nD) → Buf (Elt Ideal) ((c.tc : Thread Cert.AdamSmallIdeal.nD Cert.AdamSmallIdeal.τ).loc Cert.AdamSmallIdeal.main_v0_43)) (v44 : (c : Dev Cert.AdamSmallIdeal.nD) → Buf (Elt Ideal) ((c.tc : Thread Cert.AdamSmallIdeal.nD Cert.AdamSmallIdeal.τ).loc Cert.AdamSmallIdeal.main_v0_44)) (v45 : (c : Dev Cert.AdamSmallIdeal.nD) → Buf (Elt Ideal) ((c.tc : Thread Cert.AdamSmallIdeal.nD Cert.AdamSmallIdeal.τ).loc Cert.AdamSmallIdeal.main_v0_45)) (v46 : (c : Dev Cert.AdamSmallIdeal.nD) → Buf (Elt Ideal) ((c.tc : Thread Cert.AdamSmallIdeal.nD Cert.AdamSmallIdeal.τ).loc Cert.AdamSmallIdeal.main_v0_46)) (v47 : (c : Dev Cert.AdamSmallIdeal.nD) → Buf (Elt Ideal) ((c.tc : Thread Cert.AdamSmallIdeal.nD Cert.AdamSmallIdeal.τ).loc Cert.AdamSmallIdeal.main_v0_47)) (v48 : (c : Dev Cert.AdamSmallIdeal.nD) → Buf (Elt Ideal) ((c.tc : Thread Cert.AdamSmallIdeal.nD Cert.AdamSmallIdeal.τ).loc Cert.AdamSmallIdeal.main_v0_48)) (v49 : (c : Dev Cert.AdamSmallIdeal.nD) → Buf (Elt Ideal) ((c.tc : Thread Cert.AdamSmallIdeal.nD Cert.AdamSmallIdeal.τ).loc Cert.AdamSmallIdeal.main_v0_49)) (v50 : (c : Dev Cert.AdamSmallIdeal.nD) → Buf (Elt Ideal) ((c.tc : Thread Cert.AdamSmallIdeal.nD Cert.AdamSmallIdeal.τ).loc Cert.AdamSmallIdeal.main_v0_50)) (v51 : (c : Dev Cert.AdamSmallIdeal.nD) → Buf (Elt Ideal) ((c.tc : Thread Cert.AdamSmallIdeal.nD Cert.AdamSmallIdeal.τ).loc Cert.AdamSmallIdeal.main_v0_51)) (v52 : (c : Dev Cert.AdamSmallIdeal.nD) → Buf (Elt Ideal) ((c.tc : Thread Cert.AdamSmallIdeal.nD Cert.AdamSmallIdeal.τ).loc Cert.AdamSmallIdeal.main_v0_52)) (v53 : (c : Dev Cert.AdamSmallIdeal.nD) → Buf (Elt Ideal) ((c.tc : Thread Cert.AdamSmallIdeal.nD Cert.AdamSmallIdeal.τ).loc Cert.AdamSmallIdeal.main_v0_53)) (v54 : (c : Dev Cert.AdamSmallIdeal.nD) → Buf (Elt Ideal) ((c.tc : Thread Cert.AdamSmallIdeal.nD Cert.AdamSmallIdeal.τ).loc Cert.AdamSmallIdeal.main_v0_54)) (v55 : (c : Dev Cert.AdamSmallIdeal.nD) → Buf (Elt Ideal) ((c.tc : Thread Cert.AdamSmallIdeal.nD Cert.AdamSmallIdeal.τ).loc Cert.AdamSmallIdeal.main_v0_55)) (v56 : (c : Dev Cert.AdamSmallIdeal.nD) → Buf (Elt Ideal) ((c.tc : Thread Cert.AdamSmallIdeal.nD Cert.AdamSmallIdeal.τ).loc Cert.AdamSmallIdeal.main_v0_56)) (v57 : (c : Dev Cert.AdamSmallIdeal.nD) → Buf (Elt Ideal) ((c.tc : Thread Cert.AdamSmallIdeal.nD Cert.AdamSmallIdeal.τ).loc Cert.AdamSmallIdeal.main_v0_57)) (v58 : (c : Dev Cert.AdamSmallIdeal.nD) → Buf (Elt Ideal) ((c.tc : Thread Cert.AdamSmallIdeal.nD Cert.AdamSmallIdeal.τ).loc Cert.AdamSmallIdeal.main_v0_58)) (v59 : (c : Dev Cert.AdamSmallIdeal.nD) → Buf (Elt Ideal) ((c.tc : Thread Cert.AdamSmallIdeal.nD Cert.AdamSmallIdeal.τ).loc Cert.AdamSmallIdeal.main_v0_59)) (v60 : (c : Dev Cert.AdamSmallIdeal.nD) → Buf (Elt Ideal) ((c.tc : Thread Cert.AdamSmallIdeal.nD Cert.AdamSmallIdeal.τ).loc Cert.AdamSmallIdeal.main_v0_60)) (v61 : (c : Dev Cert.AdamSmallIdeal.nD) → Buf (Elt Ideal) ((c.tc : Thread Cert.AdamSmallIdeal.nD Cert.AdamSmallIdeal.τ).loc Cert.AdamSmallIdeal.main_v0_61)) (v62 : (c : Dev Cert.AdamSmallIdeal.nD) → Buf (Elt Ideal) ((c.tc : Thread Cert.AdamSmallIdeal.nD Cert.AdamSmallIdeal.τ).loc Cert.AdamSmallIdeal.main_v0_62)) (v63 : (c : Dev Cert.AdamSmallIdeal.nD) → Buf (Elt Ideal) ((c.tc : Thread Cert.AdamSmallIdeal.nD Cert.AdamSmallIdeal.τ).loc Cert.AdamSmallIdeal.main_v0_63)) (v64 : (c : Dev Cert.AdamSmallIdeal.nD) → Buf (Elt Ideal) ((c.tc : Thread Cert.AdamSmallIdeal.nD Cert.AdamSmallIdeal.τ).loc Cert.AdamSmallIdeal.main_v0_64)) (v65 : (c : Dev Cert.AdamSmallIdeal.nD) → Buf (Elt Ideal) ((c.tc : Thread Cert.AdamSmallIdeal.nD Cert.AdamSmallIdeal.τ).loc Cert.AdamSmallIdeal.main_v0_65)) (v66 : (c : Dev Cert.AdamSmallIdeal.nD) → Buf (Elt Ideal) ((c.tc : Thread Cert.AdamSmallIdeal.nD Cert.AdamSmallIdeal.τ).loc Cert.AdamSmallIdeal.main_v0_66)) (v67 : (c : Dev Cert.AdamSmallIdeal.nD) → Buf (Elt Ideal) ((c.tc : Thread Cert.AdamSmallIdeal.nD Cert.AdamSmallIdeal.τ).loc Cert.AdamSmallIdeal.main_v0_67)) (v68 : (c : Dev Cert.AdamSmallIdeal.nD) → Buf (Elt Ideal) ((c.tc : Thread Cert.AdamSmallIdeal.nD Cert.AdamSmallIdeal.τ).loc Cert.AdamSmallIdeal.main_v0_68)) (v69 : (c : Dev Cert.AdamSmallIdeal.nD) → Buf (Elt Ideal) ((c.tc : Thread Cert.AdamSmallIdeal.nD Cert.AdamSmallIdeal.τ).loc Cert.AdamSmallIdeal.main_v0_69)) (v70 : (c : Dev Cert.AdamSmallIdeal.nD) → Buf (Elt Ideal) ((c.tc : Thread Cert.AdamSmallIdeal.nD Cert.AdamSmallIdeal.τ).loc Cert.AdamSmallIdeal.main_v0_70)) (v71 : (c : Dev Cert.AdamSmallIdeal.nD) → Buf (Elt Ideal) ((c.tc : Thread Cert.AdamSmallIdeal.nD Cert.AdamSmallIdeal.τ).loc Cert.AdamSmallIdeal.main_v0_71)) (v72 : (c : Dev Cert.AdamSmallIdeal.nD) → Buf (Elt Ideal) ((c.tc : Thread Cert.AdamSmallIdeal.nD Cert.AdamSmallIdeal.τ).loc Cert.AdamSmallIdeal.main_v0_72)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_v0_4) = v4 c
          ∧ r.2.mem ((c.tc : Thread Cert.AdamSmallIdeal.nD Cert.AdamSmallIdeal.τ).loc Cert.AdamSmallIdeal.main_v0_5) = v5 c
          ∧ r.2.mem ((c.tc : Thread Cert.AdamSmallIdeal.nD Cert.AdamSmallIdeal.τ).loc Cert.AdamSmallIdeal.main_v0_6) = v6 c
          ∧ r.2.mem ((c.tc : Thread Cert.AdamSmallIdeal.nD Cert.AdamSmallIdeal.τ).loc Cert.AdamSmallIdeal.main_v0_7) = v7 c
          ∧ r.2.mem ((c.tc : Thread Cert.AdamSmallIdeal.nD Cert.AdamSmallIdeal.τ).loc Cert.AdamSmallIdeal.main_v0_8) = v8 c
          ∧ r.2.mem ((c.tc : Thread Cert.AdamSmallIdeal.nD Cert.AdamSmallIdeal.τ).loc Cert.AdamSmallIdeal.main_v0_9) = v9 c
          ∧ r.2.mem ((c.tc : Thread Cert.AdamSmallIdeal.nD Cert.AdamSmallIdeal.τ).loc Cert.AdamSmallIdeal.main_v0_10) = v10 c
          ∧ r.2.mem ((c.tc : Thread Cert.AdamSmallIdeal.nD Cert.AdamSmallIdeal.τ).loc Cert.AdamSmallIdeal.main_v0_11) = v11 c
          ∧ r.2.mem ((c.tc : Thread Cert.AdamSmallIdeal.nD Cert.AdamSmallIdeal.τ).loc Cert.AdamSmallIdeal.main_v0_12) = v12 c
          ∧ r.2.mem ((c.tc : Thread Cert.AdamSmallIdeal.nD Cert.AdamSmallIdeal.τ).loc Cert.AdamSmallIdeal.main_v0_13) = v13 c
          ∧ r.2.mem ((c.tc : Thread Cert.AdamSmallIdeal.nD Cert.AdamSmallIdeal.τ).loc Cert.AdamSmallIdeal.main_v0_14) = v14 c
          ∧ r.2.mem ((c.tc : Thread Cert.AdamSmallIdeal.nD Cert.AdamSmallIdeal.τ).loc Cert.AdamSmallIdeal.main_v0_15) = v15 c
          ∧ r.2.mem ((c.tc : Thread Cert.AdamSmallIdeal.nD Cert.AdamSmallIdeal.τ).loc Cert.AdamSmallIdeal.main_v0_16) = v16 c
          ∧ r.2.mem ((c.tc : Thread Cert.AdamSmallIdeal.nD Cert.AdamSmallIdeal.τ).loc Cert.AdamSmallIdeal.main_v0_17) = v17 c
          ∧ r.2.mem ((c.tc : Thread Cert.AdamSmallIdeal.nD Cert.AdamSmallIdeal.τ).loc Cert.AdamSmallIdeal.main_v0_18) = v18 c
          ∧ r.2.mem ((c.tc : Thread Cert.AdamSmallIdeal.nD Cert.AdamSmallIdeal.τ).loc Cert.AdamSmallIdeal.main_v0_19) = v19 c
          ∧ r.2.mem ((c.tc : Thread Cert.AdamSmallIdeal.nD Cert.AdamSmallIdeal.τ).loc Cert.AdamSmallIdeal.main_v0_20) = v20 c
          ∧ r.2.mem ((c.tc : Thread Cert.AdamSmallIdeal.nD Cert.AdamSmallIdeal.τ).loc Cert.AdamSmallIdeal.main_v0_21) = v21 c
          ∧ r.2.mem ((c.tc : Thread Cert.AdamSmallIdeal.nD Cert.AdamSmallIdeal.τ).loc Cert.AdamSmallIdeal.main_v0_22) = v22 c
          ∧ r.2.mem ((c.tc : Thread Cert.AdamSmallIdeal.nD Cert.AdamSmallIdeal.τ).loc Cert.AdamSmallIdeal.main_v0_23) = v23 c
          ∧ r.2.mem ((c.tc : Thread Cert.AdamSmallIdeal.nD Cert.AdamSmallIdeal.τ).loc Cert.AdamSmallIdeal.main_v0_24) = v24 c
          ∧ r.2.mem ((c.tc : Thread Cert.AdamSmallIdeal.nD Cert.AdamSmallIdeal.τ).loc Cert.AdamSmallIdeal.main_v0_25) = v25 c
          ∧ r.2.mem ((c.tc : Thread Cert.AdamSmallIdeal.nD Cert.AdamSmallIdeal.τ).loc Cert.AdamSmallIdeal.main_v0_26) = v26 c
          ∧ r.2.mem ((c.tc : Thread Cert.AdamSmallIdeal.nD Cert.AdamSmallIdeal.τ).loc Cert.AdamSmallIdeal.main_v0_27) = v27 c
          ∧ r.2.mem ((c.tc : Thread Cert.AdamSmallIdeal.nD Cert.AdamSmallIdeal.τ).loc Cert.AdamSmallIdeal.main_v0_28) = v28 c
          ∧ r.2.mem ((c.tc : Thread Cert.AdamSmallIdeal.nD Cert.AdamSmallIdeal.τ).loc Cert.AdamSmallIdeal.main_v0_29) = v29 c
          ∧ r.2.mem ((c.tc : Thread Cert.AdamSmallIdeal.nD Cert.AdamSmallIdeal.τ).loc Cert.AdamSmallIdeal.main_v0_30) = v30 c
          ∧ r.2.mem ((c.tc : Thread Cert.AdamSmallIdeal.nD Cert.AdamSmallIdeal.τ).loc Cert.AdamSmallIdeal.main_v0_31) = v31 c
          ∧ r.2.mem ((c.tc : Thread Cert.AdamSmallIdeal.nD Cert.AdamSmallIdeal.τ).loc Cert.AdamSmallIdeal.main_v0_32) = v32 c
          ∧ r.2.mem ((c.tc : Thread Cert.AdamSmallIdeal.nD Cert.AdamSmallIdeal.τ).loc Cert.AdamSmallIdeal.main_v0_33) = v33 c
          ∧ r.2.mem ((c.tc : Thread Cert.AdamSmallIdeal.nD Cert.AdamSmallIdeal.τ).loc Cert.AdamSmallIdeal.main_v0_34) = v34 c
          ∧ r.2.mem ((c.tc : Thread Cert.AdamSmallIdeal.nD Cert.AdamSmallIdeal.τ).loc Cert.AdamSmallIdeal.main_v0_35) = v35 c
          ∧ r.2.mem ((c.tc : Thread Cert.AdamSmallIdeal.nD Cert.AdamSmallIdeal.τ).loc Cert.AdamSmallIdeal.main_v0_36) = v36 c
          ∧ r.2.mem ((c.tc : Thread Cert.AdamSmallIdeal.nD Cert.AdamSmallIdeal.τ).loc Cert.AdamSmallIdeal.main_v0_37) = v37 c
          ∧ r.2.mem ((c.tc : Thread Cert.AdamSmallIdeal.nD Cert.AdamSmallIdeal.τ).loc Cert.AdamSmallIdeal.main_v0_38) = v38 c
          ∧ r.2.mem ((c.tc : Thread Cert.AdamSmallIdeal.nD Cert.AdamSmallIdeal.τ).loc Cert.AdamSmallIdeal.main_v0_39) = v39 c
          ∧ r.2.mem ((c.tc : Thread Cert.AdamSmallIdeal.nD Cert.AdamSmallIdeal.τ).loc Cert.AdamSmallIdeal.main_v0_40) = v40 c
          ∧ r.2.mem ((c.tc : Thread Cert.AdamSmallIdeal.nD Cert.AdamSmallIdeal.τ).loc Cert.AdamSmallIdeal.main_v0_41) = v41 c
          ∧ r.2.mem ((c.tc : Thread Cert.AdamSmallIdeal.nD Cert.AdamSmallIdeal.τ).loc Cert.AdamSmallIdeal.main_v0_42) = v42 c
          ∧ r.2.mem ((c.tc : Thread Cert.AdamSmallIdeal.nD Cert.AdamSmallIdeal.τ).loc Cert.AdamSmallIdeal.main_v0_43) = v43 c
          ∧ r.2.mem ((c.tc : Thread Cert.AdamSmallIdeal.nD Cert.AdamSmallIdeal.τ).loc Cert.AdamSmallIdeal.main_v0_44) = v44 c
          ∧ r.2.mem ((c.tc : Thread Cert.AdamSmallIdeal.nD Cert.AdamSmallIdeal.τ).loc Cert.AdamSmallIdeal.main_v0_45) = v45 c
          ∧ r.2.mem ((c.tc : Thread Cert.AdamSmallIdeal.nD Cert.AdamSmallIdeal.τ).loc Cert.AdamSmallIdeal.main_v0_46) = v46 c
          ∧ r.2.mem ((c.tc : Thread Cert.AdamSmallIdeal.nD Cert.AdamSmallIdeal.τ).loc Cert.AdamSmallIdeal.main_v0_47) = v47 c
          ∧ r.2.mem ((c.tc : Thread Cert.AdamSmallIdeal.nD Cert.AdamSmallIdeal.τ).loc Cert.AdamSmallIdeal.main_v0_48) = v48 c
          ∧ r.2.mem ((c.tc : Thread Cert.AdamSmallIdeal.nD Cert.AdamSmallIdeal.τ).loc Cert.AdamSmallIdeal.main_v0_49) = v49 c
          ∧ r.2.mem ((c.tc : Thread Cert.AdamSmallIdeal.nD Cert.AdamSmallIdeal.τ).loc Cert.AdamSmallIdeal.main_v0_50) = v50 c
          ∧ r.2.mem ((c.tc : Thread Cert.AdamSmallIdeal.nD Cert.AdamSmallIdeal.τ).loc Cert.AdamSmallIdeal.main_v0_51) = v51 c
          ∧ r.2.mem ((c.tc : Thread Cert.AdamSmallIdeal.nD Cert.AdamSmallIdeal.τ).loc Cert.AdamSmallIdeal.main_v0_52) = v52 c
          ∧ r.2.mem ((c.tc : Thread Cert.AdamSmallIdeal.nD Cert.AdamSmallIdeal.τ).loc Cert.AdamSmallIdeal.main_v0_53) = v53 c
          ∧ r.2.mem ((c.tc : Thread Cert.AdamSmallIdeal.nD Cert.AdamSmallIdeal.τ).loc Cert.AdamSmallIdeal.main_v0_54) = v54 c
          ∧ r.2.mem ((c.tc : Thread Cert.AdamSmallIdeal.nD Cert.AdamSmallIdeal.τ).loc Cert.AdamSmallIdeal.main_v0_55) = v55 c
          ∧ r.2.mem ((c.tc : Thread Cert.AdamSmallIdeal.nD Cert.AdamSmallIdeal.τ).loc Cert.AdamSmallIdeal.main_v0_56) = v56 c
          ∧ r.2.mem ((c.tc : Thread Cert.AdamSmallIdeal.nD Cert.AdamSmallIdeal.τ).loc Cert.AdamSmallIdeal.main_v0_57) = v57 c
          ∧ r.2.mem ((c.tc : Thread Cert.AdamSmallIdeal.nD Cert.AdamSmallIdeal.τ).loc Cert.AdamSmallIdeal.main_v0_58) = v58 c
          ∧ r.2.mem ((c.tc : Thread Cert.AdamSmallIdeal.nD Cert.AdamSmallIdeal.τ).loc Cert.AdamSmallIdeal.main_v0_59) = v59 c
          ∧ r.2.mem ((c.tc : Thread Cert.AdamSmallIdeal.nD Cert.AdamSmallIdeal.τ).loc Cert.AdamSmallIdeal.main_v0_60) = v60 c
          ∧ r.2.mem ((c.tc : Thread Cert.AdamSmallIdeal.nD Cert.AdamSmallIdeal.τ).loc Cert.AdamSmallIdeal.main_v0_61) = v61 c
          ∧ r.2.mem ((c.tc : Thread Cert.AdamSmallIdeal.nD Cert.AdamSmallIdeal.τ).loc Cert.AdamSmallIdeal.main_v0_62) = v62 c
          ∧ r.2.mem ((c.tc : Thread Cert.AdamSmallIdeal.nD Cert.AdamSmallIdeal.τ).loc Cert.AdamSmallIdeal.main_v0_63) = v63 c
          ∧ r.2.mem ((c.tc : Thread Cert.AdamSmallIdeal.nD Cert.AdamSmallIdeal.τ).loc Cert.AdamSmallIdeal.main_v0_64) = v64 c
          ∧ r.2.mem ((c.tc : Thread Cert.AdamSmallIdeal.nD Cert.AdamSmallIdeal.τ).loc Cert.AdamSmallIdeal.main_v0_65) = v65 c
          ∧ r.2.mem ((c.tc : Thread Cert.AdamSmallIdeal.nD Cert.AdamSmallIdeal.τ).loc Cert.AdamSmallIdeal.main_v0_66) = v66 c
          ∧ r.2.mem ((c.tc : Thread Cert.AdamSmallIdeal.nD Cert.AdamSmallIdeal.τ).loc Cert.AdamSmallIdeal.main_v0_67) = v67 c
          ∧ r.2.mem ((c.tc : Thread Cert.AdamSmallIdeal.nD Cert.AdamSmallIdeal.τ).loc Cert.AdamSmallIdeal.main_v0_68) = v68 c
          ∧ r.2.mem ((c.tc : Thread Cert.AdamSmallIdeal.nD Cert.AdamSmallIdeal.τ).loc Cert.AdamSmallIdeal.main_v0_69) = v69 c
          ∧ r.2.mem ((c.tc : Thread Cert.AdamSmallIdeal.nD Cert.AdamSmallIdeal.τ).loc Cert.AdamSmallIdeal.main_v0_70) = v70 c
          ∧ r.2.mem ((c.tc : Thread Cert.AdamSmallIdeal.nD Cert.AdamSmallIdeal.τ).loc Cert.AdamSmallIdeal.main_v0_71) = v71 c
          ∧ r.2.mem ((c.tc : Thread Cert.AdamSmallIdeal.nD Cert.AdamSmallIdeal.τ).loc Cert.AdamSmallIdeal.main_v0_72) = v72 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39)
          ∧ r.2.mem ((c.tc : Thread Cert.AdamSmallIdeal.nD Cert.AdamSmallIdeal.τ).loc Cert.AdamSmallIdeal.main_arg40) = m ((c.tc : Thread Cert.AdamSmallIdeal.nD Cert.AdamSmallIdeal.τ).loc Cert.AdamSmallIdeal.main_arg40)
          ∧ r.2.mem ((c.tc : Thread Cert.AdamSmallIdeal.nD Cert.AdamSmallIdeal.τ).loc Cert.AdamSmallIdeal.main_arg41) = m ((c.tc : Thread Cert.AdamSmallIdeal.nD Cert.AdamSmallIdeal.τ).loc Cert.AdamSmallIdeal.main_arg41)
          ∧ r.2.mem ((c.tc : Thread Cert.AdamSmallIdeal.nD Cert.AdamSmallIdeal.τ).loc Cert.AdamSmallIdeal.main_arg42) = m ((c.tc : Thread Cert.AdamSmallIdeal.nD Cert.AdamSmallIdeal.τ).loc Cert.AdamSmallIdeal.main_arg42)
          ∧ r.2.mem ((c.tc : Thread Cert.AdamSmallIdeal.nD Cert.AdamSmallIdeal.τ).loc Cert.AdamSmallIdeal.main_arg43) = m ((c.tc : Thread Cert.AdamSmallIdeal.nD Cert.AdamSmallIdeal.τ).loc Cert.AdamSmallIdeal.main_arg43)
          ∧ r.2.mem ((c.tc : Thread Cert.AdamSmallIdeal.nD Cert.AdamSmallIdeal.τ).loc Cert.AdamSmallIdeal.main_arg44) = m ((c.tc : Thread Cert.AdamSmallIdeal.nD Cert.AdamSmallIdeal.τ).loc Cert.AdamSmallIdeal.main_arg44)
          ∧ r.2.mem ((c.tc : Thread Cert.AdamSmallIdeal.nD Cert.AdamSmallIdeal.τ).loc Cert.AdamSmallIdeal.main_arg45) = m ((c.tc : Thread Cert.AdamSmallIdeal.nD Cert.AdamSmallIdeal.τ).loc Cert.AdamSmallIdeal.main_arg45)
          ∧ r.2.mem ((c.tc : Thread Cert.AdamSmallIdeal.nD Cert.AdamSmallIdeal.τ).loc Cert.AdamSmallIdeal.main_arg46) = m ((c.tc : Thread Cert.AdamSmallIdeal.nD Cert.AdamSmallIdeal.τ).loc Cert.AdamSmallIdeal.main_arg46)
          ∧ r.2.mem ((c.tc : Thread Cert.AdamSmallIdeal.nD Cert.AdamSmallIdeal.τ).loc Cert.AdamSmallIdeal.main_arg47) = m ((c.tc : Thread Cert.AdamSmallIdeal.nD Cert.AdamSmallIdeal.τ).loc Cert.AdamSmallIdeal.main_arg47)
          ∧ r.2.mem ((c.tc : Thread Cert.AdamSmallIdeal.nD Cert.AdamSmallIdeal.τ).loc Cert.AdamSmallIdeal.main_arg48) = m ((c.tc : Thread Cert.AdamSmallIdeal.nD Cert.AdamSmallIdeal.τ).loc Cert.AdamSmallIdeal.main_arg48)
          ∧ r.2.mem ((c.tc : Thread Cert.AdamSmallIdeal.nD Cert.AdamSmallIdeal.τ).loc Cert.AdamSmallIdeal.main_arg49) = m ((c.tc : Thread Cert.AdamSmallIdeal.nD Cert.AdamSmallIdeal.τ).loc Cert.AdamSmallIdeal.main_arg49)
          ∧ r.2.mem ((c.tc : Thread Cert.AdamSmallIdeal.nD Cert.AdamSmallIdeal.τ).loc Cert.AdamSmallIdeal.main_arg50) = m ((c.tc : Thread Cert.AdamSmallIdeal.nD Cert.AdamSmallIdeal.τ).loc Cert.AdamSmallIdeal.main_arg50)
          ∧ r.2.mem ((c.tc : Thread Cert.AdamSmallIdeal.nD Cert.AdamSmallIdeal.τ).loc Cert.AdamSmallIdeal.main_arg51) = m ((c.tc : Thread Cert.AdamSmallIdeal.nD Cert.AdamSmallIdeal.τ).loc Cert.AdamSmallIdeal.main_arg51)
          ∧ r.2.mem ((c.tc : Thread Cert.AdamSmallIdeal.nD Cert.AdamSmallIdeal.τ).loc Cert.AdamSmallIdeal.main_arg52) = m ((c.tc : Thread Cert.AdamSmallIdeal.nD Cert.AdamSmallIdeal.τ).loc Cert.AdamSmallIdeal.main_arg52)
          ∧ r.2.mem ((c.tc : Thread Cert.AdamSmallIdeal.nD Cert.AdamSmallIdeal.τ).loc Cert.AdamSmallIdeal.main_arg53) = m ((c.tc : Thread Cert.AdamSmallIdeal.nD Cert.AdamSmallIdeal.τ).loc Cert.AdamSmallIdeal.main_arg53)
          ∧ r.2.mem ((c.tc : Thread Cert.AdamSmallIdeal.nD Cert.AdamSmallIdeal.τ).loc Cert.AdamSmallIdeal.main_arg54) = m ((c.tc : Thread Cert.AdamSmallIdeal.nD Cert.AdamSmallIdeal.τ).loc Cert.AdamSmallIdeal.main_arg54)
          ∧ r.2.mem ((c.tc : Thread Cert.AdamSmallIdeal.nD Cert.AdamSmallIdeal.τ).loc Cert.AdamSmallIdeal.main_arg55) = m ((c.tc : Thread Cert.AdamSmallIdeal.nD Cert.AdamSmallIdeal.τ).loc Cert.AdamSmallIdeal.main_arg55)
          ∧ r.2.mem ((c.tc : Thread Cert.AdamSmallIdeal.nD Cert.AdamSmallIdeal.τ).loc Cert.AdamSmallIdeal.main_arg56) = m ((c.tc : Thread Cert.AdamSmallIdeal.nD Cert.AdamSmallIdeal.τ).loc Cert.AdamSmallIdeal.main_arg56)
          ∧ r.2.mem ((c.tc : Thread Cert.AdamSmallIdeal.nD Cert.AdamSmallIdeal.τ).loc Cert.AdamSmallIdeal.main_arg57) = m ((c.tc : Thread Cert.AdamSmallIdeal.nD Cert.AdamSmallIdeal.τ).loc Cert.AdamSmallIdeal.main_arg57)
          ∧ r.2.mem ((c.tc : Thread Cert.AdamSmallIdeal.nD Cert.AdamSmallIdeal.τ).loc Cert.AdamSmallIdeal.main_arg58) = m ((c.tc : Thread Cert.AdamSmallIdeal.nD Cert.AdamSmallIdeal.τ).loc Cert.AdamSmallIdeal.main_arg58)
          ∧ r.2.mem ((c.tc : Thread Cert.AdamSmallIdeal.nD Cert.AdamSmallIdeal.τ).loc Cert.AdamSmallIdeal.main_arg59) = m ((c.tc : Thread Cert.AdamSmallIdeal.nD Cert.AdamSmallIdeal.τ).loc Cert.AdamSmallIdeal.main_arg59)
          ∧ r.2.mem ((c.tc : Thread Cert.AdamSmallIdeal.nD Cert.AdamSmallIdeal.τ).loc Cert.AdamSmallIdeal.main_arg60) = m ((c.tc : Thread Cert.AdamSmallIdeal.nD Cert.AdamSmallIdeal.τ).loc Cert.AdamSmallIdeal.main_arg60))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v1) = v0 c
          ∧ r.2.mem ((c.tc : Thread Cert.AdamSmallRefIdeal.nD Cert.AdamSmallRefIdeal.τ).loc Cert.AdamSmallRefIdeal.main_v25) = v1 c
          ∧ r.2.mem ((c.tc : Thread Cert.AdamSmallRefIdeal.nD Cert.AdamSmallRefIdeal.τ).loc Cert.AdamSmallRefIdeal.main_v6) = v2 c
          ∧ r.2.mem ((c.tc : Thread Cert.AdamSmallRefIdeal.nD Cert.AdamSmallRefIdeal.τ).loc Cert.AdamSmallRefIdeal.main_v12) = v3 c
          ∧ r.2.mem ((c.tc : Thread Cert.AdamSmallRefIdeal.nD Cert.AdamSmallRefIdeal.τ).loc Cert.AdamSmallRefIdeal.main_v27) = v4 c
          ∧ r.2.mem ((c.tc : Thread Cert.AdamSmallRefIdeal.nD Cert.AdamSmallRefIdeal.τ).loc Cert.AdamSmallRefIdeal.main_v51) = v5 c
          ∧ r.2.mem ((c.tc : Thread Cert.AdamSmallRefIdeal.nD Cert.AdamSmallRefIdeal.τ).loc Cert.AdamSmallRefIdeal.main_v32) = v6 c
          ∧ r.2.mem ((c.tc : Thread Cert.AdamSmallRefIdeal.nD Cert.AdamSmallRefIdeal.τ).loc Cert.AdamSmallRefIdeal.main_v38) = v7 c
          ∧ r.2.mem ((c.tc : Thread Cert.AdamSmallRefIdeal.nD Cert.AdamSmallRefIdeal.τ).loc Cert.AdamSmallRefIdeal.main_v53) = v8 c
          ∧ r.2.mem ((c.tc : Thread Cert.AdamSmallRefIdeal.nD Cert.AdamSmallRefIdeal.τ).loc Cert.AdamSmallRefIdeal.main_v77) = v9 c
          ∧ r.2.mem ((c.tc : Thread Cert.AdamSmallRefIdeal.nD Cert.AdamSmallRefIdeal.τ).loc Cert.AdamSmallRefIdeal.main_v58) = v10 c
          ∧ r.2.mem ((c.tc : Thread Cert.AdamSmallRefIdeal.nD Cert.AdamSmallRefIdeal.τ).loc Cert.AdamSmallRefIdeal.main_v64) = v11 c
          ∧ r.2.mem ((c.tc : Thread Cert.AdamSmallRefIdeal.nD Cert.AdamSmallRefIdeal.τ).loc Cert.AdamSmallRefIdeal.main_v79) = v12 c
          ∧ r.2.mem ((c.tc : Thread Cert.AdamSmallRefIdeal.nD Cert.AdamSmallRefIdeal.τ).loc Cert.AdamSmallRefIdeal.main_v103) = v13 c
          ∧ r.2.mem ((c.tc : Thread Cert.AdamSmallRefIdeal.nD Cert.AdamSmallRefIdeal.τ).loc Cert.AdamSmallRefIdeal.main_v84) = v14 c
          ∧ r.2.mem ((c.tc : Thread Cert.AdamSmallRefIdeal.nD Cert.AdamSmallRefIdeal.τ).loc Cert.AdamSmallRefIdeal.main_v90) = v15 c
          ∧ r.2.mem ((c.tc : Thread Cert.AdamSmallRefIdeal.nD Cert.AdamSmallRefIdeal.τ).loc Cert.AdamSmallRefIdeal.main_v105) = v16 c
          ∧ r.2.mem ((c.tc : Thread Cert.AdamSmallRefIdeal.nD Cert.AdamSmallRefIdeal.τ).loc Cert.AdamSmallRefIdeal.main_v129) = v17 c
          ∧ r.2.mem ((c.tc : Thread Cert.AdamSmallRefIdeal.nD Cert.AdamSmallRefIdeal.τ).loc Cert.AdamSmallRefIdeal.main_v110) = v18 c
          ∧ r.2.mem ((c.tc : Thread Cert.AdamSmallRefIdeal.nD Cert.AdamSmallRefIdeal.τ).loc Cert.AdamSmallRefIdeal.main_v116) = v19 c
          ∧ r.2.mem ((c.tc : Thread Cert.AdamSmallRefIdeal.nD Cert.AdamSmallRefIdeal.τ).loc Cert.AdamSmallRefIdeal.main_v131) = v20 c
          ∧ r.2.mem ((c.tc : Thread Cert.AdamSmallRefIdeal.nD Cert.AdamSmallRefIdeal.τ).loc Cert.AdamSmallRefIdeal.main_v155) = v21 c
          ∧ r.2.mem ((c.tc : Thread Cert.AdamSmallRefIdeal.nD Cert.AdamSmallRefIdeal.τ).loc Cert.AdamSmallRefIdeal.main_v136) = v22 c
          ∧ r.2.mem ((c.tc : Thread Cert.AdamSmallRefIdeal.nD Cert.AdamSmallRefIdeal.τ).loc Cert.AdamSmallRefIdeal.main_v142) = v23 c
          ∧ r.2.mem ((c.tc : Thread Cert.AdamSmallRefIdeal.nD Cert.AdamSmallRefIdeal.τ).loc Cert.AdamSmallRefIdeal.main_v157) = v24 c
          ∧ r.2.mem ((c.tc : Thread Cert.AdamSmallRefIdeal.nD Cert.AdamSmallRefIdeal.τ).loc Cert.AdamSmallRefIdeal.main_v181) = v25 c
          ∧ r.2.mem ((c.tc : Thread Cert.AdamSmallRefIdeal.nD Cert.AdamSmallRefIdeal.τ).loc Cert.AdamSmallRefIdeal.main_v162) = v26 c
          ∧ r.2.mem ((c.tc : Thread Cert.AdamSmallRefIdeal.nD Cert.AdamSmallRefIdeal.τ).loc Cert.AdamSmallRefIdeal.main_v168) = v27 c
          ∧ r.2.mem ((c.tc : Thread Cert.AdamSmallRefIdeal.nD Cert.AdamSmallRefIdeal.τ).loc Cert.AdamSmallRefIdeal.main_v182) = v28 c
          ∧ r.2.mem ((c.tc : Thread Cert.AdamSmallRefIdeal.nD Cert.AdamSmallRefIdeal.τ).loc Cert.AdamSmallRefIdeal.main_v206) = v29 c
          ∧ r.2.mem ((c.tc : Thread Cert.AdamSmallRefIdeal.nD Cert.AdamSmallRefIdeal.τ).loc Cert.AdamSmallRefIdeal.main_v187) = v30 c
          ∧ r.2.mem ((c.tc : Thread Cert.AdamSmallRefIdeal.nD Cert.AdamSmallRefIdeal.τ).loc Cert.AdamSmallRefIdeal.main_v193) = v31 c
          ∧ r.2.mem ((c.tc : Thread Cert.AdamSmallRefIdeal.nD Cert.AdamSmallRefIdeal.τ).loc Cert.AdamSmallRefIdeal.main_v208) = v32 c
          ∧ r.2.mem ((c.tc : Thread Cert.AdamSmallRefIdeal.nD Cert.AdamSmallRefIdeal.τ).loc Cert.AdamSmallRefIdeal.main_v232) = v33 c
          ∧ r.2.mem ((c.tc : Thread Cert.AdamSmallRefIdeal.nD Cert.AdamSmallRefIdeal.τ).loc Cert.AdamSmallRefIdeal.main_v213) = v34 c
          ∧ r.2.mem ((c.tc : Thread Cert.AdamSmallRefIdeal.nD Cert.AdamSmallRefIdeal.τ).loc Cert.AdamSmallRefIdeal.main_v219) = v35 c
          ∧ r.2.mem ((c.tc : Thread Cert.AdamSmallRefIdeal.nD Cert.AdamSmallRefIdeal.τ).loc Cert.AdamSmallRefIdeal.main_v234) = v36 c
          ∧ r.2.mem ((c.tc : Thread Cert.AdamSmallRefIdeal.nD Cert.AdamSmallRefIdeal.τ).loc Cert.AdamSmallRefIdeal.main_v258) = v37 c
          ∧ r.2.mem ((c.tc : Thread Cert.AdamSmallRefIdeal.nD Cert.AdamSmallRefIdeal.τ).loc Cert.AdamSmallRefIdeal.main_v239) = v38 c
          ∧ r.2.mem ((c.tc : Thread Cert.AdamSmallRefIdeal.nD Cert.AdamSmallRefIdeal.τ).loc Cert.AdamSmallRefIdeal.main_v245) = v39 c
          ∧ r.2.mem ((c.tc : Thread Cert.AdamSmallRefIdeal.nD Cert.AdamSmallRefIdeal.τ).loc Cert.AdamSmallRefIdeal.main_v260) = v40 c
          ∧ r.2.mem ((c.tc : Thread Cert.AdamSmallRefIdeal.nD Cert.AdamSmallRefIdeal.τ).loc Cert.AdamSmallRefIdeal.main_v284) = v41 c
          ∧ r.2.mem ((c.tc : Thread Cert.AdamSmallRefIdeal.nD Cert.AdamSmallRefIdeal.τ).loc Cert.AdamSmallRefIdeal.main_v265) = v42 c
          ∧ r.2.mem ((c.tc : Thread Cert.AdamSmallRefIdeal.nD Cert.AdamSmallRefIdeal.τ).loc Cert.AdamSmallRefIdeal.main_v271) = v43 c
          ∧ r.2.mem ((c.tc : Thread Cert.AdamSmallRefIdeal.nD Cert.AdamSmallRefIdeal.τ).loc Cert.AdamSmallRefIdeal.main_v286) = v44 c
          ∧ r.2.mem ((c.tc : Thread Cert.AdamSmallRefIdeal.nD Cert.AdamSmallRefIdeal.τ).loc Cert.AdamSmallRefIdeal.main_v310) = v45 c
          ∧ r.2.mem ((c.tc : Thread Cert.AdamSmallRefIdeal.nD Cert.AdamSmallRefIdeal.τ).loc Cert.AdamSmallRefIdeal.main_v291) = v46 c
          ∧ r.2.mem ((c.tc : Thread Cert.AdamSmallRefIdeal.nD Cert.AdamSmallRefIdeal.τ).loc Cert.AdamSmallRefIdeal.main_v297) = v47 c
          ∧ r.2.mem ((c.tc : Thread Cert.AdamSmallRefIdeal.nD Cert.AdamSmallRefIdeal.τ).loc Cert.AdamSmallRefIdeal.main_v312) = v48 c
          ∧ r.2.mem ((c.tc : Thread Cert.AdamSmallRefIdeal.nD Cert.AdamSmallRefIdeal.τ).loc Cert.AdamSmallRefIdeal.main_v336) = v49 c
          ∧ r.2.mem ((c.tc : Thread Cert.AdamSmallRefIdeal.nD Cert.AdamSmallRefIdeal.τ).loc Cert.AdamSmallRefIdeal.main_v317) = v50 c
          ∧ r.2.mem ((c.tc : Thread Cert.AdamSmallRefIdeal.nD Cert.AdamSmallRefIdeal.τ).loc Cert.AdamSmallRefIdeal.main_v323) = v51 c
          ∧ r.2.mem ((c.tc : Thread Cert.AdamSmallRefIdeal.nD Cert.AdamSmallRefIdeal.τ).loc Cert.AdamSmallRefIdeal.main_v338) = v52 c
          ∧ r.2.mem ((c.tc : Thread Cert.AdamSmallRefIdeal.nD Cert.AdamSmallRefIdeal.τ).loc Cert.AdamSmallRefIdeal.main_v362) = v53 c
          ∧ r.2.mem ((c.tc : Thread Cert.AdamSmallRefIdeal.nD Cert.AdamSmallRefIdeal.τ).loc Cert.AdamSmallRefIdeal.main_v343) = v54 c
          ∧ r.2.mem ((c.tc : Thread Cert.AdamSmallRefIdeal.nD Cert.AdamSmallRefIdeal.τ).loc Cert.AdamSmallRefIdeal.main_v349) = v55 c
          ∧ r.2.mem ((c.tc : Thread Cert.AdamSmallRefIdeal.nD Cert.AdamSmallRefIdeal.τ).loc Cert.AdamSmallRefIdeal.main_v364) = v56 c
          ∧ r.2.mem ((c.tc : Thread Cert.AdamSmallRefIdeal.nD Cert.AdamSmallRefIdeal.τ).loc Cert.AdamSmallRefIdeal.main_v388) = v57 c
          ∧ r.2.mem ((c.tc : Thread Cert.AdamSmallRefIdeal.nD Cert.AdamSmallRefIdeal.τ).loc Cert.AdamSmallRefIdeal.main_v369) = v58 c
          ∧ r.2.mem ((c.tc : Thread Cert.AdamSmallRefIdeal.nD Cert.AdamSmallRefIdeal.τ).loc Cert.AdamSmallRefIdeal.main_v375) = v59 c
          ∧ r.2.mem ((c.tc : Thread Cert.AdamSmallRefIdeal.nD Cert.AdamSmallRefIdeal.τ).loc Cert.AdamSmallRefIdeal.main_v390) = v60 c
          ∧ r.2.mem ((c.tc : Thread Cert.AdamSmallRefIdeal.nD Cert.AdamSmallRefIdeal.τ).loc Cert.AdamSmallRefIdeal.main_v414) = v61 c
          ∧ r.2.mem ((c.tc : Thread Cert.AdamSmallRefIdeal.nD Cert.AdamSmallRefIdeal.τ).loc Cert.AdamSmallRefIdeal.main_v395) = v62 c
          ∧ r.2.mem ((c.tc : Thread Cert.AdamSmallRefIdeal.nD Cert.AdamSmallRefIdeal.τ).loc Cert.AdamSmallRefIdeal.main_v401) = v63 c
          ∧ r.2.mem ((c.tc : Thread Cert.AdamSmallRefIdeal.nD Cert.AdamSmallRefIdeal.τ).loc Cert.AdamSmallRefIdeal.main_v416) = v64 c
          ∧ r.2.mem ((c.tc : Thread Cert.AdamSmallRefIdeal.nD Cert.AdamSmallRefIdeal.τ).loc Cert.AdamSmallRefIdeal.main_v440) = v65 c
          ∧ r.2.mem ((c.tc : Thread Cert.AdamSmallRefIdeal.nD Cert.AdamSmallRefIdeal.τ).loc Cert.AdamSmallRefIdeal.main_v421) = v66 c
          ∧ r.2.mem ((c.tc : Thread Cert.AdamSmallRefIdeal.nD Cert.AdamSmallRefIdeal.τ).loc Cert.AdamSmallRefIdeal.main_v427) = v67 c
          ∧ r.2.mem ((c.tc : Thread Cert.AdamSmallRefIdeal.nD Cert.AdamSmallRefIdeal.τ).loc Cert.AdamSmallRefIdeal.main_v442) = v68 c
          ∧ r.2.mem ((c.tc : Thread Cert.AdamSmallRefIdeal.nD Cert.AdamSmallRefIdeal.τ).loc Cert.AdamSmallRefIdeal.main_v466) = v69 c
          ∧ r.2.mem ((c.tc : Thread Cert.AdamSmallRefIdeal.nD Cert.AdamSmallRefIdeal.τ).loc Cert.AdamSmallRefIdeal.main_v447) = v70 c
          ∧ r.2.mem ((c.tc : Thread Cert.AdamSmallRefIdeal.nD Cert.AdamSmallRefIdeal.τ).loc Cert.AdamSmallRefIdeal.main_v453) = v71 c
          ∧ r.2.mem ((c.tc : Thread Cert.AdamSmallRefIdeal.nD Cert.AdamSmallRefIdeal.τ).loc Cert.AdamSmallRefIdeal.main_v468) = v72 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39)
          ∧ r.2.mem ((c.tc : Thread Cert.AdamSmallRefIdeal.nD Cert.AdamSmallRefIdeal.τ).loc Cert.AdamSmallRefIdeal.main_arg40) = m' ((c.tc : Thread Cert.AdamSmallRefIdeal.nD Cert.AdamSmallRefIdeal.τ).loc Cert.AdamSmallRefIdeal.main_arg40)
          ∧ r.2.mem ((c.tc : Thread Cert.AdamSmallRefIdeal.nD Cert.AdamSmallRefIdeal.τ).loc Cert.AdamSmallRefIdeal.main_arg41) = m' ((c.tc : Thread Cert.AdamSmallRefIdeal.nD Cert.AdamSmallRefIdeal.τ).loc Cert.AdamSmallRefIdeal.main_arg41)
          ∧ r.2.mem ((c.tc : Thread Cert.AdamSmallRefIdeal.nD Cert.AdamSmallRefIdeal.τ).loc Cert.AdamSmallRefIdeal.main_arg42) = m' ((c.tc : Thread Cert.AdamSmallRefIdeal.nD Cert.AdamSmallRefIdeal.τ).loc Cert.AdamSmallRefIdeal.main_arg42)
          ∧ r.2.mem ((c.tc : Thread Cert.AdamSmallRefIdeal.nD Cert.AdamSmallRefIdeal.τ).loc Cert.AdamSmallRefIdeal.main_arg43) = m' ((c.tc : Thread Cert.AdamSmallRefIdeal.nD Cert.AdamSmallRefIdeal.τ).loc Cert.AdamSmallRefIdeal.main_arg43)
          ∧ r.2.mem ((c.tc : Thread Cert.AdamSmallRefIdeal.nD Cert.AdamSmallRefIdeal.τ).loc Cert.AdamSmallRefIdeal.main_arg44) = m' ((c.tc : Thread Cert.AdamSmallRefIdeal.nD Cert.AdamSmallRefIdeal.τ).loc Cert.AdamSmallRefIdeal.main_arg44)
          ∧ r.2.mem ((c.tc : Thread Cert.AdamSmallRefIdeal.nD Cert.AdamSmallRefIdeal.τ).loc Cert.AdamSmallRefIdeal.main_arg45) = m' ((c.tc : Thread Cert.AdamSmallRefIdeal.nD Cert.AdamSmallRefIdeal.τ).loc Cert.AdamSmallRefIdeal.main_arg45)
          ∧ r.2.mem ((c.tc : Thread Cert.AdamSmallRefIdeal.nD Cert.AdamSmallRefIdeal.τ).loc Cert.AdamSmallRefIdeal.main_arg46) = m' ((c.tc : Thread Cert.AdamSmallRefIdeal.nD Cert.AdamSmallRefIdeal.τ).loc Cert.AdamSmallRefIdeal.main_arg46)
          ∧ r.2.mem ((c.tc : Thread Cert.AdamSmallRefIdeal.nD Cert.AdamSmallRefIdeal.τ).loc Cert.AdamSmallRefIdeal.main_arg47) = m' ((c.tc : Thread Cert.AdamSmallRefIdeal.nD Cert.AdamSmallRefIdeal.τ).loc Cert.AdamSmallRefIdeal.main_arg47)
          ∧ r.2.mem ((c.tc : Thread Cert.AdamSmallRefIdeal.nD Cert.AdamSmallRefIdeal.τ).loc Cert.AdamSmallRefIdeal.main_arg48) = m' ((c.tc : Thread Cert.AdamSmallRefIdeal.nD Cert.AdamSmallRefIdeal.τ).loc Cert.AdamSmallRefIdeal.main_arg48)
          ∧ r.2.mem ((c.tc : Thread Cert.AdamSmallRefIdeal.nD Cert.AdamSmallRefIdeal.τ).loc Cert.AdamSmallRefIdeal.main_arg49) = m' ((c.tc : Thread Cert.AdamSmallRefIdeal.nD Cert.AdamSmallRefIdeal.τ).loc Cert.AdamSmallRefIdeal.main_arg49)
          ∧ r.2.mem ((c.tc : Thread Cert.AdamSmallRefIdeal.nD Cert.AdamSmallRefIdeal.τ).loc Cert.AdamSmallRefIdeal.main_arg50) = m' ((c.tc : Thread Cert.AdamSmallRefIdeal.nD Cert.AdamSmallRefIdeal.τ).loc Cert.AdamSmallRefIdeal.main_arg50)
          ∧ r.2.mem ((c.tc : Thread Cert.AdamSmallRefIdeal.nD Cert.AdamSmallRefIdeal.τ).loc Cert.AdamSmallRefIdeal.main_arg51) = m' ((c.tc : Thread Cert.AdamSmallRefIdeal.nD Cert.AdamSmallRefIdeal.τ).loc Cert.AdamSmallRefIdeal.main_arg51)
          ∧ r.2.mem ((c.tc : Thread Cert.AdamSmallRefIdeal.nD Cert.AdamSmallRefIdeal.τ).loc Cert.AdamSmallRefIdeal.main_arg52) = m' ((c.tc : Thread Cert.AdamSmallRefIdeal.nD Cert.AdamSmallRefIdeal.τ).loc Cert.AdamSmallRefIdeal.main_arg52)
          ∧ r.2.mem ((c.tc : Thread Cert.AdamSmallRefIdeal.nD Cert.AdamSmallRefIdeal.τ).loc Cert.AdamSmallRefIdeal.main_arg53) = m' ((c.tc : Thread Cert.AdamSmallRefIdeal.nD Cert.AdamSmallRefIdeal.τ).loc Cert.AdamSmallRefIdeal.main_arg53)
          ∧ r.2.mem ((c.tc : Thread Cert.AdamSmallRefIdeal.nD Cert.AdamSmallRefIdeal.τ).loc Cert.AdamSmallRefIdeal.main_arg54) = m' ((c.tc : Thread Cert.AdamSmallRefIdeal.nD Cert.AdamSmallRefIdeal.τ).loc Cert.AdamSmallRefIdeal.main_arg54)
          ∧ r.2.mem ((c.tc : Thread Cert.AdamSmallRefIdeal.nD Cert.AdamSmallRefIdeal.τ).loc Cert.AdamSmallRefIdeal.main_arg55) = m' ((c.tc : Thread Cert.AdamSmallRefIdeal.nD Cert.AdamSmallRefIdeal.τ).loc Cert.AdamSmallRefIdeal.main_arg55)
          ∧ r.2.mem ((c.tc : Thread Cert.AdamSmallRefIdeal.nD Cert.AdamSmallRefIdeal.τ).loc Cert.AdamSmallRefIdeal.main_arg56) = m' ((c.tc : Thread Cert.AdamSmallRefIdeal.nD Cert.AdamSmallRefIdeal.τ).loc Cert.AdamSmallRefIdeal.main_arg56)
          ∧ r.2.mem ((c.tc : Thread Cert.AdamSmallRefIdeal.nD Cert.AdamSmallRefIdeal.τ).loc Cert.AdamSmallRefIdeal.main_arg57) = m' ((c.tc : Thread Cert.AdamSmallRefIdeal.nD Cert.AdamSmallRefIdeal.τ).loc Cert.AdamSmallRefIdeal.main_arg57)
          ∧ r.2.mem ((c.tc : Thread Cert.AdamSmallRefIdeal.nD Cert.AdamSmallRefIdeal.τ).loc Cert.AdamSmallRefIdeal.main_arg58) = m' ((c.tc : Thread Cert.AdamSmallRefIdeal.nD Cert.AdamSmallRefIdeal.τ).loc Cert.AdamSmallRefIdeal.main_arg58)
          ∧ r.2.mem ((c.tc : Thread Cert.AdamSmallRefIdeal.nD Cert.AdamSmallRefIdeal.τ).loc Cert.AdamSmallRefIdeal.main_arg59) = m' ((c.tc : Thread Cert.AdamSmallRefIdeal.nD Cert.AdamSmallRefIdeal.τ).loc Cert.AdamSmallRefIdeal.main_arg59)
          ∧ r.2.mem ((c.tc : Thread Cert.AdamSmallRefIdeal.nD Cert.AdamSmallRefIdeal.τ).loc Cert.AdamSmallRefIdeal.main_arg60) = m' ((c.tc : Thread Cert.AdamSmallRefIdeal.nD Cert.AdamSmallRefIdeal.τ).loc Cert.AdamSmallRefIdeal.main_arg60))

def Claim : Prop :=
  ∃ (hDxEven : Cert.DxEven.Facts) (hDxEvenIdeal : Cert.DxEvenIdeal.Facts) (hDxEvenRefIdeal : Cert.DxEvenRefIdeal.Facts) (hDxOdd : Cert.DxOdd.Facts) (hDxOddIdeal : Cert.DxOddIdeal.Facts) (hDxOddRefIdeal : Cert.DxOddRefIdeal.Facts) (hDwInEven : Cert.DwInEven.Facts) (hDwInEvenIdeal : Cert.DwInEvenIdeal.Facts) (hDwInEvenRefIdeal : Cert.DwInEvenRefIdeal.Facts) (hDwInOdd : Cert.DwInOdd.Facts) (hDwInOddIdeal : Cert.DwInOddIdeal.Facts) (hDwInOddRefIdeal : Cert.DwInOddRefIdeal.Facts) (hDwOut : Cert.DwOut.Facts) (hDwOutIdeal : Cert.DwOutIdeal.Facts) (hDwOutRefIdeal : Cert.DwOutRefIdeal.Facts) (hInEven : Cert.InEven.Facts) (hInEvenIdeal : Cert.InEvenIdeal.Facts) (hInEvenRefIdeal : Cert.InEvenRefIdeal.Facts) (hInOdd : Cert.InOdd.Facts) (hInOddIdeal : Cert.InOddIdeal.Facts) (hInOddRefIdeal : Cert.InOddRefIdeal.Facts) (hKvIn : Cert.KvIn.Facts) (hKvInIdeal : Cert.KvInIdeal.Facts) (hKvInRefIdeal : Cert.KvInRefIdeal.Facts) (hKvBwd : Cert.KvBwd.Facts) (hKvBwdIdeal : Cert.KvBwdIdeal.Facts) (hKvBwdRefIdeal : Cert.KvBwdRefIdeal.Facts) (hAdamInEven : Cert.AdamInEven.Facts) (hAdamInEvenIdeal : Cert.AdamInEvenIdeal.Facts) (hAdamInEvenRefIdeal : Cert.AdamInEvenRefIdeal.Facts) (hAdamInOdd : Cert.AdamInOdd.Facts) (hAdamInOddIdeal : Cert.AdamInOddIdeal.Facts) (hAdamInOddRefIdeal : Cert.AdamInOddRefIdeal.Facts) (hAdamKv : Cert.AdamKv.Facts) (hAdamKvIdeal : Cert.AdamKvIdeal.Facts) (hAdamKvRefIdeal : Cert.AdamKvRefIdeal.Facts) (hAdamOut : Cert.AdamOut.Facts) (hAdamOutIdeal : Cert.AdamOutIdeal.Facts) (hAdamOutRefIdeal : Cert.AdamOutRefIdeal.Facts) (hAdamPw : Cert.AdamPw.Facts) (hAdamPwIdeal : Cert.AdamPwIdeal.Facts) (hAdamPwRefIdeal : Cert.AdamPwRefIdeal.Facts) (hAdamSmall : Cert.AdamSmall.Facts) (hAdamSmallIdeal : Cert.AdamSmallIdeal.Facts) (hAdamSmallRefIdeal : Cert.AdamSmallRefIdeal.Facts),
    quiescent_DxEven (hDxEven := hDxEven)
    ∧ quiescent_DxEvenIdeal (hDxEvenIdeal := hDxEvenIdeal)
    ∧ quiescent_DxEvenRefIdeal (hDxEvenRefIdeal := hDxEvenRefIdeal)
    ∧ quiescent_DxOdd (hDxOdd := hDxOdd)
    ∧ quiescent_DxOddIdeal (hDxOddIdeal := hDxOddIdeal)
    ∧ quiescent_DxOddRefIdeal (hDxOddRefIdeal := hDxOddRefIdeal)
    ∧ quiescent_DwInEven (hDwInEven := hDwInEven)
    ∧ quiescent_DwInEvenIdeal (hDwInEvenIdeal := hDwInEvenIdeal)
    ∧ quiescent_DwInEvenRefIdeal (hDwInEvenRefIdeal := hDwInEvenRefIdeal)
    ∧ quiescent_DwInOdd (hDwInOdd := hDwInOdd)
    ∧ quiescent_DwInOddIdeal (hDwInOddIdeal := hDwInOddIdeal)
    ∧ quiescent_DwInOddRefIdeal (hDwInOddRefIdeal := hDwInOddRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_InEven (hInEven := hInEven)
    ∧ quiescent_InEvenIdeal (hInEvenIdeal := hInEvenIdeal)
    ∧ quiescent_InEvenRefIdeal (hInEvenRefIdeal := hInEvenRefIdeal)
    ∧ quiescent_InOdd (hInOdd := hInOdd)
    ∧ quiescent_InOddIdeal (hInOddIdeal := hInOddIdeal)
    ∧ quiescent_InOddRefIdeal (hInOddRefIdeal := hInOddRefIdeal)
    ∧ quiescent_KvIn (hKvIn := hKvIn)
    ∧ quiescent_KvInIdeal (hKvInIdeal := hKvInIdeal)
    ∧ quiescent_KvInRefIdeal (hKvInRefIdeal := hKvInRefIdeal)
    ∧ quiescent_KvBwd (hKvBwd := hKvBwd)
    ∧ quiescent_KvBwdIdeal (hKvBwdIdeal := hKvBwdIdeal)
    ∧ quiescent_KvBwdRefIdeal (hKvBwdRefIdeal := hKvBwdRefIdeal)
    ∧ quiescent_AdamInEven (hAdamInEven := hAdamInEven)
    ∧ quiescent_AdamInEvenIdeal (hAdamInEvenIdeal := hAdamInEvenIdeal)
    ∧ quiescent_AdamInEvenRefIdeal (hAdamInEvenRefIdeal := hAdamInEvenRefIdeal)
    ∧ quiescent_AdamInOdd (hAdamInOdd := hAdamInOdd)
    ∧ quiescent_AdamInOddIdeal (hAdamInOddIdeal := hAdamInOddIdeal)
    ∧ quiescent_AdamInOddRefIdeal (hAdamInOddRefIdeal := hAdamInOddRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamPw (hAdamPw := hAdamPw)
    ∧ quiescent_AdamPwIdeal (hAdamPwIdeal := hAdamPwIdeal)
    ∧ quiescent_AdamPwRefIdeal (hAdamPwRefIdeal := hAdamPwRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_DxEven_DxEvenIdeal
    ∧ algebraic_DxEvenIdeal_DxEvenRefIdeal (hDxEvenIdeal := hDxEvenIdeal) (hDxEvenRefIdeal := hDxEvenRefIdeal)
    ∧ preserves_DxOdd_DxOddIdeal
    ∧ algebraic_DxOddIdeal_DxOddRefIdeal (hDxOddIdeal := hDxOddIdeal) (hDxOddRefIdeal := hDxOddRefIdeal)
    ∧ preserves_DwInEven_DwInEvenIdeal
    ∧ algebraic_DwInEvenIdeal_DwInEvenRefIdeal (hDwInEvenIdeal := hDwInEvenIdeal) (hDwInEvenRefIdeal := hDwInEvenRefIdeal)
    ∧ preserves_DwInOdd_DwInOddIdeal
    ∧ algebraic_DwInOddIdeal_DwInOddRefIdeal (hDwInOddIdeal := hDwInOddIdeal) (hDwInOddRefIdeal := hDwInOddRefIdeal)
    ∧ preserves_DwOut_DwOutIdeal
    ∧ algebraic_DwOutIdeal_DwOutRefIdeal (hDwOutIdeal := hDwOutIdeal) (hDwOutRefIdeal := hDwOutRefIdeal)
    ∧ preserves_InEven_InEvenIdeal
    ∧ algebraic_InEvenIdeal_InEvenRefIdeal (hInEvenIdeal := hInEvenIdeal) (hInEvenRefIdeal := hInEvenRefIdeal)
    ∧ preserves_InOdd_InOddIdeal
    ∧ algebraic_InOddIdeal_InOddRefIdeal (hInOddIdeal := hInOddIdeal) (hInOddRefIdeal := hInOddRefIdeal)
    ∧ preserves_KvIn_KvInIdeal
    ∧ algebraic_KvInIdeal_KvInRefIdeal (hKvInIdeal := hKvInIdeal) (hKvInRefIdeal := hKvInRefIdeal)
    ∧ preserves_KvBwd_KvBwdIdeal
    ∧ algebraic_KvBwdIdeal_KvBwdRefIdeal (hKvBwdIdeal := hKvBwdIdeal) (hKvBwdRefIdeal := hKvBwdRefIdeal)
    ∧ preserves_AdamInEven_AdamInEvenIdeal
    ∧ algebraic_AdamInEvenIdeal_AdamInEvenRefIdeal (hAdamInEvenIdeal := hAdamInEvenIdeal) (hAdamInEvenRefIdeal := hAdamInEvenRefIdeal)
    ∧ preserves_AdamInOdd_AdamInOddIdeal
    ∧ algebraic_AdamInOddIdeal_AdamInOddRefIdeal (hAdamInOddIdeal := hAdamInOddIdeal) (hAdamInOddRefIdeal := hAdamInOddRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamPw_AdamPwIdeal
    ∧ algebraic_AdamPwIdeal_AdamPwRefIdeal (hAdamPwIdeal := hAdamPwIdeal) (hAdamPwRefIdeal := hAdamPwRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== DxEven.lean ====
abbrev S4096x6400 : Shape := ⟨2, ![4096, 6400]⟩
abbrev S1024x6400 : Shape := ⟨2, ![1024, 6400]⟩
abbrev S4096x1024 : Shape := ⟨2, ![4096, 1024]⟩
abbrev S1x1024 : Shape := ⟨2, ![1, 1024]⟩
abbrev S6400x1024 : Shape := ⟨2, ![6400, 1024]⟩
abbrev S512x6400 : Shape := ⟨2, ![512, 6400]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S4096x6400, .f32⟩
  | .hbm, ⟨1, _⟩ => ⟨S1024x6400, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x6400, .bf16⟩
  | .hbm, ⟨6, _⟩ => ⟨S6400x1024, .f32⟩
  | .hbm, ⟨7, _⟩ => ⟨S6400x1024, .bf16⟩
  | .hbm, ⟨8, _⟩ => ⟨S4096x1024, .f32⟩
  | .hbm, ⟨9, _⟩ => ⟨S1x1024, .f32⟩
  | .local _ .vmem, ⟨0, _⟩ => ⟨S512x6400, .bf16⟩
  | .local _ .vmem, ⟨1, _⟩ => ⟨S512x6400, .bf16⟩
  | .local _ .vmem, ⟨2, _⟩ => ⟨S6400x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x6400 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6400x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DxEvenRefIdeal.lean ====
abbrev S4096x6400 : Shape := ⟨2, ![4096, 6400]⟩
abbrev S1024x6400 : Shape := ⟨2, ![1024, 6400]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S6400x1024 : Shape := ⟨2, ![6400, 1024]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x6400, .f32⟩
  | .hbm, ⟨1, _⟩ => ⟨S1024x6400, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x6400, .f32⟩
  | .hbm, ⟨25, _⟩ => ⟨S6400x1024, .f32⟩
  | .hbm, ⟨26, _⟩ => ⟨S1024x6400, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== DxOdd.lean ====
abbrev S4096x4864 : Shape := ⟨2, ![4096, 4864]⟩
abbrev S1024x4864 : Shape := ⟨2, ![1024, 4864]⟩
abbrev S4096x1024 : Shape := ⟨2, ![4096, 1024]⟩
abbrev S1x1024 : Shape := ⟨2, ![1, 1024]⟩
abbrev S4864x1024 : Shape := ⟨2, ![4864, 1024]⟩
abbrev S512x4864 : Shape := ⟨2, ![512, 4864]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 11
  | .smem => 0
  | _ => 0

abbrev bufTy : (tb : Table) → Fin (tcTables nBuf tb) → BufTy
  | .hbm, ⟨0, _⟩ => ⟨S4096x4864, .f32⟩
  | .hbm, ⟨1, _⟩ => ⟨S1024x4864, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x4864, .bf16⟩
  | .hbm, ⟨6, _⟩ => ⟨S4864x1024, .f32⟩
  | .hbm, ⟨7, _⟩ => ⟨S4864x1024, .bf16⟩
  | .hbm, ⟨8, _⟩ => ⟨S4096x1024, .f32⟩
  | .hbm, ⟨9, _⟩ => ⟨S1x1024, .f32⟩
  | .local _ .vmem, ⟨0, _⟩ => ⟨S512x4864, .bf16⟩
  | .local _ .vmem, ⟨1, _⟩ => ⟨S512x4864, .bf16⟩
  | .local _ .vmem, ⟨2, _⟩ => ⟨S4864x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S4096x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4864 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4864x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== DxOddRefIdeal.lean ====
abbrev S4096x4864 : Shape := ⟨2, ![4096, 4864]⟩
abbrev S1024x4864 : Shape := ⟨2, ![1024, 4864]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S4864x1024 : Shape := ⟨2, ![4864, 1024]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S4096x4864, .f32⟩
  | .hbm, ⟨1, _⟩ => ⟨S1024x4864, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4864, .f32⟩
  | .hbm, ⟨25, _⟩ => ⟨S4864x1024, .f32⟩
  | .hbm, ⟨26, _⟩ => ⟨S1024x4864, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | _, _ => ⟨S4096x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== DwInEven.lean ====
abbrev S4096x6400 : Shape := ⟨2, ![4096, 6400]⟩
abbrev S4096x1024 : Shape := ⟨2, ![4096, 1024]⟩
abbrev S1x1024 : Shape := ⟨2, ![1, 1024]⟩
abbrev S1024x6400 : Shape := ⟨2, ![1024, 6400]⟩
abbrev S_ : Shape := ⟨0, ![]⟩
abbrev S4096 : Shape := ⟨1, ![4096]⟩
abbrev S4096x1 : Shape := ⟨2, ![4096, 1]⟩
abbrev S6400x1024 : Shape := ⟨2, ![6400, 1024]⟩
abbrev S1024x3200 : Shape := ⟨2, ![1024, 3200]⟩
abbrev S1024x1024 : Shape := ⟨2, ![1024, 1024]⟩
abbrev S3200x1024 : Shape := ⟨2, ![3200, 1024]⟩

abbrev nBuf : Space → Nat
  | .hbm => 22
  | .vmem => 7
  | .smem => 0
  | _ => 0

abbrev bufTy : (tb : Table) → Fin (tcTables nBuf tb) → BufTy
  | .hbm, ⟨0, _⟩ => ⟨S4096x6400, .f32⟩
  | .hbm, ⟨1, _⟩ => ⟨S4096x1024, .f32⟩
  | .hbm, ⟨2, _⟩ => ⟨S1x1024, .f32⟩
  | .hbm, ⟨3, _⟩ => ⟨S1024x6400, .f32⟩
  | .hbm, ⟨4, _⟩ => ⟨S4096x6400, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S6400x1024, .bf16⟩
  | .local _ .vmem, ⟨0, _⟩ => ⟨S1024x3200, .bf16⟩
  | .local _ .vmem, ⟨1, _⟩ => ⟨S1024x3200, .bf16⟩
  | .local _ .vmem, ⟨2, _⟩ => ⟨S1024x1024, .bf16⟩
  | .local _ .vmem, ⟨3, _⟩ => ⟨S1024x1024, .bf16⟩
  | .local _ .vmem, ⟨4, _⟩ => ⟨S3200x1024, .bf16⟩
  | .local _ .vmem, ⟨5, _⟩ => ⟨S3200x1024, .bf16⟩
  | .local _ .vmem, ⟨6, _⟩ => ⟨S3200x1024, .f32⟩
  | _, _ => ⟨S4096x6400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x3200 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S3200x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInEvenRefIdeal.lean ====
abbrev S4096x6400 : Shape := ⟨2, ![4096, 6400]⟩
abbrev S4096x1024 : Shape := ⟨2, ![4096, 1024]⟩
abbrev S1x1024 : Shape := ⟨2, ![1, 1024]⟩
abbrev S1024x6400 : Shape := ⟨2, ![1024, 6400]⟩
abbrev S_ : Shape := ⟨0, ![]⟩
abbrev S4096 : Shape := ⟨1, ![4096]⟩
abbrev S4096x1 : Shape := ⟨2, ![4096, 1]⟩
abbrev S6400x1024 : Shape := ⟨2, ![6400, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x6400, .f32⟩
  | .hbm, ⟨1, _⟩ => ⟨S4096x1024, .f32⟩
  | .hbm, ⟨2, _⟩ => ⟨S1x1024, .f32⟩
  | .hbm, ⟨3, _⟩ => ⟨S1024x6400, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x6400, .f32⟩
  | .hbm, ⟨20, _⟩ => ⟨S6400x1024, .f32⟩
  | .hbm, ⟨21, _⟩ => ⟨S1024x6400, .f32⟩
  | .hbm, ⟨22, _⟩ => ⟨S6400x1024, .f32⟩
  | .hbm, ⟨23, _⟩ => ⟨S6400x1024, .bf16⟩
  | _, _ => ⟨S4096x6400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== DwInOdd.lean ====
abbrev S4096x4864 : Shape := ⟨2, ![4096, 4864]⟩
abbrev S4096x1024 : Shape := ⟨2, ![4096, 1024]⟩
abbrev S1x1024 : Shape := ⟨2, ![1, 1024]⟩
abbrev S1024x4864 : Shape := ⟨2, ![1024, 4864]⟩
abbrev S_ : Shape := ⟨0, ![]⟩
abbrev S4096 : Shape := ⟨1, ![4096]⟩
abbrev S4096x1 : Shape := ⟨2, ![4096, 1]⟩
abbrev S4864x1024 : Shape := ⟨2, ![4864, 1024]⟩
abbrev S1024x2432 : Shape := ⟨2, ![1024, 2432]⟩
abbrev S1024x1024 : Shape := ⟨2, ![1024, 1024]⟩
abbrev S2432x1024 : Shape := ⟨2, ![2432, 1024]⟩

abbrev nBuf : Space → Nat
  | .hbm => 22
  | .vmem => 7
  | .smem => 0
  | _ => 0

abbrev bufTy : (tb : Table) → Fin (tcTables nBuf tb) → BufTy
  | .hbm, ⟨0, _⟩ => ⟨S4096x4864, .f32⟩
  | .hbm, ⟨1, _⟩ => ⟨S4096x1024, .f32⟩
  | .hbm, ⟨2, _⟩ => ⟨S1x1024, .f32⟩
  | .hbm, ⟨3, _⟩ => ⟨S1024x4864, .f32⟩
  | .hbm, ⟨4, _⟩ => ⟨S4096x4864, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | .hbm, ⟨21, _⟩ => ⟨S4864x1024, .bf16⟩
  | .local _ .vmem, ⟨0, _⟩ => ⟨S1024x2432, .bf16⟩
  | .local _ .vmem, ⟨1, _⟩ => ⟨S1024x2432, .bf16⟩
  | .local _ .vmem, ⟨2, _⟩ => ⟨S1024x1024, .bf16⟩
  | .local _ .vmem, ⟨3, _⟩ => ⟨S1024x1024, .bf16⟩
  | .local _ .vmem, ⟨4, _⟩ => ⟨S2432x1024, .bf16⟩
  | .local _ .vmem, ⟨5, _⟩ => ⟨S2432x1024, .bf16⟩
  | .local _ .vmem, ⟨6, _⟩ => ⟨S2432x1024, .f32⟩
  | _, _ => ⟨S4096x4864, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2432x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwInOddRefIdeal.lean ====
abbrev S4096x4864 : Shape := ⟨2, ![4096, 4864]⟩
abbrev S4096x1024 : Shape := ⟨2, ![4096, 1024]⟩
abbrev S1x1024 : Shape := ⟨2, ![1, 1024]⟩
abbrev S1024x4864 : Shape := ⟨2, ![1024, 4864]⟩
abbrev S_ : Shape := ⟨0, ![]⟩
abbrev S4096 : Shape := ⟨1, ![4096]⟩
abbrev S4096x1 : Shape := ⟨2, ![4096, 1]⟩
abbrev S4864x1024 : Shape := ⟨2, ![4864, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x4864, .f32⟩
  | .hbm, ⟨1, _⟩ => ⟨S4096x1024, .f32⟩
  | .hbm, ⟨2, _⟩ => ⟨S1x1024, .f32⟩
  | .hbm, ⟨3, _⟩ => ⟨S1024x4864, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x4864, .f32⟩
  | .hbm, ⟨20, _⟩ => ⟨S4864x1024, .f32⟩
  | .hbm, ⟨21, _⟩ => ⟨S1024x4864, .f32⟩
  | .hbm, ⟨22, _⟩ => ⟨S4864x1024, .f32⟩
  | .hbm, ⟨23, _⟩ => ⟨S4864x1024, .bf16⟩
  | _, _ => ⟨S4096x4864, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== DwOut.lean ====
abbrev S4096x2048 : Shape := ⟨2, ![4096, 2048]⟩
abbrev S4096x1024 : Shape := ⟨2, ![4096, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S2048x1024, .f32⟩
  | .hbm, ⟨3, _⟩ => ⟨S4096x2048, .bf16⟩
  | .hbm, ⟨4, _⟩ => ⟨S4096x1024, .bf16⟩
  | .hbm, ⟨5, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v13 : BitVec 1 := Scalar.cmpi .eq arg1 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DwOutRefIdeal.lean ====
abbrev S4096x2048 : Shape := ⟨2, ![4096, 2048]⟩
abbrev S4096x1024 : Shape := ⟨2, ![4096, 1024]⟩
abbrev S2048x1024 : Shape := ⟨2, ![2048, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S2048x1024, .f32⟩
  | .hbm, ⟨3, _⟩ => ⟨S4096x1024, .f32⟩
  | .hbm, ⟨4, _⟩ => ⟨S1024x2048, .f32⟩
  | .hbm, ⟨5, _⟩ => ⟨S2048x1024, .f32⟩
  | .hbm, ⟨6, _⟩ => ⟨S2048x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InEven.lean ====
abbrev S4096x1024 : Shape := ⟨2, ![4096, 1024]⟩
abbrev S1x1024 : Shape := ⟨2, ![1, 1024]⟩
abbrev S1024x6400 : Shape := ⟨2, ![1024, 6400]⟩
abbrev S6400x1024 : Shape := ⟨2, ![6400, 1024]⟩
abbrev S4096x6400 : Shape := ⟨2, ![4096, 6400]⟩
abbrev S512x1024 : Shape := ⟨2, ![512, 1024]⟩
abbrev S512x6400 : Shape := ⟨2, ![512, 6400]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6400, .f32⟩
  | .hbm, ⟨3, _⟩ => ⟨S6400x1024, .f32⟩
  | .hbm, ⟨4, _⟩ => ⟨S6400x1024, .bf16⟩
  | .hbm, ⟨5, _⟩ => ⟨S4096x6400, .f32⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S6400x1024, .bf16⟩
  | .local _ .vmem, ⟨4, _⟩ => ⟨S512x6400, .f32⟩
  | .local _ .vmem, ⟨5, _⟩ => ⟨S512x6400, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S6400x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x6400 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InEvenRefIdeal.lean ====
abbrev S4096x1024 : Shape := ⟨2, ![4096, 1024]⟩
abbrev S1x1024 : Shape := ⟨2, ![1, 1024]⟩
abbrev S1024x6400 : Shape := ⟨2, ![1024, 6400]⟩
abbrev S_ : Shape := ⟨0, ![]⟩
abbrev S4096 : Shape := ⟨1, ![4096]⟩
abbrev S4096x1 : Shape := ⟨2, ![4096, 1]⟩
abbrev S4096x6400 : Shape := ⟨2, ![4096, 6400]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x6400, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x6400, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== InOdd.lean ====
abbrev S4096x1024 : Shape := ⟨2, ![4096, 1024]⟩
abbrev S1x1024 : Shape := ⟨2, ![1, 1024]⟩
abbrev S1024x4864 : Shape := ⟨2, ![1024, 4864]⟩
abbrev S4864x1024 : Shape := ⟨2, ![4864, 1024]⟩
abbrev S4096x4864 : Shape := ⟨2, ![4096, 4864]⟩
abbrev S512x1024 : Shape := ⟨2, ![512, 1024]⟩
abbrev S512x4864 : Shape := ⟨2, ![512, 4864]⟩
abbrev S512 : Shape := ⟨1, ![512]⟩
abbrev S512x1 : Shape := ⟨2, ![512, 1]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4864, .f32⟩
  | .hbm, ⟨3, _⟩ => ⟨S4864x1024, .f32⟩
  | .hbm, ⟨4, _⟩ => ⟨S4864x1024, .bf16⟩
  | .hbm, ⟨5, _⟩ => ⟨S4096x4864, .f32⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4864x1024, .bf16⟩
  | .local _ .vmem, ⟨4, _⟩ => ⟨S512x4864, .f32⟩
  | .local _ .vmem, ⟨5, _⟩ => ⟨S512x4864, .f32⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4864x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4864 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InOddRefIdeal.lean ====
abbrev S4096x1024 : Shape := ⟨2, ![4096, 1024]⟩
abbrev S1x1024 : Shape := ⟨2, ![1, 1024]⟩
abbrev S1024x4864 : Shape := ⟨2, ![1024, 4864]⟩
abbrev S_ : Shape := ⟨0, ![]⟩
abbrev S4096 : Shape := ⟨1, ![4096]⟩
abbrev S4096x1 : Shape := ⟨2, ![4096, 1]⟩
abbrev S4096x4864 : Shape := ⟨2, ![4096, 4864]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x4864, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x4864, .f32⟩
  | .hbm, ⟨19, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== KvIn.lean ====
abbrev S256x1024 : Shape := ⟨2, ![256, 1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 6
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .f32⟩
  | .hbm, ⟨3, _⟩ => ⟨S1024x1024, .bf16⟩
  | .hbm, ⟨4, _⟩ => ⟨S256x1024, .bf16⟩
  | .hbm, ⟨5, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S256x1024, .bf16⟩
  | .local _ .vmem, ⟨4, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== KvInRefIdeal.lean ====
abbrev S256x1024 : Shape := ⟨2, ![256, 1024]⟩
abbrev S1x1024 : Shape := ⟨2, ![1, 1024]⟩
abbrev S1024x1024 : Shape := ⟨2, ![1024, 1024]⟩
abbrev S_ : Shape := ⟨0, ![]⟩
abbrev S256 : Shape := ⟨1, ![256]⟩
abbrev S256x1 : Shape := ⟨2, ![256, 1]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .bf16⟩
  | .hbm, ⟨20, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== KvBwd.lean ====
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 24
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .hbm, ⟨3, _⟩ => ⟨S1x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .bf16⟩
  | .hbm, ⟨20, _⟩ => ⟨S256x1024, .bf16⟩
  | .hbm, ⟨21, _⟩ => ⟨S1024x1024, .bf16⟩
  | .hbm, ⟨22, _⟩ => ⟨S1024x1024, .bf16⟩
  | .hbm, ⟨23, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S1024x1024, .bf16⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KvBwdRefIdeal.lean ====
abbrev S256x1024 : Shape := ⟨2, ![256, 1024]⟩
abbrev S1024x1024 : Shape := ⟨2, ![1024, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 28
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S256x1024, .f32⟩
  | .hbm, ⟨3, _⟩ => ⟨S1x1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S1024x1024, .f32⟩
  | .hbm, ⟨21, _⟩ => ⟨S1024x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S1024x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== AdamInEven.lean ====
abbrev S4x800x1024 : Shape := ⟨3, ![4, 800, 1024]⟩
abbrev S800x1024 : Shape := ⟨2, ![800, 1024]⟩
abbrev S4x400x1024 : Shape := ⟨3, ![4, 400, 1024]⟩
abbrev S400x1024 : Shape := ⟨2, ![400, 1024]⟩
abbrev S1x400x1024 : Shape := ⟨3, ![1, 400, 1024]⟩

abbrev nBuf : Space → Nat
  | .hbm => 9
  | .vmem => 16
  | .smem => 0
  | _ => 0

abbrev bufTy : (tb : Table) → Fin (tcTables nBuf tb) → BufTy
  | .hbm, ⟨0, _⟩ => ⟨S4x800x1024, .f32⟩
  | .hbm, ⟨1, _⟩ => ⟨S800x1024, .f32⟩
  | .hbm, ⟨2, _⟩ => ⟨S800x1024, .f32⟩
  | .hbm, ⟨3, _⟩ => ⟨S800x1024, .f32⟩
  | .hbm, ⟨4, _⟩ => ⟨S4x800x1024, .bf16⟩
  | .hbm, ⟨5, _⟩ => ⟨S800x1024, .f32⟩
  | .hbm, ⟨6, _⟩ => ⟨S800x1024, .f32⟩
  | .hbm, ⟨7, _⟩ => ⟨S800x1024, .f32⟩
  | .hbm, ⟨8, _⟩ => ⟨S800x1024, .f32⟩
  | .local _ .vmem, ⟨0, _⟩ => ⟨S4x400x1024, .bf16⟩
  | .local _ .vmem, ⟨1, _⟩ => ⟨S4x400x1024, .bf16⟩
  | .local _ .vmem, ⟨2, _⟩ => ⟨S400x1024, .f32⟩
  | .local _ .vmem, ⟨3, _⟩ => ⟨S400x1024, .f32⟩
  | .local _ .vmem, ⟨4, _⟩ => ⟨S400x1024, .f32⟩
  | .local _ .vmem, ⟨5, _⟩ => ⟨S400x1024, .f32⟩
  | .local _ .vmem, ⟨6, _⟩ => ⟨S400x1024, .f32⟩
  | .local _ .vmem, ⟨7, _⟩ => ⟨S400x1024, .f32⟩
  | .local _ .vmem, ⟨8, _⟩ => ⟨S400x1024, .f32⟩
  | .local _ .vmem, ⟨9, _⟩ => ⟨S400x1024, .f32⟩
  | .local _ .vmem, ⟨10, _⟩ => ⟨S400x1024, .f32⟩
  | .local _ .vmem, ⟨11, _⟩ => ⟨S400x1024, .f32⟩
  | .local _ .vmem, ⟨12, _⟩ => ⟨S400x1024, .f32⟩
  | .local _ .vmem, ⟨13, _⟩ => ⟨S400x1024, .f32⟩
  | .local _ .vmem, ⟨14, _⟩ => ⟨S400x1024, .f32⟩
  | .local _ .vmem, ⟨15, _⟩ => ⟨S400x1024, .f32⟩
  | _, _ => ⟨S4x800x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x400x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInEvenIdeal.lean ====
abbrev S4x800x1024 : Shape := ⟨3, ![4, 800, 1024]⟩
abbrev S800x1024 : Shape := ⟨2, ![800, 1024]⟩
abbrev S4x400x1024 : Shape := ⟨3, ![4, 400, 1024]⟩
abbrev S400x1024 : Shape := ⟨2, ![400, 1024]⟩
abbrev S1x400x1024 : Shape := ⟨3, ![1, 400, 1024]⟩

abbrev nBuf : Space → Nat
  | .hbm => 9
  | .vmem => 16
  | .smem => 0
  | _ => 0

abbrev bufTy : (tb : Table) → Fin (tcTables nBuf tb) → BufTy
  | .hbm, ⟨0, _⟩ => ⟨S4x800x1024, .f32⟩
  | .hbm, ⟨1, _⟩ => ⟨S800x1024, .f32⟩
  | .hbm, ⟨2, _⟩ => ⟨S800x1024, .f32⟩
  | .hbm, ⟨3, _⟩ => ⟨S800x1024, .f32⟩
  | .hbm, ⟨4, _⟩ => ⟨S4x800x1024, .bf16⟩
  | .hbm, ⟨5, _⟩ => ⟨S800x1024, .f32⟩
  | .hbm, ⟨6, _⟩ => ⟨S800x1024, .f32⟩
  | .hbm, ⟨7, _⟩ => ⟨S800x1024, .f32⟩
  | .hbm, ⟨8, _⟩ => ⟨S800x1024, .f32⟩
  | .local _ .vmem, ⟨0, _⟩ => ⟨S4x400x1024, .bf16⟩
  | .local _ .vmem, ⟨1, _⟩ => ⟨S4x400x1024, .bf16⟩
  | .local _ .vmem, ⟨2, _⟩ => ⟨S400x1024, .f32⟩
  | .local _ .vmem, ⟨3, _⟩ => ⟨S400x1024, .f32⟩
  | .local _ .vmem, ⟨4, _⟩ => ⟨S400x1024, .f32⟩
  | .local _ .vmem, ⟨5, _⟩ => ⟨S400x1024, .f32⟩
  | .local _ .vmem, ⟨6, _⟩ => ⟨S400x1024, .f32⟩
  | .local _ .vmem, ⟨7, _⟩ => ⟨S400x1024, .f32⟩
  | .local _ .vmem, ⟨8, _⟩ => ⟨S400x1024, .f32⟩
  | .local _ .vmem, ⟨9, _⟩ => ⟨S400x1024, .f32⟩
  | .local _ .vmem, ⟨10, _⟩ => ⟨S400x1024, .f32⟩
  | .local _ .vmem, ⟨11, _⟩ => ⟨S400x1024, .f32⟩
  | .local _ .vmem, ⟨12, _⟩ => ⟨S400x1024, .f32⟩
  | .local _ .vmem, ⟨13, _⟩ => ⟨S400x1024, .f32⟩
  | .local _ .vmem, ⟨14, _⟩ => ⟨S400x1024, .f32⟩
  | .local _ .vmem, ⟨15, _⟩ => ⟨S400x1024, .f32⟩
  | _, _ => ⟨S4x800x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x400x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S400x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S400x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInEvenRefIdeal.lean ====
abbrev S4x800x1024 : Shape := ⟨3, ![4, 800, 1024]⟩
abbrev S800x1024 : Shape := ⟨2, ![800, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4x800x1024, .f32⟩
  | .hbm, ⟨1, _⟩ => ⟨S800x1024, .f32⟩
  | .hbm, ⟨2, _⟩ => ⟨S800x1024, .f32⟩
  | .hbm, ⟨3, _⟩ => ⟨S800x1024, .f32⟩
  | .hbm, ⟨4, _⟩ => ⟨S_, .f32⟩
  | .hbm, ⟨5, _⟩ => ⟨S800x1024, .f32⟩
  | .hbm, ⟨6, _⟩ => ⟨S_, .f32⟩
  | .hbm, ⟨7, _⟩ => ⟨S800x1024, .f32⟩
  | .hbm, ⟨8, _⟩ => ⟨S800x1024, .f32⟩
  | .hbm, ⟨9, _⟩ => ⟨S_, .f32⟩
  | .hbm, ⟨10, _⟩ => ⟨S800x1024, .f32⟩
  | .hbm, ⟨11, _⟩ => ⟨S800x1024, .f32⟩
  | .hbm, ⟨12, _⟩ => ⟨S800x1024, .f32⟩
  | .hbm, ⟨13, _⟩ => ⟨S_, .f32⟩
  | .hbm, ⟨14, _⟩ => ⟨S800x1024, .f32⟩
  | .hbm, ⟨15, _⟩ => ⟨S800x1024, .f32⟩
  | .hbm, ⟨16, _⟩ => ⟨S800x1024, .f32⟩
  | .hbm, ⟨17, _⟩ => ⟨S_, .f32⟩
  | .hbm, ⟨18, _⟩ => ⟨S800x1024, .f32⟩
  | .hbm, ⟨19, _⟩ => ⟨S800x1024, .f32⟩
  | .hbm, ⟨20, _⟩ => ⟨S800x1024, .f32⟩
  | .hbm, ⟨21, _⟩ => ⟨S_, .f32⟩
  | .hbm, ⟨22, _⟩ => ⟨S800x1024, .f32⟩
  | .hbm, ⟨23, _⟩ => ⟨S800x1024, .f32⟩
  | .hbm, ⟨24, _⟩ => ⟨S_, .f32⟩
  | .hbm, ⟨25, _⟩ => ⟨S800x1024, .f32⟩
  | .hbm, ⟨26, _⟩ => ⟨S800x1024, .f32⟩
  | .hbm, ⟨27, _⟩ => ⟨S800x1024, .f32⟩
  | .hbm, ⟨28, _⟩ => ⟨S_, .f32⟩
  | .hbm, ⟨29, _⟩ => ⟨S800x1024, .f32⟩
  | .hbm, ⟨30, _⟩ => ⟨S800x1024, .f32⟩
  | .hbm, ⟨31, _⟩ => ⟨S800x1024, .f32⟩
  | .hbm, ⟨32, _⟩ => ⟨S_, .f32⟩
  | .hbm, ⟨33, _⟩ => ⟨S800x1024, .f32⟩
  | .hbm, ⟨34, _⟩ => ⟨S800x1024, .f32⟩
  | .hbm, ⟨35, _⟩ => ⟨S800x1024, .f32⟩
  | .hbm, ⟨36, _⟩ => ⟨S_, .f32⟩
  | .hbm, ⟨37, _⟩ => ⟨S800x1024, .f32⟩
  | .hbm, ⟨38, _⟩ => ⟨S800x1024, .f32⟩
  | _, _ => ⟨S4x800x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamInOdd.lean ====
abbrev S8x608x1024 : Shape := ⟨3, ![8, 608, 1024]⟩
abbrev S608x1024 : Shape := ⟨2, ![608, 1024]⟩
abbrev S8x304x1024 : Shape := ⟨3, ![8, 304, 1024]⟩
abbrev S304x1024 : Shape := ⟨2, ![304, 1024]⟩
abbrev S1x304x1024 : Shape := ⟨3, ![1, 304, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x608x1024, .f32⟩
  | .hbm, ⟨1, _⟩ => ⟨S608x1024, .f32⟩
  | .hbm, ⟨2, _⟩ => ⟨S608x1024, .f32⟩
  | .hbm, ⟨3, _⟩ => ⟨S608x1024, .f32⟩
  | .hbm, ⟨4, _⟩ => ⟨S8x608x1024, .bf16⟩
  | .hbm, ⟨5, _⟩ => ⟨S608x1024, .f32⟩
  | .hbm, ⟨6, _⟩ => ⟨S608x1024, .f32⟩
  | .hbm, ⟨7, _⟩ => ⟨S608x1024, .f32⟩
  | .hbm, ⟨8, _⟩ => ⟨S608x1024, .f32⟩
  | .local _ .vmem, ⟨0, _⟩ => ⟨S8x304x1024, .bf16⟩
  | .local _ .vmem, ⟨1, _⟩ => ⟨S8x304x1024, .bf16⟩
  | .local _ .vmem, ⟨2, _⟩ => ⟨S304x1024, .f32⟩
  | .local _ .vmem, ⟨3, _⟩ => ⟨S304x1024, .f32⟩
  | .local _ .vmem, ⟨4, _⟩ => ⟨S304x1024, .f32⟩
  | .local _ .vmem, ⟨5, _⟩ => ⟨S304x1024, .f32⟩
  | .local _ .vmem, ⟨6, _⟩ => ⟨S304x1024, .f32⟩
  | .local _ .vmem, ⟨7, _⟩ => ⟨S304x1024, .f32⟩
  | .local _ .vmem, ⟨8, _⟩ => ⟨S304x1024, .f32⟩
  | .local _ .vmem, ⟨9, _⟩ => ⟨S304x1024, .f32⟩
  | .local _ .vmem, ⟨10, _⟩ => ⟨S304x1024, .f32⟩
  | .local _ .vmem, ⟨11, _⟩ => ⟨S304x1024, .f32⟩
  | .local _ .vmem, ⟨12, _⟩ => ⟨S304x1024, .f32⟩
  | .local _ .vmem, ⟨13, _⟩ => ⟨S304x1024, .f32⟩
  | .local _ .vmem, ⟨14, _⟩ => ⟨S304x1024, .f32⟩
  | .local _ .vmem, ⟨15, _⟩ => ⟨S304x1024, .f32⟩
  | _, _ => ⟨S8x608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S304x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S304x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S304x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S304x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S304x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S304x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S304x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInOddIdeal.lean ====
abbrev S8x608x1024 : Shape := ⟨3, ![8, 608, 1024]⟩
abbrev S608x1024 : Shape := ⟨2, ![608, 1024]⟩
abbrev S8x304x1024 : Shape := ⟨3, ![8, 304, 1024]⟩
abbrev S304x1024 : Shape := ⟨2, ![304, 1024]⟩
abbrev S1x304x1024 : Shape := ⟨3, ![1, 304, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x608x1024, .f32⟩
  | .hbm, ⟨1, _⟩ => ⟨S608x1024, .f32⟩
  | .hbm, ⟨2, _⟩ => ⟨S608x1024, .f32⟩
  | .hbm, ⟨3, _⟩ => ⟨S608x1024, .f32⟩
  | .hbm, ⟨4, _⟩ => ⟨S8x608x1024, .bf16⟩
  | .hbm, ⟨5, _⟩ => ⟨S608x1024, .f32⟩
  | .hbm, ⟨6, _⟩ => ⟨S608x1024, .f32⟩
  | .hbm, ⟨7, _⟩ => ⟨S608x1024, .f32⟩
  | .hbm, ⟨8, _⟩ => ⟨S608x1024, .f32⟩
  | .local _ .vmem, ⟨0, _⟩ => ⟨S8x304x1024, .bf16⟩
  | .local _ .vmem, ⟨1, _⟩ => ⟨S8x304x1024, .bf16⟩
  | .local _ .vmem, ⟨2, _⟩ => ⟨S304x1024, .f32⟩
  | .local _ .vmem, ⟨3, _⟩ => ⟨S304x1024, .f32⟩
  | .local _ .vmem, ⟨4, _⟩ => ⟨S304x1024, .f32⟩
  | .local _ .vmem, ⟨5, _⟩ => ⟨S304x1024, .f32⟩
  | .local _ .vmem, ⟨6, _⟩ => ⟨S304x1024, .f32⟩
  | .local _ .vmem, ⟨7, _⟩ => ⟨S304x1024, .f32⟩
  | .local _ .vmem, ⟨8, _⟩ => ⟨S304x1024, .f32⟩
  | .local _ .vmem, ⟨9, _⟩ => ⟨S304x1024, .f32⟩
  | .local _ .vmem, ⟨10, _⟩ => ⟨S304x1024, .f32⟩
  | .local _ .vmem, ⟨11, _⟩ => ⟨S304x1024, .f32⟩
  | .local _ .vmem, ⟨12, _⟩ => ⟨S304x1024, .f32⟩
  | .local _ .vmem, ⟨13, _⟩ => ⟨S304x1024, .f32⟩
  | .local _ .vmem, ⟨14, _⟩ => ⟨S304x1024, .f32⟩
  | .local _ .vmem, ⟨15, _⟩ => ⟨S304x1024, .f32⟩
  | _, _ => ⟨S8x608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x304x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S304x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S304x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S304x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S304x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S304x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S304x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S304x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInOddRefIdeal.lean ====
abbrev S8x608x1024 : Shape := ⟨3, ![8, 608, 1024]⟩
abbrev S608x1024 : Shape := ⟨2, ![608, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x608x1024, .f32⟩
  | .hbm, ⟨1, _⟩ => ⟨S608x1024, .f32⟩
  | .hbm, ⟨2, _⟩ => ⟨S608x1024, .f32⟩
  | .hbm, ⟨3, _⟩ => ⟨S608x1024, .f32⟩
  | .hbm, ⟨4, _⟩ => ⟨S_, .f32⟩
  | .hbm, ⟨5, _⟩ => ⟨S608x1024, .f32⟩
  | .hbm, ⟨6, _⟩ => ⟨S_, .f32⟩
  | .hbm, ⟨7, _⟩ => ⟨S608x1024, .f32⟩
  | .hbm, ⟨8, _⟩ => ⟨S608x1024, .f32⟩
  | .hbm, ⟨9, _⟩ => ⟨S_, .f32⟩
  | .hbm, ⟨10, _⟩ => ⟨S608x1024, .f32⟩
  | .hbm, ⟨11, _⟩ => ⟨S608x1024, .f32⟩
  | .hbm, ⟨12, _⟩ => ⟨S608x1024, .f32⟩
  | .hbm, ⟨13, _⟩ => ⟨S_, .f32⟩
  | .hbm, ⟨14, _⟩ => ⟨S608x1024, .f32⟩
  | .hbm, ⟨15, _⟩ => ⟨S608x1024, .f32⟩
  | .hbm, ⟨16, _⟩ => ⟨S608x1024, .f32⟩
  | .hbm, ⟨17, _⟩ => ⟨S_, .f32⟩
  | .hbm, ⟨18, _⟩ => ⟨S608x1024, .f32⟩
  | .hbm, ⟨19, _⟩ => ⟨S608x1024, .f32⟩
  | .hbm, ⟨20, _⟩ => ⟨S608x1024, .f32⟩
  | .hbm, ⟨21, _⟩ => ⟨S_, .f32⟩
  | .hbm, ⟨22, _⟩ => ⟨S608x1024, .f32⟩
  | .hbm, ⟨23, _⟩ => ⟨S608x1024, .f32⟩
  | .hbm, ⟨24, _⟩ => ⟨S_, .f32⟩
  | .hbm, ⟨25, _⟩ => ⟨S608x1024, .f32⟩
  | .hbm, ⟨26, _⟩ => ⟨S608x1024, .f32⟩
  | .hbm, ⟨27, _⟩ => ⟨S608x1024, .f32⟩
  | .hbm, ⟨28, _⟩ => ⟨S_, .f32⟩
  | .hbm, ⟨29, _⟩ => ⟨S608x1024, .f32⟩
  | .hbm, ⟨30, _⟩ => ⟨S608x1024, .f32⟩
  | .hbm, ⟨31, _⟩ => ⟨S608x1024, .f32⟩
  | .hbm, ⟨32, _⟩ => ⟨S_, .f32⟩
  | .hbm, ⟨33, _⟩ => ⟨S608x1024, .f32⟩
  | .hbm, ⟨34, _⟩ => ⟨S608x1024, .f32⟩
  | .hbm, ⟨35, _⟩ => ⟨S608x1024, .f32⟩
  | .hbm, ⟨36, _⟩ => ⟨S_, .f32⟩
  | .hbm, ⟨37, _⟩ => ⟨S608x1024, .f32⟩
  | .hbm, ⟨38, _⟩ => ⟨S608x1024, .f32⟩
  | _, _ => ⟨S8x608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamKv.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .bf16⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamKvIdeal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 8
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .bf16⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamKvRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x128x1024, .f32⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S_, .f32⟩
  | .hbm, ⟨5, _⟩ => ⟨S128x1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | _, _ => ⟨S8x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamOut.lean ====
abbrev S8x256x1024 : Shape := ⟨3, ![8, 256, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .bf16⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutIdeal.lean ====
abbrev S8x256x1024 : Shape := ⟨3, ![8, 256, 1024]⟩
abbrev S256x1024 : Shape := ⟨2, ![256, 1024]⟩
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 9
  | .vmem => 16
  | .smem => 0
  | _ => 0

abbrev bufTy : (tb : Table) → Fin (tcTables nBuf tb) → BufTy
  | .hbm, ⟨0, _⟩ => ⟨S8x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x256x1024, .bf16⟩
  | .hbm, ⟨5, _⟩ => ⟨S256x1024, .f32⟩
  | .hbm, ⟨6, _⟩ => ⟨S256x1024, .f32⟩
  | .hbm, ⟨7, _⟩ => ⟨S256x1024, .f32⟩
  | .hbm, ⟨8, _⟩ => ⟨S256x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamOutRefIdeal.lean ====
abbrev S8x256x1024 : Shape := ⟨3, ![8, 256, 1024]⟩
abbrev S256x1024 : Shape := ⟨2, ![256, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S_, .f32⟩
  | .hbm, ⟨7, _⟩ => ⟨S256x1024, .f32⟩
  | .hbm, ⟨8, _⟩ => ⟨S256x1024, .f32⟩
  | .hbm, ⟨9, _⟩ => ⟨S_, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S_, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S_, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S256x1024, .f32⟩
  | .hbm, ⟨26, _⟩ => ⟨S256x1024, .f32⟩
  | .hbm, ⟨27, _⟩ => ⟨S256x1024, .f32⟩
  | .hbm, ⟨28, _⟩ => ⟨S_, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S_, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S_, .f32⟩
  | .hbm, ⟨37, _⟩ => ⟨S256x1024, .f32⟩
  | .hbm, ⟨38, _⟩ => ⟨S256x1024, .f32⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamPw.lean ====
abbrev S8x96x768 : Shape := ⟨3, ![8, 96, 768]⟩
abbrev S96x768 : Shape := ⟨2, ![96, 768]⟩
abbrev S1x96x768 : Shape := ⟨3, ![1, 96, 768]⟩

abbrev nBuf : Space → Nat
  | .hbm => 9
  | .vmem => 8
  | .smem => 0
  | _ => 0

abbrev bufTy : (tb : Table) → Fin (tcTables nBuf tb) → BufTy
  | .hbm, ⟨0, _⟩ => ⟨S8x96x768, .f32⟩
  | .hbm, ⟨1, _⟩ => ⟨S96x768, .f32⟩
  | .hbm, ⟨2, _⟩ => ⟨S96x768, .f32⟩
  | .hbm, ⟨3, _⟩ => ⟨S96x768, .f32⟩
  | .hbm, ⟨4, _⟩ => ⟨S8x96x768, .bf16⟩
  | .hbm, ⟨5, _⟩ => ⟨S96x768, .f32⟩
  | .hbm, ⟨6, _⟩ => ⟨S96x768, .f32⟩
  | .hbm, ⟨7, _⟩ => ⟨S96x768, .f32⟩
  | .hbm, ⟨8, _⟩ => ⟨S96x768, .f32⟩
  | .local _ .vmem, ⟨0, _⟩ => ⟨S8x96x768, .bf16⟩
  | .local _ .vmem, ⟨1, _⟩ => ⟨S96x768, .f32⟩
  | .local _ .vmem, ⟨2, _⟩ => ⟨S96x768, .f32⟩
  | .local _ .vmem, ⟨3, _⟩ => ⟨S96x768, .f32⟩
  | .local _ .vmem, ⟨4, _⟩ => ⟨S96x768, .f32⟩
  | .local _ .vmem, ⟨5, _⟩ => ⟨S96x768, .f32⟩
  | .local _ .vmem, ⟨6, _⟩ => ⟨S96x768, .f32⟩
  | .local _ .vmem, ⟨7, _⟩ => ⟨S96x768, .f32⟩
  | _, _ => ⟨S8x96x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x96x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S96x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S96x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S96x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S96x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S96x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S96x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S96x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamPwRefIdeal.lean ====
abbrev S8x96x768 : Shape := ⟨3, ![8, 96, 768]⟩
abbrev S96x768 : Shape := ⟨2, ![96, 768]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x96x768, .f32⟩
  | .hbm, ⟨1, _⟩ => ⟨S96x768, .f32⟩
  | .hbm, ⟨2, _⟩ => ⟨S96x768, .f32⟩
  | .hbm, ⟨3, _⟩ => ⟨S96x768, .f32⟩
  | .hbm, ⟨4, _⟩ => ⟨S_, .f32⟩
  | .hbm, ⟨5, _⟩ => ⟨S96x768, .f32⟩
  | .hbm, ⟨6, _⟩ => ⟨S_, .f32⟩
  | .hbm, ⟨7, _⟩ => ⟨S96x768, .f32⟩
  | .hbm, ⟨8, _⟩ => ⟨S96x768, .f32⟩
  | .hbm, ⟨9, _⟩ => ⟨S_, .f32⟩
  | .hbm, ⟨10, _⟩ => ⟨S96x768, .f32⟩
  | .hbm, ⟨11, _⟩ => ⟨S96x768, .f32⟩
  | .hbm, ⟨12, _⟩ => ⟨S96x768, .f32⟩
  | .hbm, ⟨13, _⟩ => ⟨S_, .f32⟩
  | .hbm, ⟨14, _⟩ => ⟨S96x768, .f32⟩
  | .hbm, ⟨15, _⟩ => ⟨S96x768, .f32⟩
  | .hbm, ⟨16, _⟩ => ⟨S96x768, .f32⟩
  | .hbm, ⟨17, _⟩ => ⟨S_, .f32⟩
  | .hbm, ⟨18, _⟩ => ⟨S96x768, .f32⟩
  | .hbm, ⟨19, _⟩ => ⟨S96x768, .f32⟩
  | .hbm, ⟨20, _⟩ => ⟨S96x768, .f32⟩
  | .hbm, ⟨21, _⟩ => ⟨S_, .f32⟩
  | .hbm, ⟨22, _⟩ => ⟨S96x768, .f32⟩
  | .hbm, ⟨23, _⟩ => ⟨S96x768, .f32⟩
  | .hbm, ⟨24, _⟩ => ⟨S_, .f32⟩
  | .hbm, ⟨25, _⟩ => ⟨S96x768, .f32⟩
  | .hbm, ⟨26, _⟩ => ⟨S96x768, .f32⟩
  | .hbm, ⟨27, _⟩ => ⟨S96x768, .f32⟩
  | .hbm, ⟨28, _⟩ => ⟨S_, .f32⟩
  | .hbm, ⟨29, _⟩ => ⟨S96x768, .f32⟩
  | .hbm, ⟨30, _⟩ => ⟨S96x768, .f32⟩
  | .hbm, ⟨31, _⟩ => ⟨S96x768, .f32⟩
  | .hbm, ⟨32, _⟩ => ⟨S_, .f32⟩
  | .hbm, ⟨33, _⟩ => ⟨S96x768, .f32⟩
  | .hbm, ⟨34, _⟩ => ⟨S96x768, .f32⟩
  | .hbm, ⟨35, _⟩ => ⟨S96x768, .f32⟩
  | .hbm, ⟨36, _⟩ => ⟨S_, .f32⟩
  | .hbm, ⟨37, _⟩ => ⟨S96x768, .f32⟩
  | .hbm, ⟨38, _⟩ => ⟨S96x768, .f32⟩
  | _, _ => ⟨S8x96x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSmall.lean ====
abbrev S8x24x1024 : Shape := ⟨3, ![8, 24, 1024]⟩
abbrev S8x16x768 : Shape := ⟨3, ![8, 16, 768]⟩
abbrev S8x520x128 : Shape := ⟨3, ![8, 520, 128]⟩
abbrev S8x768x192 : Shape := ⟨3, ![8, 768, 192]⟩
abbrev S8x24x128 : Shape := ⟨3, ![8, 24, 128]⟩
abbrev S8x80x96 : Shape := ⟨3, ![8, 80, 96]⟩
abbrev S8x8x128 : Shape := ⟨3, ![8, 8, 128]⟩
abbrev S1x1024 : Shape := ⟨2, ![1, 1024]⟩
abbrev S1x768 : Shape := ⟨2, ![1, 768]⟩
abbrev S512x128 : Shape := ⟨2, ![512, 128]⟩
abbrev S4x128 : Shape := ⟨2, ![4, 128]⟩
abbrev S768x192 : Shape := ⟨2, ![768, 192]⟩
abbrev S1x128 : Shape := ⟨2, ![1, 128]⟩
abbrev S3x96 : Shape := ⟨2, ![3, 96]⟩
abbrev S1x96 : Shape := ⟨2, ![1, 96]⟩
abbrev S31x96 : Shape := ⟨2, ![31, 96]⟩
abbrev S1x1x128 : Shape := ⟨3, ![1, 1, 128]⟩
abbrev S1x1x1024 : Shape := ⟨3, ![1, 1, 1024]⟩
abbrev S1x1x768 : Shape := ⟨3, ![1, 1, 768]⟩
abbrev S1x512x128 : Shape := ⟨3, ![1, 512, 128]⟩
abbrev S1x4x128 : Shape := ⟨3, ![1, 4, 128]⟩
abbrev S1x768x192 : Shape := ⟨3, ![1, 768, 192]⟩
abbrev S1x3x96 : Shape := ⟨3, ![1, 3, 96]⟩
abbrev S1x1x96 : Shape := ⟨3, ![1, 1, 96]⟩
abbrev S1x31x96 : Shape := ⟨3, ![1, 31, 96]⟩

abbrev nBuf : Space → Nat
  | .hbm => 134
  | .vmem => 134
  | .smem => 0
  | _ => 0

abbrev hbmTy0_0 (i : Nat) : BufTy := match i % 128 with
  | 0 => ⟨S8x24x1024, .f32⟩
  | 1 => ⟨S8x16x768, .f32⟩
  | 2 => ⟨S8x520x128, .f32⟩
  | 3 => ⟨S8x768x192, .f32⟩
  | 4 => ⟨S8x24x128, .f32⟩
  | 5 => ⟨S8x80x96, .f32⟩
  | 6 => ⟨S8x8x128, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x768, .f32⟩
  | 17 => ⟨S1x768, .f32⟩
  | 18 => ⟨S1x768, .f32⟩
  | 19 => ⟨S1x768, .f32⟩
  | 20 => ⟨S1x768, .f32⟩
  | 21 => ⟨S1x768, .f32⟩
  | 22 => ⟨S512x128, .f32⟩
  | 23 => ⟨S512x128, .f32⟩
  | 24 => ⟨S512x128, .f32⟩
  | 25 => ⟨S4x128, .f32⟩
  | 26 => ⟨S4x128, .f32⟩
  | 27 => ⟨S4x128, .f32⟩
  | 28 => ⟨S768x192, .f32⟩
  | 29 => ⟨S768x192, .f32⟩
  | 30 => ⟨S768x192, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S1x128, .f32⟩
  | 37 => ⟨S1x128, .f32⟩
  | 38 => ⟨S1x128, .f32⟩
  | 39 => ⟨S1x128, .f32⟩
  | 40 => ⟨S3x96, .f32⟩
  | 41 => ⟨S3x96, .f32⟩
  | 42 => ⟨S3x96, .f32⟩
  | 43 => ⟨S1x96, .f32⟩
  | 44 => ⟨S1x96, .f32⟩
  | 45 => ⟨S1x96, .f32⟩
  | 46 => ⟨S31x96, .f32⟩
  | 47 => ⟨S31x96, .f32⟩
  | 48 => ⟨S31x96, .f32⟩
  | 49 => ⟨S1x96, .f32⟩
  | 50 => ⟨S1x96, .f32⟩
  | 51 => ⟨S1x96, .f32⟩
  | 52 => ⟨S1x96, .f32⟩
  | 53 => ⟨S1x96, .f32⟩
  | 54 => ⟨S1x96, .f32⟩
  | 55 => ⟨S1x96, .f32⟩
  | 56 => ⟨S1x96, .f32⟩
  | 57 => ⟨S1x96, .f32⟩
  | 58 => ⟨S1x96, .f32⟩
  | 59 => ⟨S1x96, .f32⟩
  | 60 => ⟨S1x96, .f32⟩
  | 61 => ⟨S1x1024, .f32⟩
  | 62 => ⟨S1x1024, .f32⟩
  | 63 => ⟨S1x1024, .f32⟩
  | 64 => ⟨S1x1024, .f32⟩
  | 65 => ⟨S1x1024, .f32⟩
  | 66 => ⟨S1x1024, .f32⟩
  | 67 => ⟨S1x1024, .f32⟩
  | 68 => ⟨S1x1024, .f32⟩
  | 69 => ⟨S1x1024, .f32⟩
  | 70 => ⟨S1x1024, .f32⟩
  | 71 => ⟨S1x1024, .f32⟩
  | 72 => ⟨S1x1024, .f32⟩
  | 73 => ⟨S1x768, .f32⟩
  | 74 => ⟨S1x768, .f32⟩
  | 75 => ⟨S1x768, .f32⟩
  | 76 => ⟨S1x768, .f32⟩
  | 77 => ⟨S1x768, .f32⟩
  | 78 => ⟨S1x768, .f32⟩
  | 79 => ⟨S1x768, .f32⟩
  | 80 => ⟨S1x768, .f32⟩
  | 81 => ⟨S512x128, .f32⟩
  | 82 => ⟨S512x128, .f32⟩
  | 83 => ⟨S512x128, .f32⟩
  | 84 => ⟨S512x128, .f32⟩
  | 85 => ⟨S4x128, .f32⟩
  | 86 => ⟨S4x128, .f32⟩
  | 87 => ⟨S4x128, .f32⟩
  | 88 => ⟨S4x128, .f32⟩
  | 89 => ⟨S768x192, .f32⟩
  | 90 => ⟨S768x192, .f32⟩
  | 91 => ⟨S768x192, .f32⟩
  | 92 => ⟨S768x192, .f32⟩
  | 93 => ⟨S1x128, .f32⟩
  | 94 => ⟨S1x128, .f32⟩
  | 95 => ⟨S1x128, .f32⟩
  | 96 => ⟨S1x128, .f32⟩
  | 97 => ⟨S1x128, .f32⟩
  | 98 => ⟨S1x128, .f32⟩
  | 99 => ⟨S1x128, .f32⟩
  | 100 => ⟨S1x128, .f32⟩
  | 101 => ⟨S1x128, .f32⟩
  | 102 => ⟨S1x128, .f32⟩
  | 103 => ⟨S1x128, .f32⟩
  | 104 => ⟨S1x128, .f32⟩
  | 105 => ⟨S3x96, .f32⟩
  | 106 => ⟨S3x96, .f32⟩
  | 107 => ⟨S3x96, .f32⟩
  | 108 => ⟨S3x96, .f32⟩
  | 109 => ⟨S1x96, .f32⟩
  | 110 => ⟨S1x96, .f32⟩
  | 111 => ⟨S1x96, .f32⟩
  | 112 => ⟨S1x96, .f32⟩
  | 113 => ⟨S31x96, .f32⟩
  | 114 => ⟨S31x96, .f32⟩
  | 115 => ⟨S31x96, .f32⟩
  | 116 => ⟨S31x96, .f32⟩
  | 117 => ⟨S1x96, .f32⟩
  | 118 => ⟨S1x96, .f32⟩
  | 119 => ⟨S1x96, .f32⟩
  | 120 => ⟨S1x96, .f32⟩
  | 121 => ⟨S1x96, .f32⟩
  | 122 => ⟨S1x96, .f32⟩
  | 123 => ⟨S1x96, .f32⟩
  | 124 => ⟨S1x96, .f32⟩
  | 125 => ⟨S1x96, .f32⟩
  | 126 => ⟨S1x96, .f32⟩
  | 127 => ⟨S1x96, .f32⟩
  | _ => ⟨S8x24x1024, .f32⟩

abbrev hbmTy0_1 (i : Nat) : BufTy := match i % 128 with
  | 0 => ⟨S1x96, .f32⟩
  | 1 => ⟨S1x96, .f32⟩
  | 2 => ⟨S1x96, .f32⟩
  | 3 => ⟨S1x96, .f32⟩
  | 4 => ⟨S1x96, .f32⟩
  | 5 => ⟨S1x128, .f32⟩
  | _ => ⟨S8x24x1024, .f32⟩

abbrev hbmTy (i : Nat) : BufTy := match i / 128 with
  | 0 => hbmTy0_0 i
  | 1 => hbmTy0_1 i
  | _ => ⟨S8x24x1024, .f32⟩

abbrev vmemTy0_0 (i : Nat) : BufTy := match i % 128 with
  | 0 => ⟨S8x24x1024, .f32⟩
  | 1 => ⟨S8x16x768, .f32⟩
  | 2 => ⟨S8x520x128, .f32⟩
  | 3 => ⟨S8x768x192, .f32⟩
  | 4 => ⟨S8x24x128, .f32⟩
  | 5 => ⟨S8x80x96, .f32⟩
  | 6 => ⟨S8x8x128, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x768, .f32⟩
  | 17 => ⟨S1x768, .f32⟩
  | 18 => ⟨S1x768, .f32⟩
  | 19 => ⟨S1x768, .f32⟩
  | 20 => ⟨S1x768, .f32⟩
  | 21 => ⟨S1x768, .f32⟩
  | 22 => ⟨S512x128, .f32⟩
  | 23 => ⟨S512x128, .f32⟩
  | 24 => ⟨S512x128, .f32⟩
  | 25 => ⟨S4x128, .f32⟩
  | 26 => ⟨S4x128, .f32⟩
  | 27 => ⟨S4x128, .f32⟩
  | 28 => ⟨S768x192, .f32⟩
  | 29 => ⟨S768x192, .f32⟩
  | 30 => ⟨S768x192, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S1x128, .f32⟩
  | 37 => ⟨S1x128, .f32⟩
  | 38 => ⟨S1x128, .f32⟩
  | 39 => ⟨S1x128, .f32⟩
  | 40 => ⟨S3x96, .f32⟩
  | 41 => ⟨S3x96, .f32⟩
  | 42 => ⟨S3x96, .f32⟩
  | 43 => ⟨S1x96, .f32⟩
  | 44 => ⟨S1x96, .f32⟩
  | 45 => ⟨S1x96, .f32⟩
  | 46 => ⟨S31x96, .f32⟩
  | 47 => ⟨S31x96, .f32⟩
  | 48 => ⟨S31x96, .f32⟩
  | 49 => ⟨S1x96, .f32⟩
  | 50 => ⟨S1x96, .f32⟩
  | 51 => ⟨S1x96, .f32⟩
  | 52 => ⟨S1x96, .f32⟩
  | 53 => ⟨S1x96, .f32⟩
  | 54 => ⟨S1x96, .f32⟩
  | 55 => ⟨S1x96, .f32⟩
  | 56 => ⟨S1x96, .f32⟩
  | 57 => ⟨S1x96, .f32⟩
  | 58 => ⟨S1x96, .f32⟩
  | 59 => ⟨S1x96, .f32⟩
  | 60 => ⟨S1x96, .f32⟩
  | 61 => ⟨S1x1024, .f32⟩
  | 62 => ⟨S1x1024, .f32⟩
  | 63 => ⟨S1x1024, .f32⟩
  | 64 => ⟨S1x1024, .f32⟩
  | 65 => ⟨S1x1024, .f32⟩
  | 66 => ⟨S1x1024, .f32⟩
  | 67 => ⟨S1x1024, .f32⟩
  | 68 => ⟨S1x1024, .f32⟩
  | 69 => ⟨S1x1024, .f32⟩
  | 70 => ⟨S1x1024, .f32⟩
  | 71 => ⟨S1x1024, .f32⟩
  | 72 => ⟨S1x1024, .f32⟩
  | 73 => ⟨S1x768, .f32⟩
  | 74 => ⟨S1x768, .f32⟩
  | 75 => ⟨S1x768, .f32⟩
  | 76 => ⟨S1x768, .f32⟩
  | 77 => ⟨S1x768, .f32⟩
  | 78 => ⟨S1x768, .f32⟩
  | 79 => ⟨S1x768, .f32⟩
  | 80 => ⟨S1x768, .f32⟩
  | 81 => ⟨S512x128, .f32⟩
  | 82 => ⟨S512x128, .f32⟩
  | 83 => ⟨S512x128, .f32⟩
  | 84 => ⟨S512x128, .f32⟩
  | 85 => ⟨S4x128, .f32⟩
  | 86 => ⟨S4x128, .f32⟩
  | 87 => ⟨S4x128, .f32⟩
  | 88 => ⟨S4x128, .f32⟩
  | 89 => ⟨S768x192, .f32⟩
  | 90 => ⟨S768x192, .f32⟩
  | 91 => ⟨S768x192, .f32⟩
  | 92 => ⟨S768x192, .f32⟩
  | 93 => ⟨S1x128, .f32⟩
  | 94 => ⟨S1x128, .f32⟩
  | 95 => ⟨S1x128, .f32⟩
  | 96 => ⟨S1x128, .f32⟩
  | 97 => ⟨S1x128, .f32⟩
  | 98 => ⟨S1x128, .f32⟩
  | 99 => ⟨S1x128, .f32⟩
  | 100 => ⟨S1x128, .f32⟩
  | 101 => ⟨S1x128, .f32⟩
  | 102 => ⟨S1x128, .f32⟩
  | 103 => ⟨S1x128, .f32⟩
  | 104 => ⟨S1x128, .f32⟩
  | 105 => ⟨S3x96, .f32⟩
  | 106 => ⟨S3x96, .f32⟩
  | 107 => ⟨S3x96, .f32⟩
  | 108 => ⟨S3x96, .f32⟩
  | 109 => ⟨S1x96, .f32⟩
  | 110 => ⟨S1x96, .f32⟩
  | 111 => ⟨S1x96, .f32⟩
  | 112 => ⟨S1x96, .f32⟩
  | 113 => ⟨S31x96, .f32⟩
  | 114 => ⟨S31x96, .f32⟩
  | 115 => ⟨S31x96, .f32⟩
  | 116 => ⟨S31x96, .f32⟩
  | 117 => ⟨S1x96, .f32⟩
  | 118 => ⟨S1x96, .f32⟩
  | 119 => ⟨S1x96, .f32⟩
  | 120 => ⟨S1x96, .f32⟩
  | 121 => ⟨S1x96, .f32⟩
  | 122 => ⟨S1x96, .f32⟩
  | 123 => ⟨S1x96, .f32⟩
  | 124 => ⟨S1x96, .f32⟩
  | 125 => ⟨S1x96, .f32⟩
  | 126 => ⟨S1x96, .f32⟩
  | 127 => ⟨S1x96, .f32⟩
  | _ => ⟨S8x24x1024, .f32⟩

abbrev vmemTy0_1 (i : Nat) : BufTy := match i % 128 with
  | 0 => ⟨S1x96, .f32⟩
  | 1 => ⟨S1x96, .f32⟩
  | 2 => ⟨S1x96, .f32⟩
  | 3 => ⟨S1x96, .f32⟩
  | 4 => ⟨S1x96, .f32⟩
  | 5 => ⟨S1x128, .f32⟩
  | _ => ⟨S8x24x1024, .f32⟩

abbrev vmemTy (i : Nat) : BufTy := match i / 128 with
  | 0 => vmemTy0_0 i
  | 1 => vmemTy0_1 i
  | _ => ⟨S8x24x1024, .f32⟩

abbrev bufTy : (tb : Table) → Fin (tcTables nBuf tb) → BufTy
  | .hbm, ⟨i, _⟩ => hbmTy i
  | .local _ .vmem, ⟨i, _⟩ => vmemTy i
  | _, _ => ⟨S8x24x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 134 → Bool
  | ⟨i, _⟩ => dmaSemScopedAt i

abbrev sig : RefSig :=
  ofTc nBuf bufTy 0 134 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_v0_0 : Ref sig .tc := ⟨.hbm, 61, rfl⟩
abbrev main_v0_1 : Ref sig .tc := ⟨.hbm, 62, rfl⟩
abbrev main_v0_2 : Ref sig .tc := ⟨.hbm, 63, rfl⟩
abbrev main_v0_3 : Ref sig .tc := ⟨.hbm, 64, rfl⟩
abbrev main_v0_4 : Ref sig .tc := ⟨.hbm, 65, rfl⟩
abbrev main_v0_5 : Ref sig .tc := ⟨.hbm, 66, rfl⟩
abbrev main_v0_6 : Ref sig .tc := ⟨.hbm, 67, rfl⟩
abbrev main_v0_7 : Ref sig .tc := ⟨.hbm, 68, rfl⟩
abbrev main_v0_8 : Ref sig .tc := ⟨.hbm, 69, rfl⟩
abbrev main_v0_9 : Ref sig .tc := ⟨.hbm, 70, rfl⟩
abbrev main_v0_10 : Ref sig .tc := ⟨.hbm, 71, rfl⟩
abbrev main_v0_11 : Ref sig .tc := ⟨.hbm, 72, rfl⟩
abbrev main_v0_12 : Ref sig .tc := ⟨.hbm, 73, rfl⟩
abbrev main_v0_13 : Ref sig .tc := ⟨.hbm, 74, rfl⟩
abbrev main_v0_14 : Ref sig .tc := ⟨.hbm, 75, rfl⟩
abbrev main_v0_15 : Ref sig .tc := ⟨.hbm, 76, rfl⟩
abbrev main_v0_16 : Ref sig .tc := ⟨.hbm, 77, rfl⟩
abbrev main_v0_17 : Ref sig .tc := ⟨.hbm, 78, rfl⟩
abbrev main_v0_18 : Ref sig .tc := ⟨.hbm, 79, rfl⟩
abbrev main_v0_19 : Ref sig .tc := ⟨.hbm, 80, rfl⟩
abbrev main_v0_20 : Ref sig .tc := ⟨.hbm, 81, rfl⟩
abbrev main_v0_21 : Ref sig .tc := ⟨.hbm, 82, rfl⟩
abbrev main_v0_22 : Ref sig .tc := ⟨.hbm, 83, rfl⟩
abbrev main_v0_23 : Ref sig .tc := ⟨.hbm, 84, rfl⟩
abbrev main_v0_24 : Ref sig .tc := ⟨.hbm, 85, rfl⟩
abbrev main_v0_25 : Ref sig .tc := ⟨.hbm, 86, rfl⟩
abbrev main_v0_26 : Ref sig .tc := ⟨.hbm, 87, rfl⟩
abbrev main_v0_27 : Ref sig .tc := ⟨.hbm, 88, rfl⟩
abbrev main_v0_28 : Ref sig .tc := ⟨.hbm, 89, rfl⟩
abbrev main_v0_29 : Ref sig .tc := ⟨.hbm, 90, rfl⟩
abbrev main_v0_30 : Ref sig .tc := ⟨.hbm, 91, rfl⟩
abbrev main_v0_31 : Ref sig .tc := ⟨.hbm, 92, rfl⟩
abbrev main_v0_32 : Ref sig .tc := ⟨.hbm, 93, rfl⟩
abbrev main_v0_33 : Ref sig .tc := ⟨.hbm, 94, rfl⟩
abbrev main_v0_34 : Ref sig .tc := ⟨.hbm, 95, rfl⟩
abbrev main_v0_35 : Ref sig .tc := ⟨.hbm, 96, rfl⟩
abbrev main_v0_36 : Ref sig .tc := ⟨.hbm, 97, rfl⟩
abbrev main_v0_37 : Ref sig .tc := ⟨.hbm, 98, rfl⟩
abbrev main_v0_38 : Ref sig .tc := ⟨.hbm, 99, rfl⟩
abbrev main_v0_39 : Ref sig .tc := ⟨.hbm, 100, rfl⟩
abbrev main_v0_40 : Ref sig .tc := ⟨.hbm, 101, rfl⟩
abbrev main_v0_41 : Ref sig .tc := ⟨.hbm, 102, rfl⟩
abbrev main_v0_42 : Ref sig .tc := ⟨.hbm, 103, rfl⟩
abbrev main_v0_43 : Ref sig .tc := ⟨.hbm, 104, rfl⟩
abbrev main_v0_44 : Ref sig .tc := ⟨.hbm, 105, rfl⟩
abbrev main_v0_45 : Ref sig .tc := ⟨.hbm, 106, rfl⟩
abbrev main_v0_46 : Ref sig .tc := ⟨.hbm, 107, rfl⟩
abbrev main_v0_47 : Ref sig .tc := ⟨.hbm, 108, rfl⟩
abbrev main_v0_48 : Ref sig .tc := ⟨.hbm, 109, rfl⟩
abbrev main_v0_49 : Ref sig .tc := ⟨.hbm, 110, rfl⟩
abbrev main_v0_50 : Ref sig .tc := ⟨.hbm, 111, rfl⟩
abbrev main_v0_51 : Ref sig .tc := ⟨.hbm, 112, rfl⟩
abbrev main_v0_52 : Ref sig .tc := ⟨.hbm, 113, rfl⟩
abbrev main_v0_53 : Ref sig .tc := ⟨.hbm, 114, rfl⟩
abbrev main_v0_54 : Ref sig .tc := ⟨.hbm, 115, rfl⟩
abbrev main_v0_55 : Ref sig .tc := ⟨.hbm, 116, rfl⟩
abbrev main_v0_56 : Ref sig .tc := ⟨.hbm, 117, rfl⟩
abbrev main_v0_57 : Ref sig .tc := ⟨.hbm, 118, rfl⟩
abbrev main_v0_58 : Ref sig .tc := ⟨.hbm, 119, rfl⟩
abbrev main_v0_59 : Ref sig .tc := ⟨.hbm, 120, rfl⟩
abbrev main_v0_60 : Ref sig .tc := ⟨.hbm, 121, rfl⟩
abbrev main_v0_61 : Ref sig .tc := ⟨.hbm, 122, rfl⟩
abbrev main_v0_62 : Ref sig .tc := ⟨.hbm, 123, rfl⟩
abbrev main_v0_63 : Ref sig .tc := ⟨.hbm, 124, rfl⟩
abbrev main_v0_64 : Ref sig .tc := ⟨.hbm, 125, rfl⟩
abbrev main_v0_65 : Ref sig .tc := ⟨.hbm, 126, rfl⟩
abbrev main_v0_66 : Ref sig .tc := ⟨.hbm, 127, rfl⟩
abbrev main_v0_67 : Ref sig .tc := ⟨.hbm, 128, rfl⟩
abbrev main_v0_68 : Ref sig .tc := ⟨.hbm, 129, rfl⟩
abbrev main_v0_69 : Ref sig .tc := ⟨.hbm, 130, rfl⟩
abbrev main_v0_70 : Ref sig .tc := ⟨.hbm, 131, rfl⟩
abbrev main_v0_71 : Ref sig .tc := ⟨.hbm, 132, rfl⟩
abbrev main_v0_72 : Ref sig .tc := ⟨.hbm, 133, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_stg80_0 : Ref sig .tc := ⟨.vmem, 80, rfl⟩
abbrev cc0_stg81_0 : Ref sig .tc := ⟨.vmem, 81, rfl⟩
abbrev cc0_stg82_0 : Ref sig .tc := ⟨.vmem, 82, rfl⟩
abbrev cc0_stg83_0 : Ref sig .tc := ⟨.vmem, 83, rfl⟩
abbrev cc0_stg84_0 : Ref sig .tc := ⟨.vmem, 84, rfl⟩
abbrev cc0_stg85_0 : Ref sig .tc := ⟨.vmem, 85, rfl⟩
abbrev cc0_stg86_0 : Ref sig .tc := ⟨.vmem, 86, rfl⟩
abbrev cc0_stg87_0 : Ref sig .tc := ⟨.vmem, 87, rfl⟩
abbrev cc0_stg88_0 : Ref sig .tc := ⟨.vmem, 88, rfl⟩
abbrev cc0_stg89_0 : Ref sig .tc := ⟨.vmem, 89, rfl⟩
abbrev cc0_stg90_0 : Ref sig .tc := ⟨.vmem, 90, rfl⟩
abbrev cc0_stg91_0 : Ref sig .tc := ⟨.vmem, 91, rfl⟩
abbrev cc0_stg92_0 : Ref sig .tc := ⟨.vmem, 92, rfl⟩
abbrev cc0_stg93_0 : Ref sig .tc := ⟨.vmem, 93, rfl⟩
abbrev cc0_stg94_0 : Ref sig .tc := ⟨.vmem, 94, rfl⟩
abbrev cc0_stg95_0 : Ref sig .tc := ⟨.vmem, 95, rfl⟩
abbrev cc0_stg96_0 : Ref sig .tc := ⟨.vmem, 96, rfl⟩
abbrev cc0_stg97_0 : Ref sig .tc := ⟨.vmem, 97, rfl⟩
abbrev cc0_stg98_0 : Ref sig .tc := ⟨.vmem, 98, rfl⟩
abbrev cc0_stg99_0 : Ref sig .tc := ⟨.vmem, 99, rfl⟩
abbrev cc0_stg100_0 : Ref sig .tc := ⟨.vmem, 100, rfl⟩
abbrev cc0_stg101_0 : Ref sig .tc := ⟨.vmem, 101, rfl⟩
abbrev cc0_stg102_0 : Ref sig .tc := ⟨.vmem, 102, rfl⟩
abbrev cc0_stg103_0 : Ref sig .tc := ⟨.vmem, 103, rfl⟩
abbrev cc0_stg104_0 : Ref sig .tc := ⟨.vmem, 104, rfl⟩
abbrev cc0_stg105_0 : Ref sig .tc := ⟨.vmem, 105, rfl⟩
abbrev cc0_stg106_0 : Ref sig .tc := ⟨.vmem, 106, rfl⟩
abbrev cc0_stg107_0 : Ref sig .tc := ⟨.vmem, 107, rfl⟩
abbrev cc0_stg108_0 : Ref sig .tc := ⟨.vmem, 108, rfl⟩
abbrev cc0_stg109_0 : Ref sig .tc := ⟨.vmem, 109, rfl⟩
abbrev cc0_stg110_0 : Ref sig .tc := ⟨.vmem, 110, rfl⟩
abbrev cc0_stg111_0 : Ref sig .tc := ⟨.vmem, 111, rfl⟩
abbrev cc0_stg112_0 : Ref sig .tc := ⟨.vmem, 112, rfl⟩
abbrev cc0_stg113_0 : Ref sig .tc := ⟨.vmem, 113, rfl⟩
abbrev cc0_stg114_0 : Ref sig .tc := ⟨.vmem, 114, rfl⟩
abbrev cc0_stg115_0 : Ref sig .tc := ⟨.vmem, 115, rfl⟩
abbrev cc0_stg116_0 : Ref sig .tc := ⟨.vmem, 116, rfl⟩
abbrev cc0_stg117_0 : Ref sig .tc := ⟨.vmem, 117, rfl⟩
abbrev cc0_stg118_0 : Ref sig .tc := ⟨.vmem, 118, rfl⟩
abbrev cc0_stg119_0 : Ref sig .tc := ⟨.vmem, 119, rfl⟩
abbrev cc0_stg120_0 : Ref sig .tc := ⟨.vmem, 120, rfl⟩
abbrev cc0_stg121_0 : Ref sig .tc := ⟨.vmem, 121, rfl⟩
abbrev cc0_stg122_0 : Ref sig .tc := ⟨.vmem, 122, rfl⟩
abbrev cc0_stg123_0 : Ref sig .tc := ⟨.vmem, 123, rfl⟩
abbrev cc0_stg124_0 : Ref sig .tc := ⟨.vmem, 124, rfl⟩
abbrev cc0_stg125_0 : Ref sig .tc := ⟨.vmem, 125, rfl⟩
abbrev cc0_stg126_0 : Ref sig .tc := ⟨.vmem, 126, rfl⟩
abbrev cc0_stg127_0 : Ref sig .tc := ⟨.vmem, 127, rfl⟩
abbrev cc0_stg128_0 : Ref sig .tc := ⟨.vmem, 128, rfl⟩
abbrev cc0_stg129_0 : Ref sig .tc := ⟨.vmem, 129, rfl⟩
abbrev cc0_stg130_0 : Ref sig .tc := ⟨.vmem, 130, rfl⟩
abbrev cc0_stg131_0 : Ref sig .tc := ⟨.vmem, 131, rfl⟩
abbrev cc0_stg132_0 : Ref sig .tc := ⟨.vmem, 132, rfl⟩
abbrev cc0_stg133_0 : Ref sig .tc := ⟨.vmem, 133, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79
abbrev cc0_sem80_0 : DmaSem sig := 80
abbrev cc0_sem81_0 : DmaSem sig := 81
abbrev cc0_sem82_0 : DmaSem sig := 82
abbrev cc0_sem83_0 : DmaSem sig := 83
abbrev cc0_sem84_0 : DmaSem sig := 84
abbrev cc0_sem85_0 : DmaSem sig := 85
abbrev cc0_sem86_0 : DmaSem sig := 86
abbrev cc0_sem87_0 : DmaSem sig := 87
abbrev cc0_sem88_0 : DmaSem sig := 88
abbrev cc0_sem89_0 : DmaSem sig := 89
abbrev cc0_sem90_0 : DmaSem sig := 90
abbrev cc0_sem91_0 : DmaSem sig := 91
abbrev cc0_sem92_0 : DmaSem sig := 92
abbrev cc0_sem93_0 : DmaSem sig := 93
abbrev cc0_sem94_0 : DmaSem sig := 94
abbrev cc0_sem95_0 : DmaSem sig := 95
abbrev cc0_sem96_0 : DmaSem sig := 96
abbrev cc0_sem97_0 : DmaSem sig := 97
abbrev cc0_sem98_0 : DmaSem sig := 98
abbrev cc0_sem99_0 : DmaSem sig := 99
abbrev cc0_sem100_0 : DmaSem sig := 100
abbrev cc0_sem101_0 : DmaSem sig := 101
abbrev cc0_sem102_0 : DmaSem sig := 102
abbrev cc0_sem103_0 : DmaSem sig := 103
abbrev cc0_sem104_0 : DmaSem sig := 104
abbrev cc0_sem105_0 : DmaSem sig := 105
abbrev cc0_sem106_0 : DmaSem sig := 106
abbrev cc0_sem107_0 : DmaSem sig := 107
abbrev cc0_sem108_0 : DmaSem sig := 108
abbrev cc0_sem109_0 : DmaSem sig := 109
abbrev cc0_sem110_0 : DmaSem sig := 110
abbrev cc0_sem111_0 : DmaSem sig := 111
abbrev cc0_sem112_0 : DmaSem sig := 112
abbrev cc0_sem113_0 : DmaSem sig := 113
abbrev cc0_sem114_0 : DmaSem sig := 114
abbrev cc0_sem115_0 : DmaSem sig := 115
abbrev cc0_sem116_0 : DmaSem sig := 116
abbrev cc0_sem117_0 : DmaSem sig := 117
abbrev cc0_sem118_0 : DmaSem sig := 118
abbrev cc0_sem119_0 : DmaSem sig := 119
abbrev cc0_sem120_0 : DmaSem sig := 120
abbrev cc0_sem121_0 : DmaSem sig := 121
abbrev cc0_sem122_0 : DmaSem sig := 122
abbrev cc0_sem123_0 : DmaSem sig := 123
abbrev cc0_sem124_0 : DmaSem sig := 124
abbrev cc0_sem125_0 : DmaSem sig := 125
abbrev cc0_sem126_0 : DmaSem sig := 126
abbrev cc0_sem127_0 : DmaSem sig := 127
abbrev cc0_sem128_0 : DmaSem sig := 128
abbrev cc0_sem129_0 : DmaSem sig := 129
abbrev cc0_sem130_0 : DmaSem sig := 130
abbrev cc0_sem131_0 : DmaSem sig := 131
abbrev cc0_sem132_0 : DmaSem sig := 132
abbrev cc0_sem133_0 : DmaSem sig := 133

abbrev nD : Nat := 1
abbrev τ : Topo := Topo.v7x

variable {F : FTy → Type} [FloatOps F]

abbrev grid0 : Pipeline.Grid := .none

abbrev stage0_0 : Fin 1 → Memref sig .tc .vmem S8x24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x16x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x520x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x768x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x24x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x80x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x768 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x768 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x768 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x768 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x768 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S512x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S512x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S512x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S4x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S4x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S4x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S768x192 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S768x192 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S768x192 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x128 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S1x128 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S3x96 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S3x96 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S3x96 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x96 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x96 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x96 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S31x96 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S31x96 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S31x96 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x96 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x96 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x96 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x96 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x96 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x96 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x96 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x96 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x96 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x96 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x96 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x96 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x1024 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x1024 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x1024 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x1024 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x1024 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x1024 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S1x1024 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S1x1024 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S1x1024 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S1x1024 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S1x768 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S1x768 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S1x768 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S1x768 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S1x768 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S1x768 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))

abbrev stage0_79 : Fin 1 → Memref sig .tc .vmem S1x768 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))

abbrev stage0_80 : Fin 1 → Memref sig .tc .vmem S1x768 .f32 := fun | 0 => Memref.whole cc0_stg80_0 | ⟨_ + 1, h⟩ => absurd h (Nat.not_lt.2 (Nat.le_add_left _ _))
abbrev sem0_80 : Fin 1 → DmaSem sig := fun | 0 => cc0_sem80_0 | ⟨_ + 1, h⟩ => absurd h (Nat.not_lt.2 (Nat.le_add_left _ _))

abbrev stage0_81 : Fin 1 → Memref sig .tc .vmem S512x128 .f32 := fun | 0 => Memref.whole cc0_stg81_0 | ⟨_ + 1, h⟩ => absurd h (Nat.not_lt.2 (Nat.le_add_left _ _))
abbrev sem0_81 : Fin 1 → DmaSem sig := fun | 0 => cc0_sem81_0 | ⟨_ + 1, h⟩ => absurd h (Nat.not_lt.2 (Nat.le_add_left _ _))

abbrev stage0_82 : Fin 1 → Memref sig .tc .vmem S512x128 .f32 := fun | 0 => Memref.whole cc0_stg82_0 | ⟨_ + 1, h⟩ => absurd h (Nat.not_lt.2 (Nat.le_add_left _ _))
abbrev sem0_82 : Fin 1 → DmaSem sig := fun | 0 => cc0_sem82_0 | ⟨_ + 1, h⟩ => absurd h (Nat.not_lt.2 (Nat.le_add_left _ _))

abbrev stage0_83 : Fin 1 → Memref sig .tc .vmem S512x128 .f32 := fun | 0 => Memref.whole cc0_stg83_0 | ⟨_ + 1, h⟩ => absurd h (Nat.not_lt.2 (Nat.le_add_left _ _))
abbrev sem0_83 : Fin 1 → DmaSem sig := fun | 0 => cc0_sem83_0 | ⟨_ + 1, h⟩ => absurd h (Nat.not_lt.2 (Nat.le_add_left _ _))

abbrev stage0_84 : Fin 1 → Memref sig .tc .vmem S512x128 .f32 := fun | 0 => Memref.whole cc0_stg84_0 | ⟨_ + 1, h⟩ => absurd h (Nat.not_lt.2 (Nat.le_add_left _ _))
abbrev sem0_84 : Fin 1 → DmaSem sig := fun | 0 => cc0_sem84_0 | ⟨_ + 1, h⟩ => absurd h (Nat.not_lt.2 (Nat.le_add_left _ _))

abbrev stage0_85 : Fin 1 → Memref sig .tc .vmem S4x128 .f32 := fun | 0 => Memref.whole cc0_stg85_0 | ⟨_ + 1, h⟩ => absurd h (Nat.not_lt.2 (Nat.le_add_left _ _))
abbrev sem0_85 : Fin 1 → DmaSem sig := fun | 0 => cc0_sem85_0 | ⟨_ + 1, h⟩ => absurd h (Nat.not_lt.2 (Nat.le_add_left _ _))

abbrev stage0_86 : Fin 1 → Memref sig .tc .vmem S4x128 .f32 := fun | 0 => Memref.whole cc0_stg86_0 | ⟨_ + 1, h⟩ => absurd h (Nat.not_lt.2 (Nat.le_add_left _ _))
abbrev sem0_86 : Fin 1 → DmaSem sig := fun | 0 => cc0_sem86_0 | ⟨_ + 1, h⟩ => absurd h (Nat.not_lt.2 (Nat.le_add_left _ _))

abbrev stage0_87 : Fin 1 → Memref sig .tc .vmem S4x128 .f32 := fun | 0 => Memref.whole cc0_stg87_0 | ⟨_ + 1, h⟩ => absurd h (Nat.not_lt.2 (Nat.le_add_left _ _))
abbrev sem0_87 : Fin 1 → DmaSem sig := fun | 0 => cc0_sem87_0 | ⟨_ + 1, h⟩ => absurd h (Nat.not_lt.2 (Nat.le_add_left _ _))

abbrev stage0_88 : Fin 1 → Memref sig .tc .vmem S4x128 .f32 := fun | 0 => Memref.whole cc0_stg88_0 | ⟨_ + 1, h⟩ => absurd h (Nat.not_lt.2 (Nat.le_add_left _ _))
abbrev sem0_88 : Fin 1 → DmaSem sig := fun | 0 => cc0_sem88_0 | ⟨_ + 1, h⟩ => absurd h (Nat.not_lt.2 (Nat.le_add_left _ _))

abbrev stage0_89 : Fin 1 → Memref sig .tc .vmem S768x192 .f32 := fun | 0 => Memref.whole cc0_stg89_0 | ⟨_ + 1, h⟩ => absurd h (Nat.not_lt.2 (Nat.le_add_left _ _))
abbrev sem0_89 : Fin 1 → DmaSem sig := fun | 0 => cc0_sem89_0 | ⟨_ + 1, h⟩ => absurd h (Nat.not_lt.2 (Nat.le_add_left _ _))

abbrev stage0_90 : Fin 1 → Memref sig .tc .vmem S768x192 .f32 := fun | 0 => Memref.whole cc0_stg90_0 | ⟨_ + 1, h⟩ => absurd h (Nat.not_lt.2 (Nat.le_add_left _ _))
abbrev sem0_90 : Fin 1 → DmaSem sig := fun | 0 => cc0_sem90_0 | ⟨_ + 1, h⟩ => absurd h (Nat.not_lt.2 (Nat.le_add_left _ _))

abbrev stage0_91 : Fin 1 → Memref sig .tc .vmem S768x192 .f32 := fun | 0 => Memref.whole cc0_stg91_0 | ⟨_ + 1, h⟩ => absurd h (Nat.not_lt.2 (Nat.le_add_left _ _))
abbrev sem0_91 : Fin 1 → DmaSem sig := fun | 0 => cc0_sem91_0 | ⟨_ + 1, h⟩ => absurd h (Nat.not_lt.2 (Nat.le_add_left _ _))

abbrev stage0_92 : Fin 1 → Memref sig .tc .vmem S768x192 .f32 := fun | 0 => Memref.whole cc0_stg92_0 | ⟨_ + 1, h⟩ => absurd h (Nat.not_lt.2 (Nat.le_add_left _ _))
abbrev sem0_92 : Fin 1 → DmaSem sig := fun | 0 => cc0_sem92_0 | ⟨_ + 1, h⟩ => absurd h (Nat.not_lt.2 (Nat.le_add_left _ _))

abbrev stage0_93 : Fin 1 → Memref sig .tc .vmem S1x128 .f32 := fun | 0 => Memref.whole cc0_stg93_0 | ⟨_ + 1, h⟩ => absurd h (Nat.not_lt.2 (Nat.le_add_left _ _))
abbrev sem0_93 : Fin 1 → DmaSem sig := fun | 0 => cc0_sem93_0 | ⟨_ + 1, h⟩ => absurd h (Nat.not_lt.2 (Nat.le_add_left _ _))

abbrev stage0_94 : Fin 1 → Memref sig .tc .vmem S1x128 .f32 := fun | 0 => Memref.whole cc0_stg94_0 | ⟨_ + 1, h⟩ => absurd h (Nat.not_lt.2 (Nat.le_add_left _ _))
abbrev sem0_94 : Fin 1 → DmaSem sig := fun | 0 => cc0_sem94_0 | ⟨_ + 1, h⟩ => absurd h (Nat.not_lt.2 (Nat.le_add_left _ _))

abbrev stage0_95 : Fin 1 → Memref sig .tc .vmem S1x128 .f32 := fun | 0 => Memref.whole cc0_stg95_0 | ⟨_ + 1, h⟩ => absurd h (Nat.not_lt.2 (Nat.le_add_left _ _))
abbrev sem0_95 : Fin 1 → DmaSem sig := fun | 0 => cc0_sem95_0 | ⟨_ + 1, h⟩ => absurd h (Nat.not_lt.2 (Nat.le_add_left _ _))

abbrev stage0_96 : Fin 1 → Memref sig .tc .vmem S1x128 .f32 := fun | 0 => Memref.whole cc0_stg96_0 | ⟨_ + 1, h⟩ => absurd h (Nat.not_lt.2 (Nat.le_add_left _ _))
abbrev sem0_96 : Fin 1 → DmaSem sig := fun | 0 => cc0_sem96_0 | ⟨_ + 1, h⟩ => absurd h (Nat.not_lt.2 (Nat.le_add_left _ _))

abbrev stage0_97 : Fin 1 → Memref sig .tc .vmem S1x128 .f32 := fun | 0 => Memref.whole cc0_stg97_0 | ⟨_ + 1, h⟩ => absurd h (Nat.not_lt.2 (Nat.le_add_left _ _))
abbrev sem0_97 : Fin 1 → DmaSem sig := fun | 0 => cc0_sem97_0 | ⟨_ + 1, h⟩ => absurd h (Nat.not_lt.2 (Nat.le_add_left _ _))

abbrev stage0_98 : Fin 1 → Memref sig .tc .vmem S1x128 .f32 := fun | 0 => Memref.whole cc0_stg98_0 | ⟨_ + 1, h⟩ => absurd h (Nat.not_lt.2 (Nat.le_add_left _ _))
abbrev sem0_98 : Fin 1 → DmaSem sig := fun | 0 => cc0_sem98_0 | ⟨_ + 1, h⟩ => absurd h (Nat.not_lt.2 (Nat.le_add_left _ _))

abbrev stage0_99 : Fin 1 → Memref sig .tc .vmem S1x128 .f32 := fun | 0 => Memref.whole cc0_stg99_0 | ⟨_ + 1, h⟩ => absurd h (Nat.not_lt.2 (Nat.le_add_left _ _))
abbrev sem0_99 : Fin 1 → DmaSem sig := fun | 0 => cc0_sem99_0 | ⟨_ + 1, h⟩ => absurd h (Nat.not_lt.2 (Nat.le_add_left _ _))

abbrev stage0_100 : Fin 1 → Memref sig .tc .vmem S1x128 .f32 := fun | 0 => Memref.whole cc0_stg100_0 | ⟨_ + 1, h⟩ => absurd h (Nat.not_lt.2 (Nat.le_add_left _ _))
abbrev sem0_100 : Fin 1 → DmaSem sig := fun | 0 => cc0_sem100_0 | ⟨_ + 1, h⟩ => absurd h (Nat.not_lt.2 (Nat.le_add_left _ _))

abbrev stage0_101 : Fin 1 → Memref sig .tc .vmem S1x128 .f32 := fun | 0 => Memref.whole cc0_stg101_0 | ⟨_ + 1, h⟩ => absurd h (Nat.not_lt.2 (Nat.le_add_left _ _))
abbrev sem0_101 : Fin 1 → DmaSem sig := fun | 0 => cc0_sem101_0 | ⟨_ + 1, h⟩ => absurd h (Nat.not_lt.2 (Nat.le_add_left _ _))

abbrev stage0_102 : Fin 1 → Memref sig .tc .vmem S1x128 .f32 := fun | 0 => Memref.whole cc0_stg102_0 | ⟨_ + 1, h⟩ => absurd h (Nat.not_lt.2 (Nat.le_add_left _ _))
abbrev sem0_102 : Fin 1 → DmaSem sig := fun | 0 => cc0_sem102_0 | ⟨_ + 1, h⟩ => absurd h (Nat.not_lt.2 (Nat.le_add_left _ _))

abbrev stage0_103 : Fin 1 → Memref sig .tc .vmem S1x128 .f32 := fun | 0 => Memref.whole cc0_stg103_0 | ⟨_ + 1, h⟩ => absurd h (Nat.not_lt.2 (Nat.le_add_left _ _))
abbrev sem0_103 : Fin 1 → DmaSem sig := fun | 0 => cc0_sem103_0 | ⟨_ + 1, h⟩ => absurd h (Nat.not_lt.2 (Nat.le_add_left _ _))

abbrev stage0_104 : Fin 1 → Memref sig .tc .vmem S1x128 .f32 := fun | 0 => Memref.whole cc0_stg104_0 | ⟨_ + 1, h⟩ => absurd h (Nat.not_lt.2 (Nat.le_add_left _ _))
abbrev sem0_104 : Fin 1 → DmaSem sig := fun | 0 => cc0_sem104_0 | ⟨_ + 1, h⟩ => absurd h (Nat.not_lt.2 (Nat.le_add_left _ _))

abbrev stage0_105 : Fin 1 → Memref sig .tc .vmem S3x96 .f32 := fun | 0 => Memref.whole cc0_stg105_0 | ⟨_ + 1, h⟩ => absurd h (Nat.not_lt.2 (Nat.le_add_left _ _))
abbrev sem0_105 : Fin 1 → DmaSem sig := fun | 0 => cc0_sem105_0 | ⟨_ + 1, h⟩ => absurd h (Nat.not_lt.2 (Nat.le_add_left _ _))

abbrev stage0_106 : Fin 1 → Memref sig .tc .vmem S3x96 .f32 := fun | 0 => Memref.whole cc0_stg106_0 | ⟨_ + 1, h⟩ => absurd h (Nat.not_lt.2 (Nat.le_add_left _ _))
abbrev sem0_106 : Fin 1 → DmaSem sig := fun | 0 => cc0_sem106_0 | ⟨_ + 1, h⟩ => absurd h (Nat.not_lt.2 (Nat.le_add_left _ _))

abbrev stage0_107 : Fin 1 → Memref sig .tc .vmem S3x96 .f32 := fun | 0 => Memref.whole cc0_stg107_0 | ⟨_ + 1, h⟩ => absurd h (Nat.not_lt.2 (Nat.le_add_left _ _))
abbrev sem0_107 : Fin 1 → DmaSem sig := fun | 0 => cc0_sem107_0 | ⟨_ + 1, h⟩ => absurd h (Nat.not_lt.2 (Nat.le_add_left _ _))

abbrev stage0_108 : Fin 1 → Memref sig .tc .vmem S3x96 .f32 := fun | 0 => Memref.whole cc0_stg108_0 | ⟨_ + 1, h⟩ => absurd h (Nat.not_lt.2 (Nat.le_add_left _ _))
abbrev sem0_108 : Fin 1 → DmaSem sig := fun | 0 => cc0_sem108_0 | ⟨_ + 1, h⟩ => absurd h (Nat.not_lt.2 (Nat.le_add_left _ _))

abbrev stage0_109 : Fin 1 → Memref sig .tc .vmem S1x96 .f32 := fun | 0 => Memref.whole cc0_stg109_0 | ⟨_ + 1, h⟩ => absurd h (Nat.not_lt.2 (Nat.le_add_left _ _))
abbrev sem0_109 : Fin 1 → DmaSem sig := fun | 0 => cc0_sem109_0 | ⟨_ + 1, h⟩ => absurd h (Nat.not_lt.2 (Nat.le_add_left _ _))

abbrev stage0_110 : Fin 1 → Memref sig .tc .vmem S1x96 .f32 := fun | 0 => Memref.whole cc0_stg110_0 | ⟨_ + 1, h⟩ => absurd h (Nat.not_lt.2 (Nat.le_add_left _ _))
abbrev sem0_110 : Fin 1 → DmaSem sig := fun | 0 => cc0_sem110_0 | ⟨_ + 1, h⟩ => absurd h (Nat.not_lt.2 (Nat.le_add_left _ _))

abbrev stage0_111 : Fin 1 → Memref sig .tc .vmem S1x96 .f32 := fun | 0 => Memref.whole cc0_stg111_0 | ⟨_ + 1, h⟩ => absurd h (Nat.not_lt.2 (Nat.le_add_left _ _))
abbrev sem0_111 : Fin 1 → DmaSem sig := fun | 0 => cc0_sem111_0 | ⟨_ + 1, h⟩ => absurd h (Nat.not_lt.2 (Nat.le_add_left _ _))

abbrev stage0_112 : Fin 1 → Memref sig .tc .vmem S1x96 .f32 := fun | 0 => Memref.whole cc0_stg112_0 | ⟨_ + 1, h⟩ => absurd h (Nat.not_lt.2 (Nat.le_add_left _ _))
abbrev sem0_112 : Fin 1 → DmaSem sig := fun | 0 => cc0_sem112_0 | ⟨_ + 1, h⟩ => absurd h (Nat.not_lt.2 (Nat.le_add_left _ _))

abbrev stage0_113 : Fin 1 → Memref sig .tc .vmem S31x96 .f32 := fun | 0 => Memref.whole cc0_stg113_0 | ⟨_ + 1, h⟩ => absurd h (Nat.not_lt.2 (Nat.le_add_left _ _))
abbrev sem0_113 : Fin 1 → DmaSem sig := fun | 0 => cc0_sem113_0 | ⟨_ + 1, h⟩ => absurd h (Nat.not_lt.2 (Nat.le_add_left _ _))

abbrev stage0_114 : Fin 1 → Memref sig .tc .vmem S31x96 .f32 := fun | 0 => Memref.whole cc0_stg114_0 | ⟨_ + 1, h⟩ => absurd h (Nat.not_lt.2 (Nat.le_add_left _ _))
abbrev sem0_114 : Fin 1 → DmaSem sig := fun | 0 => cc0_sem114_0 | ⟨_ + 1, h⟩ => absurd h (Nat.not_lt.2 (Nat.le_add_left _ _))

abbrev stage0_115 : Fin 1 → Memref sig .tc .vmem S31x96 .f32 := fun | 0 => Memref.whole cc0_stg115_0 | ⟨_ + 1, h⟩ => absurd h (Nat.not_lt.2 (Nat.le_add_left _ _))
abbrev sem0_115 : Fin 1 → DmaSem sig := fun | 0 => cc0_sem115_0 | ⟨_ + 1, h⟩ => absurd h (Nat.not_lt.2 (Nat.le_add_left _ _))

abbrev stage0_116 : Fin 1 → Memref sig .tc .vmem S31x96 .f32 := fun | 0 => Memref.whole cc0_stg116_0 | ⟨_ + 1, h⟩ => absurd h (Nat.not_lt.2 (Nat.le_add_left _ _))
abbrev sem0_116 : Fin 1 → DmaSem sig := fun | 0 => cc0_sem116_0 | ⟨_ + 1, h⟩ => absurd h (Nat.not_lt.2 (Nat.le_add_left _ _))

abbrev stage0_117 : Fin 1 → Memref sig .tc .vmem S1x96 .f32 := fun | 0 => Memref.whole cc0_stg117_0 | ⟨_ + 1, h⟩ => absurd h (Nat.not_lt.2 (Nat.le_add_left _ _))
abbrev sem0_117 : Fin 1 → DmaSem sig := fun | 0 => cc0_sem117_0 | ⟨_ + 1, h⟩ => absurd h (Nat.not_lt.2 (Nat.le_add_left _ _))

abbrev stage0_118 : Fin 1 → Memref sig .tc .vmem S1x96 .f32 := fun | 0 => Memref.whole cc0_stg118_0 | ⟨_ + 1, h⟩ => absurd h (Nat.not_lt.2 (Nat.le_add_left _ _))
abbrev sem0_118 : Fin 1 → DmaSem sig := fun | 0 => cc0_sem118_0 | ⟨_ + 1, h⟩ => absurd h (Nat.not_lt.2 (Nat.le_add_left _ _))

abbrev stage0_119 : Fin 1 → Memref sig .tc .vmem S1x96 .f32 := fun | 0 => Memref.whole cc0_stg119_0 | ⟨_ + 1, h⟩ => absurd h (Nat.not_lt.2 (Nat.le_add_left _ _))
abbrev sem0_119 : Fin 1 → DmaSem sig := fun | 0 => cc0_sem119_0 | ⟨_ + 1, h⟩ => absurd h (Nat.not_lt.2 (Nat.le_add_left _ _))

abbrev stage0_120 : Fin 1 → Memref sig .tc .vmem S1x96 .f32 := fun | 0 => Memref.whole cc0_stg120_0 | ⟨_ + 1, h⟩ => absurd h (Nat.not_lt.2 (Nat.le_add_left _ _))
abbrev sem0_120 : Fin 1 → DmaSem sig := fun | 0 => cc0_sem120_0 | ⟨_ + 1, h⟩ => absurd h (Nat.not_lt.2 (Nat.le_add_left _ _))

abbrev stage0_121 : Fin 1 → Memref sig .tc .vmem S1x96 .f32 := fun | 0 => Memref.whole cc0_stg121_0 | ⟨_ + 1, h⟩ => absurd h (Nat.not_lt.2 (Nat.le_add_left _ _))
abbrev sem0_121 : Fin 1 → DmaSem sig := fun | 0 => cc0_sem121_0 | ⟨_ + 1, h⟩ => absurd h (Nat.not_lt.2 (Nat.le_add_left _ _))

abbrev stage0_122 : Fin 1 → Memref sig .tc .vmem S1x96 .f32 := fun | 0 => Memref.whole cc0_stg122_0 | ⟨_ + 1, h⟩ => absurd h (Nat.not_lt.2 (Nat.le_add_left _ _))
abbrev sem0_122 : Fin 1 → DmaSem sig := fun | 0 => cc0_sem122_0 | ⟨_ + 1, h⟩ => absurd h (Nat.not_lt.2 (Nat.le_add_left _ _))

abbrev stage0_123 : Fin 1 → Memref sig .tc .vmem S1x96 .f32 := fun | 0 => Memref.whole cc0_stg123_0 | ⟨_ + 1, h⟩ => absurd h (Nat.not_lt.2 (Nat.le_add_left _ _))
abbrev sem0_123 : Fin 1 → DmaSem sig := fun | 0 => cc0_sem123_0 | ⟨_ + 1, h⟩ => absurd h (Nat.not_lt.2 (Nat.le_add_left _ _))

abbrev stage0_124 : Fin 1 → Memref sig .tc .vmem S1x96 .f32 := fun | 0 => Memref.whole cc0_stg124_0 | ⟨_ + 1, h⟩ => absurd h (Nat.not_lt.2 (Nat.le_add_left _ _))
abbrev sem0_124 : Fin 1 → DmaSem sig := fun | 0 => cc0_sem124_0 | ⟨_ + 1, h⟩ => absurd h (Nat.not_lt.2 (Nat.le_add_left _ _))

abbrev stage0_125 : Fin 1 → Memref sig .tc .vmem S1x96 .f32 := fun | 0 => Memref.whole cc0_stg125_0 | ⟨_ + 1, h⟩ => absurd h (Nat.not_lt.2 (Nat.le_add_left _ _))
abbrev sem0_125 : Fin 1 → DmaSem sig := fun | 0 => cc0_sem125_0 | ⟨_ + 1, h⟩ => absurd h (Nat.not_lt.2 (Nat.le_add_left _ _))

abbrev stage0_126 : Fin 1 → Memref sig .tc .vmem S1x96 .f32 := fun | 0 => Memref.whole cc0_stg126_0 | ⟨_ + 1, h⟩ => absurd h (Nat.not_lt.2 (Nat.le_add_left _ _))
abbrev sem0_126 : Fin 1 → DmaSem sig := fun | 0 => cc0_sem126_0 | ⟨_ + 1, h⟩ => absurd h (Nat.not_lt.2 (Nat.le_add_left _ _))

abbrev stage0_127 : Fin 1 → Memref sig .tc .vmem S1x96 .f32 := fun | 0 => Memref.whole cc0_stg127_0 | ⟨_ + 1, h⟩ => absurd h (Nat.not_lt.2 (Nat.le_add_left _ _))
abbrev sem0_127 : Fin 1 → DmaSem sig := fun | 0 => cc0_sem127_0 | ⟨_ + 1, h⟩ => absurd h (Nat.not_lt.2 (Nat.le_add_left _ _))

abbrev stage0_128 : Fin 1 → Memref sig .tc .vmem S1x96 .f32 := fun | 0 => Memref.whole cc0_stg128_0 | ⟨_ + 1, h⟩ => absurd h (Nat.not_lt.2 (Nat.le_add_left _ _))
abbrev sem0_128 : Fin 1 → DmaSem sig := fun | 0 => cc0_sem128_0 | ⟨_ + 1, h⟩ => absurd h (Nat.not_lt.2 (Nat.le_add_left _ _))

abbrev stage0_129 : Fin 1 → Memref sig .tc .vmem S1x96 .f32 := fun | 0 => Memref.whole cc0_stg129_0 | ⟨_ + 1, h⟩ => absurd h (Nat.not_lt.2 (Nat.le_add_left _ _))
abbrev sem0_129 : Fin 1 → DmaSem sig := fun | 0 => cc0_sem129_0 | ⟨_ + 1, h⟩ => absurd h (Nat.not_lt.2 (Nat.le_add_left _ _))

abbrev stage0_130 : Fin 1 → Memref sig .tc .vmem S1x96 .f32 := fun | 0 => Memref.whole cc0_stg130_0 | ⟨_ + 1, h⟩ => absurd h (Nat.not_lt.2 (Nat.le_add_left _ _))
abbrev sem0_130 : Fin 1 → DmaSem sig := fun | 0 => cc0_sem130_0 | ⟨_ + 1, h⟩ => absurd h (Nat.not_lt.2 (Nat.le_add_left _ _))

abbrev stage0_131 : Fin 1 → Memref sig .tc .vmem S1x96 .f32 := fun | 0 => Memref.whole cc0_stg131_0 | ⟨_ + 1, h⟩ => absurd h (Nat.not_lt.2 (Nat.le_add_left _ _))
abbrev sem0_131 : Fin 1 → DmaSem sig := fun | 0 => cc0_sem131_0 | ⟨_ + 1, h⟩ => absurd h (Nat.not_lt.2 (Nat.le_add_left _ _))

abbrev stage0_132 : Fin 1 → Memref sig .tc .vmem S1x96 .f32 := fun | 0 => Memref.whole cc0_stg132_0 | ⟨_ + 1, h⟩ => absurd h (Nat.not_lt.2 (Nat.le_add_left _ _))
abbrev sem0_132 : Fin 1 → DmaSem sig := fun | 0 => cc0_sem132_0 | ⟨_ + 1, h⟩ => absurd h (Nat.not_lt.2 (Nat.le_add_left _ _))

abbrev stage0_133 : Fin 1 → Memref sig .tc .vmem S1x128 .f32 := fun | 0 => Memref.whole cc0_stg133_0 | ⟨_ + 1, h⟩ => absurd h (Nat.not_lt.2 (Nat.le_add_left _ _))
abbrev sem0_133 : Fin 1 → DmaSem sig := fun | 0 => cc0_sem133_0 | ⟨_ + 1, h⟩ => absurd h (Nat.not_lt.2 (Nat.le_add_left _ _))
-- ==== AdamSmallRefIdeal.lean ====
abbrev S8x24x1024 : Shape := ⟨3, ![8, 24, 1024]⟩
abbrev S8x16x768 : Shape := ⟨3, ![8, 16, 768]⟩
abbrev S8x520x128 : Shape := ⟨3, ![8, 520, 128]⟩
abbrev S8x768x192 : Shape := ⟨3, ![8, 768, 192]⟩
abbrev S8x24x128 : Shape := ⟨3, ![8, 24, 128]⟩
abbrev S8x80x96 : Shape := ⟨3, ![8, 80, 96]⟩
abbrev S8x8x128 : Shape := ⟨3, ![8, 8, 128]⟩
abbrev S1x1024 : Shape := ⟨2, ![1, 1024]⟩
abbrev S1x768 : Shape := ⟨2, ![1, 768]⟩
abbrev S512x128 : Shape := ⟨2, ![512, 128]⟩
abbrev S4x128 : Shape := ⟨2, ![4, 128]⟩
abbrev S768x192 : Shape := ⟨2, ![768, 192]⟩
abbrev S1x128 : Shape := ⟨2, ![1, 128]⟩
abbrev S3x96 : Shape := ⟨2, ![3, 96]⟩
abbrev S1x96 : Shape := ⟨2, ![1, 96]⟩
abbrev S31x96 : Shape := ⟨2, ![31, 96]⟩
abbrev S8x1x1024 : Shape := ⟨3, ![8, 1, 1024]⟩
abbrev S_ : Shape := ⟨0, ![]⟩
abbrev S8x1x768 : Shape := ⟨3, ![8, 1, 768]⟩
abbrev S8x512x128 : Shape := ⟨3, ![8, 512, 128]⟩
abbrev S8x4x128 : Shape := ⟨3, ![8, 4, 128]⟩
abbrev S8x1x128 : Shape := ⟨3, ![8, 1, 128]⟩
abbrev S8x3x96 : Shape := ⟨3, ![8, 3, 96]⟩
abbrev S8x1x96 : Shape := ⟨3, ![8, 1, 96]⟩
abbrev S8x31x96 : Shape := ⟨3, ![8, 31, 96]⟩

abbrev nBuf : Space → Nat
  | .hbm => 711
  | .vmem => 0
  | .smem => 0
  | _ => 0

abbrev hbmTy0_0 (i : Nat) : BufTy := match i % 128 with
  | 0 => ⟨S8x24x1024, .f32⟩
  | 1 => ⟨S8x16x768, .f32⟩
  | 2 => ⟨S8x520x128, .f32⟩
  | 3 => ⟨S8x768x192, .f32⟩
  | 4 => ⟨S8x24x128, .f32⟩
  | 5 => ⟨S8x80x96, .f32⟩
  | 6 => ⟨S8x8x128, .f32⟩
  | 7 => ⟨S1x1024, .f32⟩
  | 8 => ⟨S1x1024, .f32⟩
  | 9 => ⟨S1x1024, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x768, .f32⟩
  | 17 => ⟨S1x768, .f32⟩
  | 18 => ⟨S1x768, .f32⟩
  | 19 => ⟨S1x768, .f32⟩
  | 20 => ⟨S1x768, .f32⟩
  | 21 => ⟨S1x768, .f32⟩
  | 22 => ⟨S512x128, .f32⟩
  | 23 => ⟨S512x128, .f32⟩
  | 24 => ⟨S512x128, .f32⟩
  | 25 => ⟨S4x128, .f32⟩
  | 26 => ⟨S4x128, .f32⟩
  | 27 => ⟨S4x128, .f32⟩
  | 28 => ⟨S768x192, .f32⟩
  | 29 => ⟨S768x192, .f32⟩
  | 30 => ⟨S768x192, .f32⟩
  | 31 => ⟨S1x128, .f32⟩
  | 32 => ⟨S1x128, .f32⟩
  | 33 => ⟨S1x128, .f32⟩
  | 34 => ⟨S1x128, .f32⟩
  | 35 => ⟨S1x128, .f32⟩
  | 36 => ⟨S1x128, .f32⟩
  | 37 => ⟨S1x128, .f32⟩
  | 38 => ⟨S1x128, .f32⟩
  | 39 => ⟨S1x128, .f32⟩
  | 40 => ⟨S3x96, .f32⟩
  | 41 => ⟨S3x96, .f32⟩
  | 42 => ⟨S3x96, .f32⟩
  | 43 => ⟨S1x96, .f32⟩
  | 44 => ⟨S1x96, .f32⟩
  | 45 => ⟨S1x96, .f32⟩
  | 46 => ⟨S31x96, .f32⟩
  | 47 => ⟨S31x96, .f32⟩
  | 48 => ⟨S31x96, .f32⟩
  | 49 => ⟨S1x96, .f32⟩
  | 50 => ⟨S1x96, .f32⟩
  | 51 => ⟨S1x96, .f32⟩
  | 52 => ⟨S1x96, .f32⟩
  | 53 => ⟨S1x96, .f32⟩
  | 54 => ⟨S1x96, .f32⟩
  | 55 => ⟨S1x96, .f32⟩
  | 56 => ⟨S1x96, .f32⟩
  | 57 => ⟨S1x96, .f32⟩
  | 58 => ⟨S1x96, .f32⟩
  | 59 => ⟨S1x96, .f32⟩
  | 60 => ⟨S1x96, .f32⟩
  | 61 => ⟨S8x1x1024, .f32⟩
  | 62 => ⟨S_, .f32⟩
  | 63 => ⟨S1x1024, .f32⟩
  | 64 => ⟨S_, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1024, .f32⟩
  | 75 => ⟨S_, .f32⟩
  | 76 => ⟨S1x1024, .f32⟩
  | 77 => ⟨S1x1024, .f32⟩
  | 78 => ⟨S1x1024, .f32⟩
  | 79 => ⟨S_, .f32⟩
  | 80 => ⟨S1x1024, .f32⟩
  | 81 => ⟨S1x1024, .f32⟩
  | 82 => ⟨S_, .f32⟩
  | 83 => ⟨S1x1024, .f32⟩
  | 84 => ⟨S1x1024, .f32⟩
  | 85 => ⟨S1x1024, .f32⟩
  | 86 => ⟨S_, .f32⟩
  | 87 => ⟨S1x1024, .f32⟩
  | 88 => ⟨S1x1024, .f32⟩
  | 89 => ⟨S1x1024, .f32⟩
  | 90 => ⟨S_, .f32⟩
  | 91 => ⟨S1x1024, .f32⟩
  | 92 => ⟨S1x1024, .f32⟩
  | 93 => ⟨S1x1024, .f32⟩
  | 94 => ⟨S_, .f32⟩
  | 95 => ⟨S1x1024, .f32⟩
  | 96 => ⟨S1x1024, .f32⟩
  | 97 => ⟨S8x1x1024, .f32⟩
  | 98 => ⟨S_, .f32⟩
  | 99 => ⟨S1x1024, .f32⟩
  | 100 => ⟨S_, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S8x24x1024, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S8x1x1024, .f32⟩
  | 6 => ⟨S_, .f32⟩
  | 7 => ⟨S1x1024, .f32⟩
  | 8 => ⟨S_, .f32⟩
  | 9 => ⟨S1x1024, .f32⟩
  | 10 => ⟨S1x1024, .f32⟩
  | 11 => ⟨S_, .f32⟩
  | 12 => ⟨S1x1024, .f32⟩
  | 13 => ⟨S1x1024, .f32⟩
  | 14 => ⟨S1x1024, .f32⟩
  | 15 => ⟨S_, .f32⟩
  | 16 => ⟨S1x1024, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S1x1024, .f32⟩
  | 23 => ⟨S_, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S8x1x768, .f32⟩
  | 42 => ⟨S_, .f32⟩
  | 43 => ⟨S1x768, .f32⟩
  | 44 => ⟨S_, .f32⟩
  | 45 => ⟨S1x768, .f32⟩
  | 46 => ⟨S1x768, .f32⟩
  | 47 => ⟨S_, .f32⟩
  | 48 => ⟨S1x768, .f32⟩
  | 49 => ⟨S1x768, .f32⟩
  | 50 => ⟨S1x768, .f32⟩
  | 51 => ⟨S_, .f32⟩
  | 52 => ⟨S1x768, .f32⟩
  | 53 => ⟨S1x768, .f32⟩
  | 54 => ⟨S1x768, .f32⟩
  | 55 => ⟨S_, .f32⟩
  | 56 => ⟨S1x768, .f32⟩
  | 57 => ⟨S1x768, .f32⟩
  | 58 => ⟨S1x768, .f32⟩
  | 59 => ⟨S_, .f32⟩
  | 60 => ⟨S1x768, .f32⟩
  | 61 => ⟨S1x768, .f32⟩
  | 62 => ⟨S_, .f32⟩
  | 63 => ⟨S1x768, .f32⟩
  | 64 => ⟨S1x768, .f32⟩
  | 65 => ⟨S1x768, .f32⟩
  | 66 => ⟨S_, .f32⟩
  | 67 => ⟨S1x768, .f32⟩
  | 68 => ⟨S1x768, .f32⟩
  | 69 => ⟨S1x768, .f32⟩
  | 70 => ⟨S_, .f32⟩
  | 71 => ⟨S1x768, .f32⟩
  | 72 => ⟨S1x768, .f32⟩
  | 73 => ⟨S1x768, .f32⟩
  | 74 => ⟨S_, .f32⟩
  | 75 => ⟨S1x768, .f32⟩
  | 76 => ⟨S1x768, .f32⟩
  | 77 => ⟨S8x1x768, .f32⟩
  | 78 => ⟨S_, .f32⟩
  | 79 => ⟨S1x768, .f32⟩
  | 80 => ⟨S_, .f32⟩
  | 81 => ⟨S1x768, .f32⟩
  | 82 => ⟨S1x768, .f32⟩
  | 83 => ⟨S_, .f32⟩
  | 84 => ⟨S1x768, .f32⟩
  | 85 => ⟨S1x768, .f32⟩
  | 86 => ⟨S1x768, .f32⟩
  | 87 => ⟨S_, .f32⟩
  | 88 => ⟨S1x768, .f32⟩
  | 89 => ⟨S1x768, .f32⟩
  | 90 => ⟨S1x768, .f32⟩
  | 91 => ⟨S_, .f32⟩
  | 92 => ⟨S1x768, .f32⟩
  | 93 => ⟨S1x768, .f32⟩
  | 94 => ⟨S1x768, .f32⟩
  | 95 => ⟨S_, .f32⟩
  | 96 => ⟨S1x768, .f32⟩
  | 97 => ⟨S1x768, .f32⟩
  | 98 => ⟨S_, .f32⟩
  | 99 => ⟨S1x768, .f32⟩
  | 100 => ⟨S1x768, .f32⟩
  | 101 => ⟨S1x768, .f32⟩
  | 102 => ⟨S_, .f32⟩
  | 103 => ⟨S1x768, .f32⟩
  | 104 => ⟨S1x768, .f32⟩
  | 105 => ⟨S1x768, .f32⟩
  | 106 => ⟨S_, .f32⟩
  | 107 => ⟨S1x768, .f32⟩
  | 108 => ⟨S1x768, .f32⟩
  | 109 => ⟨S1x768, .f32⟩
  | 110 => ⟨S_, .f32⟩
  | 111 => ⟨S1x768, .f32⟩
  | 112 => ⟨S1x768, .f32⟩
  | 113 => ⟨S8x512x128, .f32⟩
  | 114 => ⟨S_, .f32⟩
  | 115 => ⟨S512x128, .f32⟩
  | 116 => ⟨S_, .f32⟩
  | 117 => ⟨S512x128, .f32⟩
  | 118 => ⟨S512x128, .f32⟩
  | 119 => ⟨S_, .f32⟩
  | 120 => ⟨S512x128, .f32⟩
  | 121 => ⟨S512x128, .f32⟩
  | 122 => ⟨S512x128, .f32⟩
  | 123 => ⟨S_, .f32⟩
  | 124 => ⟨S512x128, .f32⟩
  | 125 => ⟨S512x128, .f32⟩
  | 126 => ⟨S512x128, .f32⟩
  | 127 => ⟨S_, .f32⟩
  | _ => ⟨S8x24x1024, .f32⟩

abbrev hbmTy0_2 (i : Nat) : BufTy := match i % 128 with
  | 0 => ⟨S512x128, .f32⟩
  | 1 => ⟨S512x128, .f32⟩
  | 2 => ⟨S512x128, .f32⟩
  | 3 => ⟨S_, .f32⟩
  | 4 => ⟨S512x128, .f32⟩
  | 5 => ⟨S512x128, .f32⟩
  | 6 => ⟨S_, .f32⟩
  | 7 => ⟨S512x128, .f32⟩
  | 8 => ⟨S512x128, .f32⟩
  | 9 => ⟨S512x128, .f32⟩
  | 10 => ⟨S_, .f32⟩
  | 11 => ⟨S512x128, .f32⟩
  | 12 => ⟨S512x128, .f32⟩
  | 13 => ⟨S512x128, .f32⟩
  | 14 => ⟨S_, .f32⟩
  | 15 => ⟨S512x128, .f32⟩
  | 16 => ⟨S512x128, .f32⟩
  | 17 => ⟨S512x128, .f32⟩
  | 18 => ⟨S_, .f32⟩
  | 19 => ⟨S512x128, .f32⟩
  | 20 => ⟨S512x128, .f32⟩
  | 21 => ⟨S8x4x128, .f32⟩
  | 22 => ⟨S_, .f32⟩
  | 23 => ⟨S4x128, .f32⟩
  | 24 => ⟨S_, .f32⟩
  | 25 => ⟨S4x128, .f32⟩
  | 26 => ⟨S4x128, .f32⟩
  | 27 => ⟨S_, .f32⟩
  | 28 => ⟨S4x128, .f32⟩
  | 29 => ⟨S4x128, .f32⟩
  | 30 => ⟨S4x128, .f32⟩
  | 31 => ⟨S_, .f32⟩
  | 32 => ⟨S4x128, .f32⟩
  | 33 => ⟨S4x128, .f32⟩
  | 34 => ⟨S4x128, .f32⟩
  | 35 => ⟨S_, .f32⟩
  | 36 => ⟨S4x128, .f32⟩
  | 37 => ⟨S4x128, .f32⟩
  | 38 => ⟨S4x128, .f32⟩
  | 39 => ⟨S_, .f32⟩
  | 40 => ⟨S4x128, .f32⟩
  | 41 => ⟨S4x128, .f32⟩
  | 42 => ⟨S_, .f32⟩
  | 43 => ⟨S4x128, .f32⟩
  | 44 => ⟨S4x128, .f32⟩
  | 45 => ⟨S4x128, .f32⟩
  | 46 => ⟨S_, .f32⟩
  | 47 => ⟨S4x128, .f32⟩
  | 48 => ⟨S4x128, .f32⟩
  | 49 => ⟨S4x128, .f32⟩
  | 50 => ⟨S_, .f32⟩
  | 51 => ⟨S4x128, .f32⟩
  | 52 => ⟨S4x128, .f32⟩
  | 53 => ⟨S4x128, .f32⟩
  | 54 => ⟨S_, .f32⟩
  | 55 => ⟨S4x128, .f32⟩
  | 56 => ⟨S4x128, .f32⟩
  | 57 => ⟨S_, .f32⟩
  | 58 => ⟨S768x192, .f32⟩
  | 59 => ⟨S_, .f32⟩
  | 60 => ⟨S768x192, .f32⟩
  | 61 => ⟨S768x192, .f32⟩
  | 62 => ⟨S_, .f32⟩
  | 63 => ⟨S768x192, .f32⟩
  | 64 => ⟨S768x192, .f32⟩
  | 65 => ⟨S768x192, .f32⟩
  | 66 => ⟨S_, .f32⟩
  | 67 => ⟨S768x192, .f32⟩
  | 68 => ⟨S768x192, .f32⟩
  | 69 => ⟨S768x192, .f32⟩
  | 70 => ⟨S_, .f32⟩
  | 71 => ⟨S768x192, .f32⟩
  | 72 => ⟨S768x192, .f32⟩
  | 73 => ⟨S768x192, .f32⟩
  | 74 => ⟨S_, .f32⟩
  | 75 => ⟨S768x192, .f32⟩
  | 76 => ⟨S768x192, .f32⟩
  | 77 => ⟨S_, .f32⟩
  | 78 => ⟨S768x192, .f32⟩
  | 79 => ⟨S768x192, .f32⟩
  | 80 => ⟨S768x192, .f32⟩
  | 81 => ⟨S_, .f32⟩
  | 82 => ⟨S768x192, .f32⟩
  | 83 => ⟨S768x192, .f32⟩
  | 84 => ⟨S768x192, .f32⟩
  | 85 => ⟨S_, .f32⟩
  | 86 => ⟨S768x192, .f32⟩
  | 87 => ⟨S768x192, .f32⟩
  | 88 => ⟨S768x192, .f32⟩
  | 89 => ⟨S_, .f32⟩
  | 90 => ⟨S768x192, .f32⟩
  | 91 => ⟨S768x192, .f32⟩
  | 92 => ⟨S8x1x128, .f32⟩
  | 93 => ⟨S_, .f32⟩
  | 94 => ⟨S1x128, .f32⟩
  | 95 => ⟨S_, .f32⟩
  | 96 => ⟨S1x128, .f32⟩
  | 97 => ⟨S1x128, .f32⟩
  | 98 => ⟨S_, .f32⟩
  | 99 => ⟨S1x128, .f32⟩
  | 100 => ⟨S1x128, .f32⟩
  | 101 => ⟨S1x128, .f32⟩
  | 102 => ⟨S_, .f32⟩
  | 103 => ⟨S1x128, .f32⟩
  | 104 => ⟨S1x128, .f32⟩
  | 105 => ⟨S1x128, .f32⟩
  | 106 => ⟨S_, .f32⟩
  | 107 => ⟨S1x128, .f32⟩
  | 108 => ⟨S1x128, .f32⟩
  | 109 => ⟨S1x128, .f32⟩
  | 110 => ⟨S_, .f32⟩
  | 111 => ⟨S1x128, .f32⟩
  | 112 => ⟨S1x128, .f32⟩
  | 113 => ⟨S_, .f32⟩
  | 114 => ⟨S1x128, .f32⟩
  | 115 => ⟨S1x128, .f32⟩
  | 116 => ⟨S1x128, .f32⟩
  | 117 => ⟨S_, .f32⟩
  | 118 => ⟨S1x128, .f32⟩
  | 119 => ⟨S1x128, .f32⟩
  | 120 => ⟨S1x128, .f32⟩
  | 121 => ⟨S_, .f32⟩
  | 122 => ⟨S1x128, .f32⟩
  | 123 => ⟨S1x128, .f32⟩
  | 124 => ⟨S1x128, .f32⟩
  | 125 => ⟨S_, .f32⟩
  | 126 => ⟨S1x128, .f32⟩
  | 127 => ⟨S1x128, .f32⟩
  | _ => ⟨S8x24x1024, .f32⟩

abbrev hbmTy0_3 (i : Nat) : BufTy := match i % 128 with
  | 0 => ⟨S8x1x128, .f32⟩
  | 1 => ⟨S_, .f32⟩
  | 2 => ⟨S1x128, .f32⟩
  | 3 => ⟨S_, .f32⟩
  | 4 => ⟨S1x128, .f32⟩
  | 5 => ⟨S1x128, .f32⟩
  | 6 => ⟨S_, .f32⟩
  | 7 => ⟨S1x128, .f32⟩
  | 8 => ⟨S1x128, .f32⟩
  | 9 => ⟨S1x128, .f32⟩
  | 10 => ⟨S_, .f32⟩
  | 11 => ⟨S1x128, .f32⟩
  | 12 => ⟨S1x128, .f32⟩
  | 13 => ⟨S1x128, .f32⟩
  | 14 => ⟨S_, .f32⟩
  | 15 => ⟨S1x128, .f32⟩
  | 16 => ⟨S1x128, .f32⟩
  | 17 => ⟨S1x128, .f32⟩
  | 18 => ⟨S_, .f32⟩
  | 19 => ⟨S1x128, .f32⟩
  | 20 => ⟨S1x128, .f32⟩
  | 21 => ⟨S_, .f32⟩
  | 22 => ⟨S1x128, .f32⟩
  | 23 => ⟨S1x128, .f32⟩
  | 24 => ⟨S1x128, .f32⟩
  | 25 => ⟨S_, .f32⟩
  | 26 => ⟨S1x128, .f32⟩
  | 27 => ⟨S1x128, .f32⟩
  | 28 => ⟨S1x128, .f32⟩
  | 29 => ⟨S_, .f32⟩
  | 30 => ⟨S1x128, .f32⟩
  | 31 => ⟨S1x128, .f32⟩
  | 32 => ⟨S1x128, .f32⟩
  | 33 => ⟨S_, .f32⟩
  | 34 => ⟨S1x128, .f32⟩
  | 35 => ⟨S1x128, .f32⟩
  | 36 => ⟨S8x1x128, .f32⟩
  | 37 => ⟨S_, .f32⟩
  | 38 => ⟨S1x128, .f32⟩
  | 39 => ⟨S_, .f32⟩
  | 40 => ⟨S1x128, .f32⟩
  | 41 => ⟨S1x128, .f32⟩
  | 42 => ⟨S_, .f32⟩
  | 43 => ⟨S1x128, .f32⟩
  | 44 => ⟨S1x128, .f32⟩
  | 45 => ⟨S1x128, .f32⟩
  | 46 => ⟨S_, .f32⟩
  | 47 => ⟨S1x128, .f32⟩
  | 48 => ⟨S1x128, .f32⟩
  | 49 => ⟨S1x128, .f32⟩
  | 50 => ⟨S_, .f32⟩
  | 51 => ⟨S1x128, .f32⟩
  | 52 => ⟨S1x128, .f32⟩
  | 53 => ⟨S1x128, .f32⟩
  | 54 => ⟨S_, .f32⟩
  | 55 => ⟨S1x128, .f32⟩
  | 56 => ⟨S1x128, .f32⟩
  | 57 => ⟨S_, .f32⟩
  | 58 => ⟨S1x128, .f32⟩
  | 59 => ⟨S1x128, .f32⟩
  | 60 => ⟨S1x128, .f32⟩
  | 61 => ⟨S_, .f32⟩
  | 62 => ⟨S1x128, .f32⟩
  | 63 => ⟨S1x128, .f32⟩
  | 64 => ⟨S1x128, .f32⟩
  | 65 => ⟨S_, .f32⟩
  | 66 => ⟨S1x128, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S8x3x96, .f32⟩
  | 73 => ⟨S_, .f32⟩
  | 74 => ⟨S3x96, .f32⟩
  | 75 => ⟨S_, .f32⟩
  | 76 => ⟨S3x96, .f32⟩
  | 77 => ⟨S3x96, .f32⟩
  | 78 => ⟨S_, .f32⟩
  | 79 => ⟨S3x96, .f32⟩
  | 80 => ⟨S3x96, .f32⟩
  | 81 => ⟨S3x96, .f32⟩
  | 82 => ⟨S_, .f32⟩
  | 83 => ⟨S3x96, .f32⟩
  | 84 => ⟨S3x96, .f32⟩
  | 85 => ⟨S3x96, .f32⟩
  | 86 => ⟨S_, .f32⟩
  | 87 => ⟨S3x96, .f32⟩
  | 88 => ⟨S3x96, .f32⟩
  | 89 => ⟨S3x96, .f32⟩
  | 90 => ⟨S_, .f32⟩
  | 91 => ⟨S3x96, .f32⟩
  | 92 => ⟨S3x96, .f32⟩
  | 93 => ⟨S_, .f32⟩
  | 94 => ⟨S3x96, .f32⟩
  | 95 => ⟨S3x96, .f32⟩
  | 96 => ⟨S3x96, .f32⟩
  | 97 => ⟨S_, .f32⟩
  | 98 => ⟨S3x96, .f32⟩
  | 99 => ⟨S3x96, .f32⟩
  | 100 => ⟨S3x96, .f32⟩
  | 101 => ⟨S_, .f32⟩
  | 102 => ⟨S3x96, .f32⟩
  | 103 => ⟨S3x96, .f32⟩
  | 104 => ⟨S3x96, .f32⟩
  | 105 => ⟨S_, .f32⟩
  | 106 => ⟨S3x96, .f32⟩
  | 107 => ⟨S3x96, .f32⟩
  | 108 => ⟨S8x1x96, .f32⟩
  | 109 => ⟨S_, .f32⟩
  | 110 => ⟨S1x96, .f32⟩
  | 111 => ⟨S_, .f32⟩
  | 112 => ⟨S1x96, .f32⟩
  | 113 => ⟨S1x96, .f32⟩
  | 114 => ⟨S_, .f32⟩
  | 115 => ⟨S1x96, .f32⟩
  | 116 => ⟨S1x96, .f32⟩
  | 117 => ⟨S1x96, .f32⟩
  | 118 => ⟨S_, .f32⟩
  | 119 => ⟨S1x96, .f32⟩
  | 120 => ⟨S1x96, .f32⟩
  | 121 => ⟨S1x96, .f32⟩
  | 122 => ⟨S_, .f32⟩
  | 123 => ⟨S1x96, .f32⟩
  | 124 => ⟨S1x96, .f32⟩
  | 125 => ⟨S1x96, .f32⟩
  | 126 => ⟨S_, .f32⟩
  | 127 => ⟨S1x96, .f32⟩
  | _ => ⟨S8x24x1024, .f32⟩

abbrev hbmTy0_4 (i : Nat) : BufTy := match i % 128 with
  | 0 => ⟨S1x96, .f32⟩
  | 1 => ⟨S_, .f32⟩
  | 2 => ⟨S1x96, .f32⟩
  | 3 => ⟨S1x96, .f32⟩
  | 4 => ⟨S1x96, .f32⟩
  | 5 => ⟨S_, .f32⟩
  | 6 => ⟨S1x96, .f32⟩
  | 7 => ⟨S1x96, .f32⟩
  | 8 => ⟨S1x96, .f32⟩
  | 9 => ⟨S_, .f32⟩
  | 10 => ⟨S1x96, .f32⟩
  | 11 => ⟨S1x96, .f32⟩
  | 12 => ⟨S1x96, .f32⟩
  | 13 => ⟨S_, .f32⟩
  | 14 => ⟨S1x96, .f32⟩
  | 15 => ⟨S1x96, .f32⟩
  | 16 => ⟨S8x31x96, .f32⟩
  | 17 => ⟨S_, .f32⟩
  | 18 => ⟨S31x96, .f32⟩
  | 19 => ⟨S_, .f32⟩
  | 20 => ⟨S31x96, .f32⟩
  | 21 => ⟨S31x96, .f32⟩
  | 22 => ⟨S_, .f32⟩
  | 23 => ⟨S31x96, .f32⟩
  | 24 => ⟨S31x96, .f32⟩
  | 25 => ⟨S31x96, .f32⟩
  | 26 => ⟨S_, .f32⟩
  | 27 => ⟨S31x96, .f32⟩
  | 28 => ⟨S31x96, .f32⟩
  | 29 => ⟨S31x96, .f32⟩
  | 30 => ⟨S_, .f32⟩
  | 31 => ⟨S31x96, .f32⟩
  | 32 => ⟨S31x96, .f32⟩
  | 33 => ⟨S31x96, .f32⟩
  | 34 => ⟨S_, .f32⟩
  | 35 => ⟨S31x96, .f32⟩
  | 36 => ⟨S31x96, .f32⟩
  | 37 => ⟨S_, .f32⟩
  | 38 => ⟨S31x96, .f32⟩
  | 39 => ⟨S31x96, .f32⟩
  | 40 => ⟨S31x96, .f32⟩
  | 41 => ⟨S_, .f32⟩
  | 42 => ⟨S31x96, .f32⟩
  | 43 => ⟨S31x96, .f32⟩
  | 44 => ⟨S31x96, .f32⟩
  | 45 => ⟨S_, .f32⟩
  | 46 => ⟨S31x96, .f32⟩
  | 47 => ⟨S31x96, .f32⟩
  | 48 => ⟨S31x96, .f32⟩
  | 49 => ⟨S_, .f32⟩
  | 50 => ⟨S31x96, .f32⟩
  | 51 => ⟨S31x96, .f32⟩
  | 52 => ⟨S8x1x96, .f32⟩
  | 53 => ⟨S_, .f32⟩
  | 54 => ⟨S1x96, .f32⟩
  | 55 => ⟨S_, .f32⟩
  | 56 => ⟨S1x96, .f32⟩
  | 57 => ⟨S1x96, .f32⟩
  | 58 => ⟨S_, .f32⟩
  | 59 => ⟨S1x96, .f32⟩
  | 60 => ⟨S1x96, .f32⟩
  | 61 => ⟨S1x96, .f32⟩
  | 62 => ⟨S_, .f32⟩
  | 63 => ⟨S1x96, .f32⟩
  | 64 => ⟨S1x96, .f32⟩
  | 65 => ⟨S1x96, .f32⟩
  | 66 => ⟨S_, .f32⟩
  | 67 => ⟨S1x96, .f32⟩
  | 68 => ⟨S1x96, .f32⟩
  | 69 => ⟨S1x96, .f32⟩
  | 70 => ⟨S_, .f32⟩
  | 71 => ⟨S1x96, .f32⟩
  | 72 => ⟨S1x96, .f32⟩
  | 73 => ⟨S_, .f32⟩
  | 74 => ⟨S1x96, .f32⟩
  | 75 => ⟨S1x96, .f32⟩
  | 76 => ⟨S1x96, .f32⟩
  | 77 => ⟨S_, .f32⟩
  | 78 => ⟨S1x96, .f32⟩
  | 79 => ⟨S1x96, .f32⟩
  | 80 => ⟨S1x96, .f32⟩
  | 81 => ⟨S_, .f32⟩
  | 82 => ⟨S1x96, .f32⟩
  | 83 => ⟨S1x96, .f32⟩
  | 84 => ⟨S1x96, .f32⟩
  | 85 => ⟨S_, .f32⟩
  | 86 => ⟨S1x96, .f32⟩
  | 87 => ⟨S1x96, .f32⟩
  | 88 => ⟨S8x1x96, .f32⟩
  | 89 => ⟨S_, .f32⟩
  | 90 => ⟨S1x96, .f32⟩
  | 91 => ⟨S_, .f32⟩
  | 92 => ⟨S1x96, .f32⟩
  | 93 => ⟨S1x96, .f32⟩
  | 94 => ⟨S_, .f32⟩
  | 95 => ⟨S1x96, .f32⟩
  | 96 => ⟨S1x96, .f32⟩
  | 97 => ⟨S1x96, .f32⟩
  | 98 => ⟨S_, .f32⟩
  | 99 => ⟨S1x96, .f32⟩
  | 100 => ⟨S1x96, .f32⟩
  | 101 => ⟨S1x96, .f32⟩
  | 102 => ⟨S_, .f32⟩
  | 103 => ⟨S1x96, .f32⟩
  | 104 => ⟨S1x96, .f32⟩
  | 105 => ⟨S1x96, .f32⟩
  | 106 => ⟨S_, .f32⟩
  | 107 => ⟨S1x96, .f32⟩
  | 108 => ⟨S1x96, .f32⟩
  | 109 => ⟨S_, .f32⟩
  | 110 => ⟨S1x96, .f32⟩
  | 111 => ⟨S1x96, .f32⟩
  | 112 => ⟨S1x96, .f32⟩
  | 113 => ⟨S_, .f32⟩
  | 114 => ⟨S1x96, .f32⟩
  | 115 => ⟨S1x96, .f32⟩
  | 116 => ⟨S1x96, .f32⟩
  | 117 => ⟨S_, .f32⟩
  | 118 => ⟨S1x96, .f32⟩
  | 119 => ⟨S1x96, .f32⟩
  | 120 => ⟨S1x96, .f32⟩
  | 121 => ⟨S_, .f32⟩
  | 122 => ⟨S1x96, .f32⟩
  | 123 => ⟨S1x96, .f32⟩
  | 124 => ⟨S8x1x96, .f32⟩
  | 125 => ⟨S_, .f32⟩
  | 126 => ⟨S1x96, .f32⟩
  | 127 => ⟨S_, .f32⟩
  | _ => ⟨S8x24x1024, .f32⟩

abbrev hbmTy0_5 (i : Nat) : BufTy := match i % 128 with
  | 0 => ⟨S1x96, .f32⟩
  | 1 => ⟨S1x96, .f32⟩
  | 2 => ⟨S_, .f32⟩
  | 3 => ⟨S1x96, .f32⟩
  | 4 => ⟨S1x96, .f32⟩
  | 5 => ⟨S1x96, .f32⟩
  | 6 => ⟨S_, .f32⟩
  | 7 => ⟨S1x96, .f32⟩
  | 8 => ⟨S1x96, .f32⟩
  | 9 => ⟨S1x96, .f32⟩
  | 10 => ⟨S_, .f32⟩
  | 11 => ⟨S1x96, .f32⟩
  | 12 => ⟨S1x96, .f32⟩
  | 13 => ⟨S1x96, .f32⟩
  | 14 => ⟨S_, .f32⟩
  | 15 => ⟨S1x96, .f32⟩
  | 16 => ⟨S1x96, .f32⟩
  | 17 => ⟨S_, .f32⟩
  | 18 => ⟨S1x96, .f32⟩
  | 19 => ⟨S1x96, .f32⟩
  | 20 => ⟨S1x96, .f32⟩
  | 21 => ⟨S_, .f32⟩
  | 22 => ⟨S1x96, .f32⟩
  | 23 => ⟨S1x96, .f32⟩
  | 24 => ⟨S1x96, .f32⟩
  | 25 => ⟨S_, .f32⟩
  | 26 => ⟨S1x96, .f32⟩
  | 27 => ⟨S1x96, .f32⟩
  | 28 => ⟨S1x96, .f32⟩
  | 29 => ⟨S_, .f32⟩
  | 30 => ⟨S1x96, .f32⟩
  | 31 => ⟨S1x96, .f32⟩
  | 32 => ⟨S8x1x96, .f32⟩
  | 33 => ⟨S_, .f32⟩
  | 34 => ⟨S1x96, .f32⟩
  | 35 => ⟨S_, .f32⟩
  | 36 => ⟨S1x96, .f32⟩
  | 37 => ⟨S1x96, .f32⟩
  | 38 => ⟨S_, .f32⟩
  | 39 => ⟨S1x96, .f32⟩
  | 40 => ⟨S1x96, .f32⟩
  | 41 => ⟨S1x96, .f32⟩
  | 42 => ⟨S_, .f32⟩
  | 43 => ⟨S1x96, .f32⟩
  | 44 => ⟨S1x96, .f32⟩
  | 45 => ⟨S1x96, .f32⟩
  | 46 => ⟨S_, .f32⟩
  | 47 => ⟨S1x96, .f32⟩
  | 48 => ⟨S1x96, .f32⟩
  | 49 => ⟨S1x96, .f32⟩
  | 50 => ⟨S_, .f32⟩
  | 51 => ⟨S1x96, .f32⟩
  | 52 => ⟨S1x96, .f32⟩
  | 53 => ⟨S_, .f32⟩
  | 54 => ⟨S1x96, .f32⟩
  | 55 => ⟨S1x96, .f32⟩
  | 56 => ⟨S1x96, .f32⟩
  | 57 => ⟨S_, .f32⟩
  | 58 => ⟨S1x96, .f32⟩
  | 59 => ⟨S1x96, .f32⟩
  | 60 => ⟨S1x96, .f32⟩
  | 61 => ⟨S_, .f32⟩
  | 62 => ⟨S1x96, .f32⟩
  | 63 => ⟨S1x96, .f32⟩
  | 64 => ⟨S1x96, .f32⟩
  | 65 => ⟨S_, .f32⟩
  | 66 => ⟨S1x96, .f32⟩
  | 67 => ⟨S1x96, .f32⟩
  | 68 => ⟨S8x1x128, .f32⟩
  | 69 => ⟨S_, .f32⟩
  | 70 => ⟨S1x128, .f32⟩
  | _ => ⟨S8x24x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x24x1024, .f32⟩

abbrev bufTy : (tb : Table) → Fin (tcTables nBuf tb) → BufTy
  | .hbm, ⟨i, _⟩ => hbmTy i
  | _, _ => ⟨S8x24x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_arg55 : Ref sig .tc := ⟨.hbm, 55, rfl⟩
abbrev main_arg56 : Ref sig .tc := ⟨.hbm, 56, rfl⟩
abbrev main_arg57 : Ref sig .tc := ⟨.hbm, 57, rfl⟩
abbrev main_arg58 : Ref sig .tc := ⟨.hbm, 58, rfl⟩
abbrev main_arg59 : Ref sig .tc := ⟨.hbm, 59, rfl⟩
abbrev main_arg60 : Ref sig .tc := ⟨.hbm, 60, rfl⟩
abbrev main_v0 : Ref sig .tc := ⟨.hbm, 61, rfl⟩
abbrev main_cst : Ref sig .tc := ⟨.hbm, 62, rfl⟩
abbrev main_v1 : Ref sig .tc := ⟨.hbm, 63, rfl⟩
abbrev main_cst_0 : Ref sig .tc := ⟨.hbm, 64, rfl⟩
abbrev main_v2 : Ref sig .tc := ⟨.hbm, 65, rfl⟩
abbrev main_v3 : Ref sig .tc := ⟨.hbm, 66, rfl⟩
abbrev main_cst_1 : Ref sig .tc := ⟨.hbm, 67, rfl⟩
abbrev main_v4 : Ref sig .tc := ⟨.hbm, 68, rfl⟩
abbrev main_v5 : Ref sig .tc := ⟨.hbm, 69, rfl⟩
abbrev main_v6 : Ref sig .tc := ⟨.hbm, 70, rfl⟩
abbrev main_cst_2 : Ref sig .tc := ⟨.hbm, 71, rfl⟩
abbrev main_v7 : Ref sig .tc := ⟨.hbm, 72, rfl⟩
abbrev main_v8 : Ref sig .tc := ⟨.hbm, 73, rfl⟩
abbrev main_v9 : Ref sig .tc := ⟨.hbm, 74, rfl⟩
abbrev main_cst_3 : Ref sig .tc := ⟨.hbm, 75, rfl⟩
abbrev main_v10 : Ref sig .tc := ⟨.hbm, 76, rfl⟩
abbrev main_v11 : Ref sig .tc := ⟨.hbm, 77, rfl⟩
abbrev main_v12 : Ref sig .tc := ⟨.hbm, 78, rfl⟩
abbrev main_cst_4 : Ref sig .tc := ⟨.hbm, 79, rfl⟩
abbrev main_v13 : Ref sig .tc := ⟨.hbm, 80, rfl⟩
abbrev main_v14 : Ref sig .tc := ⟨.hbm, 81, rfl⟩
abbrev main_cst_5 : Ref sig .tc := ⟨.hbm, 82, rfl⟩
abbrev main_v15 : Ref sig .tc := ⟨.hbm, 83, rfl⟩
abbrev main_v16 : Ref sig .tc := ⟨.hbm, 84, rfl⟩
abbrev main_v17 : Ref sig .tc := ⟨.hbm, 85, rfl⟩
abbrev main_cst_6 : Ref sig .tc := ⟨.hbm, 86, rfl⟩
abbrev main_v18 : Ref sig .tc := ⟨.hbm, 87, rfl⟩
abbrev main_v19 : Ref sig .tc := ⟨.hbm, 88, rfl⟩
abbrev main_v20 : Ref sig .tc := ⟨.hbm, 89, rfl⟩
abbrev main_cst_7 : Ref sig .tc := ⟨.hbm, 90, rfl⟩
abbrev main_v21 : Ref sig .tc := ⟨.hbm, 91, rfl⟩
abbrev main_v22 : Ref sig .tc := ⟨.hbm, 92, rfl⟩
abbrev main_v23 : Ref sig .tc := ⟨.hbm, 93, rfl⟩
abbrev main_cst_8 : Ref sig .tc := ⟨.hbm, 94, rfl⟩
abbrev main_v24 : Ref sig .tc := ⟨.hbm, 95, rfl⟩
abbrev main_v25 : Ref sig .tc := ⟨.hbm, 96, rfl⟩
abbrev main_v26 : Ref sig .tc := ⟨.hbm, 97, rfl⟩
abbrev main_cst_9 : Ref sig .tc := ⟨.hbm, 98, rfl⟩
abbrev main_v27 : Ref sig .tc := ⟨.hbm, 99, rfl⟩
abbrev main_cst_10 : Ref sig .tc := ⟨.hbm, 100, rfl⟩
abbrev main_v28 : Ref sig .tc := ⟨.hbm, 101, rfl⟩
abbrev main_v29 : Ref sig .tc := ⟨.hbm, 102, rfl⟩
abbrev main_cst_11 : Ref sig .tc := ⟨.hbm, 103, rfl⟩
abbrev main_v30 : Ref sig .tc := ⟨.hbm, 104, rfl⟩
abbrev main_v31 : Ref sig .tc := ⟨.hbm, 105, rfl⟩
abbrev main_v32 : Ref sig .tc := ⟨.hbm, 106, rfl⟩
abbrev main_cst_12 : Ref sig .tc := ⟨.hbm, 107, rfl⟩
abbrev main_v33 : Ref sig .tc := ⟨.hbm, 108, rfl⟩
abbrev main_v34 : Ref sig .tc := ⟨.hbm, 109, rfl⟩
abbrev main_v35 : Ref sig .tc := ⟨.hbm, 110, rfl⟩
abbrev main_cst_13 : Ref sig .tc := ⟨.hbm, 111, rfl⟩
abbrev main_v36 : Ref sig .tc := ⟨.hbm, 112, rfl⟩
abbrev main_v37 : Ref sig .tc := ⟨.hbm, 113, rfl⟩
abbrev main_v38 : Ref sig .tc := ⟨.hbm, 114, rfl⟩
abbrev main_cst_14 : Ref sig .tc := ⟨.hbm, 115, rfl⟩
abbrev main_v39 : Ref sig .tc := ⟨.hbm, 116, rfl⟩
abbrev main_v40 : Ref sig .tc := ⟨.hbm, 117, rfl⟩
abbrev main_cst_15 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_cst_16 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_cst_17 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_cst_18 : Ref sig .tc := ⟨.hbm, 130, rfl⟩
abbrev main_v50 : Ref sig .tc := ⟨.hbm, 131, rfl⟩
abbrev main_v51 : Ref sig .tc := ⟨.hbm, 132, rfl⟩
abbrev main_v52 : Ref sig .tc := ⟨.hbm, 133, rfl⟩
abbrev main_cst_19 : Ref sig .tc := ⟨.hbm, 134, rfl⟩
abbrev main_v53 : Ref sig .tc := ⟨.hbm, 135, rfl⟩
abbrev main_cst_20 : Ref sig .tc := ⟨.hbm, 136, rfl⟩
abbrev main_v54 : Ref sig .tc := ⟨.hbm, 137, rfl⟩
abbrev main_v55 : Ref sig .tc := ⟨.hbm, 138, rfl⟩
abbrev main_cst_21 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_cst_22 : Ref sig .tc := ⟨.hbm, 143, rfl⟩
abbrev main_v59 : Ref sig .tc := ⟨.hbm, 144, rfl⟩
abbrev main_v60 : Ref sig .tc := ⟨.hbm, 145, rfl⟩
abbrev main_v61 : Ref sig .tc := ⟨.hbm, 146, rfl⟩
abbrev main_cst_23 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_cst_24 : Ref sig .tc := ⟨.hbm, 151, rfl⟩
abbrev main_v65 : Ref sig .tc := ⟨.hbm, 152, rfl⟩
abbrev main_v66 : Ref sig .tc := ⟨.hbm, 153, rfl⟩
abbrev main_cst_25 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_cst_26 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_cst_27 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_cst_28 : Ref sig .tc := ⟨.hbm, 166, rfl⟩
abbrev main_v76 : Ref sig .tc := ⟨.hbm, 167, rfl⟩
abbrev main_v77 : Ref sig .tc := ⟨.hbm, 168, rfl⟩
abbrev main_v78 : Ref sig .tc := ⟨.hbm, 169, rfl⟩
abbrev main_cst_29 : Ref sig .tc := ⟨.hbm, 170, rfl⟩
abbrev main_v79 : Ref sig .tc := ⟨.hbm, 171, rfl⟩
abbrev main_cst_30 : Ref sig .tc := ⟨.hbm, 172, rfl⟩
abbrev main_v80 : Ref sig .tc := ⟨.hbm, 173, rfl⟩
abbrev main_v81 : Ref sig .tc := ⟨.hbm, 174, rfl⟩
abbrev main_cst_31 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_cst_32 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_cst_33 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_cst_34 : Ref sig .tc := ⟨.hbm, 187, rfl⟩
abbrev main_v91 : Ref sig .tc := ⟨.hbm, 188, rfl⟩
abbrev main_v92 : Ref sig .tc := ⟨.hbm, 189, rfl⟩
abbrev main_cst_35 : Ref sig .tc := ⟨.hbm, 190, rfl⟩
abbrev main_v93 : Ref sig .tc := ⟨.hbm, 191, rfl⟩
abbrev main_v94 : Ref sig .tc := ⟨.hbm, 192, rfl⟩
abbrev main_v95 : Ref sig .tc := ⟨.hbm, 193, rfl⟩
abbrev main_cst_36 : Ref sig .tc := ⟨.hbm, 194, rfl⟩
abbrev main_v96 : Ref sig .tc := ⟨.hbm, 195, rfl⟩
abbrev main_v97 : Ref sig .tc := ⟨.hbm, 196, rfl⟩
abbrev main_v98 : Ref sig .tc := ⟨.hbm, 197, rfl⟩
abbrev main_cst_37 : Ref sig .tc := ⟨.hbm, 198, rfl⟩
abbrev main_v99 : Ref sig .tc := ⟨.hbm, 199, rfl⟩
abbrev main_v100 : Ref sig .tc := ⟨.hbm, 200, rfl⟩
abbrev main_v101 : Ref sig .tc := ⟨.hbm, 201, rfl⟩
abbrev main_cst_38 : Ref sig .tc := ⟨.hbm, 202, rfl⟩
abbrev main_v102 : Ref sig .tc := ⟨.hbm, 203, rfl⟩
abbrev main_v103 : Ref sig .tc := ⟨.hbm, 204, rfl⟩
abbrev main_v104 : Ref sig .tc := ⟨.hbm, 205, rfl⟩
abbrev main_cst_39 : Ref sig .tc := ⟨.hbm, 206, rfl⟩
abbrev main_v105 : Ref sig .tc := ⟨.hbm, 207, rfl⟩
abbrev main_cst_40 : Ref sig .tc := ⟨.hbm, 208, rfl⟩
abbrev main_v106 : Ref sig .tc := ⟨.hbm, 209, rfl⟩
abbrev main_v107 : Ref sig .tc := ⟨.hbm, 210, rfl⟩
abbrev main_cst_41 : Ref sig .tc := ⟨.hbm, 211, rfl⟩
abbrev main_v108 : Ref sig .tc := ⟨.hbm, 212, rfl⟩
abbrev main_v109 : Ref sig .tc := ⟨.hbm, 213, rfl⟩
abbrev main_v110 : Ref sig .tc := ⟨.hbm, 214, rfl⟩
abbrev main_cst_42 : Ref sig .tc := ⟨.hbm, 215, rfl⟩
abbrev main_v111 : Ref sig .tc := ⟨.hbm, 216, rfl⟩
abbrev main_v112 : Ref sig .tc := ⟨.hbm, 217, rfl⟩
abbrev main_v113 : Ref sig .tc := ⟨.hbm, 218, rfl⟩
abbrev main_cst_43 : Ref sig .tc := ⟨.hbm, 219, rfl⟩
abbrev main_v114 : Ref sig .tc := ⟨.hbm, 220, rfl⟩
abbrev main_v115 : Ref sig .tc := ⟨.hbm, 221, rfl⟩
abbrev main_v116 : Ref sig .tc := ⟨.hbm, 222, rfl⟩
abbrev main_cst_44 : Ref sig .tc := ⟨.hbm, 223, rfl⟩
abbrev main_v117 : Ref sig .tc := ⟨.hbm, 224, rfl⟩
abbrev main_v118 : Ref sig .tc := ⟨.hbm, 225, rfl⟩
abbrev main_cst_45 : Ref sig .tc := ⟨.hbm, 226, rfl⟩
abbrev main_v119 : Ref sig .tc := ⟨.hbm, 227, rfl⟩
abbrev main_v120 : Ref sig .tc := ⟨.hbm, 228, rfl⟩
abbrev main_v121 : Ref sig .tc := ⟨.hbm, 229, rfl⟩
abbrev main_cst_46 : Ref sig .tc := ⟨.hbm, 230, rfl⟩
abbrev main_v122 : Ref sig .tc := ⟨.hbm, 231, rfl⟩
abbrev main_v123 : Ref sig .tc := ⟨.hbm, 232, rfl⟩
abbrev main_v124 : Ref sig .tc := ⟨.hbm, 233, rfl⟩
abbrev main_cst_47 : Ref sig .tc := ⟨.hbm, 234, rfl⟩
abbrev main_v125 : Ref sig .tc := ⟨.hbm, 235, rfl⟩
abbrev main_v126 : Ref sig .tc := ⟨.hbm, 236, rfl⟩
abbrev main_v127 : Ref sig .tc := ⟨.hbm, 237, rfl⟩
abbrev main_cst_48 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩
abbrev main_cst_49 : Ref sig .tc := ⟨.hbm, 242, rfl⟩
abbrev main_v131 : Ref sig .tc := ⟨.hbm, 243, rfl⟩
abbrev main_cst_50 : Ref sig .tc := ⟨.hbm, 244, rfl⟩
abbrev main_v132 : Ref sig .tc := ⟨.hbm, 245, rfl⟩
abbrev main_v133 : Ref sig .tc := ⟨.hbm, 246, rfl⟩
abbrev main_cst_51 : Ref sig .tc := ⟨.hbm, 247, rfl⟩
abbrev main_v134 : Ref sig .tc := ⟨.hbm, 248, rfl⟩
abbrev main_v135 : Ref sig .tc := ⟨.hbm, 249, rfl⟩
abbrev main_v136 : Ref sig .tc := ⟨.hbm, 250, rfl⟩
abbrev main_cst_52 : Ref sig .tc := ⟨.hbm, 251, rfl⟩
abbrev main_v137 : Ref sig .tc := ⟨.hbm, 252, rfl⟩
abbrev main_v138 : Ref sig .tc := ⟨.hbm, 253, rfl⟩
abbrev main_v139 : Ref sig .tc := ⟨.hbm, 254, rfl⟩
abbrev main_cst_53 : Ref sig .tc := ⟨.hbm, 255, rfl⟩
abbrev main_v140 : Ref sig .tc := ⟨.hbm, 256, rfl⟩
abbrev main_v141 : Ref sig .tc := ⟨.hbm, 257, rfl⟩
abbrev main_v142 : Ref sig .tc := ⟨.hbm, 258, rfl⟩
abbrev main_cst_54 : Ref sig .tc := ⟨.hbm, 259, rfl⟩
abbrev main_v143 : Ref sig .tc := ⟨.hbm, 260, rfl⟩
abbrev main_v144 : Ref sig .tc := ⟨.hbm, 261, rfl⟩
abbrev main_cst_55 : Ref sig .tc := ⟨.hbm, 262, rfl⟩
abbrev main_v145 : Ref sig .tc := ⟨.hbm, 263, rfl⟩
abbrev main_v146 : Ref sig .tc := ⟨.hbm, 264, rfl⟩
abbrev main_v147 : Ref sig .tc := ⟨.hbm, 265, rfl⟩
abbrev main_cst_56 : Ref sig .tc := ⟨.hbm, 266, rfl⟩
abbrev main_v148 : Ref sig .tc := ⟨.hbm, 267, rfl⟩
abbrev main_v149 : Ref sig .tc := ⟨.hbm, 268, rfl⟩
abbrev main_v150 : Ref sig .tc := ⟨.hbm, 269, rfl⟩
abbrev main_cst_57 : Ref sig .tc := ⟨.hbm, 270, rfl⟩
abbrev main_v151 : Ref sig .tc := ⟨.hbm, 271, rfl⟩
abbrev main_v152 : Ref sig .tc := ⟨.hbm, 272, rfl⟩
abbrev main_v153 : Ref sig .tc := ⟨.hbm, 273, rfl⟩
abbrev main_cst_58 : Ref sig .tc := ⟨.hbm, 274, rfl⟩
abbrev main_v154 : Ref sig .tc := ⟨.hbm, 275, rfl⟩
abbrev main_v155 : Ref sig .tc := ⟨.hbm, 276, rfl⟩
abbrev main_v156 : Ref sig .tc := ⟨.hbm, 277, rfl⟩
abbrev main_cst_59 : Ref sig .tc := ⟨.hbm, 278, rfl⟩
abbrev main_v157 : Ref sig .tc := ⟨.hbm, 279, rfl⟩
abbrev main_cst_60 : Ref sig .tc := ⟨.hbm, 280, rfl⟩
abbrev main_v158 : Ref sig .tc := ⟨.hbm, 281, rfl⟩
abbrev main_v159 : Ref sig .tc := ⟨.hbm, 282, rfl⟩
abbrev main_cst_61 : Ref sig .tc := ⟨.hbm, 283, rfl⟩
abbrev main_v160 : Ref sig .tc := ⟨.hbm, 284, rfl⟩
abbrev main_v161 : Ref sig .tc := ⟨.hbm, 285, rfl⟩
abbrev main_v162 : Ref sig .tc := ⟨.hbm, 286, rfl⟩
abbrev main_cst_62 : Ref sig .tc := ⟨.hbm, 287, rfl⟩
abbrev main_v163 : Ref sig .tc := ⟨.hbm, 288, rfl⟩
abbrev main_v164 : Ref sig .tc := ⟨.hbm, 289, rfl⟩
abbrev main_v165 : Ref sig .tc := ⟨.hbm, 290, rfl⟩
abbrev main_cst_63 : Ref sig .tc := ⟨.hbm, 291, rfl⟩
abbrev main_v166 : Ref sig .tc := ⟨.hbm, 292, rfl⟩
abbrev main_v167 : Ref sig .tc := ⟨.hbm, 293, rfl⟩
abbrev main_v168 : Ref sig .tc := ⟨.hbm, 294, rfl⟩
abbrev main_cst_64 : Ref sig .tc := ⟨.hbm, 295, rfl⟩
abbrev main_v169 : Ref sig .tc := ⟨.hbm, 296, rfl⟩
abbrev main_v170 : Ref sig .tc := ⟨.hbm, 297, rfl⟩
abbrev main_cst_65 : Ref sig .tc := ⟨.hbm, 298, rfl⟩
abbrev main_v171 : Ref sig .tc := ⟨.hbm, 299, rfl⟩
abbrev main_v172 : Ref sig .tc := ⟨.hbm, 300, rfl⟩
abbrev main_v173 : Ref sig .tc := ⟨.hbm, 301, rfl⟩
abbrev main_cst_66 : Ref sig .tc := ⟨.hbm, 302, rfl⟩
abbrev main_v174 : Ref sig .tc := ⟨.hbm, 303, rfl⟩
abbrev main_v175 : Ref sig .tc := ⟨.hbm, 304, rfl⟩
abbrev main_v176 : Ref sig .tc := ⟨.hbm, 305, rfl⟩
abbrev main_cst_67 : Ref sig .tc := ⟨.hbm, 306, rfl⟩
abbrev main_v177 : Ref sig .tc := ⟨.hbm, 307, rfl⟩
abbrev main_v178 : Ref sig .tc := ⟨.hbm, 308, rfl⟩
abbrev main_v179 : Ref sig .tc := ⟨.hbm, 309, rfl⟩
abbrev main_cst_68 : Ref sig .tc := ⟨.hbm, 310, rfl⟩
abbrev main_v180 : Ref sig .tc := ⟨.hbm, 311, rfl⟩
abbrev main_v181 : Ref sig .tc := ⟨.hbm, 312, rfl⟩
abbrev main_cst_69 : Ref sig .tc := ⟨.hbm, 313, rfl⟩
abbrev main_v182 : Ref sig .tc := ⟨.hbm, 314, rfl⟩
abbrev main_cst_70 : Ref sig .tc := ⟨.hbm, 315, rfl⟩
abbrev main_v183 : Ref sig .tc := ⟨.hbm, 316, rfl⟩
abbrev main_v184 : Ref sig .tc := ⟨.hbm, 317, rfl⟩
abbrev main_cst_71 : Ref sig .tc := ⟨.hbm, 318, rfl⟩
abbrev main_v185 : Ref sig .tc := ⟨.hbm, 319, rfl⟩
abbrev main_v186 : Ref sig .tc := ⟨.hbm, 320, rfl⟩
abbrev main_v187 : Ref sig .tc := ⟨.hbm, 321, rfl⟩
abbrev main_cst_72 : Ref sig .tc := ⟨.hbm, 322, rfl⟩
abbrev main_v188 : Ref sig .tc := ⟨.hbm, 323, rfl⟩
abbrev main_v189 : Ref sig .tc := ⟨.hbm, 324, rfl⟩
abbrev main_v190 : Ref sig .tc := ⟨.hbm, 325, rfl⟩
abbrev main_cst_73 : Ref sig .tc := ⟨.hbm, 326, rfl⟩
abbrev main_v191 : Ref sig .tc := ⟨.hbm, 327, rfl⟩
abbrev main_v192 : Ref sig .tc := ⟨.hbm, 328, rfl⟩
abbrev main_v193 : Ref sig .tc := ⟨.hbm, 329, rfl⟩
abbrev main_cst_74 : Ref sig .tc := ⟨.hbm, 330, rfl⟩
abbrev main_v194 : Ref sig .tc := ⟨.hbm, 331, rfl⟩
abbrev main_v195 : Ref sig .tc := ⟨.hbm, 332, rfl⟩
abbrev main_cst_75 : Ref sig .tc := ⟨.hbm, 333, rfl⟩
abbrev main_v196 : Ref sig .tc := ⟨.hbm, 334, rfl⟩
abbrev main_v197 : Ref sig .tc := ⟨.hbm, 335, rfl⟩
abbrev main_v198 : Ref sig .tc := ⟨.hbm, 336, rfl⟩
abbrev main_cst_76 : Ref sig .tc := ⟨.hbm, 337, rfl⟩
abbrev main_v199 : Ref sig .tc := ⟨.hbm, 338, rfl⟩
abbrev main_v200 : Ref sig .tc := ⟨.hbm, 339, rfl⟩
abbrev main_v201 : Ref sig .tc := ⟨.hbm, 340, rfl⟩
abbrev main_cst_77 : Ref sig .tc := ⟨.hbm, 341, rfl⟩
abbrev main_v202 : Ref sig .tc := ⟨.hbm, 342, rfl⟩
abbrev main_v203 : Ref sig .tc := ⟨.hbm, 343, rfl⟩
abbrev main_v204 : Ref sig .tc := ⟨.hbm, 344, rfl⟩
abbrev main_cst_78 : Ref sig .tc := ⟨.hbm, 345, rfl⟩
abbrev main_v205 : Ref sig .tc := ⟨.hbm, 346, rfl⟩
abbrev main_v206 : Ref sig .tc := ⟨.hbm, 347, rfl⟩
abbrev main_v207 : Ref sig .tc := ⟨.hbm, 348, rfl⟩
abbrev main_cst_79 : Ref sig .tc := ⟨.hbm, 349, rfl⟩
abbrev main_v208 : Ref sig .tc := ⟨.hbm, 350, rfl⟩
abbrev main_cst_80 : Ref sig .tc := ⟨.hbm, 351, rfl⟩
abbrev main_v209 : Ref sig .tc := ⟨.hbm, 352, rfl⟩
abbrev main_v210 : Ref sig .tc := ⟨.hbm, 353, rfl⟩
abbrev main_cst_81 : Ref sig .tc := ⟨.hbm, 354, rfl⟩
abbrev main_v211 : Ref sig .tc := ⟨.hbm, 355, rfl⟩
abbrev main_v212 : Ref sig .tc := ⟨.hbm, 356, rfl⟩
abbrev main_v213 : Ref sig .tc := ⟨.hbm, 357, rfl⟩
abbrev main_cst_82 : Ref sig .tc := ⟨.hbm, 358, rfl⟩
abbrev main_v214 : Ref sig .tc := ⟨.hbm, 359, rfl⟩
abbrev main_v215 : Ref sig .tc := ⟨.hbm, 360, rfl⟩
abbrev main_v216 : Ref sig .tc := ⟨.hbm, 361, rfl⟩
abbrev main_cst_83 : Ref sig .tc := ⟨.hbm, 362, rfl⟩
abbrev main_v217 : Ref sig .tc := ⟨.hbm, 363, rfl⟩
abbrev main_v218 : Ref sig .tc := ⟨.hbm, 364, rfl⟩
abbrev main_v219 : Ref sig .tc := ⟨.hbm, 365, rfl⟩
abbrev main_cst_84 : Ref sig .tc := ⟨.hbm, 366, rfl⟩
abbrev main_v220 : Ref sig .tc := ⟨.hbm, 367, rfl⟩
abbrev main_v221 : Ref sig .tc := ⟨.hbm, 368, rfl⟩
abbrev main_cst_85 : Ref sig .tc := ⟨.hbm, 369, rfl⟩
abbrev main_v222 : Ref sig .tc := ⟨.hbm, 370, rfl⟩
abbrev main_v223 : Ref sig .tc := ⟨.hbm, 371, rfl⟩
abbrev main_v224 : Ref sig .tc := ⟨.hbm, 372, rfl⟩
abbrev main_cst_86 : Ref sig .tc := ⟨.hbm, 373, rfl⟩
abbrev main_v225 : Ref sig .tc := ⟨.hbm, 374, rfl⟩
abbrev main_v226 : Ref sig .tc := ⟨.hbm, 375, rfl⟩
abbrev main_v227 : Ref sig .tc := ⟨.hbm, 376, rfl⟩
abbrev main_cst_87 : Ref sig .tc := ⟨.hbm, 377, rfl⟩
abbrev main_v228 : Ref sig .tc := ⟨.hbm, 378, rfl⟩
abbrev main_v229 : Ref sig .tc := ⟨.hbm, 379, rfl⟩
abbrev main_v230 : Ref sig .tc := ⟨.hbm, 380, rfl⟩
abbrev main_cst_88 : Ref sig .tc := ⟨.hbm, 381, rfl⟩
abbrev main_v231 : Ref sig .tc := ⟨.hbm, 382, rfl⟩
abbrev main_v232 : Ref sig .tc := ⟨.hbm, 383, rfl⟩
abbrev main_v233 : Ref sig .tc := ⟨.hbm, 384, rfl⟩
abbrev main_cst_89 : Ref sig .tc := ⟨.hbm, 385, rfl⟩
abbrev main_v234 : Ref sig .tc := ⟨.hbm, 386, rfl⟩
abbrev main_cst_90 : Ref sig .tc := ⟨.hbm, 387, rfl⟩
abbrev main_v235 : Ref sig .tc := ⟨.hbm, 388, rfl⟩
abbrev main_v236 : Ref sig .tc := ⟨.hbm, 389, rfl⟩
abbrev main_cst_91 : Ref sig .tc := ⟨.hbm, 390, rfl⟩
abbrev main_v237 : Ref sig .tc := ⟨.hbm, 391, rfl⟩
abbrev main_v238 : Ref sig .tc := ⟨.hbm, 392, rfl⟩
abbrev main_v239 : Ref sig .tc := ⟨.hbm, 393, rfl⟩
abbrev main_cst_92 : Ref sig .tc := ⟨.hbm, 394, rfl⟩
abbrev main_v240 : Ref sig .tc := ⟨.hbm, 395, rfl⟩
abbrev main_v241 : Ref sig .tc := ⟨.hbm, 396, rfl⟩
abbrev main_v242 : Ref sig .tc := ⟨.hbm, 397, rfl⟩
abbrev main_cst_93 : Ref sig .tc := ⟨.hbm, 398, rfl⟩
abbrev main_v243 : Ref sig .tc := ⟨.hbm, 399, rfl⟩
abbrev main_v244 : Ref sig .tc := ⟨.hbm, 400, rfl⟩
abbrev main_v245 : Ref sig .tc := ⟨.hbm, 401, rfl⟩
abbrev main_cst_94 : Ref sig .tc := ⟨.hbm, 402, rfl⟩
abbrev main_v246 : Ref sig .tc := ⟨.hbm, 403, rfl⟩
abbrev main_v247 : Ref sig .tc := ⟨.hbm, 404, rfl⟩
abbrev main_cst_95 : Ref sig .tc := ⟨.hbm, 405, rfl⟩
abbrev main_v248 : Ref sig .tc := ⟨.hbm, 406, rfl⟩
abbrev main_v249 : Ref sig .tc := ⟨.hbm, 407, rfl⟩
abbrev main_v250 : Ref sig .tc := ⟨.hbm, 408, rfl⟩
abbrev main_cst_96 : Ref sig .tc := ⟨.hbm, 409, rfl⟩
abbrev main_v251 : Ref sig .tc := ⟨.hbm, 410, rfl⟩
abbrev main_v252 : Ref sig .tc := ⟨.hbm, 411, rfl⟩
abbrev main_v253 : Ref sig .tc := ⟨.hbm, 412, rfl⟩
abbrev main_cst_97 : Ref sig .tc := ⟨.hbm, 413, rfl⟩
abbrev main_v254 : Ref sig .tc := ⟨.hbm, 414, rfl⟩
abbrev main_v255 : Ref sig .tc := ⟨.hbm, 415, rfl⟩
abbrev main_v256 : Ref sig .tc := ⟨.hbm, 416, rfl⟩
abbrev main_cst_98 : Ref sig .tc := ⟨.hbm, 417, rfl⟩
abbrev main_v257 : Ref sig .tc := ⟨.hbm, 418, rfl⟩
abbrev main_v258 : Ref sig .tc := ⟨.hbm, 419, rfl⟩
abbrev main_v259 : Ref sig .tc := ⟨.hbm, 420, rfl⟩
abbrev main_cst_99 : Ref sig .tc := ⟨.hbm, 421, rfl⟩
abbrev main_v260 : Ref sig .tc := ⟨.hbm, 422, rfl⟩
abbrev main_cst_100 : Ref sig .tc := ⟨.hbm, 423, rfl⟩
abbrev main_v261 : Ref sig .tc := ⟨.hbm, 424, rfl⟩
abbrev main_v262 : Ref sig .tc := ⟨.hbm, 425, rfl⟩
abbrev main_cst_101 : Ref sig .tc := ⟨.hbm, 426, rfl⟩
abbrev main_v263 : Ref sig .tc := ⟨.hbm, 427, rfl⟩
abbrev main_v264 : Ref sig .tc := ⟨.hbm, 428, rfl⟩
abbrev main_v265 : Ref sig .tc := ⟨.hbm, 429, rfl⟩
abbrev main_cst_102 : Ref sig .tc := ⟨.hbm, 430, rfl⟩
abbrev main_v266 : Ref sig .tc := ⟨.hbm, 431, rfl⟩
abbrev main_v267 : Ref sig .tc := ⟨.hbm, 432, rfl⟩
abbrev main_v268 : Ref sig .tc := ⟨.hbm, 433, rfl⟩
abbrev main_cst_103 : Ref sig .tc := ⟨.hbm, 434, rfl⟩
abbrev main_v269 : Ref sig .tc := ⟨.hbm, 435, rfl⟩
abbrev main_v270 : Ref sig .tc := ⟨.hbm, 436, rfl⟩
abbrev main_v271 : Ref sig .tc := ⟨.hbm, 437, rfl⟩
abbrev main_cst_104 : Ref sig .tc := ⟨.hbm, 438, rfl⟩
abbrev main_v272 : Ref sig .tc := ⟨.hbm, 439, rfl⟩
abbrev main_v273 : Ref sig .tc := ⟨.hbm, 440, rfl⟩
abbrev main_cst_105 : Ref sig .tc := ⟨.hbm, 441, rfl⟩
abbrev main_v274 : Ref sig .tc := ⟨.hbm, 442, rfl⟩
abbrev main_v275 : Ref sig .tc := ⟨.hbm, 443, rfl⟩
abbrev main_v276 : Ref sig .tc := ⟨.hbm, 444, rfl⟩
abbrev main_cst_106 : Ref sig .tc := ⟨.hbm, 445, rfl⟩
abbrev main_v277 : Ref sig .tc := ⟨.hbm, 446, rfl⟩
abbrev main_v278 : Ref sig .tc := ⟨.hbm, 447, rfl⟩
abbrev main_v279 : Ref sig .tc := ⟨.hbm, 448, rfl⟩
abbrev main_cst_107 : Ref sig .tc := ⟨.hbm, 449, rfl⟩
abbrev main_v280 : Ref sig .tc := ⟨.hbm, 450, rfl⟩
abbrev main_v281 : Ref sig .tc := ⟨.hbm, 451, rfl⟩
abbrev main_v282 : Ref sig .tc := ⟨.hbm, 452, rfl⟩
abbrev main_cst_108 : Ref sig .tc := ⟨.hbm, 453, rfl⟩
abbrev main_v283 : Ref sig .tc := ⟨.hbm, 454, rfl⟩
abbrev main_v284 : Ref sig .tc := ⟨.hbm, 455, rfl⟩
abbrev main_v285 : Ref sig .tc := ⟨.hbm, 456, rfl⟩
abbrev main_cst_109 : Ref sig .tc := ⟨.hbm, 457, rfl⟩
abbrev main_v286 : Ref sig .tc := ⟨.hbm, 458, rfl⟩
abbrev main_cst_110 : Ref sig .tc := ⟨.hbm, 459, rfl⟩
abbrev main_v287 : Ref sig .tc := ⟨.hbm, 460, rfl⟩
abbrev main_v288 : Ref sig .tc := ⟨.hbm, 461, rfl⟩
abbrev main_cst_111 : Ref sig .tc := ⟨.hbm, 462, rfl⟩
abbrev main_v289 : Ref sig .tc := ⟨.hbm, 463, rfl⟩
abbrev main_v290 : Ref sig .tc := ⟨.hbm, 464, rfl⟩
abbrev main_v291 : Ref sig .tc := ⟨.hbm, 465, rfl⟩
abbrev main_cst_112 : Ref sig .tc := ⟨.hbm, 466, rfl⟩
abbrev main_v292 : Ref sig .tc := ⟨.hbm, 467, rfl⟩
abbrev main_v293 : Ref sig .tc := ⟨.hbm, 468, rfl⟩
abbrev main_v294 : Ref sig .tc := ⟨.hbm, 469, rfl⟩
abbrev main_cst_113 : Ref sig .tc := ⟨.hbm, 470, rfl⟩
abbrev main_v295 : Ref sig .tc := ⟨.hbm, 471, rfl⟩
abbrev main_v296 : Ref sig .tc := ⟨.hbm, 472, rfl⟩
abbrev main_v297 : Ref sig .tc := ⟨.hbm, 473, rfl⟩
abbrev main_cst_114 : Ref sig .tc := ⟨.hbm, 474, rfl⟩
abbrev main_v298 : Ref sig .tc := ⟨.hbm, 475, rfl⟩
abbrev main_v299 : Ref sig .tc := ⟨.hbm, 476, rfl⟩
abbrev main_cst_115 : Ref sig .tc := ⟨.hbm, 477, rfl⟩
abbrev main_v300 : Ref sig .tc := ⟨.hbm, 478, rfl⟩
abbrev main_v301 : Ref sig .tc := ⟨.hbm, 479, rfl⟩
abbrev main_v302 : Ref sig .tc := ⟨.hbm, 480, rfl⟩
abbrev main_cst_116 : Ref sig .tc := ⟨.hbm, 481, rfl⟩
abbrev main_v303 : Ref sig .tc := ⟨.hbm, 482, rfl⟩
abbrev main_v304 : Ref sig .tc := ⟨.hbm, 483, rfl⟩
abbrev main_v305 : Ref sig .tc := ⟨.hbm, 484, rfl⟩
abbrev main_cst_117 : Ref sig .tc := ⟨.hbm, 485, rfl⟩
abbrev main_v306 : Ref sig .tc := ⟨.hbm, 486, rfl⟩
abbrev main_v307 : Ref sig .tc := ⟨.hbm, 487, rfl⟩
abbrev main_v308 : Ref sig .tc := ⟨.hbm, 488, rfl⟩
abbrev main_cst_118 : Ref sig .tc := ⟨.hbm, 489, rfl⟩
abbrev main_v309 : Ref sig .tc := ⟨.hbm, 490, rfl⟩
abbrev main_v310 : Ref sig .tc := ⟨.hbm, 491, rfl⟩
abbrev main_v311 : Ref sig .tc := ⟨.hbm, 492, rfl⟩
abbrev main_cst_119 : Ref sig .tc := ⟨.hbm, 493, rfl⟩
abbrev main_v312 : Ref sig .tc := ⟨.hbm, 494, rfl⟩
abbrev main_cst_120 : Ref sig .tc := ⟨.hbm, 495, rfl⟩
abbrev main_v313 : Ref sig .tc := ⟨.hbm, 496, rfl⟩
abbrev main_v314 : Ref sig .tc := ⟨.hbm, 497, rfl⟩
abbrev main_cst_121 : Ref sig .tc := ⟨.hbm, 498, rfl⟩
abbrev main_v315 : Ref sig .tc := ⟨.hbm, 499, rfl⟩
abbrev main_v316 : Ref sig .tc := ⟨.hbm, 500, rfl⟩
abbrev main_v317 : Ref sig .tc := ⟨.hbm, 501, rfl⟩
abbrev main_cst_122 : Ref sig .tc := ⟨.hbm, 502, rfl⟩
abbrev main_v318 : Ref sig .tc := ⟨.hbm, 503, rfl⟩
abbrev main_v319 : Ref sig .tc := ⟨.hbm, 504, rfl⟩
abbrev main_v320 : Ref sig .tc := ⟨.hbm, 505, rfl⟩
abbrev main_cst_123 : Ref sig .tc := ⟨.hbm, 506, rfl⟩
abbrev main_v321 : Ref sig .tc := ⟨.hbm, 507, rfl⟩
abbrev main_v322 : Ref sig .tc := ⟨.hbm, 508, rfl⟩
abbrev main_v323 : Ref sig .tc := ⟨.hbm, 509, rfl⟩
abbrev main_cst_124 : Ref sig .tc := ⟨.hbm, 510, rfl⟩
abbrev main_v324 : Ref sig .tc := ⟨.hbm, 511, rfl⟩
abbrev main_v325 : Ref sig .tc := ⟨.hbm, 512, rfl⟩
abbrev main_cst_125 : Ref sig .tc := ⟨.hbm, 513, rfl⟩
abbrev main_v326 : Ref sig .tc := ⟨.hbm, 514, rfl⟩
abbrev main_v327 : Ref sig .tc := ⟨.hbm, 515, rfl⟩
abbrev main_v328 : Ref sig .tc := ⟨.hbm, 516, rfl⟩
abbrev main_cst_126 : Ref sig .tc := ⟨.hbm, 517, rfl⟩
abbrev main_v329 : Ref sig .tc := ⟨.hbm, 518, rfl⟩
abbrev main_v330 : Ref sig .tc := ⟨.hbm, 519, rfl⟩
abbrev main_v331 : Ref sig .tc := ⟨.hbm, 520, rfl⟩
abbrev main_cst_127 : Ref sig .tc := ⟨.hbm, 521, rfl⟩
abbrev main_v332 : Ref sig .tc := ⟨.hbm, 522, rfl⟩
abbrev main_v333 : Ref sig .tc := ⟨.hbm, 523, rfl⟩
abbrev main_v334 : Ref sig .tc := ⟨.hbm, 524, rfl⟩
abbrev main_cst_128 : Ref sig .tc := ⟨.hbm, 525, rfl⟩
abbrev main_v335 : Ref sig .tc := ⟨.hbm, 526, rfl⟩
abbrev main_v336 : Ref sig .tc := ⟨.hbm, 527, rfl⟩
abbrev main_v337 : Ref sig .tc := ⟨.hbm, 528, rfl⟩
abbrev main_cst_129 : Ref sig .tc := ⟨.hbm, 529, rfl⟩
abbrev main_v338 : Ref sig .tc := ⟨.hbm, 530, rfl⟩
abbrev main_cst_130 : Ref sig .tc := ⟨.hbm, 531, rfl⟩
abbrev main_v339 : Ref sig .tc := ⟨.hbm, 532, rfl⟩
abbrev main_v340 : Ref sig .tc := ⟨.hbm, 533, rfl⟩
abbrev main_cst_131 : Ref sig .tc := ⟨.hbm, 534, rfl⟩
abbrev main_v341 : Ref sig .tc := ⟨.hbm, 535, rfl⟩
abbrev main_v342 : Ref sig .tc := ⟨.hbm, 536, rfl⟩
abbrev main_v343 : Ref sig .tc := ⟨.hbm, 537, rfl⟩
abbrev main_cst_132 : Ref sig .tc := ⟨.hbm, 538, rfl⟩
abbrev main_v344 : Ref sig .tc := ⟨.hbm, 539, rfl⟩
abbrev main_v345 : Ref sig .tc := ⟨.hbm, 540, rfl⟩
abbrev main_v346 : Ref sig .tc := ⟨.hbm, 541, rfl⟩
abbrev main_cst_133 : Ref sig .tc := ⟨.hbm, 542, rfl⟩
abbrev main_v347 : Ref sig .tc := ⟨.hbm, 543, rfl⟩
abbrev main_v348 : Ref sig .tc := ⟨.hbm, 544, rfl⟩
abbrev main_v349 : Ref sig .tc := ⟨.hbm, 545, rfl⟩
abbrev main_cst_134 : Ref sig .tc := ⟨.hbm, 546, rfl⟩
abbrev main_v350 : Ref sig .tc := ⟨.hbm, 547, rfl⟩
abbrev main_v351 : Ref sig .tc := ⟨.hbm, 548, rfl⟩
abbrev main_cst_135 : Ref sig .tc := ⟨.hbm, 549, rfl⟩
abbrev main_v352 : Ref sig .tc := ⟨.hbm, 550, rfl⟩
abbrev main_v353 : Ref sig .tc := ⟨.hbm, 551, rfl⟩
abbrev main_v354 : Ref sig .tc := ⟨.hbm, 552, rfl⟩
abbrev main_cst_136 : Ref sig .tc := ⟨.hbm, 553, rfl⟩
abbrev main_v355 : Ref sig .tc := ⟨.hbm, 554, rfl⟩
abbrev main_v356 : Ref sig .tc := ⟨.hbm, 555, rfl⟩
abbrev main_v357 : Ref sig .tc := ⟨.hbm, 556, rfl⟩
abbrev main_cst_137 : Ref sig .tc := ⟨.hbm, 557, rfl⟩
abbrev main_v358 : Ref sig .tc := ⟨.hbm, 558, rfl⟩
abbrev main_v359 : Ref sig .tc := ⟨.hbm, 559, rfl⟩
abbrev main_v360 : Ref sig .tc := ⟨.hbm, 560, rfl⟩
abbrev main_cst_138 : Ref sig .tc := ⟨.hbm, 561, rfl⟩
abbrev main_v361 : Ref sig .tc := ⟨.hbm, 562, rfl⟩
abbrev main_v362 : Ref sig .tc := ⟨.hbm, 563, rfl⟩
abbrev main_v363 : Ref sig .tc := ⟨.hbm, 564, rfl⟩
abbrev main_cst_139 : Ref sig .tc := ⟨.hbm, 565, rfl⟩
abbrev main_v364 : Ref sig .tc := ⟨.hbm, 566, rfl⟩
abbrev main_cst_140 : Ref sig .tc := ⟨.hbm, 567, rfl⟩
abbrev main_v365 : Ref sig .tc := ⟨.hbm, 568, rfl⟩
abbrev main_v366 : Ref sig .tc := ⟨.hbm, 569, rfl⟩
abbrev main_cst_141 : Ref sig .tc := ⟨.hbm, 570, rfl⟩
abbrev main_v367 : Ref sig .tc := ⟨.hbm, 571, rfl⟩
abbrev main_v368 : Ref sig .tc := ⟨.hbm, 572, rfl⟩
abbrev main_v369 : Ref sig .tc := ⟨.hbm, 573, rfl⟩
abbrev main_cst_142 : Ref sig .tc := ⟨.hbm, 574, rfl⟩
abbrev main_v370 : Ref sig .tc := ⟨.hbm, 575, rfl⟩
abbrev main_v371 : Ref sig .tc := ⟨.hbm, 576, rfl⟩
abbrev main_v372 : Ref sig .tc := ⟨.hbm, 577, rfl⟩
abbrev main_cst_143 : Ref sig .tc := ⟨.hbm, 578, rfl⟩
abbrev main_v373 : Ref sig .tc := ⟨.hbm, 579, rfl⟩
abbrev main_v374 : Ref sig .tc := ⟨.hbm, 580, rfl⟩
abbrev main_v375 : Ref sig .tc := ⟨.hbm, 581, rfl⟩
abbrev main_cst_144 : Ref sig .tc := ⟨.hbm, 582, rfl⟩
abbrev main_v376 : Ref sig .tc := ⟨.hbm, 583, rfl⟩
abbrev main_v377 : Ref sig .tc := ⟨.hbm, 584, rfl⟩
abbrev main_cst_145 : Ref sig .tc := ⟨.hbm, 585, rfl⟩
abbrev main_v378 : Ref sig .tc := ⟨.hbm, 586, rfl⟩
abbrev main_v379 : Ref sig .tc := ⟨.hbm, 587, rfl⟩
abbrev main_v380 : Ref sig .tc := ⟨.hbm, 588, rfl⟩
abbrev main_cst_146 : Ref sig .tc := ⟨.hbm, 589, rfl⟩
abbrev main_v381 : Ref sig .tc := ⟨.hbm, 590, rfl⟩
abbrev main_v382 : Ref sig .tc := ⟨.hbm, 591, rfl⟩
abbrev main_v383 : Ref sig .tc := ⟨.hbm, 592, rfl⟩
abbrev main_cst_147 : Ref sig .tc := ⟨.hbm, 593, rfl⟩
abbrev main_v384 : Ref sig .tc := ⟨.hbm, 594, rfl⟩
abbrev main_v385 : Ref sig .tc := ⟨.hbm, 595, rfl⟩
abbrev main_v386 : Ref sig .tc := ⟨.hbm, 596, rfl⟩
abbrev main_cst_148 : Ref sig .tc := ⟨.hbm, 597, rfl⟩
abbrev main_v387 : Ref sig .tc := ⟨.hbm, 598, rfl⟩
abbrev main_v388 : Ref sig .tc := ⟨.hbm, 599, rfl⟩
abbrev main_v389 : Ref sig .tc := ⟨.hbm, 600, rfl⟩
abbrev main_cst_149 : Ref sig .tc := ⟨.hbm, 601, rfl⟩
abbrev main_v390 : Ref sig .tc := ⟨.hbm, 602, rfl⟩
abbrev main_cst_150 : Ref sig .tc := ⟨.hbm, 603, rfl⟩
abbrev main_v391 : Ref sig .tc := ⟨.hbm, 604, rfl⟩
abbrev main_v392 : Ref sig .tc := ⟨.hbm, 605, rfl⟩
abbrev main_cst_151 : Ref sig .tc := ⟨.hbm, 606, rfl⟩
abbrev main_v393 : Ref sig .tc := ⟨.hbm, 607, rfl⟩
abbrev main_v394 : Ref sig .tc := ⟨.hbm, 608, rfl⟩
abbrev main_v395 : Ref sig .tc := ⟨.hbm, 609, rfl⟩
abbrev main_cst_152 : Ref sig .tc := ⟨.hbm, 610, rfl⟩
abbrev main_v396 : Ref sig .tc := ⟨.hbm, 611, rfl⟩
abbrev main_v397 : Ref sig .tc := ⟨.hbm, 612, rfl⟩
abbrev main_v398 : Ref sig .tc := ⟨.hbm, 613, rfl⟩
abbrev main_cst_153 : Ref sig .tc := ⟨.hbm, 614, rfl⟩
abbrev main_v399 : Ref sig .tc := ⟨.hbm, 615, rfl⟩
abbrev main_v400 : Ref sig .tc := ⟨.hbm, 616, rfl⟩
abbrev main_v401 : Ref sig .tc := ⟨.hbm, 617, rfl⟩
abbrev main_cst_154 : Ref sig .tc := ⟨.hbm, 618, rfl⟩
abbrev main_v402 : Ref sig .tc := ⟨.hbm, 619, rfl⟩
abbrev main_v403 : Ref sig .tc := ⟨.hbm, 620, rfl⟩
abbrev main_cst_155 : Ref sig .tc := ⟨.hbm, 621, rfl⟩
abbrev main_v404 : Ref sig .tc := ⟨.hbm, 622, rfl⟩
abbrev main_v405 : Ref sig .tc := ⟨.hbm, 623, rfl⟩
abbrev main_v406 : Ref sig .tc := ⟨.hbm, 624, rfl⟩
abbrev main_cst_156 : Ref sig .tc := ⟨.hbm, 625, rfl⟩
abbrev main_v407 : Ref sig .tc := ⟨.hbm, 626, rfl⟩
abbrev main_v408 : Ref sig .tc := ⟨.hbm, 627, rfl⟩
abbrev main_v409 : Ref sig .tc := ⟨.hbm, 628, rfl⟩
abbrev main_cst_157 : Ref sig .tc := ⟨.hbm, 629, rfl⟩
abbrev main_v410 : Ref sig .tc := ⟨.hbm, 630, rfl⟩
abbrev main_v411 : Ref sig .tc := ⟨.hbm, 631, rfl⟩
abbrev main_v412 : Ref sig .tc := ⟨.hbm, 632, rfl⟩
abbrev main_cst_158 : Ref sig .tc := ⟨.hbm, 633, rfl⟩
abbrev main_v413 : Ref sig .tc := ⟨.hbm, 634, rfl⟩
abbrev main_v414 : Ref sig .tc := ⟨.hbm, 635, rfl⟩
abbrev main_v415 : Ref sig .tc := ⟨.hbm, 636, rfl⟩
abbrev main_cst_159 : Ref sig .tc := ⟨.hbm, 637, rfl⟩
abbrev main_v416 : Ref sig .tc := ⟨.hbm, 638, rfl⟩
abbrev main_cst_160 : Ref sig .tc := ⟨.hbm, 639, rfl⟩
abbrev main_v417 : Ref sig .tc := ⟨.hbm, 640, rfl⟩
abbrev main_v418 : Ref sig .tc := ⟨.hbm, 641, rfl⟩
abbrev main_cst_161 : Ref sig .tc := ⟨.hbm, 642, rfl⟩
abbrev main_v419 : Ref sig .tc := ⟨.hbm, 643, rfl⟩
abbrev main_v420 : Ref sig .tc := ⟨.hbm, 644, rfl⟩
abbrev main_v421 : Ref sig .tc := ⟨.hbm, 645, rfl⟩
abbrev main_cst_162 : Ref sig .tc := ⟨.hbm, 646, rfl⟩
abbrev main_v422 : Ref sig .tc := ⟨.hbm, 647, rfl⟩
abbrev main_v423 : Ref sig .tc := ⟨.hbm, 648, rfl⟩
abbrev main_v424 : Ref sig .tc := ⟨.hbm, 649, rfl⟩
abbrev main_cst_163 : Ref sig .tc := ⟨.hbm, 650, rfl⟩
abbrev main_v425 : Ref sig .tc := ⟨.hbm, 651, rfl⟩
abbrev main_v426 : Ref sig .tc := ⟨.hbm, 652, rfl⟩
abbrev main_v427 : Ref sig .tc := ⟨.hbm, 653, rfl⟩
abbrev main_cst_164 : Ref sig .tc := ⟨.hbm, 654, rfl⟩
abbrev main_v428 : Ref sig .tc := ⟨.hbm, 655, rfl⟩
abbrev main_v429 : Ref sig .tc := ⟨.hbm, 656, rfl⟩
abbrev main_cst_165 : Ref sig .tc := ⟨.hbm, 657, rfl⟩
abbrev main_v430 : Ref sig .tc := ⟨.hbm, 658, rfl⟩
abbrev main_v431 : Ref sig .tc := ⟨.hbm, 659, rfl⟩
abbrev main_v432 : Ref sig .tc := ⟨.hbm, 660, rfl⟩
abbrev main_cst_166 : Ref sig .tc := ⟨.hbm, 661, rfl⟩
abbrev main_v433 : Ref sig .tc := ⟨.hbm, 662, rfl⟩
abbrev main_v434 : Ref sig .tc := ⟨.hbm, 663, rfl⟩
abbrev main_v435 : Ref sig .tc := ⟨.hbm, 664, rfl⟩
abbrev main_cst_167 : Ref sig .tc := ⟨.hbm, 665, rfl⟩
abbrev main_v436 : Ref sig .tc := ⟨.hbm, 666, rfl⟩
abbrev main_v437 : Ref sig .tc := ⟨.hbm, 667, rfl⟩
abbrev main_v438 : Ref sig .tc := ⟨.hbm, 668, rfl⟩
abbrev main_cst_168 : Ref sig .tc := ⟨.hbm, 669, rfl⟩
abbrev main_v439 : Ref sig .tc := ⟨.hbm, 670, rfl⟩
abbrev main_v440 : Ref sig .tc := ⟨.hbm, 671, rfl⟩
abbrev main_v441 : Ref sig .tc := ⟨.hbm, 672, rfl⟩
abbrev main_cst_169 : Ref sig .tc := ⟨.hbm, 673, rfl⟩
abbrev main_v442 : Ref sig .tc := ⟨.hbm, 674, rfl⟩
abbrev main_cst_170 : Ref sig .tc := ⟨.hbm, 675, rfl⟩
abbrev main_v443 : Ref sig .tc := ⟨.hbm, 676, rfl⟩
abbrev main_v444 : Ref sig .tc := ⟨.hbm, 677, rfl⟩
abbrev main_cst_171 : Ref sig .tc := ⟨.hbm, 678, rfl⟩
abbrev main_v445 : Ref sig .tc := ⟨.hbm, 679, rfl⟩
abbrev main_v446 : Ref sig .tc := ⟨.hbm, 680, rfl⟩
abbrev main_v447 : Ref sig .tc := ⟨.hbm, 681, rfl⟩
abbrev main_cst_172 : Ref sig .tc := ⟨.hbm, 682, rfl⟩
abbrev main_v448 : Ref sig .tc := ⟨.hbm, 683, rfl⟩
abbrev main_v449 : Ref sig .tc := ⟨.hbm, 684, rfl⟩
abbrev main_v450 : Ref sig .tc := ⟨.hbm, 685, rfl⟩
abbrev main_cst_173 : Ref sig .tc := ⟨.hbm, 686, rfl⟩
abbrev main_v451 : Ref sig .tc := ⟨.hbm, 687, rfl⟩
abbrev main_v452 : Ref sig .tc := ⟨.hbm, 688, rfl⟩
abbrev main_v453 : Ref sig .tc := ⟨.hbm, 689, rfl⟩
abbrev main_cst_174 : Ref sig .tc := ⟨.hbm, 690, rfl⟩
abbrev main_v454 : Ref sig .tc := ⟨.hbm, 691, rfl⟩
abbrev main_v455 : Ref sig .tc := ⟨.hbm, 692, rfl⟩
abbrev main_cst_175 : Ref sig .tc := ⟨.hbm, 693, rfl⟩
abbrev main_v456 : Ref sig .tc := ⟨.hbm, 694, rfl⟩
abbrev main_v457 : Ref sig .tc := ⟨.hbm, 695, rfl⟩
abbrev main_v458 : Ref sig .tc := ⟨.hbm, 696, rfl⟩
abbrev main_cst_176 : Ref sig .tc := ⟨.hbm, 697, rfl⟩
abbrev main_v459 : Ref sig .tc := ⟨.hbm, 698, rfl⟩
abbrev main_v460 : Ref sig .tc := ⟨.hbm, 699, rfl⟩
abbrev main_v461 : Ref sig .tc := ⟨.hbm, 700, rfl⟩
abbrev main_cst_177 : Ref sig .tc := ⟨.hbm, 701, rfl⟩
abbrev main_v462 : Ref sig .tc := ⟨.hbm, 702, rfl⟩
abbrev main_v463 : Ref sig .tc := ⟨.hbm, 703, rfl⟩
abbrev main_v464 : Ref sig .tc := ⟨.hbm, 704, rfl⟩
abbrev main_cst_178 : Ref sig .tc := ⟨.hbm, 705, rfl⟩
abbrev main_v465 : Ref sig .tc := ⟨.hbm, 706, rfl⟩
abbrev main_v466 : Ref sig .tc := ⟨.hbm, 707, rfl⟩
abbrev main_v467 : Ref sig .tc := ⟨.hbm, 708, rfl⟩
abbrev main_cst_179 : Ref sig .tc := ⟨.hbm, 709, rfl⟩
abbrev main_v468 : Ref sig .tc := ⟨.hbm, 710, rfl⟩

abbrev nD : Nat := 1
abbrev τ : Topo := Topo.v7x

variable {F : FTy → Type} [FloatOps F]
-- ==== Proof.Math.Rms.lean ====
module

public import Idealize.ShloMosaic.Lib.Pipeline.ValueKit

@[expose] public section

noncomputable section

/-! The gradient of a root-mean-square normalisation of one row, over the extended reals.

The row is `x`, the gradient reaching the normalised row is `d`, and `r = 1 / √(mean (x²) + ε)`. A closed form of the
gradient is `r · (d − x·r · mean (d · x·r))`; differentiating step by step gives
`d·r + x·c + c·x` with `c = ((Σ x·d) · (−½ · r / (mean (x²) + ε))) / n`. The two are equal for every extended real row:
if all entries of `x` are real then `r` is a positive real number, by which products distribute over sums; if some
entry is infinite then `mean (x²) + ε` is `⊤`, so `r` and `r / ⊤` are both `0`. -/

namespace Cert.Math

open Idealize.ShloMosaic

/-- The row length, as the pattern both programs divide by. -/
abbrev width : EReal := Ideal.ofBits .f32 0x44800000#32
/-- The constant added under the root. -/
abbrev eps : EReal := Ideal.ofBits .f32 0x358637BD#32
/-- Minus one half, the exponent of the root. -/
abbrev negHalf : EReal := Ideal.ofBits .f32 0xBF000000#32

theorem width_eq : width = ((1024 : ℝ) : EReal) := by
  simp [width, Ideal.ofBits, Ideal.ieee, -EReal.coe_mul]; norm_num

theorem negHalf_eq : negHalf = ((-(1 / 2) : ℝ) : EReal) := by
  simp [negHalf, Ideal.ofBits, Ideal.ieee, -EReal.coe_mul]; norm_num

theorem eps_eq : ∃ e : ℝ, 0 < e ∧ eps = (e : EReal) := by
  refine ⟨(8796093 : ℝ) * 2 ^ (-43 : ℤ), by positivity, ?_⟩
  simp [eps, Ideal.ofBits, Ideal.ieee, -EReal.coe_mul]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real number distributes over a sum of extended reals. -/
theorem sum_mul_coe {ι : Type*} (s : Finset ι) (f : ι → EReal) {c : ℝ} (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

theorem mul_self_nonneg (x : EReal) : 0 ≤ x * x := by
  rcases le_total 0 x with h | h
  · exact mul_nonneg h h
  · simpa using mul_nonneg (EReal.neg_nonneg.mpr h) (EReal.neg_nonneg.mpr h)

/-- A row with an infinite entry has an infinite sum of squares. -/
theorem sum_sq_top {ι : Type*} [Fintype ι] (x : ι → EReal) (k : ι) (hk : x k = ⊤ ∨ x k = ⊥) : ∑ i, x i * x i = ⊤ := by
  have h : x k * x k ≤ ∑ i, x i * x i :=
    Finset.single_le_sum (f := fun i => x i * x i) (fun i _ => mul_self_nonneg (x i)) (Finset.mem_univ k)
  have hk' : x k * x k = ⊤ := by rcases hk with h | h <;> rw [h] <;> rfl
  rw [hk'] at h
  exact top_le_iff.mp h

/-- The row's inverse root mean square. -/
abbrev var {n : ℕ} (x : Fin n → EReal) : EReal := Ideal.div (∑ k, x k * x k) width + eps

theorem width_ne : (1024 : ℝ) ≠ 0 := by norm_num

/-- Either every entry is real and the root is a positive real, or the mean square is infinite. -/
theorem var_cases {n : ℕ} (x : Fin n → EReal) :
    (∃ v : ℝ, 0 < v ∧ var x = (v : EReal)) ∨ var x = ⊤ := by
  obtain ⟨e, he, hE⟩ := eps_eq
  by_cases h : ∃ k, x k = ⊤ ∨ x k = ⊥
  · obtain ⟨k, hk⟩ := h
    right
    show Ideal.div (∑ k, x k * x k) width + eps = ⊤
    rw [sum_sq_top x k hk, width_eq, Ideal.div_coe width_ne, hE, EReal.top_mul_coe_of_pos (by norm_num)]
    rfl
  · left
    push Not at h
    obtain ⟨a, rfl⟩ : ∃ a : Fin n → ℝ, x = fun k => (a k : EReal) :=
      ⟨fun k => (x k).toReal, funext fun k => (EReal.coe_toReal (h k).1 (h k).2).symm⟩
    refine ⟨(∑ k, a k * a k) * (1 / 1024) + e, ?_, ?_⟩
    · have : 0 ≤ ∑ k, a k * a k := Finset.sum_nonneg fun k _ => _root_.mul_self_nonneg (a k)
      positivity
    · show Ideal.div (∑ k, (a k : EReal) * (a k : EReal)) width + eps = _
      rw [width_eq, Ideal.div_coe width_ne, hE]
      rw [EReal.coe_add, EReal.coe_mul, coe_sum]
      simp only [EReal.coe_mul]

theorem rsqrt_pos {v : ℝ} (hv : 0 < v) : Ideal.rsqrt (v : EReal) = (((Real.sqrt v)⁻¹ : ℝ) : EReal) := by
  rw [Ideal.rsqrt_coe, if_neg (not_lt.mpr hv.le), if_neg hv.ne']

/-- The two forms of the gradient agree at every column. -/
theorem rms_backward {n : ℕ} (x d : Fin n → EReal) (a xj dj : EReal) :
    a + Ideal.rsqrt (var x) * (dj - xj * Ideal.rsqrt (var x) * Ideal.div (∑ k, d k * (x k * Ideal.rsqrt (var x))) width)
      = a + dj * Ideal.rsqrt (var x)
        + xj * Ideal.div ((∑ k, x k * d k) * (negHalf * Ideal.div (Ideal.rsqrt (var x)) (var x))) width
        + Ideal.div ((∑ k, x k * d k) * (negHalf * Ideal.div (Ideal.rsqrt (var x)) (var x))) width * xj := by
  rw [width_eq]
  rw [Ideal.div_coe width_ne, Ideal.div_coe width_ne]
  rcases var_cases x with ⟨v, hv, hx⟩ | hx
  · rw [hx, rsqrt_pos hv, Ideal.div_coe hv.ne', negHalf_eq]
    set ρ : ℝ := (Real.sqrt v)⁻¹ with hρ
    have hρ0 : 0 < ρ := inv_pos.mpr (Real.sqrt_pos.mpr hv)
    have hv' : 1 / v = ρ * ρ := by
      rw [hρ, ← mul_inv, Real.mul_self_sqrt hv.le, one_div]
    have hS : ∑ k, d k * (x k * (ρ : EReal)) = (∑ k, x k * d k) * (ρ : EReal) := by
      rw [sum_mul_coe _ _ hρ0.le]
      exact Finset.sum_congr rfl fun k _ => by rw [← mul_assoc, mul_comm (d k)]
    rw [hS, hv']
    generalize ∑ k, x k * d k = S
    have hL : (ρ : EReal) * (dj - xj * (ρ : EReal) * (S * (ρ : EReal) * ((1 / 1024 : ℝ) : EReal)))
        = dj * (ρ : EReal) + xj * S * ((-(ρ * ρ * ρ * (1 / 1024)) : ℝ) : EReal) := by
      rw [sub_eq_add_neg, EReal.left_distrib_of_nonneg_of_ne_top (by exact_mod_cast hρ0.le) (EReal.coe_ne_top _), mul_comm _ dj]
      congr 1
      rw [EReal.coe_neg, mul_neg, mul_neg]
      congr 1
      push_cast
      ac_rfl
    have hT : xj * (S * (((-(1 / 2) : ℝ) : EReal) * ((ρ : EReal) * ((ρ * ρ : ℝ) : EReal))) * ((1 / 1024 : ℝ) : EReal))
        = xj * S * ((-(ρ * ρ * ρ * (1 / 2048)) : ℝ) : EReal) := by
      have : ((-(ρ * ρ * ρ * (1 / 2048)) : ℝ) : EReal)
          = ((-(1 / 2) : ℝ) : EReal) * ((ρ : EReal) * ((ρ * ρ : ℝ) : EReal)) * ((1 / 1024 : ℝ) : EReal) := by
        rw [← EReal.coe_mul, ← EReal.coe_mul, ← EReal.coe_mul]
        congr 1; ring
      rw [this]; ac_rfl
    rw [mul_comm _ xj, hT, hL, ← add_assoc, add_assoc (a + _)]
    congr 1
    have h2 : ((-(ρ * ρ * ρ * (1 / 1024)) : ℝ) : EReal)
        = ((-(ρ * ρ * ρ * (1 / 2048)) : ℝ) : EReal) * ((2 : ℝ) : EReal) := by
      rw [← EReal.coe_mul]; congr 1; ring
    rw [h2, ← mul_assoc]
    generalize xj * S * ((-(ρ * ρ * ρ * (1 / 2048)) : ℝ) : EReal) = T
    have : ((2 : ℝ) : EReal) = 1 + 1 := by norm_cast
    rw [this, EReal.left_distrib_of_nonneg zero_le_one zero_le_one, mul_one]
  · rw [hx, Ideal.rsqrt_top]
    have : Ideal.div 0 ⊤ = 0 := by simp [Ideal.div]
    simp [this]

end Cert.Math
end
-- ==== Proof.DxEven.Reference.lean ====
module

public import proofs.«01_k».proof.Proof.Gen.DxEvenRefIdeal.Run
public import proofs.«01_k».proof.Proof.Math.Rms
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the reference computes, as functions of its arrays: the gradient `dh = dp · wᵀ` of the projection `p = h · w`,
the gradient of the normalisation's gain, and the gradient of its input added to the residual's gradient. -/

namespace Cert.DxEvenRefIdeal.Terms

open Cert.DxEvenRefIdeal Cert.DxEvenRefIdeal.Gen Cert.DxEvenRefIdeal.Value

/-- The mean square of each row plus the small constant. -/
abbrev meanSq (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- Each row divided by its root mean square. -/
abbrev unit (x : FVec Ideal S4096x1024 .f32) : FVec Ideal S4096x1024 .f32 :=
  mulf x (broadcastInDim S4096x1024 ![0, 1] bcast_S4096x1_S4096x1024_0_1 (Host.rsqrt (meanSq x)))

/-- The gradient reaching the normalised rows. -/
abbrev gradH (dp : FVec Ideal S4096x6400 .f32) (w : FVec Ideal S1024x6400 .f32) : FVec Ideal S4096x1024 .f32 :=
  Host.dotGeneral dot_S4096x6400_S1024x6400_S4096x1024_1_1_0_0_n_n none dp w

/-- The gradient reaching the rows before the gain. -/
abbrev gradUnit (dp : FVec Ideal S4096x6400 .f32) (w : FVec Ideal S1024x6400 .f32) (g : FVec Ideal S1x1024 .f32) : FVec Ideal S4096x1024 .f32 :=
  mulf (gradH dp w) (broadcastInDim S4096x1024 ![0, 1] bcast_S1x1024_S4096x1024_0_1 g)

/-- The coefficient of the row itself in its gradient. -/
abbrev coef (x d : FVec Ideal S4096x1024 .f32) : FVec Ideal S4096x1024 .f32 :=
  broadcastInDim S4096x1024 ![0] bcast_S4096_S4096x1024_0 (Host.reduceAdd (Host.divf (mulf (shapeCast _ (Host.reduceAdd (mulf x d) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (meanSq x)) (meanSq x)))) (broadcastInDim S4096x1 ![] bcast_S_S4096x1 (constant S_ .f32 0x44800000#32))) (constant S_ .f32 0x00000000#32) reducesTo_S4096x1_S4096_d1 h_S_)

/-- The gradient of the layer's input. -/
abbrev gradX (dp : FVec Ideal S4096x6400 .f32) (w : FVec Ideal S1024x6400 .f32) (x : FVec Ideal S4096x1024 .f32) (g : FVec Ideal S1x1024 .f32)
    (dres : FVec Ideal S4096x1024 .f32) : FVec Ideal S4096x1024 .f32 :=
  addf (addf (addf dres (mulf (gradUnit dp w g) (broadcastInDim S4096x1024 ![0, 1] bcast_S4096x1_S4096x1024_0_1 (Host.rsqrt (meanSq x)))))
    (mulf x (coef x (gradUnit dp w g)))) (mulf (coef x (gradUnit dp w g)) x)

/-- The gradient of the gain. -/
abbrev gradG (dp : FVec Ideal S4096x6400 .f32) (w : FVec Ideal S1024x6400 .f32) (x : FVec Ideal S4096x1024 .f32) : FVec Ideal S1x1024 .f32 :=
  shapeCast _ (Host.reduceAdd (mulf (unit x) (gradH dp w)) (constant S_ .f32 0x00000000#32) reducesTo_S4096x1024_S1024_d0 h_S_) shapeCasts_S1024_S1x1024

/-- The input gradient at an index: the residual's gradient plus the stepwise gradient of the row's normalisation. -/
theorem gradX_at (dp : FVec Ideal S4096x6400 .f32) (w : FVec Ideal S1024x6400 .f32) (x : FVec Ideal S4096x1024 .f32) (g : FVec Ideal S1x1024 .f32)
    (dres : FVec Ideal S4096x1024 .f32) (j : S4096x1024.Idx) :
    gradX dp w x g dres j = dres j
      + Ideal.rsqrt (Math.var fun k : Fin 1024 => x (ix2 (j 0) k))
        * ((∑ l : Fin 6400, dp (ix2 (j 0) l) * w (ix2 (j 1) l)) * g (ix2 0 (j 1))
          - x j * Ideal.rsqrt (Math.var fun k : Fin 1024 => x (ix2 (j 0) k))
            * Ideal.div (∑ k : Fin 1024, (∑ l : Fin 6400, dp (ix2 (j 0) l) * w (ix2 k l)) * g (ix2 0 k)
                * (x (ix2 (j 0) k) * Ideal.rsqrt (Math.var fun k : Fin 1024 => x (ix2 (j 0) k)))) Math.width) := by
  rw [Math.rms_backward (fun k : Fin 1024 => x (ix2 (j 0) k))
    (fun k : Fin 1024 => (∑ l : Fin 6400, dp (ix2 (j 0) l) * w (ix2 k l)) * g (ix2 0 k))]
  pointwise [gradX, gradUnit, gradH, coef, meanSq]
  simp only [Fin.sum_univ_one]

/-- The gain's gradient at an index, as a sum over the rows. -/
theorem gradG_at (dp : FVec Ideal S4096x6400 .f32) (w : FVec Ideal S1024x6400 .f32) (x : FVec Ideal S4096x1024 .f32) (j : S1x1024.Idx) :
    gradG dp w x j = ∑ i : Fin 4096, (∑ l : Fin 6400, dp (ix2 i l) * w (ix2 (j 1) l))
      * (x (ix2 i (j 1)) * Ideal.rsqrt (Math.var fun k : Fin 1024 => x (ix2 i k))) := by
  pointwise [gradG, unit, gradH, meanSq]
  exact Finset.sum_congr rfl fun _ _ => mul_comm _ _

end Cert.DxEvenRefIdeal.Terms
end
-- ==== Proof.DxEven.Final.lean ====
module

public import proofs.«01_k».proof.Proof.Gen.DxEvenIdeal.Value
public import proofs.«01_k».proof.Proof.DxEven.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the kernel's two result arrays hold: each tile of 512 rows of the input gradient is written by its own point,
and the gain's gradient is one block into which all eight points add. -/

namespace Cert.DxEvenIdeal.Final

open Cert.DxEvenIdeal Cert.DxEvenIdeal.Gen

variable (m : (ℓ : Loc nD τ sig) → Buf (Elt Ideal) ℓ)

/-- Which block each window holds at a point: the row windows move with the point, the weight, the gain and its gradient stay. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- What a point writes of the input gradient. -/
theorem rows_at (c : Dev nD) (t : Fin cfg0.N) (y) : (outsAt0 m c t.val t.isLt).1 y
    = k0_pay1 (k0_pay4 (iblk m c 2 t)) (k0_pay5 (iblk m c 2 t)) (k0_pay7 (iblk m c 0 t) (iblk m c 1 t) (iblk m c 3 t))
      (iblk m c 4 t) (k0_pay8 (iblk m c 0 t) (iblk m c 1 t) (iblk m c 2 t) (iblk m c 3 t)) k0_pay9 y := by
  by_cases h0 : t.val % 8 = 0
  · rw [outsAt0_A m c t h0]; frame_out
  · rw [outsAt0_B m c t h0]; frame_out

/-- The input gradient the kernel leaves is the reference's. -/
theorem final5 (c : Dev nD) : (dats m 0 c).arrAt 5 (cfgs 0).N
    = DxEvenRefIdeal.Terms.gradX (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5, rows_at]
  refine Eq.trans ?_ (DxEvenRefIdeal.Terms.gradX_at _ _ _ _ _ _).symm
  pointwise [Math.var, k0_pay1, k0_pay3, k0_pay4, k0_pay5, k0_pay7, k0_pay8, k0_pay9]
  blk_point [iblk, V, idx t]

theorem hzero (j) : k0_pay2 (F := Ideal) j = 0 := by pointwise [k0_pay2]

/-- A point adds its tile's sum over the rows to the gain's gradient. -/
theorem hpay (dp : FVec Ideal S512x6400 .bf16) (w : FVec Ideal S6400x1024 .bf16) (x : FVec Ideal S512x1024 .f32) (acc : FVec Ideal S1x1024 .f32) (j) :
    k0_pay6 (F := Ideal) dp w x acc j = acc j + ∑ i : Fin 512, (∑ l : Fin 6400, dp (ix2 i l) * w (ix2 l (j 1)))
      * (x (ix2 i (j 1)) * Ideal.rsqrt (Math.var fun k : Fin 1024 => x (ix2 i k))) := by
  pointwise [k0_pay6, k0_pay5, k0_pay4, k0_pay3]

/-- The gain's gradient the kernel leaves is the reference's. -/
theorem final6 (c : Dev nD) : (dats m 0 c).arrAt 6 (cfgs 0).N
    = DxEvenRefIdeal.Terms.gradG (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, Pipeline.eq_sum_fin_of_reset_step_apply_of_flush (fun n h => (outsAt0 m c n h).2) 8 (fun _ => 0) _
    (fun t h j => by rw [outsAt0_A m c t h]; frame_out; rw [hpay, hzero])
    (fun t h j => by rw [outsAt0_B m c t h]; frame_out; rw [hpay])
    t ((flush0_6 t).mp hf) _, zero_add]
  refine Eq.trans ?_ (DxEvenRefIdeal.Terms.gradG_at _ _ _ _).symm
  refine Fin.sum_mul_add_congr fun s k hl => ?_
  blk_point [iblk, V, idx t, idx ⟨_, Pipeline.run_point_lt_of_flush t ((flush0_6 t).mp hf) s⟩]

end Cert.DxEvenIdeal.Final
end
-- ==== Proof.DxEven.Claims.lean ====
module

public import proofs.«01_k».proof.Defs
public import proofs.«01_k».proof.Proof.Gen.DxEven.Frame
public import proofs.«01_k».proof.Proof.DxEven.Final
public import Idealize.ShloMosaic.Lib.Claim

/-! The five claims about the backward pass of the even layers' input norm and projection. -/

@[expose] public section

set_option maxRecDepth 16384

noncomputable section

namespace Cert.Claims.DxEven

open Idealize.ShloMosaic Idealize.ShloMosaic.TcCoe Idealize.SL.Sem

theorem frame_kernel : Cert.quiescent_DxEven := fun m ρ _ => Cert.DxEven.Gen.frame m ρ

theorem frame_ideal : Cert.quiescent_DxEvenIdeal := fun m ρ _ => Cert.DxEvenIdeal.Gen.frame m ρ

theorem frame_reference : Cert.quiescent_DxEvenRefIdeal := fun m ρ _ =>
  (θ_run Cert.DxEvenRefIdeal.defs _ _).mono (fun r h => ⟨fun c => (h c).2.2, sem_eq_zero_of_no_sems (by decide) r.2⟩)
    (Cert.DxEvenRefIdeal.Value.run (F := Ideal) m ρ)

theorem preserves : Cert.preserves_DxEven_DxEvenIdeal := trivial

/-- The kernel's results are the reference's over the extended reals. -/
theorem algebraic : Cert.algebraic_DxEvenIdeal_DxEvenRefIdeal := by
  intro m g m' g' _ hagree
  refine ⟨fun c => (Cert.DxEvenIdeal.Gen.dats m 0 c).arrAt 5 (Cert.DxEvenIdeal.cfgs 0).N, fun c => (Cert.DxEvenIdeal.Gen.dats m 0 c).arrAt 6 (Cert.DxEvenIdeal.cfgs 0).N, ?_, ?_⟩
  · run_from Cert.DxEvenIdeal.Gen.run_main m g
  · refine (θ_run Cert.DxEvenRefIdeal.defs _ _).mono (fun r h c => ?_) (Cert.DxEvenRefIdeal.Value.run (F := Ideal) m' g')
    obtain ⟨h5, h6, hu⟩ := h c
    obtain ⟨a0, a1, a2, a3, a4⟩ := hagree c
    refine ⟨h5.trans ?_, h6.trans ?_, hu⟩
    · refine Eq.trans (show _ = Cert.DxEvenRefIdeal.Terms.gradX (m' ((c.tc : Thread Cert.DxEvenRefIdeal.nD Cert.DxEvenRefIdeal.τ).loc Cert.DxEvenRefIdeal.main_arg0)) (m' ((c.tc : Thread Cert.DxEvenRefIdeal.nD Cert.DxEvenRefIdeal.τ).loc Cert.DxEvenRefIdeal.main_arg1)) (m' ((c.tc : Thread Cert.DxEvenRefIdeal.nD Cert.DxEvenRefIdeal.τ).loc Cert.DxEvenRefIdeal.main_arg2)) (m' ((c.tc : Thread Cert.DxEvenRefIdeal.nD Cert.DxEvenRefIdeal.τ).loc Cert.DxEvenRefIdeal.main_arg3)) (m' ((c.tc : Thread Cert.DxEvenRefIdeal.nD Cert.DxEvenRefIdeal.τ).loc Cert.DxEvenRefIdeal.main_arg4)) from rfl) ?_
      rw [a0, a1, a2, a3, a4]
      exact (Cert.DxEvenIdeal.Final.final5 m c).symm
    · refine Eq.trans (show _ = Cert.DxEvenRefIdeal.Terms.gradG (m' ((c.tc : Thread Cert.DxEvenRefIdeal.nD Cert.DxEvenRefIdeal.τ).loc Cert.DxEvenRefIdeal.main_arg0)) (m' ((c.tc : Thread Cert.DxEvenRefIdeal.nD Cert.DxEvenRefIdeal.τ).loc Cert.DxEvenRefIdeal.main_arg1)) (m' ((c.tc : Thread Cert.DxEvenRefIdeal.nD Cert.DxEvenRefIdeal.τ).loc Cert.DxEvenRefIdeal.main_arg2)) from rfl) ?_
      rw [a0, a1, a2]
      exact (Cert.DxEvenIdeal.Final.final6 m c).symm

end Cert.Claims.DxEven

end
-- ==== Proof.DxOdd.Reference.lean ====
module

public import proofs.«01_k».proof.Proof.Gen.DxOddRefIdeal.Run
public import proofs.«01_k».proof.Proof.Math.Rms
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the reference computes, as functions of its arrays: the gradient `dh = dp · wᵀ` of the projection `p = h · w`,
the gradient of the normalisation's gain, and the gradient of its input added to the residual's gradient. -/

namespace Cert.DxOddRefIdeal.Terms

open Cert.DxOddRefIdeal Cert.DxOddRefIdeal.Gen Cert.DxOddRefIdeal.Value

/-- The mean square of each row plus the small constant. -/
abbrev meanSq (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- Each row divided by its root mean square. -/
abbrev unit (x : FVec Ideal S4096x1024 .f32) : FVec Ideal S4096x1024 .f32 :=
  mulf x (broadcastInDim S4096x1024 ![0, 1] bcast_S4096x1_S4096x1024_0_1 (Host.rsqrt (meanSq x)))

/-- The gradient reaching the normalised rows. -/
abbrev gradH (dp : FVec Ideal S4096x4864 .f32) (w : FVec Ideal S1024x4864 .f32) : FVec Ideal S4096x1024 .f32 :=
  Host.dotGeneral dot_S4096x4864_S1024x4864_S4096x1024_1_1_0_0_n_n none dp w

/-- The gradient reaching the rows before the gain. -/
abbrev gradUnit (dp : FVec Ideal S4096x4864 .f32) (w : FVec Ideal S1024x4864 .f32) (g : FVec Ideal S1x1024 .f32) : FVec Ideal S4096x1024 .f32 :=
  mulf (gradH dp w) (broadcastInDim S4096x1024 ![0, 1] bcast_S1x1024_S4096x1024_0_1 g)

/-- The coefficient of the row itself in its gradient. -/
abbrev coef (x d : FVec Ideal S4096x1024 .f32) : FVec Ideal S4096x1024 .f32 :=
  broadcastInDim S4096x1024 ![0] bcast_S4096_S4096x1024_0 (Host.reduceAdd (Host.divf (mulf (shapeCast _ (Host.reduceAdd (mulf x d) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (meanSq x)) (meanSq x)))) (broadcastInDim S4096x1 ![] bcast_S_S4096x1 (constant S_ .f32 0x44800000#32))) (constant S_ .f32 0x00000000#32) reducesTo_S4096x1_S4096_d1 h_S_)

/-- The gradient of the layer's input. -/
abbrev gradX (dp : FVec Ideal S4096x4864 .f32) (w : FVec Ideal S1024x4864 .f32) (x : FVec Ideal S4096x1024 .f32) (g : FVec Ideal S1x1024 .f32)
    (dres : FVec Ideal S4096x1024 .f32) : FVec Ideal S4096x1024 .f32 :=
  addf (addf (addf dres (mulf (gradUnit dp w g) (broadcastInDim S4096x1024 ![0, 1] bcast_S4096x1_S4096x1024_0_1 (Host.rsqrt (meanSq x)))))
    (mulf x (coef x (gradUnit dp w g)))) (mulf (coef x (gradUnit dp w g)) x)

/-- The gradient of the gain. -/
abbrev gradG (dp : FVec Ideal S4096x4864 .f32) (w : FVec Ideal S1024x4864 .f32) (x : FVec Ideal S4096x1024 .f32) : FVec Ideal S1x1024 .f32 :=
  shapeCast _ (Host.reduceAdd (mulf (unit x) (gradH dp w)) (constant S_ .f32 0x00000000#32) reducesTo_S4096x1024_S1024_d0 h_S_) shapeCasts_S1024_S1x1024

/-- The input gradient at an index: the residual's gradient plus the stepwise gradient of the row's normalisation. -/
theorem gradX_at (dp : FVec Ideal S4096x4864 .f32) (w : FVec Ideal S1024x4864 .f32) (x : FVec Ideal S4096x1024 .f32) (g : FVec Ideal S1x1024 .f32)
    (dres : FVec Ideal S4096x1024 .f32) (j : S4096x1024.Idx) :
    gradX dp w x g dres j = dres j
      + Ideal.rsqrt (Math.var fun k : Fin 1024 => x (ix2 (j 0) k))
        * ((∑ l : Fin 4864, dp (ix2 (j 0) l) * w (ix2 (j 1) l)) * g (ix2 0 (j 1))
          - x j * Ideal.rsqrt (Math.var fun k : Fin 1024 => x (ix2 (j 0) k))
            * Ideal.div (∑ k : Fin 1024, (∑ l : Fin 4864, dp (ix2 (j 0) l) * w (ix2 k l)) * g (ix2 0 k)
                * (x (ix2 (j 0) k) * Ideal.rsqrt (Math.var fun k : Fin 1024 => x (ix2 (j 0) k)))) Math.width) := by
  rw [Math.rms_backward (fun k : Fin 1024 => x (ix2 (j 0) k))
    (fun k : Fin 1024 => (∑ l : Fin 4864, dp (ix2 (j 0) l) * w (ix2 k l)) * g (ix2 0 k))]
  pointwise [gradX, gradUnit, gradH, coef, meanSq]
  simp only [Fin.sum_univ_one]

/-- The gain's gradient at an index, as a sum over the rows. -/
theorem gradG_at (dp : FVec Ideal S4096x4864 .f32) (w : FVec Ideal S1024x4864 .f32) (x : FVec Ideal S4096x1024 .f32) (j : S1x1024.Idx) :
    gradG dp w x j = ∑ i : Fin 4096, (∑ l : Fin 4864, dp (ix2 i l) * w (ix2 (j 1) l))
      * (x (ix2 i (j 1)) * Ideal.rsqrt (Math.var fun k : Fin 1024 => x (ix2 i k))) := by
  pointwise [gradG, unit, gradH, meanSq]
  exact Finset.sum_congr rfl fun _ _ => mul_comm _ _

end Cert.DxOddRefIdeal.Terms
end
-- ==== Proof.DxOdd.Final.lean ====
module

public import proofs.«01_k».proof.Proof.Gen.DxOddIdeal.Value
public import proofs.«01_k».proof.Proof.DxOdd.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the kernel's two result arrays hold: each tile of 512 rows of the input gradient is written by its own point,
and the gain's gradient is one block into which all eight points add. -/

namespace Cert.DxOddIdeal.Final

open Cert.DxOddIdeal Cert.DxOddIdeal.Gen

variable (m : (ℓ : Loc nD τ sig) → Buf (Elt Ideal) ℓ)

/-- Which block each window holds at a point: the row windows move with the point, the weight, the gain and its gradient stay. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-- What a point writes of the input gradient. -/
theorem rows_at (c : Dev nD) (t : Fin cfg0.N) (y) : (outsAt0 m c t.val t.isLt).1 y
    = k0_pay1 (k0_pay4 (iblk m c 2 t)) (k0_pay5 (iblk m c 2 t)) (k0_pay7 (iblk m c 0 t) (iblk m c 1 t) (iblk m c 3 t))
      (iblk m c 4 t) (k0_pay8 (iblk m c 0 t) (iblk m c 1 t) (iblk m c 2 t) (iblk m c 3 t)) k0_pay9 y := by
  by_cases h0 : t.val % 8 = 0
  · rw [outsAt0_A m c t h0]; frame_out
  · rw [outsAt0_B m c t h0]; frame_out

/-- The input gradient the kernel leaves is the reference's. -/
theorem final5 (c : Dev nD) : (dats m 0 c).arrAt 5 (cfgs 0).N
    = DxOddRefIdeal.Terms.gradX (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  blk_simp
  rw [after0_5, rows_at]
  refine Eq.trans ?_ (DxOddRefIdeal.Terms.gradX_at _ _ _ _ _ _).symm
  pointwise [Math.var, k0_pay1, k0_pay3, k0_pay4, k0_pay5, k0_pay7, k0_pay8, k0_pay9]
  blk_point [iblk, V, idx t]

theorem hzero (j) : k0_pay2 (F := Ideal) j = 0 := by pointwise [k0_pay2]

/-- A point adds its tile's sum over the rows to the gain's gradient. -/
theorem hpay (dp : FVec Ideal S512x4864 .bf16) (w : FVec Ideal S4864x1024 .bf16) (x : FVec Ideal S512x1024 .f32) (acc : FVec Ideal S1x1024 .f32) (j) :
    k0_pay6 (F := Ideal) dp w x acc j = acc j + ∑ i : Fin 512, (∑ l : Fin 4864, dp (ix2 i l) * w (ix2 l (j 1)))
      * (x (ix2 i (j 1)) * Ideal.rsqrt (Math.var fun k : Fin 1024 => x (ix2 i k))) := by
  pointwise [k0_pay6, k0_pay5, k0_pay4, k0_pay3]

/-- The gain's gradient the kernel leaves is the reference's. -/
theorem final6 (c : Dev nD) : (dats m 0 c).arrAt 6 (cfgs 0).N
    = DxOddRefIdeal.Terms.gradG (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, Pipeline.eq_sum_fin_of_reset_step_apply_of_flush (fun n h => (outsAt0 m c n h).2) 8 (fun _ => 0) _
    (fun t h j => by rw [outsAt0_A m c t h]; frame_out; rw [hpay, hzero])
    (fun t h j => by rw [outsAt0_B m c t h]; frame_out; rw [hpay])
    t ((flush0_6 t).mp hf) _, zero_add]
  refine Eq.trans ?_ (DxOddRefIdeal.Terms.gradG_at _ _ _ _).symm
  refine Fin.sum_mul_add_congr fun s k hl => ?_
  blk_point [iblk, V, idx t, idx ⟨_, Pipeline.run_point_lt_of_flush t ((flush0_6 t).mp hf) s⟩]

end Cert.DxOddIdeal.Final
end
-- ==== Proof.DxOdd.Claims.lean ====
module

public import proofs.«01_k».proof.Defs
public import proofs.«01_k».proof.Proof.Gen.DxOdd.Frame
public import proofs.«01_k».proof.Proof.DxOdd.Final
public import Idealize.ShloMosaic.Lib.Claim

/-! The five claims about the backward pass of the odd layers' input norm and projection. -/

@[expose] public section

set_option maxRecDepth 16384

noncomputable section

namespace Cert.Claims.DxOdd

open Idealize.ShloMosaic Idealize.ShloMosaic.TcCoe Idealize.SL.Sem

theorem frame_kernel : Cert.quiescent_DxOdd := fun m ρ _ => Cert.DxOdd.Gen.frame m ρ

theorem frame_ideal : Cert.quiescent_DxOddIdeal := fun m ρ _ => Cert.DxOddIdeal.Gen.frame m ρ

theorem frame_reference : Cert.quiescent_DxOddRefIdeal := fun m ρ _ =>
  (θ_run Cert.DxOddRefIdeal.defs _ _).mono (fun r h => ⟨fun c => (h c).2.2, sem_eq_zero_of_no_sems (by decide) r.2⟩)
    (Cert.DxOddRefIdeal.Value.run (F := Ideal) m ρ)

theorem preserves : Cert.preserves_DxOdd_DxOddIdeal := trivial

/-- The kernel's results are the reference's over the extended reals. -/
theorem algebraic : Cert.algebraic_DxOddIdeal_DxOddRefIdeal := by
  intro m g m' g' _ hagree
  refine ⟨fun c => (Cert.DxOddIdeal.Gen.dats m 0 c).arrAt 5 (Cert.DxOddIdeal.cfgs 0).N, fun c => (Cert.DxOddIdeal.Gen.dats m 0 c).arrAt 6 (Cert.DxOddIdeal.cfgs 0).N, ?_, ?_⟩
  · run_from Cert.DxOddIdeal.Gen.run_main m g
  · refine (θ_run Cert.DxOddRefIdeal.defs _ _).mono (fun r h c => ?_) (Cert.DxOddRefIdeal.Value.run (F := Ideal) m' g')
    obtain ⟨h5, h6, hu⟩ := h c
    obtain ⟨a0, a1, a2, a3, a4⟩ := hagree c
    refine ⟨h5.trans ?_, h6.trans ?_, hu⟩
    · refine Eq.trans (show _ = Cert.DxOddRefIdeal.Terms.gradX (m' ((c.tc : Thread Cert.DxOddRefIdeal.nD Cert.DxOddRefIdeal.τ).loc Cert.DxOddRefIdeal.main_arg0)) (m' ((c.tc : Thread Cert.DxOddRefIdeal.nD Cert.DxOddRefIdeal.τ).loc Cert.DxOddRefIdeal.main_arg1)) (m' ((c.tc : Thread Cert.DxOddRefIdeal.nD Cert.DxOddRefIdeal.τ).loc Cert.DxOddRefIdeal.main_arg2)) (m' ((c.tc : Thread Cert.DxOddRefIdeal.nD Cert.DxOddRefIdeal.τ).loc Cert.DxOddRefIdeal.main_arg3)) (m' ((c.tc : Thread Cert.DxOddRefIdeal.nD Cert.DxOddRefIdeal.τ).loc Cert.DxOddRefIdeal.main_arg4)) from rfl) ?_
      rw [a0, a1, a2, a3, a4]
      exact (Cert.DxOddIdeal.Final.final5 m c).symm
    · refine Eq.trans (show _ = Cert.DxOddRefIdeal.Terms.gradG (m' ((c.tc : Thread Cert.DxOddRefIdeal.nD Cert.DxOddRefIdeal.τ).loc Cert.DxOddRefIdeal.main_arg0)) (m' ((c.tc : Thread Cert.DxOddRefIdeal.nD Cert.DxOddRefIdeal.τ).loc Cert.DxOddRefIdeal.main_arg1)) (m' ((c.tc : Thread Cert.DxOddRefIdeal.nD Cert.DxOddRefIdeal.τ).loc Cert.DxOddRefIdeal.main_arg2)) from rfl) ?_
      rw [a0, a1, a2]
      exact (Cert.DxOddIdeal.Final.final6 m c).symm

end Cert.Claims.DxOdd

end
-- ==== Proof.DwInEven.Reference.lean ====
module

public import proofs.«01_k».proof.Proof.Gen.DwInEvenRefIdeal.Run
public import proofs.«01_k».proof.Proof.Math.Rms
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the reference computes: the transposed gradient of the input projection's weight, `dpᵀ · h`, where `h` is the
normalised input rows times the gain. -/

namespace Cert.DwInEvenRefIdeal.Terms

open Cert.DwInEvenRefIdeal Cert.DwInEvenRefIdeal.Gen Cert.DwInEvenRefIdeal.Value

/-- The mean square of each row plus the small constant. -/
abbrev meanSq (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- Each row divided by its root mean square. -/
abbrev unit (x : FVec Ideal S4096x1024 .f32) : FVec Ideal S4096x1024 .f32 :=
  mulf x (broadcastInDim S4096x1024 ![0, 1] bcast_S4096x1_S4096x1024_0_1 (Host.rsqrt (meanSq x)))

/-- The normalised rows times the gain. -/
abbrev normed (x : FVec Ideal S4096x1024 .f32) (g : FVec Ideal S1x1024 .f32) : FVec Ideal S4096x1024 .f32 :=
  mulf (unit x) (broadcastInDim S4096x1024 ![0, 1] bcast_S1x1024_S4096x1024_0_1 g)

/-- The weight's gradient, transposed. -/
abbrev gradW (dp : FVec Ideal S4096x6400 .f32) (x : FVec Ideal S4096x1024 .f32) (g : FVec Ideal S1x1024 .f32) : FVec Ideal S6400x1024 .bf16 :=
  truncf .bf16 (transpose S6400x1024 [1, 0] (transpose S1024x6400 [1, 0] (Host.dotGeneral dot_S4096x6400_S4096x1024_S6400x1024_0_0_1_1_n_n none dp (normed x g))
    transposes_S6400x1024_S1024x6400_1_0) transposes_S1024x6400_S6400x1024_1_0) bitsLt_bf16_f32

/-- The weight's gradient at an index, as a sum over the rows. -/
theorem gradW_at (dp : FVec Ideal S4096x6400 .f32) (x : FVec Ideal S4096x1024 .f32) (g : FVec Ideal S1x1024 .f32) (j : S6400x1024.Idx) :
    gradW dp x g j = ∑ l : Fin 4096, dp (ix2 l (j 0)) * (x (ix2 l (j 1))
      * Ideal.rsqrt (Math.var fun k : Fin 1024 => x (ix2 l k)) * g (ix2 0 (j 1))) := by
  pointwise [gradW, normed, unit, meanSq]

end Cert.DwInEvenRefIdeal.Terms
end
-- ==== Proof.DwInEven.Final.lean ====
module

public import proofs.«01_k».proof.Proof.Gen.DwInEvenIdeal.Value
public import proofs.«01_k».proof.Proof.DwInEven.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the kernel's result array holds: for each of the two blocks of 3200 rows, four points add the products of 1024 rows
each into an accumulator, and the last of them writes it out. -/

namespace Cert.DwInEvenIdeal.Final

open Cert.DwInEvenIdeal Cert.DwInEvenIdeal.Gen

variable (m : (ℓ : Loc nD τ sig) → Buf (Elt Ideal) ℓ)

/-- Which block each window holds at a point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The second operand is prepared by the host: it holds the normalised rows times the gain. -/
theorem rows (c : Dev nD) : V m c main_v13 = truncf .bf16 (DwInEvenRefIdeal.Terms.normed (m ((c : Thread nD τ).loc main_arg1))
    (m ((c : Thread nD τ).loc main_arg2))) bitsLt_bf16_f32 := by
  entry_read
  rfl

theorem hzero (j) : k0_pay1 (F := Ideal) j = 0 := by pointwise [k0_pay1]

/-- A point adds the product of its two blocks, contracted over their 1024 rows. -/
theorem hpay (acc : FVec Ideal S3200x1024 .f32) (x0 : FVec Ideal S1024x3200 .bf16) (x1 : FVec Ideal S1024x1024 .bf16) (j) :
    k0_pay2 (F := Ideal) acc x0 x1 j = acc j + ∑ k : Fin 1024, x0 (ix2 k (j 0)) * x1 (ix2 k (j 1)) := by
  pointwise [k0_pay2]

/-- The accumulator, read whole, is what it was left at. -/
theorem keep (x : Vec Ideal S3200x1024 .f32) :
    View.read (Elt Ideal) (View.whole cc0_scratch0) ((Memref.isWhole_whole cc0_scratch0).unread (Val := Elt Ideal) x) = x :=
  (Memref.isWhole_whole cc0_scratch0).read_unread x

/-- The last point of a run writes the accumulator out. -/
theorem out_eq (c : Dev nD) (t : Fin cfg0.N) (h0 : t.val % 4 = 3) (y) :
    (outsAt0 m c t.val t.isLt).1 y = (outsAt0 m c t.val t.isLt).2 y := by
  rw [outsAt0_C m c t (by omega) h0]; frame_out
  pointwise [k0_pay3]

/-- The weight's gradient the kernel leaves is the reference's. -/
theorem final2 (c : Dev nD) : (dats m 0 c).arrAt 2 (cfgs 0).N
    = DwInEvenRefIdeal.Terms.gradW (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; rw [hpay]; exact congrArg (· + _) (congrFun (keep _) j)
      · rw [outsAt0_B m c t h h1]; frame_out; rw [hpay]; exact congrArg (· + _) (congrFun (keep _) j))
    t ((flush0_2 t).mp hf) _, zero_add]
  refine Eq.trans ?_ (DwInEvenRefIdeal.Terms.gradW_at _ _ _ _).symm
  refine Fin.sum_mul_add_congr fun s k hl => ?_
  blk_simp [iblk]
  rw [rows]
  pointwise [Math.var, DwInEvenRefIdeal.Terms.normed, DwInEvenRefIdeal.Terms.unit, DwInEvenRefIdeal.Terms.meanSq]
  blk_point [iblk, V, idx t, idx ⟨_, Pipeline.run_point_lt_of_flush t ((flush0_2 t).mp hf) s⟩]

end Cert.DwInEvenIdeal.Final
end
-- ==== Proof.DwInEven.Claims.lean ====
module

public import proofs.«01_k».proof.Defs
public import proofs.«01_k».proof.Proof.Gen.DwInEven.Frame
public import proofs.«01_k».proof.Proof.DwInEven.Final
public import Idealize.ShloMosaic.Lib.Claim

/-! The five claims about the even layers' input projection weight gradient. -/

@[expose] public section

set_option maxRecDepth 16384

noncomputable section

namespace Cert.Claims.DwInEven

open Idealize.ShloMosaic Idealize.ShloMosaic.TcCoe Idealize.SL.Sem

theorem frame_kernel : Cert.quiescent_DwInEven := fun m ρ _ => Cert.DwInEven.Gen.frame m ρ

theorem frame_ideal : Cert.quiescent_DwInEvenIdeal := fun m ρ _ => Cert.DwInEvenIdeal.Gen.frame m ρ

theorem frame_reference : Cert.quiescent_DwInEvenRefIdeal := fun m ρ _ =>
  (θ_run Cert.DwInEvenRefIdeal.defs _ _).mono (fun r h => ⟨fun c => (h c).2, sem_eq_zero_of_no_sems (by decide) r.2⟩)
    (Cert.DwInEvenRefIdeal.Value.run (F := Ideal) m ρ)

theorem preserves : Cert.preserves_DwInEven_DwInEvenIdeal := trivial

/-- The kernel's results are the reference's over the extended reals. -/
theorem algebraic : Cert.algebraic_DwInEvenIdeal_DwInEvenRefIdeal := by
  pair_intro
  · run_from Cert.DwInEvenIdeal.Gen.run_main m g
  · run_from Cert.DwInEvenRefIdeal.Value.run m' g'
    exact (Cert.DwInEvenIdeal.Final.final2 m c).symm

end Cert.Claims.DwInEven

end
-- ==== Proof.DwInOdd.Reference.lean ====
module

public import proofs.«01_k».proof.Proof.Gen.DwInOddRefIdeal.Run
public import proofs.«01_k».proof.Proof.Math.Rms
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the reference computes: the transposed gradient of the input projection's weight, `dpᵀ · h`, where `h` is the
normalised input rows times the gain. -/

namespace Cert.DwInOddRefIdeal.Terms

open Cert.DwInOddRefIdeal Cert.DwInOddRefIdeal.Gen Cert.DwInOddRefIdeal.Value

/-- The mean square of each row plus the small constant. -/
abbrev meanSq (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- Each row divided by its root mean square. -/
abbrev unit (x : FVec Ideal S4096x1024 .f32) : FVec Ideal S4096x1024 .f32 :=
  mulf x (broadcastInDim S4096x1024 ![0, 1] bcast_S4096x1_S4096x1024_0_1 (Host.rsqrt (meanSq x)))

/-- The normalised rows times the gain. -/
abbrev normed (x : FVec Ideal S4096x1024 .f32) (g : FVec Ideal S1x1024 .f32) : FVec Ideal S4096x1024 .f32 :=
  mulf (unit x) (broadcastInDim S4096x1024 ![0, 1] bcast_S1x1024_S4096x1024_0_1 g)

/-- The weight's gradient, transposed. -/
abbrev gradW (dp : FVec Ideal S4096x4864 .f32) (x : FVec Ideal S4096x1024 .f32) (g : FVec Ideal S1x1024 .f32) : FVec Ideal S4864x1024 .bf16 :=
  truncf .bf16 (transpose S4864x1024 [1, 0] (transpose S1024x4864 [1, 0] (Host.dotGeneral dot_S4096x4864_S4096x1024_S4864x1024_0_0_1_1_n_n none dp (normed x g))
    transposes_S4864x1024_S1024x4864_1_0) transposes_S1024x4864_S4864x1024_1_0) bitsLt_bf16_f32

/-- The weight's gradient at an index, as a sum over the rows. -/
theorem gradW_at (dp : FVec Ideal S4096x4864 .f32) (x : FVec Ideal S4096x1024 .f32) (g : FVec Ideal S1x1024 .f32) (j : S4864x1024.Idx) :
    gradW dp x g j = ∑ l : Fin 4096, dp (ix2 l (j 0)) * (x (ix2 l (j 1))
      * Ideal.rsqrt (Math.var fun k : Fin 1024 => x (ix2 l k)) * g (ix2 0 (j 1))) := by
  pointwise [gradW, normed, unit, meanSq]

end Cert.DwInOddRefIdeal.Terms
end
-- ==== Proof.DwInOdd.Final.lean ====
module

public import proofs.«01_k».proof.Proof.Gen.DwInOddIdeal.Value
public import proofs.«01_k».proof.Proof.DwInOdd.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the kernel's result array holds: for each of the two blocks of 2432 rows, four points add the products of 1024 rows
each into an accumulator, and the last of them writes it out. -/

namespace Cert.DwInOddIdeal.Final

open Cert.DwInOddIdeal Cert.DwInOddIdeal.Gen

variable (m : (ℓ : Loc nD τ sig) → Buf (Elt Ideal) ℓ)

/-- Which block each window holds at a point. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The second operand is prepared by the host: it holds the normalised rows times the gain. -/
theorem rows (c : Dev nD) : V m c main_v13 = truncf .bf16 (DwInOddRefIdeal.Terms.normed (m ((c : Thread nD τ).loc main_arg1))
    (m ((c : Thread nD τ).loc main_arg2))) bitsLt_bf16_f32 := by
  entry_read
  rfl

theorem hzero (j) : k0_pay1 (F := Ideal) j = 0 := by pointwise [k0_pay1]

/-- A point adds the product of its two blocks, contracted over their 1024 rows. -/
theorem hpay (acc : FVec Ideal S2432x1024 .f32) (x0 : FVec Ideal S1024x2432 .bf16) (x1 : FVec Ideal S1024x1024 .bf16) (j) :
    k0_pay2 (F := Ideal) acc x0 x1 j = acc j + ∑ k : Fin 1024, x0 (ix2 k (j 0)) * x1 (ix2 k (j 1)) := by
  pointwise [k0_pay2]

/-- The accumulator, read whole, is what it was left at. -/
theorem keep (x : Vec Ideal S2432x1024 .f32) :
    View.read (Elt Ideal) (View.whole cc0_scratch0) ((Memref.isWhole_whole cc0_scratch0).unread (Val := Elt Ideal) x) = x :=
  (Memref.isWhole_whole cc0_scratch0).read_unread x

/-- The last point of a run writes the accumulator out. -/
theorem out_eq (c : Dev nD) (t : Fin cfg0.N) (h0 : t.val % 4 = 3) (y) :
    (outsAt0 m c t.val t.isLt).1 y = (outsAt0 m c t.val t.isLt).2 y := by
  rw [outsAt0_C m c t (by omega) h0]; frame_out
  pointwise [k0_pay3]

/-- The weight's gradient the kernel leaves is the reference's. -/
theorem final2 (c : Dev nD) : (dats m 0 c).arrAt 2 (cfgs 0).N
    = DwInOddRefIdeal.Terms.gradW (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; rw [hpay]; exact congrArg (· + _) (congrFun (keep _) j)
      · rw [outsAt0_B m c t h h1]; frame_out; rw [hpay]; exact congrArg (· + _) (congrFun (keep _) j))
    t ((flush0_2 t).mp hf) _, zero_add]
  refine Eq.trans ?_ (DwInOddRefIdeal.Terms.gradW_at _ _ _ _).symm
  refine Fin.sum_mul_add_congr fun s k hl => ?_
  blk_simp [iblk]
  rw [rows]
  pointwise [Math.var, DwInOddRefIdeal.Terms.normed, DwInOddRefIdeal.Terms.unit, DwInOddRefIdeal.Terms.meanSq]
  blk_point [iblk, V, idx t, idx ⟨_, Pipeline.run_point_lt_of_flush t ((flush0_2 t).mp hf) s⟩]

end Cert.DwInOddIdeal.Final
end
-- ==== Proof.DwInOdd.Claims.lean ====
module

public import proofs.«01_k».proof.Defs
public import proofs.«01_k».proof.Proof.Gen.DwInOdd.Frame
public import proofs.«01_k».proof.Proof.DwInOdd.Final
public import Idealize.ShloMosaic.Lib.Claim

/-! The five claims about the odd layers' input projection weight gradient. -/

@[expose] public section

set_option maxRecDepth 16384

noncomputable section

namespace Cert.Claims.DwInOdd

open Idealize.ShloMosaic Idealize.ShloMosaic.TcCoe Idealize.SL.Sem

theorem frame_kernel : Cert.quiescent_DwInOdd := fun m ρ _ => Cert.DwInOdd.Gen.frame m ρ

theorem frame_ideal : Cert.quiescent_DwInOddIdeal := fun m ρ _ => Cert.DwInOddIdeal.Gen.frame m ρ

theorem frame_reference : Cert.quiescent_DwInOddRefIdeal := fun m ρ _ =>
  (θ_run Cert.DwInOddRefIdeal.defs _ _).mono (fun r h => ⟨fun c => (h c).2, sem_eq_zero_of_no_sems (by decide) r.2⟩)
    (Cert.DwInOddRefIdeal.Value.run (F := Ideal) m ρ)

theorem preserves : Cert.preserves_DwInOdd_DwInOddIdeal := trivial

/-- The kernel's results are the reference's over the extended reals. -/
theorem algebraic : Cert.algebraic_DwInOddIdeal_DwInOddRefIdeal := by
  pair_intro
  · run_from Cert.DwInOddIdeal.Gen.run_main m g
  · run_from Cert.DwInOddRefIdeal.Value.run m' g'
    exact (Cert.DwInOddIdeal.Final.final2 m c).symm

end Cert.Claims.DwInOdd

end
-- ==== Proof.DwOut.Reference.lean ====
module

public import proofs.«01_k».proof.Proof.Gen.DwOutRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the reference computes: the gradient of the output projection's weight, `yᵀ · do`. -/

namespace Cert.DwOutRefIdeal.Terms

open Cert.DwOutRefIdeal Cert.DwOutRefIdeal.Gen Cert.DwOutRefIdeal.Value

/-- The weight's gradient. -/
abbrev gradW (y : FVec Ideal S4096x2048 .f32) (d : FVec Ideal S4096x1024 .f32) : FVec Ideal S2048x1024 .bf16 :=
  truncf .bf16 (transpose S2048x1024 [1, 0] (Host.dotGeneral dot_S4096x1024_S4096x2048_S1024x2048_0_0_1_1_n_n none d y) transposes_S1024x2048_S2048x1024_1_0) bitsLt_bf16_f32

/-- The weight's gradient at an index, as a sum over the rows. -/
theorem gradW_at (y : FVec Ideal S4096x2048 .f32) (d : FVec Ideal S4096x1024 .f32) (j : S2048x1024.Idx) :
    gradW y d j = ∑ l : Fin 4096, y (ix2 l (j 0)) * d (ix2 l (j 1)) := by
  pointwise [gradW]
  exact Finset.sum_congr rfl fun _ _ => mul_comm _ _

end Cert.DwOutRefIdeal.Terms
end
-- ==== Proof.DwOut.Final.lean ====
module

public import proofs.«01_k».proof.Proof.Gen.DwOutIdeal.Value
public import proofs.«01_k».proof.Proof.DwOut.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the kernel's result array holds: four points add the products of 1024 rows each into an accumulator, and the last
writes it out. -/

namespace Cert.DwOutIdeal.Final

open Cert.DwOutIdeal Cert.DwOutIdeal.Gen

variable (m : (ℓ : Loc nD τ sig) → Buf (Elt Ideal) ℓ)

/-- Which block each window holds at a point. -/
theorem idx : ∀ t : Fin cfg0.N, win0_0.index t = ![t.val, 0] ∧ win0_1.index t = ![t.val, 0] ∧ win0_2.index t = ![0, 0] :=
  (by decide +kernel : ∀ t : Fin grid0.N, _)

theorem hzero (j) : k0_pay1 (F := Ideal) j = 0 := by pointwise [k0_pay1]

/-- A point adds the product of its two blocks, contracted over their 1024 rows. -/
theorem hpay (acc : FVec Ideal S2048x1024 .f32) (x0 : FVec Ideal S1024x2048 .bf16) (x1 : FVec Ideal S1024x1024 .bf16) (j) :
    k0_pay2 (F := Ideal) acc x0 x1 j = acc j + ∑ k : Fin 1024, x0 (ix2 k (j 0)) * x1 (ix2 k (j 1)) := by
  pointwise [k0_pay2]

/-- The accumulator, read whole, is what it was left at. -/
theorem keep (x : Vec Ideal S2048x1024 .f32) :
    View.read (Elt Ideal) (View.whole cc0_scratch0) ((Memref.isWhole_whole cc0_scratch0).unread (Val := Elt Ideal) x) = x :=
  (Memref.isWhole_whole cc0_scratch0).read_unread x

/-- The last point of a run writes the accumulator out. -/
theorem out_eq (c : Dev nD) (t : Fin cfg0.N) (h0 : t.val % 4 = 3) (y) :
    (outsAt0 m c t.val t.isLt).1 y = (outsAt0 m c t.val t.isLt).2 y := by
  rw [outsAt0_C m c t (by omega) h0]; frame_out
  pointwise [k0_pay3]

/-- The weight's gradient the kernel leaves is the reference's. -/
theorem final2 (c : Dev nD) : (dats m 0 c).arrAt 2 (cfgs 0).N
    = DwOutRefIdeal.Terms.gradW (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 4 (fun _ => 0) _
    (fun t h j => by rw [outsAt0_A m c t h (by omega)]; frame_out; rw [hpay, hzero])
    (fun t h j => by
      by_cases h1 : t.val % 4 = 3
      · rw [outsAt0_C m c t h h1]; frame_out; rw [hpay]; exact congrArg (· + _) (congrFun (keep _) j)
      · rw [outsAt0_B m c t h h1]; frame_out; rw [hpay]; exact congrArg (· + _) (congrFun (keep _) j))
    t ((flush0_2 t).mp hf) _, zero_add]
  refine Eq.trans ?_ (DwOutRefIdeal.Terms.gradW_at _ _ _).symm
  refine Fin.sum_mul_add_congr fun s k hl => ?_
  blk_point [iblk, V, idx t, idx ⟨_, Pipeline.run_point_lt_of_flush t ((flush0_2 t).mp hf) s⟩]

end Cert.DwOutIdeal.Final
end
-- ==== Proof.DwOut.Claims.lean ====
module

public import proofs.«01_k».proof.Defs
public import proofs.«01_k».proof.Proof.Gen.DwOut.Frame
public import proofs.«01_k».proof.Proof.DwOut.Final
public import Idealize.ShloMosaic.Lib.Claim

/-! The five claims about the output projection weight gradient. -/

@[expose] public section

set_option maxRecDepth 16384

noncomputable section

namespace Cert.Claims.DwOut

open Idealize.ShloMosaic Idealize.ShloMosaic.TcCoe Idealize.SL.Sem

theorem frame_kernel : Cert.quiescent_DwOut := fun m ρ _ => Cert.DwOut.Gen.frame m ρ

theorem frame_ideal : Cert.quiescent_DwOutIdeal := fun m ρ _ => Cert.DwOutIdeal.Gen.frame m ρ

theorem frame_reference : Cert.quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run (F := Ideal) m ρ)

theorem preserves : Cert.preserves_DwOut_DwOutIdeal := trivial

/-- The kernel's results are the reference's over the extended reals. -/
theorem algebraic : Cert.algebraic_DwOutIdeal_DwOutRefIdeal := by
  pair_intro
  · run_from Cert.DwOutIdeal.Gen.run_main m g
  · run_from Cert.DwOutRefIdeal.Value.run m' g'
    exact (Cert.DwOutIdeal.Final.final2 m c).symm

end Cert.Claims.DwOut

end
-- ==== Proof.InEven.Reference.lean ====
module

public import proofs.«01_k».proof.Proof.Gen.InEvenRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the reference computes: the normalised rows times the gain, `h`, and the projection `p = h · w`. -/

namespace Cert.InEvenRefIdeal.Terms

open Cert.InEvenRefIdeal Cert.InEvenRefIdeal.Gen Cert.InEvenRefIdeal.Value

/-- The mean square of each row plus the small constant. -/
abbrev meanSq (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- Each row divided by its root mean square. -/
abbrev unit (x : FVec Ideal S4096x1024 .f32) : FVec Ideal S4096x1024 .f32 :=
  mulf x (broadcastInDim S4096x1024 ![0, 1] bcast_S4096x1_S4096x1024_0_1 (Host.rsqrt (meanSq x)))

/-- The normalised rows times the gain. -/
abbrev normed (x : FVec Ideal S4096x1024 .f32) (g : FVec Ideal S1x1024 .f32) : FVec Ideal S4096x1024 .f32 :=
  mulf (unit x) (broadcastInDim S4096x1024 ![0, 1] bcast_S1x1024_S4096x1024_0_1 g)

/-- The projection. -/
abbrev proj (x : FVec Ideal S4096x1024 .f32) (g : FVec Ideal S1x1024 .f32) (w : FVec Ideal S1024x6400 .f32) : FVec Ideal S4096x6400 .f32 :=
  Host.dotGeneral dot_S4096x1024_S1024x6400_S4096x6400_1_0_0_1_n_n none (normed x g) w

/-- The normalised rows as stored. -/
abbrev stored (x : FVec Ideal S4096x1024 .f32) (g : FVec Ideal S1x1024 .f32) : FVec Ideal S4096x1024 .bf16 :=
  truncf .bf16 (normed x g) bitsLt_bf16_f32

end Cert.InEvenRefIdeal.Terms
end
-- ==== Proof.InEven.Final.lean ====
module

public import proofs.«01_k».proof.Proof.Gen.InEvenIdeal.Value
public import proofs.«01_k».proof.Proof.InEven.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the kernel's two result arrays hold: every point writes its own tile of 512 rows of each. -/

namespace Cert.InEvenIdeal.Final

open Cert.InEvenIdeal Cert.InEvenIdeal.Gen

variable (m : (ℓ : Loc nD τ sig) → Buf (Elt Ideal) ℓ)

/-- Which block each window holds at a point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The normalised rows the kernel leaves are the reference's. -/
theorem final4 (c : Dev nD) : (dats m 0 c).arrAt 4 (cfgs 0).N
    = InEvenRefIdeal.Terms.stored (m ((c : Thread nD τ).loc main_arg0)) (m ((c : Thread nD τ).loc main_arg1)) := by
  refine (dats m 0 c).arrAt_eq_of_covers 4 _ (by decide +kernel) fun t _ y => ?_
  blk_simp
  rw [after0_4]; frame_out
  pointwise [k0_pay1, InEvenRefIdeal.Terms.stored, InEvenRefIdeal.Terms.normed, InEvenRefIdeal.Terms.unit, InEvenRefIdeal.Terms.meanSq]
  blk_point [iblk, V, idx t]

/-- The projection the kernel leaves is the reference's. -/
theorem final3 (c : Dev nD) : (dats m 0 c).arrAt 3 (cfgs 0).N
    = InEvenRefIdeal.Terms.proj (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay2, k0_pay1, InEvenRefIdeal.Terms.proj, InEvenRefIdeal.Terms.normed, InEvenRefIdeal.Terms.unit, InEvenRefIdeal.Terms.meanSq]
  blk_point [iblk, V, idx t]

end Cert.InEvenIdeal.Final
end
-- ==== Proof.InEven.Claims.lean ====
module

public import proofs.«01_k».proof.Defs
public import proofs.«01_k».proof.Proof.Gen.InEven.Frame
public import proofs.«01_k».proof.Proof.InEven.Final
public import Idealize.ShloMosaic.Lib.Claim

/-! The five claims about the even layers' input norm and projection. -/

@[expose] public section

set_option maxRecDepth 16384

noncomputable section

namespace Cert.Claims.InEven

open Idealize.ShloMosaic Idealize.ShloMosaic.TcCoe Idealize.SL.Sem

theorem frame_kernel : Cert.quiescent_InEven := fun m ρ _ => Cert.InEven.Gen.frame m ρ

theorem frame_ideal : Cert.quiescent_InEvenIdeal := fun m ρ _ => Cert.InEvenIdeal.Gen.frame m ρ

theorem frame_reference : Cert.quiescent_InEvenRefIdeal := fun m ρ _ =>
  (θ_run Cert.InEvenRefIdeal.defs _ _).mono (fun r h => ⟨fun c => (h c).2.2, sem_eq_zero_of_no_sems (by decide) r.2⟩)
    (Cert.InEvenRefIdeal.Value.run (F := Ideal) m ρ)

theorem preserves : Cert.preserves_InEven_InEvenIdeal := trivial

/-- The kernel's results are the reference's over the extended reals. -/
theorem algebraic : Cert.algebraic_InEvenIdeal_InEvenRefIdeal := by
  pair_intro
  · run_from Cert.InEvenIdeal.Gen.run_main m g
  · run_from Cert.InEvenRefIdeal.Value.run m' g'
    · exact (Cert.InEvenIdeal.Final.final3 m c).symm
    · exact (Cert.InEvenIdeal.Final.final4 m c).symm

end Cert.Claims.InEven

end
-- ==== Proof.InOdd.Reference.lean ====
module

public import proofs.«01_k».proof.Proof.Gen.InOddRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the reference computes: the normalised rows times the gain, `h`, and the projection `p = h · w`. -/

namespace Cert.InOddRefIdeal.Terms

open Cert.InOddRefIdeal Cert.InOddRefIdeal.Gen Cert.InOddRefIdeal.Value

/-- The mean square of each row plus the small constant. -/
abbrev meanSq (x : FVec Ideal S4096x1024 .f32) : FVec Ideal S4096x1 .f32 :=
  addf (Host.divf (broadcastInDim S4096x1 ![0] bcast_S4096_S4096x1_0 (Host.reduceAdd (mulf x x) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- Each row divided by its root mean square. -/
abbrev unit (x : FVec Ideal S4096x1024 .f32) : FVec Ideal S4096x1024 .f32 :=
  mulf x (broadcastInDim S4096x1024 ![0, 1] bcast_S4096x1_S4096x1024_0_1 (Host.rsqrt (meanSq x)))

/-- The normalised rows times the gain. -/
abbrev normed (x : FVec Ideal S4096x1024 .f32) (g : FVec Ideal S1x1024 .f32) : FVec Ideal S4096x1024 .f32 :=
  mulf (unit x) (broadcastInDim S4096x1024 ![0, 1] bcast_S1x1024_S4096x1024_0_1 g)

/-- The projection. -/
abbrev proj (x : FVec Ideal S4096x1024 .f32) (g : FVec Ideal S1x1024 .f32) (w : FVec Ideal S1024x4864 .f32) : FVec Ideal S4096x4864 .f32 :=
  Host.dotGeneral dot_S4096x1024_S1024x4864_S4096x4864_1_0_0_1_n_n none (normed x g) w

/-- The normalised rows as stored. -/
abbrev stored (x : FVec Ideal S4096x1024 .f32) (g : FVec Ideal S1x1024 .f32) : FVec Ideal S4096x1024 .bf16 :=
  truncf .bf16 (normed x g) bitsLt_bf16_f32

end Cert.InOddRefIdeal.Terms
end
-- ==== Proof.InOdd.Final.lean ====
module

public import proofs.«01_k».proof.Proof.Gen.InOddIdeal.Value
public import proofs.«01_k».proof.Proof.InOdd.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the kernel's two result arrays hold: every point writes its own tile of 512 rows of each. -/

namespace Cert.InOddIdeal.Final

open Cert.InOddIdeal Cert.InOddIdeal.Gen

variable (m : (ℓ : Loc nD τ sig) → Buf (Elt Ideal) ℓ)

/-- Which block each window holds at a point. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] :=
  (by decide +kernel : ∀ t : Fin grid0.N, _)

/-- The normalised rows the kernel leaves are the reference's. -/
theorem final4 (c : Dev nD) : (dats m 0 c).arrAt 4 (cfgs 0).N
    = InOddRefIdeal.Terms.stored (m ((c : Thread nD τ).loc main_arg0)) (m ((c : Thread nD τ).loc main_arg1)) := by
  refine (dats m 0 c).arrAt_eq_of_covers 4 _ (by decide +kernel) fun t _ y => ?_
  blk_simp
  rw [after0_4]; frame_out
  pointwise [k0_pay1, InOddRefIdeal.Terms.stored, InOddRefIdeal.Terms.normed, InOddRefIdeal.Terms.unit, InOddRefIdeal.Terms.meanSq]
  blk_point [iblk, V, idx t]

/-- The projection the kernel leaves is the reference's. -/
theorem final3 (c : Dev nD) : (dats m 0 c).arrAt 3 (cfgs 0).N
    = InOddRefIdeal.Terms.proj (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay2, k0_pay1, InOddRefIdeal.Terms.proj, InOddRefIdeal.Terms.normed, InOddRefIdeal.Terms.unit, InOddRefIdeal.Terms.meanSq]
  blk_point [iblk, V, idx t]

end Cert.InOddIdeal.Final
end
-- ==== Proof.InOdd.Claims.lean ====
module

public import proofs.«01_k».proof.Defs
public import proofs.«01_k».proof.Proof.Gen.InOdd.Frame
public import proofs.«01_k».proof.Proof.InOdd.Final
public import Idealize.ShloMosaic.Lib.Claim

/-! The five claims about the odd layers' input norm and projection. -/

@[expose] public section

set_option maxRecDepth 16384

noncomputable section

namespace Cert.Claims.InOdd

open Idealize.ShloMosaic Idealize.ShloMosaic.TcCoe Idealize.SL.Sem

theorem frame_kernel : Cert.quiescent_InOdd := fun m ρ _ => Cert.InOdd.Gen.frame m ρ

theorem frame_ideal : Cert.quiescent_InOddIdeal := fun m ρ _ => Cert.InOddIdeal.Gen.frame m ρ

theorem frame_reference : Cert.quiescent_InOddRefIdeal := fun m ρ _ =>
  (θ_run Cert.InOddRefIdeal.defs _ _).mono (fun r h => ⟨fun c => (h c).2.2, sem_eq_zero_of_no_sems (by decide) r.2⟩)
    (Cert.InOddRefIdeal.Value.run (F := Ideal) m ρ)

theorem preserves : Cert.preserves_InOdd_InOddIdeal := trivial

/-- The kernel's results are the reference's over the extended reals. -/
theorem algebraic : Cert.algebraic_InOddIdeal_InOddRefIdeal := by
  pair_intro
  · run_from Cert.InOddIdeal.Gen.run_main m g
  · run_from Cert.InOddRefIdeal.Value.run m' g'
    · exact (Cert.InOddIdeal.Final.final3 m c).symm
    · exact (Cert.InOddIdeal.Final.final4 m c).symm

end Cert.Claims.InOdd

end
-- ==== Proof.KvIn.Reference.lean ====
module

public import proofs.«01_k».proof.Proof.Gen.KvInRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the reference computes: the memory's normalised rows times the gain, and their projection to keys and values. -/

namespace Cert.KvInRefIdeal.Terms

open Cert.KvInRefIdeal Cert.KvInRefIdeal.Gen Cert.KvInRefIdeal.Value

/-- The mean square of each row plus the small constant. -/
abbrev meanSq (x : FVec Ideal S256x1024 .f32) : FVec Ideal S256x1 .f32 :=
  addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32))

/-- Each row divided by its root mean square. -/
abbrev unit (x : FVec Ideal S256x1024 .f32) : FVec Ideal S256x1024 .f32 :=
  mulf x (broadcastInDim S256x1024 ![0, 1] bcast_S256x1_S256x1024_0_1 (Host.rsqrt (meanSq x)))

/-- The normalised rows times the gain. -/
abbrev normed (x : FVec Ideal S256x1024 .f32) (g : FVec Ideal S1x1024 .f32) : FVec Ideal S256x1024 .f32 :=
  mulf (unit x) (broadcastInDim S256x1024 ![0, 1] bcast_S1x1024_S256x1024_0_1 g)

/-- The keys and values. -/
abbrev proj (x : FVec Ideal S256x1024 .f32) (g : FVec Ideal S1x1024 .f32) (w : FVec Ideal S1024x1024 .f32) : FVec Ideal S256x1024 .bf16 :=
  truncf .bf16 (Host.dotGeneral dot_S256x1024_S1024x1024_S256x1024_1_0_0_1_n_n none (normed x g) w) bitsLt_bf16_f32

/-- The normalised rows as stored. -/
abbrev stored (x : FVec Ideal S256x1024 .f32) (g : FVec Ideal S1x1024 .f32) : FVec Ideal S256x1024 .bf16 :=
  truncf .bf16 (normed x g) bitsLt_bf16_f32

end Cert.KvInRefIdeal.Terms
end
-- ==== Proof.KvIn.Final.lean ====
module

public import proofs.«01_k».proof.Proof.Gen.KvInIdeal.Value
public import proofs.«01_k».proof.Proof.KvIn.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the kernel's two result arrays hold; its one point writes both whole. -/

namespace Cert.KvInIdeal.Final

open Cert.KvInIdeal Cert.KvInIdeal.Gen

variable (m : (ℓ : Loc nD τ sig) → Buf (Elt Ideal) ℓ)

/-- Which block each window holds. -/
theorem idx : ∀ t : Fin cfg0.N, win0_0.index t = ![0, 0] ∧ win0_1.index t = ![0, 0] ∧ win0_2.index t = ![0, 0]
    ∧ win0_3.index t = ![0, 0] ∧ win0_4.index t = ![0, 0] :=
  (by decide +kernel : ∀ t : Fin grid0.N, _)

/-- The normalised rows the kernel leaves are the reference's. -/
theorem final4 (c : Dev nD) : (dats m 0 c).arrAt 4 (cfgs 0).N
    = KvInRefIdeal.Terms.stored (m ((c : Thread nD τ).loc main_arg0)) (m ((c : Thread nD τ).loc main_arg1)) := by
  refine (dats m 0 c).arrAt_eq_of_covers 4 _ (by decide +kernel) fun t _ y => ?_
  blk_simp
  rw [after0_4]; frame_out
  pointwise [k0_pay1, KvInRefIdeal.Terms.stored, KvInRefIdeal.Terms.normed, KvInRefIdeal.Terms.unit, KvInRefIdeal.Terms.meanSq]
  blk_point [iblk, V, idx t]

/-- The keys and values the kernel leaves are the reference's. -/
theorem final3 (c : Dev nD) : (dats m 0 c).arrAt 3 (cfgs 0).N
    = KvInRefIdeal.Terms.proj (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  pointwise [k0_pay2, k0_pay1, KvInRefIdeal.Terms.proj, KvInRefIdeal.Terms.normed, KvInRefIdeal.Terms.unit, KvInRefIdeal.Terms.meanSq]
  blk_point [iblk, V, idx t]

end Cert.KvInIdeal.Final
end
-- ==== Proof.KvIn.Claims.lean ====
module

public import proofs.«01_k».proof.Defs
public import proofs.«01_k».proof.Proof.Gen.KvIn.Frame
public import proofs.«01_k».proof.Proof.KvIn.Final
public import Idealize.ShloMosaic.Lib.Claim

/-! The five claims about the norm and projection of the memory. -/

@[expose] public section

set_option maxRecDepth 16384

noncomputable section

namespace Cert.Claims.KvIn

open Idealize.ShloMosaic Idealize.ShloMosaic.TcCoe Idealize.SL.Sem

theorem frame_kernel : Cert.quiescent_KvIn := fun m ρ _ => Cert.KvIn.Gen.frame m ρ

theorem frame_ideal : Cert.quiescent_KvInIdeal := fun m ρ _ => Cert.KvInIdeal.Gen.frame m ρ

theorem frame_reference : Cert.quiescent_KvInRefIdeal := fun m ρ _ =>
  (θ_run Cert.KvInRefIdeal.defs _ _).mono (fun r h => ⟨fun c => (h c).2.2, sem_eq_zero_of_no_sems (by decide) r.2⟩)
    (Cert.KvInRefIdeal.Value.run (F := Ideal) m ρ)

theorem preserves : Cert.preserves_KvIn_KvInIdeal := trivial

/-- The kernel's results are the reference's over the extended reals. -/
theorem algebraic : Cert.algebraic_KvInIdeal_KvInRefIdeal := by
  intro m g m' g' _ hagree
  refine ⟨fun c => (Cert.KvInIdeal.Gen.dats m 0 c).arrAt 3 (Cert.KvInIdeal.cfgs 0).N, fun c => (Cert.KvInIdeal.Gen.dats m 0 c).arrAt 4 (Cert.KvInIdeal.cfgs 0).N, ?_, ?_⟩
  · run_from Cert.KvInIdeal.Gen.run_main m g
  · refine (θ_run Cert.KvInRefIdeal.defs _ _).mono (fun r h c => ?_) (Cert.KvInRefIdeal.Value.run (F := Ideal) m' g')
    obtain ⟨h3, h4, hu⟩ := h c
    obtain ⟨a0, a1, a2⟩ := hagree c
    refine ⟨h3.trans ?_, h4.trans ?_, hu⟩
    · refine Eq.trans (show _ = Cert.KvInRefIdeal.Terms.proj (m' ((c.tc : Thread Cert.KvInRefIdeal.nD Cert.KvInRefIdeal.τ).loc Cert.KvInRefIdeal.main_arg0)) (m' ((c.tc : Thread Cert.KvInRefIdeal.nD Cert.KvInRefIdeal.τ).loc Cert.KvInRefIdeal.main_arg1)) (m' ((c.tc : Thread Cert.KvInRefIdeal.nD Cert.KvInRefIdeal.τ).loc Cert.KvInRefIdeal.main_arg2)) from rfl) ?_
      rw [a0, a1, a2]
      exact (Cert.KvInIdeal.Final.final3 m c).symm
    · refine Eq.trans (show _ = Cert.KvInRefIdeal.Terms.stored (m' ((c.tc : Thread Cert.KvInRefIdeal.nD Cert.KvInRefIdeal.τ).loc Cert.KvInRefIdeal.main_arg0)) (m' ((c.tc : Thread Cert.KvInRefIdeal.nD Cert.KvInRefIdeal.τ).loc Cert.KvInRefIdeal.main_arg1)) from rfl) ?_
      rw [a0, a1]
      exact (Cert.KvInIdeal.Final.final4 m c).symm

end Cert.Claims.KvIn

end
-- ==== Proof.KvBwd.Reference.lean ====
module

public import proofs.«01_k».proof.Proof.Gen.KvBwdRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the reference computes: the gradients of the keys' and values' weight and of the memory's gain. -/

namespace Cert.KvBwdRefIdeal.Terms

open Cert.KvBwdRefIdeal Cert.KvBwdRefIdeal.Gen Cert.KvBwdRefIdeal.Value

/-- The mean square of each row plus the small constant. -/
abbrev meanSq (x : FVec Ideal S256x1024 .f32) : FVec Ideal S256x1 .f32 :=
  addf (Host.divf (broadcastInDim S256x1 ![0] bcast_S256_S256x1_0 (Host.reduceAdd (mulf x x) (constant S_ .f32 0x00000000#32) reducesTo_S256x1024_S256_d1 h_S_)) (broadcastInDim S256x1 ![] bcast_S_S256x1 (constant S_ .f32 0x44800000#32))) (broadcastInDim S256x1 ![] bcast_S_S256x1 (constant S_ .f32 0x358637BD#32))

/-- Each row divided by its root mean square. -/
abbrev unit (x : FVec Ideal S256x1024 .f32) : FVec Ideal S256x1024 .f32 :=
  mulf x (broadcastInDim S256x1024 ![0, 1] bcast_S256x1_S256x1024_0_1 (Host.rsqrt (meanSq x)))

/-- The normalised rows times the gain. -/
abbrev normed (x : FVec Ideal S256x1024 .f32) (g : FVec Ideal S1x1024 .f32) : FVec Ideal S256x1024 .f32 :=
  mulf (unit x) (broadcastInDim S256x1024 ![0, 1] bcast_S1x1024_S256x1024_0_1 g)

/-- The weight's gradient, `normedᵀ · dkv`. -/
abbrev gradW (d x : FVec Ideal S256x1024 .f32) (g : FVec Ideal S1x1024 .f32) : FVec Ideal S1024x1024 .bf16 :=
  truncf .bf16 (transpose S1024x1024 [1, 0] (Host.dotGeneral dot_S256x1024_S256x1024_S1024x1024_0_0_1_1_n_n none d (normed x g)) transposes_S1024x1024_S1024x1024_1_0) bitsLt_bf16_f32

/-- The gain's gradient: over the rows, the sum of the normalised rows times `dkv · wᵀ`. -/
abbrev gradG (d : FVec Ideal S256x1024 .f32) (w : FVec Ideal S1024x1024 .f32) (x : FVec Ideal S256x1024 .f32) : FVec Ideal S1x1024 .f32 :=
  shapeCast _ (Host.reduceAdd (mulf (unit x) (Host.dotGeneral dot_S256x1024_S1024x1024_S256x1024_1_1_0_0_n_n none d w))
    (constant S_ .f32 0x00000000#32) reducesTo_S256x1024_S1024_d0 h_S_) shapeCasts_S1024_S1x1024

end Cert.KvBwdRefIdeal.Terms
end
-- ==== Proof.KvBwd.Final.lean ====
module

public import proofs.«01_k».proof.Proof.Gen.KvBwdIdeal.Value
public import proofs.«01_k».proof.Proof.KvBwd.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the kernel's two result arrays hold; its one point writes both whole. -/

namespace Cert.KvBwdIdeal.Final

open Cert.KvBwdIdeal Cert.KvBwdIdeal.Gen

variable (m : (ℓ : Loc nD τ sig) → Buf (Elt Ideal) ℓ)

/-- Which block each window holds. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The first operand is prepared by the host: it holds the normalised rows times the gain. -/
theorem rows (c : Dev nD) : V m c main_v12 = truncf .bf16 (KvBwdRefIdeal.Terms.normed (m ((c : Thread nD τ).loc main_arg2)) (m ((c : Thread nD τ).loc main_arg3))) bitsLt_bf16_f32 := by
  entry_read
  rfl

/-- The weight's gradient the kernel leaves is the reference's. -/
theorem final4 (c : Dev nD) : (dats m 0 c).arrAt 4 (cfgs 0).N
    = KvBwdRefIdeal.Terms.gradW (m ((c : Thread nD τ).loc main_arg0)) (m ((c : Thread nD τ).loc main_arg2)) (m ((c : Thread nD τ).loc main_arg3)) := by
  refine (dats m 0 c).arrAt_eq_of_covers 4 _ (by decide +kernel) fun t _ y => ?_
  blk_simp
  rw [after0_4]; frame_out
  pointwise [k0_pay1, KvBwdRefIdeal.Terms.gradW]
  blk_simp [iblk]
  rw [rows]
  pointwise [KvBwdRefIdeal.Terms.normed, KvBwdRefIdeal.Terms.unit, KvBwdRefIdeal.Terms.meanSq]
  blk_point [iblk, V, idx t]

/-- The gain's gradient the kernel leaves is the reference's. -/
theorem final5 (c : Dev nD) : (dats m 0 c).arrAt 5 (cfgs 0).N
    = KvBwdRefIdeal.Terms.gradG (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  pointwise [k0_pay2, KvBwdRefIdeal.Terms.gradG, KvBwdRefIdeal.Terms.unit, KvBwdRefIdeal.Terms.meanSq]
  blk_point [iblk, V, idx t]

end Cert.KvBwdIdeal.Final
end
-- ==== Proof.KvBwd.Claims.lean ====
module

public import proofs.«01_k».proof.Defs
public import proofs.«01_k».proof.Proof.Gen.KvBwd.Frame
public import proofs.«01_k».proof.Proof.KvBwd.Final
public import Idealize.ShloMosaic.Lib.Claim

/-! The five claims about the backward pass of the memory's norm and projection. -/

@[expose] public section

set_option maxRecDepth 16384

noncomputable section

namespace Cert.Claims.KvBwd

open Idealize.ShloMosaic Idealize.ShloMosaic.TcCoe Idealize.SL.Sem

theorem frame_kernel : Cert.quiescent_KvBwd := fun m ρ _ => Cert.KvBwd.Gen.frame m ρ

theorem frame_ideal : Cert.quiescent_KvBwdIdeal := fun m ρ _ => Cert.KvBwdIdeal.Gen.frame m ρ

theorem frame_reference : Cert.quiescent_KvBwdRefIdeal := fun m ρ _ =>
  (θ_run Cert.KvBwdRefIdeal.defs _ _).mono (fun r h => ⟨fun c => (h c).2.2, sem_eq_zero_of_no_sems (by decide) r.2⟩)
    (Cert.KvBwdRefIdeal.Value.run (F := Ideal) m ρ)

theorem preserves : Cert.preserves_KvBwd_KvBwdIdeal := trivial

/-- The kernel's results are the reference's over the extended reals. -/
theorem algebraic : Cert.algebraic_KvBwdIdeal_KvBwdRefIdeal := by
  intro m g m' g' _ hagree
  refine ⟨fun c => (Cert.KvBwdIdeal.Gen.dats m 0 c).arrAt 4 (Cert.KvBwdIdeal.cfgs 0).N, fun c => (Cert.KvBwdIdeal.Gen.dats m 0 c).arrAt 5 (Cert.KvBwdIdeal.cfgs 0).N, ?_, ?_⟩
  · run_from Cert.KvBwdIdeal.Gen.run_main m g
  · refine (θ_run Cert.KvBwdRefIdeal.defs _ _).mono (fun r h c => ?_) (Cert.KvBwdRefIdeal.Value.run (F := Ideal) m' g')
    obtain ⟨h4, h5, hu⟩ := h c
    obtain ⟨a0, a1, a2, a3⟩ := hagree c
    refine ⟨h4.trans ?_, h5.trans ?_, hu⟩
    · refine Eq.trans (show _ = Cert.KvBwdRefIdeal.Terms.gradW (m' ((c.tc : Thread Cert.KvBwdRefIdeal.nD Cert.KvBwdRefIdeal.τ).loc Cert.KvBwdRefIdeal.main_arg0)) (m' ((c.tc : Thread Cert.KvBwdRefIdeal.nD Cert.KvBwdRefIdeal.τ).loc Cert.KvBwdRefIdeal.main_arg2)) (m' ((c.tc : Thread Cert.KvBwdRefIdeal.nD Cert.KvBwdRefIdeal.τ).loc Cert.KvBwdRefIdeal.main_arg3)) from rfl) ?_
      rw [a0, a2, a3]
      exact (Cert.KvBwdIdeal.Final.final4 m c).symm
    · refine Eq.trans (show _ = Cert.KvBwdRefIdeal.Terms.gradG (m' ((c.tc : Thread Cert.KvBwdRefIdeal.nD Cert.KvBwdRefIdeal.τ).loc Cert.KvBwdRefIdeal.main_arg0)) (m' ((c.tc : Thread Cert.KvBwdRefIdeal.nD Cert.KvBwdRefIdeal.τ).loc Cert.KvBwdRefIdeal.main_arg1)) (m' ((c.tc : Thread Cert.KvBwdRefIdeal.nD Cert.KvBwdRefIdeal.τ).loc Cert.KvBwdRefIdeal.main_arg2)) from rfl) ?_
      rw [a0, a1, a2]
      exact (Cert.KvBwdIdeal.Final.final5 m c).symm

end Cert.Claims.KvBwd

end
-- ==== Proof.AdamInEven.Reference.lean ====
module

public import proofs.«01_k».proof.Proof.Gen.AdamInEvenRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the reference computes: the gradient, summed over the parts that arrived, and the optimiser's update of the weight and of
its two moments. -/

namespace Cert.AdamInEvenRefIdeal.Terms

open Cert.AdamInEvenRefIdeal Cert.AdamInEvenRefIdeal.Gen Cert.AdamInEvenRefIdeal.Value

/-- A constant in every cell. -/
abbrev const (b : BitVec 32) : FVec Ideal S800x1024 .f32 := broadcastInDim S800x1024 ![] bcast_S_S800x1024 (constant S_ .f32 b)

/-- The gradient. -/
abbrev grad (parts : FVec Ideal S4x800x1024 .f32) : FVec Ideal S800x1024 .f32 :=
  Host.reduceAdd parts (constant S_ .f32 0x00000000#32) reducesTo_S4x800x1024_S800x1024_d0 h_S_

/-- The first moment. -/
abbrev mom (parts : FVec Ideal S4x800x1024 .f32) (m : FVec Ideal S800x1024 .f32) : FVec Ideal S800x1024 .f32 :=
  addf (mulf (const 0x3F666666#32) m) (mulf (const 0x3DCCCCCD#32) (grad parts))

/-- The second moment. -/
abbrev vel (parts : FVec Ideal S4x800x1024 .f32) (v : FVec Ideal S800x1024 .f32) : FVec Ideal S800x1024 .f32 :=
  addf (mulf (const 0x3F7FBE77#32) v) (mulf (const 0x3A83126F#32) (mulf (grad parts) (grad parts)))

/-- The weight's change. -/
abbrev delta (parts : FVec Ideal S4x800x1024 .f32) (w m v : FVec Ideal S800x1024 .f32) : FVec Ideal S800x1024 .f32 :=
  mulf (const 0xBA83126F#32) (addf (Host.divf (Host.divf (mom parts m) (const 0x3F26BD02#32))
    (addf (Host.sqrt (Host.divf (vel parts v) (const 0x3C231ACC#32))) (const 0x322BCC77#32))) (mulf (const 0x3C23D70A#32) w))

/-- The gradient at an index: the parts added one after another. -/
theorem grad_at (parts : FVec Ideal S4x800x1024 .f32) (j : S800x1024.Idx) :
    grad parts j = parts (ix3 0 (j 0) (j 1)) + parts (ix3 1 (j 0) (j 1)) + parts (ix3 2 (j 0) (j 1)) + parts (ix3 3 (j 0) (j 1)) := by
  pointwise [grad]
  rw [Fin.sum_univ_four]

end Cert.AdamInEvenRefIdeal.Terms
end
-- ==== Proof.AdamInEven.Final.lean ====
module

public import proofs.«01_k».proof.Proof.Gen.AdamInEvenIdeal.Value
public import proofs.«01_k».proof.Proof.AdamInEven.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the kernel's four result arrays hold: every point writes its own tile of 400 rows of each. -/

namespace Cert.AdamInEvenIdeal.Final

open Cert.AdamInEvenIdeal Cert.AdamInEvenIdeal.Gen

variable (m : (ℓ : Loc nD τ sig) → Buf (Elt Ideal) ℓ)

/-- Which block each window holds at a point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The gradient. -/
theorem final4 (c : Dev nD) : (dats m 0 c).arrAt 4 (cfgs 0).N = AdamInEvenRefIdeal.Terms.grad (m ((c : Thread nD τ).loc main_arg0)) := by
  refine (dats m 0 c).arrAt_eq_of_covers 4 _ (by decide +kernel) fun t _ y => ?_
  blk_simp
  rw [after0_4]; frame_out
  pointwise [k0_pay6, k0_pay5, k0_pay4, k0_pay3, k0_pay2, k0_pay1, AdamInEvenRefIdeal.Terms.delta, AdamInEvenRefIdeal.Terms.mom, AdamInEvenRefIdeal.Terms.vel, AdamInEvenRefIdeal.Terms.const, AdamInEvenRefIdeal.Terms.grad, Fin.sum_univ_four]
  blk_point [iblk, V, idx t]

/-- The first moment. -/
theorem final6 (c : Dev nD) : (dats m 0 c).arrAt 6 (cfgs 0).N = AdamInEvenRefIdeal.Terms.mom (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay6, k0_pay5, k0_pay4, k0_pay3, k0_pay2, k0_pay1, AdamInEvenRefIdeal.Terms.delta, AdamInEvenRefIdeal.Terms.mom, AdamInEvenRefIdeal.Terms.vel, AdamInEvenRefIdeal.Terms.const, AdamInEvenRefIdeal.Terms.grad, Fin.sum_univ_four]
  blk_point [iblk, V, idx t]

/-- The second moment. -/
theorem final7 (c : Dev nD) : (dats m 0 c).arrAt 7 (cfgs 0).N = AdamInEvenRefIdeal.Terms.vel (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay6, k0_pay5, k0_pay4, k0_pay3, k0_pay2, k0_pay1, AdamInEvenRefIdeal.Terms.delta, AdamInEvenRefIdeal.Terms.mom, AdamInEvenRefIdeal.Terms.vel, AdamInEvenRefIdeal.Terms.const, AdamInEvenRefIdeal.Terms.grad, Fin.sum_univ_four]
  blk_point [iblk, V, idx t]

/-- The change of the weight. -/
theorem final5 (c : Dev nD) : (dats m 0 c).arrAt 5 (cfgs 0).N = AdamInEvenRefIdeal.Terms.delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay6, k0_pay5, k0_pay4, k0_pay3, k0_pay2, k0_pay1, AdamInEvenRefIdeal.Terms.delta, AdamInEvenRefIdeal.Terms.mom, AdamInEvenRefIdeal.Terms.vel, AdamInEvenRefIdeal.Terms.const, AdamInEvenRefIdeal.Terms.grad, Fin.sum_univ_four]
  blk_point [iblk, V, idx t]

end Cert.AdamInEvenIdeal.Final
end
-- ==== Proof.AdamInEven.Claims.lean ====
module

public import proofs.«01_k».proof.Defs
public import proofs.«01_k».proof.Proof.Gen.AdamInEven.Frame
public import proofs.«01_k».proof.Proof.AdamInEven.Final
public import Idealize.ShloMosaic.Lib.Claim

/-! The five claims about the optimiser on the even layers' input projection. -/

@[expose] public section

set_option maxRecDepth 16384

noncomputable section

namespace Cert.Claims.AdamInEven

open Idealize.ShloMosaic Idealize.ShloMosaic.TcCoe Idealize.SL.Sem

theorem frame_kernel : Cert.quiescent_AdamInEven := fun m ρ _ => Cert.AdamInEven.Gen.frame m ρ

theorem frame_ideal : Cert.quiescent_AdamInEvenIdeal := fun m ρ _ => Cert.AdamInEvenIdeal.Gen.frame m ρ

theorem frame_reference : Cert.quiescent_AdamInEvenRefIdeal := fun m ρ _ =>
  (θ_run Cert.AdamInEvenRefIdeal.defs _ _).mono (fun r h => ⟨fun c => (h c).2.2.2.2, sem_eq_zero_of_no_sems (by decide) r.2⟩)
    (Cert.AdamInEvenRefIdeal.Value.run (F := Ideal) m ρ)

theorem preserves : Cert.preserves_AdamInEven_AdamInEvenIdeal := trivial

/-- The kernel's results are the reference's over the extended reals. -/
theorem algebraic : Cert.algebraic_AdamInEvenIdeal_AdamInEvenRefIdeal := by
  intro m g m' g' _ hagree
  refine ⟨fun c => (Cert.AdamInEvenIdeal.Gen.dats m 0 c).arrAt 4 (Cert.AdamInEvenIdeal.cfgs 0).N, fun c => (Cert.AdamInEvenIdeal.Gen.dats m 0 c).arrAt 5 (Cert.AdamInEvenIdeal.cfgs 0).N, fun c => (Cert.AdamInEvenIdeal.Gen.dats m 0 c).arrAt 6 (Cert.AdamInEvenIdeal.cfgs 0).N, fun c => (Cert.AdamInEvenIdeal.Gen.dats m 0 c).arrAt 7 (Cert.AdamInEvenIdeal.cfgs 0).N, ?_, ?_⟩
  · run_from Cert.AdamInEvenIdeal.Gen.run_main m g
  · refine (θ_run Cert.AdamInEvenRefIdeal.defs _ _).mono (fun r h c => ?_) (Cert.AdamInEvenRefIdeal.Value.run (F := Ideal) m' g')
    obtain ⟨h4, h5, h6, h7, hu⟩ := h c
    obtain ⟨a0, a1, a2, a3⟩ := hagree c
    refine ⟨h4.trans ?_, h5.trans ?_, h6.trans ?_, h7.trans ?_, hu⟩
    · refine Eq.trans (show _ = Cert.AdamInEvenRefIdeal.Terms.grad (m' ((c.tc : Thread Cert.AdamInEvenRefIdeal.nD Cert.AdamInEvenRefIdeal.τ).loc Cert.AdamInEvenRefIdeal.main_arg0)) from rfl) ?_
      rw [a0]
      exact (Cert.AdamInEvenIdeal.Final.final4 m c).symm
    · refine Eq.trans (show _ = Cert.AdamInEvenRefIdeal.Terms.delta (m' ((c.tc : Thread Cert.AdamInEvenRefIdeal.nD Cert.AdamInEvenRefIdeal.τ).loc Cert.AdamInEvenRefIdeal.main_arg0)) (m' ((c.tc : Thread Cert.AdamInEvenRefIdeal.nD Cert.AdamInEvenRefIdeal.τ).loc Cert.AdamInEvenRefIdeal.main_arg1)) (m' ((c.tc : Thread Cert.AdamInEvenRefIdeal.nD Cert.AdamInEvenRefIdeal.τ).loc Cert.AdamInEvenRefIdeal.main_arg2)) (m' ((c.tc : Thread Cert.AdamInEvenRefIdeal.nD Cert.AdamInEvenRefIdeal.τ).loc Cert.AdamInEvenRefIdeal.main_arg3)) from rfl) ?_
      rw [a0, a1, a2, a3]
      exact (Cert.AdamInEvenIdeal.Final.final5 m c).symm
    · refine Eq.trans (show _ = Cert.AdamInEvenRefIdeal.Terms.mom (m' ((c.tc : Thread Cert.AdamInEvenRefIdeal.nD Cert.AdamInEvenRefIdeal.τ).loc Cert.AdamInEvenRefIdeal.main_arg0)) (m' ((c.tc : Thread Cert.AdamInEvenRefIdeal.nD Cert.AdamInEvenRefIdeal.τ).loc Cert.AdamInEvenRefIdeal.main_arg2)) from rfl) ?_
      rw [a0, a2]
      exact (Cert.AdamInEvenIdeal.Final.final6 m c).symm
    · refine Eq.trans (show _ = Cert.AdamInEvenRefIdeal.Terms.vel (m' ((c.tc : Thread Cert.AdamInEvenRefIdeal.nD Cert.AdamInEvenRefIdeal.τ).loc Cert.AdamInEvenRefIdeal.main_arg0)) (m' ((c.tc : Thread Cert.AdamInEvenRefIdeal.nD Cert.AdamInEvenRefIdeal.τ).loc Cert.AdamInEvenRefIdeal.main_arg3)) from rfl) ?_
      rw [a0, a3]
      exact (Cert.AdamInEvenIdeal.Final.final7 m c).symm

end Cert.Claims.AdamInEven

end
-- ==== Proof.AdamInOdd.Reference.lean ====
module

public import proofs.«01_k».proof.Proof.Gen.AdamInOddRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the reference computes: the gradient, summed over the parts that arrived, and the optimiser's update of the weight and of
its two moments. -/

namespace Cert.AdamInOddRefIdeal.Terms

open Cert.AdamInOddRefIdeal Cert.AdamInOddRefIdeal.Gen Cert.AdamInOddRefIdeal.Value

/-- A constant in every cell. -/
abbrev const (b : BitVec 32) : FVec Ideal S608x1024 .f32 := broadcastInDim S608x1024 ![] bcast_S_S608x1024 (constant S_ .f32 b)

/-- The gradient. -/
abbrev grad (parts : FVec Ideal S8x608x1024 .f32) : FVec Ideal S608x1024 .f32 :=
  Host.reduceAdd parts (constant S_ .f32 0x00000000#32) reducesTo_S8x608x1024_S608x1024_d0 h_S_

/-- The first moment. -/
abbrev mom (parts : FVec Ideal S8x608x1024 .f32) (m : FVec Ideal S608x1024 .f32) : FVec Ideal S608x1024 .f32 :=
  addf (mulf (const 0x3F666666#32) m) (mulf (const 0x3DCCCCCD#32) (grad parts))

/-- The second moment. -/
abbrev vel (parts : FVec Ideal S8x608x1024 .f32) (v : FVec Ideal S608x1024 .f32) : FVec Ideal S608x1024 .f32 :=
  addf (mulf (const 0x3F7FBE77#32) v) (mulf (const 0x3A83126F#32) (mulf (grad parts) (grad parts)))

/-- The weight's change. -/
abbrev delta (parts : FVec Ideal S8x608x1024 .f32) (w m v : FVec Ideal S608x1024 .f32) : FVec Ideal S608x1024 .f32 :=
  mulf (const 0xBA83126F#32) (addf (Host.divf (Host.divf (mom parts m) (const 0x3F26BD02#32))
    (addf (Host.sqrt (Host.divf (vel parts v) (const 0x3C231ACC#32))) (const 0x322BCC77#32))) (mulf (const 0x3C23D70A#32) w))

/-- The gradient at an index: the parts added one after another. -/
theorem grad_at (parts : FVec Ideal S8x608x1024 .f32) (j : S608x1024.Idx) :
    grad parts j = parts (ix3 0 (j 0) (j 1)) + parts (ix3 1 (j 0) (j 1)) + parts (ix3 2 (j 0) (j 1)) + parts (ix3 3 (j 0) (j 1)) + parts (ix3 4 (j 0) (j 1)) + parts (ix3 5 (j 0) (j 1)) + parts (ix3 6 (j 0) (j 1)) + parts (ix3 7 (j 0) (j 1)) := by
  pointwise [grad]
  rw [Fin.sum_univ_eight]

end Cert.AdamInOddRefIdeal.Terms
end
-- ==== Proof.AdamInOdd.Final.lean ====
module

public import proofs.«01_k».proof.Proof.Gen.AdamInOddIdeal.Value
public import proofs.«01_k».proof.Proof.AdamInOdd.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the kernel's four result arrays hold: every point writes its own tile of 304 rows of each. -/

namespace Cert.AdamInOddIdeal.Final

open Cert.AdamInOddIdeal Cert.AdamInOddIdeal.Gen

variable (m : (ℓ : Loc nD τ sig) → Buf (Elt Ideal) ℓ)

/-- Which block each window holds at a point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The gradient. -/
theorem final4 (c : Dev nD) : (dats m 0 c).arrAt 4 (cfgs 0).N = AdamInOddRefIdeal.Terms.grad (m ((c : Thread nD τ).loc main_arg0)) := by
  refine (dats m 0 c).arrAt_eq_of_covers 4 _ (by decide +kernel) fun t _ y => ?_
  blk_simp
  rw [after0_4]; frame_out
  pointwise [k0_pay5, k0_pay4, k0_pay3, k0_pay2, k0_pay1, AdamInOddRefIdeal.Terms.delta, AdamInOddRefIdeal.Terms.mom, AdamInOddRefIdeal.Terms.vel, AdamInOddRefIdeal.Terms.const, AdamInOddRefIdeal.Terms.grad, Fin.sum_univ_eight]
  blk_point [iblk, V, idx t]

/-- The first moment. -/
theorem final6 (c : Dev nD) : (dats m 0 c).arrAt 6 (cfgs 0).N = AdamInOddRefIdeal.Terms.mom (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay5, k0_pay4, k0_pay3, k0_pay2, k0_pay1, AdamInOddRefIdeal.Terms.delta, AdamInOddRefIdeal.Terms.mom, AdamInOddRefIdeal.Terms.vel, AdamInOddRefIdeal.Terms.const, AdamInOddRefIdeal.Terms.grad, Fin.sum_univ_eight]
  blk_point [iblk, V, idx t]

/-- The second moment. -/
theorem final7 (c : Dev nD) : (dats m 0 c).arrAt 7 (cfgs 0).N = AdamInOddRefIdeal.Terms.vel (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay5, k0_pay4, k0_pay3, k0_pay2, k0_pay1, AdamInOddRefIdeal.Terms.delta, AdamInOddRefIdeal.Terms.mom, AdamInOddRefIdeal.Terms.vel, AdamInOddRefIdeal.Terms.const, AdamInOddRefIdeal.Terms.grad, Fin.sum_univ_eight]
  blk_point [iblk, V, idx t]

/-- The change of the weight. -/
theorem final5 (c : Dev nD) : (dats m 0 c).arrAt 5 (cfgs 0).N = AdamInOddRefIdeal.Terms.delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay5, k0_pay4, k0_pay3, k0_pay2, k0_pay1, AdamInOddRefIdeal.Terms.delta, AdamInOddRefIdeal.Terms.mom, AdamInOddRefIdeal.Terms.vel, AdamInOddRefIdeal.Terms.const, AdamInOddRefIdeal.Terms.grad, Fin.sum_univ_eight]
  blk_point [iblk, V, idx t]

end Cert.AdamInOddIdeal.Final
end
-- ==== Proof.AdamInOdd.Claims.lean ====
module

public import proofs.«01_k».proof.Defs
public import proofs.«01_k».proof.Proof.Gen.AdamInOdd.Frame
public import proofs.«01_k».proof.Proof.AdamInOdd.Final
public import Idealize.ShloMosaic.Lib.Claim

/-! The five claims about the optimiser on the odd layers' input projection. -/

@[expose] public section

set_option maxRecDepth 16384

noncomputable section

namespace Cert.Claims.AdamInOdd

open Idealize.ShloMosaic Idealize.ShloMosaic.TcCoe Idealize.SL.Sem

theorem frame_kernel : Cert.quiescent_AdamInOdd := fun m ρ _ => Cert.AdamInOdd.Gen.frame m ρ

theorem frame_ideal : Cert.quiescent_AdamInOddIdeal := fun m ρ _ => Cert.AdamInOddIdeal.Gen.frame m ρ

theorem frame_reference : Cert.quiescent_AdamInOddRefIdeal := fun m ρ _ =>
  (θ_run Cert.AdamInOddRefIdeal.defs _ _).mono (fun r h => ⟨fun c => (h c).2.2.2.2, sem_eq_zero_of_no_sems (by decide) r.2⟩)
    (Cert.AdamInOddRefIdeal.Value.run (F := Ideal) m ρ)

theorem preserves : Cert.preserves_AdamInOdd_AdamInOddIdeal := trivial

/-- The kernel's results are the reference's over the extended reals. -/
theorem algebraic : Cert.algebraic_AdamInOddIdeal_AdamInOddRefIdeal := by
  intro m g m' g' _ hagree
  refine ⟨fun c => (Cert.AdamInOddIdeal.Gen.dats m 0 c).arrAt 4 (Cert.AdamInOddIdeal.cfgs 0).N, fun c => (Cert.AdamInOddIdeal.Gen.dats m 0 c).arrAt 5 (Cert.AdamInOddIdeal.cfgs 0).N, fun c => (Cert.AdamInOddIdeal.Gen.dats m 0 c).arrAt 6 (Cert.AdamInOddIdeal.cfgs 0).N, fun c => (Cert.AdamInOddIdeal.Gen.dats m 0 c).arrAt 7 (Cert.AdamInOddIdeal.cfgs 0).N, ?_, ?_⟩
  · run_from Cert.AdamInOddIdeal.Gen.run_main m g
  · refine (θ_run Cert.AdamInOddRefIdeal.defs _ _).mono (fun r h c => ?_) (Cert.AdamInOddRefIdeal.Value.run (F := Ideal) m' g')
    obtain ⟨h4, h5, h6, h7, hu⟩ := h c
    obtain ⟨a0, a1, a2, a3⟩ := hagree c
    refine ⟨h4.trans ?_, h5.trans ?_, h6.trans ?_, h7.trans ?_, hu⟩
    · refine Eq.trans (show _ = Cert.AdamInOddRefIdeal.Terms.grad (m' ((c.tc : Thread Cert.AdamInOddRefIdeal.nD Cert.AdamInOddRefIdeal.τ).loc Cert.AdamInOddRefIdeal.main_arg0)) from rfl) ?_
      rw [a0]
      exact (Cert.AdamInOddIdeal.Final.final4 m c).symm
    · refine Eq.trans (show _ = Cert.AdamInOddRefIdeal.Terms.delta (m' ((c.tc : Thread Cert.AdamInOddRefIdeal.nD Cert.AdamInOddRefIdeal.τ).loc Cert.AdamInOddRefIdeal.main_arg0)) (m' ((c.tc : Thread Cert.AdamInOddRefIdeal.nD Cert.AdamInOddRefIdeal.τ).loc Cert.AdamInOddRefIdeal.main_arg1)) (m' ((c.tc : Thread Cert.AdamInOddRefIdeal.nD Cert.AdamInOddRefIdeal.τ).loc Cert.AdamInOddRefIdeal.main_arg2)) (m' ((c.tc : Thread Cert.AdamInOddRefIdeal.nD Cert.AdamInOddRefIdeal.τ).loc Cert.AdamInOddRefIdeal.main_arg3)) from rfl) ?_
      rw [a0, a1, a2, a3]
      exact (Cert.AdamInOddIdeal.Final.final5 m c).symm
    · refine Eq.trans (show _ = Cert.AdamInOddRefIdeal.Terms.mom (m' ((c.tc : Thread Cert.AdamInOddRefIdeal.nD Cert.AdamInOddRefIdeal.τ).loc Cert.AdamInOddRefIdeal.main_arg0)) (m' ((c.tc : Thread Cert.AdamInOddRefIdeal.nD Cert.AdamInOddRefIdeal.τ).loc Cert.AdamInOddRefIdeal.main_arg2)) from rfl) ?_
      rw [a0, a2]
      exact (Cert.AdamInOddIdeal.Final.final6 m c).symm
    · refine Eq.trans (show _ = Cert.AdamInOddRefIdeal.Terms.vel (m' ((c.tc : Thread Cert.AdamInOddRefIdeal.nD Cert.AdamInOddRefIdeal.τ).loc Cert.AdamInOddRefIdeal.main_arg0)) (m' ((c.tc : Thread Cert.AdamInOddRefIdeal.nD Cert.AdamInOddRefIdeal.τ).loc Cert.AdamInOddRefIdeal.main_arg3)) from rfl) ?_
      rw [a0, a3]
      exact (Cert.AdamInOddIdeal.Final.final7 m c).symm

end Cert.Claims.AdamInOdd

end
-- ==== Proof.AdamKv.Reference.lean ====
module

public import proofs.«01_k».proof.Proof.Gen.AdamKvRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the reference computes: the gradient, summed over the parts that arrived, and the optimiser's update of the weight and of
its two moments. -/

namespace Cert.AdamKvRefIdeal.Terms

open Cert.AdamKvRefIdeal Cert.AdamKvRefIdeal.Gen Cert.AdamKvRefIdeal.Value

/-- A constant in every cell. -/
abbrev const (b : BitVec 32) : FVec Ideal S128x1024 .f32 := broadcastInDim S128x1024 ![] bcast_S_S128x1024 (constant S_ .f32 b)

/-- The gradient. -/
abbrev grad (parts : FVec Ideal S8x128x1024 .f32) : FVec Ideal S128x1024 .f32 :=
  Host.reduceAdd parts (constant S_ .f32 0x00000000#32) reducesTo_S8x128x1024_S128x1024_d0 h_S_

/-- The first moment. -/
abbrev mom (parts : FVec Ideal S8x128x1024 .f32) (m : FVec Ideal S128x1024 .f32) : FVec Ideal S128x1024 .f32 :=
  addf (mulf (const 0x3F666666#32) m) (mulf (const 0x3DCCCCCD#32) (grad parts))

/-- The second moment. -/
abbrev vel (parts : FVec Ideal S8x128x1024 .f32) (v : FVec Ideal S128x1024 .f32) : FVec Ideal S128x1024 .f32 :=
  addf (mulf (const 0x3F7FBE77#32) v) (mulf (const 0x3A83126F#32) (mulf (grad parts) (grad parts)))

/-- The weight's change. -/
abbrev delta (parts : FVec Ideal S8x128x1024 .f32) (w m v : FVec Ideal S128x1024 .f32) : FVec Ideal S128x1024 .f32 :=
  mulf (const 0xBA83126F#32) (addf (Host.divf (Host.divf (mom parts m) (const 0x3F26BD02#32))
    (addf (Host.sqrt (Host.divf (vel parts v) (const 0x3C231ACC#32))) (const 0x322BCC77#32))) (mulf (const 0x3C23D70A#32) w))

/-- The gradient at an index: the parts added one after another. -/
theorem grad_at (parts : FVec Ideal S8x128x1024 .f32) (j : S128x1024.Idx) :
    grad parts j = parts (ix3 0 (j 0) (j 1)) + parts (ix3 1 (j 0) (j 1)) + parts (ix3 2 (j 0) (j 1)) + parts (ix3 3 (j 0) (j 1)) + parts (ix3 4 (j 0) (j 1)) + parts (ix3 5 (j 0) (j 1)) + parts (ix3 6 (j 0) (j 1)) + parts (ix3 7 (j 0) (j 1)) := by
  pointwise [grad]
  rw [Fin.sum_univ_eight]

end Cert.AdamKvRefIdeal.Terms
end
-- ==== Proof.AdamKv.Final.lean ====
module

public import proofs.«01_k».proof.Proof.Gen.AdamKvIdeal.Value
public import proofs.«01_k».proof.Proof.AdamKv.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the kernel's four result arrays hold: every point writes its own tile of 128 rows of each. -/

namespace Cert.AdamKvIdeal.Final

open Cert.AdamKvIdeal Cert.AdamKvIdeal.Gen

variable (m : (ℓ : Loc nD τ sig) → Buf (Elt Ideal) ℓ)

/-- Which block each window holds at a point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The gradient. -/
theorem final4 (c : Dev nD) : (dats m 0 c).arrAt 4 (cfgs 0).N = AdamKvRefIdeal.Terms.grad (m ((c : Thread nD τ).loc main_arg0)) := by
  refine (dats m 0 c).arrAt_eq_of_covers 4 _ (by decide +kernel) fun t _ y => ?_
  blk_simp
  rw [after0_4]; frame_out
  pointwise [k0_pay5, k0_pay4, k0_pay3, k0_pay2, k0_pay1, AdamKvRefIdeal.Terms.delta, AdamKvRefIdeal.Terms.mom, AdamKvRefIdeal.Terms.vel, AdamKvRefIdeal.Terms.const, AdamKvRefIdeal.Terms.grad, Fin.sum_univ_eight]
  blk_point [iblk, V, idx t]

/-- The first moment. -/
theorem final6 (c : Dev nD) : (dats m 0 c).arrAt 6 (cfgs 0).N = AdamKvRefIdeal.Terms.mom (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay5, k0_pay4, k0_pay3, k0_pay2, k0_pay1, AdamKvRefIdeal.Terms.delta, AdamKvRefIdeal.Terms.mom, AdamKvRefIdeal.Terms.vel, AdamKvRefIdeal.Terms.const, AdamKvRefIdeal.Terms.grad, Fin.sum_univ_eight]
  blk_point [iblk, V, idx t]

/-- The second moment. -/
theorem final7 (c : Dev nD) : (dats m 0 c).arrAt 7 (cfgs 0).N = AdamKvRefIdeal.Terms.vel (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay5, k0_pay4, k0_pay3, k0_pay2, k0_pay1, AdamKvRefIdeal.Terms.delta, AdamKvRefIdeal.Terms.mom, AdamKvRefIdeal.Terms.vel, AdamKvRefIdeal.Terms.const, AdamKvRefIdeal.Terms.grad, Fin.sum_univ_eight]
  blk_point [iblk, V, idx t]

/-- The change of the weight. -/
theorem final5 (c : Dev nD) : (dats m 0 c).arrAt 5 (cfgs 0).N = AdamKvRefIdeal.Terms.delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay5, k0_pay4, k0_pay3, k0_pay2, k0_pay1, AdamKvRefIdeal.Terms.delta, AdamKvRefIdeal.Terms.mom, AdamKvRefIdeal.Terms.vel, AdamKvRefIdeal.Terms.const, AdamKvRefIdeal.Terms.grad, Fin.sum_univ_eight]
  blk_point [iblk, V, idx t]

end Cert.AdamKvIdeal.Final
end
-- ==== Proof.AdamKv.Claims.lean ====
module

public import proofs.«01_k».proof.Defs
public import proofs.«01_k».proof.Proof.Gen.AdamKv.Frame
public import proofs.«01_k».proof.Proof.AdamKv.Final
public import Idealize.ShloMosaic.Lib.Claim

/-! The five claims about the optimiser on a keys-and-values projection. -/

@[expose] public section

set_option maxRecDepth 16384

noncomputable section

namespace Cert.Claims.AdamKv

open Idealize.ShloMosaic Idealize.ShloMosaic.TcCoe Idealize.SL.Sem

theorem frame_kernel : Cert.quiescent_AdamKv := fun m ρ _ => Cert.AdamKv.Gen.frame m ρ

theorem frame_ideal : Cert.quiescent_AdamKvIdeal := fun m ρ _ => Cert.AdamKvIdeal.Gen.frame m ρ

theorem frame_reference : Cert.quiescent_AdamKvRefIdeal := fun m ρ _ =>
  (θ_run Cert.AdamKvRefIdeal.defs _ _).mono (fun r h => ⟨fun c => (h c).2.2.2.2, sem_eq_zero_of_no_sems (by decide) r.2⟩)
    (Cert.AdamKvRefIdeal.Value.run (F := Ideal) m ρ)

theorem preserves : Cert.preserves_AdamKv_AdamKvIdeal := trivial

/-- The kernel's results are the reference's over the extended reals. -/
theorem algebraic : Cert.algebraic_AdamKvIdeal_AdamKvRefIdeal := by
  intro m g m' g' _ hagree
  refine ⟨fun c => (Cert.AdamKvIdeal.Gen.dats m 0 c).arrAt 4 (Cert.AdamKvIdeal.cfgs 0).N, fun c => (Cert.AdamKvIdeal.Gen.dats m 0 c).arrAt 5 (Cert.AdamKvIdeal.cfgs 0).N, fun c => (Cert.AdamKvIdeal.Gen.dats m 0 c).arrAt 6 (Cert.AdamKvIdeal.cfgs 0).N, fun c => (Cert.AdamKvIdeal.Gen.dats m 0 c).arrAt 7 (Cert.AdamKvIdeal.cfgs 0).N, ?_, ?_⟩
  · run_from Cert.AdamKvIdeal.Gen.run_main m g
  · refine (θ_run Cert.AdamKvRefIdeal.defs _ _).mono (fun r h c => ?_) (Cert.AdamKvRefIdeal.Value.run (F := Ideal) m' g')
    obtain ⟨h4, h5, h6, h7, hu⟩ := h c
    obtain ⟨a0, a1, a2, a3⟩ := hagree c
    refine ⟨h4.trans ?_, h5.trans ?_, h6.trans ?_, h7.trans ?_, hu⟩
    · refine Eq.trans (show _ = Cert.AdamKvRefIdeal.Terms.grad (m' ((c.tc : Thread Cert.AdamKvRefIdeal.nD Cert.AdamKvRefIdeal.τ).loc Cert.AdamKvRefIdeal.main_arg0)) from rfl) ?_
      rw [a0]
      exact (Cert.AdamKvIdeal.Final.final4 m c).symm
    · refine Eq.trans (show _ = Cert.AdamKvRefIdeal.Terms.delta (m' ((c.tc : Thread Cert.AdamKvRefIdeal.nD Cert.AdamKvRefIdeal.τ).loc Cert.AdamKvRefIdeal.main_arg0)) (m' ((c.tc : Thread Cert.AdamKvRefIdeal.nD Cert.AdamKvRefIdeal.τ).loc Cert.AdamKvRefIdeal.main_arg1)) (m' ((c.tc : Thread Cert.AdamKvRefIdeal.nD Cert.AdamKvRefIdeal.τ).loc Cert.AdamKvRefIdeal.main_arg2)) (m' ((c.tc : Thread Cert.AdamKvRefIdeal.nD Cert.AdamKvRefIdeal.τ).loc Cert.AdamKvRefIdeal.main_arg3)) from rfl) ?_
      rw [a0, a1, a2, a3]
      exact (Cert.AdamKvIdeal.Final.final5 m c).symm
    · refine Eq.trans (show _ = Cert.AdamKvRefIdeal.Terms.mom (m' ((c.tc : Thread Cert.AdamKvRefIdeal.nD Cert.AdamKvRefIdeal.τ).loc Cert.AdamKvRefIdeal.main_arg0)) (m' ((c.tc : Thread Cert.AdamKvRefIdeal.nD Cert.AdamKvRefIdeal.τ).loc Cert.AdamKvRefIdeal.main_arg2)) from rfl) ?_
      rw [a0, a2]
      exact (Cert.AdamKvIdeal.Final.final6 m c).symm
    · refine Eq.trans (show _ = Cert.AdamKvRefIdeal.Terms.vel (m' ((c.tc : Thread Cert.AdamKvRefIdeal.nD Cert.AdamKvRefIdeal.τ).loc Cert.AdamKvRefIdeal.main_arg0)) (m' ((c.tc : Thread Cert.AdamKvRefIdeal.nD Cert.AdamKvRefIdeal.τ).loc Cert.AdamKvRefIdeal.main_arg3)) from rfl) ?_
      rw [a0, a3]
      exact (Cert.AdamKvIdeal.Final.final7 m c).symm

end Cert.Claims.AdamKv

end
-- ==== Proof.AdamOut.Reference.lean ====
module

public import proofs.«01_k».proof.Proof.Gen.AdamOutRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the reference computes: the gradient, summed over the parts that arrived, and the optimiser's update of the weight and of
its two moments. -/

namespace Cert.AdamOutRefIdeal.Terms

open Cert.AdamOutRefIdeal Cert.AdamOutRefIdeal.Gen Cert.AdamOutRefIdeal.Value

/-- A constant in every cell. -/
abbrev const (b : BitVec 32) : FVec Ideal S256x1024 .f32 := broadcastInDim S256x1024 ![] bcast_S_S256x1024 (constant S_ .f32 b)

/-- The gradient. -/
abbrev grad (parts : FVec Ideal S8x256x1024 .f32) : FVec Ideal S256x1024 .f32 :=
  Host.reduceAdd parts (constant S_ .f32 0x00000000#32) reducesTo_S8x256x1024_S256x1024_d0 h_S_

/-- The first moment. -/
abbrev mom (parts : FVec Ideal S8x256x1024 .f32) (m : FVec Ideal S256x1024 .f32) : FVec Ideal S256x1024 .f32 :=
  addf (mulf (const 0x3F666666#32) m) (mulf (const 0x3DCCCCCD#32) (grad parts))

/-- The second moment. -/
abbrev vel (parts : FVec Ideal S8x256x1024 .f32) (v : FVec Ideal S256x1024 .f32) : FVec Ideal S256x1024 .f32 :=
  addf (mulf (const 0x3F7FBE77#32) v) (mulf (const 0x3A83126F#32) (mulf (grad parts) (grad parts)))

/-- The weight's change. -/
abbrev delta (parts : FVec Ideal S8x256x1024 .f32) (w m v : FVec Ideal S256x1024 .f32) : FVec Ideal S256x1024 .f32 :=
  mulf (const 0xBA83126F#32) (addf (Host.divf (Host.divf (mom parts m) (const 0x3F26BD02#32))
    (addf (Host.sqrt (Host.divf (vel parts v) (const 0x3C231ACC#32))) (const 0x322BCC77#32))) (mulf (const 0x3C23D70A#32) w))

/-- The gradient at an index: the parts added one after another. -/
theorem grad_at (parts : FVec Ideal S8x256x1024 .f32) (j : S256x1024.Idx) :
    grad parts j = parts (ix3 0 (j 0) (j 1)) + parts (ix3 1 (j 0) (j 1)) + parts (ix3 2 (j 0) (j 1)) + parts (ix3 3 (j 0) (j 1)) + parts (ix3 4 (j 0) (j 1)) + parts (ix3 5 (j 0) (j 1)) + parts (ix3 6 (j 0) (j 1)) + parts (ix3 7 (j 0) (j 1)) := by
  pointwise [grad]
  rw [Fin.sum_univ_eight]

end Cert.AdamOutRefIdeal.Terms
end
-- ==== Proof.AdamOut.Final.lean ====
module

public import proofs.«01_k».proof.Proof.Gen.AdamOutIdeal.Value
public import proofs.«01_k».proof.Proof.AdamOut.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the kernel's four result arrays hold: every point writes its own tile of 128 rows of each. -/

namespace Cert.AdamOutIdeal.Final

open Cert.AdamOutIdeal Cert.AdamOutIdeal.Gen

variable (m : (ℓ : Loc nD τ sig) → Buf (Elt Ideal) ℓ)

/-- Which block each window holds at a point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The gradient. -/
theorem final4 (c : Dev nD) : (dats m 0 c).arrAt 4 (cfgs 0).N = AdamOutRefIdeal.Terms.grad (m ((c : Thread nD τ).loc main_arg0)) := by
  refine (dats m 0 c).arrAt_eq_of_covers 4 _ (by decide +kernel) fun t _ y => ?_
  blk_simp
  rw [after0_4]; frame_out
  pointwise [k0_pay5, k0_pay4, k0_pay3, k0_pay2, k0_pay1, AdamOutRefIdeal.Terms.delta, AdamOutRefIdeal.Terms.mom, AdamOutRefIdeal.Terms.vel, AdamOutRefIdeal.Terms.const, AdamOutRefIdeal.Terms.grad, Fin.sum_univ_eight]
  blk_point [iblk, V, idx t]

/-- The first moment. -/
theorem final6 (c : Dev nD) : (dats m 0 c).arrAt 6 (cfgs 0).N = AdamOutRefIdeal.Terms.mom (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay5, k0_pay4, k0_pay3, k0_pay2, k0_pay1, AdamOutRefIdeal.Terms.delta, AdamOutRefIdeal.Terms.mom, AdamOutRefIdeal.Terms.vel, AdamOutRefIdeal.Terms.const, AdamOutRefIdeal.Terms.grad, Fin.sum_univ_eight]
  blk_point [iblk, V, idx t]

/-- The second moment. -/
theorem final7 (c : Dev nD) : (dats m 0 c).arrAt 7 (cfgs 0).N = AdamOutRefIdeal.Terms.vel (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay5, k0_pay4, k0_pay3, k0_pay2, k0_pay1, AdamOutRefIdeal.Terms.delta, AdamOutRefIdeal.Terms.mom, AdamOutRefIdeal.Terms.vel, AdamOutRefIdeal.Terms.const, AdamOutRefIdeal.Terms.grad, Fin.sum_univ_eight]
  blk_point [iblk, V, idx t]

/-- The change of the weight. -/
theorem final5 (c : Dev nD) : (dats m 0 c).arrAt 5 (cfgs 0).N = AdamOutRefIdeal.Terms.delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay5, k0_pay4, k0_pay3, k0_pay2, k0_pay1, AdamOutRefIdeal.Terms.delta, AdamOutRefIdeal.Terms.mom, AdamOutRefIdeal.Terms.vel, AdamOutRefIdeal.Terms.const, AdamOutRefIdeal.Terms.grad, Fin.sum_univ_eight]
  blk_point [iblk, V, idx t]

end Cert.AdamOutIdeal.Final
end
-- ==== Proof.AdamOut.Claims.lean ====
module

public import proofs.«01_k».proof.Defs
public import proofs.«01_k».proof.Proof.Gen.AdamOut.Frame
public import proofs.«01_k».proof.Proof.AdamOut.Final
public import Idealize.ShloMosaic.Lib.Claim

/-! The five claims about the optimiser on an output projection. -/

@[expose] public section

set_option maxRecDepth 16384

noncomputable section

namespace Cert.Claims.AdamOut

open Idealize.ShloMosaic Idealize.ShloMosaic.TcCoe Idealize.SL.Sem

theorem frame_kernel : Cert.quiescent_AdamOut := fun m ρ _ => Cert.AdamOut.Gen.frame m ρ

theorem frame_ideal : Cert.quiescent_AdamOutIdeal := fun m ρ _ => Cert.AdamOutIdeal.Gen.frame m ρ

theorem frame_reference : Cert.quiescent_AdamOutRefIdeal := fun m ρ _ =>
  (θ_run Cert.AdamOutRefIdeal.defs _ _).mono (fun r h => ⟨fun c => (h c).2.2.2.2, sem_eq_zero_of_no_sems (by decide) r.2⟩)
    (Cert.AdamOutRefIdeal.Value.run (F := Ideal) m ρ)

theorem preserves : Cert.preserves_AdamOut_AdamOutIdeal := trivial

/-- The kernel's results are the reference's over the extended reals. -/
theorem algebraic : Cert.algebraic_AdamOutIdeal_AdamOutRefIdeal := by
  intro m g m' g' _ hagree
  refine ⟨fun c => (Cert.AdamOutIdeal.Gen.dats m 0 c).arrAt 4 (Cert.AdamOutIdeal.cfgs 0).N, fun c => (Cert.AdamOutIdeal.Gen.dats m 0 c).arrAt 5 (Cert.AdamOutIdeal.cfgs 0).N, fun c => (Cert.AdamOutIdeal.Gen.dats m 0 c).arrAt 6 (Cert.AdamOutIdeal.cfgs 0).N, fun c => (Cert.AdamOutIdeal.Gen.dats m 0 c).arrAt 7 (Cert.AdamOutIdeal.cfgs 0).N, ?_, ?_⟩
  · run_from Cert.AdamOutIdeal.Gen.run_main m g
  · refine (θ_run Cert.AdamOutRefIdeal.defs _ _).mono (fun r h c => ?_) (Cert.AdamOutRefIdeal.Value.run (F := Ideal) m' g')
    obtain ⟨h4, h5, h6, h7, hu⟩ := h c
    obtain ⟨a0, a1, a2, a3⟩ := hagree c
    refine ⟨h4.trans ?_, h5.trans ?_, h6.trans ?_, h7.trans ?_, hu⟩
    · refine Eq.trans (show _ = Cert.AdamOutRefIdeal.Terms.grad (m' ((c.tc : Thread Cert.AdamOutRefIdeal.nD Cert.AdamOutRefIdeal.τ).loc Cert.AdamOutRefIdeal.main_arg0)) from rfl) ?_
      rw [a0]
      exact (Cert.AdamOutIdeal.Final.final4 m c).symm
    · refine Eq.trans (show _ = Cert.AdamOutRefIdeal.Terms.delta (m' ((c.tc : Thread Cert.AdamOutRefIdeal.nD Cert.AdamOutRefIdeal.τ).loc Cert.AdamOutRefIdeal.main_arg0)) (m' ((c.tc : Thread Cert.AdamOutRefIdeal.nD Cert.AdamOutRefIdeal.τ).loc Cert.AdamOutRefIdeal.main_arg1)) (m' ((c.tc : Thread Cert.AdamOutRefIdeal.nD Cert.AdamOutRefIdeal.τ).loc Cert.AdamOutRefIdeal.main_arg2)) (m' ((c.tc : Thread Cert.AdamOutRefIdeal.nD Cert.AdamOutRefIdeal.τ).loc Cert.AdamOutRefIdeal.main_arg3)) from rfl) ?_
      rw [a0, a1, a2, a3]
      exact (Cert.AdamOutIdeal.Final.final5 m c).symm
    · refine Eq.trans (show _ = Cert.AdamOutRefIdeal.Terms.mom (m' ((c.tc : Thread Cert.AdamOutRefIdeal.nD Cert.AdamOutRefIdeal.τ).loc Cert.AdamOutRefIdeal.main_arg0)) (m' ((c.tc : Thread Cert.AdamOutRefIdeal.nD Cert.AdamOutRefIdeal.τ).loc Cert.AdamOutRefIdeal.main_arg2)) from rfl) ?_
      rw [a0, a2]
      exact (Cert.AdamOutIdeal.Final.final6 m c).symm
    · refine Eq.trans (show _ = Cert.AdamOutRefIdeal.Terms.vel (m' ((c.tc : Thread Cert.AdamOutRefIdeal.nD Cert.AdamOutRefIdeal.τ).loc Cert.AdamOutRefIdeal.main_arg0)) (m' ((c.tc : Thread Cert.AdamOutRefIdeal.nD Cert.AdamOutRefIdeal.τ).loc Cert.AdamOutRefIdeal.main_arg3)) from rfl) ?_
      rw [a0, a3]
      exact (Cert.AdamOutIdeal.Final.final7 m c).symm

end Cert.Claims.AdamOut

end
-- ==== Proof.AdamPw.Reference.lean ====
module

public import proofs.«01_k».proof.Proof.Gen.AdamPwRefIdeal.Run
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the reference computes: the gradient, summed over the parts that arrived, and the optimiser's update of the weight and of
its two moments. -/

namespace Cert.AdamPwRefIdeal.Terms

open Cert.AdamPwRefIdeal Cert.AdamPwRefIdeal.Gen Cert.AdamPwRefIdeal.Value

/-- A constant in every cell. -/
abbrev const (b : BitVec 32) : FVec Ideal S96x768 .f32 := broadcastInDim S96x768 ![] bcast_S_S96x768 (constant S_ .f32 b)

/-- The gradient. -/
abbrev grad (parts : FVec Ideal S8x96x768 .f32) : FVec Ideal S96x768 .f32 :=
  Host.reduceAdd parts (constant S_ .f32 0x00000000#32) reducesTo_S8x96x768_S96x768_d0 h_S_

/-- The first moment. -/
abbrev mom (parts : FVec Ideal S8x96x768 .f32) (m : FVec Ideal S96x768 .f32) : FVec Ideal S96x768 .f32 :=
  addf (mulf (const 0x3F666666#32) m) (mulf (const 0x3DCCCCCD#32) (grad parts))

/-- The second moment. -/
abbrev vel (parts : FVec Ideal S8x96x768 .f32) (v : FVec Ideal S96x768 .f32) : FVec Ideal S96x768 .f32 :=
  addf (mulf (const 0x3F7FBE77#32) v) (mulf (const 0x3A83126F#32) (mulf (grad parts) (grad parts)))

/-- The weight's change. -/
abbrev delta (parts : FVec Ideal S8x96x768 .f32) (w m v : FVec Ideal S96x768 .f32) : FVec Ideal S96x768 .f32 :=
  mulf (const 0xBA83126F#32) (addf (Host.divf (Host.divf (mom parts m) (const 0x3F26BD02#32))
    (addf (Host.sqrt (Host.divf (vel parts v) (const 0x3C231ACC#32))) (const 0x322BCC77#32))) (mulf (const 0x3C23D70A#32) w))

/-- The gradient at an index: the parts added one after another. -/
theorem grad_at (parts : FVec Ideal S8x96x768 .f32) (j : S96x768.Idx) :
    grad parts j = parts (ix3 0 (j 0) (j 1)) + parts (ix3 1 (j 0) (j 1)) + parts (ix3 2 (j 0) (j 1)) + parts (ix3 3 (j 0) (j 1)) + parts (ix3 4 (j 0) (j 1)) + parts (ix3 5 (j 0) (j 1)) + parts (ix3 6 (j 0) (j 1)) + parts (ix3 7 (j 0) (j 1)) := by
  pointwise [grad]
  rw [Fin.sum_univ_eight]

end Cert.AdamPwRefIdeal.Terms
end
-- ==== Proof.AdamPw.Final.lean ====
module

public import proofs.«01_k».proof.Proof.Gen.AdamPwIdeal.Value
public import proofs.«01_k».proof.Proof.AdamPw.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the kernel's four result arrays hold: every point writes its own tile of 96 rows of each. -/

namespace Cert.AdamPwIdeal.Final

open Cert.AdamPwIdeal Cert.AdamPwIdeal.Gen

variable (m : (ℓ : Loc nD τ sig) → Buf (Elt Ideal) ℓ)

/-- Which block each window holds at a point. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The gradient. -/
theorem final4 (c : Dev nD) : (dats m 0 c).arrAt 4 (cfgs 0).N = AdamPwRefIdeal.Terms.grad (m ((c : Thread nD τ).loc main_arg0)) := by
  refine (dats m 0 c).arrAt_eq_of_covers 4 _ (by decide +kernel) fun t _ y => ?_
  blk_simp
  rw [after0_4]; frame_out
  pointwise [k0_pay5, k0_pay4, k0_pay3, k0_pay2, k0_pay1, AdamPwRefIdeal.Terms.delta, AdamPwRefIdeal.Terms.mom, AdamPwRefIdeal.Terms.vel, AdamPwRefIdeal.Terms.const, AdamPwRefIdeal.Terms.grad, Fin.sum_univ_eight]
  blk_point [iblk, V, idx t]

/-- The first moment. -/
theorem final6 (c : Dev nD) : (dats m 0 c).arrAt 6 (cfgs 0).N = AdamPwRefIdeal.Terms.mom (m ((c : Thread nD τ).loc main_arg0)) (m ((c : Thread nD τ).loc main_arg2)) := by
  refine (dats m 0 c).arrAt_eq_of_covers 6 _ (by decide +kernel) fun t _ y => ?_
  blk_simp
  rw [after0_6]; frame_out
  pointwise [k0_pay5, k0_pay4, k0_pay3, k0_pay2, k0_pay1, AdamPwRefIdeal.Terms.delta, AdamPwRefIdeal.Terms.mom, AdamPwRefIdeal.Terms.vel, AdamPwRefIdeal.Terms.const, AdamPwRefIdeal.Terms.grad, Fin.sum_univ_eight]
  blk_point [iblk, V, idx t]

/-- The second moment. -/
theorem final7 (c : Dev nD) : (dats m 0 c).arrAt 7 (cfgs 0).N = AdamPwRefIdeal.Terms.vel (m ((c : Thread nD τ).loc main_arg0)) (m ((c : Thread nD τ).loc main_arg3)) := by
  refine (dats m 0 c).arrAt_eq_of_covers 7 _ (by decide +kernel) fun t _ y => ?_
  blk_simp
  rw [after0_7]; frame_out
  pointwise [k0_pay5, k0_pay4, k0_pay3, k0_pay2, k0_pay1, AdamPwRefIdeal.Terms.delta, AdamPwRefIdeal.Terms.mom, AdamPwRefIdeal.Terms.vel, AdamPwRefIdeal.Terms.const, AdamPwRefIdeal.Terms.grad, Fin.sum_univ_eight]
  blk_point [iblk, V, idx t]

/-- The change of the weight. -/
theorem final5 (c : Dev nD) : (dats m 0 c).arrAt 5 (cfgs 0).N = AdamPwRefIdeal.Terms.delta (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  pointwise [k0_pay5, k0_pay4, k0_pay3, k0_pay2, k0_pay1, AdamPwRefIdeal.Terms.delta, AdamPwRefIdeal.Terms.mom, AdamPwRefIdeal.Terms.vel, AdamPwRefIdeal.Terms.const, AdamPwRefIdeal.Terms.grad, Fin.sum_univ_eight]
  blk_point [iblk, V, idx t]

end Cert.AdamPwIdeal.Final
end
-- ==== Proof.AdamPw.Claims.lean ====
module

public import proofs.«01_k».proof.Defs
public import proofs.«01_k».proof.Proof.Gen.AdamPw.Frame
public import proofs.«01_k».proof.Proof.AdamPw.Final
public import Idealize.ShloMosaic.Lib.Claim

/-! The five claims about the optimiser on the pointwise convolution. -/

@[expose] public section

set_option maxRecDepth 16384

noncomputable section

namespace Cert.Claims.AdamPw

open Idealize.ShloMosaic Idealize.ShloMosaic.TcCoe Idealize.SL.Sem

theorem frame_kernel : Cert.quiescent_AdamPw := fun m ρ _ => Cert.AdamPw.Gen.frame m ρ

theorem frame_ideal : Cert.quiescent_AdamPwIdeal := fun m ρ _ => Cert.AdamPwIdeal.Gen.frame m ρ

theorem frame_reference : Cert.quiescent_AdamPwRefIdeal := fun m ρ _ =>
  (θ_run Cert.AdamPwRefIdeal.defs _ _).mono (fun r h => ⟨fun c => (h c).2.2.2.2, sem_eq_zero_of_no_sems (by decide) r.2⟩)
    (Cert.AdamPwRefIdeal.Value.run (F := Ideal) m ρ)

theorem preserves : Cert.preserves_AdamPw_AdamPwIdeal := trivial

/-- The kernel's results are the reference's over the extended reals. -/
theorem algebraic : Cert.algebraic_AdamPwIdeal_AdamPwRefIdeal := by
  intro m g m' g' _ hagree
  refine ⟨fun c => (Cert.AdamPwIdeal.Gen.dats m 0 c).arrAt 4 (Cert.AdamPwIdeal.cfgs 0).N, fun c => (Cert.AdamPwIdeal.Gen.dats m 0 c).arrAt 5 (Cert.AdamPwIdeal.cfgs 0).N, fun c => (Cert.AdamPwIdeal.Gen.dats m 0 c).arrAt 6 (Cert.AdamPwIdeal.cfgs 0).N, fun c => (Cert.AdamPwIdeal.Gen.dats m 0 c).arrAt 7 (Cert.AdamPwIdeal.cfgs 0).N, ?_, ?_⟩
  · run_from Cert.AdamPwIdeal.Gen.run_main m g
  · refine (θ_run Cert.AdamPwRefIdeal.defs _ _).mono (fun r h c => ?_) (Cert.AdamPwRefIdeal.Value.run (F := Ideal) m' g')
    obtain ⟨h4, h5, h6, h7, hu⟩ := h c
    obtain ⟨a0, a1, a2, a3⟩ := hagree c
    refine ⟨h4.trans ?_, h5.trans ?_, h6.trans ?_, h7.trans ?_, hu⟩
    · refine Eq.trans (show _ = Cert.AdamPwRefIdeal.Terms.grad (m' ((c.tc : Thread Cert.AdamPwRefIdeal.nD Cert.AdamPwRefIdeal.τ).loc Cert.AdamPwRefIdeal.main_arg0)) from rfl) ?_
      rw [a0]
      exact (Cert.AdamPwIdeal.Final.final4 m c).symm
    · refine Eq.trans (show _ = Cert.AdamPwRefIdeal.Terms.delta (m' ((c.tc : Thread Cert.AdamPwRefIdeal.nD Cert.AdamPwRefIdeal.τ).loc Cert.AdamPwRefIdeal.main_arg0)) (m' ((c.tc : Thread Cert.AdamPwRefIdeal.nD Cert.AdamPwRefIdeal.τ).loc Cert.AdamPwRefIdeal.main_arg1)) (m' ((c.tc : Thread Cert.AdamPwRefIdeal.nD Cert.AdamPwRefIdeal.τ).loc Cert.AdamPwRefIdeal.main_arg2)) (m' ((c.tc : Thread Cert.AdamPwRefIdeal.nD Cert.AdamPwRefIdeal.τ).loc Cert.AdamPwRefIdeal.main_arg3)) from rfl) ?_
      rw [a0, a1, a2, a3]
      exact (Cert.AdamPwIdeal.Final.final5 m c).symm
    · refine Eq.trans (show _ = Cert.AdamPwRefIdeal.Terms.mom (m' ((c.tc : Thread Cert.AdamPwRefIdeal.nD Cert.AdamPwRefIdeal.τ).loc Cert.AdamPwRefIdeal.main_arg0)) (m' ((c.tc : Thread Cert.AdamPwRefIdeal.nD Cert.AdamPwRefIdeal.τ).loc Cert.AdamPwRefIdeal.main_arg2)) from rfl) ?_
      rw [a0, a2]
      exact (Cert.AdamPwIdeal.Final.final6 m c).symm
    · refine Eq.trans (show _ = Cert.AdamPwRefIdeal.Terms.vel (m' ((c.tc : Thread Cert.AdamPwRefIdeal.nD Cert.AdamPwRefIdeal.τ).loc Cert.AdamPwRefIdeal.main_arg0)) (m' ((c.tc : Thread Cert.AdamPwRefIdeal.nD Cert.AdamPwRefIdeal.τ).loc Cert.AdamPwRefIdeal.main_arg3)) from rfl) ?_
      rw [a0, a3]
      exact (Cert.AdamPwIdeal.Final.final7 m c).symm

end Cert.Claims.AdamPw

end
-- ==== Proof.AdamSmall.Reference.lean ====
module

public import proofs.«01_k».proof.Proof.Gen.AdamSmallRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the reference computes of one weight: the gradient, summed over the devices' parts, and the optimiser's update of the
weight and of its two moments. -/

namespace Cert.AdamSmallRefIdeal.Terms

/-- An index of a one-row array is at row zero. -/
theorem ix2_row {n : Nat} (j : (⟨2, ![1, n]⟩ : Shape).Idx) : (ix2 0 (j 1) : (⟨2, ![1, n]⟩ : Shape).Idx) = j :=
  funext fun
    | ⟨0, _⟩ => Subsingleton.elim (α := Fin 1) _ _
    | ⟨1, _⟩ => rfl

open Cert.AdamSmallRefIdeal Cert.AdamSmallRefIdeal.Gen

/-- A constant in every cell. -/
abbrev const {s : Shape} (h : S_.BroadcastsInDim s (![] : Fin 0 → Fin s.rank)) (b : BitVec 32) : FVec Ideal s .f32 :=
  broadcastInDim s ![] h (constant S_ .f32 b)

/-- The first moment, of the gradient `g`. -/
abbrev mom {s : Shape} (h : S_.BroadcastsInDim s (![] : Fin 0 → Fin s.rank)) (g m : FVec Ideal s .f32) : FVec Ideal s .f32 :=
  addf (mulf (const h 0x3F666666#32) m) (mulf (const h 0x3DCCCCCD#32) g)

/-- The second moment. -/
abbrev vel {s : Shape} (h : S_.BroadcastsInDim s (![] : Fin 0 → Fin s.rank)) (g v : FVec Ideal s .f32) : FVec Ideal s .f32 :=
  addf (mulf (const h 0x3F7FBE77#32) v) (mulf (const h 0x3A83126F#32) (mulf g g))

/-- The weight's change. -/
abbrev delta {s : Shape} (h : S_.BroadcastsInDim s (![] : Fin 0 → Fin s.rank)) (g w m v : FVec Ideal s .f32) : FVec Ideal s .f32 :=
  mulf (const h 0xBA83126F#32) (addf (Host.divf (Host.divf (mom h g m) (const h 0x3F26BD02#32))
    (addf (Host.sqrt (Host.divf (vel h g v) (const h 0x3C231ACC#32))) (const h 0x322BCC77#32))) (mulf (const h 0x3C23D70A#32) w))

/-- Weight 0's gradient: its rows of the parts in argument 0, summed over the devices. -/
abbrev grad0 (x : FVec Ideal S8x24x1024 .f32) : FVec Ideal S1x1024 .f32 :=
  Host.reduceAdd (extractStridedSlice S8x1x1024 ![0, 0, 0] x slices_S8x24x1024_S8x1x1024_0_0_0) (constant S_ .f32 0x00000000#32) reducesTo_S8x1x1024_S1x1024_d0 h_S_

/-- Weight 1's gradient: its rows of the parts in argument 0, summed over the devices. -/
abbrev grad1 (x : FVec Ideal S8x24x1024 .f32) : FVec Ideal S1x1024 .f32 :=
  Host.reduceAdd (extractStridedSlice S8x1x1024 ![0, 8, 0] x slices_S8x24x1024_S8x1x1024_0_8_0) (constant S_ .f32 0x00000000#32) reducesTo_S8x1x1024_S1x1024_d0 h_S_

/-- Weight 2's gradient: its rows of the parts in argument 0, summed over the devices. -/
abbrev grad2 (x : FVec Ideal S8x24x1024 .f32) : FVec Ideal S1x1024 .f32 :=
  Host.reduceAdd (extractStridedSlice S8x1x1024 ![0, 16, 0] x slices_S8x24x1024_S8x1x1024_0_16_0) (constant S_ .f32 0x00000000#32) reducesTo_S8x1x1024_S1x1024_d0 h_S_

/-- Weight 3's gradient: its rows of the parts in argument 1, summed over the devices. -/
abbrev grad3 (x : FVec Ideal S8x16x768 .f32) : FVec Ideal S1x768 .f32 :=
  Host.reduceAdd (extractStridedSlice S8x1x768 ![0, 0, 0] x slices_S8x16x768_S8x1x768_0_0_0) (constant S_ .f32 0x00000000#32) reducesTo_S8x1x768_S1x768_d0 h_S_

/-- Weight 4's gradient: its rows of the parts in argument 1, summed over the devices. -/
abbrev grad4 (x : FVec Ideal S8x16x768 .f32) : FVec Ideal S1x768 .f32 :=
  Host.reduceAdd (extractStridedSlice S8x1x768 ![0, 8, 0] x slices_S8x16x768_S8x1x768_0_8_0) (constant S_ .f32 0x00000000#32) reducesTo_S8x1x768_S1x768_d0 h_S_

/-- Weight 5's gradient: its rows of the parts in argument 2, summed over the devices. -/
abbrev grad5 (x : FVec Ideal S8x520x128 .f32) : FVec Ideal S512x128 .f32 :=
  Host.reduceAdd (extractStridedSlice S8x512x128 ![0, 0, 0] x slices_S8x520x128_S8x512x128_0_0_0) (constant S_ .f32 0x00000000#32) reducesTo_S8x512x128_S512x128_d0 h_S_

/-- Weight 6's gradient: its rows of the parts in argument 2, summed over the devices. -/
abbrev grad6 (x : FVec Ideal S8x520x128 .f32) : FVec Ideal S4x128 .f32 :=
  Host.reduceAdd (extractStridedSlice S8x4x128 ![0, 512, 0] x slices_S8x520x128_S8x4x128_0_512_0) (constant S_ .f32 0x00000000#32) reducesTo_S8x4x128_S4x128_d0 h_S_

/-- Weight 7's gradient: its rows of the parts in argument 3, summed over the devices. -/
abbrev grad7 (x : FVec Ideal S8x768x192 .f32) : FVec Ideal S768x192 .f32 :=
  Host.reduceAdd x (constant S_ .f32 0x00000000#32) reducesTo_S8x768x192_S768x192_d0 h_S_

/-- Weight 8's gradient: its rows of the parts in argument 4, summed over the devices. -/
abbrev grad8 (x : FVec Ideal S8x24x128 .f32) : FVec Ideal S1x128 .f32 :=
  Host.reduceAdd (extractStridedSlice S8x1x128 ![0, 0, 0] x slices_S8x24x128_S8x1x128_0_0_0) (constant S_ .f32 0x00000000#32) reducesTo_S8x1x128_S1x128_d0 h_S_

/-- Weight 9's gradient: its rows of the parts in argument 4, summed over the devices. -/
abbrev grad9 (x : FVec Ideal S8x24x128 .f32) : FVec Ideal S1x128 .f32 :=
  Host.reduceAdd (extractStridedSlice S8x1x128 ![0, 8, 0] x slices_S8x24x128_S8x1x128_0_8_0) (constant S_ .f32 0x00000000#32) reducesTo_S8x1x128_S1x128_d0 h_S_

/-- Weight 10's gradient: its rows of the parts in argument 4, summed over the devices. -/
abbrev grad10 (x : FVec Ideal S8x24x128 .f32) : FVec Ideal S1x128 .f32 :=
  Host.reduceAdd (extractStridedSlice S8x1x128 ![0, 16, 0] x slices_S8x24x128_S8x1x128_0_16_0) (constant S_ .f32 0x00000000#32) reducesTo_S8x1x128_S1x128_d0 h_S_

/-- Weight 11's gradient: its rows of the parts in argument 5, summed over the devices. -/
abbrev grad11 (x : FVec Ideal S8x80x96 .f32) : FVec Ideal S3x96 .f32 :=
  Host.reduceAdd (extractStridedSlice S8x3x96 ![0, 0, 0] x slices_S8x80x96_S8x3x96_0_0_0) (constant S_ .f32 0x00000000#32) reducesTo_S8x3x96_S3x96_d0 h_S_

/-- Weight 12's gradient: its rows of the parts in argument 5, summed over the devices. -/
abbrev grad12 (x : FVec Ideal S8x80x96 .f32) : FVec Ideal S1x96 .f32 :=
  Host.reduceAdd (extractStridedSlice S8x1x96 ![0, 8, 0] x slices_S8x80x96_S8x1x96_0_8_0) (constant S_ .f32 0x00000000#32) reducesTo_S8x1x96_S1x96_d0 h_S_

/-- Weight 13's gradient: its rows of the parts in argument 5, summed over the devices. -/
abbrev grad13 (x : FVec Ideal S8x80x96 .f32) : FVec Ideal S31x96 .f32 :=
  Host.reduceAdd (extractStridedSlice S8x31x96 ![0, 16, 0] x slices_S8x80x96_S8x31x96_0_16_0) (constant S_ .f32 0x00000000#32) reducesTo_S8x31x96_S31x96_d0 h_S_

/-- Weight 14's gradient: its rows of the parts in argument 5, summed over the devices. -/
abbrev grad14 (x : FVec Ideal S8x80x96 .f32) : FVec Ideal S1x96 .f32 :=
  Host.reduceAdd (extractStridedSlice S8x1x96 ![0, 48, 0] x slices_S8x80x96_S8x1x96_0_48_0) (constant S_ .f32 0x00000000#32) reducesTo_S8x1x96_S1x96_d0 h_S_

/-- Weight 15's gradient: its rows of the parts in argument 5, summed over the devices. -/
abbrev grad15 (x : FVec Ideal S8x80x96 .f32) : FVec Ideal S1x96 .f32 :=
  Host.reduceAdd (extractStridedSlice S8x1x96 ![0, 56, 0] x slices_S8x80x96_S8x1x96_0_56_0) (constant S_ .f32 0x00000000#32) reducesTo_S8x1x96_S1x96_d0 h_S_

/-- Weight 16's gradient: its rows of the parts in argument 5, summed over the devices. -/
abbrev grad16 (x : FVec Ideal S8x80x96 .f32) : FVec Ideal S1x96 .f32 :=
  Host.reduceAdd (extractStridedSlice S8x1x96 ![0, 64, 0] x slices_S8x80x96_S8x1x96_0_64_0) (constant S_ .f32 0x00000000#32) reducesTo_S8x1x96_S1x96_d0 h_S_

/-- Weight 17's gradient: its rows of the parts in argument 5, summed over the devices. -/
abbrev grad17 (x : FVec Ideal S8x80x96 .f32) : FVec Ideal S1x96 .f32 :=
  Host.reduceAdd (extractStridedSlice S8x1x96 ![0, 72, 0] x slices_S8x80x96_S8x1x96_0_72_0) (constant S_ .f32 0x00000000#32) reducesTo_S8x1x96_S1x96_d0 h_S_

/-- The loss's row. -/
abbrev loss (x : FVec Ideal S8x8x128 .f32) : FVec Ideal S1x128 .f32 :=
  Host.reduceAdd (extractStridedSlice S8x1x128 ![0, 0, 0] x slices_S8x8x128_S8x1x128_0_0_0) (constant S_ .f32 0x00000000#32) reducesTo_S8x1x128_S1x128_d0 h_S_

end Cert.AdamSmallRefIdeal.Terms
end
-- ==== Proof.AdamSmall.RefClaims.lean ====
module

public import proofs.«01_k».proof.Defs
public import proofs.«01_k».proof.Proof.Gen.AdamSmallRefIdeal.Run
public import proofs.«01_k».proof.Proof.AdamSmall.Reference
public import Idealize.ShloMosaic.Lib.Claim

/-! The reference's run: its results as the terms of its arguments, its arguments as launched. -/

@[expose] public section

set_option maxRecDepth 16384

noncomputable section

namespace Cert.Claims.AdamSmall

open Cert.AdamSmallRefIdeal.Terms Cert.AdamSmallRefIdeal
open Idealize.ShloMosaic Idealize.ShloMosaic.TcCoe Idealize.SL.Sem

theorem frame_reference : Cert.quiescent_AdamSmallRefIdeal := fun m ρ _ =>
  (θ_run Cert.AdamSmallRefIdeal.defs _ _).mono (fun r h => ⟨fun c => (h c).2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2, sem_eq_zero_of_no_sems (by decide) r.2⟩)
    (Cert.AdamSmallRefIdeal.Value.run (F := Ideal) m ρ)

set_option maxHeartbeats 4000000 in
/-- The reference's results. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v1) = grad0 (m ((c.tc : Thread nD τ).loc main_arg0))
      ∧ r.2.mem ((c.tc : Thread nD τ).loc main_v25) = delta Gen.bcast_S_S1x1024 (grad0 (m ((c.tc : Thread nD τ).loc main_arg0))) (m ((c.tc : Thread nD τ).loc main_arg7)) (m ((c.tc : Thread nD τ).loc main_arg8)) (m ((c.tc : Thread nD τ).loc main_arg9))
      ∧ r.2.mem ((c.tc : Thread nD τ).loc main_v6) = mom Gen.bcast_S_S1x1024 (grad0 (m ((c.tc : Thread nD τ).loc main_arg0))) (m ((c.tc : Thread nD τ).loc main_arg8))
      ∧ r.2.mem ((c.tc : Thread nD τ).loc main_v12) = vel Gen.bcast_S_S1x1024 (grad0 (m ((c.tc : Thread nD τ).loc main_arg0))) (m ((c.tc : Thread nD τ).loc main_arg9))
      ∧ r.2.mem ((c.tc : Thread nD τ).loc main_v27) = grad1 (m ((c.tc : Thread nD τ).loc main_arg0))
      ∧ r.2.mem ((c.tc : Thread nD τ).loc main_v51) = delta Gen.bcast_S_S1x1024 (grad1 (m ((c.tc : Thread nD τ).loc main_arg0))) (m ((c.tc : Thread nD τ).loc main_arg10)) (m ((c.tc : Thread nD τ).loc main_arg11)) (m ((c.tc : Thread nD τ).loc main_arg12))
      ∧ r.2.mem ((c.tc : Thread nD τ).loc main_v32) = mom Gen.bcast_S_S1x1024 (grad1 (m ((c.tc : Thread nD τ).loc main_arg0))) (m ((c.tc : Thread nD τ).loc main_arg11))
      ∧ r.2.mem ((c.tc : Thread nD τ).loc main_v38) = vel Gen.bcast_S_S1x1024 (grad1 (m ((c.tc : Thread nD τ).loc main_arg0))) (m ((c.tc : Thread nD τ).loc main_arg12))
      ∧ r.2.mem ((c.tc : Thread nD τ).loc main_v53) = grad2 (m ((c.tc : Thread nD τ).loc main_arg0))
      ∧ r.2.mem ((c.tc : Thread nD τ).loc main_v77) = delta Gen.bcast_S_S1x1024 (grad2 (m ((c.tc : Thread nD τ).loc main_arg0))) (m ((c.tc : Thread nD τ).loc main_arg13)) (m ((c.tc : Thread nD τ).loc main_arg14)) (m ((c.tc : Thread nD τ).loc main_arg15))
      ∧ r.2.mem ((c.tc : Thread nD τ).loc main_v58) = mom Gen.bcast_S_S1x1024 (grad2 (m ((c.tc : Thread nD τ).loc main_arg0))) (m ((c.tc : Thread nD τ).loc main_arg14))
      ∧ r.2.mem ((c.tc : Thread nD τ).loc main_v64) = vel Gen.bcast_S_S1x1024 (grad2 (m ((c.tc : Thread nD τ).loc main_arg0))) (m ((c.tc : Thread nD τ).loc main_arg15))
      ∧ r.2.mem ((c.tc : Thread nD τ).loc main_v79) = grad3 (m ((c.tc : Thread nD τ).loc main_arg1))
      ∧ r.2.mem ((c.tc : Thread nD τ).loc main_v103) = delta Gen.bcast_S_S1x768 (grad3 (m ((c.tc : Thread nD τ).loc main_arg1))) (m ((c.tc : Thread nD τ).loc main_arg16)) (m ((c.tc : Thread nD τ).loc main_arg17)) (m ((c.tc : Thread nD τ).loc main_arg18))
      ∧ r.2.mem ((c.tc : Thread nD τ).loc main_v84) = mom Gen.bcast_S_S1x768 (grad3 (m ((c.tc : Thread nD τ).loc main_arg1))) (m ((c.tc : Thread nD τ).loc main_arg17))
      ∧ r.2.mem ((c.tc : Thread nD τ).loc main_v90) = vel Gen.bcast_S_S1x768 (grad3 (m ((c.tc : Thread nD τ).loc main_arg1))) (m ((c.tc : Thread nD τ).loc main_arg18))
      ∧ r.2.mem ((c.tc : Thread nD τ).loc main_v105) = grad4 (m ((c.tc : Thread nD τ).loc main_arg1))
      ∧ r.2.mem ((c.tc : Thread nD τ).loc main_v129) = delta Gen.bcast_S_S1x768 (grad4 (m ((c.tc : Thread nD τ).loc main_arg1))) (m ((c.tc : Thread nD τ).loc main_arg19)) (m ((c.tc : Thread nD τ).loc main_arg20)) (m ((c.tc : Thread nD τ).loc main_arg21))
      ∧ r.2.mem ((c.tc : Thread nD τ).loc main_v110) = mom Gen.bcast_S_S1x768 (grad4 (m ((c.tc : Thread nD τ).loc main_arg1))) (m ((c.tc : Thread nD τ).loc main_arg20))
      ∧ r.2.mem ((c.tc : Thread nD τ).loc main_v116) = vel Gen.bcast_S_S1x768 (grad4 (m ((c.tc : Thread nD τ).loc main_arg1))) (m ((c.tc : Thread nD τ).loc main_arg21))
      ∧ r.2.mem ((c.tc : Thread nD τ).loc main_v131) = grad5 (m ((c.tc : Thread nD τ).loc main_arg2))
      ∧ r.2.mem ((c.tc : Thread nD τ).loc main_v155) = delta Gen.bcast_S_S512x128 (grad5 (m ((c.tc : Thread nD τ).loc main_arg2))) (m ((c.tc : Thread nD τ).loc main_arg22)) (m ((c.tc : Thread nD τ).loc main_arg23)) (m ((c.tc : Thread nD τ).loc main_arg24))
      ∧ r.2.mem ((c.tc : Thread nD τ).loc main_v136) = mom Gen.bcast_S_S512x128 (grad5 (m ((c.tc : Thread nD τ).loc main_arg2))) (m ((c.tc : Thread nD τ).loc main_arg23))
      ∧ r.2.mem ((c.tc : Thread nD τ).loc main_v142) = vel Gen.bcast_S_S512x128 (grad5 (m ((c.tc : Thread nD τ).loc main_arg2))) (m ((c.tc : Thread nD τ).loc main_arg24))
      ∧ r.2.mem ((c.tc : Thread nD τ).loc main_v157) = grad6 (m ((c.tc : Thread nD τ).loc main_arg2))
      ∧ r.2.mem ((c.tc : Thread nD τ).loc main_v181) = delta Gen.bcast_S_S4x128 (grad6 (m ((c.tc : Thread nD τ).loc main_arg2))) (m ((c.tc : Thread nD τ).loc main_arg25)) (m ((c.tc : Thread nD τ).loc main_arg26)) (m ((c.tc : Thread nD τ).loc main_arg27))
      ∧ r.2.mem ((c.tc : Thread nD τ).loc main_v162) = mom Gen.bcast_S_S4x128 (grad6 (m ((c.tc : Thread nD τ).loc main_arg2))) (m ((c.tc : Thread nD τ).loc main_arg26))
      ∧ r.2.mem ((c.tc : Thread nD τ).loc main_v168) = vel Gen.bcast_S_S4x128 (grad6 (m ((c.tc : Thread nD τ).loc main_arg2))) (m ((c.tc : Thread nD τ).loc main_arg27))
      ∧ r.2.mem ((c.tc : Thread nD τ).loc main_v182) = grad7 (m ((c.tc : Thread nD τ).loc main_arg3))
      ∧ r.2.mem ((c.tc : Thread nD τ).loc main_v206) = delta Gen.bcast_S_S768x192 (grad7 (m ((c.tc : Thread nD τ).loc main_arg3))) (m ((c.tc : Thread nD τ).loc main_arg28)) (m ((c.tc : Thread nD τ).loc main_arg29)) (m ((c.tc : Thread nD τ).loc main_arg30))
      ∧ r.2.mem ((c.tc : Thread nD τ).loc main_v187) = mom Gen.bcast_S_S768x192 (grad7 (m ((c.tc : Thread nD τ).loc main_arg3))) (m ((c.tc : Thread nD τ).loc main_arg29))
      ∧ r.2.mem ((c.tc : Thread nD τ).loc main_v193) = vel Gen.bcast_S_S768x192 (grad7 (m ((c.tc : Thread nD τ).loc main_arg3))) (m ((c.tc : Thread nD τ).loc main_arg30))
      ∧ r.2.mem ((c.tc : Thread nD τ).loc main_v208) = grad8 (m ((c.tc : Thread nD τ).loc main_arg4))
      ∧ r.2.mem ((c.tc : Thread nD τ).loc main_v232) = delta Gen.bcast_S_S1x128 (grad8 (m ((c.tc : Thread nD τ).loc main_arg4))) (m ((c.tc : Thread nD τ).loc main_arg31)) (m ((c.tc : Thread nD τ).loc main_arg32)) (m ((c.tc : Thread nD τ).loc main_arg33))
      ∧ r.2.mem ((c.tc : Thread nD τ).loc main_v213) = mom Gen.bcast_S_S1x128 (grad8 (m ((c.tc : Thread nD τ).loc main_arg4))) (m ((c.tc : Thread nD τ).loc main_arg32))
      ∧ r.2.mem ((c.tc : Thread nD τ).loc main_v219) = vel Gen.bcast_S_S1x128 (grad8 (m ((c.tc : Thread nD τ).loc main_arg4))) (m ((c.tc : Thread nD τ).loc main_arg33))
      ∧ r.2.mem ((c.tc : Thread nD τ).loc main_v234) = grad9 (m ((c.tc : Thread nD τ).loc main_arg4))
      ∧ r.2.mem ((c.tc : Thread nD τ).loc main_v258) = delta Gen.bcast_S_S1x128 (grad9 (m ((c.tc : Thread nD τ).loc main_arg4))) (m ((c.tc : Thread nD τ).loc main_arg34)) (m ((c.tc : Thread nD τ).loc main_arg35)) (m ((c.tc : Thread nD τ).loc main_arg36))
      ∧ r.2.mem ((c.tc : Thread nD τ).loc main_v239) = mom Gen.bcast_S_S1x128 (grad9 (m ((c.tc : Thread nD τ).loc main_arg4))) (m ((c.tc : Thread nD τ).loc main_arg35))
      ∧ r.2.mem ((c.tc : Thread nD τ).loc main_v245) = vel Gen.bcast_S_S1x128 (grad9 (m ((c.tc : Thread nD τ).loc main_arg4))) (m ((c.tc : Thread nD τ).loc main_arg36))
      ∧ r.2.mem ((c.tc : Thread nD τ).loc main_v260) = grad10 (m ((c.tc : Thread nD τ).loc main_arg4))
      ∧ r.2.mem ((c.tc : Thread nD τ).loc main_v284) = delta Gen.bcast_S_S1x128 (grad10 (m ((c.tc : Thread nD τ).loc main_arg4))) (m ((c.tc : Thread nD τ).loc main_arg37)) (m ((c.tc : Thread nD τ).loc main_arg38)) (m ((c.tc : Thread nD τ).loc main_arg39))
      ∧ r.2.mem ((c.tc : Thread nD τ).loc main_v265) = mom Gen.bcast_S_S1x128 (grad10 (m ((c.tc : Thread nD τ).loc main_arg4))) (m ((c.tc : Thread nD τ).loc main_arg38))
      ∧ r.2.mem ((c.tc : Thread nD τ).loc main_v271) = vel Gen.bcast_S_S1x128 (grad10 (m ((c.tc : Thread nD τ).loc main_arg4))) (m ((c.tc : Thread nD τ).loc main_arg39))
      ∧ r.2.mem ((c.tc : Thread nD τ).loc main_v286) = grad11 (m ((c.tc : Thread nD τ).loc main_arg5))
      ∧ r.2.mem ((c.tc : Thread nD τ).loc main_v310) = delta Gen.bcast_S_S3x96 (grad11 (m ((c.tc : Thread nD τ).loc main_arg5))) (m ((c.tc : Thread nD τ).loc main_arg40)) (m ((c.tc : Thread nD τ).loc main_arg41)) (m ((c.tc : Thread nD τ).loc main_arg42))
      ∧ r.2.mem ((c.tc : Thread nD τ).loc main_v291) = mom Gen.bcast_S_S3x96 (grad11 (m ((c.tc : Thread nD τ).loc main_arg5))) (m ((c.tc : Thread nD τ).loc main_arg41))
      ∧ r.2.mem ((c.tc : Thread nD τ).loc main_v297) = vel Gen.bcast_S_S3x96 (grad11 (m ((c.tc : Thread nD τ).loc main_arg5))) (m ((c.tc : Thread nD τ).loc main_arg42))
      ∧ r.2.mem ((c.tc : Thread nD τ).loc main_v312) = grad12 (m ((c.tc : Thread nD τ).loc main_arg5))
      ∧ r.2.mem ((c.tc : Thread nD τ).loc main_v336) = delta Gen.bcast_S_S1x96 (grad12 (m ((c.tc : Thread nD τ).loc main_arg5))) (m ((c.tc : Thread nD τ).loc main_arg43)) (m ((c.tc : Thread nD τ).loc main_arg44)) (m ((c.tc : Thread nD τ).loc main_arg45))
      ∧ r.2.mem ((c.tc : Thread nD τ).loc main_v317) = mom Gen.bcast_S_S1x96 (grad12 (m ((c.tc : Thread nD τ).loc main_arg5))) (m ((c.tc : Thread nD τ).loc main_arg44))
      ∧ r.2.mem ((c.tc : Thread nD τ).loc main_v323) = vel Gen.bcast_S_S1x96 (grad12 (m ((c.tc : Thread nD τ).loc main_arg5))) (m ((c.tc : Thread nD τ).loc main_arg45))
      ∧ r.2.mem ((c.tc : Thread nD τ).loc main_v338) = grad13 (m ((c.tc : Thread nD τ).loc main_arg5))
      ∧ r.2.mem ((c.tc : Thread nD τ).loc main_v362) = delta Gen.bcast_S_S31x96 (grad13 (m ((c.tc : Thread nD τ).loc main_arg5))) (m ((c.tc : Thread nD τ).loc main_arg46)) (m ((c.tc : Thread nD τ).loc main_arg47)) (m ((c.tc : Thread nD τ).loc main_arg48))
      ∧ r.2.mem ((c.tc : Thread nD τ).loc main_v343) = mom Gen.bcast_S_S31x96 (grad13 (m ((c.tc : Thread nD τ).loc main_arg5))) (m ((c.tc : Thread nD τ).loc main_arg47))
      ∧ r.2.mem ((c.tc : Thread nD τ).loc main_v349) = vel Gen.bcast_S_S31x96 (grad13 (m ((c.tc : Thread nD τ).loc main_arg5))) (m ((c.tc : Thread nD τ).loc main_arg48))
      ∧ r.2.mem ((c.tc : Thread nD τ).loc main_v364) = grad14 (m ((c.tc : Thread nD τ).loc main_arg5))
      ∧ r.2.mem ((c.tc : Thread nD τ).loc main_v388) = delta Gen.bcast_S_S1x96 (grad14 (m ((c.tc : Thread nD τ).loc main_arg5))) (m ((c.tc : Thread nD τ).loc main_arg49)) (m ((c.tc : Thread nD τ).loc main_arg50)) (m ((c.tc : Thread nD τ).loc main_arg51))
      ∧ r.2.mem ((c.tc : Thread nD τ).loc main_v369) = mom Gen.bcast_S_S1x96 (grad14 (m ((c.tc : Thread nD τ).loc main_arg5))) (m ((c.tc : Thread nD τ).loc main_arg50))
      ∧ r.2.mem ((c.tc : Thread nD τ).loc main_v375) = vel Gen.bcast_S_S1x96 (grad14 (m ((c.tc : Thread nD τ).loc main_arg5))) (m ((c.tc : Thread nD τ).loc main_arg51))
      ∧ r.2.mem ((c.tc : Thread nD τ).loc main_v390) = grad15 (m ((c.tc : Thread nD τ).loc main_arg5))
      ∧ r.2.mem ((c.tc : Thread nD τ).loc main_v414) = delta Gen.bcast_S_S1x96 (grad15 (m ((c.tc : Thread nD τ).loc main_arg5))) (m ((c.tc : Thread nD τ).loc main_arg52)) (m ((c.tc : Thread nD τ).loc main_arg53)) (m ((c.tc : Thread nD τ).loc main_arg54))
      ∧ r.2.mem ((c.tc : Thread nD τ).loc main_v395) = mom Gen.bcast_S_S1x96 (grad15 (m ((c.tc : Thread nD τ).loc main_arg5))) (m ((c.tc : Thread nD τ).loc main_arg53))
      ∧ r.2.mem ((c.tc : Thread nD τ).loc main_v401) = vel Gen.bcast_S_S1x96 (grad15 (m ((c.tc : Thread nD τ).loc main_arg5))) (m ((c.tc : Thread nD τ).loc main_arg54))
      ∧ r.2.mem ((c.tc : Thread nD τ).loc main_v416) = grad16 (m ((c.tc : Thread nD τ).loc main_arg5))
      ∧ r.2.mem ((c.tc : Thread nD τ).loc main_v440) = delta Gen.bcast_S_S1x96 (grad16 (m ((c.tc : Thread nD τ).loc main_arg5))) (m ((c.tc : Thread nD τ).loc main_arg55)) (m ((c.tc : Thread nD τ).loc main_arg56)) (m ((c.tc : Thread nD τ).loc main_arg57))
      ∧ r.2.mem ((c.tc : Thread nD τ).loc main_v421) = mom Gen.bcast_S_S1x96 (grad16 (m ((c.tc : Thread nD τ).loc main_arg5))) (m ((c.tc : Thread nD τ).loc main_arg56))
      ∧ r.2.mem ((c.tc : Thread nD τ).loc main_v427) = vel Gen.bcast_S_S1x96 (grad16 (m ((c.tc : Thread nD τ).loc main_arg5))) (m ((c.tc : Thread nD τ).loc main_arg57))
      ∧ r.2.mem ((c.tc : Thread nD τ).loc main_v442) = grad17 (m ((c.tc : Thread nD τ).loc main_arg5))
      ∧ r.2.mem ((c.tc : Thread nD τ).loc main_v466) = delta Gen.bcast_S_S1x96 (grad17 (m ((c.tc : Thread nD τ).loc main_arg5))) (m ((c.tc : Thread nD τ).loc main_arg58)) (m ((c.tc : Thread nD τ).loc main_arg59)) (m ((c.tc : Thread nD τ).loc main_arg60))
      ∧ r.2.mem ((c.tc : Thread nD τ).loc main_v447) = mom Gen.bcast_S_S1x96 (grad17 (m ((c.tc : Thread nD τ).loc main_arg5))) (m ((c.tc : Thread nD τ).loc main_arg59))
      ∧ r.2.mem ((c.tc : Thread nD τ).loc main_v453) = vel Gen.bcast_S_S1x96 (grad17 (m ((c.tc : Thread nD τ).loc main_arg5))) (m ((c.tc : Thread nD τ).loc main_arg60))
      ∧ r.2.mem ((c.tc : Thread nD τ).loc main_v468) = loss (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)
      ∧ r.2.mem ((c.tc : Thread nD τ).loc main_arg36) = m ((c.tc : Thread nD τ).loc main_arg36)
      ∧ r.2.mem ((c.tc : Thread nD τ).loc main_arg37) = m ((c.tc : Thread nD τ).loc main_arg37)
      ∧ r.2.mem ((c.tc : Thread nD τ).loc main_arg38) = m ((c.tc : Thread nD τ).loc main_arg38)
      ∧ r.2.mem ((c.tc : Thread nD τ).loc main_arg39) = m ((c.tc : Thread nD τ).loc main_arg39)
      ∧ r.2.mem ((c.tc : Thread nD τ).loc main_arg40) = m ((c.tc : Thread nD τ).loc main_arg40)
      ∧ r.2.mem ((c.tc : Thread nD τ).loc main_arg41) = m ((c.tc : Thread nD τ).loc main_arg41)
      ∧ r.2.mem ((c.tc : Thread nD τ).loc main_arg42) = m ((c.tc : Thread nD τ).loc main_arg42)
      ∧ r.2.mem ((c.tc : Thread nD τ).loc main_arg43) = m ((c.tc : Thread nD τ).loc main_arg43)
      ∧ r.2.mem ((c.tc : Thread nD τ).loc main_arg44) = m ((c.tc : Thread nD τ).loc main_arg44)
      ∧ r.2.mem ((c.tc : Thread nD τ).loc main_arg45) = m ((c.tc : Thread nD τ).loc main_arg45)
      ∧ r.2.mem ((c.tc : Thread nD τ).loc main_arg46) = m ((c.tc : Thread nD τ).loc main_arg46)
      ∧ r.2.mem ((c.tc : Thread nD τ).loc main_arg47) = m ((c.tc : Thread nD τ).loc main_arg47)
      ∧ r.2.mem ((c.tc : Thread nD τ).loc main_arg48) = m ((c.tc : Thread nD τ).loc main_arg48)
      ∧ r.2.mem ((c.tc : Thread nD τ).loc main_arg49) = m ((c.tc : Thread nD τ).loc main_arg49)
      ∧ r.2.mem ((c.tc : Thread nD τ).loc main_arg50) = m ((c.tc : Thread nD τ).loc main_arg50)
      ∧ r.2.mem ((c.tc : Thread nD τ).loc main_arg51) = m ((c.tc : Thread nD τ).loc main_arg51)
      ∧ r.2.mem ((c.tc : Thread nD τ).loc main_arg52) = m ((c.tc : Thread nD τ).loc main_arg52)
      ∧ r.2.mem ((c.tc : Thread nD τ).loc main_arg53) = m ((c.tc : Thread nD τ).loc main_arg53)
      ∧ r.2.mem ((c.tc : Thread nD τ).loc main_arg54) = m ((c.tc : Thread nD τ).loc main_arg54)
      ∧ r.2.mem ((c.tc : Thread nD τ).loc main_arg55) = m ((c.tc : Thread nD τ).loc main_arg55)
      ∧ r.2.mem ((c.tc : Thread nD τ).loc main_arg56) = m ((c.tc : Thread nD τ).loc main_arg56)
      ∧ r.2.mem ((c.tc : Thread nD τ).loc main_arg57) = m ((c.tc : Thread nD τ).loc main_arg57)
      ∧ r.2.mem ((c.tc : Thread nD τ).loc main_arg58) = m ((c.tc : Thread nD τ).loc main_arg58)
      ∧ r.2.mem ((c.tc : Thread nD τ).loc main_arg59) = m ((c.tc : Thread nD τ).loc main_arg59)
      ∧ r.2.mem ((c.tc : Thread nD τ).loc main_arg60) = m ((c.tc : Thread nD τ).loc main_arg60) :=
  (θ_run defs _ _).mono (fun r h c => by
    obtain ⟨h61, h62, h63, h64, h65, h66, h67, h68, h69, h70, h71, h72, h73, h74, h75, h76, h77, h78, h79, h80, h81, h82, h83, h84, h85, h86, h87, h88, h89, h90, h91, h92, h93, h94, h95, h96, h97, h98, h99, h100, h101, h102, h103, h104, h105, h106, h107, h108, h109, h110, h111, h112, h113, h114, h115, h116, h117, h118, h119, h120, h121, h122, h123, h124, h125, h126, h127, h128, h129, h130, h131, h132, h133, hu⟩ := h c
    exact ⟨h61.trans rfl, h62.trans rfl, h63.trans rfl, h64.trans rfl, h65.trans rfl, h66.trans rfl, h67.trans rfl, h68.trans rfl, h69.trans rfl, h70.trans rfl, h71.trans rfl, h72.trans rfl, h73.trans rfl, h74.trans rfl, h75.trans rfl, h76.trans rfl, h77.trans rfl, h78.trans rfl, h79.trans rfl, h80.trans rfl, h81.trans rfl, h82.trans rfl, h83.trans rfl, h84.trans rfl, h85.trans rfl, h86.trans rfl, h87.trans rfl, h88.trans rfl, h89.trans rfl, h90.trans rfl, h91.trans rfl, h92.trans rfl, h93.trans rfl, h94.trans rfl, h95.trans rfl, h96.trans rfl, h97.trans rfl, h98.trans rfl, h99.trans rfl, h100.trans rfl, h101.trans rfl, h102.trans rfl, h103.trans rfl, h104.trans rfl, h105.trans rfl, h106.trans rfl, h107.trans rfl, h108.trans rfl, h109.trans rfl, h110.trans rfl, h111.trans rfl, h112.trans rfl, h113.trans rfl, h114.trans rfl, h115.trans rfl, h116.trans rfl, h117.trans rfl, h118.trans rfl, h119.trans rfl, h120.trans rfl, h121.trans rfl, h122.trans rfl, h123.trans rfl, h124.trans rfl, h125.trans rfl, h126.trans rfl, h127.trans rfl, h128.trans rfl, h129.trans rfl, h130.trans rfl, h131.trans rfl, h132.trans rfl, h133.trans rfl, hu⟩) (Cert.AdamSmallRefIdeal.Value.run (F := Ideal) m ρ)

end Cert.Claims.AdamSmall

end
-- ==== Proof.AdamSmall.Values.lean ====
module

public import proofs.«01_k».proof.Proof.Gen.AdamSmallIdeal.Skeleton
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.AdamSmallIdeal.Body

open Idealize.ShloMosaic Idealize.ShloMosaic.TcCoe Idealize.ShloMosaic.Tactic
open Cert.AdamSmallIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The parts of the buffers that the body reads and writes -/

abbrev r0_0 : Rect S8x8x128 := Rect.unit (s := S8x8x128) ![0, 0, 0] S1x1x128.size inb_S8x8x128_S1x1x128_0_0_0
abbrev r0_1 : Rect S8x8x128 := Rect.unit (s := S8x8x128) ![1, 0, 0] S1x1x128.size inb_S8x8x128_S1x1x128_1_0_0
abbrev r0_2 : Rect S8x8x128 := Rect.unit (s := S8x8x128) ![2, 0, 0] S1x1x128.size inb_S8x8x128_S1x1x128_2_0_0
abbrev r0_3 : Rect S8x8x128 := Rect.unit (s := S8x8x128) ![3, 0, 0] S1x1x128.size inb_S8x8x128_S1x1x128_3_0_0
abbrev r0_4 : Rect S8x8x128 := Rect.unit (s := S8x8x128) ![4, 0, 0] S1x1x128.size inb_S8x8x128_S1x1x128_4_0_0
abbrev r0_5 : Rect S8x8x128 := Rect.unit (s := S8x8x128) ![5, 0, 0] S1x1x128.size inb_S8x8x128_S1x1x128_5_0_0
abbrev r0_6 : Rect S8x8x128 := Rect.unit (s := S8x8x128) ![6, 0, 0] S1x1x128.size inb_S8x8x128_S1x1x128_6_0_0
abbrev r0_7 : Rect S8x8x128 := Rect.unit (s := S8x8x128) ![7, 0, 0] S1x1x128.size inb_S8x8x128_S1x1x128_7_0_0
abbrev r0_8 : Rect S1x128 := Rect.unit (s := S1x128) ![0, 0] S1x128.size inb_S1x128_S1x128_0_0
abbrev r0_9 : Rect S8x24x1024 := Rect.unit (s := S8x24x1024) ![0, 0, 0] S1x1x1024.size inb_S8x24x1024_S1x1x1024_0_0_0
abbrev r0_10 : Rect S8x24x1024 := Rect.unit (s := S8x24x1024) ![1, 0, 0] S1x1x1024.size inb_S8x24x1024_S1x1x1024_1_0_0
abbrev r0_11 : Rect S8x24x1024 := Rect.unit (s := S8x24x1024) ![2, 0, 0] S1x1x1024.size inb_S8x24x1024_S1x1x1024_2_0_0
abbrev r0_12 : Rect S8x24x1024 := Rect.unit (s := S8x24x1024) ![3, 0, 0] S1x1x1024.size inb_S8x24x1024_S1x1x1024_3_0_0
abbrev r0_13 : Rect S8x24x1024 := Rect.unit (s := S8x24x1024) ![4, 0, 0] S1x1x1024.size inb_S8x24x1024_S1x1x1024_4_0_0
abbrev r0_14 : Rect S8x24x1024 := Rect.unit (s := S8x24x1024) ![5, 0, 0] S1x1x1024.size inb_S8x24x1024_S1x1x1024_5_0_0
abbrev r0_15 : Rect S8x24x1024 := Rect.unit (s := S8x24x1024) ![6, 0, 0] S1x1x1024.size inb_S8x24x1024_S1x1x1024_6_0_0
abbrev r0_16 : Rect S8x24x1024 := Rect.unit (s := S8x24x1024) ![7, 0, 0] S1x1x1024.size inb_S8x24x1024_S1x1x1024_7_0_0
abbrev r0_17 : Rect S1x1024 := Rect.unit (s := S1x1024) ![0, 0] S1x1024.size inb_S1x1024_S1x1024_0_0
abbrev r0_18 : Rect S8x24x1024 := Rect.unit (s := S8x24x1024) ![0, 8, 0] S1x1x1024.size inb_S8x24x1024_S1x1x1024_0_8_0
abbrev r0_19 : Rect S8x24x1024 := Rect.unit (s := S8x24x1024) ![1, 8, 0] S1x1x1024.size inb_S8x24x1024_S1x1x1024_1_8_0
abbrev r0_20 : Rect S8x24x1024 := Rect.unit (s := S8x24x1024) ![2, 8, 0] S1x1x1024.size inb_S8x24x1024_S1x1x1024_2_8_0
abbrev r0_21 : Rect S8x24x1024 := Rect.unit (s := S8x24x1024) ![3, 8, 0] S1x1x1024.size inb_S8x24x1024_S1x1x1024_3_8_0
abbrev r0_22 : Rect S8x24x1024 := Rect.unit (s := S8x24x1024) ![4, 8, 0] S1x1x1024.size inb_S8x24x1024_S1x1x1024_4_8_0
abbrev r0_23 : Rect S8x24x1024 := Rect.unit (s := S8x24x1024) ![5, 8, 0] S1x1x1024.size inb_S8x24x1024_S1x1x1024_5_8_0
abbrev r0_24 : Rect S8x24x1024 := Rect.unit (s := S8x24x1024) ![6, 8, 0] S1x1x1024.size inb_S8x24x1024_S1x1x1024_6_8_0
abbrev r0_25 : Rect S8x24x1024 := Rect.unit (s := S8x24x1024) ![7, 8, 0] S1x1x1024.size inb_S8x24x1024_S1x1x1024_7_8_0
abbrev r0_26 : Rect S8x24x1024 := Rect.unit (s := S8x24x1024) ![0, 16, 0] S1x1x1024.size inb_S8x24x1024_S1x1x1024_0_16_0
abbrev r0_27 : Rect S8x24x1024 := Rect.unit (s := S8x24x1024) ![1, 16, 0] S1x1x1024.size inb_S8x24x1024_S1x1x1024_1_16_0
abbrev r0_28 : Rect S8x24x1024 := Rect.unit (s := S8x24x1024) ![2, 16, 0] S1x1x1024.size inb_S8x24x1024_S1x1x1024_2_16_0
abbrev r0_29 : Rect S8x24x1024 := Rect.unit (s := S8x24x1024) ![3, 16, 0] S1x1x1024.size inb_S8x24x1024_S1x1x1024_3_16_0
abbrev r0_30 : Rect S8x24x1024 := Rect.unit (s := S8x24x1024) ![4, 16, 0] S1x1x1024.size inb_S8x24x1024_S1x1x1024_4_16_0
abbrev r0_31 : Rect S8x24x1024 := Rect.unit (s := S8x24x1024) ![5, 16, 0] S1x1x1024.size inb_S8x24x1024_S1x1x1024_5_16_0
abbrev r0_32 : Rect S8x24x1024 := Rect.unit (s := S8x24x1024) ![6, 16, 0] S1x1x1024.size inb_S8x24x1024_S1x1x1024_6_16_0
abbrev r0_33 : Rect S8x24x1024 := Rect.unit (s := S8x24x1024) ![7, 16, 0] S1x1x1024.size inb_S8x24x1024_S1x1x1024_7_16_0
abbrev r0_34 : Rect S8x16x768 := Rect.unit (s := S8x16x768) ![0, 0, 0] S1x1x768.size inb_S8x16x768_S1x1x768_0_0_0
abbrev r0_35 : Rect S8x16x768 := Rect.unit (s := S8x16x768) ![1, 0, 0] S1x1x768.size inb_S8x16x768_S1x1x768_1_0_0
abbrev r0_36 : Rect S8x16x768 := Rect.unit (s := S8x16x768) ![2, 0, 0] S1x1x768.size inb_S8x16x768_S1x1x768_2_0_0
abbrev r0_37 : Rect S8x16x768 := Rect.unit (s := S8x16x768) ![3, 0, 0] S1x1x768.size inb_S8x16x768_S1x1x768_3_0_0
abbrev r0_38 : Rect S8x16x768 := Rect.unit (s := S8x16x768) ![4, 0, 0] S1x1x768.size inb_S8x16x768_S1x1x768_4_0_0
abbrev r0_39 : Rect S8x16x768 := Rect.unit (s := S8x16x768) ![5, 0, 0] S1x1x768.size inb_S8x16x768_S1x1x768_5_0_0
abbrev r0_40 : Rect S8x16x768 := Rect.unit (s := S8x16x768) ![6, 0, 0] S1x1x768.size inb_S8x16x768_S1x1x768_6_0_0
abbrev r0_41 : Rect S8x16x768 := Rect.unit (s := S8x16x768) ![7, 0, 0] S1x1x768.size inb_S8x16x768_S1x1x768_7_0_0
abbrev r0_42 : Rect S1x768 := Rect.unit (s := S1x768) ![0, 0] S1x768.size inb_S1x768_S1x768_0_0
abbrev r0_43 : Rect S8x16x768 := Rect.unit (s := S8x16x768) ![0, 8, 0] S1x1x768.size inb_S8x16x768_S1x1x768_0_8_0
abbrev r0_44 : Rect S8x16x768 := Rect.unit (s := S8x16x768) ![1, 8, 0] S1x1x768.size inb_S8x16x768_S1x1x768_1_8_0
abbrev r0_45 : Rect S8x16x768 := Rect.unit (s := S8x16x768) ![2, 8, 0] S1x1x768.size inb_S8x16x768_S1x1x768_2_8_0
abbrev r0_46 : Rect S8x16x768 := Rect.unit (s := S8x16x768) ![3, 8, 0] S1x1x768.size inb_S8x16x768_S1x1x768_3_8_0
abbrev r0_47 : Rect S8x16x768 := Rect.unit (s := S8x16x768) ![4, 8, 0] S1x1x768.size inb_S8x16x768_S1x1x768_4_8_0
abbrev r0_48 : Rect S8x16x768 := Rect.unit (s := S8x16x768) ![5, 8, 0] S1x1x768.size inb_S8x16x768_S1x1x768_5_8_0
abbrev r0_49 : Rect S8x16x768 := Rect.unit (s := S8x16x768) ![6, 8, 0] S1x1x768.size inb_S8x16x768_S1x1x768_6_8_0
abbrev r0_50 : Rect S8x16x768 := Rect.unit (s := S8x16x768) ![7, 8, 0] S1x1x768.size inb_S8x16x768_S1x1x768_7_8_0
abbrev r0_51 : Rect S8x520x128 := Rect.unit (s := S8x520x128) ![0, 0, 0] S1x512x128.size inb_S8x520x128_S1x512x128_0_0_0
abbrev r0_52 : Rect S8x520x128 := Rect.unit (s := S8x520x128) ![1, 0, 0] S1x512x128.size inb_S8x520x128_S1x512x128_1_0_0
abbrev r0_53 : Rect S8x520x128 := Rect.unit (s := S8x520x128) ![2, 0, 0] S1x512x128.size inb_S8x520x128_S1x512x128_2_0_0
abbrev r0_54 : Rect S8x520x128 := Rect.unit (s := S8x520x128) ![3, 0, 0] S1x512x128.size inb_S8x520x128_S1x512x128_3_0_0
abbrev r0_55 : Rect S8x520x128 := Rect.unit (s := S8x520x128) ![4, 0, 0] S1x512x128.size inb_S8x520x128_S1x512x128_4_0_0
abbrev r0_56 : Rect S8x520x128 := Rect.unit (s := S8x520x128) ![5, 0, 0] S1x512x128.size inb_S8x520x128_S1x512x128_5_0_0
abbrev r0_57 : Rect S8x520x128 := Rect.unit (s := S8x520x128) ![6, 0, 0] S1x512x128.size inb_S8x520x128_S1x512x128_6_0_0
abbrev r0_58 : Rect S8x520x128 := Rect.unit (s := S8x520x128) ![7, 0, 0] S1x512x128.size inb_S8x520x128_S1x512x128_7_0_0
abbrev r0_59 : Rect S512x128 := Rect.unit (s := S512x128) ![0, 0] S512x128.size inb_S512x128_S512x128_0_0
abbrev r0_60 : Rect S8x520x128 := Rect.unit (s := S8x520x128) ![0, 512, 0] S1x4x128.size inb_S8x520x128_S1x4x128_0_512_0
abbrev r0_61 : Rect S8x520x128 := Rect.unit (s := S8x520x128) ![1, 512, 0] S1x4x128.size inb_S8x520x128_S1x4x128_1_512_0
abbrev r0_62 : Rect S8x520x128 := Rect.unit (s := S8x520x128) ![2, 512, 0] S1x4x128.size inb_S8x520x128_S1x4x128_2_512_0
abbrev r0_63 : Rect S8x520x128 := Rect.unit (s := S8x520x128) ![3, 512, 0] S1x4x128.size inb_S8x520x128_S1x4x128_3_512_0
abbrev r0_64 : Rect S8x520x128 := Rect.unit (s := S8x520x128) ![4, 512, 0] S1x4x128.size inb_S8x520x128_S1x4x128_4_512_0
abbrev r0_65 : Rect S8x520x128 := Rect.unit (s := S8x520x128) ![5, 512, 0] S1x4x128.size inb_S8x520x128_S1x4x128_5_512_0
abbrev r0_66 : Rect S8x520x128 := Rect.unit (s := S8x520x128) ![6, 512, 0] S1x4x128.size inb_S8x520x128_S1x4x128_6_512_0
abbrev r0_67 : Rect S8x520x128 := Rect.unit (s := S8x520x128) ![7, 512, 0] S1x4x128.size inb_S8x520x128_S1x4x128_7_512_0
abbrev r0_68 : Rect S4x128 := Rect.unit (s := S4x128) ![0, 0] S4x128.size inb_S4x128_S4x128_0_0
abbrev r0_69 : Rect S8x768x192 := Rect.unit (s := S8x768x192) ![0, 0, 0] S1x768x192.size inb_S8x768x192_S1x768x192_0_0_0
abbrev r0_70 : Rect S8x768x192 := Rect.unit (s := S8x768x192) ![1, 0, 0] S1x768x192.size inb_S8x768x192_S1x768x192_1_0_0
abbrev r0_71 : Rect S8x768x192 := Rect.unit (s := S8x768x192) ![2, 0, 0] S1x768x192.size inb_S8x768x192_S1x768x192_2_0_0
abbrev r0_72 : Rect S8x768x192 := Rect.unit (s := S8x768x192) ![3, 0, 0] S1x768x192.size inb_S8x768x192_S1x768x192_3_0_0
abbrev r0_73 : Rect S8x768x192 := Rect.unit (s := S8x768x192) ![4, 0, 0] S1x768x192.size inb_S8x768x192_S1x768x192_4_0_0
abbrev r0_74 : Rect S8x768x192 := Rect.unit (s := S8x768x192) ![5, 0, 0] S1x768x192.size inb_S8x768x192_S1x768x192_5_0_0
abbrev r0_75 : Rect S8x768x192 := Rect.unit (s := S8x768x192) ![6, 0, 0] S1x768x192.size inb_S8x768x192_S1x768x192_6_0_0
abbrev r0_76 : Rect S8x768x192 := Rect.unit (s := S8x768x192) ![7, 0, 0] S1x768x192.size inb_S8x768x192_S1x768x192_7_0_0
abbrev r0_77 : Rect S768x192 := Rect.unit (s := S768x192) ![0, 0] S768x192.size inb_S768x192_S768x192_0_0
abbrev r0_78 : Rect S8x24x128 := Rect.unit (s := S8x24x128) ![0, 0, 0] S1x1x128.size inb_S8x24x128_S1x1x128_0_0_0
abbrev r0_79 : Rect S8x24x128 := Rect.unit (s := S8x24x128) ![1, 0, 0] S1x1x128.size inb_S8x24x128_S1x1x128_1_0_0
abbrev r0_80 : Rect S8x24x128 := Rect.unit (s := S8x24x128) ![2, 0, 0] S1x1x128.size inb_S8x24x128_S1x1x128_2_0_0
abbrev r0_81 : Rect S8x24x128 := Rect.unit (s := S8x24x128) ![3, 0, 0] S1x1x128.size inb_S8x24x128_S1x1x128_3_0_0
abbrev r0_82 : Rect S8x24x128 := Rect.unit (s := S8x24x128) ![4, 0, 0] S1x1x128.size inb_S8x24x128_S1x1x128_4_0_0
abbrev r0_83 : Rect S8x24x128 := Rect.unit (s := S8x24x128) ![5, 0, 0] S1x1x128.size inb_S8x24x128_S1x1x128_5_0_0
abbrev r0_84 : Rect S8x24x128 := Rect.unit (s := S8x24x128) ![6, 0, 0] S1x1x128.size inb_S8x24x128_S1x1x128_6_0_0
abbrev r0_85 : Rect S8x24x128 := Rect.unit (s := S8x24x128) ![7, 0, 0] S1x1x128.size inb_S8x24x128_S1x1x128_7_0_0
abbrev r0_86 : Rect S8x24x128 := Rect.unit (s := S8x24x128) ![0, 8, 0] S1x1x128.size inb_S8x24x128_S1x1x128_0_8_0
abbrev r0_87 : Rect S8x24x128 := Rect.unit (s := S8x24x128) ![1, 8, 0] S1x1x128.size inb_S8x24x128_S1x1x128_1_8_0
abbrev r0_88 : Rect S8x24x128 := Rect.unit (s := S8x24x128) ![2, 8, 0] S1x1x128.size inb_S8x24x128_S1x1x128_2_8_0
abbrev r0_89 : Rect S8x24x128 := Rect.unit (s := S8x24x128) ![3, 8, 0] S1x1x128.size inb_S8x24x128_S1x1x128_3_8_0
abbrev r0_90 : Rect S8x24x128 := Rect.unit (s := S8x24x128) ![4, 8, 0] S1x1x128.size inb_S8x24x128_S1x1x128_4_8_0
abbrev r0_91 : Rect S8x24x128 := Rect.unit (s := S8x24x128) ![5, 8, 0] S1x1x128.size inb_S8x24x128_S1x1x128_5_8_0
abbrev r0_92 : Rect S8x24x128 := Rect.unit (s := S8x24x128) ![6, 8, 0] S1x1x128.size inb_S8x24x128_S1x1x128_6_8_0
abbrev r0_93 : Rect S8x24x128 := Rect.unit (s := S8x24x128) ![7, 8, 0] S1x1x128.size inb_S8x24x128_S1x1x128_7_8_0
abbrev r0_94 : Rect S8x24x128 := Rect.unit (s := S8x24x128) ![0, 16, 0] S1x1x128.size inb_S8x24x128_S1x1x128_0_16_0
abbrev r0_95 : Rect S8x24x128 := Rect.unit (s := S8x24x128) ![1, 16, 0] S1x1x128.size inb_S8x24x128_S1x1x128_1_16_0
abbrev r0_96 : Rect S8x24x128 := Rect.unit (s := S8x24x128) ![2, 16, 0] S1x1x128.size inb_S8x24x128_S1x1x128_2_16_0
abbrev r0_97 : Rect S8x24x128 := Rect.unit (s := S8x24x128) ![3, 16, 0] S1x1x128.size inb_S8x24x128_S1x1x128_3_16_0
abbrev r0_98 : Rect S8x24x128 := Rect.unit (s := S8x24x128) ![4, 16, 0] S1x1x128.size inb_S8x24x128_S1x1x128_4_16_0
abbrev r0_99 : Rect S8x24x128 := Rect.unit (s := S8x24x128) ![5, 16, 0] S1x1x128.size inb_S8x24x128_S1x1x128_5_16_0
abbrev r0_100 : Rect S8x24x128 := Rect.unit (s := S8x24x128) ![6, 16, 0] S1x1x128.size inb_S8x24x128_S1x1x128_6_16_0
abbrev r0_101 : Rect S8x24x128 := Rect.unit (s := S8x24x128) ![7, 16, 0] S1x1x128.size inb_S8x24x128_S1x1x128_7_16_0
abbrev r0_102 : Rect S8x80x96 := Rect.unit (s := S8x80x96) ![0, 0, 0] S1x3x96.size inb_S8x80x96_S1x3x96_0_0_0
abbrev r0_103 : Rect S8x80x96 := Rect.unit (s := S8x80x96) ![1, 0, 0] S1x3x96.size inb_S8x80x96_S1x3x96_1_0_0
abbrev r0_104 : Rect S8x80x96 := Rect.unit (s := S8x80x96) ![2, 0, 0] S1x3x96.size inb_S8x80x96_S1x3x96_2_0_0
abbrev r0_105 : Rect S8x80x96 := Rect.unit (s := S8x80x96) ![3, 0, 0] S1x3x96.size inb_S8x80x96_S1x3x96_3_0_0
abbrev r0_106 : Rect S8x80x96 := Rect.unit (s := S8x80x96) ![4, 0, 0] S1x3x96.size inb_S8x80x96_S1x3x96_4_0_0
abbrev r0_107 : Rect S8x80x96 := Rect.unit (s := S8x80x96) ![5, 0, 0] S1x3x96.size inb_S8x80x96_S1x3x96_5_0_0
abbrev r0_108 : Rect S8x80x96 := Rect.unit (s := S8x80x96) ![6, 0, 0] S1x3x96.size inb_S8x80x96_S1x3x96_6_0_0
abbrev r0_109 : Rect S8x80x96 := Rect.unit (s := S8x80x96) ![7, 0, 0] S1x3x96.size inb_S8x80x96_S1x3x96_7_0_0
abbrev r0_110 : Rect S3x96 := Rect.unit (s := S3x96) ![0, 0] S3x96.size inb_S3x96_S3x96_0_0
abbrev r0_111 : Rect S8x80x96 := Rect.unit (s := S8x80x96) ![0, 8, 0] S1x1x96.size inb_S8x80x96_S1x1x96_0_8_0
abbrev r0_112 : Rect S8x80x96 := Rect.unit (s := S8x80x96) ![1, 8, 0] S1x1x96.size inb_S8x80x96_S1x1x96_1_8_0
abbrev r0_113 : Rect S8x80x96 := Rect.unit (s := S8x80x96) ![2, 8, 0] S1x1x96.size inb_S8x80x96_S1x1x96_2_8_0
abbrev r0_114 : Rect S8x80x96 := Rect.unit (s := S8x80x96) ![3, 8, 0] S1x1x96.size inb_S8x80x96_S1x1x96_3_8_0
abbrev r0_115 : Rect S8x80x96 := Rect.unit (s := S8x80x96) ![4, 8, 0] S1x1x96.size inb_S8x80x96_S1x1x96_4_8_0
abbrev r0_116 : Rect S8x80x96 := Rect.unit (s := S8x80x96) ![5, 8, 0] S1x1x96.size inb_S8x80x96_S1x1x96_5_8_0
abbrev r0_117 : Rect S8x80x96 := Rect.unit (s := S8x80x96) ![6, 8, 0] S1x1x96.size inb_S8x80x96_S1x1x96_6_8_0
abbrev r0_118 : Rect S8x80x96 := Rect.unit (s := S8x80x96) ![7, 8, 0] S1x1x96.size inb_S8x80x96_S1x1x96_7_8_0
abbrev r0_119 : Rect S1x96 := Rect.unit (s := S1x96) ![0, 0] S1x96.size inb_S1x96_S1x96_0_0
abbrev r0_120 : Rect S8x80x96 := Rect.unit (s := S8x80x96) ![0, 16, 0] S1x31x96.size inb_S8x80x96_S1x31x96_0_16_0
abbrev r0_121 : Rect S8x80x96 := Rect.unit (s := S8x80x96) ![1, 16, 0] S1x31x96.size inb_S8x80x96_S1x31x96_1_16_0
abbrev r0_122 : Rect S8x80x96 := Rect.unit (s := S8x80x96) ![2, 16, 0] S1x31x96.size inb_S8x80x96_S1x31x96_2_16_0
abbrev r0_123 : Rect S8x80x96 := Rect.unit (s := S8x80x96) ![3, 16, 0] S1x31x96.size inb_S8x80x96_S1x31x96_3_16_0
abbrev r0_124 : Rect S8x80x96 := Rect.unit (s := S8x80x96) ![4, 16, 0] S1x31x96.size inb_S8x80x96_S1x31x96_4_16_0
abbrev r0_125 : Rect S8x80x96 := Rect.unit (s := S8x80x96) ![5, 16, 0] S1x31x96.size inb_S8x80x96_S1x31x96_5_16_0
abbrev r0_126 : Rect S8x80x96 := Rect.unit (s := S8x80x96) ![6, 16, 0] S1x31x96.size inb_S8x80x96_S1x31x96_6_16_0
abbrev r0_127 : Rect S8x80x96 := Rect.unit (s := S8x80x96) ![7, 16, 0] S1x31x96.size inb_S8x80x96_S1x31x96_7_16_0
abbrev r0_128 : Rect S31x96 := Rect.unit (s := S31x96) ![0, 0] S31x96.size inb_S31x96_S31x96_0_0
abbrev r0_129 : Rect S8x80x96 := Rect.unit (s := S8x80x96) ![0, 48, 0] S1x1x96.size inb_S8x80x96_S1x1x96_0_48_0
abbrev r0_130 : Rect S8x80x96 := Rect.unit (s := S8x80x96) ![1, 48, 0] S1x1x96.size inb_S8x80x96_S1x1x96_1_48_0
abbrev r0_131 : Rect S8x80x96 := Rect.unit (s := S8x80x96) ![2, 48, 0] S1x1x96.size inb_S8x80x96_S1x1x96_2_48_0
abbrev r0_132 : Rect S8x80x96 := Rect.unit (s := S8x80x96) ![3, 48, 0] S1x1x96.size inb_S8x80x96_S1x1x96_3_48_0
abbrev r0_133 : Rect S8x80x96 := Rect.unit (s := S8x80x96) ![4, 48, 0] S1x1x96.size inb_S8x80x96_S1x1x96_4_48_0
abbrev r0_134 : Rect S8x80x96 := Rect.unit (s := S8x80x96) ![5, 48, 0] S1x1x96.size inb_S8x80x96_S1x1x96_5_48_0
abbrev r0_135 : Rect S8x80x96 := Rect.unit (s := S8x80x96) ![6, 48, 0] S1x1x96.size inb_S8x80x96_S1x1x96_6_48_0
abbrev r0_136 : Rect S8x80x96 := Rect.unit (s := S8x80x96) ![7, 48, 0] S1x1x96.size inb_S8x80x96_S1x1x96_7_48_0
abbrev r0_137 : Rect S8x80x96 := Rect.unit (s := S8x80x96) ![0, 56, 0] S1x1x96.size inb_S8x80x96_S1x1x96_0_56_0
abbrev r0_138 : Rect S8x80x96 := Rect.unit (s := S8x80x96) ![1, 56, 0] S1x1x96.size inb_S8x80x96_S1x1x96_1_56_0
abbrev r0_139 : Rect S8x80x96 := Rect.unit (s := S8x80x96) ![2, 56, 0] S1x1x96.size inb_S8x80x96_S1x1x96_2_56_0
abbrev r0_140 : Rect S8x80x96 := Rect.unit (s := S8x80x96) ![3, 56, 0] S1x1x96.size inb_S8x80x96_S1x1x96_3_56_0
abbrev r0_141 : Rect S8x80x96 := Rect.unit (s := S8x80x96) ![4, 56, 0] S1x1x96.size inb_S8x80x96_S1x1x96_4_56_0
abbrev r0_142 : Rect S8x80x96 := Rect.unit (s := S8x80x96) ![5, 56, 0] S1x1x96.size inb_S8x80x96_S1x1x96_5_56_0
abbrev r0_143 : Rect S8x80x96 := Rect.unit (s := S8x80x96) ![6, 56, 0] S1x1x96.size inb_S8x80x96_S1x1x96_6_56_0
abbrev r0_144 : Rect S8x80x96 := Rect.unit (s := S8x80x96) ![7, 56, 0] S1x1x96.size inb_S8x80x96_S1x1x96_7_56_0
abbrev r0_145 : Rect S8x80x96 := Rect.unit (s := S8x80x96) ![0, 64, 0] S1x1x96.size inb_S8x80x96_S1x1x96_0_64_0
abbrev r0_146 : Rect S8x80x96 := Rect.unit (s := S8x80x96) ![1, 64, 0] S1x1x96.size inb_S8x80x96_S1x1x96_1_64_0
abbrev r0_147 : Rect S8x80x96 := Rect.unit (s := S8x80x96) ![2, 64, 0] S1x1x96.size inb_S8x80x96_S1x1x96_2_64_0
abbrev r0_148 : Rect S8x80x96 := Rect.unit (s := S8x80x96) ![3, 64, 0] S1x1x96.size inb_S8x80x96_S1x1x96_3_64_0
abbrev r0_149 : Rect S8x80x96 := Rect.unit (s := S8x80x96) ![4, 64, 0] S1x1x96.size inb_S8x80x96_S1x1x96_4_64_0
abbrev r0_150 : Rect S8x80x96 := Rect.unit (s := S8x80x96) ![5, 64, 0] S1x1x96.size inb_S8x80x96_S1x1x96_5_64_0
abbrev r0_151 : Rect S8x80x96 := Rect.unit (s := S8x80x96) ![6, 64, 0] S1x1x96.size inb_S8x80x96_S1x1x96_6_64_0
abbrev r0_152 : Rect S8x80x96 := Rect.unit (s := S8x80x96) ![7, 64, 0] S1x1x96.size inb_S8x80x96_S1x1x96_7_64_0
abbrev r0_153 : Rect S8x80x96 := Rect.unit (s := S8x80x96) ![0, 72, 0] S1x1x96.size inb_S8x80x96_S1x1x96_0_72_0
abbrev r0_154 : Rect S8x80x96 := Rect.unit (s := S8x80x96) ![1, 72, 0] S1x1x96.size inb_S8x80x96_S1x1x96_1_72_0
abbrev r0_155 : Rect S8x80x96 := Rect.unit (s := S8x80x96) ![2, 72, 0] S1x1x96.size inb_S8x80x96_S1x1x96_2_72_0
abbrev r0_156 : Rect S8x80x96 := Rect.unit (s := S8x80x96) ![3, 72, 0] S1x1x96.size inb_S8x80x96_S1x1x96_3_72_0
abbrev r0_157 : Rect S8x80x96 := Rect.unit (s := S8x80x96) ![4, 72, 0] S1x1x96.size inb_S8x80x96_S1x1x96_4_72_0
abbrev r0_158 : Rect S8x80x96 := Rect.unit (s := S8x80x96) ![5, 72, 0] S1x1x96.size inb_S8x80x96_S1x1x96_5_72_0
abbrev r0_159 : Rect S8x80x96 := Rect.unit (s := S8x80x96) ![6, 72, 0] S1x1x96.size inb_S8x80x96_S1x1x96_6_72_0
abbrev r0_160 : Rect S8x80x96 := Rect.unit (s := S8x80x96) ![7, 72, 0] S1x1x96.size inb_S8x80x96_S1x1x96_7_72_0

/-! ## The values the body computes, from the blocks they depend on -/

def val108 (x0 : Vec F S8x24x1024 .f32) : FVec F S1x1024 .f32 :=
  k0_pay3 (View.ld x0 r0_9)
def val109 (x0 : Vec F S8x24x1024 .f32) : FVec F S1x1024 .f32 :=
  k0_pay4 (val108 x0) (View.ld x0 r0_10) (View.ld x0 r0_11) (View.ld x0 r0_12) (View.ld x0 r0_13) (View.ld x0 r0_14) (View.ld x0 r0_15) (View.ld x0 r0_16)
def val110 (x0 : Vec F S8x24x1024 .f32) (x8 : Vec F S1x1024 .f32) : FVec F S1x1024 .f32 :=
  k0_pay5 (val108 x0) (View.ld x0 r0_10) (View.ld x0 r0_11) (View.ld x0 r0_12) (View.ld x0 r0_13) (View.ld x0 r0_14) (View.ld x0 r0_15) (View.ld x0 r0_16) (View.ld x8 r0_17)
def val111  : FVec F S1x1024 .f32 :=
  k0_pay6 (F := F)
def val112 (x0 : Vec F S8x24x1024 .f32) : FVec F S1x1024 .f32 :=
  k0_pay9 (View.ld x0 r0_18) (View.ld x0 r0_19) (View.ld x0 r0_20) (View.ld x0 r0_21)
def val113 (x0 : Vec F S8x24x1024 .f32) : FVec F S1x1024 .f32 :=
  k0_pay17 (View.ld x0 r0_26) (View.ld x0 r0_27) (View.ld x0 r0_28) (View.ld x0 r0_29) (View.ld x0 r0_30) (View.ld x0 r0_31)
def val114 (x1 : Vec F S8x16x768 .f32) : FVec F S1x768 .f32 :=
  k0_pay22 (View.ld x1 r0_34) (View.ld x1 r0_35) (View.ld x1 r0_36) (View.ld x1 r0_37) (View.ld x1 r0_38) (View.ld x1 r0_39) (View.ld x1 r0_40) (View.ld x1 r0_41)
def val115 (x1 : Vec F S8x16x768 .f32) : FVec F S1x768 .f32 :=
  k0_pay26 (View.ld x1 r0_43)
def val116 (x1 : Vec F S8x16x768 .f32) : FVec F S1x768 .f32 :=
  k0_pay27 (val115 x1) (View.ld x1 r0_44) (View.ld x1 r0_45) (View.ld x1 r0_46) (View.ld x1 r0_47) (View.ld x1 r0_48) (View.ld x1 r0_49) (View.ld x1 r0_50)
def val117 (x1 : Vec F S8x16x768 .f32) (x20 : Vec F S1x768 .f32) : FVec F S1x768 .f32 :=
  k0_pay28 (val115 x1) (View.ld x1 r0_44) (View.ld x1 r0_45) (View.ld x1 r0_46) (View.ld x1 r0_47) (View.ld x1 r0_48) (View.ld x1 r0_49) (View.ld x1 r0_50) (View.ld x20 r0_42)
def val118  : FVec F S1x768 .f32 :=
  k0_pay29 (F := F)
def val119 (x2 : Vec F S8x520x128 .f32) : FVec F S512x128 .f32 :=
  k0_pay32 (View.ld x2 r0_51) (View.ld x2 r0_52) (View.ld x2 r0_53) (View.ld x2 r0_54)
def val120 (x2 : Vec F S8x520x128 .f32) : FVec F S4x128 .f32 :=
  k0_pay40 (View.ld x2 r0_60) (View.ld x2 r0_61) (View.ld x2 r0_62) (View.ld x2 r0_63) (View.ld x2 r0_64) (View.ld x2 r0_65)
def val121 (x3 : Vec F S8x768x192 .f32) : FVec F S768x192 .f32 :=
  k0_pay45 (View.ld x3 r0_69) (View.ld x3 r0_70) (View.ld x3 r0_71) (View.ld x3 r0_72) (View.ld x3 r0_73) (View.ld x3 r0_74) (View.ld x3 r0_75) (View.ld x3 r0_76)
def val122 (x4 : Vec F S8x24x128 .f32) : FVec F S1x128 .f32 :=
  k0_pay49 (View.ld x4 r0_78)
def val123 (x4 : Vec F S8x24x128 .f32) : FVec F S1x128 .f32 :=
  k0_pay50 (val122 x4) (View.ld x4 r0_79) (View.ld x4 r0_80) (View.ld x4 r0_81) (View.ld x4 r0_82) (View.ld x4 r0_83) (View.ld x4 r0_84) (View.ld x4 r0_85)
def val124 (x4 : Vec F S8x24x128 .f32) (x32 : Vec F S1x128 .f32) : FVec F S1x128 .f32 :=
  k0_pay51 (val122 x4) (View.ld x4 r0_79) (View.ld x4 r0_80) (View.ld x4 r0_81) (View.ld x4 r0_82) (View.ld x4 r0_83) (View.ld x4 r0_84) (View.ld x4 r0_85) (View.ld x32 r0_8)
def val125  : FVec F S1x128 .f32 :=
  k0_pay52 (F := F)
def val126 (x4 : Vec F S8x24x128 .f32) : FVec F S1x128 .f32 :=
  k0_pay55 (View.ld x4 r0_86) (View.ld x4 r0_87) (View.ld x4 r0_88) (View.ld x4 r0_89)
def val127 (x4 : Vec F S8x24x128 .f32) : FVec F S1x128 .f32 :=
  k0_pay63 (View.ld x4 r0_94) (View.ld x4 r0_95) (View.ld x4 r0_96) (View.ld x4 r0_97) (View.ld x4 r0_98) (View.ld x4 r0_99)
def val128 (x5 : Vec F S8x80x96 .f32) : FVec F S3x96 .f32 :=
  k0_pay68 (View.ld x5 r0_102) (View.ld x5 r0_103) (View.ld x5 r0_104) (View.ld x5 r0_105) (View.ld x5 r0_106) (View.ld x5 r0_107) (View.ld x5 r0_108) (View.ld x5 r0_109)
def val129 (x5 : Vec F S8x80x96 .f32) : FVec F S1x96 .f32 :=
  k0_pay72 (View.ld x5 r0_111)
def val130 (x5 : Vec F S8x80x96 .f32) : FVec F S1x96 .f32 :=
  k0_pay73 (val129 x5) (View.ld x5 r0_112) (View.ld x5 r0_113) (View.ld x5 r0_114) (View.ld x5 r0_115) (View.ld x5 r0_116) (View.ld x5 r0_117) (View.ld x5 r0_118)
def val131 (x5 : Vec F S8x80x96 .f32) (x44 : Vec F S1x96 .f32) : FVec F S1x96 .f32 :=
  k0_pay74 (val129 x5) (View.ld x5 r0_112) (View.ld x5 r0_113) (View.ld x5 r0_114) (View.ld x5 r0_115) (View.ld x5 r0_116) (View.ld x5 r0_117) (View.ld x5 r0_118) (View.ld x44 r0_119)
def val132  : FVec F S1x96 .f32 :=
  k0_pay75 (F := F)
def val133 (x5 : Vec F S8x80x96 .f32) : FVec F S31x96 .f32 :=
  k0_pay78 (View.ld x5 r0_120) (View.ld x5 r0_121) (View.ld x5 r0_122) (View.ld x5 r0_123)
def val134 (x5 : Vec F S8x80x96 .f32) : FVec F S1x96 .f32 :=
  k0_pay86 (View.ld x5 r0_129) (View.ld x5 r0_130) (View.ld x5 r0_131) (View.ld x5 r0_132) (View.ld x5 r0_133) (View.ld x5 r0_134)
def val135 (x5 : Vec F S8x80x96 .f32) : FVec F S1x96 .f32 :=
  k0_pay91 (View.ld x5 r0_137) (View.ld x5 r0_138) (View.ld x5 r0_139) (View.ld x5 r0_140) (View.ld x5 r0_141) (View.ld x5 r0_142) (View.ld x5 r0_143) (View.ld x5 r0_144)
def val136 (x5 : Vec F S8x80x96 .f32) : FVec F S1x96 .f32 :=
  k0_pay95 (View.ld x5 r0_145)
def val137 (x5 : Vec F S8x80x96 .f32) : FVec F S1x96 .f32 :=
  k0_pay96 (val136 x5) (View.ld x5 r0_146) (View.ld x5 r0_147) (View.ld x5 r0_148) (View.ld x5 r0_149) (View.ld x5 r0_150) (View.ld x5 r0_151) (View.ld x5 r0_152)
def val138 (x5 : Vec F S8x80x96 .f32) (x56 : Vec F S1x96 .f32) : FVec F S1x96 .f32 :=
  k0_pay97 (val136 x5) (View.ld x5 r0_146) (View.ld x5 r0_147) (View.ld x5 r0_148) (View.ld x5 r0_149) (View.ld x5 r0_150) (View.ld x5 r0_151) (View.ld x5 r0_152) (View.ld x56 r0_119)
def val139  : FVec F S1x96 .f32 :=
  k0_pay98 (F := F)
def val140 (x5 : Vec F S8x80x96 .f32) : FVec F S1x96 .f32 :=
  k0_pay101 (View.ld x5 r0_153) (View.ld x5 r0_154) (View.ld x5 r0_155) (View.ld x5 r0_156)

/-! ## What the body leaves in each output's buffer -/

def out61 (x0 : Vec F S8x24x1024 .f32) : Vec F S1x1024 .f32 :=
  View.canon [⟨r0_17, k0_pay4 (val108 x0) (View.ld x0 r0_10) (View.ld x0 r0_11) (View.ld x0 r0_12) (View.ld x0 r0_13) (View.ld x0 r0_14) (View.ld x0 r0_15) (View.ld x0 r0_16)⟩]
def out62 (x0 : Vec F S8x24x1024 .f32) (x7 : Vec F S1x1024 .f32) (x8 : Vec F S1x1024 .f32) (x9 : Vec F S1x1024 .f32) : Vec F S1x1024 .f32 :=
  View.canon [⟨r0_17, k0_pay8 (val109 x0) (View.ld x7 r0_17) (View.ld x9 r0_17) (val110 x0 x8) (val111 )⟩]
def out63 (x0 : Vec F S8x24x1024 .f32) (x8 : Vec F S1x1024 .f32) : Vec F S1x1024 .f32 :=
  View.canon [⟨r0_17, val110 x0 x8⟩]
def out64 (x0 : Vec F S8x24x1024 .f32) (x9 : Vec F S1x1024 .f32) : Vec F S1x1024 .f32 :=
  View.canon [⟨r0_17, k0_pay7 (val109 x0) (View.ld x9 r0_17) (val111 )⟩]
def out65 (x0 : Vec F S8x24x1024 .f32) : Vec F S1x1024 .f32 :=
  View.canon [⟨r0_17, k0_pay10 (val112 x0) (View.ld x0 r0_22) (View.ld x0 r0_23) (View.ld x0 r0_24) (View.ld x0 r0_25)⟩]
def out66 (x0 : Vec F S8x24x1024 .f32) (x10 : Vec F S1x1024 .f32) (x11 : Vec F S1x1024 .f32) (x12 : Vec F S1x1024 .f32) : Vec F S1x1024 .f32 :=
  View.canon [⟨r0_17, k0_pay16 (View.ld x10 r0_17) (k0_pay13 (val112 x0) (View.ld x0 r0_22) (View.ld x0 r0_23) (View.ld x0 r0_24) (View.ld x0 r0_25) (View.ld x11 r0_17)) (k0_pay14 (val112 x0) (View.ld x0 r0_22) (View.ld x0 r0_23) (View.ld x0 r0_24) (View.ld x0 r0_25) (View.ld x12 r0_17)) (k0_pay15 (F := F))⟩]
def out67 (x0 : Vec F S8x24x1024 .f32) (x11 : Vec F S1x1024 .f32) : Vec F S1x1024 .f32 :=
  View.canon [⟨r0_17, k0_pay11 (val112 x0) (View.ld x0 r0_22) (View.ld x0 r0_23) (View.ld x0 r0_24) (View.ld x0 r0_25) (View.ld x11 r0_17)⟩]
def out68 (x0 : Vec F S8x24x1024 .f32) (x12 : Vec F S1x1024 .f32) : Vec F S1x1024 .f32 :=
  View.canon [⟨r0_17, k0_pay12 (val112 x0) (View.ld x0 r0_22) (View.ld x0 r0_23) (View.ld x0 r0_24) (View.ld x0 r0_25) (View.ld x12 r0_17)⟩]
def out69 (x0 : Vec F S8x24x1024 .f32) : Vec F S1x1024 .f32 :=
  View.canon [⟨r0_17, k0_pay18 (val113 x0) (View.ld x0 r0_32) (View.ld x0 r0_33)⟩]
def out70 (x0 : Vec F S8x24x1024 .f32) (x13 : Vec F S1x1024 .f32) (x14 : Vec F S1x1024 .f32) (x15 : Vec F S1x1024 .f32) : Vec F S1x1024 .f32 :=
  View.canon [⟨r0_17, k0_pay21 (val113 x0) (View.ld x0 r0_32) (View.ld x0 r0_33) (View.ld x13 r0_17) (View.ld x14 r0_17) (View.ld x15 r0_17)⟩]
def out71 (x0 : Vec F S8x24x1024 .f32) (x14 : Vec F S1x1024 .f32) : Vec F S1x1024 .f32 :=
  View.canon [⟨r0_17, k0_pay19 (val113 x0) (View.ld x0 r0_32) (View.ld x0 r0_33) (View.ld x14 r0_17)⟩]
def out72 (x0 : Vec F S8x24x1024 .f32) (x15 : Vec F S1x1024 .f32) : Vec F S1x1024 .f32 :=
  View.canon [⟨r0_17, k0_pay20 (val113 x0) (View.ld x0 r0_32) (View.ld x0 r0_33) (View.ld x15 r0_17)⟩]
def out73 (x1 : Vec F S8x16x768 .f32) : Vec F S1x768 .f32 :=
  View.canon [⟨r0_42, k0_pay22 (View.ld x1 r0_34) (View.ld x1 r0_35) (View.ld x1 r0_36) (View.ld x1 r0_37) (View.ld x1 r0_38) (View.ld x1 r0_39) (View.ld x1 r0_40) (View.ld x1 r0_41)⟩]
def out74 (x1 : Vec F S8x16x768 .f32) (x16 : Vec F S1x768 .f32) (x17 : Vec F S1x768 .f32) (x18 : Vec F S1x768 .f32) : Vec F S1x768 .f32 :=
  View.canon [⟨r0_42, k0_pay25 (val114 x1) (View.ld x16 r0_42) (View.ld x17 r0_42) (View.ld x18 r0_42)⟩]
def out75 (x1 : Vec F S8x16x768 .f32) (x17 : Vec F S1x768 .f32) : Vec F S1x768 .f32 :=
  View.canon [⟨r0_42, k0_pay23 (val114 x1) (View.ld x17 r0_42)⟩]
def out76 (x1 : Vec F S8x16x768 .f32) (x18 : Vec F S1x768 .f32) : Vec F S1x768 .f32 :=
  View.canon [⟨r0_42, k0_pay24 (val114 x1) (View.ld x18 r0_42)⟩]
def out77 (x1 : Vec F S8x16x768 .f32) : Vec F S1x768 .f32 :=
  View.canon [⟨r0_42, k0_pay27 (val115 x1) (View.ld x1 r0_44) (View.ld x1 r0_45) (View.ld x1 r0_46) (View.ld x1 r0_47) (View.ld x1 r0_48) (View.ld x1 r0_49) (View.ld x1 r0_50)⟩]
def out78 (x1 : Vec F S8x16x768 .f32) (x19 : Vec F S1x768 .f32) (x20 : Vec F S1x768 .f32) (x21 : Vec F S1x768 .f32) : Vec F S1x768 .f32 :=
  View.canon [⟨r0_42, k0_pay31 (val116 x1) (View.ld x19 r0_42) (View.ld x21 r0_42) (val117 x1 x20) (val118 )⟩]
def out79 (x1 : Vec F S8x16x768 .f32) (x20 : Vec F S1x768 .f32) : Vec F S1x768 .f32 :=
  View.canon [⟨r0_42, val117 x1 x20⟩]
def out80 (x1 : Vec F S8x16x768 .f32) (x21 : Vec F S1x768 .f32) : Vec F S1x768 .f32 :=
  View.canon [⟨r0_42, k0_pay30 (val116 x1) (View.ld x21 r0_42) (val118 )⟩]
def out81 (x2 : Vec F S8x520x128 .f32) : Vec F S512x128 .f32 :=
  View.canon [⟨r0_59, k0_pay33 (val119 x2) (View.ld x2 r0_55) (View.ld x2 r0_56) (View.ld x2 r0_57) (View.ld x2 r0_58)⟩]
def out82 (x2 : Vec F S8x520x128 .f32) (x22 : Vec F S512x128 .f32) (x23 : Vec F S512x128 .f32) (x24 : Vec F S512x128 .f32) : Vec F S512x128 .f32 :=
  View.canon [⟨r0_59, k0_pay39 (View.ld x22 r0_59) (k0_pay36 (val119 x2) (View.ld x2 r0_55) (View.ld x2 r0_56) (View.ld x2 r0_57) (View.ld x2 r0_58) (View.ld x23 r0_59)) (k0_pay37 (val119 x2) (View.ld x2 r0_55) (View.ld x2 r0_56) (View.ld x2 r0_57) (View.ld x2 r0_58) (View.ld x24 r0_59)) (k0_pay38 (F := F))⟩]
def out83 (x2 : Vec F S8x520x128 .f32) (x23 : Vec F S512x128 .f32) : Vec F S512x128 .f32 :=
  View.canon [⟨r0_59, k0_pay34 (val119 x2) (View.ld x2 r0_55) (View.ld x2 r0_56) (View.ld x2 r0_57) (View.ld x2 r0_58) (View.ld x23 r0_59)⟩]
def out84 (x2 : Vec F S8x520x128 .f32) (x24 : Vec F S512x128 .f32) : Vec F S512x128 .f32 :=
  View.canon [⟨r0_59, k0_pay35 (val119 x2) (View.ld x2 r0_55) (View.ld x2 r0_56) (View.ld x2 r0_57) (View.ld x2 r0_58) (View.ld x24 r0_59)⟩]
def out85 (x2 : Vec F S8x520x128 .f32) : Vec F S4x128 .f32 :=
  View.canon [⟨r0_68, k0_pay41 (val120 x2) (View.ld x2 r0_66) (View.ld x2 r0_67)⟩]
def out86 (x2 : Vec F S8x520x128 .f32) (x25 : Vec F S4x128 .f32) (x26 : Vec F S4x128 .f32) (x27 : Vec F S4x128 .f32) : Vec F S4x128 .f32 :=
  View.canon [⟨r0_68, k0_pay44 (val120 x2) (View.ld x2 r0_66) (View.ld x2 r0_67) (View.ld x25 r0_68) (View.ld x26 r0_68) (View.ld x27 r0_68)⟩]
def out87 (x2 : Vec F S8x520x128 .f32) (x26 : Vec F S4x128 .f32) : Vec F S4x128 .f32 :=
  View.canon [⟨r0_68, k0_pay42 (val120 x2) (View.ld x2 r0_66) (View.ld x2 r0_67) (View.ld x26 r0_68)⟩]
def out88 (x2 : Vec F S8x520x128 .f32) (x27 : Vec F S4x128 .f32) : Vec F S4x128 .f32 :=
  View.canon [⟨r0_68, k0_pay43 (val120 x2) (View.ld x2 r0_66) (View.ld x2 r0_67) (View.ld x27 r0_68)⟩]
def out89 (x3 : Vec F S8x768x192 .f32) : Vec F S768x192 .f32 :=
  View.canon [⟨r0_77, k0_pay45 (View.ld x3 r0_69) (View.ld x3 r0_70) (View.ld x3 r0_71) (View.ld x3 r0_72) (View.ld x3 r0_73) (View.ld x3 r0_74) (View.ld x3 r0_75) (View.ld x3 r0_76)⟩]
def out90 (x3 : Vec F S8x768x192 .f32) (x28 : Vec F S768x192 .f32) (x29 : Vec F S768x192 .f32) (x30 : Vec F S768x192 .f32) : Vec F S768x192 .f32 :=
  View.canon [⟨r0_77, k0_pay48 (val121 x3) (View.ld x28 r0_77) (View.ld x29 r0_77) (View.ld x30 r0_77)⟩]
def out91 (x3 : Vec F S8x768x192 .f32) (x29 : Vec F S768x192 .f32) : Vec F S768x192 .f32 :=
  View.canon [⟨r0_77, k0_pay46 (val121 x3) (View.ld x29 r0_77)⟩]
def out92 (x3 : Vec F S8x768x192 .f32) (x30 : Vec F S768x192 .f32) : Vec F S768x192 .f32 :=
  View.canon [⟨r0_77, k0_pay47 (val121 x3) (View.ld x30 r0_77)⟩]
def out93 (x4 : Vec F S8x24x128 .f32) : Vec F S1x128 .f32 :=
  View.canon [⟨r0_8, k0_pay50 (val122 x4) (View.ld x4 r0_79) (View.ld x4 r0_80) (View.ld x4 r0_81) (View.ld x4 r0_82) (View.ld x4 r0_83) (View.ld x4 r0_84) (View.ld x4 r0_85)⟩]
def out94 (x4 : Vec F S8x24x128 .f32) (x31 : Vec F S1x128 .f32) (x32 : Vec F S1x128 .f32) (x33 : Vec F S1x128 .f32) : Vec F S1x128 .f32 :=
  View.canon [⟨r0_8, k0_pay54 (val123 x4) (View.ld x31 r0_8) (View.ld x33 r0_8) (val124 x4 x32) (val125 )⟩]
def out95 (x4 : Vec F S8x24x128 .f32) (x32 : Vec F S1x128 .f32) : Vec F S1x128 .f32 :=
  View.canon [⟨r0_8, val124 x4 x32⟩]
def out96 (x4 : Vec F S8x24x128 .f32) (x33 : Vec F S1x128 .f32) : Vec F S1x128 .f32 :=
  View.canon [⟨r0_8, k0_pay53 (val123 x4) (View.ld x33 r0_8) (val125 )⟩]
def out97 (x4 : Vec F S8x24x128 .f32) : Vec F S1x128 .f32 :=
  View.canon [⟨r0_8, k0_pay56 (val126 x4) (View.ld x4 r0_90) (View.ld x4 r0_91) (View.ld x4 r0_92) (View.ld x4 r0_93)⟩]
def out98 (x4 : Vec F S8x24x128 .f32) (x34 : Vec F S1x128 .f32) (x35 : Vec F S1x128 .f32) (x36 : Vec F S1x128 .f32) : Vec F S1x128 .f32 :=
  View.canon [⟨r0_8, k0_pay62 (View.ld x34 r0_8) (k0_pay59 (val126 x4) (View.ld x4 r0_90) (View.ld x4 r0_91) (View.ld x4 r0_92) (View.ld x4 r0_93) (View.ld x35 r0_8)) (k0_pay60 (val126 x4) (View.ld x4 r0_90) (View.ld x4 r0_91) (View.ld x4 r0_92) (View.ld x4 r0_93) (View.ld x36 r0_8)) (k0_pay61 (F := F))⟩]
def out99 (x4 : Vec F S8x24x128 .f32) (x35 : Vec F S1x128 .f32) : Vec F S1x128 .f32 :=
  View.canon [⟨r0_8, k0_pay57 (val126 x4) (View.ld x4 r0_90) (View.ld x4 r0_91) (View.ld x4 r0_92) (View.ld x4 r0_93) (View.ld x35 r0_8)⟩]
def out100 (x4 : Vec F S8x24x128 .f32) (x36 : Vec F S1x128 .f32) : Vec F S1x128 .f32 :=
  View.canon [⟨r0_8, k0_pay58 (val126 x4) (View.ld x4 r0_90) (View.ld x4 r0_91) (View.ld x4 r0_92) (View.ld x4 r0_93) (View.ld x36 r0_8)⟩]
def out101 (x4 : Vec F S8x24x128 .f32) : Vec F S1x128 .f32 :=
  View.canon [⟨r0_8, k0_pay64 (val127 x4) (View.ld x4 r0_100) (View.ld x4 r0_101)⟩]
def out102 (x4 : Vec F S8x24x128 .f32) (x37 : Vec F S1x128 .f32) (x38 : Vec F S1x128 .f32) (x39 : Vec F S1x128 .f32) : Vec F S1x128 .f32 :=
  View.canon [⟨r0_8, k0_pay67 (val127 x4) (View.ld x4 r0_100) (View.ld x4 r0_101) (View.ld x37 r0_8) (View.ld x38 r0_8) (View.ld x39 r0_8)⟩]
def out103 (x4 : Vec F S8x24x128 .f32) (x38 : Vec F S1x128 .f32) : Vec F S1x128 .f32 :=
  View.canon [⟨r0_8, k0_pay65 (val127 x4) (View.ld x4 r0_100) (View.ld x4 r0_101) (View.ld x38 r0_8)⟩]
def out104 (x4 : Vec F S8x24x128 .f32) (x39 : Vec F S1x128 .f32) : Vec F S1x128 .f32 :=
  View.canon [⟨r0_8, k0_pay66 (val127 x4) (View.ld x4 r0_100) (View.ld x4 r0_101) (View.ld x39 r0_8)⟩]
def out105 (x5 : Vec F S8x80x96 .f32) : Vec F S3x96 .f32 :=
  View.canon [⟨r0_110, k0_pay68 (View.ld x5 r0_102) (View.ld x5 r0_103) (View.ld x5 r0_104) (View.ld x5 r0_105) (View.ld x5 r0_106) (View.ld x5 r0_107) (View.ld x5 r0_108) (View.ld x5 r0_109)⟩]
def out106 (x5 : Vec F S8x80x96 .f32) (x40 : Vec F S3x96 .f32) (x41 : Vec F S3x96 .f32) (x42 : Vec F S3x96 .f32) : Vec F S3x96 .f32 :=
  View.canon [⟨r0_110, k0_pay71 (val128 x5) (View.ld x40 r0_110) (View.ld x41 r0_110) (View.ld x42 r0_110)⟩]
def out107 (x5 : Vec F S8x80x96 .f32) (x41 : Vec F S3x96 .f32) : Vec F S3x96 .f32 :=
  View.canon [⟨r0_110, k0_pay69 (val128 x5) (View.ld x41 r0_110)⟩]
def out108 (x5 : Vec F S8x80x96 .f32) (x42 : Vec F S3x96 .f32) : Vec F S3x96 .f32 :=
  View.canon [⟨r0_110, k0_pay70 (val128 x5) (View.ld x42 r0_110)⟩]
def out109 (x5 : Vec F S8x80x96 .f32) : Vec F S1x96 .f32 :=
  View.canon [⟨r0_119, k0_pay73 (val129 x5) (View.ld x5 r0_112) (View.ld x5 r0_113) (View.ld x5 r0_114) (View.ld x5 r0_115) (View.ld x5 r0_116) (View.ld x5 r0_117) (View.ld x5 r0_118)⟩]
def out110 (x5 : Vec F S8x80x96 .f32) (x43 : Vec F S1x96 .f32) (x44 : Vec F S1x96 .f32) (x45 : Vec F S1x96 .f32) : Vec F S1x96 .f32 :=
  View.canon [⟨r0_119, k0_pay77 (val130 x5) (View.ld x43 r0_119) (View.ld x45 r0_119) (val131 x5 x44) (val132 )⟩]
def out111 (x5 : Vec F S8x80x96 .f32) (x44 : Vec F S1x96 .f32) : Vec F S1x96 .f32 :=
  View.canon [⟨r0_119, val131 x5 x44⟩]
def out112 (x5 : Vec F S8x80x96 .f32) (x45 : Vec F S1x96 .f32) : Vec F S1x96 .f32 :=
  View.canon [⟨r0_119, k0_pay76 (val130 x5) (View.ld x45 r0_119) (val132 )⟩]
def out113 (x5 : Vec F S8x80x96 .f32) : Vec F S31x96 .f32 :=
  View.canon [⟨r0_128, k0_pay79 (val133 x5) (View.ld x5 r0_124) (View.ld x5 r0_125) (View.ld x5 r0_126) (View.ld x5 r0_127)⟩]
def out114 (x5 : Vec F S8x80x96 .f32) (x46 : Vec F S31x96 .f32) (x47 : Vec F S31x96 .f32) (x48 : Vec F S31x96 .f32) : Vec F S31x96 .f32 :=
  View.canon [⟨r0_128, k0_pay85 (View.ld x46 r0_128) (k0_pay82 (val133 x5) (View.ld x5 r0_124) (View.ld x5 r0_125) (View.ld x5 r0_126) (View.ld x5 r0_127) (View.ld x47 r0_128)) (k0_pay83 (val133 x5) (View.ld x5 r0_124) (View.ld x5 r0_125) (View.ld x5 r0_126) (View.ld x5 r0_127) (View.ld x48 r0_128)) (k0_pay84 (F := F))⟩]
def out115 (x5 : Vec F S8x80x96 .f32) (x47 : Vec F S31x96 .f32) : Vec F S31x96 .f32 :=
  View.canon [⟨r0_128, k0_pay80 (val133 x5) (View.ld x5 r0_124) (View.ld x5 r0_125) (View.ld x5 r0_126) (View.ld x5 r0_127) (View.ld x47 r0_128)⟩]
def out116 (x5 : Vec F S8x80x96 .f32) (x48 : Vec F S31x96 .f32) : Vec F S31x96 .f32 :=
  View.canon [⟨r0_128, k0_pay81 (val133 x5) (View.ld x5 r0_124) (View.ld x5 r0_125) (View.ld x5 r0_126) (View.ld x5 r0_127) (View.ld x48 r0_128)⟩]
def out117 (x5 : Vec F S8x80x96 .f32) : Vec F S1x96 .f32 :=
  View.canon [⟨r0_119, k0_pay87 (val134 x5) (View.ld x5 r0_135) (View.ld x5 r0_136)⟩]
def out118 (x5 : Vec F S8x80x96 .f32) (x49 : Vec F S1x96 .f32) (x50 : Vec F S1x96 .f32) (x51 : Vec F S1x96 .f32) : Vec F S1x96 .f32 :=
  View.canon [⟨r0_119, k0_pay90 (val134 x5) (View.ld x5 r0_135) (View.ld x5 r0_136) (View.ld x49 r0_119) (View.ld x50 r0_119) (View.ld x51 r0_119)⟩]
def out119 (x5 : Vec F S8x80x96 .f32) (x50 : Vec F S1x96 .f32) : Vec F S1x96 .f32 :=
  View.canon [⟨r0_119, k0_pay88 (val134 x5) (View.ld x5 r0_135) (View.ld x5 r0_136) (View.ld x50 r0_119)⟩]
def out120 (x5 : Vec F S8x80x96 .f32) (x51 : Vec F S1x96 .f32) : Vec F S1x96 .f32 :=
  View.canon [⟨r0_119, k0_pay89 (val134 x5) (View.ld x5 r0_135) (View.ld x5 r0_136) (View.ld x51 r0_119)⟩]
def out121 (x5 : Vec F S8x80x96 .f32) : Vec F S1x96 .f32 :=
  View.canon [⟨r0_119, k0_pay91 (View.ld x5 r0_137) (View.ld x5 r0_138) (View.ld x5 r0_139) (View.ld x5 r0_140) (View.ld x5 r0_141) (View.ld x5 r0_142) (View.ld x5 r0_143) (View.ld x5 r0_144)⟩]
def out122 (x5 : Vec F S8x80x96 .f32) (x52 : Vec F S1x96 .f32) (x53 : Vec F S1x96 .f32) (x54 : Vec F S1x96 .f32) : Vec F S1x96 .f32 :=
  View.canon [⟨r0_119, k0_pay94 (val135 x5) (View.ld x52 r0_119) (View.ld x53 r0_119) (View.ld x54 r0_119)⟩]
def out123 (x5 : Vec F S8x80x96 .f32) (x53 : Vec F S1x96 .f32) : Vec F S1x96 .f32 :=
  View.canon [⟨r0_119, k0_pay92 (val135 x5) (View.ld x53 r0_119)⟩]
def out124 (x5 : Vec F S8x80x96 .f32) (x54 : Vec F S1x96 .f32) : Vec F S1x96 .f32 :=
  View.canon [⟨r0_119, k0_pay93 (val135 x5) (View.ld x54 r0_119)⟩]
def out125 (x5 : Vec F S8x80x96 .f32) : Vec F S1x96 .f32 :=
  View.canon [⟨r0_119, k0_pay96 (val136 x5) (View.ld x5 r0_146) (View.ld x5 r0_147) (View.ld x5 r0_148) (View.ld x5 r0_149) (View.ld x5 r0_150) (View.ld x5 r0_151) (View.ld x5 r0_152)⟩]
def out126 (x5 : Vec F S8x80x96 .f32) (x55 : Vec F S1x96 .f32) (x56 : Vec F S1x96 .f32) (x57 : Vec F S1x96 .f32) : Vec F S1x96 .f32 :=
  View.canon [⟨r0_119, k0_pay100 (val137 x5) (View.ld x55 r0_119) (View.ld x57 r0_119) (val138 x5 x56) (val139 )⟩]
def out127 (x5 : Vec F S8x80x96 .f32) (x56 : Vec F S1x96 .f32) : Vec F S1x96 .f32 :=
  View.canon [⟨r0_119, val138 x5 x56⟩]
def out128 (x5 : Vec F S8x80x96 .f32) (x57 : Vec F S1x96 .f32) : Vec F S1x96 .f32 :=
  View.canon [⟨r0_119, k0_pay99 (val137 x5) (View.ld x57 r0_119) (val139 )⟩]
def out129 (x5 : Vec F S8x80x96 .f32) : Vec F S1x96 .f32 :=
  View.canon [⟨r0_119, k0_pay102 (val140 x5) (View.ld x5 r0_157) (View.ld x5 r0_158) (View.ld x5 r0_159) (View.ld x5 r0_160)⟩]
def out130 (x5 : Vec F S8x80x96 .f32) (x58 : Vec F S1x96 .f32) (x59 : Vec F S1x96 .f32) (x60 : Vec F S1x96 .f32) : Vec F S1x96 .f32 :=
  View.canon [⟨r0_119, k0_pay1 (View.ld x58 r0_119) (k0_pay105 (val140 x5) (View.ld x5 r0_157) (View.ld x5 r0_158) (View.ld x5 r0_159) (View.ld x5 r0_160) (View.ld x59 r0_119)) (k0_pay106 (val140 x5) (View.ld x5 r0_157) (View.ld x5 r0_158) (View.ld x5 r0_159) (View.ld x5 r0_160) (View.ld x60 r0_119)) (k0_pay107 (F := F))⟩]
def out131 (x5 : Vec F S8x80x96 .f32) (x59 : Vec F S1x96 .f32) : Vec F S1x96 .f32 :=
  View.canon [⟨r0_119, k0_pay103 (val140 x5) (View.ld x5 r0_157) (View.ld x5 r0_158) (View.ld x5 r0_159) (View.ld x5 r0_160) (View.ld x59 r0_119)⟩]
def out132 (x5 : Vec F S8x80x96 .f32) (x60 : Vec F S1x96 .f32) : Vec F S1x96 .f32 :=
  View.canon [⟨r0_119, k0_pay104 (val140 x5) (View.ld x5 r0_157) (View.ld x5 r0_158) (View.ld x5 r0_159) (View.ld x5 r0_160) (View.ld x60 r0_119)⟩]
def out133 (x6 : Vec F S8x8x128 .f32) : Vec F S1x128 .f32 :=
  View.canon [⟨r0_8, k0_pay2 (View.ld x6 r0_0) (View.ld x6 r0_1) (View.ld x6 r0_2) (View.ld x6 r0_3) (View.ld x6 r0_4) (View.ld x6 r0_5) (View.ld x6 r0_6) (View.ld x6 r0_7)⟩]

/-! ## Each store covers its buffer -/

theorem cover_r0_110 (p0 : Vec F S3x96 .f32) (y : S3x96.Idx) :
    ∃ pc ∈ ([⟨r0_110, p0⟩] : List (View.Piece (Elt F) S3x96 .f32)), y ∈ pc.1.set :=
  View.cover_of_tiled [⟨r0_110, p0⟩] S3x96.size (by rfl) y
theorem cover_r0_119 (p0 : Vec F S1x96 .f32) (y : S1x96.Idx) :
    ∃ pc ∈ ([⟨r0_119, p0⟩] : List (View.Piece (Elt F) S1x96 .f32)), y ∈ pc.1.set :=
  View.cover_of_tiled [⟨r0_119, p0⟩] S1x96.size (by rfl) y
theorem cover_r0_128 (p0 : Vec F S31x96 .f32) (y : S31x96.Idx) :
    ∃ pc ∈ ([⟨r0_128, p0⟩] : List (View.Piece (Elt F) S31x96 .f32)), y ∈ pc.1.set :=
  View.cover_of_tiled [⟨r0_128, p0⟩] S31x96.size (by rfl) y
theorem cover_r0_17 (p0 : Vec F S1x1024 .f32) (y : S1x1024.Idx) :
    ∃ pc ∈ ([⟨r0_17, p0⟩] : List (View.Piece (Elt F) S1x1024 .f32)), y ∈ pc.1.set :=
  View.cover_of_tiled [⟨r0_17, p0⟩] S1x1024.size (by rfl) y
theorem cover_r0_42 (p0 : Vec F S1x768 .f32) (y : S1x768.Idx) :
    ∃ pc ∈ ([⟨r0_42, p0⟩] : List (View.Piece (Elt F) S1x768 .f32)), y ∈ pc.1.set :=
  View.cover_of_tiled [⟨r0_42, p0⟩] S1x768.size (by rfl) y
theorem cover_r0_59 (p0 : Vec F S512x128 .f32) (y : S512x128.Idx) :
    ∃ pc ∈ ([⟨r0_59, p0⟩] : List (View.Piece (Elt F) S512x128 .f32)), y ∈ pc.1.set :=
  View.cover_of_tiled [⟨r0_59, p0⟩] S512x128.size (by rfl) y
theorem cover_r0_68 (p0 : Vec F S4x128 .f32) (y : S4x128.Idx) :
    ∃ pc ∈ ([⟨r0_68, p0⟩] : List (View.Piece (Elt F) S4x128 .f32)), y ∈ pc.1.set :=
  View.cover_of_tiled [⟨r0_68, p0⟩] S4x128.size (by rfl) y
theorem cover_r0_77 (p0 : Vec F S768x192 .f32) (y : S768x192.Idx) :
    ∃ pc ∈ ([⟨r0_77, p0⟩] : List (View.Piece (Elt F) S768x192 .f32)), y ∈ pc.1.set :=
  View.cover_of_tiled [⟨r0_77, p0⟩] S768x192.size (by rfl) y
theorem cover_r0_8 (p0 : Vec F S1x128 .f32) (y : S1x128.Idx) :
    ∃ pc ∈ ([⟨r0_8, p0⟩] : List (View.Piece (Elt F) S1x128 .f32)), y ∈ pc.1.set :=
  View.cover_of_tiled [⟨r0_8, p0⟩] S1x128.size (by rfl) y

/-! ## The buffers, a weight at a time -/

/-- A weight, its first moment and its second, each in its buffer. -/
def ins3 {s : Shape} (c : Dev nD) (a₁ a₂ a₃ : Memref sig .tc .vmem s .f32) (x₁ x₂ x₃ : Vec F s .f32) : sProp 𝕄 :=
  iprop(owns (c : Thread nD τ) a₁ fullShare x₁ ∗ owns (c : Thread nD τ) a₂ fullShare x₂ ∗ owns (c : Thread nD τ) a₃ fullShare x₃)
/-- A weight's four outputs' buffers, at any contents. -/
def any4 {s : Shape} (c : Dev nD) (a₁ a₂ a₃ a₄ : Memref sig .tc .vmem s .f32) : sProp 𝕄 :=
  iprop((∃ d, owns (Val := Elt F) (c : Thread nD τ) a₁ fullShare d) ∗ (∃ d, owns (c : Thread nD τ) a₂ fullShare d)
    ∗ (∃ d, owns (c : Thread nD τ) a₃ fullShare d) ∗ (∃ d, owns (c : Thread nD τ) a₄ fullShare d))
/-- A weight's four outputs, each in its buffer. -/
def outs4 {s : Shape} (c : Dev nD) (a₁ a₂ a₃ a₄ : Memref sig .tc .vmem s .f32) (y₁ y₂ y₃ y₄ : Vec F s .f32) : sProp 𝕄 :=
  iprop(owns (c : Thread nD τ) a₁ fullShare y₁ ∗ owns (c : Thread nD τ) a₂ fullShare y₂
    ∗ owns (c : Thread nD τ) a₃ fullShare y₃ ∗ owns (c : Thread nD τ) a₄ fullShare y₄)
/-- The devices' parts, each stack in its buffer. -/
def srcs7 (c : Dev nD) (a0 : Memref sig .tc .vmem S8x24x1024 .f32) (a1 : Memref sig .tc .vmem S8x16x768 .f32) (a2 : Memref sig .tc .vmem S8x520x128 .f32) (a3 : Memref sig .tc .vmem S8x768x192 .f32) (a4 : Memref sig .tc .vmem S8x24x128 .f32) (a5 : Memref sig .tc .vmem S8x80x96 .f32) (a6 : Memref sig .tc .vmem S8x8x128 .f32)
    (x0 : Vec F S8x24x1024 .f32) (x1 : Vec F S8x16x768 .f32) (x2 : Vec F S8x520x128 .f32) (x3 : Vec F S8x768x192 .f32) (x4 : Vec F S8x24x128 .f32) (x5 : Vec F S8x80x96 .f32) (x6 : Vec F S8x8x128 .f32) : sProp 𝕄 :=
  iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6)

end Cert.AdamSmallIdeal.Body

end
-- ==== Proof.AdamSmall.Kit.lean ====
module

public import proofs.«01_k».proof.Proof.AdamSmall.Values
public import proofs.«01_k».proof.Proof.Gen.AdamSmallIdeal.Launch
public import proofs.«01_k».proof.Proof.Gen.AdamSmallIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.AdamSmallIdeal.Body

open Idealize.ShloMosaic Idealize.ShloMosaic.TcCoe Idealize.ShloMosaic.Tactic
open Cert.AdamSmallIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A core's buffers when the region is entered: as launched. -/
abbrev V (c : Dev nD) (b : Ref sig .tc) : Buf (Elt F) ((c : Thread nD τ).loc b) := m ((c : Thread nD τ).loc b)

set_option maxHeartbeats 800000 in
/-- The program up to the region: the region alone. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- A window's block at a point, read off its array as the region finds it. -/
noncomputable def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.AdamSmallIdeal.Body

end
-- ==== Proof.AdamSmall.Blocks.lean ====
module

public import proofs.«01_k».proof.Proof.AdamSmall.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.AdamSmallIdeal.Body

open Idealize.ShloMosaic Idealize.ShloMosaic.TcCoe Idealize.ShloMosaic.Tactic
open Cert.AdamSmallIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! What the body finds and leaves in each window's buffer, each at its own shape. -/

noncomputable def b0 (c : Dev nD) (t : Fin cfg0.N) : Vec F S8x24x1024 .f32 := iblk m c (⟨0, by decide⟩ : Fin 134) t
noncomputable def b1 (c : Dev nD) (t : Fin cfg0.N) : Vec F S8x16x768 .f32 := iblk m c (⟨1, by decide⟩ : Fin 134) t
noncomputable def b2 (c : Dev nD) (t : Fin cfg0.N) : Vec F S8x520x128 .f32 := iblk m c (⟨2, by decide⟩ : Fin 134) t
noncomputable def b3 (c : Dev nD) (t : Fin cfg0.N) : Vec F S8x768x192 .f32 := iblk m c (⟨3, by decide⟩ : Fin 134) t
noncomputable def b4 (c : Dev nD) (t : Fin cfg0.N) : Vec F S8x24x128 .f32 := iblk m c (⟨4, by decide⟩ : Fin 134) t
noncomputable def b5 (c : Dev nD) (t : Fin cfg0.N) : Vec F S8x80x96 .f32 := iblk m c (⟨5, by decide⟩ : Fin 134) t
noncomputable def b6 (c : Dev nD) (t : Fin cfg0.N) : Vec F S8x8x128 .f32 := iblk m c (⟨6, by decide⟩ : Fin 134) t
noncomputable def b7 (c : Dev nD) (t : Fin cfg0.N) : Vec F S1x1024 .f32 := iblk m c (⟨7, by decide⟩ : Fin 134) t
noncomputable def b8 (c : Dev nD) (t : Fin cfg0.N) : Vec F S1x1024 .f32 := iblk m c (⟨8, by decide⟩ : Fin 134) t
noncomputable def b9 (c : Dev nD) (t : Fin cfg0.N) : Vec F S1x1024 .f32 := iblk m c (⟨9, by decide⟩ : Fin 134) t
noncomputable def b10 (c : Dev nD) (t : Fin cfg0.N) : Vec F S1x1024 .f32 := iblk m c (⟨10, by decide⟩ : Fin 134) t
noncomputable def b11 (c : Dev nD) (t : Fin cfg0.N) : Vec F S1x1024 .f32 := iblk m c (⟨11, by decide⟩ : Fin 134) t
noncomputable def b12 (c : Dev nD) (t : Fin cfg0.N) : Vec F S1x1024 .f32 := iblk m c (⟨12, by decide⟩ : Fin 134) t
noncomputable def b13 (c : Dev nD) (t : Fin cfg0.N) : Vec F S1x1024 .f32 := iblk m c (⟨13, by decide⟩ : Fin 134) t
noncomputable def b14 (c : Dev nD) (t : Fin cfg0.N) : Vec F S1x1024 .f32 := iblk m c (⟨14, by decide⟩ : Fin 134) t
noncomputable def b15 (c : Dev nD) (t : Fin cfg0.N) : Vec F S1x1024 .f32 := iblk m c (⟨15, by decide⟩ : Fin 134) t
noncomputable def b16 (c : Dev nD) (t : Fin cfg0.N) : Vec F S1x768 .f32 := iblk m c (⟨16, by decide⟩ : Fin 134) t
noncomputable def b17 (c : Dev nD) (t : Fin cfg0.N) : Vec F S1x768 .f32 := iblk m c (⟨17, by decide⟩ : Fin 134) t
noncomputable def b18 (c : Dev nD) (t : Fin cfg0.N) : Vec F S1x768 .f32 := iblk m c (⟨18, by decide⟩ : Fin 134) t
noncomputable def b19 (c : Dev nD) (t : Fin cfg0.N) : Vec F S1x768 .f32 := iblk m c (⟨19, by decide⟩ : Fin 134) t
noncomputable def b20 (c : Dev nD) (t : Fin cfg0.N) : Vec F S1x768 .f32 := iblk m c (⟨20, by decide⟩ : Fin 134) t
noncomputable def b21 (c : Dev nD) (t : Fin cfg0.N) : Vec F S1x768 .f32 := iblk m c (⟨21, by decide⟩ : Fin 134) t
noncomputable def b22 (c : Dev nD) (t : Fin cfg0.N) : Vec F S512x128 .f32 := iblk m c (⟨22, by decide⟩ : Fin 134) t
noncomputable def b23 (c : Dev nD) (t : Fin cfg0.N) : Vec F S512x128 .f32 := iblk m c (⟨23, by decide⟩ : Fin 134) t
noncomputable def b24 (c : Dev nD) (t : Fin cfg0.N) : Vec F S512x128 .f32 := iblk m c (⟨24, by decide⟩ : Fin 134) t
noncomputable def b25 (c : Dev nD) (t : Fin cfg0.N) : Vec F S4x128 .f32 := iblk m c (⟨25, by decide⟩ : Fin 134) t
noncomputable def b26 (c : Dev nD) (t : Fin cfg0.N) : Vec F S4x128 .f32 := iblk m c (⟨26, by decide⟩ : Fin 134) t
noncomputable def b27 (c : Dev nD) (t : Fin cfg0.N) : Vec F S4x128 .f32 := iblk m c (⟨27, by decide⟩ : Fin 134) t
noncomputable def b28 (c : Dev nD) (t : Fin cfg0.N) : Vec F S768x192 .f32 := iblk m c (⟨28, by decide⟩ : Fin 134) t
noncomputable def b29 (c : Dev nD) (t : Fin cfg0.N) : Vec F S768x192 .f32 := iblk m c (⟨29, by decide⟩ : Fin 134) t
noncomputable def b30 (c : Dev nD) (t : Fin cfg0.N) : Vec F S768x192 .f32 := iblk m c (⟨30, by decide⟩ : Fin 134) t
noncomputable def b31 (c : Dev nD) (t : Fin cfg0.N) : Vec F S1x128 .f32 := iblk m c (⟨31, by decide⟩ : Fin 134) t
noncomputable def b32 (c : Dev nD) (t : Fin cfg0.N) : Vec F S1x128 .f32 := iblk m c (⟨32, by decide⟩ : Fin 134) t
noncomputable def b33 (c : Dev nD) (t : Fin cfg0.N) : Vec F S1x128 .f32 := iblk m c (⟨33, by decide⟩ : Fin 134) t
noncomputable def b34 (c : Dev nD) (t : Fin cfg0.N) : Vec F S1x128 .f32 := iblk m c (⟨34, by decide⟩ : Fin 134) t
noncomputable def b35 (c : Dev nD) (t : Fin cfg0.N) : Vec F S1x128 .f32 := iblk m c (⟨35, by decide⟩ : Fin 134) t
noncomputable def b36 (c : Dev nD) (t : Fin cfg0.N) : Vec F S1x128 .f32 := iblk m c (⟨36, by decide⟩ : Fin 134) t
noncomputable def b37 (c : Dev nD) (t : Fin cfg0.N) : Vec F S1x128 .f32 := iblk m c (⟨37, by decide⟩ : Fin 134) t
noncomputable def b38 (c : Dev nD) (t : Fin cfg0.N) : Vec F S1x128 .f32 := iblk m c (⟨38, by decide⟩ : Fin 134) t
noncomputable def b39 (c : Dev nD) (t : Fin cfg0.N) : Vec F S1x128 .f32 := iblk m c (⟨39, by decide⟩ : Fin 134) t
noncomputable def b40 (c : Dev nD) (t : Fin cfg0.N) : Vec F S3x96 .f32 := iblk m c (⟨40, by decide⟩ : Fin 134) t
noncomputable def b41 (c : Dev nD) (t : Fin cfg0.N) : Vec F S3x96 .f32 := iblk m c (⟨41, by decide⟩ : Fin 134) t
noncomputable def b42 (c : Dev nD) (t : Fin cfg0.N) : Vec F S3x96 .f32 := iblk m c (⟨42, by decide⟩ : Fin 134) t
noncomputable def b43 (c : Dev nD) (t : Fin cfg0.N) : Vec F S1x96 .f32 := iblk m c (⟨43, by decide⟩ : Fin 134) t
noncomputable def b44 (c : Dev nD) (t : Fin cfg0.N) : Vec F S1x96 .f32 := iblk m c (⟨44, by decide⟩ : Fin 134) t
noncomputable def b45 (c : Dev nD) (t : Fin cfg0.N) : Vec F S1x96 .f32 := iblk m c (⟨45, by decide⟩ : Fin 134) t
noncomputable def b46 (c : Dev nD) (t : Fin cfg0.N) : Vec F S31x96 .f32 := iblk m c (⟨46, by decide⟩ : Fin 134) t
noncomputable def b47 (c : Dev nD) (t : Fin cfg0.N) : Vec F S31x96 .f32 := iblk m c (⟨47, by decide⟩ : Fin 134) t
noncomputable def b48 (c : Dev nD) (t : Fin cfg0.N) : Vec F S31x96 .f32 := iblk m c (⟨48, by decide⟩ : Fin 134) t
noncomputable def b49 (c : Dev nD) (t : Fin cfg0.N) : Vec F S1x96 .f32 := iblk m c (⟨49, by decide⟩ : Fin 134) t
noncomputable def b50 (c : Dev nD) (t : Fin cfg0.N) : Vec F S1x96 .f32 := iblk m c (⟨50, by decide⟩ : Fin 134) t
noncomputable def b51 (c : Dev nD) (t : Fin cfg0.N) : Vec F S1x96 .f32 := iblk m c (⟨51, by decide⟩ : Fin 134) t
noncomputable def b52 (c : Dev nD) (t : Fin cfg0.N) : Vec F S1x96 .f32 := iblk m c (⟨52, by decide⟩ : Fin 134) t
noncomputable def b53 (c : Dev nD) (t : Fin cfg0.N) : Vec F S1x96 .f32 := iblk m c (⟨53, by decide⟩ : Fin 134) t
noncomputable def b54 (c : Dev nD) (t : Fin cfg0.N) : Vec F S1x96 .f32 := iblk m c (⟨54, by decide⟩ : Fin 134) t
noncomputable def b55 (c : Dev nD) (t : Fin cfg0.N) : Vec F S1x96 .f32 := iblk m c (⟨55, by decide⟩ : Fin 134) t
noncomputable def b56 (c : Dev nD) (t : Fin cfg0.N) : Vec F S1x96 .f32 := iblk m c (⟨56, by decide⟩ : Fin 134) t
noncomputable def b57 (c : Dev nD) (t : Fin cfg0.N) : Vec F S1x96 .f32 := iblk m c (⟨57, by decide⟩ : Fin 134) t
noncomputable def b58 (c : Dev nD) (t : Fin cfg0.N) : Vec F S1x96 .f32 := iblk m c (⟨58, by decide⟩ : Fin 134) t
noncomputable def b59 (c : Dev nD) (t : Fin cfg0.N) : Vec F S1x96 .f32 := iblk m c (⟨59, by decide⟩ : Fin 134) t
noncomputable def b60 (c : Dev nD) (t : Fin cfg0.N) : Vec F S1x96 .f32 := iblk m c (⟨60, by decide⟩ : Fin 134) t
noncomputable def a61 (c : Dev nD) (t : Fin cfg0.N) : ((cfg0.win (⟨61, by decide⟩ : Fin 134)).xblock (cfg0.grid.coords t)).Idx → Elt F (cfg0.win (⟨61, by decide⟩ : Fin 134)).elt :=
  out61 (b0 m c t)
noncomputable def a62 (c : Dev nD) (t : Fin cfg0.N) : ((cfg0.win (⟨62, by decide⟩ : Fin 134)).xblock (cfg0.grid.coords t)).Idx → Elt F (cfg0.win (⟨62, by decide⟩ : Fin 134)).elt :=
  out62 (b0 m c t) (b7 m c t) (b8 m c t) (b9 m c t)
noncomputable def a63 (c : Dev nD) (t : Fin cfg0.N) : ((cfg0.win (⟨63, by decide⟩ : Fin 134)).xblock (cfg0.grid.coords t)).Idx → Elt F (cfg0.win (⟨63, by decide⟩ : Fin 134)).elt :=
  out63 (b0 m c t) (b8 m c t)
noncomputable def a64 (c : Dev nD) (t : Fin cfg0.N) : ((cfg0.win (⟨64, by decide⟩ : Fin 134)).xblock (cfg0.grid.coords t)).Idx → Elt F (cfg0.win (⟨64, by decide⟩ : Fin 134)).elt :=
  out64 (b0 m c t) (b9 m c t)
noncomputable def a65 (c : Dev nD) (t : Fin cfg0.N) : ((cfg0.win (⟨65, by decide⟩ : Fin 134)).xblock (cfg0.grid.coords t)).Idx → Elt F (cfg0.win (⟨65, by decide⟩ : Fin 134)).elt :=
  out65 (b0 m c t)
noncomputable def a66 (c : Dev nD) (t : Fin cfg0.N) : ((cfg0.win (⟨66, by decide⟩ : Fin 134)).xblock (cfg0.grid.coords t)).Idx → Elt F (cfg0.win (⟨66, by decide⟩ : Fin 134)).elt :=
  out66 (b0 m c t) (b10 m c t) (b11 m c t) (b12 m c t)
noncomputable def a67 (c : Dev nD) (t : Fin cfg0.N) : ((cfg0.win (⟨67, by decide⟩ : Fin 134)).xblock (cfg0.grid.coords t)).Idx → Elt F (cfg0.win (⟨67, by decide⟩ : Fin 134)).elt :=
  out67 (b0 m c t) (b11 m c t)
noncomputable def a68 (c : Dev nD) (t : Fin cfg0.N) : ((cfg0.win (⟨68, by decide⟩ : Fin 134)).xblock (cfg0.grid.coords t)).Idx → Elt F (cfg0.win (⟨68, by decide⟩ : Fin 134)).elt :=
  out68 (b0 m c t) (b12 m c t)
noncomputable def a69 (c : Dev nD) (t : Fin cfg0.N) : ((cfg0.win (⟨69, by decide⟩ : Fin 134)).xblock (cfg0.grid.coords t)).Idx → Elt F (cfg0.win (⟨69, by decide⟩ : Fin 134)).elt :=
  out69 (b0 m c t)
noncomputable def a70 (c : Dev nD) (t : Fin cfg0.N) : ((cfg0.win (⟨70, by decide⟩ : Fin 134)).xblock (cfg0.grid.coords t)).Idx → Elt F (cfg0.win (⟨70, by decide⟩ : Fin 134)).elt :=
  out70 (b0 m c t) (b13 m c t) (b14 m c t) (b15 m c t)
noncomputable def a71 (c : Dev nD) (t : Fin cfg0.N) : ((cfg0.win (⟨71, by decide⟩ : Fin 134)).xblock (cfg0.grid.coords t)).Idx → Elt F (cfg0.win (⟨71, by decide⟩ : Fin 134)).elt :=
  out71 (b0 m c t) (b14 m c t)
noncomputable def a72 (c : Dev nD) (t : Fin cfg0.N) : ((cfg0.win (⟨72, by decide⟩ : Fin 134)).xblock (cfg0.grid.coords t)).Idx → Elt F (cfg0.win (⟨72, by decide⟩ : Fin 134)).elt :=
  out72 (b0 m c t) (b15 m c t)
noncomputable def a73 (c : Dev nD) (t : Fin cfg0.N) : ((cfg0.win (⟨73, by decide⟩ : Fin 134)).xblock (cfg0.grid.coords t)).Idx → Elt F (cfg0.win (⟨73, by decide⟩ : Fin 134)).elt :=
  out73 (b1 m c t)
noncomputable def a74 (c : Dev nD) (t : Fin cfg0.N) : ((cfg0.win (⟨74, by decide⟩ : Fin 134)).xblock (cfg0.grid.coords t)).Idx → Elt F (cfg0.win (⟨74, by decide⟩ : Fin 134)).elt :=
  out74 (b1 m c t) (b16 m c t) (b17 m c t) (b18 m c t)
noncomputable def a75 (c : Dev nD) (t : Fin cfg0.N) : ((cfg0.win (⟨75, by decide⟩ : Fin 134)).xblock (cfg0.grid.coords t)).Idx → Elt F (cfg0.win (⟨75, by decide⟩ : Fin 134)).elt :=
  out75 (b1 m c t) (b17 m c t)
noncomputable def a76 (c : Dev nD) (t : Fin cfg0.N) : ((cfg0.win (⟨76, by decide⟩ : Fin 134)).xblock (cfg0.grid.coords t)).Idx → Elt F (cfg0.win (⟨76, by decide⟩ : Fin 134)).elt :=
  out76 (b1 m c t) (b18 m c t)
noncomputable def a77 (c : Dev nD) (t : Fin cfg0.N) : ((cfg0.win (⟨77, by decide⟩ : Fin 134)).xblock (cfg0.grid.coords t)).Idx → Elt F (cfg0.win (⟨77, by decide⟩ : Fin 134)).elt :=
  out77 (b1 m c t)
noncomputable def a78 (c : Dev nD) (t : Fin cfg0.N) : ((cfg0.win (⟨78, by decide⟩ : Fin 134)).xblock (cfg0.grid.coords t)).Idx → Elt F (cfg0.win (⟨78, by decide⟩ : Fin 134)).elt :=
  out78 (b1 m c t) (b19 m c t) (b20 m c t) (b21 m c t)
noncomputable def a79 (c : Dev nD) (t : Fin cfg0.N) : ((cfg0.win (⟨79, by decide⟩ : Fin 134)).xblock (cfg0.grid.coords t)).Idx → Elt F (cfg0.win (⟨79, by decide⟩ : Fin 134)).elt :=
  out79 (b1 m c t) (b20 m c t)
noncomputable def a80 (c : Dev nD) (t : Fin cfg0.N) : ((cfg0.win (⟨80, by decide⟩ : Fin 134)).xblock (cfg0.grid.coords t)).Idx → Elt F (cfg0.win (⟨80, by decide⟩ : Fin 134)).elt :=
  out80 (b1 m c t) (b21 m c t)
noncomputable def a81 (c : Dev nD) (t : Fin cfg0.N) : ((cfg0.win (⟨81, by decide⟩ : Fin 134)).xblock (cfg0.grid.coords t)).Idx → Elt F (cfg0.win (⟨81, by decide⟩ : Fin 134)).elt :=
  out81 (b2 m c t)
noncomputable def a82 (c : Dev nD) (t : Fin cfg0.N) : ((cfg0.win (⟨82, by decide⟩ : Fin 134)).xblock (cfg0.grid.coords t)).Idx → Elt F (cfg0.win (⟨82, by decide⟩ : Fin 134)).elt :=
  out82 (b2 m c t) (b22 m c t) (b23 m c t) (b24 m c t)
noncomputable def a83 (c : Dev nD) (t : Fin cfg0.N) : ((cfg0.win (⟨83, by decide⟩ : Fin 134)).xblock (cfg0.grid.coords t)).Idx → Elt F (cfg0.win (⟨83, by decide⟩ : Fin 134)).elt :=
  out83 (b2 m c t) (b23 m c t)
noncomputable def a84 (c : Dev nD) (t : Fin cfg0.N) : ((cfg0.win (⟨84, by decide⟩ : Fin 134)).xblock (cfg0.grid.coords t)).Idx → Elt F (cfg0.win (⟨84, by decide⟩ : Fin 134)).elt :=
  out84 (b2 m c t) (b24 m c t)
noncomputable def a85 (c : Dev nD) (t : Fin cfg0.N) : ((cfg0.win (⟨85, by decide⟩ : Fin 134)).xblock (cfg0.grid.coords t)).Idx → Elt F (cfg0.win (⟨85, by decide⟩ : Fin 134)).elt :=
  out85 (b2 m c t)
noncomputable def a86 (c : Dev nD) (t : Fin cfg0.N) : ((cfg0.win (⟨86, by decide⟩ : Fin 134)).xblock (cfg0.grid.coords t)).Idx → Elt F (cfg0.win (⟨86, by decide⟩ : Fin 134)).elt :=
  out86 (b2 m c t) (b25 m c t) (b26 m c t) (b27 m c t)
noncomputable def a87 (c : Dev nD) (t : Fin cfg0.N) : ((cfg0.win (⟨87, by decide⟩ : Fin 134)).xblock (cfg0.grid.coords t)).Idx → Elt F (cfg0.win (⟨87, by decide⟩ : Fin 134)).elt :=
  out87 (b2 m c t) (b26 m c t)
noncomputable def a88 (c : Dev nD) (t : Fin cfg0.N) : ((cfg0.win (⟨88, by decide⟩ : Fin 134)).xblock (cfg0.grid.coords t)).Idx → Elt F (cfg0.win (⟨88, by decide⟩ : Fin 134)).elt :=
  out88 (b2 m c t) (b27 m c t)
noncomputable def a89 (c : Dev nD) (t : Fin cfg0.N) : ((cfg0.win (⟨89, by decide⟩ : Fin 134)).xblock (cfg0.grid.coords t)).Idx → Elt F (cfg0.win (⟨89, by decide⟩ : Fin 134)).elt :=
  out89 (b3 m c t)
noncomputable def a90 (c : Dev nD) (t : Fin cfg0.N) : ((cfg0.win (⟨90, by decide⟩ : Fin 134)).xblock (cfg0.grid.coords t)).Idx → Elt F (cfg0.win (⟨90, by decide⟩ : Fin 134)).elt :=
  out90 (b3 m c t) (b28 m c t) (b29 m c t) (b30 m c t)
noncomputable def a91 (c : Dev nD) (t : Fin cfg0.N) : ((cfg0.win (⟨91, by decide⟩ : Fin 134)).xblock (cfg0.grid.coords t)).Idx → Elt F (cfg0.win (⟨91, by decide⟩ : Fin 134)).elt :=
  out91 (b3 m c t) (b29 m c t)
noncomputable def a92 (c : Dev nD) (t : Fin cfg0.N) : ((cfg0.win (⟨92, by decide⟩ : Fin 134)).xblock (cfg0.grid.coords t)).Idx → Elt F (cfg0.win (⟨92, by decide⟩ : Fin 134)).elt :=
  out92 (b3 m c t) (b30 m c t)
noncomputable def a93 (c : Dev nD) (t : Fin cfg0.N) : ((cfg0.win (⟨93, by decide⟩ : Fin 134)).xblock (cfg0.grid.coords t)).Idx → Elt F (cfg0.win (⟨93, by decide⟩ : Fin 134)).elt :=
  out93 (b4 m c t)
noncomputable def a94 (c : Dev nD) (t : Fin cfg0.N) : ((cfg0.win (⟨94, by decide⟩ : Fin 134)).xblock (cfg0.grid.coords t)).Idx → Elt F (cfg0.win (⟨94, by decide⟩ : Fin 134)).elt :=
  out94 (b4 m c t) (b31 m c t) (b32 m c t) (b33 m c t)
noncomputable def a95 (c : Dev nD) (t : Fin cfg0.N) : ((cfg0.win (⟨95, by decide⟩ : Fin 134)).xblock (cfg0.grid.coords t)).Idx → Elt F (cfg0.win (⟨95, by decide⟩ : Fin 134)).elt :=
  out95 (b4 m c t) (b32 m c t)
noncomputable def a96 (c : Dev nD) (t : Fin cfg0.N) : ((cfg0.win (⟨96, by decide⟩ : Fin 134)).xblock (cfg0.grid.coords t)).Idx → Elt F (cfg0.win (⟨96, by decide⟩ : Fin 134)).elt :=
  out96 (b4 m c t) (b33 m c t)
noncomputable def a97 (c : Dev nD) (t : Fin cfg0.N) : ((cfg0.win (⟨97, by decide⟩ : Fin 134)).xblock (cfg0.grid.coords t)).Idx → Elt F (cfg0.win (⟨97, by decide⟩ : Fin 134)).elt :=
  out97 (b4 m c t)
noncomputable def a98 (c : Dev nD) (t : Fin cfg0.N) : ((cfg0.win (⟨98, by decide⟩ : Fin 134)).xblock (cfg0.grid.coords t)).Idx → Elt F (cfg0.win (⟨98, by decide⟩ : Fin 134)).elt :=
  out98 (b4 m c t) (b34 m c t) (b35 m c t) (b36 m c t)
noncomputable def a99 (c : Dev nD) (t : Fin cfg0.N) : ((cfg0.win (⟨99, by decide⟩ : Fin 134)).xblock (cfg0.grid.coords t)).Idx → Elt F (cfg0.win (⟨99, by decide⟩ : Fin 134)).elt :=
  out99 (b4 m c t) (b35 m c t)
noncomputable def a100 (c : Dev nD) (t : Fin cfg0.N) : ((cfg0.win (⟨100, by decide⟩ : Fin 134)).xblock (cfg0.grid.coords t)).Idx → Elt F (cfg0.win (⟨100, by decide⟩ : Fin 134)).elt :=
  out100 (b4 m c t) (b36 m c t)
noncomputable def a101 (c : Dev nD) (t : Fin cfg0.N) : ((cfg0.win (⟨101, by decide⟩ : Fin 134)).xblock (cfg0.grid.coords t)).Idx → Elt F (cfg0.win (⟨101, by decide⟩ : Fin 134)).elt :=
  out101 (b4 m c t)
noncomputable def a102 (c : Dev nD) (t : Fin cfg0.N) : ((cfg0.win (⟨102, by decide⟩ : Fin 134)).xblock (cfg0.grid.coords t)).Idx → Elt F (cfg0.win (⟨102, by decide⟩ : Fin 134)).elt :=
  out102 (b4 m c t) (b37 m c t) (b38 m c t) (b39 m c t)
noncomputable def a103 (c : Dev nD) (t : Fin cfg0.N) : ((cfg0.win (⟨103, by decide⟩ : Fin 134)).xblock (cfg0.grid.coords t)).Idx → Elt F (cfg0.win (⟨103, by decide⟩ : Fin 134)).elt :=
  out103 (b4 m c t) (b38 m c t)
noncomputable def a104 (c : Dev nD) (t : Fin cfg0.N) : ((cfg0.win (⟨104, by decide⟩ : Fin 134)).xblock (cfg0.grid.coords t)).Idx → Elt F (cfg0.win (⟨104, by decide⟩ : Fin 134)).elt :=
  out104 (b4 m c t) (b39 m c t)
noncomputable def a105 (c : Dev nD) (t : Fin cfg0.N) : ((cfg0.win (⟨105, by decide⟩ : Fin 134)).xblock (cfg0.grid.coords t)).Idx → Elt F (cfg0.win (⟨105, by decide⟩ : Fin 134)).elt :=
  out105 (b5 m c t)
noncomputable def a106 (c : Dev nD) (t : Fin cfg0.N) : ((cfg0.win (⟨106, by decide⟩ : Fin 134)).xblock (cfg0.grid.coords t)).Idx → Elt F (cfg0.win (⟨106, by decide⟩ : Fin 134)).elt :=
  out106 (b5 m c t) (b40 m c t) (b41 m c t) (b42 m c t)
noncomputable def a107 (c : Dev nD) (t : Fin cfg0.N) : ((cfg0.win (⟨107, by decide⟩ : Fin 134)).xblock (cfg0.grid.coords t)).Idx → Elt F (cfg0.win (⟨107, by decide⟩ : Fin 134)).elt :=
  out107 (b5 m c t) (b41 m c t)
noncomputable def a108 (c : Dev nD) (t : Fin cfg0.N) : ((cfg0.win (⟨108, by decide⟩ : Fin 134)).xblock (cfg0.grid.coords t)).Idx → Elt F (cfg0.win (⟨108, by decide⟩ : Fin 134)).elt :=
  out108 (b5 m c t) (b42 m c t)
noncomputable def a109 (c : Dev nD) (t : Fin cfg0.N) : ((cfg0.win (⟨109, by decide⟩ : Fin 134)).xblock (cfg0.grid.coords t)).Idx → Elt F (cfg0.win (⟨109, by decide⟩ : Fin 134)).elt :=
  out109 (b5 m c t)
noncomputable def a110 (c : Dev nD) (t : Fin cfg0.N) : ((cfg0.win (⟨110, by decide⟩ : Fin 134)).xblock (cfg0.grid.coords t)).Idx → Elt F (cfg0.win (⟨110, by decide⟩ : Fin 134)).elt :=
  out110 (b5 m c t) (b43 m c t) (b44 m c t) (b45 m c t)
noncomputable def a111 (c : Dev nD) (t : Fin cfg0.N) : ((cfg0.win (⟨111, by decide⟩ : Fin 134)).xblock (cfg0.grid.coords t)).Idx → Elt F (cfg0.win (⟨111, by decide⟩ : Fin 134)).elt :=
  out111 (b5 m c t) (b44 m c t)
noncomputable def a112 (c : Dev nD) (t : Fin cfg0.N) : ((cfg0.win (⟨112, by decide⟩ : Fin 134)).xblock (cfg0.grid.coords t)).Idx → Elt F (cfg0.win (⟨112, by decide⟩ : Fin 134)).elt :=
  out112 (b5 m c t) (b45 m c t)
noncomputable def a113 (c : Dev nD) (t : Fin cfg0.N) : ((cfg0.win (⟨113, by decide⟩ : Fin 134)).xblock (cfg0.grid.coords t)).Idx → Elt F (cfg0.win (⟨113, by decide⟩ : Fin 134)).elt :=
  out113 (b5 m c t)
noncomputable def a114 (c : Dev nD) (t : Fin cfg0.N) : ((cfg0.win (⟨114, by decide⟩ : Fin 134)).xblock (cfg0.grid.coords t)).Idx → Elt F (cfg0.win (⟨114, by decide⟩ : Fin 134)).elt :=
  out114 (b5 m c t) (b46 m c t) (b47 m c t) (b48 m c t)
noncomputable def a115 (c : Dev nD) (t : Fin cfg0.N) : ((cfg0.win (⟨115, by decide⟩ : Fin 134)).xblock (cfg0.grid.coords t)).Idx → Elt F (cfg0.win (⟨115, by decide⟩ : Fin 134)).elt :=
  out115 (b5 m c t) (b47 m c t)
noncomputable def a116 (c : Dev nD) (t : Fin cfg0.N) : ((cfg0.win (⟨116, by decide⟩ : Fin 134)).xblock (cfg0.grid.coords t)).Idx → Elt F (cfg0.win (⟨116, by decide⟩ : Fin 134)).elt :=
  out116 (b5 m c t) (b48 m c t)
noncomputable def a117 (c : Dev nD) (t : Fin cfg0.N) : ((cfg0.win (⟨117, by decide⟩ : Fin 134)).xblock (cfg0.grid.coords t)).Idx → Elt F (cfg0.win (⟨117, by decide⟩ : Fin 134)).elt :=
  out117 (b5 m c t)
noncomputable def a118 (c : Dev nD) (t : Fin cfg0.N) : ((cfg0.win (⟨118, by decide⟩ : Fin 134)).xblock (cfg0.grid.coords t)).Idx → Elt F (cfg0.win (⟨118, by decide⟩ : Fin 134)).elt :=
  out118 (b5 m c t) (b49 m c t) (b50 m c t) (b51 m c t)
noncomputable def a119 (c : Dev nD) (t : Fin cfg0.N) : ((cfg0.win (⟨119, by decide⟩ : Fin 134)).xblock (cfg0.grid.coords t)).Idx → Elt F (cfg0.win (⟨119, by decide⟩ : Fin 134)).elt :=
  out119 (b5 m c t) (b50 m c t)
noncomputable def a120 (c : Dev nD) (t : Fin cfg0.N) : ((cfg0.win (⟨120, by decide⟩ : Fin 134)).xblock (cfg0.grid.coords t)).Idx → Elt F (cfg0.win (⟨120, by decide⟩ : Fin 134)).elt :=
  out120 (b5 m c t) (b51 m c t)
noncomputable def a121 (c : Dev nD) (t : Fin cfg0.N) : ((cfg0.win (⟨121, by decide⟩ : Fin 134)).xblock (cfg0.grid.coords t)).Idx → Elt F (cfg0.win (⟨121, by decide⟩ : Fin 134)).elt :=
  out121 (b5 m c t)
noncomputable def a122 (c : Dev nD) (t : Fin cfg0.N) : ((cfg0.win (⟨122, by decide⟩ : Fin 134)).xblock (cfg0.grid.coords t)).Idx → Elt F (cfg0.win (⟨122, by decide⟩ : Fin 134)).elt :=
  out122 (b5 m c t) (b52 m c t) (b53 m c t) (b54 m c t)
noncomputable def a123 (c : Dev nD) (t : Fin cfg0.N) : ((cfg0.win (⟨123, by decide⟩ : Fin 134)).xblock (cfg0.grid.coords t)).Idx → Elt F (cfg0.win (⟨123, by decide⟩ : Fin 134)).elt :=
  out123 (b5 m c t) (b53 m c t)
noncomputable def a124 (c : Dev nD) (t : Fin cfg0.N) : ((cfg0.win (⟨124, by decide⟩ : Fin 134)).xblock (cfg0.grid.coords t)).Idx → Elt F (cfg0.win (⟨124, by decide⟩ : Fin 134)).elt :=
  out124 (b5 m c t) (b54 m c t)
noncomputable def a125 (c : Dev nD) (t : Fin cfg0.N) : ((cfg0.win (⟨125, by decide⟩ : Fin 134)).xblock (cfg0.grid.coords t)).Idx → Elt F (cfg0.win (⟨125, by decide⟩ : Fin 134)).elt :=
  out125 (b5 m c t)
noncomputable def a126 (c : Dev nD) (t : Fin cfg0.N) : ((cfg0.win (⟨126, by decide⟩ : Fin 134)).xblock (cfg0.grid.coords t)).Idx → Elt F (cfg0.win (⟨126, by decide⟩ : Fin 134)).elt :=
  out126 (b5 m c t) (b55 m c t) (b56 m c t) (b57 m c t)
noncomputable def a127 (c : Dev nD) (t : Fin cfg0.N) : ((cfg0.win (⟨127, by decide⟩ : Fin 134)).xblock (cfg0.grid.coords t)).Idx → Elt F (cfg0.win (⟨127, by decide⟩ : Fin 134)).elt :=
  out127 (b5 m c t) (b56 m c t)
noncomputable def a128 (c : Dev nD) (t : Fin cfg0.N) : ((cfg0.win (⟨128, by decide⟩ : Fin 134)).xblock (cfg0.grid.coords t)).Idx → Elt F (cfg0.win (⟨128, by decide⟩ : Fin 134)).elt :=
  out128 (b5 m c t) (b57 m c t)
noncomputable def a129 (c : Dev nD) (t : Fin cfg0.N) : ((cfg0.win (⟨129, by decide⟩ : Fin 134)).xblock (cfg0.grid.coords t)).Idx → Elt F (cfg0.win (⟨129, by decide⟩ : Fin 134)).elt :=
  out129 (b5 m c t)
noncomputable def a130 (c : Dev nD) (t : Fin cfg0.N) : ((cfg0.win (⟨130, by decide⟩ : Fin 134)).xblock (cfg0.grid.coords t)).Idx → Elt F (cfg0.win (⟨130, by decide⟩ : Fin 134)).elt :=
  out130 (b5 m c t) (b58 m c t) (b59 m c t) (b60 m c t)
noncomputable def a131 (c : Dev nD) (t : Fin cfg0.N) : ((cfg0.win (⟨131, by decide⟩ : Fin 134)).xblock (cfg0.grid.coords t)).Idx → Elt F (cfg0.win (⟨131, by decide⟩ : Fin 134)).elt :=
  out131 (b5 m c t) (b59 m c t)
noncomputable def a132 (c : Dev nD) (t : Fin cfg0.N) : ((cfg0.win (⟨132, by decide⟩ : Fin 134)).xblock (cfg0.grid.coords t)).Idx → Elt F (cfg0.win (⟨132, by decide⟩ : Fin 134)).elt :=
  out132 (b5 m c t) (b60 m c t)
noncomputable def a133 (c : Dev nD) (t : Fin cfg0.N) : ((cfg0.win (⟨133, by decide⟩ : Fin 134)).xblock (cfg0.grid.coords t)).Idx → Elt F (cfg0.win (⟨133, by decide⟩ : Fin 134)).elt :=
  out133 (b6 m c t)

end Cert.AdamSmallIdeal.Body

end
-- ==== Proof.AdamSmall.Dats.lean ====
module

public import proofs.«01_k».proof.Proof.AdamSmall.Blocks
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.AdamSmallIdeal.Body

open Idealize.ShloMosaic Idealize.ShloMosaic.TcCoe Idealize.ShloMosaic.Tactic
open Cert.AdamSmallIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data of the one pipeline: the arrays as the region finds them; after the body each input's buffer at its
    block and each output's at its value. -/
noncomputable def dats (_ : Fin 1) (c : Dev nD) : Dat τ (Elt F) Unit ℕ (UR sig nD τ) ℕ cfg0 c where
  A w := V m c (Pipeline.arrRef spec0 w)
  after w t := match w with
    | ⟨0, _⟩ => iblk m c ⟨0, by decide⟩ t
    | ⟨1, _⟩ => iblk m c ⟨1, by decide⟩ t
    | ⟨2, _⟩ => iblk m c ⟨2, by decide⟩ t
    | ⟨3, _⟩ => iblk m c ⟨3, by decide⟩ t
    | ⟨4, _⟩ => iblk m c ⟨4, by decide⟩ t
    | ⟨5, _⟩ => iblk m c ⟨5, by decide⟩ t
    | ⟨6, _⟩ => iblk m c ⟨6, by decide⟩ t
    | ⟨7, _⟩ => iblk m c ⟨7, by decide⟩ t
    | ⟨8, _⟩ => iblk m c ⟨8, by decide⟩ t
    | ⟨9, _⟩ => iblk m c ⟨9, by decide⟩ t
    | ⟨10, _⟩ => iblk m c ⟨10, by decide⟩ t
    | ⟨11, _⟩ => iblk m c ⟨11, by decide⟩ t
    | ⟨12, _⟩ => iblk m c ⟨12, by decide⟩ t
    | ⟨13, _⟩ => iblk m c ⟨13, by decide⟩ t
    | ⟨14, _⟩ => iblk m c ⟨14, by decide⟩ t
    | ⟨15, _⟩ => iblk m c ⟨15, by decide⟩ t
    | ⟨16, _⟩ => iblk m c ⟨16, by decide⟩ t
    | ⟨17, _⟩ => iblk m c ⟨17, by decide⟩ t
    | ⟨18, _⟩ => iblk m c ⟨18, by decide⟩ t
    | ⟨19, _⟩ => iblk m c ⟨19, by decide⟩ t
    | ⟨20, _⟩ => iblk m c ⟨20, by decide⟩ t
    | ⟨21, _⟩ => iblk m c ⟨21, by decide⟩ t
    | ⟨22, _⟩ => iblk m c ⟨22, by decide⟩ t
    | ⟨23, _⟩ => iblk m c ⟨23, by decide⟩ t
    | ⟨24, _⟩ => iblk m c ⟨24, by decide⟩ t
    | ⟨25, _⟩ => iblk m c ⟨25, by decide⟩ t
    | ⟨26, _⟩ => iblk m c ⟨26, by decide⟩ t
    | ⟨27, _⟩ => iblk m c ⟨27, by decide⟩ t
    | ⟨28, _⟩ => iblk m c ⟨28, by decide⟩ t
    | ⟨29, _⟩ => iblk m c ⟨29, by decide⟩ t
    | ⟨30, _⟩ => iblk m c ⟨30, by decide⟩ t
    | ⟨31, _⟩ => iblk m c ⟨31, by decide⟩ t
    | ⟨32, _⟩ => iblk m c ⟨32, by decide⟩ t
    | ⟨33, _⟩ => iblk m c ⟨33, by decide⟩ t
    | ⟨34, _⟩ => iblk m c ⟨34, by decide⟩ t
    | ⟨35, _⟩ => iblk m c ⟨35, by decide⟩ t
    | ⟨36, _⟩ => iblk m c ⟨36, by decide⟩ t
    | ⟨37, _⟩ => iblk m c ⟨37, by decide⟩ t
    | ⟨38, _⟩ => iblk m c ⟨38, by decide⟩ t
    | ⟨39, _⟩ => iblk m c ⟨39, by decide⟩ t
    | ⟨40, _⟩ => iblk m c ⟨40, by decide⟩ t
    | ⟨41, _⟩ => iblk m c ⟨41, by decide⟩ t
    | ⟨42, _⟩ => iblk m c ⟨42, by decide⟩ t
    | ⟨43, _⟩ => iblk m c ⟨43, by decide⟩ t
    | ⟨44, _⟩ => iblk m c ⟨44, by decide⟩ t
    | ⟨45, _⟩ => iblk m c ⟨45, by decide⟩ t
    | ⟨46, _⟩ => iblk m c ⟨46, by decide⟩ t
    | ⟨47, _⟩ => iblk m c ⟨47, by decide⟩ t
    | ⟨48, _⟩ => iblk m c ⟨48, by decide⟩ t
    | ⟨49, _⟩ => iblk m c ⟨49, by decide⟩ t
    | ⟨50, _⟩ => iblk m c ⟨50, by decide⟩ t
    | ⟨51, _⟩ => iblk m c ⟨51, by decide⟩ t
    | ⟨52, _⟩ => iblk m c ⟨52, by decide⟩ t
    | ⟨53, _⟩ => iblk m c ⟨53, by decide⟩ t
    | ⟨54, _⟩ => iblk m c ⟨54, by decide⟩ t
    | ⟨55, _⟩ => iblk m c ⟨55, by decide⟩ t
    | ⟨56, _⟩ => iblk m c ⟨56, by decide⟩ t
    | ⟨57, _⟩ => iblk m c ⟨57, by decide⟩ t
    | ⟨58, _⟩ => iblk m c ⟨58, by decide⟩ t
    | ⟨59, _⟩ => iblk m c ⟨59, by decide⟩ t
    | ⟨60, _⟩ => iblk m c ⟨60, by decide⟩ t
    | ⟨61, _⟩ => a61 m c t
    | ⟨62, _⟩ => a62 m c t
    | ⟨63, _⟩ => a63 m c t
    | ⟨64, _⟩ => a64 m c t
    | ⟨65, _⟩ => a65 m c t
    | ⟨66, _⟩ => a66 m c t
    | ⟨67, _⟩ => a67 m c t
    | ⟨68, _⟩ => a68 m c t
    | ⟨69, _⟩ => a69 m c t
    | ⟨70, _⟩ => a70 m c t
    | ⟨71, _⟩ => a71 m c t
    | ⟨72, _⟩ => a72 m c t
    | ⟨73, _⟩ => a73 m c t
    | ⟨74, _⟩ => a74 m c t
    | ⟨75, _⟩ => a75 m c t
    | ⟨76, _⟩ => a76 m c t
    | ⟨77, _⟩ => a77 m c t
    | ⟨78, _⟩ => a78 m c t
    | ⟨79, _⟩ => a79 m c t
    | ⟨80, _⟩ => a80 m c t
    | ⟨81, _⟩ => a81 m c t
    | ⟨82, _⟩ => a82 m c t
    | ⟨83, _⟩ => a83 m c t
    | ⟨84, _⟩ => a84 m c t
    | ⟨85, _⟩ => a85 m c t
    | ⟨86, _⟩ => a86 m c t
    | ⟨87, _⟩ => a87 m c t
    | ⟨88, _⟩ => a88 m c t
    | ⟨89, _⟩ => a89 m c t
    | ⟨90, _⟩ => a90 m c t
    | ⟨91, _⟩ => a91 m c t
    | ⟨92, _⟩ => a92 m c t
    | ⟨93, _⟩ => a93 m c t
    | ⟨94, _⟩ => a94 m c t
    | ⟨95, _⟩ => a95 m c t
    | ⟨96, _⟩ => a96 m c t
    | ⟨97, _⟩ => a97 m c t
    | ⟨98, _⟩ => a98 m c t
    | ⟨99, _⟩ => a99 m c t
    | ⟨100, _⟩ => a100 m c t
    | ⟨101, _⟩ => a101 m c t
    | ⟨102, _⟩ => a102 m c t
    | ⟨103, _⟩ => a103 m c t
    | ⟨104, _⟩ => a104 m c t
    | ⟨105, _⟩ => a105 m c t
    | ⟨106, _⟩ => a106 m c t
    | ⟨107, _⟩ => a107 m c t
    | ⟨108, _⟩ => a108 m c t
    | ⟨109, _⟩ => a109 m c t
    | ⟨110, _⟩ => a110 m c t
    | ⟨111, _⟩ => a111 m c t
    | ⟨112, _⟩ => a112 m c t
    | ⟨113, _⟩ => a113 m c t
    | ⟨114, _⟩ => a114 m c t
    | ⟨115, _⟩ => a115 m c t
    | ⟨116, _⟩ => a116 m c t
    | ⟨117, _⟩ => a117 m c t
    | ⟨118, _⟩ => a118 m c t
    | ⟨119, _⟩ => a119 m c t
    | ⟨120, _⟩ => a120 m c t
    | ⟨121, _⟩ => a121 m c t
    | ⟨122, _⟩ => a122 m c t
    | ⟨123, _⟩ => a123 m c t
    | ⟨124, _⟩ => a124 m c t
    | ⟨125, _⟩ => a125 m c t
    | ⟨126, _⟩ => a126 m c t
    | ⟨127, _⟩ => a127 m c t
    | ⟨128, _⟩ => a128 m c t
    | ⟨129, _⟩ => a129 m c t
    | ⟨130, _⟩ => a130 m c t
    | ⟨131, _⟩ => a131 m c t
    | ⟨132, _⟩ => a132 m c t
    | ⟨133, _⟩ => a133 m c t
    | ⟨_ + 134, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after (⟨0, by decide⟩ : Fin 134) t = iblk m c (⟨0, by decide⟩ : Fin 134) t := by dsimp only [dats]
theorem after1 (c : Dev nD) (t : Fin cfg0.N) : (dats m 0 c).after (⟨1, by decide⟩ : Fin 134) t = iblk m c (⟨1, by decide⟩ : Fin 134) t := by dsimp only [dats]
theorem after2 (c : Dev nD) (t : Fin cfg0.N) : (dats m 0 c).after (⟨2, by decide⟩ : Fin 134) t = iblk m c (⟨2, by decide⟩ : Fin 134) t := by dsimp only [dats]
theorem after3 (c : Dev nD) (t : Fin cfg0.N) : (dats m 0 c).after (⟨3, by decide⟩ : Fin 134) t = iblk m c (⟨3, by decide⟩ : Fin 134) t := by dsimp only [dats]
theorem after4 (c : Dev nD) (t : Fin cfg0.N) : (dats m 0 c).after (⟨4, by decide⟩ : Fin 134) t = iblk m c (⟨4, by decide⟩ : Fin 134) t := by dsimp only [dats]
theorem after5 (c : Dev nD) (t : Fin cfg0.N) : (dats m 0 c).after (⟨5, by decide⟩ : Fin 134) t = iblk m c (⟨5, by decide⟩ : Fin 134) t := by dsimp only [dats]
theorem after6 (c : Dev nD) (t : Fin cfg0.N) : (dats m 0 c).after (⟨6, by decide⟩ : Fin 134) t = iblk m c (⟨6, by decide⟩ : Fin 134) t := by dsimp only [dats]
theorem after7 (c : Dev nD) (t : Fin cfg0.N) : (dats m 0 c).after (⟨7, by decide⟩ : Fin 134) t = iblk m c (⟨7, by decide⟩ : Fin 134) t := by dsimp only [dats]
theorem after8 (c : Dev nD) (t : Fin cfg0.N) : (dats m 0 c).after (⟨8, by decide⟩ : Fin 134) t = iblk m c (⟨8, by decide⟩ : Fin 134) t := by dsimp only [dats]
theorem after9 (c : Dev nD) (t : Fin cfg0.N) : (dats m 0 c).after (⟨9, by decide⟩ : Fin 134) t = iblk m c (⟨9, by decide⟩ : Fin 134) t := by dsimp only [dats]
theorem after10 (c : Dev nD) (t : Fin cfg0.N) : (dats m 0 c).after (⟨10, by decide⟩ : Fin 134) t = iblk m c (⟨10, by decide⟩ : Fin 134) t := by dsimp only [dats]
theorem after11 (c : Dev nD) (t : Fin cfg0.N) : (dats m 0 c).after (⟨11, by decide⟩ : Fin 134) t = iblk m c (⟨11, by decide⟩ : Fin 134) t := by dsimp only [dats]
theorem after12 (c : Dev nD) (t : Fin cfg0.N) : (dats m 0 c).after (⟨12, by decide⟩ : Fin 134) t = iblk m c (⟨12, by decide⟩ : Fin 134) t := by dsimp only [dats]
theorem after13 (c : Dev nD) (t : Fin cfg0.N) : (dats m 0 c).after (⟨13, by decide⟩ : Fin 134) t = iblk m c (⟨13, by decide⟩ : Fin 134) t := by dsimp only [dats]
theorem after14 (c : Dev nD) (t : Fin cfg0.N) : (dats m 0 c).after (⟨14, by decide⟩ : Fin 134) t = iblk m c (⟨14, by decide⟩ : Fin 134) t := by dsimp only [dats]
theorem after15 (c : Dev nD) (t : Fin cfg0.N) : (dats m 0 c).after (⟨15, by decide⟩ : Fin 134) t = iblk m c (⟨15, by decide⟩ : Fin 134) t := by dsimp only [dats]
theorem after16 (c : Dev nD) (t : Fin cfg0.N) : (dats m 0 c).after (⟨16, by decide⟩ : Fin 134) t = iblk m c (⟨16, by decide⟩ : Fin 134) t := by dsimp only [dats]
theorem after17 (c : Dev nD) (t : Fin cfg0.N) : (dats m 0 c).after (⟨17, by decide⟩ : Fin 134) t = iblk m c (⟨17, by decide⟩ : Fin 134) t := by dsimp only [dats]
theorem after18 (c : Dev nD) (t : Fin cfg0.N) : (dats m 0 c).after (⟨18, by decide⟩ : Fin 134) t = iblk m c (⟨18, by decide⟩ : Fin 134) t := by dsimp only [dats]
theorem after19 (c : Dev nD) (t : Fin cfg0.N) : (dats m 0 c).after (⟨19, by decide⟩ : Fin 134) t = iblk m c (⟨19, by decide⟩ : Fin 134) t := by dsimp only [dats]
theorem after20 (c : Dev nD) (t : Fin cfg0.N) : (dats m 0 c).after (⟨20, by decide⟩ : Fin 134) t = iblk m c (⟨20, by decide⟩ : Fin 134) t := by dsimp only [dats]
theorem after21 (c : Dev nD) (t : Fin cfg0.N) : (dats m 0 c).after (⟨21, by decide⟩ : Fin 134) t = iblk m c (⟨21, by decide⟩ : Fin 134) t := by dsimp only [dats]
theorem after22 (c : Dev nD) (t : Fin cfg0.N) : (dats m 0 c).after (⟨22, by decide⟩ : Fin 134) t = iblk m c (⟨22, by decide⟩ : Fin 134) t := by dsimp only [dats]
theorem after23 (c : Dev nD) (t : Fin cfg0.N) : (dats m 0 c).after (⟨23, by decide⟩ : Fin 134) t = iblk m c (⟨23, by decide⟩ : Fin 134) t := by dsimp only [dats]
theorem after24 (c : Dev nD) (t : Fin cfg0.N) : (dats m 0 c).after (⟨24, by decide⟩ : Fin 134) t = iblk m c (⟨24, by decide⟩ : Fin 134) t := by dsimp only [dats]
theorem after25 (c : Dev nD) (t : Fin cfg0.N) : (dats m 0 c).after (⟨25, by decide⟩ : Fin 134) t = iblk m c (⟨25, by decide⟩ : Fin 134) t := by dsimp only [dats]
theorem after26 (c : Dev nD) (t : Fin cfg0.N) : (dats m 0 c).after (⟨26, by decide⟩ : Fin 134) t = iblk m c (⟨26, by decide⟩ : Fin 134) t := by dsimp only [dats]
theorem after27 (c : Dev nD) (t : Fin cfg0.N) : (dats m 0 c).after (⟨27, by decide⟩ : Fin 134) t = iblk m c (⟨27, by decide⟩ : Fin 134) t := by dsimp only [dats]
theorem after28 (c : Dev nD) (t : Fin cfg0.N) : (dats m 0 c).after (⟨28, by decide⟩ : Fin 134) t = iblk m c (⟨28, by decide⟩ : Fin 134) t := by dsimp only [dats]
theorem after29 (c : Dev nD) (t : Fin cfg0.N) : (dats m 0 c).after (⟨29, by decide⟩ : Fin 134) t = iblk m c (⟨29, by decide⟩ : Fin 134) t := by dsimp only [dats]
theorem after30 (c : Dev nD) (t : Fin cfg0.N) : (dats m 0 c).after (⟨30, by decide⟩ : Fin 134) t = iblk m c (⟨30, by decide⟩ : Fin 134) t := by dsimp only [dats]
theorem after31 (c : Dev nD) (t : Fin cfg0.N) : (dats m 0 c).after (⟨31, by decide⟩ : Fin 134) t = iblk m c (⟨31, by decide⟩ : Fin 134) t := by dsimp only [dats]
theorem after32 (c : Dev nD) (t : Fin cfg0.N) : (dats m 0 c).after (⟨32, by decide⟩ : Fin 134) t = iblk m c (⟨32, by decide⟩ : Fin 134) t := by dsimp only [dats]
theorem after33 (c : Dev nD) (t : Fin cfg0.N) : (dats m 0 c).after (⟨33, by decide⟩ : Fin 134) t = iblk m c (⟨33, by decide⟩ : Fin 134) t := by dsimp only [dats]
theorem after34 (c : Dev nD) (t : Fin cfg0.N) : (dats m 0 c).after (⟨34, by decide⟩ : Fin 134) t = iblk m c (⟨34, by decide⟩ : Fin 134) t := by dsimp only [dats]
theorem after35 (c : Dev nD) (t : Fin cfg0.N) : (dats m 0 c).after (⟨35, by decide⟩ : Fin 134) t = iblk m c (⟨35, by decide⟩ : Fin 134) t := by dsimp only [dats]
theorem after36 (c : Dev nD) (t : Fin cfg0.N) : (dats m 0 c).after (⟨36, by decide⟩ : Fin 134) t = iblk m c (⟨36, by decide⟩ : Fin 134) t := by dsimp only [dats]
theorem after37 (c : Dev nD) (t : Fin cfg0.N) : (dats m 0 c).after (⟨37, by decide⟩ : Fin 134) t = iblk m c (⟨37, by decide⟩ : Fin 134) t := by dsimp only [dats]
theorem after38 (c : Dev nD) (t : Fin cfg0.N) : (dats m 0 c).after (⟨38, by decide⟩ : Fin 134) t = iblk m c (⟨38, by decide⟩ : Fin 134) t := by dsimp only [dats]
theorem after39 (c : Dev nD) (t : Fin cfg0.N) : (dats m 0 c).after (⟨39, by decide⟩ : Fin 134) t = iblk m c (⟨39, by decide⟩ : Fin 134) t := by dsimp only [dats]
theorem after40 (c : Dev nD) (t : Fin cfg0.N) : (dats m 0 c).after (⟨40, by decide⟩ : Fin 134) t = iblk m c (⟨40, by decide⟩ : Fin 134) t := by dsimp only [dats]
theorem after41 (c : Dev nD) (t : Fin cfg0.N) : (dats m 0 c).after (⟨41, by decide⟩ : Fin 134) t = iblk m c (⟨41, by decide⟩ : Fin 134) t := by dsimp only [dats]
theorem after42 (c : Dev nD) (t : Fin cfg0.N) : (dats m 0 c).after (⟨42, by decide⟩ : Fin 134) t = iblk m c (⟨42, by decide⟩ : Fin 134) t := by dsimp only [dats]
theorem after43 (c : Dev nD) (t : Fin cfg0.N) : (dats m 0 c).after (⟨43, by decide⟩ : Fin 134) t = iblk m c (⟨43, by decide⟩ : Fin 134) t := by dsimp only [dats]
theorem after44 (c : Dev nD) (t : Fin cfg0.N) : (dats m 0 c).after (⟨44, by decide⟩ : Fin 134) t = iblk m c (⟨44, by decide⟩ : Fin 134) t := by dsimp only [dats]
theorem after45 (c : Dev nD) (t : Fin cfg0.N) : (dats m 0 c).after (⟨45, by decide⟩ : Fin 134) t = iblk m c (⟨45, by decide⟩ : Fin 134) t := by dsimp only [dats]
theorem after46 (c : Dev nD) (t : Fin cfg0.N) : (dats m 0 c).after (⟨46, by decide⟩ : Fin 134) t = iblk m c (⟨46, by decide⟩ : Fin 134) t := by dsimp only [dats]
theorem after47 (c : Dev nD) (t : Fin cfg0.N) : (dats m 0 c).after (⟨47, by decide⟩ : Fin 134) t = iblk m c (⟨47, by decide⟩ : Fin 134) t := by dsimp only [dats]
theorem after48 (c : Dev nD) (t : Fin cfg0.N) : (dats m 0 c).after (⟨48, by decide⟩ : Fin 134) t = iblk m c (⟨48, by decide⟩ : Fin 134) t := by dsimp only [dats]
theorem after49 (c : Dev nD) (t : Fin cfg0.N) : (dats m 0 c).after (⟨49, by decide⟩ : Fin 134) t = iblk m c (⟨49, by decide⟩ : Fin 134) t := by dsimp only [dats]
theorem after50 (c : Dev nD) (t : Fin cfg0.N) : (dats m 0 c).after (⟨50, by decide⟩ : Fin 134) t = iblk m c (⟨50, by decide⟩ : Fin 134) t := by dsimp only [dats]
theorem after51 (c : Dev nD) (t : Fin cfg0.N) : (dats m 0 c).after (⟨51, by decide⟩ : Fin 134) t = iblk m c (⟨51, by decide⟩ : Fin 134) t := by dsimp only [dats]
theorem after52 (c : Dev nD) (t : Fin cfg0.N) : (dats m 0 c).after (⟨52, by decide⟩ : Fin 134) t = iblk m c (⟨52, by decide⟩ : Fin 134) t := by dsimp only [dats]
theorem after53 (c : Dev nD) (t : Fin cfg0.N) : (dats m 0 c).after (⟨53, by decide⟩ : Fin 134) t = iblk m c (⟨53, by decide⟩ : Fin 134) t := by dsimp only [dats]
theorem after54 (c : Dev nD) (t : Fin cfg0.N) : (dats m 0 c).after (⟨54, by decide⟩ : Fin 134) t = iblk m c (⟨54, by decide⟩ : Fin 134) t := by dsimp only [dats]
theorem after55 (c : Dev nD) (t : Fin cfg0.N) : (dats m 0 c).after (⟨55, by decide⟩ : Fin 134) t = iblk m c (⟨55, by decide⟩ : Fin 134) t := by dsimp only [dats]
theorem after56 (c : Dev nD) (t : Fin cfg0.N) : (dats m 0 c).after (⟨56, by decide⟩ : Fin 134) t = iblk m c (⟨56, by decide⟩ : Fin 134) t := by dsimp only [dats]
theorem after57 (c : Dev nD) (t : Fin cfg0.N) : (dats m 0 c).after (⟨57, by decide⟩ : Fin 134) t = iblk m c (⟨57, by decide⟩ : Fin 134) t := by dsimp only [dats]
theorem after58 (c : Dev nD) (t : Fin cfg0.N) : (dats m 0 c).after (⟨58, by decide⟩ : Fin 134) t = iblk m c (⟨58, by decide⟩ : Fin 134) t := by dsimp only [dats]
theorem after59 (c : Dev nD) (t : Fin cfg0.N) : (dats m 0 c).after (⟨59, by decide⟩ : Fin 134) t = iblk m c (⟨59, by decide⟩ : Fin 134) t := by dsimp only [dats]
theorem after60 (c : Dev nD) (t : Fin cfg0.N) : (dats m 0 c).after (⟨60, by decide⟩ : Fin 134) t = iblk m c (⟨60, by decide⟩ : Fin 134) t := by dsimp only [dats]
theorem after61 (c : Dev nD) (t : Fin cfg0.N) : (dats m 0 c).after (⟨61, by decide⟩ : Fin 134) t = a61 m c t := by dsimp only [dats]
theorem after62 (c : Dev nD) (t : Fin cfg0.N) : (dats m 0 c).after (⟨62, by decide⟩ : Fin 134) t = a62 m c t := by dsimp only [dats]
theorem after63 (c : Dev nD) (t : Fin cfg0.N) : (dats m 0 c).after (⟨63, by decide⟩ : Fin 134) t = a63 m c t := by dsimp only [dats]
theorem after64 (c : Dev nD) (t : Fin cfg0.N) : (dats m 0 c).after (⟨64, by decide⟩ : Fin 134) t = a64 m c t := by dsimp only [dats]
theorem after65 (c : Dev nD) (t : Fin cfg0.N) : (dats m 0 c).after (⟨65, by decide⟩ : Fin 134) t = a65 m c t := by dsimp only [dats]
theorem after66 (c : Dev nD) (t : Fin cfg0.N) : (dats m 0 c).after (⟨66, by decide⟩ : Fin 134) t = a66 m c t := by dsimp only [dats]
theorem after67 (c : Dev nD) (t : Fin cfg0.N) : (dats m 0 c).after (⟨67, by decide⟩ : Fin 134) t = a67 m c t := by dsimp only [dats]
theorem after68 (c : Dev nD) (t : Fin cfg0.N) : (dats m 0 c).after (⟨68, by decide⟩ : Fin 134) t = a68 m c t := by dsimp only [dats]
theorem after69 (c : Dev nD) (t : Fin cfg0.N) : (dats m 0 c).after (⟨69, by decide⟩ : Fin 134) t = a69 m c t := by dsimp only [dats]
theorem after70 (c : Dev nD) (t : Fin cfg0.N) : (dats m 0 c).after (⟨70, by decide⟩ : Fin 134) t = a70 m c t := by dsimp only [dats]
theorem after71 (c : Dev nD) (t : Fin cfg0.N) : (dats m 0 c).after (⟨71, by decide⟩ : Fin 134) t = a71 m c t := by dsimp only [dats]
theorem after72 (c : Dev nD) (t : Fin cfg0.N) : (dats m 0 c).after (⟨72, by decide⟩ : Fin 134) t = a72 m c t := by dsimp only [dats]
theorem after73 (c : Dev nD) (t : Fin cfg0.N) : (dats m 0 c).after (⟨73, by decide⟩ : Fin 134) t = a73 m c t := by dsimp only [dats]
theorem after74 (c : Dev nD) (t : Fin cfg0.N) : (dats m 0 c).after (⟨74, by decide⟩ : Fin 134) t = a74 m c t := by dsimp only [dats]
theorem after75 (c : Dev nD) (t : Fin cfg0.N) : (dats m 0 c).after (⟨75, by decide⟩ : Fin 134) t = a75 m c t := by dsimp only [dats]
theorem after76 (c : Dev nD) (t : Fin cfg0.N) : (dats m 0 c).after (⟨76, by decide⟩ : Fin 134) t = a76 m c t := by dsimp only [dats]
theorem after77 (c : Dev nD) (t : Fin cfg0.N) : (dats m 0 c).after (⟨77, by decide⟩ : Fin 134) t = a77 m c t := by dsimp only [dats]
theorem after78 (c : Dev nD) (t : Fin cfg0.N) : (dats m 0 c).after (⟨78, by decide⟩ : Fin 134) t = a78 m c t := by dsimp only [dats]
theorem after79 (c : Dev nD) (t : Fin cfg0.N) : (dats m 0 c).after (⟨79, by decide⟩ : Fin 134) t = a79 m c t := by dsimp only [dats]
theorem after80 (c : Dev nD) (t : Fin cfg0.N) : (dats m 0 c).after (⟨80, by decide⟩ : Fin 134) t = a80 m c t := by dsimp only [dats]
theorem after81 (c : Dev nD) (t : Fin cfg0.N) : (dats m 0 c).after (⟨81, by decide⟩ : Fin 134) t = a81 m c t := by dsimp only [dats]
theorem after82 (c : Dev nD) (t : Fin cfg0.N) : (dats m 0 c).after (⟨82, by decide⟩ : Fin 134) t = a82 m c t := by dsimp only [dats]
theorem after83 (c : Dev nD) (t : Fin cfg0.N) : (dats m 0 c).after (⟨83, by decide⟩ : Fin 134) t = a83 m c t := by dsimp only [dats]
theorem after84 (c : Dev nD) (t : Fin cfg0.N) : (dats m 0 c).after (⟨84, by decide⟩ : Fin 134) t = a84 m c t := by dsimp only [dats]
theorem after85 (c : Dev nD) (t : Fin cfg0.N) : (dats m 0 c).after (⟨85, by decide⟩ : Fin 134) t = a85 m c t := by dsimp only [dats]
theorem after86 (c : Dev nD) (t : Fin cfg0.N) : (dats m 0 c).after (⟨86, by decide⟩ : Fin 134) t = a86 m c t := by dsimp only [dats]
theorem after87 (c : Dev nD) (t : Fin cfg0.N) : (dats m 0 c).after (⟨87, by decide⟩ : Fin 134) t = a87 m c t := by dsimp only [dats]
theorem after88 (c : Dev nD) (t : Fin cfg0.N) : (dats m 0 c).after (⟨88, by decide⟩ : Fin 134) t = a88 m c t := by dsimp only [dats]
theorem after89 (c : Dev nD) (t : Fin cfg0.N) : (dats m 0 c).after (⟨89, by decide⟩ : Fin 134) t = a89 m c t := by dsimp only [dats]
theorem after90 (c : Dev nD) (t : Fin cfg0.N) : (dats m 0 c).after (⟨90, by decide⟩ : Fin 134) t = a90 m c t := by dsimp only [dats]
theorem after91 (c : Dev nD) (t : Fin cfg0.N) : (dats m 0 c).after (⟨91, by decide⟩ : Fin 134) t = a91 m c t := by dsimp only [dats]
theorem after92 (c : Dev nD) (t : Fin cfg0.N) : (dats m 0 c).after (⟨92, by decide⟩ : Fin 134) t = a92 m c t := by dsimp only [dats]
theorem after93 (c : Dev nD) (t : Fin cfg0.N) : (dats m 0 c).after (⟨93, by decide⟩ : Fin 134) t = a93 m c t := by dsimp only [dats]
theorem after94 (c : Dev nD) (t : Fin cfg0.N) : (dats m 0 c).after (⟨94, by decide⟩ : Fin 134) t = a94 m c t := by dsimp only [dats]
theorem after95 (c : Dev nD) (t : Fin cfg0.N) : (dats m 0 c).after (⟨95, by decide⟩ : Fin 134) t = a95 m c t := by dsimp only [dats]
theorem after96 (c : Dev nD) (t : Fin cfg0.N) : (dats m 0 c).after (⟨96, by decide⟩ : Fin 134) t = a96 m c t := by dsimp only [dats]
theorem after97 (c : Dev nD) (t : Fin cfg0.N) : (dats m 0 c).after (⟨97, by decide⟩ : Fin 134) t = a97 m c t := by dsimp only [dats]
theorem after98 (c : Dev nD) (t : Fin cfg0.N) : (dats m 0 c).after (⟨98, by decide⟩ : Fin 134) t = a98 m c t := by dsimp only [dats]
theorem after99 (c : Dev nD) (t : Fin cfg0.N) : (dats m 0 c).after (⟨99, by decide⟩ : Fin 134) t = a99 m c t := by dsimp only [dats]
theorem after100 (c : Dev nD) (t : Fin cfg0.N) : (dats m 0 c).after (⟨100, by decide⟩ : Fin 134) t = a100 m c t := by dsimp only [dats]
theorem after101 (c : Dev nD) (t : Fin cfg0.N) : (dats m 0 c).after (⟨101, by decide⟩ : Fin 134) t = a101 m c t := by dsimp only [dats]
theorem after102 (c : Dev nD) (t : Fin cfg0.N) : (dats m 0 c).after (⟨102, by decide⟩ : Fin 134) t = a102 m c t := by dsimp only [dats]
theorem after103 (c : Dev nD) (t : Fin cfg0.N) : (dats m 0 c).after (⟨103, by decide⟩ : Fin 134) t = a103 m c t := by dsimp only [dats]
theorem after104 (c : Dev nD) (t : Fin cfg0.N) : (dats m 0 c).after (⟨104, by decide⟩ : Fin 134) t = a104 m c t := by dsimp only [dats]
theorem after105 (c : Dev nD) (t : Fin cfg0.N) : (dats m 0 c).after (⟨105, by decide⟩ : Fin 134) t = a105 m c t := by dsimp only [dats]
theorem after106 (c : Dev nD) (t : Fin cfg0.N) : (dats m 0 c).after (⟨106, by decide⟩ : Fin 134) t = a106 m c t := by dsimp only [dats]
theorem after107 (c : Dev nD) (t : Fin cfg0.N) : (dats m 0 c).after (⟨107, by decide⟩ : Fin 134) t = a107 m c t := by dsimp only [dats]
theorem after108 (c : Dev nD) (t : Fin cfg0.N) : (dats m 0 c).after (⟨108, by decide⟩ : Fin 134) t = a108 m c t := by dsimp only [dats]
theorem after109 (c : Dev nD) (t : Fin cfg0.N) : (dats m 0 c).after (⟨109, by decide⟩ : Fin 134) t = a109 m c t := by dsimp only [dats]
theorem after110 (c : Dev nD) (t : Fin cfg0.N) : (dats m 0 c).after (⟨110, by decide⟩ : Fin 134) t = a110 m c t := by dsimp only [dats]
theorem after111 (c : Dev nD) (t : Fin cfg0.N) : (dats m 0 c).after (⟨111, by decide⟩ : Fin 134) t = a111 m c t := by dsimp only [dats]
theorem after112 (c : Dev nD) (t : Fin cfg0.N) : (dats m 0 c).after (⟨112, by decide⟩ : Fin 134) t = a112 m c t := by dsimp only [dats]
theorem after113 (c : Dev nD) (t : Fin cfg0.N) : (dats m 0 c).after (⟨113, by decide⟩ : Fin 134) t = a113 m c t := by dsimp only [dats]
theorem after114 (c : Dev nD) (t : Fin cfg0.N) : (dats m 0 c).after (⟨114, by decide⟩ : Fin 134) t = a114 m c t := by dsimp only [dats]
theorem after115 (c : Dev nD) (t : Fin cfg0.N) : (dats m 0 c).after (⟨115, by decide⟩ : Fin 134) t = a115 m c t := by dsimp only [dats]
theorem after116 (c : Dev nD) (t : Fin cfg0.N) : (dats m 0 c).after (⟨116, by decide⟩ : Fin 134) t = a116 m c t := by dsimp only [dats]
theorem after117 (c : Dev nD) (t : Fin cfg0.N) : (dats m 0 c).after (⟨117, by decide⟩ : Fin 134) t = a117 m c t := by dsimp only [dats]
theorem after118 (c : Dev nD) (t : Fin cfg0.N) : (dats m 0 c).after (⟨118, by decide⟩ : Fin 134) t = a118 m c t := by dsimp only [dats]
theorem after119 (c : Dev nD) (t : Fin cfg0.N) : (dats m 0 c).after (⟨119, by decide⟩ : Fin 134) t = a119 m c t := by dsimp only [dats]
theorem after120 (c : Dev nD) (t : Fin cfg0.N) : (dats m 0 c).after (⟨120, by decide⟩ : Fin 134) t = a120 m c t := by dsimp only [dats]
theorem after121 (c : Dev nD) (t : Fin cfg0.N) : (dats m 0 c).after (⟨121, by decide⟩ : Fin 134) t = a121 m c t := by dsimp only [dats]
theorem after122 (c : Dev nD) (t : Fin cfg0.N) : (dats m 0 c).after (⟨122, by decide⟩ : Fin 134) t = a122 m c t := by dsimp only [dats]
theorem after123 (c : Dev nD) (t : Fin cfg0.N) : (dats m 0 c).after (⟨123, by decide⟩ : Fin 134) t = a123 m c t := by dsimp only [dats]
theorem after124 (c : Dev nD) (t : Fin cfg0.N) : (dats m 0 c).after (⟨124, by decide⟩ : Fin 134) t = a124 m c t := by dsimp only [dats]
theorem after125 (c : Dev nD) (t : Fin cfg0.N) : (dats m 0 c).after (⟨125, by decide⟩ : Fin 134) t = a125 m c t := by dsimp only [dats]
theorem after126 (c : Dev nD) (t : Fin cfg0.N) : (dats m 0 c).after (⟨126, by decide⟩ : Fin 134) t = a126 m c t := by dsimp only [dats]
theorem after127 (c : Dev nD) (t : Fin cfg0.N) : (dats m 0 c).after (⟨127, by decide⟩ : Fin 134) t = a127 m c t := by dsimp only [dats]
theorem after128 (c : Dev nD) (t : Fin cfg0.N) : (dats m 0 c).after (⟨128, by decide⟩ : Fin 134) t = a128 m c t := by dsimp only [dats]
theorem after129 (c : Dev nD) (t : Fin cfg0.N) : (dats m 0 c).after (⟨129, by decide⟩ : Fin 134) t = a129 m c t := by dsimp only [dats]
theorem after130 (c : Dev nD) (t : Fin cfg0.N) : (dats m 0 c).after (⟨130, by decide⟩ : Fin 134) t = a130 m c t := by dsimp only [dats]
theorem after131 (c : Dev nD) (t : Fin cfg0.N) : (dats m 0 c).after (⟨131, by decide⟩ : Fin 134) t = a131 m c t := by dsimp only [dats]
theorem after132 (c : Dev nD) (t : Fin cfg0.N) : (dats m 0 c).after (⟨132, by decide⟩ : Fin 134) t = a132 m c t := by dsimp only [dats]
theorem after133 (c : Dev nD) (t : Fin cfg0.N) : (dats m 0 c).after (⟨133, by decide⟩ : Fin 134) t = a133 m c t := by dsimp only [dats]

end Cert.AdamSmallIdeal.Body

end
-- ==== Proof.AdamSmall.Stage.lean ====
module

public import proofs.«01_k».proof.Proof.AdamSmall.Dats
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.AdamSmallIdeal.Body

open Idealize.ShloMosaic Idealize.ShloMosaic.TcCoe Idealize.ShloMosaic.Tactic
open Cert.AdamSmallIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's buffer at a point, and what the body is called with and returns there. -/

abbrev s0 (t : Fin cfg0.N) : Memref sig .tc .vmem S8x24x1024 .f32 := win0_0.stage (cfg0.slots t (⟨0, by decide⟩ : Fin 134))
abbrev s1 (t : Fin cfg0.N) : Memref sig .tc .vmem S8x16x768 .f32 := win0_1.stage (cfg0.slots t (⟨1, by decide⟩ : Fin 134))
abbrev s2 (t : Fin cfg0.N) : Memref sig .tc .vmem S8x520x128 .f32 := win0_2.stage (cfg0.slots t (⟨2, by decide⟩ : Fin 134))
abbrev s3 (t : Fin cfg0.N) : Memref sig .tc .vmem S8x768x192 .f32 := win0_3.stage (cfg0.slots t (⟨3, by decide⟩ : Fin 134))
abbrev s4 (t : Fin cfg0.N) : Memref sig .tc .vmem S8x24x128 .f32 := win0_4.stage (cfg0.slots t (⟨4, by decide⟩ : Fin 134))
abbrev s5 (t : Fin cfg0.N) : Memref sig .tc .vmem S8x80x96 .f32 := win0_5.stage (cfg0.slots t (⟨5, by decide⟩ : Fin 134))
abbrev s6 (t : Fin cfg0.N) : Memref sig .tc .vmem S8x8x128 .f32 := win0_6.stage (cfg0.slots t (⟨6, by decide⟩ : Fin 134))
abbrev s7 (t : Fin cfg0.N) : Memref sig .tc .vmem S1x1024 .f32 := win0_7.stage (cfg0.slots t (⟨7, by decide⟩ : Fin 134))
abbrev s8 (t : Fin cfg0.N) : Memref sig .tc .vmem S1x1024 .f32 := win0_8.stage (cfg0.slots t (⟨8, by decide⟩ : Fin 134))
abbrev s9 (t : Fin cfg0.N) : Memref sig .tc .vmem S1x1024 .f32 := win0_9.stage (cfg0.slots t (⟨9, by decide⟩ : Fin 134))
abbrev s10 (t : Fin cfg0.N) : Memref sig .tc .vmem S1x1024 .f32 := win0_10.stage (cfg0.slots t (⟨10, by decide⟩ : Fin 134))
abbrev s11 (t : Fin cfg0.N) : Memref sig .tc .vmem S1x1024 .f32 := win0_11.stage (cfg0.slots t (⟨11, by decide⟩ : Fin 134))
abbrev s12 (t : Fin cfg0.N) : Memref sig .tc .vmem S1x1024 .f32 := win0_12.stage (cfg0.slots t (⟨12, by decide⟩ : Fin 134))
abbrev s13 (t : Fin cfg0.N) : Memref sig .tc .vmem S1x1024 .f32 := win0_13.stage (cfg0.slots t (⟨13, by decide⟩ : Fin 134))
abbrev s14 (t : Fin cfg0.N) : Memref sig .tc .vmem S1x1024 .f32 := win0_14.stage (cfg0.slots t (⟨14, by decide⟩ : Fin 134))
abbrev s15 (t : Fin cfg0.N) : Memref sig .tc .vmem S1x1024 .f32 := win0_15.stage (cfg0.slots t (⟨15, by decide⟩ : Fin 134))
abbrev s16 (t : Fin cfg0.N) : Memref sig .tc .vmem S1x768 .f32 := win0_16.stage (cfg0.slots t (⟨16, by decide⟩ : Fin 134))
abbrev s17 (t : Fin cfg0.N) : Memref sig .tc .vmem S1x768 .f32 := win0_17.stage (cfg0.slots t (⟨17, by decide⟩ : Fin 134))
abbrev s18 (t : Fin cfg0.N) : Memref sig .tc .vmem S1x768 .f32 := win0_18.stage (cfg0.slots t (⟨18, by decide⟩ : Fin 134))
abbrev s19 (t : Fin cfg0.N) : Memref sig .tc .vmem S1x768 .f32 := win0_19.stage (cfg0.slots t (⟨19, by decide⟩ : Fin 134))
abbrev s20 (t : Fin cfg0.N) : Memref sig .tc .vmem S1x768 .f32 := win0_20.stage (cfg0.slots t (⟨20, by decide⟩ : Fin 134))
abbrev s21 (t : Fin cfg0.N) : Memref sig .tc .vmem S1x768 .f32 := win0_21.stage (cfg0.slots t (⟨21, by decide⟩ : Fin 134))
abbrev s22 (t : Fin cfg0.N) : Memref sig .tc .vmem S512x128 .f32 := win0_22.stage (cfg0.slots t (⟨22, by decide⟩ : Fin 134))
abbrev s23 (t : Fin cfg0.N) : Memref sig .tc .vmem S512x128 .f32 := win0_23.stage (cfg0.slots t (⟨23, by decide⟩ : Fin 134))
abbrev s24 (t : Fin cfg0.N) : Memref sig .tc .vmem S512x128 .f32 := win0_24.stage (cfg0.slots t (⟨24, by decide⟩ : Fin 134))
abbrev s25 (t : Fin cfg0.N) : Memref sig .tc .vmem S4x128 .f32 := win0_25.stage (cfg0.slots t (⟨25, by decide⟩ : Fin 134))
abbrev s26 (t : Fin cfg0.N) : Memref sig .tc .vmem S4x128 .f32 := win0_26.stage (cfg0.slots t (⟨26, by decide⟩ : Fin 134))
abbrev s27 (t : Fin cfg0.N) : Memref sig .tc .vmem S4x128 .f32 := win0_27.stage (cfg0.slots t (⟨27, by decide⟩ : Fin 134))
abbrev s28 (t : Fin cfg0.N) : Memref sig .tc .vmem S768x192 .f32 := win0_28.stage (cfg0.slots t (⟨28, by decide⟩ : Fin 134))
abbrev s29 (t : Fin cfg0.N) : Memref sig .tc .vmem S768x192 .f32 := win0_29.stage (cfg0.slots t (⟨29, by decide⟩ : Fin 134))
abbrev s30 (t : Fin cfg0.N) : Memref sig .tc .vmem S768x192 .f32 := win0_30.stage (cfg0.slots t (⟨30, by decide⟩ : Fin 134))
abbrev s31 (t : Fin cfg0.N) : Memref sig .tc .vmem S1x128 .f32 := win0_31.stage (cfg0.slots t (⟨31, by decide⟩ : Fin 134))
abbrev s32 (t : Fin cfg0.N) : Memref sig .tc .vmem S1x128 .f32 := win0_32.stage (cfg0.slots t (⟨32, by decide⟩ : Fin 134))
abbrev s33 (t : Fin cfg0.N) : Memref sig .tc .vmem S1x128 .f32 := win0_33.stage (cfg0.slots t (⟨33, by decide⟩ : Fin 134))
abbrev s34 (t : Fin cfg0.N) : Memref sig .tc .vmem S1x128 .f32 := win0_34.stage (cfg0.slots t (⟨34, by decide⟩ : Fin 134))
abbrev s35 (t : Fin cfg0.N) : Memref sig .tc .vmem S1x128 .f32 := win0_35.stage (cfg0.slots t (⟨35, by decide⟩ : Fin 134))
abbrev s36 (t : Fin cfg0.N) : Memref sig .tc .vmem S1x128 .f32 := win0_36.stage (cfg0.slots t (⟨36, by decide⟩ : Fin 134))
abbrev s37 (t : Fin cfg0.N) : Memref sig .tc .vmem S1x128 .f32 := win0_37.stage (cfg0.slots t (⟨37, by decide⟩ : Fin 134))
abbrev s38 (t : Fin cfg0.N) : Memref sig .tc .vmem S1x128 .f32 := win0_38.stage (cfg0.slots t (⟨38, by decide⟩ : Fin 134))
abbrev s39 (t : Fin cfg0.N) : Memref sig .tc .vmem S1x128 .f32 := win0_39.stage (cfg0.slots t (⟨39, by decide⟩ : Fin 134))
abbrev s40 (t : Fin cfg0.N) : Memref sig .tc .vmem S3x96 .f32 := win0_40.stage (cfg0.slots t (⟨40, by decide⟩ : Fin 134))
abbrev s41 (t : Fin cfg0.N) : Memref sig .tc .vmem S3x96 .f32 := win0_41.stage (cfg0.slots t (⟨41, by decide⟩ : Fin 134))
abbrev s42 (t : Fin cfg0.N) : Memref sig .tc .vmem S3x96 .f32 := win0_42.stage (cfg0.slots t (⟨42, by decide⟩ : Fin 134))
abbrev s43 (t : Fin cfg0.N) : Memref sig .tc .vmem S1x96 .f32 := win0_43.stage (cfg0.slots t (⟨43, by decide⟩ : Fin 134))
abbrev s44 (t : Fin cfg0.N) : Memref sig .tc .vmem S1x96 .f32 := win0_44.stage (cfg0.slots t (⟨44, by decide⟩ : Fin 134))
abbrev s45 (t : Fin cfg0.N) : Memref sig .tc .vmem S1x96 .f32 := win0_45.stage (cfg0.slots t (⟨45, by decide⟩ : Fin 134))
abbrev s46 (t : Fin cfg0.N) : Memref sig .tc .vmem S31x96 .f32 := win0_46.stage (cfg0.slots t (⟨46, by decide⟩ : Fin 134))
abbrev s47 (t : Fin cfg0.N) : Memref sig .tc .vmem S31x96 .f32 := win0_47.stage (cfg0.slots t (⟨47, by decide⟩ : Fin 134))
abbrev s48 (t : Fin cfg0.N) : Memref sig .tc .vmem S31x96 .f32 := win0_48.stage (cfg0.slots t (⟨48, by decide⟩ : Fin 134))
abbrev s49 (t : Fin cfg0.N) : Memref sig .tc .vmem S1x96 .f32 := win0_49.stage (cfg0.slots t (⟨49, by decide⟩ : Fin 134))
abbrev s50 (t : Fin cfg0.N) : Memref sig .tc .vmem S1x96 .f32 := win0_50.stage (cfg0.slots t (⟨50, by decide⟩ : Fin 134))
abbrev s51 (t : Fin cfg0.N) : Memref sig .tc .vmem S1x96 .f32 := win0_51.stage (cfg0.slots t (⟨51, by decide⟩ : Fin 134))
abbrev s52 (t : Fin cfg0.N) : Memref sig .tc .vmem S1x96 .f32 := win0_52.stage (cfg0.slots t (⟨52, by decide⟩ : Fin 134))
abbrev s53 (t : Fin cfg0.N) : Memref sig .tc .vmem S1x96 .f32 := win0_53.stage (cfg0.slots t (⟨53, by decide⟩ : Fin 134))
abbrev s54 (t : Fin cfg0.N) : Memref sig .tc .vmem S1x96 .f32 := win0_54.stage (cfg0.slots t (⟨54, by decide⟩ : Fin 134))
abbrev s55 (t : Fin cfg0.N) : Memref sig .tc .vmem S1x96 .f32 := win0_55.stage (cfg0.slots t (⟨55, by decide⟩ : Fin 134))
abbrev s56 (t : Fin cfg0.N) : Memref sig .tc .vmem S1x96 .f32 := win0_56.stage (cfg0.slots t (⟨56, by decide⟩ : Fin 134))
abbrev s57 (t : Fin cfg0.N) : Memref sig .tc .vmem S1x96 .f32 := win0_57.stage (cfg0.slots t (⟨57, by decide⟩ : Fin 134))
abbrev s58 (t : Fin cfg0.N) : Memref sig .tc .vmem S1x96 .f32 := win0_58.stage (cfg0.slots t (⟨58, by decide⟩ : Fin 134))
abbrev s59 (t : Fin cfg0.N) : Memref sig .tc .vmem S1x96 .f32 := win0_59.stage (cfg0.slots t (⟨59, by decide⟩ : Fin 134))
abbrev s60 (t : Fin cfg0.N) : Memref sig .tc .vmem S1x96 .f32 := win0_60.stage (cfg0.slots t (⟨60, by decide⟩ : Fin 134))
abbrev s61 (t : Fin cfg0.N) : Memref sig .tc .vmem S1x1024 .f32 := win0_61.stage (cfg0.slots t (⟨61, by decide⟩ : Fin 134))
abbrev s62 (t : Fin cfg0.N) : Memref sig .tc .vmem S1x1024 .f32 := win0_62.stage (cfg0.slots t (⟨62, by decide⟩ : Fin 134))
abbrev s63 (t : Fin cfg0.N) : Memref sig .tc .vmem S1x1024 .f32 := win0_63.stage (cfg0.slots t (⟨63, by decide⟩ : Fin 134))
abbrev s64 (t : Fin cfg0.N) : Memref sig .tc .vmem S1x1024 .f32 := win0_64.stage (cfg0.slots t (⟨64, by decide⟩ : Fin 134))
abbrev s65 (t : Fin cfg0.N) : Memref sig .tc .vmem S1x1024 .f32 := win0_65.stage (cfg0.slots t (⟨65, by decide⟩ : Fin 134))
abbrev s66 (t : Fin cfg0.N) : Memref sig .tc .vmem S1x1024 .f32 := win0_66.stage (cfg0.slots t (⟨66, by decide⟩ : Fin 134))
abbrev s67 (t : Fin cfg0.N) : Memref sig .tc .vmem S1x1024 .f32 := win0_67.stage (cfg0.slots t (⟨67, by decide⟩ : Fin 134))
abbrev s68 (t : Fin cfg0.N) : Memref sig .tc .vmem S1x1024 .f32 := win0_68.stage (cfg0.slots t (⟨68, by decide⟩ : Fin 134))
abbrev s69 (t : Fin cfg0.N) : Memref sig .tc .vmem S1x1024 .f32 := win0_69.stage (cfg0.slots t (⟨69, by decide⟩ : Fin 134))
abbrev s70 (t : Fin cfg0.N) : Memref sig .tc .vmem S1x1024 .f32 := win0_70.stage (cfg0.slots t (⟨70, by decide⟩ : Fin 134))
abbrev s71 (t : Fin cfg0.N) : Memref sig .tc .vmem S1x1024 .f32 := win0_71.stage (cfg0.slots t (⟨71, by decide⟩ : Fin 134))
abbrev s72 (t : Fin cfg0.N) : Memref sig .tc .vmem S1x1024 .f32 := win0_72.stage (cfg0.slots t (⟨72, by decide⟩ : Fin 134))
abbrev s73 (t : Fin cfg0.N) : Memref sig .tc .vmem S1x768 .f32 := win0_73.stage (cfg0.slots t (⟨73, by decide⟩ : Fin 134))
abbrev s74 (t : Fin cfg0.N) : Memref sig .tc .vmem S1x768 .f32 := win0_74.stage (cfg0.slots t (⟨74, by decide⟩ : Fin 134))
abbrev s75 (t : Fin cfg0.N) : Memref sig .tc .vmem S1x768 .f32 := win0_75.stage (cfg0.slots t (⟨75, by decide⟩ : Fin 134))
abbrev s76 (t : Fin cfg0.N) : Memref sig .tc .vmem S1x768 .f32 := win0_76.stage (cfg0.slots t (⟨76, by decide⟩ : Fin 134))
abbrev s77 (t : Fin cfg0.N) : Memref sig .tc .vmem S1x768 .f32 := win0_77.stage (cfg0.slots t (⟨77, by decide⟩ : Fin 134))
abbrev s78 (t : Fin cfg0.N) : Memref sig .tc .vmem S1x768 .f32 := win0_78.stage (cfg0.slots t (⟨78, by decide⟩ : Fin 134))
abbrev s79 (t : Fin cfg0.N) : Memref sig .tc .vmem S1x768 .f32 := win0_79.stage (cfg0.slots t (⟨79, by decide⟩ : Fin 134))
abbrev s80 (t : Fin cfg0.N) : Memref sig .tc .vmem S1x768 .f32 := win0_80.stage (cfg0.slots t (⟨80, by decide⟩ : Fin 134))
abbrev s81 (t : Fin cfg0.N) : Memref sig .tc .vmem S512x128 .f32 := win0_81.stage (cfg0.slots t (⟨81, by decide⟩ : Fin 134))
abbrev s82 (t : Fin cfg0.N) : Memref sig .tc .vmem S512x128 .f32 := win0_82.stage (cfg0.slots t (⟨82, by decide⟩ : Fin 134))
abbrev s83 (t : Fin cfg0.N) : Memref sig .tc .vmem S512x128 .f32 := win0_83.stage (cfg0.slots t (⟨83, by decide⟩ : Fin 134))
abbrev s84 (t : Fin cfg0.N) : Memref sig .tc .vmem S512x128 .f32 := win0_84.stage (cfg0.slots t (⟨84, by decide⟩ : Fin 134))
abbrev s85 (t : Fin cfg0.N) : Memref sig .tc .vmem S4x128 .f32 := win0_85.stage (cfg0.slots t (⟨85, by decide⟩ : Fin 134))
abbrev s86 (t : Fin cfg0.N) : Memref sig .tc .vmem S4x128 .f32 := win0_86.stage (cfg0.slots t (⟨86, by decide⟩ : Fin 134))
abbrev s87 (t : Fin cfg0.N) : Memref sig .tc .vmem S4x128 .f32 := win0_87.stage (cfg0.slots t (⟨87, by decide⟩ : Fin 134))
abbrev s88 (t : Fin cfg0.N) : Memref sig .tc .vmem S4x128 .f32 := win0_88.stage (cfg0.slots t (⟨88, by decide⟩ : Fin 134))
abbrev s89 (t : Fin cfg0.N) : Memref sig .tc .vmem S768x192 .f32 := win0_89.stage (cfg0.slots t (⟨89, by decide⟩ : Fin 134))
abbrev s90 (t : Fin cfg0.N) : Memref sig .tc .vmem S768x192 .f32 := win0_90.stage (cfg0.slots t (⟨90, by decide⟩ : Fin 134))
abbrev s91 (t : Fin cfg0.N) : Memref sig .tc .vmem S768x192 .f32 := win0_91.stage (cfg0.slots t (⟨91, by decide⟩ : Fin 134))
abbrev s92 (t : Fin cfg0.N) : Memref sig .tc .vmem S768x192 .f32 := win0_92.stage (cfg0.slots t (⟨92, by decide⟩ : Fin 134))
abbrev s93 (t : Fin cfg0.N) : Memref sig .tc .vmem S1x128 .f32 := win0_93.stage (cfg0.slots t (⟨93, by decide⟩ : Fin 134))
abbrev s94 (t : Fin cfg0.N) : Memref sig .tc .vmem S1x128 .f32 := win0_94.stage (cfg0.slots t (⟨94, by decide⟩ : Fin 134))
abbrev s95 (t : Fin cfg0.N) : Memref sig .tc .vmem S1x128 .f32 := win0_95.stage (cfg0.slots t (⟨95, by decide⟩ : Fin 134))
abbrev s96 (t : Fin cfg0.N) : Memref sig .tc .vmem S1x128 .f32 := win0_96.stage (cfg0.slots t (⟨96, by decide⟩ : Fin 134))
abbrev s97 (t : Fin cfg0.N) : Memref sig .tc .vmem S1x128 .f32 := win0_97.stage (cfg0.slots t (⟨97, by decide⟩ : Fin 134))
abbrev s98 (t : Fin cfg0.N) : Memref sig .tc .vmem S1x128 .f32 := win0_98.stage (cfg0.slots t (⟨98, by decide⟩ : Fin 134))
abbrev s99 (t : Fin cfg0.N) : Memref sig .tc .vmem S1x128 .f32 := win0_99.stage (cfg0.slots t (⟨99, by decide⟩ : Fin 134))
abbrev s100 (t : Fin cfg0.N) : Memref sig .tc .vmem S1x128 .f32 := win0_100.stage (cfg0.slots t (⟨100, by decide⟩ : Fin 134))
abbrev s101 (t : Fin cfg0.N) : Memref sig .tc .vmem S1x128 .f32 := win0_101.stage (cfg0.slots t (⟨101, by decide⟩ : Fin 134))
abbrev s102 (t : Fin cfg0.N) : Memref sig .tc .vmem S1x128 .f32 := win0_102.stage (cfg0.slots t (⟨102, by decide⟩ : Fin 134))
abbrev s103 (t : Fin cfg0.N) : Memref sig .tc .vmem S1x128 .f32 := win0_103.stage (cfg0.slots t (⟨103, by decide⟩ : Fin 134))
abbrev s104 (t : Fin cfg0.N) : Memref sig .tc .vmem S1x128 .f32 := win0_104.stage (cfg0.slots t (⟨104, by decide⟩ : Fin 134))
abbrev s105 (t : Fin cfg0.N) : Memref sig .tc .vmem S3x96 .f32 := win0_105.stage (cfg0.slots t (⟨105, by decide⟩ : Fin 134))
abbrev s106 (t : Fin cfg0.N) : Memref sig .tc .vmem S3x96 .f32 := win0_106.stage (cfg0.slots t (⟨106, by decide⟩ : Fin 134))
abbrev s107 (t : Fin cfg0.N) : Memref sig .tc .vmem S3x96 .f32 := win0_107.stage (cfg0.slots t (⟨107, by decide⟩ : Fin 134))
abbrev s108 (t : Fin cfg0.N) : Memref sig .tc .vmem S3x96 .f32 := win0_108.stage (cfg0.slots t (⟨108, by decide⟩ : Fin 134))
abbrev s109 (t : Fin cfg0.N) : Memref sig .tc .vmem S1x96 .f32 := win0_109.stage (cfg0.slots t (⟨109, by decide⟩ : Fin 134))
abbrev s110 (t : Fin cfg0.N) : Memref sig .tc .vmem S1x96 .f32 := win0_110.stage (cfg0.slots t (⟨110, by decide⟩ : Fin 134))
abbrev s111 (t : Fin cfg0.N) : Memref sig .tc .vmem S1x96 .f32 := win0_111.stage (cfg0.slots t (⟨111, by decide⟩ : Fin 134))
abbrev s112 (t : Fin cfg0.N) : Memref sig .tc .vmem S1x96 .f32 := win0_112.stage (cfg0.slots t (⟨112, by decide⟩ : Fin 134))
abbrev s113 (t : Fin cfg0.N) : Memref sig .tc .vmem S31x96 .f32 := win0_113.stage (cfg0.slots t (⟨113, by decide⟩ : Fin 134))
abbrev s114 (t : Fin cfg0.N) : Memref sig .tc .vmem S31x96 .f32 := win0_114.stage (cfg0.slots t (⟨114, by decide⟩ : Fin 134))
abbrev s115 (t : Fin cfg0.N) : Memref sig .tc .vmem S31x96 .f32 := win0_115.stage (cfg0.slots t (⟨115, by decide⟩ : Fin 134))
abbrev s116 (t : Fin cfg0.N) : Memref sig .tc .vmem S31x96 .f32 := win0_116.stage (cfg0.slots t (⟨116, by decide⟩ : Fin 134))
abbrev s117 (t : Fin cfg0.N) : Memref sig .tc .vmem S1x96 .f32 := win0_117.stage (cfg0.slots t (⟨117, by decide⟩ : Fin 134))
abbrev s118 (t : Fin cfg0.N) : Memref sig .tc .vmem S1x96 .f32 := win0_118.stage (cfg0.slots t (⟨118, by decide⟩ : Fin 134))
abbrev s119 (t : Fin cfg0.N) : Memref sig .tc .vmem S1x96 .f32 := win0_119.stage (cfg0.slots t (⟨119, by decide⟩ : Fin 134))
abbrev s120 (t : Fin cfg0.N) : Memref sig .tc .vmem S1x96 .f32 := win0_120.stage (cfg0.slots t (⟨120, by decide⟩ : Fin 134))
abbrev s121 (t : Fin cfg0.N) : Memref sig .tc .vmem S1x96 .f32 := win0_121.stage (cfg0.slots t (⟨121, by decide⟩ : Fin 134))
abbrev s122 (t : Fin cfg0.N) : Memref sig .tc .vmem S1x96 .f32 := win0_122.stage (cfg0.slots t (⟨122, by decide⟩ : Fin 134))
abbrev s123 (t : Fin cfg0.N) : Memref sig .tc .vmem S1x96 .f32 := win0_123.stage (cfg0.slots t (⟨123, by decide⟩ : Fin 134))
abbrev s124 (t : Fin cfg0.N) : Memref sig .tc .vmem S1x96 .f32 := win0_124.stage (cfg0.slots t (⟨124, by decide⟩ : Fin 134))
abbrev s125 (t : Fin cfg0.N) : Memref sig .tc .vmem S1x96 .f32 := win0_125.stage (cfg0.slots t (⟨125, by decide⟩ : Fin 134))
abbrev s126 (t : Fin cfg0.N) : Memref sig .tc .vmem S1x96 .f32 := win0_126.stage (cfg0.slots t (⟨126, by decide⟩ : Fin 134))
abbrev s127 (t : Fin cfg0.N) : Memref sig .tc .vmem S1x96 .f32 := win0_127.stage (cfg0.slots t (⟨127, by decide⟩ : Fin 134))
abbrev s128 (t : Fin cfg0.N) : Memref sig .tc .vmem S1x96 .f32 := win0_128.stage (cfg0.slots t (⟨128, by decide⟩ : Fin 134))
abbrev s129 (t : Fin cfg0.N) : Memref sig .tc .vmem S1x96 .f32 := win0_129.stage (cfg0.slots t (⟨129, by decide⟩ : Fin 134))
abbrev s130 (t : Fin cfg0.N) : Memref sig .tc .vmem S1x96 .f32 := win0_130.stage (cfg0.slots t (⟨130, by decide⟩ : Fin 134))
abbrev s131 (t : Fin cfg0.N) : Memref sig .tc .vmem S1x96 .f32 := win0_131.stage (cfg0.slots t (⟨131, by decide⟩ : Fin 134))
abbrev s132 (t : Fin cfg0.N) : Memref sig .tc .vmem S1x96 .f32 := win0_132.stage (cfg0.slots t (⟨132, by decide⟩ : Fin 134))
abbrev s133 (t : Fin cfg0.N) : Memref sig .tc .vmem S1x128 .f32 := win0_133.stage (cfg0.slots t (⟨133, by decide⟩ : Fin 134))

/-- A window's buffer before the body, -/
def pre (c : Dev nD) (t : Fin cfg0.N) (w : Fin cfg0.W) : sProp 𝕄 :=
  iprop(∃ d, owns (c : Thread nD τ) ((cfg0.win w).stage (cfg0.slots t w)) fullShare ((dats m 0 c).before w t d))

/-- and after it. -/
def post (c : Dev nD) (t : Fin cfg0.N) (w : Fin cfg0.W) : sProp 𝕄 :=
  owns (c : Thread nD τ) ((cfg0.win w).stage (cfg0.slots t w)) fullShare ((dats m 0 c).after w t)

end Cert.AdamSmallIdeal.Body

end
-- ==== Proof.AdamSmall.Body.lean ====
module

public import proofs.«01_k».proof.Proof.AdamSmall.Values
public import proofs.«01_k».proof.Proof.Gen.AdamSmallIdeal.Launch
public import proofs.«01_k».proof.Proof.Gen.AdamSmallIdeal.Skeleton
public import proofs.«01_k».proof.Proof.Gen.AdamSmallIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.AdamSmallIdeal.Body

open Idealize.ShloMosaic Idealize.ShloMosaic.TcCoe Idealize.ShloMosaic.Tactic
open Cert.AdamSmallIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
/-- The body on whole buffers, the inputs' at `x·` and the outputs' at anything, runs to the continuation holding the
    inputs' as they were and each output's at `out·` of the inputs it depends on. A weight's buffers are opened when the
    body comes to the weight, and closed when it is done with it. -/
theorem sound_kernel (c : Dev nD) (E : Set ℕ) (arg0 : Memref sig .tc .vmem S8x24x1024 .f32) (harg0 : arg0.IsWhole) (arg1 : Memref sig .tc .vmem S8x16x768 .f32) (harg1 : arg1.IsWhole) (arg2 : Memref sig .tc .vmem S8x520x128 .f32) (harg2 : arg2.IsWhole) (arg3 : Memref sig .tc .vmem S8x768x192 .f32) (harg3 : arg3.IsWhole) (arg4 : Memref sig .tc .vmem S8x24x128 .f32) (harg4 : arg4.IsWhole) (arg5 : Memref sig .tc .vmem S8x80x96 .f32) (harg5 : arg5.IsWhole) (arg6 : Memref sig .tc .vmem S8x8x128 .f32) (harg6 : arg6.IsWhole) (arg7 : Memref sig .tc .vmem S1x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1x1024 .f32) (harg11 : arg11.IsWhole) (arg12 : Memref sig .tc .vmem S1x1024 .f32) (harg12 : arg12.IsWhole) (arg13 : Memref sig .tc .vmem S1x1024 .f32) (harg13 : arg13.IsWhole) (arg14 : Memref sig .tc .vmem S1x1024 .f32) (harg14 : arg14.IsWhole) (arg15 : Memref sig .tc .vmem S1x1024 .f32) (harg15 : arg15.IsWhole) (arg16 : Memref sig .tc .vmem S1x768 .f32) (harg16 : arg16.IsWhole) (arg17 : Memref sig .tc .vmem S1x768 .f32) (harg17 : arg17.IsWhole) (arg18 : Memref sig .tc .vmem S1x768 .f32) (harg18 : arg18.IsWhole) (arg19 : Memref sig .tc .vmem S1x768 .f32) (harg19 : arg19.IsWhole) (arg20 : Memref sig .tc .vmem S1x768 .f32) (harg20 : arg20.IsWhole) (arg21 : Memref sig .tc .vmem S1x768 .f32) (harg21 : arg21.IsWhole) (arg22 : Memref sig .tc .vmem S512x128 .f32) (harg22 : arg22.IsWhole) (arg23 : Memref sig .tc .vmem S512x128 .f32) (harg23 : arg23.IsWhole) (arg24 : Memref sig .tc .vmem S512x128 .f32) (harg24 : arg24.IsWhole) (arg25 : Memref sig .tc .vmem S4x128 .f32) (harg25 : arg25.IsWhole) (arg26 : Memref sig .tc .vmem S4x128 .f32) (harg26 : arg26.IsWhole) (arg27 : Memref sig .tc .vmem S4x128 .f32) (harg27 : arg27.IsWhole) (arg28 : Memref sig .tc .vmem S768x192 .f32) (harg28 : arg28.IsWhole) (arg29 : Memref sig .tc .vmem S768x192 .f32) (harg29 : arg29.IsWhole) (arg30 : Memref sig .tc .vmem S768x192 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (arg38 : Memref sig .tc .vmem S1x128 .f32) (harg38 : arg38.IsWhole) (arg39 : Memref sig .tc .vmem S1x128 .f32) (harg39 : arg39.IsWhole) (arg40 : Memref sig .tc .vmem S3x96 .f32) (harg40 : arg40.IsWhole) (arg41 : Memref sig .tc .vmem S3x96 .f32) (harg41 : arg41.IsWhole) (arg42 : Memref sig .tc .vmem S3x96 .f32) (harg42 : arg42.IsWhole) (arg43 : Memref sig .tc .vmem S1x96 .f32) (harg43 : arg43.IsWhole) (arg44 : Memref sig .tc .vmem S1x96 .f32) (harg44 : arg44.IsWhole) (arg45 : Memref sig .tc .vmem S1x96 .f32) (harg45 : arg45.IsWhole) (arg46 : Memref sig .tc .vmem S31x96 .f32) (harg46 : arg46.IsWhole) (arg47 : Memref sig .tc .vmem S31x96 .f32) (harg47 : arg47.IsWhole) (arg48 : Memref sig .tc .vmem S31x96 .f32) (harg48 : arg48.IsWhole) (arg49 : Memref sig .tc .vmem S1x96 .f32) (harg49 : arg49.IsWhole) (arg50 : Memref sig .tc .vmem S1x96 .f32) (harg50 : arg50.IsWhole) (arg51 : Memref sig .tc .vmem S1x96 .f32) (harg51 : arg51.IsWhole) (arg52 : Memref sig .tc .vmem S1x96 .f32) (harg52 : arg52.IsWhole) (arg53 : Memref sig .tc .vmem S1x96 .f32) (harg53 : arg53.IsWhole) (arg54 : Memref sig .tc .vmem S1x96 .f32) (harg54 : arg54.IsWhole) (arg55 : Memref sig .tc .vmem S1x96 .f32) (harg55 : arg55.IsWhole) (arg56 : Memref sig .tc .vmem S1x96 .f32) (harg56 : arg56.IsWhole) (arg57 : Memref sig .tc .vmem S1x96 .f32) (harg57 : arg57.IsWhole) (arg58 : Memref sig .tc .vmem S1x96 .f32) (harg58 : arg58.IsWhole) (arg59 : Memref sig .tc .vmem S1x96 .f32) (harg59 : arg59.IsWhole) (arg60 : Memref sig .tc .vmem S1x96 .f32) (harg60 : arg60.IsWhole) (arg61 : Memref sig .tc .vmem S1x1024 .f32) (harg61 : arg61.IsWhole) (arg62 : Memref sig .tc .vmem S1x1024 .f32) (harg62 : arg62.IsWhole) (arg63 : Memref sig .tc .vmem S1x1024 .f32) (harg63 : arg63.IsWhole) (arg64 : Memref sig .tc .vmem S1x1024 .f32) (harg64 : arg64.IsWhole) (arg65 : Memref sig .tc .vmem S1x1024 .f32) (harg65 : arg65.IsWhole) (arg66 : Memref sig .tc .vmem S1x1024 .f32) (harg66 : arg66.IsWhole) (arg67 : Memref sig .tc .vmem S1x1024 .f32) (harg67 : arg67.IsWhole) (arg68 : Memref sig .tc .vmem S1x1024 .f32) (harg68 : arg68.IsWhole) (arg69 : Memref sig .tc .vmem S1x1024 .f32) (harg69 : arg69.IsWhole) (arg70 : Memref sig .tc .vmem S1x1024 .f32) (harg70 : arg70.IsWhole) (arg71 : Memref sig .tc .vmem S1x1024 .f32) (harg71 : arg71.IsWhole) (arg72 : Memref sig .tc .vmem S1x1024 .f32) (harg72 : arg72.IsWhole) (arg73 : Memref sig .tc .vmem S1x768 .f32) (harg73 : arg73.IsWhole) (arg74 : Memref sig .tc .vmem S1x768 .f32) (harg74 : arg74.IsWhole) (arg75 : Memref sig .tc .vmem S1x768 .f32) (harg75 : arg75.IsWhole) (arg76 : Memref sig .tc .vmem S1x768 .f32) (harg76 : arg76.IsWhole) (arg77 : Memref sig .tc .vmem S1x768 .f32) (harg77 : arg77.IsWhole) (arg78 : Memref sig .tc .vmem S1x768 .f32) (harg78 : arg78.IsWhole) (arg79 : Memref sig .tc .vmem S1x768 .f32) (harg79 : arg79.IsWhole) (arg80 : Memref sig .tc .vmem S1x768 .f32) (harg80 : arg80.IsWhole) (arg81 : Memref sig .tc .vmem S512x128 .f32) (harg81 : arg81.IsWhole) (arg82 : Memref sig .tc .vmem S512x128 .f32) (harg82 : arg82.IsWhole) (arg83 : Memref sig .tc .vmem S512x128 .f32) (harg83 : arg83.IsWhole) (arg84 : Memref sig .tc .vmem S512x128 .f32) (harg84 : arg84.IsWhole) (arg85 : Memref sig .tc .vmem S4x128 .f32) (harg85 : arg85.IsWhole) (arg86 : Memref sig .tc .vmem S4x128 .f32) (harg86 : arg86.IsWhole) (arg87 : Memref sig .tc .vmem S4x128 .f32) (harg87 : arg87.IsWhole) (arg88 : Memref sig .tc .vmem S4x128 .f32) (harg88 : arg88.IsWhole) (arg89 : Memref sig .tc .vmem S768x192 .f32) (harg89 : arg89.IsWhole) (arg90 : Memref sig .tc .vmem S768x192 .f32) (harg90 : arg90.IsWhole) (arg91 : Memref sig .tc .vmem S768x192 .f32) (harg91 : arg91.IsWhole) (arg92 : Memref sig .tc .vmem S768x192 .f32) (harg92 : arg92.IsWhole) (arg93 : Memref sig .tc .vmem S1x128 .f32) (harg93 : arg93.IsWhole) (arg94 : Memref sig .tc .vmem S1x128 .f32) (harg94 : arg94.IsWhole) (arg95 : Memref sig .tc .vmem S1x128 .f32) (harg95 : arg95.IsWhole) (arg96 : Memref sig .tc .vmem S1x128 .f32) (harg96 : arg96.IsWhole) (arg97 : Memref sig .tc .vmem S1x128 .f32) (harg97 : arg97.IsWhole) (arg98 : Memref sig .tc .vmem S1x128 .f32) (harg98 : arg98.IsWhole) (arg99 : Memref sig .tc .vmem S1x128 .f32) (harg99 : arg99.IsWhole) (arg100 : Memref sig .tc .vmem S1x128 .f32) (harg100 : arg100.IsWhole) (arg101 : Memref sig .tc .vmem S1x128 .f32) (harg101 : arg101.IsWhole) (arg102 : Memref sig .tc .vmem S1x128 .f32) (harg102 : arg102.IsWhole) (arg103 : Memref sig .tc .vmem S1x128 .f32) (harg103 : arg103.IsWhole) (arg104 : Memref sig .tc .vmem S1x128 .f32) (harg104 : arg104.IsWhole) (arg105 : Memref sig .tc .vmem S3x96 .f32) (harg105 : arg105.IsWhole) (arg106 : Memref sig .tc .vmem S3x96 .f32) (harg106 : arg106.IsWhole) (arg107 : Memref sig .tc .vmem S3x96 .f32) (harg107 : arg107.IsWhole) (arg108 : Memref sig .tc .vmem S3x96 .f32) (harg108 : arg108.IsWhole) (arg109 : Memref sig .tc .vmem S1x96 .f32) (harg109 : arg109.IsWhole) (arg110 : Memref sig .tc .vmem S1x96 .f32) (harg110 : arg110.IsWhole) (arg111 : Memref sig .tc .vmem S1x96 .f32) (harg111 : arg111.IsWhole) (arg112 : Memref sig .tc .vmem S1x96 .f32) (harg112 : arg112.IsWhole) (arg113 : Memref sig .tc .vmem S31x96 .f32) (harg113 : arg113.IsWhole) (arg114 : Memref sig .tc .vmem S31x96 .f32) (harg114 : arg114.IsWhole) (arg115 : Memref sig .tc .vmem S31x96 .f32) (harg115 : arg115.IsWhole) (arg116 : Memref sig .tc .vmem S31x96 .f32) (harg116 : arg116.IsWhole) (arg117 : Memref sig .tc .vmem S1x96 .f32) (harg117 : arg117.IsWhole) (arg118 : Memref sig .tc .vmem S1x96 .f32) (harg118 : arg118.IsWhole) (arg119 : Memref sig .tc .vmem S1x96 .f32) (harg119 : arg119.IsWhole) (arg120 : Memref sig .tc .vmem S1x96 .f32) (harg120 : arg120.IsWhole) (arg121 : Memref sig .tc .vmem S1x96 .f32) (harg121 : arg121.IsWhole) (arg122 : Memref sig .tc .vmem S1x96 .f32) (harg122 : arg122.IsWhole) (arg123 : Memref sig .tc .vmem S1x96 .f32) (harg123 : arg123.IsWhole) (arg124 : Memref sig .tc .vmem S1x96 .f32) (harg124 : arg124.IsWhole) (arg125 : Memref sig .tc .vmem S1x96 .f32) (harg125 : arg125.IsWhole) (arg126 : Memref sig .tc .vmem S1x96 .f32) (harg126 : arg126.IsWhole) (arg127 : Memref sig .tc .vmem S1x96 .f32) (harg127 : arg127.IsWhole) (arg128 : Memref sig .tc .vmem S1x96 .f32) (harg128 : arg128.IsWhole) (arg129 : Memref sig .tc .vmem S1x96 .f32) (harg129 : arg129.IsWhole) (arg130 : Memref sig .tc .vmem S1x96 .f32) (harg130 : arg130.IsWhole) (arg131 : Memref sig .tc .vmem S1x96 .f32) (harg131 : arg131.IsWhole) (arg132 : Memref sig .tc .vmem S1x96 .f32) (harg132 : arg132.IsWhole) (arg133 : Memref sig .tc .vmem S1x128 .f32) (harg133 : arg133.IsWhole)
    (x0 : Vec F S8x24x1024 .f32) (x1 : Vec F S8x16x768 .f32) (x2 : Vec F S8x520x128 .f32) (x3 : Vec F S8x768x192 .f32) (x4 : Vec F S8x24x128 .f32) (x5 : Vec F S8x80x96 .f32) (x6 : Vec F S8x8x128 .f32) (x7 : Vec F S1x1024 .f32) (x8 : Vec F S1x1024 .f32) (x9 : Vec F S1x1024 .f32) (x10 : Vec F S1x1024 .f32) (x11 : Vec F S1x1024 .f32) (x12 : Vec F S1x1024 .f32) (x13 : Vec F S1x1024 .f32) (x14 : Vec F S1x1024 .f32) (x15 : Vec F S1x1024 .f32) (x16 : Vec F S1x768 .f32) (x17 : Vec F S1x768 .f32) (x18 : Vec F S1x768 .f32) (x19 : Vec F S1x768 .f32) (x20 : Vec F S1x768 .f32) (x21 : Vec F S1x768 .f32) (x22 : Vec F S512x128 .f32) (x23 : Vec F S512x128 .f32) (x24 : Vec F S512x128 .f32) (x25 : Vec F S4x128 .f32) (x26 : Vec F S4x128 .f32) (x27 : Vec F S4x128 .f32) (x28 : Vec F S768x192 .f32) (x29 : Vec F S768x192 .f32) (x30 : Vec F S768x192 .f32) (x31 : Vec F S1x128 .f32) (x32 : Vec F S1x128 .f32) (x33 : Vec F S1x128 .f32) (x34 : Vec F S1x128 .f32) (x35 : Vec F S1x128 .f32) (x36 : Vec F S1x128 .f32) (x37 : Vec F S1x128 .f32) (x38 : Vec F S1x128 .f32) (x39 : Vec F S1x128 .f32) (x40 : Vec F S3x96 .f32) (x41 : Vec F S3x96 .f32) (x42 : Vec F S3x96 .f32) (x43 : Vec F S1x96 .f32) (x44 : Vec F S1x96 .f32) (x45 : Vec F S1x96 .f32) (x46 : Vec F S31x96 .f32) (x47 : Vec F S31x96 .f32) (x48 : Vec F S31x96 .f32) (x49 : Vec F S1x96 .f32) (x50 : Vec F S1x96 .f32) (x51 : Vec F S1x96 .f32) (x52 : Vec F S1x96 .f32) (x53 : Vec F S1x96 .f32) (x54 : Vec F S1x96 .f32) (x55 : Vec F S1x96 .f32) (x56 : Vec F S1x96 .f32) (x57 : Vec F S1x96 .f32) (x58 : Vec F S1x96 .f32) (x59 : Vec F S1x96 .f32) (x60 : Vec F S1x96 .f32) (K : PUnit → sProp 𝕄) :
    iprop(srcs7 c arg0 arg1 arg2 arg3 arg4 arg5 arg6 x0 x1 x2 x3 x4 x5 x6
        ∗ ins3 c arg7 arg8 arg9 x7 x8 x9
        ∗ ins3 c arg10 arg11 arg12 x10 x11 x12
        ∗ ins3 c arg13 arg14 arg15 x13 x14 x15
        ∗ ins3 c arg16 arg17 arg18 x16 x17 x18
        ∗ ins3 c arg19 arg20 arg21 x19 x20 x21
        ∗ ins3 c arg22 arg23 arg24 x22 x23 x24
        ∗ ins3 c arg25 arg26 arg27 x25 x26 x27
        ∗ ins3 c arg28 arg29 arg30 x28 x29 x30
        ∗ ins3 c arg31 arg32 arg33 x31 x32 x33
        ∗ ins3 c arg34 arg35 arg36 x34 x35 x36
        ∗ ins3 c arg37 arg38 arg39 x37 x38 x39
        ∗ ins3 c arg40 arg41 arg42 x40 x41 x42
        ∗ ins3 c arg43 arg44 arg45 x43 x44 x45
        ∗ ins3 c arg46 arg47 arg48 x46 x47 x48
        ∗ ins3 c arg49 arg50 arg51 x49 x50 x51
        ∗ ins3 c arg52 arg53 arg54 x52 x53 x54
        ∗ ins3 c arg55 arg56 arg57 x55 x56 x57
        ∗ ins3 c arg58 arg59 arg60 x58 x59 x60
        ∗ any4 (F := F) c arg61 arg62 arg63 arg64
        ∗ any4 (F := F) c arg65 arg66 arg67 arg68
        ∗ any4 (F := F) c arg69 arg70 arg71 arg72
        ∗ any4 (F := F) c arg73 arg74 arg75 arg76
        ∗ any4 (F := F) c arg77 arg78 arg79 arg80
        ∗ any4 (F := F) c arg81 arg82 arg83 arg84
        ∗ any4 (F := F) c arg85 arg86 arg87 arg88
        ∗ any4 (F := F) c arg89 arg90 arg91 arg92
        ∗ any4 (F := F) c arg93 arg94 arg95 arg96
        ∗ any4 (F := F) c arg97 arg98 arg99 arg100
        ∗ any4 (F := F) c arg101 arg102 arg103 arg104
        ∗ any4 (F := F) c arg105 arg106 arg107 arg108
        ∗ any4 (F := F) c arg109 arg110 arg111 arg112
        ∗ any4 (F := F) c arg113 arg114 arg115 arg116
        ∗ any4 (F := F) c arg117 arg118 arg119 arg120
        ∗ any4 (F := F) c arg121 arg122 arg123 arg124
        ∗ any4 (F := F) c arg125 arg126 arg127 arg128
        ∗ any4 (F := F) c arg129 arg130 arg131 arg132
        ∗ (∃ d, owns (c : Thread nD τ) arg133 fullShare d)
        ∗ (iprop(srcs7 c arg0 arg1 arg2 arg3 arg4 arg5 arg6 x0 x1 x2 x3 x4 x5 x6
        ∗ ins3 c arg7 arg8 arg9 x7 x8 x9
        ∗ ins3 c arg10 arg11 arg12 x10 x11 x12
        ∗ ins3 c arg13 arg14 arg15 x13 x14 x15
        ∗ ins3 c arg16 arg17 arg18 x16 x17 x18
        ∗ ins3 c arg19 arg20 arg21 x19 x20 x21
        ∗ ins3 c arg22 arg23 arg24 x22 x23 x24
        ∗ ins3 c arg25 arg26 arg27 x25 x26 x27
        ∗ ins3 c arg28 arg29 arg30 x28 x29 x30
        ∗ ins3 c arg31 arg32 arg33 x31 x32 x33
        ∗ ins3 c arg34 arg35 arg36 x34 x35 x36
        ∗ ins3 c arg37 arg38 arg39 x37 x38 x39
        ∗ ins3 c arg40 arg41 arg42 x40 x41 x42
        ∗ ins3 c arg43 arg44 arg45 x43 x44 x45
        ∗ ins3 c arg46 arg47 arg48 x46 x47 x48
        ∗ ins3 c arg49 arg50 arg51 x49 x50 x51
        ∗ ins3 c arg52 arg53 arg54 x52 x53 x54
        ∗ ins3 c arg55 arg56 arg57 x55 x56 x57
        ∗ ins3 c arg58 arg59 arg60 x58 x59 x60
        ∗ outs4 c arg61 arg62 arg63 arg64 (out61 x0) (out62 x0 x7 x8 x9) (out63 x0 x8) (out64 x0 x9)
        ∗ outs4 c arg65 arg66 arg67 arg68 (out65 x0) (out66 x0 x10 x11 x12) (out67 x0 x11) (out68 x0 x12)
        ∗ outs4 c arg69 arg70 arg71 arg72 (out69 x0) (out70 x0 x13 x14 x15) (out71 x0 x14) (out72 x0 x15)
        ∗ outs4 c arg73 arg74 arg75 arg76 (out73 x1) (out74 x1 x16 x17 x18) (out75 x1 x17) (out76 x1 x18)
        ∗ outs4 c arg77 arg78 arg79 arg80 (out77 x1) (out78 x1 x19 x20 x21) (out79 x1 x20) (out80 x1 x21)
        ∗ outs4 c arg81 arg82 arg83 arg84 (out81 x2) (out82 x2 x22 x23 x24) (out83 x2 x23) (out84 x2 x24)
        ∗ outs4 c arg85 arg86 arg87 arg88 (out85 x2) (out86 x2 x25 x26 x27) (out87 x2 x26) (out88 x2 x27)
        ∗ outs4 c arg89 arg90 arg91 arg92 (out89 x3) (out90 x3 x28 x29 x30) (out91 x3 x29) (out92 x3 x30)
        ∗ outs4 c arg93 arg94 arg95 arg96 (out93 x4) (out94 x4 x31 x32 x33) (out95 x4 x32) (out96 x4 x33)
        ∗ outs4 c arg97 arg98 arg99 arg100 (out97 x4) (out98 x4 x34 x35 x36) (out99 x4 x35) (out100 x4 x36)
        ∗ outs4 c arg101 arg102 arg103 arg104 (out101 x4) (out102 x4 x37 x38 x39) (out103 x4 x38) (out104 x4 x39)
        ∗ outs4 c arg105 arg106 arg107 arg108 (out105 x5) (out106 x5 x40 x41 x42) (out107 x5 x41) (out108 x5 x42)
        ∗ outs4 c arg109 arg110 arg111 arg112 (out109 x5) (out110 x5 x43 x44 x45) (out111 x5 x44) (out112 x5 x45)
        ∗ outs4 c arg113 arg114 arg115 arg116 (out113 x5) (out114 x5 x46 x47 x48) (out115 x5 x47) (out116 x5 x48)
        ∗ outs4 c arg117 arg118 arg119 arg120 (out117 x5) (out118 x5 x49 x50 x51) (out119 x5 x50) (out120 x5 x51)
        ∗ outs4 c arg121 arg122 arg123 arg124 (out121 x5) (out122 x5 x52 x53 x54) (out123 x5 x53) (out124 x5 x54)
        ∗ outs4 c arg125 arg126 arg127 arg128 (out125 x5) (out126 x5 x55 x56 x57) (out127 x5 x56) (out128 x5 x57)
        ∗ outs4 c arg129 arg130 arg131 arg132 (out129 x5) (out130 x5 x58 x59 x60) (out131 x5 x59) (out132 x5 x60)
        ∗ owns (c : Thread nD τ) arg133 fullShare (out133 x6)) -∗ K ⟨⟩))
      ⊢ wp frame (wpE (defs₀ (F := F)) Variants.none c none) E (cc0_adam_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68 arg69 harg69 arg70 harg70 arg71 harg71 arg72 harg72 arg73 harg73 arg74 harg74 arg75 harg75 arg76 harg76 arg77 harg77 arg78 harg78 arg79 harg79 arg80 harg80 arg81 harg81 arg82 harg82 arg83 harg83 arg84 harg84 arg85 harg85 arg86 harg86 arg87 harg87 arg88 harg88 arg89 harg89 arg90 harg90 arg91 harg91 arg92 harg92 arg93 harg93 arg94 harg94 arg95 harg95 arg96 harg96 arg97 harg97 arg98 harg98 arg99 harg99 arg100 harg100 arg101 harg101 arg102 harg102 arg103 harg103 arg104 harg104 arg105 harg105 arg106 harg106 arg107 harg107 arg108 harg108 arg109 harg109 arg110 harg110 arg111 harg111 arg112 harg112 arg113 harg113 arg114 harg114 arg115 harg115 arg116 harg116 arg117 harg117 arg118 harg118 arg119 harg119 arg120 harg120 arg121 harg121 arg122 harg122 arg123 harg123 arg124 harg124 arg125 harg125 arg126 harg126 arg127 harg127 arg128 harg128 arg129 harg129 arg130 harg130 arg131 harg131 arg132 harg132 arg133 harg133) K := by
  rw [cc0_adam_small_eq_skeleton]; delta cc0_adam_small_skel
  rw [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
  generalize hQ : iprop(srcs7 c arg0 arg1 arg2 arg3 arg4 arg5 arg6 x0 x1 x2 x3 x4 x5 x6
        ∗ ins3 c arg7 arg8 arg9 x7 x8 x9
        ∗ ins3 c arg10 arg11 arg12 x10 x11 x12
        ∗ ins3 c arg13 arg14 arg15 x13 x14 x15
        ∗ ins3 c arg16 arg17 arg18 x16 x17 x18
        ∗ ins3 c arg19 arg20 arg21 x19 x20 x21
        ∗ ins3 c arg22 arg23 arg24 x22 x23 x24
        ∗ ins3 c arg25 arg26 arg27 x25 x26 x27
        ∗ ins3 c arg28 arg29 arg30 x28 x29 x30
        ∗ ins3 c arg31 arg32 arg33 x31 x32 x33
        ∗ ins3 c arg34 arg35 arg36 x34 x35 x36
        ∗ ins3 c arg37 arg38 arg39 x37 x38 x39
        ∗ ins3 c arg40 arg41 arg42 x40 x41 x42
        ∗ ins3 c arg43 arg44 arg45 x43 x44 x45
        ∗ ins3 c arg46 arg47 arg48 x46 x47 x48
        ∗ ins3 c arg49 arg50 arg51 x49 x50 x51
        ∗ ins3 c arg52 arg53 arg54 x52 x53 x54
        ∗ ins3 c arg55 arg56 arg57 x55 x56 x57
        ∗ ins3 c arg58 arg59 arg60 x58 x59 x60
        ∗ outs4 c arg61 arg62 arg63 arg64 (out61 x0) (out62 x0 x7 x8 x9) (out63 x0 x8) (out64 x0 x9)
        ∗ outs4 c arg65 arg66 arg67 arg68 (out65 x0) (out66 x0 x10 x11 x12) (out67 x0 x11) (out68 x0 x12)
        ∗ outs4 c arg69 arg70 arg71 arg72 (out69 x0) (out70 x0 x13 x14 x15) (out71 x0 x14) (out72 x0 x15)
        ∗ outs4 c arg73 arg74 arg75 arg76 (out73 x1) (out74 x1 x16 x17 x18) (out75 x1 x17) (out76 x1 x18)
        ∗ outs4 c arg77 arg78 arg79 arg80 (out77 x1) (out78 x1 x19 x20 x21) (out79 x1 x20) (out80 x1 x21)
        ∗ outs4 c arg81 arg82 arg83 arg84 (out81 x2) (out82 x2 x22 x23 x24) (out83 x2 x23) (out84 x2 x24)
        ∗ outs4 c arg85 arg86 arg87 arg88 (out85 x2) (out86 x2 x25 x26 x27) (out87 x2 x26) (out88 x2 x27)
        ∗ outs4 c arg89 arg90 arg91 arg92 (out89 x3) (out90 x3 x28 x29 x30) (out91 x3 x29) (out92 x3 x30)
        ∗ outs4 c arg93 arg94 arg95 arg96 (out93 x4) (out94 x4 x31 x32 x33) (out95 x4 x32) (out96 x4 x33)
        ∗ outs4 c arg97 arg98 arg99 arg100 (out97 x4) (out98 x4 x34 x35 x36) (out99 x4 x35) (out100 x4 x36)
        ∗ outs4 c arg101 arg102 arg103 arg104 (out101 x4) (out102 x4 x37 x38 x39) (out103 x4 x38) (out104 x4 x39)
        ∗ outs4 c arg105 arg106 arg107 arg108 (out105 x5) (out106 x5 x40 x41 x42) (out107 x5 x41) (out108 x5 x42)
        ∗ outs4 c arg109 arg110 arg111 arg112 (out109 x5) (out110 x5 x43 x44 x45) (out111 x5 x44) (out112 x5 x45)
        ∗ outs4 c arg113 arg114 arg115 arg116 (out113 x5) (out114 x5 x46 x47 x48) (out115 x5 x47) (out116 x5 x48)
        ∗ outs4 c arg117 arg118 arg119 arg120 (out117 x5) (out118 x5 x49 x50 x51) (out119 x5 x50) (out120 x5 x51)
        ∗ outs4 c arg121 arg122 arg123 arg124 (out121 x5) (out122 x5 x52 x53 x54) (out123 x5 x53) (out124 x5 x54)
        ∗ outs4 c arg125 arg126 arg127 arg128 (out125 x5) (out126 x5 x55 x56 x57) (out127 x5 x56) (out128 x5 x57)
        ∗ outs4 c arg129 arg130 arg131 arg132 (out129 x5) (out130 x5 x58 x59 x60) (out131 x5 x59) (out132 x5 x60)
        ∗ owns (c : Thread nD τ) arg133 fullShare (out133 x6)) = Q
  delta srcs7 ins3 any4 owns
  iintro ⟨HS, I0, I1, I2, I3, I4, I5, I6, I7, I8, I9, I10, I11, I12, I13, I14, I15, I16, I17, O0, O1, O2, O3, O4, O5, O6, O7, O8, O9, O10, O11, O12, O13, O14, O15, O16, O17, ⟨%d133, HL⟩, Hk⟩
  icases HS with ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩
  icases HL with ⟨%f133, -, H133⟩
  subst hf0 hf1 hf2 hf3 hf4 hf5 hf6
  sl_exec
  ihave HL : iprop(owns (c : Thread nD τ) arg133 fullShare (out133 (arg6.view.read (Elt F) f6))) $$ [H133]
  · delta owns
    iexists _; isplitr
    swap; · iexact H133
    ipureintro
    exact (View.read_writes_eq_canon _ _ _ (cover_r0_8 _)).trans rfl
  icases I0 with ⟨⟨%f7, %hf7, H7⟩, ⟨%f8, %hf8, H8⟩, ⟨%f9, %hf9, H9⟩⟩
  icases O0 with ⟨⟨%d61, %f61, -, H61⟩, ⟨%d62, %f62, -, H62⟩, ⟨%d63, %f63, -, H63⟩, ⟨%d64, %f64, -, H64⟩⟩
  subst hf7 hf8 hf9
  sl_exec
  ihave I0 : iprop(ins3 c arg7 arg8 arg9 (arg7.view.read (Elt F) f7) (arg8.view.read (Elt F) f8) (arg9.view.read (Elt F) f9)) $$ [H7 H8 H9]
  · delta ins3 owns
    isplitl [H7]
    · iexists f7; isplitr; · ipureintro; rfl
      iexact H7
    isplitl [H8]
    · iexists f8; isplitr; · ipureintro; rfl
      iexact H8
    iexists f9; isplitr; · ipureintro; rfl
    iexact H9
  ihave O0 : iprop(outs4 c arg61 arg62 arg63 arg64 (out61 (arg0.view.read (Elt F) f0)) (out62 (arg0.view.read (Elt F) f0) (arg7.view.read (Elt F) f7) (arg8.view.read (Elt F) f8) (arg9.view.read (Elt F) f9)) (out63 (arg0.view.read (Elt F) f0) (arg8.view.read (Elt F) f8)) (out64 (arg0.view.read (Elt F) f0) (arg9.view.read (Elt F) f9))) $$ [H61 H62 H63 H64]
  · delta outs4 owns
    isplitl [H61]
    · iexists _; isplitr
      swap; · iexact H61
      ipureintro
      exact (View.read_writes_eq_canon _ _ _ (cover_r0_17 _)).trans rfl
    isplitl [H62]
    · iexists _; isplitr
      swap; · iexact H62
      ipureintro
      exact (View.read_writes_eq_canon _ _ _ (cover_r0_17 _)).trans rfl
    isplitl [H63]
    · iexists _; isplitr
      swap; · iexact H63
      ipureintro
      exact (View.read_writes_eq_canon _ _ _ (cover_r0_17 _)).trans rfl
    iexists _; isplitr
    swap; · iexact H64
    ipureintro
    exact (View.read_writes_eq_canon _ _ _ (cover_r0_17 _)).trans rfl
  icases I1 with ⟨⟨%f10, %hf10, H10⟩, ⟨%f11, %hf11, H11⟩, ⟨%f12, %hf12, H12⟩⟩
  icases O1 with ⟨⟨%d65, %f65, -, H65⟩, ⟨%d66, %f66, -, H66⟩, ⟨%d67, %f67, -, H67⟩, ⟨%d68, %f68, -, H68⟩⟩
  subst hf10 hf11 hf12
  sl_exec
  ihave I1 : iprop(ins3 c arg10 arg11 arg12 (arg10.view.read (Elt F) f10) (arg11.view.read (Elt F) f11) (arg12.view.read (Elt F) f12)) $$ [H10 H11 H12]
  · delta ins3 owns
    isplitl [H10]
    · iexists f10; isplitr; · ipureintro; rfl
      iexact H10
    isplitl [H11]
    · iexists f11; isplitr; · ipureintro; rfl
      iexact H11
    iexists f12; isplitr; · ipureintro; rfl
    iexact H12
  ihave O1 : iprop(outs4 c arg65 arg66 arg67 arg68 (out65 (arg0.view.read (Elt F) f0)) (out66 (arg0.view.read (Elt F) f0) (arg10.view.read (Elt F) f10) (arg11.view.read (Elt F) f11) (arg12.view.read (Elt F) f12)) (out67 (arg0.view.read (Elt F) f0) (arg11.view.read (Elt F) f11)) (out68 (arg0.view.read (Elt F) f0) (arg12.view.read (Elt F) f12))) $$ [H65 H66 H67 H68]
  · delta outs4 owns
    isplitl [H65]
    · iexists _; isplitr
      swap; · iexact H65
      ipureintro
      exact (View.read_writes_eq_canon _ _ _ (cover_r0_17 _)).trans rfl
    isplitl [H66]
    · iexists _; isplitr
      swap; · iexact H66
      ipureintro
      exact (View.read_writes_eq_canon _ _ _ (cover_r0_17 _)).trans rfl
    isplitl [H67]
    · iexists _; isplitr
      swap; · iexact H67
      ipureintro
      exact (View.read_writes_eq_canon _ _ _ (cover_r0_17 _)).trans rfl
    iexists _; isplitr
    swap; · iexact H68
    ipureintro
    exact (View.read_writes_eq_canon _ _ _ (cover_r0_17 _)).trans rfl
  icases I2 with ⟨⟨%f13, %hf13, H13⟩, ⟨%f14, %hf14, H14⟩, ⟨%f15, %hf15, H15⟩⟩
  icases O2 with ⟨⟨%d69, %f69, -, H69⟩, ⟨%d70, %f70, -, H70⟩, ⟨%d71, %f71, -, H71⟩, ⟨%d72, %f72, -, H72⟩⟩
  subst hf13 hf14 hf15
  sl_exec
  ihave I2 : iprop(ins3 c arg13 arg14 arg15 (arg13.view.read (Elt F) f13) (arg14.view.read (Elt F) f14) (arg15.view.read (Elt F) f15)) $$ [H13 H14 H15]
  · delta ins3 owns
    isplitl [H13]
    · iexists f13; isplitr; · ipureintro; rfl
      iexact H13
    isplitl [H14]
    · iexists f14; isplitr; · ipureintro; rfl
      iexact H14
    iexists f15; isplitr; · ipureintro; rfl
    iexact H15
  ihave O2 : iprop(outs4 c arg69 arg70 arg71 arg72 (out69 (arg0.view.read (Elt F) f0)) (out70 (arg0.view.read (Elt F) f0) (arg13.view.read (Elt F) f13) (arg14.view.read (Elt F) f14) (arg15.view.read (Elt F) f15)) (out71 (arg0.view.read (Elt F) f0) (arg14.view.read (Elt F) f14)) (out72 (arg0.view.read (Elt F) f0) (arg15.view.read (Elt F) f15))) $$ [H69 H70 H71 H72]
  · delta outs4 owns
    isplitl [H69]
    · iexists _; isplitr
      swap; · iexact H69
      ipureintro
      exact (View.read_writes_eq_canon _ _ _ (cover_r0_17 _)).trans rfl
    isplitl [H70]
    · iexists _; isplitr
      swap; · iexact H70
      ipureintro
      exact (View.read_writes_eq_canon _ _ _ (cover_r0_17 _)).trans rfl
    isplitl [H71]
    · iexists _; isplitr
      swap; · iexact H71
      ipureintro
      exact (View.read_writes_eq_canon _ _ _ (cover_r0_17 _)).trans rfl
    iexists _; isplitr
    swap; · iexact H72
    ipureintro
    exact (View.read_writes_eq_canon _ _ _ (cover_r0_17 _)).trans rfl
  icases I3 with ⟨⟨%f16, %hf16, H16⟩, ⟨%f17, %hf17, H17⟩, ⟨%f18, %hf18, H18⟩⟩
  icases O3 with ⟨⟨%d73, %f73, -, H73⟩, ⟨%d74, %f74, -, H74⟩, ⟨%d75, %f75, -, H75⟩, ⟨%d76, %f76, -, H76⟩⟩
  subst hf16 hf17 hf18
  sl_exec
  ihave I3 : iprop(ins3 c arg16 arg17 arg18 (arg16.view.read (Elt F) f16) (arg17.view.read (Elt F) f17) (arg18.view.read (Elt F) f18)) $$ [H16 H17 H18]
  · delta ins3 owns
    isplitl [H16]
    · iexists f16; isplitr; · ipureintro; rfl
      iexact H16
    isplitl [H17]
    · iexists f17; isplitr; · ipureintro; rfl
      iexact H17
    iexists f18; isplitr; · ipureintro; rfl
    iexact H18
  ihave O3 : iprop(outs4 c arg73 arg74 arg75 arg76 (out73 (arg1.view.read (Elt F) f1)) (out74 (arg1.view.read (Elt F) f1) (arg16.view.read (Elt F) f16) (arg17.view.read (Elt F) f17) (arg18.view.read (Elt F) f18)) (out75 (arg1.view.read (Elt F) f1) (arg17.view.read (Elt F) f17)) (out76 (arg1.view.read (Elt F) f1) (arg18.view.read (Elt F) f18))) $$ [H73 H74 H75 H76]
  · delta outs4 owns
    isplitl [H73]
    · iexists _; isplitr
      swap; · iexact H73
      ipureintro
      exact (View.read_writes_eq_canon _ _ _ (cover_r0_42 _)).trans rfl
    isplitl [H74]
    · iexists _; isplitr
      swap; · iexact H74
      ipureintro
      exact (View.read_writes_eq_canon _ _ _ (cover_r0_42 _)).trans rfl
    isplitl [H75]
    · iexists _; isplitr
      swap; · iexact H75
      ipureintro
      exact (View.read_writes_eq_canon _ _ _ (cover_r0_42 _)).trans rfl
    iexists _; isplitr
    swap; · iexact H76
    ipureintro
    exact (View.read_writes_eq_canon _ _ _ (cover_r0_42 _)).trans rfl
  icases I4 with ⟨⟨%f19, %hf19, H19⟩, ⟨%f20, %hf20, H20⟩, ⟨%f21, %hf21, H21⟩⟩
  icases O4 with ⟨⟨%d77, %f77, -, H77⟩, ⟨%d78, %f78, -, H78⟩, ⟨%d79, %f79, -, H79⟩, ⟨%d80, %f80, -, H80⟩⟩
  subst hf19 hf20 hf21
  sl_exec
  ihave I4 : iprop(ins3 c arg19 arg20 arg21 (arg19.view.read (Elt F) f19) (arg20.view.read (Elt F) f20) (arg21.view.read (Elt F) f21)) $$ [H19 H20 H21]
  · delta ins3 owns
    isplitl [H19]
    · iexists f19; isplitr; · ipureintro; rfl
      iexact H19
    isplitl [H20]
    · iexists f20; isplitr; · ipureintro; rfl
      iexact H20
    iexists f21; isplitr; · ipureintro; rfl
    iexact H21
  ihave O4 : iprop(outs4 c arg77 arg78 arg79 arg80 (out77 (arg1.view.read (Elt F) f1)) (out78 (arg1.view.read (Elt F) f1) (arg19.view.read (Elt F) f19) (arg20.view.read (Elt F) f20) (arg21.view.read (Elt F) f21)) (out79 (arg1.view.read (Elt F) f1) (arg20.view.read (Elt F) f20)) (out80 (arg1.view.read (Elt F) f1) (arg21.view.read (Elt F) f21))) $$ [H77 H78 H79 H80]
  · delta outs4 owns
    isplitl [H77]
    · iexists _; isplitr
      swap; · iexact H77
      ipureintro
      exact (View.read_writes_eq_canon _ _ _ (cover_r0_42 _)).trans rfl
    isplitl [H78]
    · iexists _; isplitr
      swap; · iexact H78
      ipureintro
      exact (View.read_writes_eq_canon _ _ _ (cover_r0_42 _)).trans rfl
    isplitl [H79]
    · iexists _; isplitr
      swap; · iexact H79
      ipureintro
      exact (View.read_writes_eq_canon _ _ _ (cover_r0_42 _)).trans rfl
    iexists _; isplitr
    swap; · iexact H80
    ipureintro
    exact (View.read_writes_eq_canon _ _ _ (cover_r0_42 _)).trans rfl
  icases I5 with ⟨⟨%f22, %hf22, H22⟩, ⟨%f23, %hf23, H23⟩, ⟨%f24, %hf24, H24⟩⟩
  icases O5 with ⟨⟨%d81, %f81, -, H81⟩, ⟨%d82, %f82, -, H82⟩, ⟨%d83, %f83, -, H83⟩, ⟨%d84, %f84, -, H84⟩⟩
  subst hf22 hf23 hf24
  sl_exec
  ihave I5 : iprop(ins3 c arg22 arg23 arg24 (arg22.view.read (Elt F) f22) (arg23.view.read (Elt F) f23) (arg24.view.read (Elt F) f24)) $$ [H22 H23 H24]
  · delta ins3 owns
    isplitl [H22]
    · iexists f22; isplitr; · ipureintro; rfl
      iexact H22
    isplitl [H23]
    · iexists f23; isplitr; · ipureintro; rfl
      iexact H23
    iexists f24; isplitr; · ipureintro; rfl
    iexact H24
  ihave O5 : iprop(outs4 c arg81 arg82 arg83 arg84 (out81 (arg2.view.read (Elt F) f2)) (out82 (arg2.view.read (Elt F) f2) (arg22.view.read (Elt F) f22) (arg23.view.read (Elt F) f23) (arg24.view.read (Elt F) f24)) (out83 (arg2.view.read (Elt F) f2) (arg23.view.read (Elt F) f23)) (out84 (arg2.view.read (Elt F) f2) (arg24.view.read (Elt F) f24))) $$ [H81 H82 H83 H84]
  · delta outs4 owns
    isplitl [H81]
    · iexists _; isplitr
      swap; · iexact H81
      ipureintro
      exact (View.read_writes_eq_canon _ _ _ (cover_r0_59 _)).trans rfl
    isplitl [H82]
    · iexists _; isplitr
      swap; · iexact H82
      ipureintro
      exact (View.read_writes_eq_canon _ _ _ (cover_r0_59 _)).trans rfl
    isplitl [H83]
    · iexists _; isplitr
      swap; · iexact H83
      ipureintro
      exact (View.read_writes_eq_canon _ _ _ (cover_r0_59 _)).trans rfl
    iexists _; isplitr
    swap; · iexact H84
    ipureintro
    exact (View.read_writes_eq_canon _ _ _ (cover_r0_59 _)).trans rfl
  icases I6 with ⟨⟨%f25, %hf25, H25⟩, ⟨%f26, %hf26, H26⟩, ⟨%f27, %hf27, H27⟩⟩
  icases O6 with ⟨⟨%d85, %f85, -, H85⟩, ⟨%d86, %f86, -, H86⟩, ⟨%d87, %f87, -, H87⟩, ⟨%d88, %f88, -, H88⟩⟩
  subst hf25 hf26 hf27
  sl_exec
  ihave I6 : iprop(ins3 c arg25 arg26 arg27 (arg25.view.read (Elt F) f25) (arg26.view.read (Elt F) f26) (arg27.view.read (Elt F) f27)) $$ [H25 H26 H27]
  · delta ins3 owns
    isplitl [H25]
    · iexists f25; isplitr; · ipureintro; rfl
      iexact H25
    isplitl [H26]
    · iexists f26; isplitr; · ipureintro; rfl
      iexact H26
    iexists f27; isplitr; · ipureintro; rfl
    iexact H27
  ihave O6 : iprop(outs4 c arg85 arg86 arg87 arg88 (out85 (arg2.view.read (Elt F) f2)) (out86 (arg2.view.read (Elt F) f2) (arg25.view.read (Elt F) f25) (arg26.view.read (Elt F) f26) (arg27.view.read (Elt F) f27)) (out87 (arg2.view.read (Elt F) f2) (arg26.view.read (Elt F) f26)) (out88 (arg2.view.read (Elt F) f2) (arg27.view.read (Elt F) f27))) $$ [H85 H86 H87 H88]
  · delta outs4 owns
    isplitl [H85]
    · iexists _; isplitr
      swap; · iexact H85
      ipureintro
      exact (View.read_writes_eq_canon _ _ _ (cover_r0_68 _)).trans rfl
    isplitl [H86]
    · iexists _; isplitr
      swap; · iexact H86
      ipureintro
      exact (View.read_writes_eq_canon _ _ _ (cover_r0_68 _)).trans rfl
    isplitl [H87]
    · iexists _; isplitr
      swap; · iexact H87
      ipureintro
      exact (View.read_writes_eq_canon _ _ _ (cover_r0_68 _)).trans rfl
    iexists _; isplitr
    swap; · iexact H88
    ipureintro
    exact (View.read_writes_eq_canon _ _ _ (cover_r0_68 _)).trans rfl
  icases I7 with ⟨⟨%f28, %hf28, H28⟩, ⟨%f29, %hf29, H29⟩, ⟨%f30, %hf30, H30⟩⟩
  icases O7 with ⟨⟨%d89, %f89, -, H89⟩, ⟨%d90, %f90, -, H90⟩, ⟨%d91, %f91, -, H91⟩, ⟨%d92, %f92, -, H92⟩⟩
  subst hf28 hf29 hf30
  sl_exec
  ihave I7 : iprop(ins3 c arg28 arg29 arg30 (arg28.view.read (Elt F) f28) (arg29.view.read (Elt F) f29) (arg30.view.read (Elt F) f30)) $$ [H28 H29 H30]
  · delta ins3 owns
    isplitl [H28]
    · iexists f28; isplitr; · ipureintro; rfl
      iexact H28
    isplitl [H29]
    · iexists f29; isplitr; · ipureintro; rfl
      iexact H29
    iexists f30; isplitr; · ipureintro; rfl
    iexact H30
  ihave O7 : iprop(outs4 c arg89 arg90 arg91 arg92 (out89 (arg3.view.read (Elt F) f3)) (out90 (arg3.view.read (Elt F) f3) (arg28.view.read (Elt F) f28) (arg29.view.read (Elt F) f29) (arg30.view.read (Elt F) f30)) (out91 (arg3.view.read (Elt F) f3) (arg29.view.read (Elt F) f29)) (out92 (arg3.view.read (Elt F) f3) (arg30.view.read (Elt F) f30))) $$ [H89 H90 H91 H92]
  · delta outs4 owns
    isplitl [H89]
    · iexists _; isplitr
      swap; · iexact H89
      ipureintro
      exact (View.read_writes_eq_canon _ _ _ (cover_r0_77 _)).trans rfl
    isplitl [H90]
    · iexists _; isplitr
      swap; · iexact H90
      ipureintro
      exact (View.read_writes_eq_canon _ _ _ (cover_r0_77 _)).trans rfl
    isplitl [H91]
    · iexists _; isplitr
      swap; · iexact H91
      ipureintro
      exact (View.read_writes_eq_canon _ _ _ (cover_r0_77 _)).trans rfl
    iexists _; isplitr
    swap; · iexact H92
    ipureintro
    exact (View.read_writes_eq_canon _ _ _ (cover_r0_77 _)).trans rfl
  icases I8 with ⟨⟨%f31, %hf31, H31⟩, ⟨%f32, %hf32, H32⟩, ⟨%f33, %hf33, H33⟩⟩
  icases O8 with ⟨⟨%d93, %f93, -, H93⟩, ⟨%d94, %f94, -, H94⟩, ⟨%d95, %f95, -, H95⟩, ⟨%d96, %f96, -, H96⟩⟩
  subst hf31 hf32 hf33
  sl_exec
  ihave I8 : iprop(ins3 c arg31 arg32 arg33 (arg31.view.read (Elt F) f31) (arg32.view.read (Elt F) f32) (arg33.view.read (Elt F) f33)) $$ [H31 H32 H33]
  · delta ins3 owns
    isplitl [H31]
    · iexists f31; isplitr; · ipureintro; rfl
      iexact H31
    isplitl [H32]
    · iexists f32; isplitr; · ipureintro; rfl
      iexact H32
    iexists f33; isplitr; · ipureintro; rfl
    iexact H33
  ihave O8 : iprop(outs4 c arg93 arg94 arg95 arg96 (out93 (arg4.view.read (Elt F) f4)) (out94 (arg4.view.read (Elt F) f4) (arg31.view.read (Elt F) f31) (arg32.view.read (Elt F) f32) (arg33.view.read (Elt F) f33)) (out95 (arg4.view.read (Elt F) f4) (arg32.view.read (Elt F) f32)) (out96 (arg4.view.read (Elt F) f4) (arg33.view.read (Elt F) f33))) $$ [H93 H94 H95 H96]
  · delta outs4 owns
    isplitl [H93]
    · iexists _; isplitr
      swap; · iexact H93
      ipureintro
      exact (View.read_writes_eq_canon _ _ _ (cover_r0_8 _)).trans rfl
    isplitl [H94]
    · iexists _; isplitr
      swap; · iexact H94
      ipureintro
      exact (View.read_writes_eq_canon _ _ _ (cover_r0_8 _)).trans rfl
    isplitl [H95]
    · iexists _; isplitr
      swap; · iexact H95
      ipureintro
      exact (View.read_writes_eq_canon _ _ _ (cover_r0_8 _)).trans rfl
    iexists _; isplitr
    swap; · iexact H96
    ipureintro
    exact (View.read_writes_eq_canon _ _ _ (cover_r0_8 _)).trans rfl
  icases I9 with ⟨⟨%f34, %hf34, H34⟩, ⟨%f35, %hf35, H35⟩, ⟨%f36, %hf36, H36⟩⟩
  icases O9 with ⟨⟨%d97, %f97, -, H97⟩, ⟨%d98, %f98, -, H98⟩, ⟨%d99, %f99, -, H99⟩, ⟨%d100, %f100, -, H100⟩⟩
  subst hf34 hf35 hf36
  sl_exec
  ihave I9 : iprop(ins3 c arg34 arg35 arg36 (arg34.view.read (Elt F) f34) (arg35.view.read (Elt F) f35) (arg36.view.read (Elt F) f36)) $$ [H34 H35 H36]
  · delta ins3 owns
    isplitl [H34]
    · iexists f34; isplitr; · ipureintro; rfl
      iexact H34
    isplitl [H35]
    · iexists f35; isplitr; · ipureintro; rfl
      iexact H35
    iexists f36; isplitr; · ipureintro; rfl
    iexact H36
  ihave O9 : iprop(outs4 c arg97 arg98 arg99 arg100 (out97 (arg4.view.read (Elt F) f4)) (out98 (arg4.view.read (Elt F) f4) (arg34.view.read (Elt F) f34) (arg35.view.read (Elt F) f35) (arg36.view.read (Elt F) f36)) (out99 (arg4.view.read (Elt F) f4) (arg35.view.read (Elt F) f35)) (out100 (arg4.view.read (Elt F) f4) (arg36.view.read (Elt F) f36))) $$ [H97 H98 H99 H100]
  · delta outs4 owns
    isplitl [H97]
    · iexists _; isplitr
      swap; · iexact H97
      ipureintro
      exact (View.read_writes_eq_canon _ _ _ (cover_r0_8 _)).trans rfl
    isplitl [H98]
    · iexists _; isplitr
      swap; · iexact H98
      ipureintro
      exact (View.read_writes_eq_canon _ _ _ (cover_r0_8 _)).trans rfl
    isplitl [H99]
    · iexists _; isplitr
      swap; · iexact H99
      ipureintro
      exact (View.read_writes_eq_canon _ _ _ (cover_r0_8 _)).trans rfl
    iexists _; isplitr
    swap; · iexact H100
    ipureintro
    exact (View.read_writes_eq_canon _ _ _ (cover_r0_8 _)).trans rfl
  icases I10 with ⟨⟨%f37, %hf37, H37⟩, ⟨%f38, %hf38, H38⟩, ⟨%f39, %hf39, H39⟩⟩
  icases O10 with ⟨⟨%d101, %f101, -, H101⟩, ⟨%d102, %f102, -, H102⟩, ⟨%d103, %f103, -, H103⟩, ⟨%d104, %f104, -, H104⟩⟩
  subst hf37 hf38 hf39
  sl_exec
  ihave I10 : iprop(ins3 c arg37 arg38 arg39 (arg37.view.read (Elt F) f37) (arg38.view.read (Elt F) f38) (arg39.view.read (Elt F) f39)) $$ [H37 H38 H39]
  · delta ins3 owns
    isplitl [H37]
    · iexists f37; isplitr; · ipureintro; rfl
      iexact H37
    isplitl [H38]
    · iexists f38; isplitr; · ipureintro; rfl
      iexact H38
    iexists f39; isplitr; · ipureintro; rfl
    iexact H39
  ihave O10 : iprop(outs4 c arg101 arg102 arg103 arg104 (out101 (arg4.view.read (Elt F) f4)) (out102 (arg4.view.read (Elt F) f4) (arg37.view.read (Elt F) f37) (arg38.view.read (Elt F) f38) (arg39.view.read (Elt F) f39)) (out103 (arg4.view.read (Elt F) f4) (arg38.view.read (Elt F) f38)) (out104 (arg4.view.read (Elt F) f4) (arg39.view.read (Elt F) f39))) $$ [H101 H102 H103 H104]
  · delta outs4 owns
    isplitl [H101]
    · iexists _; isplitr
      swap; · iexact H101
      ipureintro
      exact (View.read_writes_eq_canon _ _ _ (cover_r0_8 _)).trans rfl
    isplitl [H102]
    · iexists _; isplitr
      swap; · iexact H102
      ipureintro
      exact (View.read_writes_eq_canon _ _ _ (cover_r0_8 _)).trans rfl
    isplitl [H103]
    · iexists _; isplitr
      swap; · iexact H103
      ipureintro
      exact (View.read_writes_eq_canon _ _ _ (cover_r0_8 _)).trans rfl
    iexists _; isplitr
    swap; · iexact H104
    ipureintro
    exact (View.read_writes_eq_canon _ _ _ (cover_r0_8 _)).trans rfl
  icases I11 with ⟨⟨%f40, %hf40, H40⟩, ⟨%f41, %hf41, H41⟩, ⟨%f42, %hf42, H42⟩⟩
  icases O11 with ⟨⟨%d105, %f105, -, H105⟩, ⟨%d106, %f106, -, H106⟩, ⟨%d107, %f107, -, H107⟩, ⟨%d108, %f108, -, H108⟩⟩
  subst hf40 hf41 hf42
  sl_exec
  ihave I11 : iprop(ins3 c arg40 arg41 arg42 (arg40.view.read (Elt F) f40) (arg41.view.read (Elt F) f41) (arg42.view.read (Elt F) f42)) $$ [H40 H41 H42]
  · delta ins3 owns
    isplitl [H40]
    · iexists f40; isplitr; · ipureintro; rfl
      iexact H40
    isplitl [H41]
    · iexists f41; isplitr; · ipureintro; rfl
      iexact H41
    iexists f42; isplitr; · ipureintro; rfl
    iexact H42
  ihave O11 : iprop(outs4 c arg105 arg106 arg107 arg108 (out105 (arg5.view.read (Elt F) f5)) (out106 (arg5.view.read (Elt F) f5) (arg40.view.read (Elt F) f40) (arg41.view.read (Elt F) f41) (arg42.view.read (Elt F) f42)) (out107 (arg5.view.read (Elt F) f5) (arg41.view.read (Elt F) f41)) (out108 (arg5.view.read (Elt F) f5) (arg42.view.read (Elt F) f42))) $$ [H105 H106 H107 H108]
  · delta outs4 owns
    isplitl [H105]
    · iexists _; isplitr
      swap; · iexact H105
      ipureintro
      exact (View.read_writes_eq_canon _ _ _ (cover_r0_110 _)).trans rfl
    isplitl [H106]
    · iexists _; isplitr
      swap; · iexact H106
      ipureintro
      exact (View.read_writes_eq_canon _ _ _ (cover_r0_110 _)).trans rfl
    isplitl [H107]
    · iexists _; isplitr
      swap; · iexact H107
      ipureintro
      exact (View.read_writes_eq_canon _ _ _ (cover_r0_110 _)).trans rfl
    iexists _; isplitr
    swap; · iexact H108
    ipureintro
    exact (View.read_writes_eq_canon _ _ _ (cover_r0_110 _)).trans rfl
  icases I12 with ⟨⟨%f43, %hf43, H43⟩, ⟨%f44, %hf44, H44⟩, ⟨%f45, %hf45, H45⟩⟩
  icases O12 with ⟨⟨%d109, %f109, -, H109⟩, ⟨%d110, %f110, -, H110⟩, ⟨%d111, %f111, -, H111⟩, ⟨%d112, %f112, -, H112⟩⟩
  subst hf43 hf44 hf45
  sl_exec
  ihave I12 : iprop(ins3 c arg43 arg44 arg45 (arg43.view.read (Elt F) f43) (arg44.view.read (Elt F) f44) (arg45.view.read (Elt F) f45)) $$ [H43 H44 H45]
  · delta ins3 owns
    isplitl [H43]
    · iexists f43; isplitr; · ipureintro; rfl
      iexact H43
    isplitl [H44]
    · iexists f44; isplitr; · ipureintro; rfl
      iexact H44
    iexists f45; isplitr; · ipureintro; rfl
    iexact H45
  ihave O12 : iprop(outs4 c arg109 arg110 arg111 arg112 (out109 (arg5.view.read (Elt F) f5)) (out110 (arg5.view.read (Elt F) f5) (arg43.view.read (Elt F) f43) (arg44.view.read (Elt F) f44) (arg45.view.read (Elt F) f45)) (out111 (arg5.view.read (Elt F) f5) (arg44.view.read (Elt F) f44)) (out112 (arg5.view.read (Elt F) f5) (arg45.view.read (Elt F) f45))) $$ [H109 H110 H111 H112]
  · delta outs4 owns
    isplitl [H109]
    · iexists _; isplitr
      swap; · iexact H109
      ipureintro
      exact (View.read_writes_eq_canon _ _ _ (cover_r0_119 _)).trans rfl
    isplitl [H110]
    · iexists _; isplitr
      swap; · iexact H110
      ipureintro
      exact (View.read_writes_eq_canon _ _ _ (cover_r0_119 _)).trans rfl
    isplitl [H111]
    · iexists _; isplitr
      swap; · iexact H111
      ipureintro
      exact (View.read_writes_eq_canon _ _ _ (cover_r0_119 _)).trans rfl
    iexists _; isplitr
    swap; · iexact H112
    ipureintro
    exact (View.read_writes_eq_canon _ _ _ (cover_r0_119 _)).trans rfl
  icases I13 with ⟨⟨%f46, %hf46, H46⟩, ⟨%f47, %hf47, H47⟩, ⟨%f48, %hf48, H48⟩⟩
  icases O13 with ⟨⟨%d113, %f113, -, H113⟩, ⟨%d114, %f114, -, H114⟩, ⟨%d115, %f115, -, H115⟩, ⟨%d116, %f116, -, H116⟩⟩
  subst hf46 hf47 hf48
  sl_exec
  ihave I13 : iprop(ins3 c arg46 arg47 arg48 (arg46.view.read (Elt F) f46) (arg47.view.read (Elt F) f47) (arg48.view.read (Elt F) f48)) $$ [H46 H47 H48]
  · delta ins3 owns
    isplitl [H46]
    · iexists f46; isplitr; · ipureintro; rfl
      iexact H46
    isplitl [H47]
    · iexists f47; isplitr; · ipureintro; rfl
      iexact H47
    iexists f48; isplitr; · ipureintro; rfl
    iexact H48
  ihave O13 : iprop(outs4 c arg113 arg114 arg115 arg116 (out113 (arg5.view.read (Elt F) f5)) (out114 (arg5.view.read (Elt F) f5) (arg46.view.read (Elt F) f46) (arg47.view.read (Elt F) f47) (arg48.view.read (Elt F) f48)) (out115 (arg5.view.read (Elt F) f5) (arg47.view.read (Elt F) f47)) (out116 (arg5.view.read (Elt F) f5) (arg48.view.read (Elt F) f48))) $$ [H113 H114 H115 H116]
  · delta outs4 owns
    isplitl [H113]
    · iexists _; isplitr
      swap; · iexact H113
      ipureintro
      exact (View.read_writes_eq_canon _ _ _ (cover_r0_128 _)).trans rfl
    isplitl [H114]
    · iexists _; isplitr
      swap; · iexact H114
      ipureintro
      exact (View.read_writes_eq_canon _ _ _ (cover_r0_128 _)).trans rfl
    isplitl [H115]
    · iexists _; isplitr
      swap; · iexact H115
      ipureintro
      exact (View.read_writes_eq_canon _ _ _ (cover_r0_128 _)).trans rfl
    iexists _; isplitr
    swap; · iexact H116
    ipureintro
    exact (View.read_writes_eq_canon _ _ _ (cover_r0_128 _)).trans rfl
  icases I14 with ⟨⟨%f49, %hf49, H49⟩, ⟨%f50, %hf50, H50⟩, ⟨%f51, %hf51, H51⟩⟩
  icases O14 with ⟨⟨%d117, %f117, -, H117⟩, ⟨%d118, %f118, -, H118⟩, ⟨%d119, %f119, -, H119⟩, ⟨%d120, %f120, -, H120⟩⟩
  subst hf49 hf50 hf51
  sl_exec
  ihave I14 : iprop(ins3 c arg49 arg50 arg51 (arg49.view.read (Elt F) f49) (arg50.view.read (Elt F) f50) (arg51.view.read (Elt F) f51)) $$ [H49 H50 H51]
  · delta ins3 owns
    isplitl [H49]
    · iexists f49; isplitr; · ipureintro; rfl
      iexact H49
    isplitl [H50]
    · iexists f50; isplitr; · ipureintro; rfl
      iexact H50
    iexists f51; isplitr; · ipureintro; rfl
    iexact H51
  ihave O14 : iprop(outs4 c arg117 arg118 arg119 arg120 (out117 (arg5.view.read (Elt F) f5)) (out118 (arg5.view.read (Elt F) f5) (arg49.view.read (Elt F) f49) (arg50.view.read (Elt F) f50) (arg51.view.read (Elt F) f51)) (out119 (arg5.view.read (Elt F) f5) (arg50.view.read (Elt F) f50)) (out120 (arg5.view.read (Elt F) f5) (arg51.view.read (Elt F) f51))) $$ [H117 H118 H119 H120]
  · delta outs4 owns
    isplitl [H117]
    · iexists _; isplitr
      swap; · iexact H117
      ipureintro
      exact (View.read_writes_eq_canon _ _ _ (cover_r0_119 _)).trans rfl
    isplitl [H118]
    · iexists _; isplitr
      swap; · iexact H118
      ipureintro
      exact (View.read_writes_eq_canon _ _ _ (cover_r0_119 _)).trans rfl
    isplitl [H119]
    · iexists _; isplitr
      swap; · iexact H119
      ipureintro
      exact (View.read_writes_eq_canon _ _ _ (cover_r0_119 _)).trans rfl
    iexists _; isplitr
    swap; · iexact H120
    ipureintro
    exact (View.read_writes_eq_canon _ _ _ (cover_r0_119 _)).trans rfl
  icases I15 with ⟨⟨%f52, %hf52, H52⟩, ⟨%f53, %hf53, H53⟩, ⟨%f54, %hf54, H54⟩⟩
  icases O15 with ⟨⟨%d121, %f121, -, H121⟩, ⟨%d122, %f122, -, H122⟩, ⟨%d123, %f123, -, H123⟩, ⟨%d124, %f124, -, H124⟩⟩
  subst hf52 hf53 hf54
  sl_exec
  ihave I15 : iprop(ins3 c arg52 arg53 arg54 (arg52.view.read (Elt F) f52) (arg53.view.read (Elt F) f53) (arg54.view.read (Elt F) f54)) $$ [H52 H53 H54]
  · delta ins3 owns
    isplitl [H52]
    · iexists f52; isplitr; · ipureintro; rfl
      iexact H52
    isplitl [H53]
    · iexists f53; isplitr; · ipureintro; rfl
      iexact H53
    iexists f54; isplitr; · ipureintro; rfl
    iexact H54
  ihave O15 : iprop(outs4 c arg121 arg122 arg123 arg124 (out121 (arg5.view.read (Elt F) f5)) (out122 (arg5.view.read (Elt F) f5) (arg52.view.read (Elt F) f52) (arg53.view.read (Elt F) f53) (arg54.view.read (Elt F) f54)) (out123 (arg5.view.read (Elt F) f5) (arg53.view.read (Elt F) f53)) (out124 (arg5.view.read (Elt F) f5) (arg54.view.read (Elt F) f54))) $$ [H121 H122 H123 H124]
  · delta outs4 owns
    isplitl [H121]
    · iexists _; isplitr
      swap; · iexact H121
      ipureintro
      exact (View.read_writes_eq_canon _ _ _ (cover_r0_119 _)).trans rfl
    isplitl [H122]
    · iexists _; isplitr
      swap; · iexact H122
      ipureintro
      exact (View.read_writes_eq_canon _ _ _ (cover_r0_119 _)).trans rfl
    isplitl [H123]
    · iexists _; isplitr
      swap; · iexact H123
      ipureintro
      exact (View.read_writes_eq_canon _ _ _ (cover_r0_119 _)).trans rfl
    iexists _; isplitr
    swap; · iexact H124
    ipureintro
    exact (View.read_writes_eq_canon _ _ _ (cover_r0_119 _)).trans rfl
  icases I16 with ⟨⟨%f55, %hf55, H55⟩, ⟨%f56, %hf56, H56⟩, ⟨%f57, %hf57, H57⟩⟩
  icases O16 with ⟨⟨%d125, %f125, -, H125⟩, ⟨%d126, %f126, -, H126⟩, ⟨%d127, %f127, -, H127⟩, ⟨%d128, %f128, -, H128⟩⟩
  subst hf55 hf56 hf57
  sl_exec
  ihave I16 : iprop(ins3 c arg55 arg56 arg57 (arg55.view.read (Elt F) f55) (arg56.view.read (Elt F) f56) (arg57.view.read (Elt F) f57)) $$ [H55 H56 H57]
  · delta ins3 owns
    isplitl [H55]
    · iexists f55; isplitr; · ipureintro; rfl
      iexact H55
    isplitl [H56]
    · iexists f56; isplitr; · ipureintro; rfl
      iexact H56
    iexists f57; isplitr; · ipureintro; rfl
    iexact H57
  ihave O16 : iprop(outs4 c arg125 arg126 arg127 arg128 (out125 (arg5.view.read (Elt F) f5)) (out126 (arg5.view.read (Elt F) f5) (arg55.view.read (Elt F) f55) (arg56.view.read (Elt F) f56) (arg57.view.read (Elt F) f57)) (out127 (arg5.view.read (Elt F) f5) (arg56.view.read (Elt F) f56)) (out128 (arg5.view.read (Elt F) f5) (arg57.view.read (Elt F) f57))) $$ [H125 H126 H127 H128]
  · delta outs4 owns
    isplitl [H125]
    · iexists _; isplitr
      swap; · iexact H125
      ipureintro
      exact (View.read_writes_eq_canon _ _ _ (cover_r0_119 _)).trans rfl
    isplitl [H126]
    · iexists _; isplitr
      swap; · iexact H126
      ipureintro
      exact (View.read_writes_eq_canon _ _ _ (cover_r0_119 _)).trans rfl
    isplitl [H127]
    · iexists _; isplitr
      swap; · iexact H127
      ipureintro
      exact (View.read_writes_eq_canon _ _ _ (cover_r0_119 _)).trans rfl
    iexists _; isplitr
    swap; · iexact H128
    ipureintro
    exact (View.read_writes_eq_canon _ _ _ (cover_r0_119 _)).trans rfl
  icases I17 with ⟨⟨%f58, %hf58, H58⟩, ⟨%f59, %hf59, H59⟩, ⟨%f60, %hf60, H60⟩⟩
  icases O17 with ⟨⟨%d129, %f129, -, H129⟩, ⟨%d130, %f130, -, H130⟩, ⟨%d131, %f131, -, H131⟩, ⟨%d132, %f132, -, H132⟩⟩
  subst hf58 hf59 hf60
  sl_exec
  ihave I17 : iprop(ins3 c arg58 arg59 arg60 (arg58.view.read (Elt F) f58) (arg59.view.read (Elt F) f59) (arg60.view.read (Elt F) f60)) $$ [H58 H59 H60]
  · delta ins3 owns
    isplitl [H58]
    · iexists f58; isplitr; · ipureintro; rfl
      iexact H58
    isplitl [H59]
    · iexists f59; isplitr; · ipureintro; rfl
      iexact H59
    iexists f60; isplitr; · ipureintro; rfl
    iexact H60
  ihave O17 : iprop(outs4 c arg129 arg130 arg131 arg132 (out129 (arg5.view.read (Elt F) f5)) (out130 (arg5.view.read (Elt F) f5) (arg58.view.read (Elt F) f58) (arg59.view.read (Elt F) f59) (arg60.view.read (Elt F) f60)) (out131 (arg5.view.read (Elt F) f5) (arg59.view.read (Elt F) f59)) (out132 (arg5.view.read (Elt F) f5) (arg60.view.read (Elt F) f60))) $$ [H129 H130 H131 H132]
  · delta outs4 owns
    isplitl [H129]
    · iexists _; isplitr
      swap; · iexact H129
      ipureintro
      exact (View.read_writes_eq_canon _ _ _ (cover_r0_119 _)).trans rfl
    isplitl [H130]
    · iexists _; isplitr
      swap; · iexact H130
      ipureintro
      exact (View.read_writes_eq_canon _ _ _ (cover_r0_119 _)).trans rfl
    isplitl [H131]
    · iexists _; isplitr
      swap; · iexact H131
      ipureintro
      exact (View.read_writes_eq_canon _ _ _ (cover_r0_119 _)).trans rfl
    iexists _; isplitr
    swap; · iexact H132
    ipureintro
    exact (View.read_writes_eq_canon _ _ _ (cover_r0_119 _)).trans rfl
  sl_step
  iapply Hk
  subst hQ
  isplitl [H0 H1 H2 H3 H4 H5 H6]
  · delta srcs7 owns
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists f6; isplitr; · ipureintro; rfl
    iexact H6
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  isplitl [I10]; · iexact I10
  isplitl [I11]; · iexact I11
  isplitl [I12]; · iexact I12
  isplitl [I13]; · iexact I13
  isplitl [I14]; · iexact I14
  isplitl [I15]; · iexact I15
  isplitl [I16]; · iexact I16
  isplitl [I17]; · iexact I17
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  isplitl [O14]; · iexact O14
  isplitl [O15]; · iexact O15
  isplitl [O16]; · iexact O16
  isplitl [O17]; · iexact O17
  iexact HL

end Cert.AdamSmallIdeal.Body

end
-- ==== Proof.AdamSmall.Before0.lean ====
module

public import proofs.«01_k».proof.Proof.AdamSmall.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.AdamSmallIdeal.Body

open Idealize.ShloMosaic Idealize.ShloMosaic.TcCoe Idealize.ShloMosaic.Tactic
open Cert.AdamSmallIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! An input's buffer holds its block whenever the body runs. -/

theorem before_in0 {c : Dev nD} (dat : Dat τ (Elt F) Unit ℕ (UR sig nD τ) ℕ cfg0 c) (hA : dat.A (⟨0, by decide⟩ : Fin 134) = V m c (Pipeline.arrRef spec0 (⟨0, by decide⟩ : Fin 134)))
    (hafter : ∀ t, dat.after (⟨0, by decide⟩ : Fin 134) t = iblk m c (⟨0, by decide⟩ : Fin 134) t) (t : Fin cfg0.N) (d) : dat.before (⟨0, by decide⟩ : Fin 134) t d = iblk m c (⟨0, by decide⟩ : Fin 134) t :=
  (dat.before_in_eq_fetched (⟨0, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg0 c) (hA : dat.A (⟨1, by decide⟩ : Fin 134) = V m c (Pipeline.arrRef spec0 (⟨1, by decide⟩ : Fin 134)))
    (hafter : ∀ t, dat.after (⟨1, by decide⟩ : Fin 134) t = iblk m c (⟨1, by decide⟩ : Fin 134) t) (t : Fin cfg0.N) (d) : dat.before (⟨1, by decide⟩ : Fin 134) t d = iblk m c (⟨1, by decide⟩ : Fin 134) t :=
  (dat.before_in_eq_fetched (⟨1, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg0 c) (hA : dat.A (⟨2, by decide⟩ : Fin 134) = V m c (Pipeline.arrRef spec0 (⟨2, by decide⟩ : Fin 134)))
    (hafter : ∀ t, dat.after (⟨2, by decide⟩ : Fin 134) t = iblk m c (⟨2, by decide⟩ : Fin 134) t) (t : Fin cfg0.N) (d) : dat.before (⟨2, by decide⟩ : Fin 134) t d = iblk m c (⟨2, by decide⟩ : Fin 134) t :=
  (dat.before_in_eq_fetched (⟨2, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in3 {c : Dev nD} (dat : Dat τ (Elt F) Unit ℕ (UR sig nD τ) ℕ cfg0 c) (hA : dat.A (⟨3, by decide⟩ : Fin 134) = V m c (Pipeline.arrRef spec0 (⟨3, by decide⟩ : Fin 134)))
    (hafter : ∀ t, dat.after (⟨3, by decide⟩ : Fin 134) t = iblk m c (⟨3, by decide⟩ : Fin 134) t) (t : Fin cfg0.N) (d) : dat.before (⟨3, by decide⟩ : Fin 134) t d = iblk m c (⟨3, by decide⟩ : Fin 134) t :=
  (dat.before_in_eq_fetched (⟨3, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in4 {c : Dev nD} (dat : Dat τ (Elt F) Unit ℕ (UR sig nD τ) ℕ cfg0 c) (hA : dat.A (⟨4, by decide⟩ : Fin 134) = V m c (Pipeline.arrRef spec0 (⟨4, by decide⟩ : Fin 134)))
    (hafter : ∀ t, dat.after (⟨4, by decide⟩ : Fin 134) t = iblk m c (⟨4, by decide⟩ : Fin 134) t) (t : Fin cfg0.N) (d) : dat.before (⟨4, by decide⟩ : Fin 134) t d = iblk m c (⟨4, by decide⟩ : Fin 134) t :=
  (dat.before_in_eq_fetched (⟨4, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in5 {c : Dev nD} (dat : Dat τ (Elt F) Unit ℕ (UR sig nD τ) ℕ cfg0 c) (hA : dat.A (⟨5, by decide⟩ : Fin 134) = V m c (Pipeline.arrRef spec0 (⟨5, by decide⟩ : Fin 134)))
    (hafter : ∀ t, dat.after (⟨5, by decide⟩ : Fin 134) t = iblk m c (⟨5, by decide⟩ : Fin 134) t) (t : Fin cfg0.N) (d) : dat.before (⟨5, by decide⟩ : Fin 134) t d = iblk m c (⟨5, by decide⟩ : Fin 134) t :=
  (dat.before_in_eq_fetched (⟨5, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in6 {c : Dev nD} (dat : Dat τ (Elt F) Unit ℕ (UR sig nD τ) ℕ cfg0 c) (hA : dat.A (⟨6, by decide⟩ : Fin 134) = V m c (Pipeline.arrRef spec0 (⟨6, by decide⟩ : Fin 134)))
    (hafter : ∀ t, dat.after (⟨6, by decide⟩ : Fin 134) t = iblk m c (⟨6, by decide⟩ : Fin 134) t) (t : Fin cfg0.N) (d) : dat.before (⟨6, by decide⟩ : Fin 134) t d = iblk m c (⟨6, by decide⟩ : Fin 134) t :=
  (dat.before_in_eq_fetched (⟨6, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in7 {c : Dev nD} (dat : Dat τ (Elt F) Unit ℕ (UR sig nD τ) ℕ cfg0 c) (hA : dat.A (⟨7, by decide⟩ : Fin 134) = V m c (Pipeline.arrRef spec0 (⟨7, by decide⟩ : Fin 134)))
    (hafter : ∀ t, dat.after (⟨7, by decide⟩ : Fin 134) t = iblk m c (⟨7, by decide⟩ : Fin 134) t) (t : Fin cfg0.N) (d) : dat.before (⟨7, by decide⟩ : Fin 134) t d = iblk m c (⟨7, by decide⟩ : Fin 134) t :=
  (dat.before_in_eq_fetched (⟨7, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in8 {c : Dev nD} (dat : Dat τ (Elt F) Unit ℕ (UR sig nD τ) ℕ cfg0 c) (hA : dat.A (⟨8, by decide⟩ : Fin 134) = V m c (Pipeline.arrRef spec0 (⟨8, by decide⟩ : Fin 134)))
    (hafter : ∀ t, dat.after (⟨8, by decide⟩ : Fin 134) t = iblk m c (⟨8, by decide⟩ : Fin 134) t) (t : Fin cfg0.N) (d) : dat.before (⟨8, by decide⟩ : Fin 134) t d = iblk m c (⟨8, by decide⟩ : Fin 134) t :=
  (dat.before_in_eq_fetched (⟨8, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in9 {c : Dev nD} (dat : Dat τ (Elt F) Unit ℕ (UR sig nD τ) ℕ cfg0 c) (hA : dat.A (⟨9, by decide⟩ : Fin 134) = V m c (Pipeline.arrRef spec0 (⟨9, by decide⟩ : Fin 134)))
    (hafter : ∀ t, dat.after (⟨9, by decide⟩ : Fin 134) t = iblk m c (⟨9, by decide⟩ : Fin 134) t) (t : Fin cfg0.N) (d) : dat.before (⟨9, by decide⟩ : Fin 134) t d = iblk m c (⟨9, by decide⟩ : Fin 134) t :=
  (dat.before_in_eq_fetched (⟨9, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in10 {c : Dev nD} (dat : Dat τ (Elt F) Unit ℕ (UR sig nD τ) ℕ cfg0 c) (hA : dat.A (⟨10, by decide⟩ : Fin 134) = V m c (Pipeline.arrRef spec0 (⟨10, by decide⟩ : Fin 134)))
    (hafter : ∀ t, dat.after (⟨10, by decide⟩ : Fin 134) t = iblk m c (⟨10, by decide⟩ : Fin 134) t) (t : Fin cfg0.N) (d) : dat.before (⟨10, by decide⟩ : Fin 134) t d = iblk m c (⟨10, by decide⟩ : Fin 134) t :=
  (dat.before_in_eq_fetched (⟨10, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in11 {c : Dev nD} (dat : Dat τ (Elt F) Unit ℕ (UR sig nD τ) ℕ cfg0 c) (hA : dat.A (⟨11, by decide⟩ : Fin 134) = V m c (Pipeline.arrRef spec0 (⟨11, by decide⟩ : Fin 134)))
    (hafter : ∀ t, dat.after (⟨11, by decide⟩ : Fin 134) t = iblk m c (⟨11, by decide⟩ : Fin 134) t) (t : Fin cfg0.N) (d) : dat.before (⟨11, by decide⟩ : Fin 134) t d = iblk m c (⟨11, by decide⟩ : Fin 134) t :=
  (dat.before_in_eq_fetched (⟨11, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in12 {c : Dev nD} (dat : Dat τ (Elt F) Unit ℕ (UR sig nD τ) ℕ cfg0 c) (hA : dat.A (⟨12, by decide⟩ : Fin 134) = V m c (Pipeline.arrRef spec0 (⟨12, by decide⟩ : Fin 134)))
    (hafter : ∀ t, dat.after (⟨12, by decide⟩ : Fin 134) t = iblk m c (⟨12, by decide⟩ : Fin 134) t) (t : Fin cfg0.N) (d) : dat.before (⟨12, by decide⟩ : Fin 134) t d = iblk m c (⟨12, by decide⟩ : Fin 134) t :=
  (dat.before_in_eq_fetched (⟨12, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in13 {c : Dev nD} (dat : Dat τ (Elt F) Unit ℕ (UR sig nD τ) ℕ cfg0 c) (hA : dat.A (⟨13, by decide⟩ : Fin 134) = V m c (Pipeline.arrRef spec0 (⟨13, by decide⟩ : Fin 134)))
    (hafter : ∀ t, dat.after (⟨13, by decide⟩ : Fin 134) t = iblk m c (⟨13, by decide⟩ : Fin 134) t) (t : Fin cfg0.N) (d) : dat.before (⟨13, by decide⟩ : Fin 134) t d = iblk m c (⟨13, by decide⟩ : Fin 134) t :=
  (dat.before_in_eq_fetched (⟨13, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in14 {c : Dev nD} (dat : Dat τ (Elt F) Unit ℕ (UR sig nD τ) ℕ cfg0 c) (hA : dat.A (⟨14, by decide⟩ : Fin 134) = V m c (Pipeline.arrRef spec0 (⟨14, by decide⟩ : Fin 134)))
    (hafter : ∀ t, dat.after (⟨14, by decide⟩ : Fin 134) t = iblk m c (⟨14, by decide⟩ : Fin 134) t) (t : Fin cfg0.N) (d) : dat.before (⟨14, by decide⟩ : Fin 134) t d = iblk m c (⟨14, by decide⟩ : Fin 134) t :=
  (dat.before_in_eq_fetched (⟨14, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in15 {c : Dev nD} (dat : Dat τ (Elt F) Unit ℕ (UR sig nD τ) ℕ cfg0 c) (hA : dat.A (⟨15, by decide⟩ : Fin 134) = V m c (Pipeline.arrRef spec0 (⟨15, by decide⟩ : Fin 134)))
    (hafter : ∀ t, dat.after (⟨15, by decide⟩ : Fin 134) t = iblk m c (⟨15, by decide⟩ : Fin 134) t) (t : Fin cfg0.N) (d) : dat.before (⟨15, by decide⟩ : Fin 134) t d = iblk m c (⟨15, by decide⟩ : Fin 134) t :=
  (dat.before_in_eq_fetched (⟨15, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in16 {c : Dev nD} (dat : Dat τ (Elt F) Unit ℕ (UR sig nD τ) ℕ cfg0 c) (hA : dat.A (⟨16, by decide⟩ : Fin 134) = V m c (Pipeline.arrRef spec0 (⟨16, by decide⟩ : Fin 134)))
    (hafter : ∀ t, dat.after (⟨16, by decide⟩ : Fin 134) t = iblk m c (⟨16, by decide⟩ : Fin 134) t) (t : Fin cfg0.N) (d) : dat.before (⟨16, by decide⟩ : Fin 134) t d = iblk m c (⟨16, by decide⟩ : Fin 134) t :=
  (dat.before_in_eq_fetched (⟨16, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in17 {c : Dev nD} (dat : Dat τ (Elt F) Unit ℕ (UR sig nD τ) ℕ cfg0 c) (hA : dat.A (⟨17, by decide⟩ : Fin 134) = V m c (Pipeline.arrRef spec0 (⟨17, by decide⟩ : Fin 134)))
    (hafter : ∀ t, dat.after (⟨17, by decide⟩ : Fin 134) t = iblk m c (⟨17, by decide⟩ : Fin 134) t) (t : Fin cfg0.N) (d) : dat.before (⟨17, by decide⟩ : Fin 134) t d = iblk m c (⟨17, by decide⟩ : Fin 134) t :=
  (dat.before_in_eq_fetched (⟨17, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in18 {c : Dev nD} (dat : Dat τ (Elt F) Unit ℕ (UR sig nD τ) ℕ cfg0 c) (hA : dat.A (⟨18, by decide⟩ : Fin 134) = V m c (Pipeline.arrRef spec0 (⟨18, by decide⟩ : Fin 134)))
    (hafter : ∀ t, dat.after (⟨18, by decide⟩ : Fin 134) t = iblk m c (⟨18, by decide⟩ : Fin 134) t) (t : Fin cfg0.N) (d) : dat.before (⟨18, by decide⟩ : Fin 134) t d = iblk m c (⟨18, by decide⟩ : Fin 134) t :=
  (dat.before_in_eq_fetched (⟨18, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in19 {c : Dev nD} (dat : Dat τ (Elt F) Unit ℕ (UR sig nD τ) ℕ cfg0 c) (hA : dat.A (⟨19, by decide⟩ : Fin 134) = V m c (Pipeline.arrRef spec0 (⟨19, by decide⟩ : Fin 134)))
    (hafter : ∀ t, dat.after (⟨19, by decide⟩ : Fin 134) t = iblk m c (⟨19, by decide⟩ : Fin 134) t) (t : Fin cfg0.N) (d) : dat.before (⟨19, by decide⟩ : Fin 134) t d = iblk m c (⟨19, by decide⟩ : Fin 134) t :=
  (dat.before_in_eq_fetched (⟨19, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)

end Cert.AdamSmallIdeal.Body

end
-- ==== Proof.AdamSmall.Win0.lean ====
module

public import proofs.«01_k».proof.Proof.AdamSmall.Stage
public import proofs.«01_k».proof.Proof.AdamSmall.Before0
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.AdamSmallIdeal.Body

open Idealize.ShloMosaic Idealize.ShloMosaic.TcCoe Idealize.ShloMosaic.Tactic
open Cert.AdamSmallIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep)

theorem pre0 (c : Dev nD) (t : Fin cfg0.N) : pre m c t (⟨0, by decide⟩ : Fin 134) ⊢ owns (c : Thread nD τ) (s0 t) fullShare (b0 m c t) :=
  exists_elim fun d => by rw [before_in0 m (dats m 0 c) (A_eq m c _) (after0 m c) t d]; exact .rfl
theorem post0 (c : Dev nD) (t : Fin cfg0.N) : owns (c : Thread nD τ) (s0 t) fullShare (b0 m c t) ⊢ post m c t (⟨0, by decide⟩ : Fin 134) := by
  unfold post; rw [after0]; exact .rfl
theorem pre1 (c : Dev nD) (t : Fin cfg0.N) : pre m c t (⟨1, by decide⟩ : Fin 134) ⊢ owns (c : Thread nD τ) (s1 t) fullShare (b1 m c t) :=
  exists_elim fun d => by rw [before_in1 m (dats m 0 c) (A_eq m c _) (after1 m c) t d]; exact .rfl
theorem post1 (c : Dev nD) (t : Fin cfg0.N) : owns (c : Thread nD τ) (s1 t) fullShare (b1 m c t) ⊢ post m c t (⟨1, by decide⟩ : Fin 134) := by
  unfold post; rw [after1]; exact .rfl
theorem pre2 (c : Dev nD) (t : Fin cfg0.N) : pre m c t (⟨2, by decide⟩ : Fin 134) ⊢ owns (c : Thread nD τ) (s2 t) fullShare (b2 m c t) :=
  exists_elim fun d => by rw [before_in2 m (dats m 0 c) (A_eq m c _) (after2 m c) t d]; exact .rfl
theorem post2 (c : Dev nD) (t : Fin cfg0.N) : owns (c : Thread nD τ) (s2 t) fullShare (b2 m c t) ⊢ post m c t (⟨2, by decide⟩ : Fin 134) := by
  unfold post; rw [after2]; exact .rfl
theorem pre3 (c : Dev nD) (t : Fin cfg0.N) : pre m c t (⟨3, by decide⟩ : Fin 134) ⊢ owns (c : Thread nD τ) (s3 t) fullShare (b3 m c t) :=
  exists_elim fun d => by rw [before_in3 m (dats m 0 c) (A_eq m c _) (after3 m c) t d]; exact .rfl
theorem post3 (c : Dev nD) (t : Fin cfg0.N) : owns (c : Thread nD τ) (s3 t) fullShare (b3 m c t) ⊢ post m c t (⟨3, by decide⟩ : Fin 134) := by
  unfold post; rw [after3]; exact .rfl
theorem pre4 (c : Dev nD) (t : Fin cfg0.N) : pre m c t (⟨4, by decide⟩ : Fin 134) ⊢ owns (c : Thread nD τ) (s4 t) fullShare (b4 m c t) :=
  exists_elim fun d => by rw [before_in4 m (dats m 0 c) (A_eq m c _) (after4 m c) t d]; exact .rfl
theorem post4 (c : Dev nD) (t : Fin cfg0.N) : owns (c : Thread nD τ) (s4 t) fullShare (b4 m c t) ⊢ post m c t (⟨4, by decide⟩ : Fin 134) := by
  unfold post; rw [after4]; exact .rfl
theorem pre5 (c : Dev nD) (t : Fin cfg0.N) : pre m c t (⟨5, by decide⟩ : Fin 134) ⊢ owns (c : Thread nD τ) (s5 t) fullShare (b5 m c t) :=
  exists_elim fun d => by rw [before_in5 m (dats m 0 c) (A_eq m c _) (after5 m c) t d]; exact .rfl
theorem post5 (c : Dev nD) (t : Fin cfg0.N) : owns (c : Thread nD τ) (s5 t) fullShare (b5 m c t) ⊢ post m c t (⟨5, by decide⟩ : Fin 134) := by
  unfold post; rw [after5]; exact .rfl
theorem pre6 (c : Dev nD) (t : Fin cfg0.N) : pre m c t (⟨6, by decide⟩ : Fin 134) ⊢ owns (c : Thread nD τ) (s6 t) fullShare (b6 m c t) :=
  exists_elim fun d => by rw [before_in6 m (dats m 0 c) (A_eq m c _) (after6 m c) t d]; exact .rfl
theorem post6 (c : Dev nD) (t : Fin cfg0.N) : owns (c : Thread nD τ) (s6 t) fullShare (b6 m c t) ⊢ post m c t (⟨6, by decide⟩ : Fin 134) := by
  unfold post; rw [after6]; exact .rfl
theorem pre_srcs (c : Dev nD) (t : Fin cfg0.N) : bigSepL [(⟨0, by decide⟩ : Fin 134), (⟨1, by decide⟩ : Fin 134), (⟨2, by decide⟩ : Fin 134), (⟨3, by decide⟩ : Fin 134), (⟨4, by decide⟩ : Fin 134), (⟨5, by decide⟩ : Fin 134), (⟨6, by decide⟩ : Fin 134)] (pre m c t) ⊢ srcs7 c (s0 t) (s1 t) (s2 t) (s3 t) (s4 t) (s5 t) (s6 t) (b0 m c t) (b1 m c t) (b2 m c t) (b3 m c t) (b4 m c t) (b5 m c t) (b6 m c t) :=
  BIClass.sep_mono (pre0 m c t) (BIClass.sep_mono (pre1 m c t) (BIClass.sep_mono (pre2 m c t) (BIClass.sep_mono (pre3 m c t) (BIClass.sep_mono (pre4 m c t) (BIClass.sep_mono (pre5 m c t) (pre6 m c t))))))
theorem post_srcs (c : Dev nD) (t : Fin cfg0.N) : srcs7 c (s0 t) (s1 t) (s2 t) (s3 t) (s4 t) (s5 t) (s6 t) (b0 m c t) (b1 m c t) (b2 m c t) (b3 m c t) (b4 m c t) (b5 m c t) (b6 m c t) ⊢ bigSepL [(⟨0, by decide⟩ : Fin 134), (⟨1, by decide⟩ : Fin 134), (⟨2, by decide⟩ : Fin 134), (⟨3, by decide⟩ : Fin 134), (⟨4, by decide⟩ : Fin 134), (⟨5, by decide⟩ : Fin 134), (⟨6, by decide⟩ : Fin 134)] (post m c t) :=
  BIClass.sep_mono (post0 m c t) (BIClass.sep_mono (post1 m c t) (BIClass.sep_mono (post2 m c t) (BIClass.sep_mono (post3 m c t) (BIClass.sep_mono (post4 m c t) (BIClass.sep_mono (post5 m c t) (post6 m c t))))))
theorem pre7 (c : Dev nD) (t : Fin cfg0.N) : pre m c t (⟨7, by decide⟩ : Fin 134) ⊢ owns (c : Thread nD τ) (s7 t) fullShare (b7 m c t) :=
  exists_elim fun d => by rw [before_in7 m (dats m 0 c) (A_eq m c _) (after7 m c) t d]; exact .rfl
theorem post7 (c : Dev nD) (t : Fin cfg0.N) : owns (c : Thread nD τ) (s7 t) fullShare (b7 m c t) ⊢ post m c t (⟨7, by decide⟩ : Fin 134) := by
  unfold post; rw [after7]; exact .rfl
theorem pre8 (c : Dev nD) (t : Fin cfg0.N) : pre m c t (⟨8, by decide⟩ : Fin 134) ⊢ owns (c : Thread nD τ) (s8 t) fullShare (b8 m c t) :=
  exists_elim fun d => by rw [before_in8 m (dats m 0 c) (A_eq m c _) (after8 m c) t d]; exact .rfl
theorem post8 (c : Dev nD) (t : Fin cfg0.N) : owns (c : Thread nD τ) (s8 t) fullShare (b8 m c t) ⊢ post m c t (⟨8, by decide⟩ : Fin 134) := by
  unfold post; rw [after8]; exact .rfl
theorem pre9 (c : Dev nD) (t : Fin cfg0.N) : pre m c t (⟨9, by decide⟩ : Fin 134) ⊢ owns (c : Thread nD τ) (s9 t) fullShare (b9 m c t) :=
  exists_elim fun d => by rw [before_in9 m (dats m 0 c) (A_eq m c _) (after9 m c) t d]; exact .rfl
theorem post9 (c : Dev nD) (t : Fin cfg0.N) : owns (c : Thread nD τ) (s9 t) fullShare (b9 m c t) ⊢ post m c t (⟨9, by decide⟩ : Fin 134) := by
  unfold post; rw [after9]; exact .rfl
theorem pre10 (c : Dev nD) (t : Fin cfg0.N) : pre m c t (⟨10, by decide⟩ : Fin 134) ⊢ owns (c : Thread nD τ) (s10 t) fullShare (b10 m c t) :=
  exists_elim fun d => by rw [before_in10 m (dats m 0 c) (A_eq m c _) (after10 m c) t d]; exact .rfl
theorem post10 (c : Dev nD) (t : Fin cfg0.N) : owns (c : Thread nD τ) (s10 t) fullShare (b10 m c t) ⊢ post m c t (⟨10, by decide⟩ : Fin 134) := by
  unfold post; rw [after10]; exact .rfl
theorem pre11 (c : Dev nD) (t : Fin cfg0.N) : pre m c t (⟨11, by decide⟩ : Fin 134) ⊢ owns (c : Thread nD τ) (s11 t) fullShare (b11 m c t) :=
  exists_elim fun d => by rw [before_in11 m (dats m 0 c) (A_eq m c _) (after11 m c) t d]; exact .rfl
theorem post11 (c : Dev nD) (t : Fin cfg0.N) : owns (c : Thread nD τ) (s11 t) fullShare (b11 m c t) ⊢ post m c t (⟨11, by decide⟩ : Fin 134) := by
  unfold post; rw [after11]; exact .rfl
theorem pre12 (c : Dev nD) (t : Fin cfg0.N) : pre m c t (⟨12, by decide⟩ : Fin 134) ⊢ owns (c : Thread nD τ) (s12 t) fullShare (b12 m c t) :=
  exists_elim fun d => by rw [before_in12 m (dats m 0 c) (A_eq m c _) (after12 m c) t d]; exact .rfl
theorem post12 (c : Dev nD) (t : Fin cfg0.N) : owns (c : Thread nD τ) (s12 t) fullShare (b12 m c t) ⊢ post m c t (⟨12, by decide⟩ : Fin 134) := by
  unfold post; rw [after12]; exact .rfl
theorem pre13 (c : Dev nD) (t : Fin cfg0.N) : pre m c t (⟨13, by decide⟩ : Fin 134) ⊢ owns (c : Thread nD τ) (s13 t) fullShare (b13 m c t) :=
  exists_elim fun d => by rw [before_in13 m (dats m 0 c) (A_eq m c _) (after13 m c) t d]; exact .rfl
theorem post13 (c : Dev nD) (t : Fin cfg0.N) : owns (c : Thread nD τ) (s13 t) fullShare (b13 m c t) ⊢ post m c t (⟨13, by decide⟩ : Fin 134) := by
  unfold post; rw [after13]; exact .rfl
theorem pre14 (c : Dev nD) (t : Fin cfg0.N) : pre m c t (⟨14, by decide⟩ : Fin 134) ⊢ owns (c : Thread nD τ) (s14 t) fullShare (b14 m c t) :=
  exists_elim fun d => by rw [before_in14 m (dats m 0 c) (A_eq m c _) (after14 m c) t d]; exact .rfl
theorem post14 (c : Dev nD) (t : Fin cfg0.N) : owns (c : Thread nD τ) (s14 t) fullShare (b14 m c t) ⊢ post m c t (⟨14, by decide⟩ : Fin 134) := by
  unfold post; rw [after14]; exact .rfl
theorem pre15 (c : Dev nD) (t : Fin cfg0.N) : pre m c t (⟨15, by decide⟩ : Fin 134) ⊢ owns (c : Thread nD τ) (s15 t) fullShare (b15 m c t) :=
  exists_elim fun d => by rw [before_in15 m (dats m 0 c) (A_eq m c _) (after15 m c) t d]; exact .rfl
theorem post15 (c : Dev nD) (t : Fin cfg0.N) : owns (c : Thread nD τ) (s15 t) fullShare (b15 m c t) ⊢ post m c t (⟨15, by decide⟩ : Fin 134) := by
  unfold post; rw [after15]; exact .rfl
theorem pre16 (c : Dev nD) (t : Fin cfg0.N) : pre m c t (⟨16, by decide⟩ : Fin 134) ⊢ owns (c : Thread nD τ) (s16 t) fullShare (b16 m c t) :=
  exists_elim fun d => by rw [before_in16 m (dats m 0 c) (A_eq m c _) (after16 m c) t d]; exact .rfl
theorem post16 (c : Dev nD) (t : Fin cfg0.N) : owns (c : Thread nD τ) (s16 t) fullShare (b16 m c t) ⊢ post m c t (⟨16, by decide⟩ : Fin 134) := by
  unfold post; rw [after16]; exact .rfl
theorem pre17 (c : Dev nD) (t : Fin cfg0.N) : pre m c t (⟨17, by decide⟩ : Fin 134) ⊢ owns (c : Thread nD τ) (s17 t) fullShare (b17 m c t) :=
  exists_elim fun d => by rw [before_in17 m (dats m 0 c) (A_eq m c _) (after17 m c) t d]; exact .rfl
theorem post17 (c : Dev nD) (t : Fin cfg0.N) : owns (c : Thread nD τ) (s17 t) fullShare (b17 m c t) ⊢ post m c t (⟨17, by decide⟩ : Fin 134) := by
  unfold post; rw [after17]; exact .rfl
theorem pre18 (c : Dev nD) (t : Fin cfg0.N) : pre m c t (⟨18, by decide⟩ : Fin 134) ⊢ owns (c : Thread nD τ) (s18 t) fullShare (b18 m c t) :=
  exists_elim fun d => by rw [before_in18 m (dats m 0 c) (A_eq m c _) (after18 m c) t d]; exact .rfl
theorem post18 (c : Dev nD) (t : Fin cfg0.N) : owns (c : Thread nD τ) (s18 t) fullShare (b18 m c t) ⊢ post m c t (⟨18, by decide⟩ : Fin 134) := by
  unfold post; rw [after18]; exact .rfl
theorem pre_ins0 (c : Dev nD) (t : Fin cfg0.N) : bigSepL [(⟨7, by decide⟩ : Fin 134), (⟨8, by decide⟩ : Fin 134), (⟨9, by decide⟩ : Fin 134)] (pre m c t) ⊢ ins3 c (s7 t) (s8 t) (s9 t) (b7 m c t) (b8 m c t) (b9 m c t) :=
  BIClass.sep_mono (pre7 m c t) (BIClass.sep_mono (pre8 m c t) (pre9 m c t))
theorem post_ins0 (c : Dev nD) (t : Fin cfg0.N) : ins3 c (s7 t) (s8 t) (s9 t) (b7 m c t) (b8 m c t) (b9 m c t) ⊢ bigSepL [(⟨7, by decide⟩ : Fin 134), (⟨8, by decide⟩ : Fin 134), (⟨9, by decide⟩ : Fin 134)] (post m c t) :=
  BIClass.sep_mono (post7 m c t) (BIClass.sep_mono (post8 m c t) (post9 m c t))
theorem pre_ins1 (c : Dev nD) (t : Fin cfg0.N) : bigSepL [(⟨10, by decide⟩ : Fin 134), (⟨11, by decide⟩ : Fin 134), (⟨12, by decide⟩ : Fin 134)] (pre m c t) ⊢ ins3 c (s10 t) (s11 t) (s12 t) (b10 m c t) (b11 m c t) (b12 m c t) :=
  BIClass.sep_mono (pre10 m c t) (BIClass.sep_mono (pre11 m c t) (pre12 m c t))
theorem post_ins1 (c : Dev nD) (t : Fin cfg0.N) : ins3 c (s10 t) (s11 t) (s12 t) (b10 m c t) (b11 m c t) (b12 m c t) ⊢ bigSepL [(⟨10, by decide⟩ : Fin 134), (⟨11, by decide⟩ : Fin 134), (⟨12, by decide⟩ : Fin 134)] (post m c t) :=
  BIClass.sep_mono (post10 m c t) (BIClass.sep_mono (post11 m c t) (post12 m c t))
theorem pre_ins2 (c : Dev nD) (t : Fin cfg0.N) : bigSepL [(⟨13, by decide⟩ : Fin 134), (⟨14, by decide⟩ : Fin 134), (⟨15, by decide⟩ : Fin 134)] (pre m c t) ⊢ ins3 c (s13 t) (s14 t) (s15 t) (b13 m c t) (b14 m c t) (b15 m c t) :=
  BIClass.sep_mono (pre13 m c t) (BIClass.sep_mono (pre14 m c t) (pre15 m c t))
theorem post_ins2 (c : Dev nD) (t : Fin cfg0.N) : ins3 c (s13 t) (s14 t) (s15 t) (b13 m c t) (b14 m c t) (b15 m c t) ⊢ bigSepL [(⟨13, by decide⟩ : Fin 134), (⟨14, by decide⟩ : Fin 134), (⟨15, by decide⟩ : Fin 134)] (post m c t) :=
  BIClass.sep_mono (post13 m c t) (BIClass.sep_mono (post14 m c t) (post15 m c t))
theorem pre_ins3 (c : Dev nD) (t : Fin cfg0.N) : bigSepL [(⟨16, by decide⟩ : Fin 134), (⟨17, by decide⟩ : Fin 134), (⟨18, by decide⟩ : Fin 134)] (pre m c t) ⊢ ins3 c (s16 t) (s17 t) (s18 t) (b16 m c t) (b17 m c t) (b18 m c t) :=
  BIClass.sep_mono (pre16 m c t) (BIClass.sep_mono (pre17 m c t) (pre18 m c t))
theorem post_ins3 (c : Dev nD) (t : Fin cfg0.N) : ins3 c (s16 t) (s17 t) (s18 t) (b16 m c t) (b17 m c t) (b18 m c t) ⊢ bigSepL [(⟨16, by decide⟩ : Fin 134), (⟨17, by decide⟩ : Fin 134), (⟨18, by decide⟩ : Fin 134)] (post m c t) :=
  BIClass.sep_mono (post16 m c t) (BIClass.sep_mono (post17 m c t) (post18 m c t))

end Cert.AdamSmallIdeal.Body

end
-- ==== Proof.AdamSmall.Before1.lean ====
module

public import proofs.«01_k».proof.Proof.AdamSmall.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.AdamSmallIdeal.Body

open Idealize.ShloMosaic Idealize.ShloMosaic.TcCoe Idealize.ShloMosaic.Tactic
open Cert.AdamSmallIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! An input's buffer holds its block whenever the body runs. -/

theorem before_in20 {c : Dev nD} (dat : Dat τ (Elt F) Unit ℕ (UR sig nD τ) ℕ cfg0 c) (hA : dat.A (⟨20, by decide⟩ : Fin 134) = V m c (Pipeline.arrRef spec0 (⟨20, by decide⟩ : Fin 134)))
    (hafter : ∀ t, dat.after (⟨20, by decide⟩ : Fin 134) t = iblk m c (⟨20, by decide⟩ : Fin 134) t) (t : Fin cfg0.N) (d) : dat.before (⟨20, by decide⟩ : Fin 134) t d = iblk m c (⟨20, by decide⟩ : Fin 134) t :=
  (dat.before_in_eq_fetched (⟨20, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in21 {c : Dev nD} (dat : Dat τ (Elt F) Unit ℕ (UR sig nD τ) ℕ cfg0 c) (hA : dat.A (⟨21, by decide⟩ : Fin 134) = V m c (Pipeline.arrRef spec0 (⟨21, by decide⟩ : Fin 134)))
    (hafter : ∀ t, dat.after (⟨21, by decide⟩ : Fin 134) t = iblk m c (⟨21, by decide⟩ : Fin 134) t) (t : Fin cfg0.N) (d) : dat.before (⟨21, by decide⟩ : Fin 134) t d = iblk m c (⟨21, by decide⟩ : Fin 134) t :=
  (dat.before_in_eq_fetched (⟨21, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in22 {c : Dev nD} (dat : Dat τ (Elt F) Unit ℕ (UR sig nD τ) ℕ cfg0 c) (hA : dat.A (⟨22, by decide⟩ : Fin 134) = V m c (Pipeline.arrRef spec0 (⟨22, by decide⟩ : Fin 134)))
    (hafter : ∀ t, dat.after (⟨22, by decide⟩ : Fin 134) t = iblk m c (⟨22, by decide⟩ : Fin 134) t) (t : Fin cfg0.N) (d) : dat.before (⟨22, by decide⟩ : Fin 134) t d = iblk m c (⟨22, by decide⟩ : Fin 134) t :=
  (dat.before_in_eq_fetched (⟨22, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in23 {c : Dev nD} (dat : Dat τ (Elt F) Unit ℕ (UR sig nD τ) ℕ cfg0 c) (hA : dat.A (⟨23, by decide⟩ : Fin 134) = V m c (Pipeline.arrRef spec0 (⟨23, by decide⟩ : Fin 134)))
    (hafter : ∀ t, dat.after (⟨23, by decide⟩ : Fin 134) t = iblk m c (⟨23, by decide⟩ : Fin 134) t) (t : Fin cfg0.N) (d) : dat.before (⟨23, by decide⟩ : Fin 134) t d = iblk m c (⟨23, by decide⟩ : Fin 134) t :=
  (dat.before_in_eq_fetched (⟨23, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in24 {c : Dev nD} (dat : Dat τ (Elt F) Unit ℕ (UR sig nD τ) ℕ cfg0 c) (hA : dat.A (⟨24, by decide⟩ : Fin 134) = V m c (Pipeline.arrRef spec0 (⟨24, by decide⟩ : Fin 134)))
    (hafter : ∀ t, dat.after (⟨24, by decide⟩ : Fin 134) t = iblk m c (⟨24, by decide⟩ : Fin 134) t) (t : Fin cfg0.N) (d) : dat.before (⟨24, by decide⟩ : Fin 134) t d = iblk m c (⟨24, by decide⟩ : Fin 134) t :=
  (dat.before_in_eq_fetched (⟨24, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in25 {c : Dev nD} (dat : Dat τ (Elt F) Unit ℕ (UR sig nD τ) ℕ cfg0 c) (hA : dat.A (⟨25, by decide⟩ : Fin 134) = V m c (Pipeline.arrRef spec0 (⟨25, by decide⟩ : Fin 134)))
    (hafter : ∀ t, dat.after (⟨25, by decide⟩ : Fin 134) t = iblk m c (⟨25, by decide⟩ : Fin 134) t) (t : Fin cfg0.N) (d) : dat.before (⟨25, by decide⟩ : Fin 134) t d = iblk m c (⟨25, by decide⟩ : Fin 134) t :=
  (dat.before_in_eq_fetched (⟨25, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in26 {c : Dev nD} (dat : Dat τ (Elt F) Unit ℕ (UR sig nD τ) ℕ cfg0 c) (hA : dat.A (⟨26, by decide⟩ : Fin 134) = V m c (Pipeline.arrRef spec0 (⟨26, by decide⟩ : Fin 134)))
    (hafter : ∀ t, dat.after (⟨26, by decide⟩ : Fin 134) t = iblk m c (⟨26, by decide⟩ : Fin 134) t) (t : Fin cfg0.N) (d) : dat.before (⟨26, by decide⟩ : Fin 134) t d = iblk m c (⟨26, by decide⟩ : Fin 134) t :=
  (dat.before_in_eq_fetched (⟨26, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in27 {c : Dev nD} (dat : Dat τ (Elt F) Unit ℕ (UR sig nD τ) ℕ cfg0 c) (hA : dat.A (⟨27, by decide⟩ : Fin 134) = V m c (Pipeline.arrRef spec0 (⟨27, by decide⟩ : Fin 134)))
    (hafter : ∀ t, dat.after (⟨27, by decide⟩ : Fin 134) t = iblk m c (⟨27, by decide⟩ : Fin 134) t) (t : Fin cfg0.N) (d) : dat.before (⟨27, by decide⟩ : Fin 134) t d = iblk m c (⟨27, by decide⟩ : Fin 134) t :=
  (dat.before_in_eq_fetched (⟨27, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in28 {c : Dev nD} (dat : Dat τ (Elt F) Unit ℕ (UR sig nD τ) ℕ cfg0 c) (hA : dat.A (⟨28, by decide⟩ : Fin 134) = V m c (Pipeline.arrRef spec0 (⟨28, by decide⟩ : Fin 134)))
    (hafter : ∀ t, dat.after (⟨28, by decide⟩ : Fin 134) t = iblk m c (⟨28, by decide⟩ : Fin 134) t) (t : Fin cfg0.N) (d) : dat.before (⟨28, by decide⟩ : Fin 134) t d = iblk m c (⟨28, by decide⟩ : Fin 134) t :=
  (dat.before_in_eq_fetched (⟨28, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in29 {c : Dev nD} (dat : Dat τ (Elt F) Unit ℕ (UR sig nD τ) ℕ cfg0 c) (hA : dat.A (⟨29, by decide⟩ : Fin 134) = V m c (Pipeline.arrRef spec0 (⟨29, by decide⟩ : Fin 134)))
    (hafter : ∀ t, dat.after (⟨29, by decide⟩ : Fin 134) t = iblk m c (⟨29, by decide⟩ : Fin 134) t) (t : Fin cfg0.N) (d) : dat.before (⟨29, by decide⟩ : Fin 134) t d = iblk m c (⟨29, by decide⟩ : Fin 134) t :=
  (dat.before_in_eq_fetched (⟨29, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in30 {c : Dev nD} (dat : Dat τ (Elt F) Unit ℕ (UR sig nD τ) ℕ cfg0 c) (hA : dat.A (⟨30, by decide⟩ : Fin 134) = V m c (Pipeline.arrRef spec0 (⟨30, by decide⟩ : Fin 134)))
    (hafter : ∀ t, dat.after (⟨30, by decide⟩ : Fin 134) t = iblk m c (⟨30, by decide⟩ : Fin 134) t) (t : Fin cfg0.N) (d) : dat.before (⟨30, by decide⟩ : Fin 134) t d = iblk m c (⟨30, by decide⟩ : Fin 134) t :=
  (dat.before_in_eq_fetched (⟨30, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in31 {c : Dev nD} (dat : Dat τ (Elt F) Unit ℕ (UR sig nD τ) ℕ cfg0 c) (hA : dat.A (⟨31, by decide⟩ : Fin 134) = V m c (Pipeline.arrRef spec0 (⟨31, by decide⟩ : Fin 134)))
    (hafter : ∀ t, dat.after (⟨31, by decide⟩ : Fin 134) t = iblk m c (⟨31, by decide⟩ : Fin 134) t) (t : Fin cfg0.N) (d) : dat.before (⟨31, by decide⟩ : Fin 134) t d = iblk m c (⟨31, by decide⟩ : Fin 134) t :=
  (dat.before_in_eq_fetched (⟨31, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in32 {c : Dev nD} (dat : Dat τ (Elt F) Unit ℕ (UR sig nD τ) ℕ cfg0 c) (hA : dat.A (⟨32, by decide⟩ : Fin 134) = V m c (Pipeline.arrRef spec0 (⟨32, by decide⟩ : Fin 134)))
    (hafter : ∀ t, dat.after (⟨32, by decide⟩ : Fin 134) t = iblk m c (⟨32, by decide⟩ : Fin 134) t) (t : Fin cfg0.N) (d) : dat.before (⟨32, by decide⟩ : Fin 134) t d = iblk m c (⟨32, by decide⟩ : Fin 134) t :=
  (dat.before_in_eq_fetched (⟨32, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in33 {c : Dev nD} (dat : Dat τ (Elt F) Unit ℕ (UR sig nD τ) ℕ cfg0 c) (hA : dat.A (⟨33, by decide⟩ : Fin 134) = V m c (Pipeline.arrRef spec0 (⟨33, by decide⟩ : Fin 134)))
    (hafter : ∀ t, dat.after (⟨33, by decide⟩ : Fin 134) t = iblk m c (⟨33, by decide⟩ : Fin 134) t) (t : Fin cfg0.N) (d) : dat.before (⟨33, by decide⟩ : Fin 134) t d = iblk m c (⟨33, by decide⟩ : Fin 134) t :=
  (dat.before_in_eq_fetched (⟨33, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in34 {c : Dev nD} (dat : Dat τ (Elt F) Unit ℕ (UR sig nD τ) ℕ cfg0 c) (hA : dat.A (⟨34, by decide⟩ : Fin 134) = V m c (Pipeline.arrRef spec0 (⟨34, by decide⟩ : Fin 134)))
    (hafter : ∀ t, dat.after (⟨34, by decide⟩ : Fin 134) t = iblk m c (⟨34, by decide⟩ : Fin 134) t) (t : Fin cfg0.N) (d) : dat.before (⟨34, by decide⟩ : Fin 134) t d = iblk m c (⟨34, by decide⟩ : Fin 134) t :=
  (dat.before_in_eq_fetched (⟨34, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in35 {c : Dev nD} (dat : Dat τ (Elt F) Unit ℕ (UR sig nD τ) ℕ cfg0 c) (hA : dat.A (⟨35, by decide⟩ : Fin 134) = V m c (Pipeline.arrRef spec0 (⟨35, by decide⟩ : Fin 134)))
    (hafter : ∀ t, dat.after (⟨35, by decide⟩ : Fin 134) t = iblk m c (⟨35, by decide⟩ : Fin 134) t) (t : Fin cfg0.N) (d) : dat.before (⟨35, by decide⟩ : Fin 134) t d = iblk m c (⟨35, by decide⟩ : Fin 134) t :=
  (dat.before_in_eq_fetched (⟨35, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in36 {c : Dev nD} (dat : Dat τ (Elt F) Unit ℕ (UR sig nD τ) ℕ cfg0 c) (hA : dat.A (⟨36, by decide⟩ : Fin 134) = V m c (Pipeline.arrRef spec0 (⟨36, by decide⟩ : Fin 134)))
    (hafter : ∀ t, dat.after (⟨36, by decide⟩ : Fin 134) t = iblk m c (⟨36, by decide⟩ : Fin 134) t) (t : Fin cfg0.N) (d) : dat.before (⟨36, by decide⟩ : Fin 134) t d = iblk m c (⟨36, by decide⟩ : Fin 134) t :=
  (dat.before_in_eq_fetched (⟨36, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in37 {c : Dev nD} (dat : Dat τ (Elt F) Unit ℕ (UR sig nD τ) ℕ cfg0 c) (hA : dat.A (⟨37, by decide⟩ : Fin 134) = V m c (Pipeline.arrRef spec0 (⟨37, by decide⟩ : Fin 134)))
    (hafter : ∀ t, dat.after (⟨37, by decide⟩ : Fin 134) t = iblk m c (⟨37, by decide⟩ : Fin 134) t) (t : Fin cfg0.N) (d) : dat.before (⟨37, by decide⟩ : Fin 134) t d = iblk m c (⟨37, by decide⟩ : Fin 134) t :=
  (dat.before_in_eq_fetched (⟨37, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in38 {c : Dev nD} (dat : Dat τ (Elt F) Unit ℕ (UR sig nD τ) ℕ cfg0 c) (hA : dat.A (⟨38, by decide⟩ : Fin 134) = V m c (Pipeline.arrRef spec0 (⟨38, by decide⟩ : Fin 134)))
    (hafter : ∀ t, dat.after (⟨38, by decide⟩ : Fin 134) t = iblk m c (⟨38, by decide⟩ : Fin 134) t) (t : Fin cfg0.N) (d) : dat.before (⟨38, by decide⟩ : Fin 134) t d = iblk m c (⟨38, by decide⟩ : Fin 134) t :=
  (dat.before_in_eq_fetched (⟨38, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in39 {c : Dev nD} (dat : Dat τ (Elt F) Unit ℕ (UR sig nD τ) ℕ cfg0 c) (hA : dat.A (⟨39, by decide⟩ : Fin 134) = V m c (Pipeline.arrRef spec0 (⟨39, by decide⟩ : Fin 134)))
    (hafter : ∀ t, dat.after (⟨39, by decide⟩ : Fin 134) t = iblk m c (⟨39, by decide⟩ : Fin 134) t) (t : Fin cfg0.N) (d) : dat.before (⟨39, by decide⟩ : Fin 134) t d = iblk m c (⟨39, by decide⟩ : Fin 134) t :=
  (dat.before_in_eq_fetched (⟨39, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)

end Cert.AdamSmallIdeal.Body

end
-- ==== Proof.AdamSmall.Win1.lean ====
module

public import proofs.«01_k».proof.Proof.AdamSmall.Stage
public import proofs.«01_k».proof.Proof.AdamSmall.Before0
public import proofs.«01_k».proof.Proof.AdamSmall.Before1
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.AdamSmallIdeal.Body

open Idealize.ShloMosaic Idealize.ShloMosaic.TcCoe Idealize.ShloMosaic.Tactic
open Cert.AdamSmallIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep)

theorem pre19 (c : Dev nD) (t : Fin cfg0.N) : pre m c t (⟨19, by decide⟩ : Fin 134) ⊢ owns (c : Thread nD τ) (s19 t) fullShare (b19 m c t) :=
  exists_elim fun d => by rw [before_in19 m (dats m 0 c) (A_eq m c _) (after19 m c) t d]; exact .rfl
theorem post19 (c : Dev nD) (t : Fin cfg0.N) : owns (c : Thread nD τ) (s19 t) fullShare (b19 m c t) ⊢ post m c t (⟨19, by decide⟩ : Fin 134) := by
  unfold post; rw [after19]; exact .rfl
theorem pre20 (c : Dev nD) (t : Fin cfg0.N) : pre m c t (⟨20, by decide⟩ : Fin 134) ⊢ owns (c : Thread nD τ) (s20 t) fullShare (b20 m c t) :=
  exists_elim fun d => by rw [before_in20 m (dats m 0 c) (A_eq m c _) (after20 m c) t d]; exact .rfl
theorem post20 (c : Dev nD) (t : Fin cfg0.N) : owns (c : Thread nD τ) (s20 t) fullShare (b20 m c t) ⊢ post m c t (⟨20, by decide⟩ : Fin 134) := by
  unfold post; rw [after20]; exact .rfl
theorem pre21 (c : Dev nD) (t : Fin cfg0.N) : pre m c t (⟨21, by decide⟩ : Fin 134) ⊢ owns (c : Thread nD τ) (s21 t) fullShare (b21 m c t) :=
  exists_elim fun d => by rw [before_in21 m (dats m 0 c) (A_eq m c _) (after21 m c) t d]; exact .rfl
theorem post21 (c : Dev nD) (t : Fin cfg0.N) : owns (c : Thread nD τ) (s21 t) fullShare (b21 m c t) ⊢ post m c t (⟨21, by decide⟩ : Fin 134) := by
  unfold post; rw [after21]; exact .rfl
theorem pre22 (c : Dev nD) (t : Fin cfg0.N) : pre m c t (⟨22, by decide⟩ : Fin 134) ⊢ owns (c : Thread nD τ) (s22 t) fullShare (b22 m c t) :=
  exists_elim fun d => by rw [before_in22 m (dats m 0 c) (A_eq m c _) (after22 m c) t d]; exact .rfl
theorem post22 (c : Dev nD) (t : Fin cfg0.N) : owns (c : Thread nD τ) (s22 t) fullShare (b22 m c t) ⊢ post m c t (⟨22, by decide⟩ : Fin 134) := by
  unfold post; rw [after22]; exact .rfl
theorem pre23 (c : Dev nD) (t : Fin cfg0.N) : pre m c t (⟨23, by decide⟩ : Fin 134) ⊢ owns (c : Thread nD τ) (s23 t) fullShare (b23 m c t) :=
  exists_elim fun d => by rw [before_in23 m (dats m 0 c) (A_eq m c _) (after23 m c) t d]; exact .rfl
theorem post23 (c : Dev nD) (t : Fin cfg0.N) : owns (c : Thread nD τ) (s23 t) fullShare (b23 m c t) ⊢ post m c t (⟨23, by decide⟩ : Fin 134) := by
  unfold post; rw [after23]; exact .rfl
theorem pre24 (c : Dev nD) (t : Fin cfg0.N) : pre m c t (⟨24, by decide⟩ : Fin 134) ⊢ owns (c : Thread nD τ) (s24 t) fullShare (b24 m c t) :=
  exists_elim fun d => by rw [before_in24 m (dats m 0 c) (A_eq m c _) (after24 m c) t d]; exact .rfl
theorem post24 (c : Dev nD) (t : Fin cfg0.N) : owns (c : Thread nD τ) (s24 t) fullShare (b24 m c t) ⊢ post m c t (⟨24, by decide⟩ : Fin 134) := by
  unfold post; rw [after24]; exact .rfl
theorem pre25 (c : Dev nD) (t : Fin cfg0.N) : pre m c t (⟨25, by decide⟩ : Fin 134) ⊢ owns (c : Thread nD τ) (s25 t) fullShare (b25 m c t) :=
  exists_elim fun d => by rw [before_in25 m (dats m 0 c) (A_eq m c _) (after25 m c) t d]; exact .rfl
theorem post25 (c : Dev nD) (t : Fin cfg0.N) : owns (c : Thread nD τ) (s25 t) fullShare (b25 m c t) ⊢ post m c t (⟨25, by decide⟩ : Fin 134) := by
  unfold post; rw [after25]; exact .rfl
theorem pre26 (c : Dev nD) (t : Fin cfg0.N) : pre m c t (⟨26, by decide⟩ : Fin 134) ⊢ owns (c : Thread nD τ) (s26 t) fullShare (b26 m c t) :=
  exists_elim fun d => by rw [before_in26 m (dats m 0 c) (A_eq m c _) (after26 m c) t d]; exact .rfl
theorem post26 (c : Dev nD) (t : Fin cfg0.N) : owns (c : Thread nD τ) (s26 t) fullShare (b26 m c t) ⊢ post m c t (⟨26, by decide⟩ : Fin 134) := by
  unfold post; rw [after26]; exact .rfl
theorem pre27 (c : Dev nD) (t : Fin cfg0.N) : pre m c t (⟨27, by decide⟩ : Fin 134) ⊢ owns (c : Thread nD τ) (s27 t) fullShare (b27 m c t) :=
  exists_elim fun d => by rw [before_in27 m (dats m 0 c) (A_eq m c _) (after27 m c) t d]; exact .rfl
theorem post27 (c : Dev nD) (t : Fin cfg0.N) : owns (c : Thread nD τ) (s27 t) fullShare (b27 m c t) ⊢ post m c t (⟨27, by decide⟩ : Fin 134) := by
  unfold post; rw [after27]; exact .rfl
theorem pre28 (c : Dev nD) (t : Fin cfg0.N) : pre m c t (⟨28, by decide⟩ : Fin 134) ⊢ owns (c : Thread nD τ) (s28 t) fullShare (b28 m c t) :=
  exists_elim fun d => by rw [before_in28 m (dats m 0 c) (A_eq m c _) (after28 m c) t d]; exact .rfl
theorem post28 (c : Dev nD) (t : Fin cfg0.N) : owns (c : Thread nD τ) (s28 t) fullShare (b28 m c t) ⊢ post m c t (⟨28, by decide⟩ : Fin 134) := by
  unfold post; rw [after28]; exact .rfl
theorem pre29 (c : Dev nD) (t : Fin cfg0.N) : pre m c t (⟨29, by decide⟩ : Fin 134) ⊢ owns (c : Thread nD τ) (s29 t) fullShare (b29 m c t) :=
  exists_elim fun d => by rw [before_in29 m (dats m 0 c) (A_eq m c _) (after29 m c) t d]; exact .rfl
theorem post29 (c : Dev nD) (t : Fin cfg0.N) : owns (c : Thread nD τ) (s29 t) fullShare (b29 m c t) ⊢ post m c t (⟨29, by decide⟩ : Fin 134) := by
  unfold post; rw [after29]; exact .rfl
theorem pre30 (c : Dev nD) (t : Fin cfg0.N) : pre m c t (⟨30, by decide⟩ : Fin 134) ⊢ owns (c : Thread nD τ) (s30 t) fullShare (b30 m c t) :=
  exists_elim fun d => by rw [before_in30 m (dats m 0 c) (A_eq m c _) (after30 m c) t d]; exact .rfl
theorem post30 (c : Dev nD) (t : Fin cfg0.N) : owns (c : Thread nD τ) (s30 t) fullShare (b30 m c t) ⊢ post m c t (⟨30, by decide⟩ : Fin 134) := by
  unfold post; rw [after30]; exact .rfl
theorem pre31 (c : Dev nD) (t : Fin cfg0.N) : pre m c t (⟨31, by decide⟩ : Fin 134) ⊢ owns (c : Thread nD τ) (s31 t) fullShare (b31 m c t) :=
  exists_elim fun d => by rw [before_in31 m (dats m 0 c) (A_eq m c _) (after31 m c) t d]; exact .rfl
theorem post31 (c : Dev nD) (t : Fin cfg0.N) : owns (c : Thread nD τ) (s31 t) fullShare (b31 m c t) ⊢ post m c t (⟨31, by decide⟩ : Fin 134) := by
  unfold post; rw [after31]; exact .rfl
theorem pre32 (c : Dev nD) (t : Fin cfg0.N) : pre m c t (⟨32, by decide⟩ : Fin 134) ⊢ owns (c : Thread nD τ) (s32 t) fullShare (b32 m c t) :=
  exists_elim fun d => by rw [before_in32 m (dats m 0 c) (A_eq m c _) (after32 m c) t d]; exact .rfl
theorem post32 (c : Dev nD) (t : Fin cfg0.N) : owns (c : Thread nD τ) (s32 t) fullShare (b32 m c t) ⊢ post m c t (⟨32, by decide⟩ : Fin 134) := by
  unfold post; rw [after32]; exact .rfl
theorem pre33 (c : Dev nD) (t : Fin cfg0.N) : pre m c t (⟨33, by decide⟩ : Fin 134) ⊢ owns (c : Thread nD τ) (s33 t) fullShare (b33 m c t) :=
  exists_elim fun d => by rw [before_in33 m (dats m 0 c) (A_eq m c _) (after33 m c) t d]; exact .rfl
theorem post33 (c : Dev nD) (t : Fin cfg0.N) : owns (c : Thread nD τ) (s33 t) fullShare (b33 m c t) ⊢ post m c t (⟨33, by decide⟩ : Fin 134) := by
  unfold post; rw [after33]; exact .rfl
theorem pre34 (c : Dev nD) (t : Fin cfg0.N) : pre m c t (⟨34, by decide⟩ : Fin 134) ⊢ owns (c : Thread nD τ) (s34 t) fullShare (b34 m c t) :=
  exists_elim fun d => by rw [before_in34 m (dats m 0 c) (A_eq m c _) (after34 m c) t d]; exact .rfl
theorem post34 (c : Dev nD) (t : Fin cfg0.N) : owns (c : Thread nD τ) (s34 t) fullShare (b34 m c t) ⊢ post m c t (⟨34, by decide⟩ : Fin 134) := by
  unfold post; rw [after34]; exact .rfl
theorem pre35 (c : Dev nD) (t : Fin cfg0.N) : pre m c t (⟨35, by decide⟩ : Fin 134) ⊢ owns (c : Thread nD τ) (s35 t) fullShare (b35 m c t) :=
  exists_elim fun d => by rw [before_in35 m (dats m 0 c) (A_eq m c _) (after35 m c) t d]; exact .rfl
theorem post35 (c : Dev nD) (t : Fin cfg0.N) : owns (c : Thread nD τ) (s35 t) fullShare (b35 m c t) ⊢ post m c t (⟨35, by decide⟩ : Fin 134) := by
  unfold post; rw [after35]; exact .rfl
theorem pre36 (c : Dev nD) (t : Fin cfg0.N) : pre m c t (⟨36, by decide⟩ : Fin 134) ⊢ owns (c : Thread nD τ) (s36 t) fullShare (b36 m c t) :=
  exists_elim fun d => by rw [before_in36 m (dats m 0 c) (A_eq m c _) (after36 m c) t d]; exact .rfl
theorem post36 (c : Dev nD) (t : Fin cfg0.N) : owns (c : Thread nD τ) (s36 t) fullShare (b36 m c t) ⊢ post m c t (⟨36, by decide⟩ : Fin 134) := by
  unfold post; rw [after36]; exact .rfl
theorem pre37 (c : Dev nD) (t : Fin cfg0.N) : pre m c t (⟨37, by decide⟩ : Fin 134) ⊢ owns (c : Thread nD τ) (s37 t) fullShare (b37 m c t) :=
  exists_elim fun d => by rw [before_in37 m (dats m 0 c) (A_eq m c _) (after37 m c) t d]; exact .rfl
theorem post37 (c : Dev nD) (t : Fin cfg0.N) : owns (c : Thread nD τ) (s37 t) fullShare (b37 m c t) ⊢ post m c t (⟨37, by decide⟩ : Fin 134) := by
  unfold post; rw [after37]; exact .rfl
theorem pre38 (c : Dev nD) (t : Fin cfg0.N) : pre m c t (⟨38, by decide⟩ : Fin 134) ⊢ owns (c : Thread nD τ) (s38 t) fullShare (b38 m c t) :=
  exists_elim fun d => by rw [before_in38 m (dats m 0 c) (A_eq m c _) (after38 m c) t d]; exact .rfl
theorem post38 (c : Dev nD) (t : Fin cfg0.N) : owns (c : Thread nD τ) (s38 t) fullShare (b38 m c t) ⊢ post m c t (⟨38, by decide⟩ : Fin 134) := by
  unfold post; rw [after38]; exact .rfl
theorem pre39 (c : Dev nD) (t : Fin cfg0.N) : pre m c t (⟨39, by decide⟩ : Fin 134) ⊢ owns (c : Thread nD τ) (s39 t) fullShare (b39 m c t) :=
  exists_elim fun d => by rw [before_in39 m (dats m 0 c) (A_eq m c _) (after39 m c) t d]; exact .rfl
theorem post39 (c : Dev nD) (t : Fin cfg0.N) : owns (c : Thread nD τ) (s39 t) fullShare (b39 m c t) ⊢ post m c t (⟨39, by decide⟩ : Fin 134) := by
  unfold post; rw [after39]; exact .rfl
theorem pre_ins4 (c : Dev nD) (t : Fin cfg0.N) : bigSepL [(⟨19, by decide⟩ : Fin 134), (⟨20, by decide⟩ : Fin 134), (⟨21, by decide⟩ : Fin 134)] (pre m c t) ⊢ ins3 c (s19 t) (s20 t) (s21 t) (b19 m c t) (b20 m c t) (b21 m c t) :=
  BIClass.sep_mono (pre19 m c t) (BIClass.sep_mono (pre20 m c t) (pre21 m c t))
theorem post_ins4 (c : Dev nD) (t : Fin cfg0.N) : ins3 c (s19 t) (s20 t) (s21 t) (b19 m c t) (b20 m c t) (b21 m c t) ⊢ bigSepL [(⟨19, by decide⟩ : Fin 134), (⟨20, by decide⟩ : Fin 134), (⟨21, by decide⟩ : Fin 134)] (post m c t) :=
  BIClass.sep_mono (post19 m c t) (BIClass.sep_mono (post20 m c t) (post21 m c t))
theorem pre_ins5 (c : Dev nD) (t : Fin cfg0.N) : bigSepL [(⟨22, by decide⟩ : Fin 134), (⟨23, by decide⟩ : Fin 134), (⟨24, by decide⟩ : Fin 134)] (pre m c t) ⊢ ins3 c (s22 t) (s23 t) (s24 t) (b22 m c t) (b23 m c t) (b24 m c t) :=
  BIClass.sep_mono (pre22 m c t) (BIClass.sep_mono (pre23 m c t) (pre24 m c t))
theorem post_ins5 (c : Dev nD) (t : Fin cfg0.N) : ins3 c (s22 t) (s23 t) (s24 t) (b22 m c t) (b23 m c t) (b24 m c t) ⊢ bigSepL [(⟨22, by decide⟩ : Fin 134), (⟨23, by decide⟩ : Fin 134), (⟨24, by decide⟩ : Fin 134)] (post m c t) :=
  BIClass.sep_mono (post22 m c t) (BIClass.sep_mono (post23 m c t) (post24 m c t))
theorem pre_ins6 (c : Dev nD) (t : Fin cfg0.N) : bigSepL [(⟨25, by decide⟩ : Fin 134), (⟨26, by decide⟩ : Fin 134), (⟨27, by decide⟩ : Fin 134)] (pre m c t) ⊢ ins3 c (s25 t) (s26 t) (s27 t) (b25 m c t) (b26 m c t) (b27 m c t) :=
  BIClass.sep_mono (pre25 m c t) (BIClass.sep_mono (pre26 m c t) (pre27 m c t))
theorem post_ins6 (c : Dev nD) (t : Fin cfg0.N) : ins3 c (s25 t) (s26 t) (s27 t) (b25 m c t) (b26 m c t) (b27 m c t) ⊢ bigSepL [(⟨25, by decide⟩ : Fin 134), (⟨26, by decide⟩ : Fin 134), (⟨27, by decide⟩ : Fin 134)] (post m c t) :=
  BIClass.sep_mono (post25 m c t) (BIClass.sep_mono (post26 m c t) (post27 m c t))
theorem pre_ins7 (c : Dev nD) (t : Fin cfg0.N) : bigSepL [(⟨28, by decide⟩ : Fin 134), (⟨29, by decide⟩ : Fin 134), (⟨30, by decide⟩ : Fin 134)] (pre m c t) ⊢ ins3 c (s28 t) (s29 t) (s30 t) (b28 m c t) (b29 m c t) (b30 m c t) :=
  BIClass.sep_mono (pre28 m c t) (BIClass.sep_mono (pre29 m c t) (pre30 m c t))
theorem post_ins7 (c : Dev nD) (t : Fin cfg0.N) : ins3 c (s28 t) (s29 t) (s30 t) (b28 m c t) (b29 m c t) (b30 m c t) ⊢ bigSepL [(⟨28, by decide⟩ : Fin 134), (⟨29, by decide⟩ : Fin 134), (⟨30, by decide⟩ : Fin 134)] (post m c t) :=
  BIClass.sep_mono (post28 m c t) (BIClass.sep_mono (post29 m c t) (post30 m c t))
theorem pre_ins8 (c : Dev nD) (t : Fin cfg0.N) : bigSepL [(⟨31, by decide⟩ : Fin 134), (⟨32, by decide⟩ : Fin 134), (⟨33, by decide⟩ : Fin 134)] (pre m c t) ⊢ ins3 c (s31 t) (s32 t) (s33 t) (b31 m c t) (b32 m c t) (b33 m c t) :=
  BIClass.sep_mono (pre31 m c t) (BIClass.sep_mono (pre32 m c t) (pre33 m c t))
theorem post_ins8 (c : Dev nD) (t : Fin cfg0.N) : ins3 c (s31 t) (s32 t) (s33 t) (b31 m c t) (b32 m c t) (b33 m c t) ⊢ bigSepL [(⟨31, by decide⟩ : Fin 134), (⟨32, by decide⟩ : Fin 134), (⟨33, by decide⟩ : Fin 134)] (post m c t) :=
  BIClass.sep_mono (post31 m c t) (BIClass.sep_mono (post32 m c t) (post33 m c t))
theorem pre_ins9 (c : Dev nD) (t : Fin cfg0.N) : bigSepL [(⟨34, by decide⟩ : Fin 134), (⟨35, by decide⟩ : Fin 134), (⟨36, by decide⟩ : Fin 134)] (pre m c t) ⊢ ins3 c (s34 t) (s35 t) (s36 t) (b34 m c t) (b35 m c t) (b36 m c t) :=
  BIClass.sep_mono (pre34 m c t) (BIClass.sep_mono (pre35 m c t) (pre36 m c t))
theorem post_ins9 (c : Dev nD) (t : Fin cfg0.N) : ins3 c (s34 t) (s35 t) (s36 t) (b34 m c t) (b35 m c t) (b36 m c t) ⊢ bigSepL [(⟨34, by decide⟩ : Fin 134), (⟨35, by decide⟩ : Fin 134), (⟨36, by decide⟩ : Fin 134)] (post m c t) :=
  BIClass.sep_mono (post34 m c t) (BIClass.sep_mono (post35 m c t) (post36 m c t))
theorem pre_ins10 (c : Dev nD) (t : Fin cfg0.N) : bigSepL [(⟨37, by decide⟩ : Fin 134), (⟨38, by decide⟩ : Fin 134), (⟨39, by decide⟩ : Fin 134)] (pre m c t) ⊢ ins3 c (s37 t) (s38 t) (s39 t) (b37 m c t) (b38 m c t) (b39 m c t) :=
  BIClass.sep_mono (pre37 m c t) (BIClass.sep_mono (pre38 m c t) (pre39 m c t))
theorem post_ins10 (c : Dev nD) (t : Fin cfg0.N) : ins3 c (s37 t) (s38 t) (s39 t) (b37 m c t) (b38 m c t) (b39 m c t) ⊢ bigSepL [(⟨37, by decide⟩ : Fin 134), (⟨38, by decide⟩ : Fin 134), (⟨39, by decide⟩ : Fin 134)] (post m c t) :=
  BIClass.sep_mono (post37 m c t) (BIClass.sep_mono (post38 m c t) (post39 m c t))

end Cert.AdamSmallIdeal.Body

end
-- ==== Proof.AdamSmall.Before2.lean ====
module

public import proofs.«01_k».proof.Proof.AdamSmall.Kit
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.AdamSmallIdeal.Body

open Idealize.ShloMosaic Idealize.ShloMosaic.TcCoe Idealize.ShloMosaic.Tactic
open Cert.AdamSmallIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! An input's buffer holds its block whenever the body runs. -/

theorem before_in40 {c : Dev nD} (dat : Dat τ (Elt F) Unit ℕ (UR sig nD τ) ℕ cfg0 c) (hA : dat.A (⟨40, by decide⟩ : Fin 134) = V m c (Pipeline.arrRef spec0 (⟨40, by decide⟩ : Fin 134)))
    (hafter : ∀ t, dat.after (⟨40, by decide⟩ : Fin 134) t = iblk m c (⟨40, by decide⟩ : Fin 134) t) (t : Fin cfg0.N) (d) : dat.before (⟨40, by decide⟩ : Fin 134) t d = iblk m c (⟨40, by decide⟩ : Fin 134) t :=
  (dat.before_in_eq_fetched (⟨40, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in41 {c : Dev nD} (dat : Dat τ (Elt F) Unit ℕ (UR sig nD τ) ℕ cfg0 c) (hA : dat.A (⟨41, by decide⟩ : Fin 134) = V m c (Pipeline.arrRef spec0 (⟨41, by decide⟩ : Fin 134)))
    (hafter : ∀ t, dat.after (⟨41, by decide⟩ : Fin 134) t = iblk m c (⟨41, by decide⟩ : Fin 134) t) (t : Fin cfg0.N) (d) : dat.before (⟨41, by decide⟩ : Fin 134) t d = iblk m c (⟨41, by decide⟩ : Fin 134) t :=
  (dat.before_in_eq_fetched (⟨41, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in42 {c : Dev nD} (dat : Dat τ (Elt F) Unit ℕ (UR sig nD τ) ℕ cfg0 c) (hA : dat.A (⟨42, by decide⟩ : Fin 134) = V m c (Pipeline.arrRef spec0 (⟨42, by decide⟩ : Fin 134)))
    (hafter : ∀ t, dat.after (⟨42, by decide⟩ : Fin 134) t = iblk m c (⟨42, by decide⟩ : Fin 134) t) (t : Fin cfg0.N) (d) : dat.before (⟨42, by decide⟩ : Fin 134) t d = iblk m c (⟨42, by decide⟩ : Fin 134) t :=
  (dat.before_in_eq_fetched (⟨42, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in43 {c : Dev nD} (dat : Dat τ (Elt F) Unit ℕ (UR sig nD τ) ℕ cfg0 c) (hA : dat.A (⟨43, by decide⟩ : Fin 134) = V m c (Pipeline.arrRef spec0 (⟨43, by decide⟩ : Fin 134)))
    (hafter : ∀ t, dat.after (⟨43, by decide⟩ : Fin 134) t = iblk m c (⟨43, by decide⟩ : Fin 134) t) (t : Fin cfg0.N) (d) : dat.before (⟨43, by decide⟩ : Fin 134) t d = iblk m c (⟨43, by decide⟩ : Fin 134) t :=
  (dat.before_in_eq_fetched (⟨43, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in44 {c : Dev nD} (dat : Dat τ (Elt F) Unit ℕ (UR sig nD τ) ℕ cfg0 c) (hA : dat.A (⟨44, by decide⟩ : Fin 134) = V m c (Pipeline.arrRef spec0 (⟨44, by decide⟩ : Fin 134)))
    (hafter : ∀ t, dat.after (⟨44, by decide⟩ : Fin 134) t = iblk m c (⟨44, by decide⟩ : Fin 134) t) (t : Fin cfg0.N) (d) : dat.before (⟨44, by decide⟩ : Fin 134) t d = iblk m c (⟨44, by decide⟩ : Fin 134) t :=
  (dat.before_in_eq_fetched (⟨44, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in45 {c : Dev nD} (dat : Dat τ (Elt F) Unit ℕ (UR sig nD τ) ℕ cfg0 c) (hA : dat.A (⟨45, by decide⟩ : Fin 134) = V m c (Pipeline.arrRef spec0 (⟨45, by decide⟩ : Fin 134)))
    (hafter : ∀ t, dat.after (⟨45, by decide⟩ : Fin 134) t = iblk m c (⟨45, by decide⟩ : Fin 134) t) (t : Fin cfg0.N) (d) : dat.before (⟨45, by decide⟩ : Fin 134) t d = iblk m c (⟨45, by decide⟩ : Fin 134) t :=
  (dat.before_in_eq_fetched (⟨45, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in46 {c : Dev nD} (dat : Dat τ (Elt F) Unit ℕ (UR sig nD τ) ℕ cfg0 c) (hA : dat.A (⟨46, by decide⟩ : Fin 134) = V m c (Pipeline.arrRef spec0 (⟨46, by decide⟩ : Fin 134)))
    (hafter : ∀ t, dat.after (⟨46, by decide⟩ : Fin 134) t = iblk m c (⟨46, by decide⟩ : Fin 134) t) (t : Fin cfg0.N) (d) : dat.before (⟨46, by decide⟩ : Fin 134) t d = iblk m c (⟨46, by decide⟩ : Fin 134) t :=
  (dat.before_in_eq_fetched (⟨46, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in47 {c : Dev nD} (dat : Dat τ (Elt F) Unit ℕ (UR sig nD τ) ℕ cfg0 c) (hA : dat.A (⟨47, by decide⟩ : Fin 134) = V m c (Pipeline.arrRef spec0 (⟨47, by decide⟩ : Fin 134)))
    (hafter : ∀ t, dat.after (⟨47, by decide⟩ : Fin 134) t = iblk m c (⟨47, by decide⟩ : Fin 134) t) (t : Fin cfg0.N) (d) : dat.before (⟨47, by decide⟩ : Fin 134) t d = iblk m c (⟨47, by decide⟩ : Fin 134) t :=
  (dat.before_in_eq_fetched (⟨47, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in48 {c : Dev nD} (dat : Dat τ (Elt F) Unit ℕ (UR sig nD τ) ℕ cfg0 c) (hA : dat.A (⟨48, by decide⟩ : Fin 134) = V m c (Pipeline.arrRef spec0 (⟨48, by decide⟩ : Fin 134)))
    (hafter : ∀ t, dat.after (⟨48, by decide⟩ : Fin 134) t = iblk m c (⟨48, by decide⟩ : Fin 134) t) (t : Fin cfg0.N) (d) : dat.before (⟨48, by decide⟩ : Fin 134) t d = iblk m c (⟨48, by decide⟩ : Fin 134) t :=
  (dat.before_in_eq_fetched (⟨48, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in49 {c : Dev nD} (dat : Dat τ (Elt F) Unit ℕ (UR sig nD τ) ℕ cfg0 c) (hA : dat.A (⟨49, by decide⟩ : Fin 134) = V m c (Pipeline.arrRef spec0 (⟨49, by decide⟩ : Fin 134)))
    (hafter : ∀ t, dat.after (⟨49, by decide⟩ : Fin 134) t = iblk m c (⟨49, by decide⟩ : Fin 134) t) (t : Fin cfg0.N) (d) : dat.before (⟨49, by decide⟩ : Fin 134) t d = iblk m c (⟨49, by decide⟩ : Fin 134) t :=
  (dat.before_in_eq_fetched (⟨49, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in50 {c : Dev nD} (dat : Dat τ (Elt F) Unit ℕ (UR sig nD τ) ℕ cfg0 c) (hA : dat.A (⟨50, by decide⟩ : Fin 134) = V m c (Pipeline.arrRef spec0 (⟨50, by decide⟩ : Fin 134)))
    (hafter : ∀ t, dat.after (⟨50, by decide⟩ : Fin 134) t = iblk m c (⟨50, by decide⟩ : Fin 134) t) (t : Fin cfg0.N) (d) : dat.before (⟨50, by decide⟩ : Fin 134) t d = iblk m c (⟨50, by decide⟩ : Fin 134) t :=
  (dat.before_in_eq_fetched (⟨50, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in51 {c : Dev nD} (dat : Dat τ (Elt F) Unit ℕ (UR sig nD τ) ℕ cfg0 c) (hA : dat.A (⟨51, by decide⟩ : Fin 134) = V m c (Pipeline.arrRef spec0 (⟨51, by decide⟩ : Fin 134)))
    (hafter : ∀ t, dat.after (⟨51, by decide⟩ : Fin 134) t = iblk m c (⟨51, by decide⟩ : Fin 134) t) (t : Fin cfg0.N) (d) : dat.before (⟨51, by decide⟩ : Fin 134) t d = iblk m c (⟨51, by decide⟩ : Fin 134) t :=
  (dat.before_in_eq_fetched (⟨51, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in52 {c : Dev nD} (dat : Dat τ (Elt F) Unit ℕ (UR sig nD τ) ℕ cfg0 c) (hA : dat.A (⟨52, by decide⟩ : Fin 134) = V m c (Pipeline.arrRef spec0 (⟨52, by decide⟩ : Fin 134)))
    (hafter : ∀ t, dat.after (⟨52, by decide⟩ : Fin 134) t = iblk m c (⟨52, by decide⟩ : Fin 134) t) (t : Fin cfg0.N) (d) : dat.before (⟨52, by decide⟩ : Fin 134) t d = iblk m c (⟨52, by decide⟩ : Fin 134) t :=
  (dat.before_in_eq_fetched (⟨52, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in53 {c : Dev nD} (dat : Dat τ (Elt F) Unit ℕ (UR sig nD τ) ℕ cfg0 c) (hA : dat.A (⟨53, by decide⟩ : Fin 134) = V m c (Pipeline.arrRef spec0 (⟨53, by decide⟩ : Fin 134)))
    (hafter : ∀ t, dat.after (⟨53, by decide⟩ : Fin 134) t = iblk m c (⟨53, by decide⟩ : Fin 134) t) (t : Fin cfg0.N) (d) : dat.before (⟨53, by decide⟩ : Fin 134) t d = iblk m c (⟨53, by decide⟩ : Fin 134) t :=
  (dat.before_in_eq_fetched (⟨53, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in54 {c : Dev nD} (dat : Dat τ (Elt F) Unit ℕ (UR sig nD τ) ℕ cfg0 c) (hA : dat.A (⟨54, by decide⟩ : Fin 134) = V m c (Pipeline.arrRef spec0 (⟨54, by decide⟩ : Fin 134)))
    (hafter : ∀ t, dat.after (⟨54, by decide⟩ : Fin 134) t = iblk m c (⟨54, by decide⟩ : Fin 134) t) (t : Fin cfg0.N) (d) : dat.before (⟨54, by decide⟩ : Fin 134) t d = iblk m c (⟨54, by decide⟩ : Fin 134) t :=
  (dat.before_in_eq_fetched (⟨54, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in55 {c : Dev nD} (dat : Dat τ (Elt F) Unit ℕ (UR sig nD τ) ℕ cfg0 c) (hA : dat.A (⟨55, by decide⟩ : Fin 134) = V m c (Pipeline.arrRef spec0 (⟨55, by decide⟩ : Fin 134)))
    (hafter : ∀ t, dat.after (⟨55, by decide⟩ : Fin 134) t = iblk m c (⟨55, by decide⟩ : Fin 134) t) (t : Fin cfg0.N) (d) : dat.before (⟨55, by decide⟩ : Fin 134) t d = iblk m c (⟨55, by decide⟩ : Fin 134) t :=
  (dat.before_in_eq_fetched (⟨55, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in56 {c : Dev nD} (dat : Dat τ (Elt F) Unit ℕ (UR sig nD τ) ℕ cfg0 c) (hA : dat.A (⟨56, by decide⟩ : Fin 134) = V m c (Pipeline.arrRef spec0 (⟨56, by decide⟩ : Fin 134)))
    (hafter : ∀ t, dat.after (⟨56, by decide⟩ : Fin 134) t = iblk m c (⟨56, by decide⟩ : Fin 134) t) (t : Fin cfg0.N) (d) : dat.before (⟨56, by decide⟩ : Fin 134) t d = iblk m c (⟨56, by decide⟩ : Fin 134) t :=
  (dat.before_in_eq_fetched (⟨56, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in57 {c : Dev nD} (dat : Dat τ (Elt F) Unit ℕ (UR sig nD τ) ℕ cfg0 c) (hA : dat.A (⟨57, by decide⟩ : Fin 134) = V m c (Pipeline.arrRef spec0 (⟨57, by decide⟩ : Fin 134)))
    (hafter : ∀ t, dat.after (⟨57, by decide⟩ : Fin 134) t = iblk m c (⟨57, by decide⟩ : Fin 134) t) (t : Fin cfg0.N) (d) : dat.before (⟨57, by decide⟩ : Fin 134) t d = iblk m c (⟨57, by decide⟩ : Fin 134) t :=
  (dat.before_in_eq_fetched (⟨57, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in58 {c : Dev nD} (dat : Dat τ (Elt F) Unit ℕ (UR sig nD τ) ℕ cfg0 c) (hA : dat.A (⟨58, by decide⟩ : Fin 134) = V m c (Pipeline.arrRef spec0 (⟨58, by decide⟩ : Fin 134)))
    (hafter : ∀ t, dat.after (⟨58, by decide⟩ : Fin 134) t = iblk m c (⟨58, by decide⟩ : Fin 134) t) (t : Fin cfg0.N) (d) : dat.before (⟨58, by decide⟩ : Fin 134) t d = iblk m c (⟨58, by decide⟩ : Fin 134) t :=
  (dat.before_in_eq_fetched (⟨58, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in59 {c : Dev nD} (dat : Dat τ (Elt F) Unit ℕ (UR sig nD τ) ℕ cfg0 c) (hA : dat.A (⟨59, by decide⟩ : Fin 134) = V m c (Pipeline.arrRef spec0 (⟨59, by decide⟩ : Fin 134)))
    (hafter : ∀ t, dat.after (⟨59, by decide⟩ : Fin 134) t = iblk m c (⟨59, by decide⟩ : Fin 134) t) (t : Fin cfg0.N) (d) : dat.before (⟨59, by decide⟩ : Fin 134) t d = iblk m c (⟨59, by decide⟩ : Fin 134) t :=
  (dat.before_in_eq_fetched (⟨59, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)
theorem before_in60 {c : Dev nD} (dat : Dat τ (Elt F) Unit ℕ (UR sig nD τ) ℕ cfg0 c) (hA : dat.A (⟨60, by decide⟩ : Fin 134) = V m c (Pipeline.arrRef spec0 (⟨60, by decide⟩ : Fin 134)))
    (hafter : ∀ t, dat.after (⟨60, by decide⟩ : Fin 134) t = iblk m c (⟨60, by decide⟩ : Fin 134) t) (t : Fin cfg0.N) (d) : dat.before (⟨60, by decide⟩ : Fin 134) t d = iblk m c (⟨60, by decide⟩ : Fin 134) t :=
  (dat.before_in_eq_fetched (⟨60, by decide⟩ : Fin 134) rfl (fun _ => rfl) (fun _ _ _ => rfl) (fun t => by rw [hafter]; unfold Dat.blockOf iblk; rw [hA]; try rfl) t d).trans
    (by unfold Dat.fetched Dat.blockOf iblk; rw [hA]; try rfl)

end Cert.AdamSmallIdeal.Body

end
-- ==== Proof.AdamSmall.Win2.lean ====
module

public import proofs.«01_k».proof.Proof.AdamSmall.Stage
public import proofs.«01_k».proof.Proof.AdamSmall.Before1
public import proofs.«01_k».proof.Proof.AdamSmall.Before2
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.AdamSmallIdeal.Body

open Idealize.ShloMosaic Idealize.ShloMosaic.TcCoe Idealize.ShloMosaic.Tactic
open Cert.AdamSmallIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep)

theorem pre40 (c : Dev nD) (t : Fin cfg0.N) : pre m c t (⟨40, by decide⟩ : Fin 134) ⊢ owns (c : Thread nD τ) (s40 t) fullShare (b40 m c t) :=
  exists_elim fun d => by rw [before_in40 m (dats m 0 c) (A_eq m c _) (after40 m c) t d]; exact .rfl
theorem post40 (c : Dev nD) (t : Fin cfg0.N) : owns (c : Thread nD τ) (s40 t) fullShare (b40 m c t) ⊢ post m c t (⟨40, by decide⟩ : Fin 134) := by
  unfold post; rw [after40]; exact .rfl
theorem pre41 (c : Dev nD) (t : Fin cfg0.N) : pre m c t (⟨41, by decide⟩ : Fin 134) ⊢ owns (c : Thread nD τ) (s41 t) fullShare (b41 m c t) :=
  exists_elim fun d => by rw [before_in41 m (dats m 0 c) (A_eq m c _) (after41 m c) t d]; exact .rfl
theorem post41 (c : Dev nD) (t : Fin cfg0.N) : owns (c : Thread nD τ) (s41 t) fullShare (b41 m c t) ⊢ post m c t (⟨41, by decide⟩ : Fin 134) := by
  unfold post; rw [after41]; exact .rfl
theorem pre42 (c : Dev nD) (t : Fin cfg0.N) : pre m c t (⟨42, by decide⟩ : Fin 134) ⊢ owns (c : Thread nD τ) (s42 t) fullShare (b42 m c t) :=
  exists_elim fun d => by rw [before_in42 m (dats m 0 c) (A_eq m c _) (after42 m c) t d]; exact .rfl
theorem post42 (c : Dev nD) (t : Fin cfg0.N) : owns (c : Thread nD τ) (s42 t) fullShare (b42 m c t) ⊢ post m c t (⟨42, by decide⟩ : Fin 134) := by
  unfold post; rw [after42]; exact .rfl
theorem pre43 (c : Dev nD) (t : Fin cfg0.N) : pre m c t (⟨43, by decide⟩ : Fin 134) ⊢ owns (c : Thread nD τ) (s43 t) fullShare (b43 m c t) :=
  exists_elim fun d => by rw [before_in43 m (dats m 0 c) (A_eq m c _) (after43 m c) t d]; exact .rfl
theorem post43 (c : Dev nD) (t : Fin cfg0.N) : owns (c : Thread nD τ) (s43 t) fullShare (b43 m c t) ⊢ post m c t (⟨43, by decide⟩ : Fin 134) := by
  unfold post; rw [after43]; exact .rfl
theorem pre44 (c : Dev nD) (t : Fin cfg0.N) : pre m c t (⟨44, by decide⟩ : Fin 134) ⊢ owns (c : Thread nD τ) (s44 t) fullShare (b44 m c t) :=
  exists_elim fun d => by rw [before_in44 m (dats m 0 c) (A_eq m c _) (after44 m c) t d]; exact .rfl
theorem post44 (c : Dev nD) (t : Fin cfg0.N) : owns (c : Thread nD τ) (s44 t) fullShare (b44 m c t) ⊢ post m c t (⟨44, by decide⟩ : Fin 134) := by
  unfold post; rw [after44]; exact .rfl
theorem pre45 (c : Dev nD) (t : Fin cfg0.N) : pre m c t (⟨45, by decide⟩ : Fin 134) ⊢ owns (c : Thread nD τ) (s45 t) fullShare (b45 m c t) :=
  exists_elim fun d => by rw [before_in45 m (dats m 0 c) (A_eq m c _) (after45 m c) t d]; exact .rfl
theorem post45 (c : Dev nD) (t : Fin cfg0.N) : owns (c : Thread nD τ) (s45 t) fullShare (b45 m c t) ⊢ post m c t (⟨45, by decide⟩ : Fin 134) := by
  unfold post; rw [after45]; exact .rfl
theorem pre46 (c : Dev nD) (t : Fin cfg0.N) : pre m c t (⟨46, by decide⟩ : Fin 134) ⊢ owns (c : Thread nD τ) (s46 t) fullShare (b46 m c t) :=
  exists_elim fun d => by rw [before_in46 m (dats m 0 c) (A_eq m c _) (after46 m c) t d]; exact .rfl
theorem post46 (c : Dev nD) (t : Fin cfg0.N) : owns (c : Thread nD τ) (s46 t) fullShare (b46 m c t) ⊢ post m c t (⟨46, by decide⟩ : Fin 134) := by
  unfold post; rw [after46]; exact .rfl
theorem pre47 (c : Dev nD) (t : Fin cfg0.N) : pre m c t (⟨47, by decide⟩ : Fin 134) ⊢ owns (c : Thread nD τ) (s47 t) fullShare (b47 m c t) :=
  exists_elim fun d => by rw [before_in47 m (dats m 0 c) (A_eq m c _) (after47 m c) t d]; exact .rfl
theorem post47 (c : Dev nD) (t : Fin cfg0.N) : owns (c : Thread nD τ) (s47 t) fullShare (b47 m c t) ⊢ post m c t (⟨47, by decide⟩ : Fin 134) := by
  unfold post; rw [after47]; exact .rfl
theorem pre48 (c : Dev nD) (t : Fin cfg0.N) : pre m c t (⟨48, by decide⟩ : Fin 134) ⊢ owns (c : Thread nD τ) (s48 t) fullShare (b48 m c t) :=
  exists_elim fun d => by rw [before_in48 m (dats m 0 c) (A_eq m c _) (after48 m c) t d]; exact .rfl
theorem post48 (c : Dev nD) (t : Fin cfg0.N) : owns (c : Thread nD τ) (s48 t) fullShare (b48 m c t) ⊢ post m c t (⟨48, by decide⟩ : Fin 134) := by
  unfold post; rw [after48]; exact .rfl
theorem pre49 (c : Dev nD) (t : Fin cfg0.N) : pre m c t (⟨49, by decide⟩ : Fin 134) ⊢ owns (c : Thread nD τ) (s49 t) fullShare (b49 m c t) :=
  exists_elim fun d => by rw [before_in49 m (dats m 0 c) (A_eq m c _) (after49 m c) t d]; exact .rfl
theorem post49 (c : Dev nD) (t : Fin cfg0.N) : owns (c : Thread nD τ) (s49 t) fullShare (b49 m c t) ⊢ post m c t (⟨49, by decide⟩ : Fin 134) := by
  unfold post; rw [after49]; exact .rfl
theorem pre50 (c : Dev nD) (t : Fin cfg0.N) : pre m c t (⟨50, by decide⟩ : Fin 134) ⊢ owns (c : Thread nD τ) (s50 t) fullShare (b50 m c t) :=
  exists_elim fun d => by rw [before_in50 m (dats m 0 c) (A_eq m c _) (after50 m c) t d]; exact .rfl
theorem post50 (c : Dev nD) (t : Fin cfg0.N) : owns (c : Thread nD τ) (s50 t) fullShare (b50 m c t) ⊢ post m c t (⟨50, by decide⟩ : Fin 134) := by
  unfold post; rw [after50]; exact .rfl
theorem pre51 (c : Dev nD) (t : Fin cfg0.N) : pre m c t (⟨51, by decide⟩ : Fin 134) ⊢ owns (c : Thread nD τ) (s51 t) fullShare (b51 m c t) :=
  exists_elim fun d => by rw [before_in51 m (dats m 0 c) (A_eq m c _) (after51 m c) t d]; exact .rfl
theorem post51 (c : Dev nD) (t : Fin cfg0.N) : owns (c : Thread nD τ) (s51 t) fullShare (b51 m c t) ⊢ post m c t (⟨51, by decide⟩ : Fin 134) := by
  unfold post; rw [after51]; exact .rfl
theorem pre52 (c : Dev nD) (t : Fin cfg0.N) : pre m c t (⟨52, by decide⟩ : Fin 134) ⊢ owns (c : Thread nD τ) (s52 t) fullShare (b52 m c t) :=
  exists_elim fun d => by rw [before_in52 m (dats m 0 c) (A_eq m c _) (after52 m c) t d]; exact .rfl
theorem post52 (c : Dev nD) (t : Fin cfg0.N) : owns (c : Thread nD τ) (s52 t) fullShare (b52 m c t) ⊢ post m c t (⟨52, by decide⟩ : Fin 134) := by
  unfold post; rw [after52]; exact .rfl
theorem pre53 (c : Dev nD) (t : Fin cfg0.N) : pre m c t (⟨53, by decide⟩ : Fin 134) ⊢ owns (c : Thread nD τ) (s53 t) fullShare (b53 m c t) :=
  exists_elim fun d => by rw [before_in53 m (dats m 0 c) (A_eq m c _) (after53 m c) t d]; exact .rfl
theorem post53 (c : Dev nD) (t : Fin cfg0.N) : owns (c : Thread nD τ) (s53 t) fullShare (b53 m c t) ⊢ post m c t (⟨53, by decide⟩ : Fin 134) := by
  unfold post; rw [after53]; exact .rfl
theorem pre54 (c : Dev nD) (t : Fin cfg0.N) : pre m c t (⟨54, by decide⟩ : Fin 134) ⊢ owns (c : Thread nD τ) (s54 t) fullShare (b54 m c t) :=
  exists_elim fun d => by rw [before_in54 m (dats m 0 c) (A_eq m c _) (after54 m c) t d]; exact .rfl
theorem post54 (c : Dev nD) (t : Fin cfg0.N) : owns (c : Thread nD τ) (s54 t) fullShare (b54 m c t) ⊢ post m c t (⟨54, by decide⟩ : Fin 134) := by
  unfold post; rw [after54]; exact .rfl
theorem pre55 (c : Dev nD) (t : Fin cfg0.N) : pre m c t (⟨55, by decide⟩ : Fin 134) ⊢ owns (c : Thread nD τ) (s55 t) fullShare (b55 m c t) :=
  exists_elim fun d => by rw [before_in55 m (dats m 0 c) (A_eq m c _) (after55 m c) t d]; exact .rfl
theorem post55 (c : Dev nD) (t : Fin cfg0.N) : owns (c : Thread nD τ) (s55 t) fullShare (b55 m c t) ⊢ post m c t (⟨55, by decide⟩ : Fin 134) := by
  unfold post; rw [after55]; exact .rfl
theorem pre56 (c : Dev nD) (t : Fin cfg0.N) : pre m c t (⟨56, by decide⟩ : Fin 134) ⊢ owns (c : Thread nD τ) (s56 t) fullShare (b56 m c t) :=
  exists_elim fun d => by rw [before_in56 m (dats m 0 c) (A_eq m c _) (after56 m c) t d]; exact .rfl
theorem post56 (c : Dev nD) (t : Fin cfg0.N) : owns (c : Thread nD τ) (s56 t) fullShare (b56 m c t) ⊢ post m c t (⟨56, by decide⟩ : Fin 134) := by
  unfold post; rw [after56]; exact .rfl
theorem pre57 (c : Dev nD) (t : Fin cfg0.N) : pre m c t (⟨57, by decide⟩ : Fin 134) ⊢ owns (c : Thread nD τ) (s57 t) fullShare (b57 m c t) :=
  exists_elim fun d => by rw [before_in57 m (dats m 0 c) (A_eq m c _) (after57 m c) t d]; exact .rfl
theorem post57 (c : Dev nD) (t : Fin cfg0.N) : owns (c : Thread nD τ) (s57 t) fullShare (b57 m c t) ⊢ post m c t (⟨57, by decide⟩ : Fin 134) := by
  unfold post; rw [after57]; exact .rfl
theorem pre58 (c : Dev nD) (t : Fin cfg0.N) : pre m c t (⟨58, by decide⟩ : Fin 134) ⊢ owns (c : Thread nD τ) (s58 t) fullShare (b58 m c t) :=
  exists_elim fun d => by rw [before_in58 m (dats m 0 c) (A_eq m c _) (after58 m c) t d]; exact .rfl
theorem post58 (c : Dev nD) (t : Fin cfg0.N) : owns (c : Thread nD τ) (s58 t) fullShare (b58 m c t) ⊢ post m c t (⟨58, by decide⟩ : Fin 134) := by
  unfold post; rw [after58]; exact .rfl
theorem pre59 (c : Dev nD) (t : Fin cfg0.N) : pre m c t (⟨59, by decide⟩ : Fin 134) ⊢ owns (c : Thread nD τ) (s59 t) fullShare (b59 m c t) :=
  exists_elim fun d => by rw [before_in59 m (dats m 0 c) (A_eq m c _) (after59 m c) t d]; exact .rfl
theorem post59 (c : Dev nD) (t : Fin cfg0.N) : owns (c : Thread nD τ) (s59 t) fullShare (b59 m c t) ⊢ post m c t (⟨59, by decide⟩ : Fin 134) := by
  unfold post; rw [after59]; exact .rfl
theorem pre60 (c : Dev nD) (t : Fin cfg0.N) : pre m c t (⟨60, by decide⟩ : Fin 134) ⊢ owns (c : Thread nD τ) (s60 t) fullShare (b60 m c t) :=
  exists_elim fun d => by rw [before_in60 m (dats m 0 c) (A_eq m c _) (after60 m c) t d]; exact .rfl
theorem post60 (c : Dev nD) (t : Fin cfg0.N) : owns (c : Thread nD τ) (s60 t) fullShare (b60 m c t) ⊢ post m c t (⟨60, by decide⟩ : Fin 134) := by
  unfold post; rw [after60]; exact .rfl
theorem pre_ins11 (c : Dev nD) (t : Fin cfg0.N) : bigSepL [(⟨40, by decide⟩ : Fin 134), (⟨41, by decide⟩ : Fin 134), (⟨42, by decide⟩ : Fin 134)] (pre m c t) ⊢ ins3 c (s40 t) (s41 t) (s42 t) (b40 m c t) (b41 m c t) (b42 m c t) :=
  BIClass.sep_mono (pre40 m c t) (BIClass.sep_mono (pre41 m c t) (pre42 m c t))
theorem post_ins11 (c : Dev nD) (t : Fin cfg0.N) : ins3 c (s40 t) (s41 t) (s42 t) (b40 m c t) (b41 m c t) (b42 m c t) ⊢ bigSepL [(⟨40, by decide⟩ : Fin 134), (⟨41, by decide⟩ : Fin 134), (⟨42, by decide⟩ : Fin 134)] (post m c t) :=
  BIClass.sep_mono (post40 m c t) (BIClass.sep_mono (post41 m c t) (post42 m c t))
theorem pre_ins12 (c : Dev nD) (t : Fin cfg0.N) : bigSepL [(⟨43, by decide⟩ : Fin 134), (⟨44, by decide⟩ : Fin 134), (⟨45, by decide⟩ : Fin 134)] (pre m c t) ⊢ ins3 c (s43 t) (s44 t) (s45 t) (b43 m c t) (b44 m c t) (b45 m c t) :=
  BIClass.sep_mono (pre43 m c t) (BIClass.sep_mono (pre44 m c t) (pre45 m c t))
theorem post_ins12 (c : Dev nD) (t : Fin cfg0.N) : ins3 c (s43 t) (s44 t) (s45 t) (b43 m c t) (b44 m c t) (b45 m c t) ⊢ bigSepL [(⟨43, by decide⟩ : Fin 134), (⟨44, by decide⟩ : Fin 134), (⟨45, by decide⟩ : Fin 134)] (post m c t) :=
  BIClass.sep_mono (post43 m c t) (BIClass.sep_mono (post44 m c t) (post45 m c t))
theorem pre_ins13 (c : Dev nD) (t : Fin cfg0.N) : bigSepL [(⟨46, by decide⟩ : Fin 134), (⟨47, by decide⟩ : Fin 134), (⟨48, by decide⟩ : Fin 134)] (pre m c t) ⊢ ins3 c (s46 t) (s47 t) (s48 t) (b46 m c t) (b47 m c t) (b48 m c t) :=
  BIClass.sep_mono (pre46 m c t) (BIClass.sep_mono (pre47 m c t) (pre48 m c t))
theorem post_ins13 (c : Dev nD) (t : Fin cfg0.N) : ins3 c (s46 t) (s47 t) (s48 t) (b46 m c t) (b47 m c t) (b48 m c t) ⊢ bigSepL [(⟨46, by decide⟩ : Fin 134), (⟨47, by decide⟩ : Fin 134), (⟨48, by decide⟩ : Fin 134)] (post m c t) :=
  BIClass.sep_mono (post46 m c t) (BIClass.sep_mono (post47 m c t) (post48 m c t))
theorem pre_ins14 (c : Dev nD) (t : Fin cfg0.N) : bigSepL [(⟨49, by decide⟩ : Fin 134), (⟨50, by decide⟩ : Fin 134), (⟨51, by decide⟩ : Fin 134)] (pre m c t) ⊢ ins3 c (s49 t) (s50 t) (s51 t) (b49 m c t) (b50 m c t) (b51 m c t) :=
  BIClass.sep_mono (pre49 m c t) (BIClass.sep_mono (pre50 m c t) (pre51 m c t))
theorem post_ins14 (c : Dev nD) (t : Fin cfg0.N) : ins3 c (s49 t) (s50 t) (s51 t) (b49 m c t) (b50 m c t) (b51 m c t) ⊢ bigSepL [(⟨49, by decide⟩ : Fin 134), (⟨50, by decide⟩ : Fin 134), (⟨51, by decide⟩ : Fin 134)] (post m c t) :=
  BIClass.sep_mono (post49 m c t) (BIClass.sep_mono (post50 m c t) (post51 m c t))
theorem pre_ins15 (c : Dev nD) (t : Fin cfg0.N) : bigSepL [(⟨52, by decide⟩ : Fin 134), (⟨53, by decide⟩ : Fin 134), (⟨54, by decide⟩ : Fin 134)] (pre m c t) ⊢ ins3 c (s52 t) (s53 t) (s54 t) (b52 m c t) (b53 m c t) (b54 m c t) :=
  BIClass.sep_mono (pre52 m c t) (BIClass.sep_mono (pre53 m c t) (pre54 m c t))
theorem post_ins15 (c : Dev nD) (t : Fin cfg0.N) : ins3 c (s52 t) (s53 t) (s54 t) (b52 m c t) (b53 m c t) (b54 m c t) ⊢ bigSepL [(⟨52, by decide⟩ : Fin 134), (⟨53, by decide⟩ : Fin 134), (⟨54, by decide⟩ : Fin 134)] (post m c t) :=
  BIClass.sep_mono (post52 m c t) (BIClass.sep_mono (post53 m c t) (post54 m c t))
theorem pre_ins16 (c : Dev nD) (t : Fin cfg0.N) : bigSepL [(⟨55, by decide⟩ : Fin 134), (⟨56, by decide⟩ : Fin 134), (⟨57, by decide⟩ : Fin 134)] (pre m c t) ⊢ ins3 c (s55 t) (s56 t) (s57 t) (b55 m c t) (b56 m c t) (b57 m c t) :=
  BIClass.sep_mono (pre55 m c t) (BIClass.sep_mono (pre56 m c t) (pre57 m c t))
theorem post_ins16 (c : Dev nD) (t : Fin cfg0.N) : ins3 c (s55 t) (s56 t) (s57 t) (b55 m c t) (b56 m c t) (b57 m c t) ⊢ bigSepL [(⟨55, by decide⟩ : Fin 134), (⟨56, by decide⟩ : Fin 134), (⟨57, by decide⟩ : Fin 134)] (post m c t) :=
  BIClass.sep_mono (post55 m c t) (BIClass.sep_mono (post56 m c t) (post57 m c t))
theorem pre_ins17 (c : Dev nD) (t : Fin cfg0.N) : bigSepL [(⟨58, by decide⟩ : Fin 134), (⟨59, by decide⟩ : Fin 134), (⟨60, by decide⟩ : Fin 134)] (pre m c t) ⊢ ins3 c (s58 t) (s59 t) (s60 t) (b58 m c t) (b59 m c t) (b60 m c t) :=
  BIClass.sep_mono (pre58 m c t) (BIClass.sep_mono (pre59 m c t) (pre60 m c t))
theorem post_ins17 (c : Dev nD) (t : Fin cfg0.N) : ins3 c (s58 t) (s59 t) (s60 t) (b58 m c t) (b59 m c t) (b60 m c t) ⊢ bigSepL [(⟨58, by decide⟩ : Fin 134), (⟨59, by decide⟩ : Fin 134), (⟨60, by decide⟩ : Fin 134)] (post m c t) :=
  BIClass.sep_mono (post58 m c t) (BIClass.sep_mono (post59 m c t) (post60 m c t))

end Cert.AdamSmallIdeal.Body

end
-- ==== Proof.AdamSmall.Win3.lean ====
module

public import proofs.«01_k».proof.Proof.AdamSmall.Stage
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.AdamSmallIdeal.Body

open Idealize.ShloMosaic Idealize.ShloMosaic.TcCoe Idealize.ShloMosaic.Tactic
open Cert.AdamSmallIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep)

theorem pre61 (c : Dev nD) (t : Fin cfg0.N) : pre m c t (⟨61, by decide⟩ : Fin 134) ⊢ iprop(∃ d, owns (Val := Elt F) (c : Thread nD τ) (s61 t) fullShare d) :=
  exists_elim fun d => exists_intro ((dats m 0 c).before (⟨61, by decide⟩ : Fin 134) t d)
theorem post61 (c : Dev nD) (t : Fin cfg0.N) : owns (c : Thread nD τ) (s61 t) fullShare (out61 (b0 m c t)) ⊢ post m c t (⟨61, by decide⟩ : Fin 134) := by
  unfold post; rw [after61]; exact .rfl
theorem pre62 (c : Dev nD) (t : Fin cfg0.N) : pre m c t (⟨62, by decide⟩ : Fin 134) ⊢ iprop(∃ d, owns (Val := Elt F) (c : Thread nD τ) (s62 t) fullShare d) :=
  exists_elim fun d => exists_intro ((dats m 0 c).before (⟨62, by decide⟩ : Fin 134) t d)
theorem post62 (c : Dev nD) (t : Fin cfg0.N) : owns (c : Thread nD τ) (s62 t) fullShare (out62 (b0 m c t) (b7 m c t) (b8 m c t) (b9 m c t)) ⊢ post m c t (⟨62, by decide⟩ : Fin 134) := by
  unfold post; rw [after62]; exact .rfl
theorem pre63 (c : Dev nD) (t : Fin cfg0.N) : pre m c t (⟨63, by decide⟩ : Fin 134) ⊢ iprop(∃ d, owns (Val := Elt F) (c : Thread nD τ) (s63 t) fullShare d) :=
  exists_elim fun d => exists_intro ((dats m 0 c).before (⟨63, by decide⟩ : Fin 134) t d)
theorem post63 (c : Dev nD) (t : Fin cfg0.N) : owns (c : Thread nD τ) (s63 t) fullShare (out63 (b0 m c t) (b8 m c t)) ⊢ post m c t (⟨63, by decide⟩ : Fin 134) := by
  unfold post; rw [after63]; exact .rfl
theorem pre64 (c : Dev nD) (t : Fin cfg0.N) : pre m c t (⟨64, by decide⟩ : Fin 134) ⊢ iprop(∃ d, owns (Val := Elt F) (c : Thread nD τ) (s64 t) fullShare d) :=
  exists_elim fun d => exists_intro ((dats m 0 c).before (⟨64, by decide⟩ : Fin 134) t d)
theorem post64 (c : Dev nD) (t : Fin cfg0.N) : owns (c : Thread nD τ) (s64 t) fullShare (out64 (b0 m c t) (b9 m c t)) ⊢ post m c t (⟨64, by decide⟩ : Fin 134) := by
  unfold post; rw [after64]; exact .rfl
theorem pre65 (c : Dev nD) (t : Fin cfg0.N) : pre m c t (⟨65, by decide⟩ : Fin 134) ⊢ iprop(∃ d, owns (Val := Elt F) (c : Thread nD τ) (s65 t) fullShare d) :=
  exists_elim fun d => exists_intro ((dats m 0 c).before (⟨65, by decide⟩ : Fin 134) t d)
theorem post65 (c : Dev nD) (t : Fin cfg0.N) : owns (c : Thread nD τ) (s65 t) fullShare (out65 (b0 m c t)) ⊢ post m c t (⟨65, by decide⟩ : Fin 134) := by
  unfold post; rw [after65]; exact .rfl
theorem pre66 (c : Dev nD) (t : Fin cfg0.N) : pre m c t (⟨66, by decide⟩ : Fin 134) ⊢ iprop(∃ d, owns (Val := Elt F) (c : Thread nD τ) (s66 t) fullShare d) :=
  exists_elim fun d => exists_intro ((dats m 0 c).before (⟨66, by decide⟩ : Fin 134) t d)
theorem post66 (c : Dev nD) (t : Fin cfg0.N) : owns (c : Thread nD τ) (s66 t) fullShare (out66 (b0 m c t) (b10 m c t) (b11 m c t) (b12 m c t)) ⊢ post m c t (⟨66, by decide⟩ : Fin 134) := by
  unfold post; rw [after66]; exact .rfl
theorem pre67 (c : Dev nD) (t : Fin cfg0.N) : pre m c t (⟨67, by decide⟩ : Fin 134) ⊢ iprop(∃ d, owns (Val := Elt F) (c : Thread nD τ) (s67 t) fullShare d) :=
  exists_elim fun d => exists_intro ((dats m 0 c).before (⟨67, by decide⟩ : Fin 134) t d)
theorem post67 (c : Dev nD) (t : Fin cfg0.N) : owns (c : Thread nD τ) (s67 t) fullShare (out67 (b0 m c t) (b11 m c t)) ⊢ post m c t (⟨67, by decide⟩ : Fin 134) := by
  unfold post; rw [after67]; exact .rfl
theorem pre68 (c : Dev nD) (t : Fin cfg0.N) : pre m c t (⟨68, by decide⟩ : Fin 134) ⊢ iprop(∃ d, owns (Val := Elt F) (c : Thread nD τ) (s68 t) fullShare d) :=
  exists_elim fun d => exists_intro ((dats m 0 c).before (⟨68, by decide⟩ : Fin 134) t d)
theorem post68 (c : Dev nD) (t : Fin cfg0.N) : owns (c : Thread nD τ) (s68 t) fullShare (out68 (b0 m c t) (b12 m c t)) ⊢ post m c t (⟨68, by decide⟩ : Fin 134) := by
  unfold post; rw [after68]; exact .rfl
theorem pre69 (c : Dev nD) (t : Fin cfg0.N) : pre m c t (⟨69, by decide⟩ : Fin 134) ⊢ iprop(∃ d, owns (Val := Elt F) (c : Thread nD τ) (s69 t) fullShare d) :=
  exists_elim fun d => exists_intro ((dats m 0 c).before (⟨69, by decide⟩ : Fin 134) t d)
theorem post69 (c : Dev nD) (t : Fin cfg0.N) : owns (c : Thread nD τ) (s69 t) fullShare (out69 (b0 m c t)) ⊢ post m c t (⟨69, by decide⟩ : Fin 134) := by
  unfold post; rw [after69]; exact .rfl
theorem pre70 (c : Dev nD) (t : Fin cfg0.N) : pre m c t (⟨70, by decide⟩ : Fin 134) ⊢ iprop(∃ d, owns (Val := Elt F) (c : Thread nD τ) (s70 t) fullShare d) :=
  exists_elim fun d => exists_intro ((dats m 0 c).before (⟨70, by decide⟩ : Fin 134) t d)
theorem post70 (c : Dev nD) (t : Fin cfg0.N) : owns (c : Thread nD τ) (s70 t) fullShare (out70 (b0 m c t) (b13 m c t) (b14 m c t) (b15 m c t)) ⊢ post m c t (⟨70, by decide⟩ : Fin 134) := by
  unfold post; rw [after70]; exact .rfl
theorem pre71 (c : Dev nD) (t : Fin cfg0.N) : pre m c t (⟨71, by decide⟩ : Fin 134) ⊢ iprop(∃ d, owns (Val := Elt F) (c : Thread nD τ) (s71 t) fullShare d) :=
  exists_elim fun d => exists_intro ((dats m 0 c).before (⟨71, by decide⟩ : Fin 134) t d)
theorem post71 (c : Dev nD) (t : Fin cfg0.N) : owns (c : Thread nD τ) (s71 t) fullShare (out71 (b0 m c t) (b14 m c t)) ⊢ post m c t (⟨71, by decide⟩ : Fin 134) := by
  unfold post; rw [after71]; exact .rfl
theorem pre72 (c : Dev nD) (t : Fin cfg0.N) : pre m c t (⟨72, by decide⟩ : Fin 134) ⊢ iprop(∃ d, owns (Val := Elt F) (c : Thread nD τ) (s72 t) fullShare d) :=
  exists_elim fun d => exists_intro ((dats m 0 c).before (⟨72, by decide⟩ : Fin 134) t d)
theorem post72 (c : Dev nD) (t : Fin cfg0.N) : owns (c : Thread nD τ) (s72 t) fullShare (out72 (b0 m c t) (b15 m c t)) ⊢ post m c t (⟨72, by decide⟩ : Fin 134) := by
  unfold post; rw [after72]; exact .rfl
theorem pre73 (c : Dev nD) (t : Fin cfg0.N) : pre m c t (⟨73, by decide⟩ : Fin 134) ⊢ iprop(∃ d, owns (Val := Elt F) (c : Thread nD τ) (s73 t) fullShare d) :=
  exists_elim fun d => exists_intro ((dats m 0 c).before (⟨73, by decide⟩ : Fin 134) t d)
theorem post73 (c : Dev nD) (t : Fin cfg0.N) : owns (c : Thread nD τ) (s73 t) fullShare (out73 (b1 m c t)) ⊢ post m c t (⟨73, by decide⟩ : Fin 134) := by
  unfold post; rw [after73]; exact .rfl
theorem pre74 (c : Dev nD) (t : Fin cfg0.N) : pre m c t (⟨74, by decide⟩ : Fin 134) ⊢ iprop(∃ d, owns (Val := Elt F) (c : Thread nD τ) (s74 t) fullShare d) :=
  exists_elim fun d => exists_intro ((dats m 0 c).before (⟨74, by decide⟩ : Fin 134) t d)
theorem post74 (c : Dev nD) (t : Fin cfg0.N) : owns (c : Thread nD τ) (s74 t) fullShare (out74 (b1 m c t) (b16 m c t) (b17 m c t) (b18 m c t)) ⊢ post m c t (⟨74, by decide⟩ : Fin 134) := by
  unfold post; rw [after74]; exact .rfl
theorem pre75 (c : Dev nD) (t : Fin cfg0.N) : pre m c t (⟨75, by decide⟩ : Fin 134) ⊢ iprop(∃ d, owns (Val := Elt F) (c : Thread nD τ) (s75 t) fullShare d) :=
  exists_elim fun d => exists_intro ((dats m 0 c).before (⟨75, by decide⟩ : Fin 134) t d)
theorem post75 (c : Dev nD) (t : Fin cfg0.N) : owns (c : Thread nD τ) (s75 t) fullShare (out75 (b1 m c t) (b17 m c t)) ⊢ post m c t (⟨75, by decide⟩ : Fin 134) := by
  unfold post; rw [after75]; exact .rfl
theorem pre76 (c : Dev nD) (t : Fin cfg0.N) : pre m c t (⟨76, by decide⟩ : Fin 134) ⊢ iprop(∃ d, owns (Val := Elt F) (c : Thread nD τ) (s76 t) fullShare d) :=
  exists_elim fun d => exists_intro ((dats m 0 c).before (⟨76, by decide⟩ : Fin 134) t d)
theorem post76 (c : Dev nD) (t : Fin cfg0.N) : owns (c : Thread nD τ) (s76 t) fullShare (out76 (b1 m c t) (b18 m c t)) ⊢ post m c t (⟨76, by decide⟩ : Fin 134) := by
  unfold post; rw [after76]; exact .rfl
theorem pre77 (c : Dev nD) (t : Fin cfg0.N) : pre m c t (⟨77, by decide⟩ : Fin 134) ⊢ iprop(∃ d, owns (Val := Elt F) (c : Thread nD τ) (s77 t) fullShare d) :=
  exists_elim fun d => exists_intro ((dats m 0 c).before (⟨77, by decide⟩ : Fin 134) t d)
theorem post77 (c : Dev nD) (t : Fin cfg0.N) : owns (c : Thread nD τ) (s77 t) fullShare (out77 (b1 m c t)) ⊢ post m c t (⟨77, by decide⟩ : Fin 134) := by
  unfold post; rw [after77]; exact .rfl
theorem pre78 (c : Dev nD) (t : Fin cfg0.N) : pre m c t (⟨78, by decide⟩ : Fin 134) ⊢ iprop(∃ d, owns (Val := Elt F) (c : Thread nD τ) (s78 t) fullShare d) :=
  exists_elim fun d => exists_intro ((dats m 0 c).before (⟨78, by decide⟩ : Fin 134) t d)
theorem post78 (c : Dev nD) (t : Fin cfg0.N) : owns (c : Thread nD τ) (s78 t) fullShare (out78 (b1 m c t) (b19 m c t) (b20 m c t) (b21 m c t)) ⊢ post m c t (⟨78, by decide⟩ : Fin 134) := by
  unfold post; rw [after78]; exact .rfl
theorem pre79 (c : Dev nD) (t : Fin cfg0.N) : pre m c t (⟨79, by decide⟩ : Fin 134) ⊢ iprop(∃ d, owns (Val := Elt F) (c : Thread nD τ) (s79 t) fullShare d) :=
  exists_elim fun d => exists_intro ((dats m 0 c).before (⟨79, by decide⟩ : Fin 134) t d)
theorem post79 (c : Dev nD) (t : Fin cfg0.N) : owns (c : Thread nD τ) (s79 t) fullShare (out79 (b1 m c t) (b20 m c t)) ⊢ post m c t (⟨79, by decide⟩ : Fin 134) := by
  unfold post; rw [after79]; exact .rfl
theorem pre80 (c : Dev nD) (t : Fin cfg0.N) : pre m c t (⟨80, by decide⟩ : Fin 134) ⊢ iprop(∃ d, owns (Val := Elt F) (c : Thread nD τ) (s80 t) fullShare d) :=
  exists_elim fun d => exists_intro ((dats m 0 c).before (⟨80, by decide⟩ : Fin 134) t d)
theorem post80 (c : Dev nD) (t : Fin cfg0.N) : owns (c : Thread nD τ) (s80 t) fullShare (out80 (b1 m c t) (b21 m c t)) ⊢ post m c t (⟨80, by decide⟩ : Fin 134) := by
  unfold post; rw [after80]; exact .rfl
theorem pre81 (c : Dev nD) (t : Fin cfg0.N) : pre m c t (⟨81, by decide⟩ : Fin 134) ⊢ iprop(∃ d, owns (Val := Elt F) (c : Thread nD τ) (s81 t) fullShare d) :=
  exists_elim fun d => exists_intro ((dats m 0 c).before (⟨81, by decide⟩ : Fin 134) t d)
theorem post81 (c : Dev nD) (t : Fin cfg0.N) : owns (c : Thread nD τ) (s81 t) fullShare (out81 (b2 m c t)) ⊢ post m c t (⟨81, by decide⟩ : Fin 134) := by
  unfold post; rw [after81]; exact .rfl
theorem pre82 (c : Dev nD) (t : Fin cfg0.N) : pre m c t (⟨82, by decide⟩ : Fin 134) ⊢ iprop(∃ d, owns (Val := Elt F) (c : Thread nD τ) (s82 t) fullShare d) :=
  exists_elim fun d => exists_intro ((dats m 0 c).before (⟨82, by decide⟩ : Fin 134) t d)
theorem post82 (c : Dev nD) (t : Fin cfg0.N) : owns (c : Thread nD τ) (s82 t) fullShare (out82 (b2 m c t) (b22 m c t) (b23 m c t) (b24 m c t)) ⊢ post m c t (⟨82, by decide⟩ : Fin 134) := by
  unfold post; rw [after82]; exact .rfl
theorem pre83 (c : Dev nD) (t : Fin cfg0.N) : pre m c t (⟨83, by decide⟩ : Fin 134) ⊢ iprop(∃ d, owns (Val := Elt F) (c : Thread nD τ) (s83 t) fullShare d) :=
  exists_elim fun d => exists_intro ((dats m 0 c).before (⟨83, by decide⟩ : Fin 134) t d)
theorem post83 (c : Dev nD) (t : Fin cfg0.N) : owns (c : Thread nD τ) (s83 t) fullShare (out83 (b2 m c t) (b23 m c t)) ⊢ post m c t (⟨83, by decide⟩ : Fin 134) := by
  unfold post; rw [after83]; exact .rfl
theorem pre84 (c : Dev nD) (t : Fin cfg0.N) : pre m c t (⟨84, by decide⟩ : Fin 134) ⊢ iprop(∃ d, owns (Val := Elt F) (c : Thread nD τ) (s84 t) fullShare d) :=
  exists_elim fun d => exists_intro ((dats m 0 c).before (⟨84, by decide⟩ : Fin 134) t d)
theorem post84 (c : Dev nD) (t : Fin cfg0.N) : owns (c : Thread nD τ) (s84 t) fullShare (out84 (b2 m c t) (b24 m c t)) ⊢ post m c t (⟨84, by decide⟩ : Fin 134) := by
  unfold post; rw [after84]; exact .rfl
theorem pre_outs0 (c : Dev nD) (t : Fin cfg0.N) : bigSepL [(⟨61, by decide⟩ : Fin 134), (⟨62, by decide⟩ : Fin 134), (⟨63, by decide⟩ : Fin 134), (⟨64, by decide⟩ : Fin 134)] (pre m c t) ⊢ any4 (F := F) c (s61 t) (s62 t) (s63 t) (s64 t) :=
  BIClass.sep_mono (pre61 m c t) (BIClass.sep_mono (pre62 m c t) (BIClass.sep_mono (pre63 m c t) (pre64 m c t)))
theorem post_outs0 (c : Dev nD) (t : Fin cfg0.N) : outs4 c (s61 t) (s62 t) (s63 t) (s64 t) (out61 (b0 m c t)) (out62 (b0 m c t) (b7 m c t) (b8 m c t) (b9 m c t)) (out63 (b0 m c t) (b8 m c t)) (out64 (b0 m c t) (b9 m c t)) ⊢ bigSepL [(⟨61, by decide⟩ : Fin 134), (⟨62, by decide⟩ : Fin 134), (⟨63, by decide⟩ : Fin 134), (⟨64, by decide⟩ : Fin 134)] (post m c t) :=
  BIClass.sep_mono (post61 m c t) (BIClass.sep_mono (post62 m c t) (BIClass.sep_mono (post63 m c t) (post64 m c t)))
theorem pre_outs1 (c : Dev nD) (t : Fin cfg0.N) : bigSepL [(⟨65, by decide⟩ : Fin 134), (⟨66, by decide⟩ : Fin 134), (⟨67, by decide⟩ : Fin 134), (⟨68, by decide⟩ : Fin 134)] (pre m c t) ⊢ any4 (F := F) c (s65 t) (s66 t) (s67 t) (s68 t) :=
  BIClass.sep_mono (pre65 m c t) (BIClass.sep_mono (pre66 m c t) (BIClass.sep_mono (pre67 m c t) (pre68 m c t)))
theorem post_outs1 (c : Dev nD) (t : Fin cfg0.N) : outs4 c (s65 t) (s66 t) (s67 t) (s68 t) (out65 (b0 m c t)) (out66 (b0 m c t) (b10 m c t) (b11 m c t) (b12 m c t)) (out67 (b0 m c t) (b11 m c t)) (out68 (b0 m c t) (b12 m c t)) ⊢ bigSepL [(⟨65, by decide⟩ : Fin 134), (⟨66, by decide⟩ : Fin 134), (⟨67, by decide⟩ : Fin 134), (⟨68, by decide⟩ : Fin 134)] (post m c t) :=
  BIClass.sep_mono (post65 m c t) (BIClass.sep_mono (post66 m c t) (BIClass.sep_mono (post67 m c t) (post68 m c t)))
theorem pre_outs2 (c : Dev nD) (t : Fin cfg0.N) : bigSepL [(⟨69, by decide⟩ : Fin 134), (⟨70, by decide⟩ : Fin 134), (⟨71, by decide⟩ : Fin 134), (⟨72, by decide⟩ : Fin 134)] (pre m c t) ⊢ any4 (F := F) c (s69 t) (s70 t) (s71 t) (s72 t) :=
  BIClass.sep_mono (pre69 m c t) (BIClass.sep_mono (pre70 m c t) (BIClass.sep_mono (pre71 m c t) (pre72 m c t)))
theorem post_outs2 (c : Dev nD) (t : Fin cfg0.N) : outs4 c (s69 t) (s70 t) (s71 t) (s72 t) (out69 (b0 m c t)) (out70 (b0 m c t) (b13 m c t) (b14 m c t) (b15 m c t)) (out71 (b0 m c t) (b14 m c t)) (out72 (b0 m c t) (b15 m c t)) ⊢ bigSepL [(⟨69, by decide⟩ : Fin 134), (⟨70, by decide⟩ : Fin 134), (⟨71, by decide⟩ : Fin 134), (⟨72, by decide⟩ : Fin 134)] (post m c t) :=
  BIClass.sep_mono (post69 m c t) (BIClass.sep_mono (post70 m c t) (BIClass.sep_mono (post71 m c t) (post72 m c t)))
theorem pre_outs3 (c : Dev nD) (t : Fin cfg0.N) : bigSepL [(⟨73, by decide⟩ : Fin 134), (⟨74, by decide⟩ : Fin 134), (⟨75, by decide⟩ : Fin 134), (⟨76, by decide⟩ : Fin 134)] (pre m c t) ⊢ any4 (F := F) c (s73 t) (s74 t) (s75 t) (s76 t) :=
  BIClass.sep_mono (pre73 m c t) (BIClass.sep_mono (pre74 m c t) (BIClass.sep_mono (pre75 m c t) (pre76 m c t)))
theorem post_outs3 (c : Dev nD) (t : Fin cfg0.N) : outs4 c (s73 t) (s74 t) (s75 t) (s76 t) (out73 (b1 m c t)) (out74 (b1 m c t) (b16 m c t) (b17 m c t) (b18 m c t)) (out75 (b1 m c t) (b17 m c t)) (out76 (b1 m c t) (b18 m c t)) ⊢ bigSepL [(⟨73, by decide⟩ : Fin 134), (⟨74, by decide⟩ : Fin 134), (⟨75, by decide⟩ : Fin 134), (⟨76, by decide⟩ : Fin 134)] (post m c t) :=
  BIClass.sep_mono (post73 m c t) (BIClass.sep_mono (post74 m c t) (BIClass.sep_mono (post75 m c t) (post76 m c t)))
theorem pre_outs4 (c : Dev nD) (t : Fin cfg0.N) : bigSepL [(⟨77, by decide⟩ : Fin 134), (⟨78, by decide⟩ : Fin 134), (⟨79, by decide⟩ : Fin 134), (⟨80, by decide⟩ : Fin 134)] (pre m c t) ⊢ any4 (F := F) c (s77 t) (s78 t) (s79 t) (s80 t) :=
  BIClass.sep_mono (pre77 m c t) (BIClass.sep_mono (pre78 m c t) (BIClass.sep_mono (pre79 m c t) (pre80 m c t)))
theorem post_outs4 (c : Dev nD) (t : Fin cfg0.N) : outs4 c (s77 t) (s78 t) (s79 t) (s80 t) (out77 (b1 m c t)) (out78 (b1 m c t) (b19 m c t) (b20 m c t) (b21 m c t)) (out79 (b1 m c t) (b20 m c t)) (out80 (b1 m c t) (b21 m c t)) ⊢ bigSepL [(⟨77, by decide⟩ : Fin 134), (⟨78, by decide⟩ : Fin 134), (⟨79, by decide⟩ : Fin 134), (⟨80, by decide⟩ : Fin 134)] (post m c t) :=
  BIClass.sep_mono (post77 m c t) (BIClass.sep_mono (post78 m c t) (BIClass.sep_mono (post79 m c t) (post80 m c t)))
theorem pre_outs5 (c : Dev nD) (t : Fin cfg0.N) : bigSepL [(⟨81, by decide⟩ : Fin 134), (⟨82, by decide⟩ : Fin 134), (⟨83, by decide⟩ : Fin 134), (⟨84, by decide⟩ : Fin 134)] (pre m c t) ⊢ any4 (F := F) c (s81 t) (s82 t) (s83 t) (s84 t) :=
  BIClass.sep_mono (pre81 m c t) (BIClass.sep_mono (pre82 m c t) (BIClass.sep_mono (pre83 m c t) (pre84 m c t)))
theorem post_outs5 (c : Dev nD) (t : Fin cfg0.N) : outs4 c (s81 t) (s82 t) (s83 t) (s84 t) (out81 (b2 m c t)) (out82 (b2 m c t) (b22 m c t) (b23 m c t) (b24 m c t)) (out83 (b2 m c t) (b23 m c t)) (out84 (b2 m c t) (b24 m c t)) ⊢ bigSepL [(⟨81, by decide⟩ : Fin 134), (⟨82, by decide⟩ : Fin 134), (⟨83, by decide⟩ : Fin 134), (⟨84, by decide⟩ : Fin 134)] (post m c t) :=
  BIClass.sep_mono (post81 m c t) (BIClass.sep_mono (post82 m c t) (BIClass.sep_mono (post83 m c t) (post84 m c t)))

end Cert.AdamSmallIdeal.Body

end
-- ==== Proof.AdamSmall.Win4.lean ====
module

public import proofs.«01_k».proof.Proof.AdamSmall.Stage
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.AdamSmallIdeal.Body

open Idealize.ShloMosaic Idealize.ShloMosaic.TcCoe Idealize.ShloMosaic.Tactic
open Cert.AdamSmallIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep)

theorem pre85 (c : Dev nD) (t : Fin cfg0.N) : pre m c t (⟨85, by decide⟩ : Fin 134) ⊢ iprop(∃ d, owns (Val := Elt F) (c : Thread nD τ) (s85 t) fullShare d) :=
  exists_elim fun d => exists_intro ((dats m 0 c).before (⟨85, by decide⟩ : Fin 134) t d)
theorem post85 (c : Dev nD) (t : Fin cfg0.N) : owns (c : Thread nD τ) (s85 t) fullShare (out85 (b2 m c t)) ⊢ post m c t (⟨85, by decide⟩ : Fin 134) := by
  unfold post; rw [after85]; exact .rfl
theorem pre86 (c : Dev nD) (t : Fin cfg0.N) : pre m c t (⟨86, by decide⟩ : Fin 134) ⊢ iprop(∃ d, owns (Val := Elt F) (c : Thread nD τ) (s86 t) fullShare d) :=
  exists_elim fun d => exists_intro ((dats m 0 c).before (⟨86, by decide⟩ : Fin 134) t d)
theorem post86 (c : Dev nD) (t : Fin cfg0.N) : owns (c : Thread nD τ) (s86 t) fullShare (out86 (b2 m c t) (b25 m c t) (b26 m c t) (b27 m c t)) ⊢ post m c t (⟨86, by decide⟩ : Fin 134) := by
  unfold post; rw [after86]; exact .rfl
theorem pre87 (c : Dev nD) (t : Fin cfg0.N) : pre m c t (⟨87, by decide⟩ : Fin 134) ⊢ iprop(∃ d, owns (Val := Elt F) (c : Thread nD τ) (s87 t) fullShare d) :=
  exists_elim fun d => exists_intro ((dats m 0 c).before (⟨87, by decide⟩ : Fin 134) t d)
theorem post87 (c : Dev nD) (t : Fin cfg0.N) : owns (c : Thread nD τ) (s87 t) fullShare (out87 (b2 m c t) (b26 m c t)) ⊢ post m c t (⟨87, by decide⟩ : Fin 134) := by
  unfold post; rw [after87]; exact .rfl
theorem pre88 (c : Dev nD) (t : Fin cfg0.N) : pre m c t (⟨88, by decide⟩ : Fin 134) ⊢ iprop(∃ d, owns (Val := Elt F) (c : Thread nD τ) (s88 t) fullShare d) :=
  exists_elim fun d => exists_intro ((dats m 0 c).before (⟨88, by decide⟩ : Fin 134) t d)
theorem post88 (c : Dev nD) (t : Fin cfg0.N) : owns (c : Thread nD τ) (s88 t) fullShare (out88 (b2 m c t) (b27 m c t)) ⊢ post m c t (⟨88, by decide⟩ : Fin 134) := by
  unfold post; rw [after88]; exact .rfl
theorem pre89 (c : Dev nD) (t : Fin cfg0.N) : pre m c t (⟨89, by decide⟩ : Fin 134) ⊢ iprop(∃ d, owns (Val := Elt F) (c : Thread nD τ) (s89 t) fullShare d) :=
  exists_elim fun d => exists_intro ((dats m 0 c).before (⟨89, by decide⟩ : Fin 134) t d)
theorem post89 (c : Dev nD) (t : Fin cfg0.N) : owns (c : Thread nD τ) (s89 t) fullShare (out89 (b3 m c t)) ⊢ post m c t (⟨89, by decide⟩ : Fin 134) := by
  unfold post; rw [after89]; exact .rfl
theorem pre90 (c : Dev nD) (t : Fin cfg0.N) : pre m c t (⟨90, by decide⟩ : Fin 134) ⊢ iprop(∃ d, owns (Val := Elt F) (c : Thread nD τ) (s90 t) fullShare d) :=
  exists_elim fun d => exists_intro ((dats m 0 c).before (⟨90, by decide⟩ : Fin 134) t d)
theorem post90 (c : Dev nD) (t : Fin cfg0.N) : owns (c : Thread nD τ) (s90 t) fullShare (out90 (b3 m c t) (b28 m c t) (b29 m c t) (b30 m c t)) ⊢ post m c t (⟨90, by decide⟩ : Fin 134) := by
  unfold post; rw [after90]; exact .rfl
theorem pre91 (c : Dev nD) (t : Fin cfg0.N) : pre m c t (⟨91, by decide⟩ : Fin 134) ⊢ iprop(∃ d, owns (Val := Elt F) (c : Thread nD τ) (s91 t) fullShare d) :=
  exists_elim fun d => exists_intro ((dats m 0 c).before (⟨91, by decide⟩ : Fin 134) t d)
theorem post91 (c : Dev nD) (t : Fin cfg0.N) : owns (c : Thread nD τ) (s91 t) fullShare (out91 (b3 m c t) (b29 m c t)) ⊢ post m c t (⟨91, by decide⟩ : Fin 134) := by
  unfold post; rw [after91]; exact .rfl
theorem pre92 (c : Dev nD) (t : Fin cfg0.N) : pre m c t (⟨92, by decide⟩ : Fin 134) ⊢ iprop(∃ d, owns (Val := Elt F) (c : Thread nD τ) (s92 t) fullShare d) :=
  exists_elim fun d => exists_intro ((dats m 0 c).before (⟨92, by decide⟩ : Fin 134) t d)
theorem post92 (c : Dev nD) (t : Fin cfg0.N) : owns (c : Thread nD τ) (s92 t) fullShare (out92 (b3 m c t) (b30 m c t)) ⊢ post m c t (⟨92, by decide⟩ : Fin 134) := by
  unfold post; rw [after92]; exact .rfl
theorem pre93 (c : Dev nD) (t : Fin cfg0.N) : pre m c t (⟨93, by decide⟩ : Fin 134) ⊢ iprop(∃ d, owns (Val := Elt F) (c : Thread nD τ) (s93 t) fullShare d) :=
  exists_elim fun d => exists_intro ((dats m 0 c).before (⟨93, by decide⟩ : Fin 134) t d)
theorem post93 (c : Dev nD) (t : Fin cfg0.N) : owns (c : Thread nD τ) (s93 t) fullShare (out93 (b4 m c t)) ⊢ post m c t (⟨93, by decide⟩ : Fin 134) := by
  unfold post; rw [after93]; exact .rfl
theorem pre94 (c : Dev nD) (t : Fin cfg0.N) : pre m c t (⟨94, by decide⟩ : Fin 134) ⊢ iprop(∃ d, owns (Val := Elt F) (c : Thread nD τ) (s94 t) fullShare d) :=
  exists_elim fun d => exists_intro ((dats m 0 c).before (⟨94, by decide⟩ : Fin 134) t d)
theorem post94 (c : Dev nD) (t : Fin cfg0.N) : owns (c : Thread nD τ) (s94 t) fullShare (out94 (b4 m c t) (b31 m c t) (b32 m c t) (b33 m c t)) ⊢ post m c t (⟨94, by decide⟩ : Fin 134) := by
  unfold post; rw [after94]; exact .rfl
theorem pre95 (c : Dev nD) (t : Fin cfg0.N) : pre m c t (⟨95, by decide⟩ : Fin 134) ⊢ iprop(∃ d, owns (Val := Elt F) (c : Thread nD τ) (s95 t) fullShare d) :=
  exists_elim fun d => exists_intro ((dats m 0 c).before (⟨95, by decide⟩ : Fin 134) t d)
theorem post95 (c : Dev nD) (t : Fin cfg0.N) : owns (c : Thread nD τ) (s95 t) fullShare (out95 (b4 m c t) (b32 m c t)) ⊢ post m c t (⟨95, by decide⟩ : Fin 134) := by
  unfold post; rw [after95]; exact .rfl
theorem pre96 (c : Dev nD) (t : Fin cfg0.N) : pre m c t (⟨96, by decide⟩ : Fin 134) ⊢ iprop(∃ d, owns (Val := Elt F) (c : Thread nD τ) (s96 t) fullShare d) :=
  exists_elim fun d => exists_intro ((dats m 0 c).before (⟨96, by decide⟩ : Fin 134) t d)
theorem post96 (c : Dev nD) (t : Fin cfg0.N) : owns (c : Thread nD τ) (s96 t) fullShare (out96 (b4 m c t) (b33 m c t)) ⊢ post m c t (⟨96, by decide⟩ : Fin 134) := by
  unfold post; rw [after96]; exact .rfl
theorem pre97 (c : Dev nD) (t : Fin cfg0.N) : pre m c t (⟨97, by decide⟩ : Fin 134) ⊢ iprop(∃ d, owns (Val := Elt F) (c : Thread nD τ) (s97 t) fullShare d) :=
  exists_elim fun d => exists_intro ((dats m 0 c).before (⟨97, by decide⟩ : Fin 134) t d)
theorem post97 (c : Dev nD) (t : Fin cfg0.N) : owns (c : Thread nD τ) (s97 t) fullShare (out97 (b4 m c t)) ⊢ post m c t (⟨97, by decide⟩ : Fin 134) := by
  unfold post; rw [after97]; exact .rfl
theorem pre98 (c : Dev nD) (t : Fin cfg0.N) : pre m c t (⟨98, by decide⟩ : Fin 134) ⊢ iprop(∃ d, owns (Val := Elt F) (c : Thread nD τ) (s98 t) fullShare d) :=
  exists_elim fun d => exists_intro ((dats m 0 c).before (⟨98, by decide⟩ : Fin 134) t d)
theorem post98 (c : Dev nD) (t : Fin cfg0.N) : owns (c : Thread nD τ) (s98 t) fullShare (out98 (b4 m c t) (b34 m c t) (b35 m c t) (b36 m c t)) ⊢ post m c t (⟨98, by decide⟩ : Fin 134) := by
  unfold post; rw [after98]; exact .rfl
theorem pre99 (c : Dev nD) (t : Fin cfg0.N) : pre m c t (⟨99, by decide⟩ : Fin 134) ⊢ iprop(∃ d, owns (Val := Elt F) (c : Thread nD τ) (s99 t) fullShare d) :=
  exists_elim fun d => exists_intro ((dats m 0 c).before (⟨99, by decide⟩ : Fin 134) t d)
theorem post99 (c : Dev nD) (t : Fin cfg0.N) : owns (c : Thread nD τ) (s99 t) fullShare (out99 (b4 m c t) (b35 m c t)) ⊢ post m c t (⟨99, by decide⟩ : Fin 134) := by
  unfold post; rw [after99]; exact .rfl
theorem pre100 (c : Dev nD) (t : Fin cfg0.N) : pre m c t (⟨100, by decide⟩ : Fin 134) ⊢ iprop(∃ d, owns (Val := Elt F) (c : Thread nD τ) (s100 t) fullShare d) :=
  exists_elim fun d => exists_intro ((dats m 0 c).before (⟨100, by decide⟩ : Fin 134) t d)
theorem post100 (c : Dev nD) (t : Fin cfg0.N) : owns (c : Thread nD τ) (s100 t) fullShare (out100 (b4 m c t) (b36 m c t)) ⊢ post m c t (⟨100, by decide⟩ : Fin 134) := by
  unfold post; rw [after100]; exact .rfl
theorem pre101 (c : Dev nD) (t : Fin cfg0.N) : pre m c t (⟨101, by decide⟩ : Fin 134) ⊢ iprop(∃ d, owns (Val := Elt F) (c : Thread nD τ) (s101 t) fullShare d) :=
  exists_elim fun d => exists_intro ((dats m 0 c).before (⟨101, by decide⟩ : Fin 134) t d)
theorem post101 (c : Dev nD) (t : Fin cfg0.N) : owns (c : Thread nD τ) (s101 t) fullShare (out101 (b4 m c t)) ⊢ post m c t (⟨101, by decide⟩ : Fin 134) := by
  unfold post; rw [after101]; exact .rfl
theorem pre102 (c : Dev nD) (t : Fin cfg0.N) : pre m c t (⟨102, by decide⟩ : Fin 134) ⊢ iprop(∃ d, owns (Val := Elt F) (c : Thread nD τ) (s102 t) fullShare d) :=
  exists_elim fun d => exists_intro ((dats m 0 c).before (⟨102, by decide⟩ : Fin 134) t d)
theorem post102 (c : Dev nD) (t : Fin cfg0.N) : owns (c : Thread nD τ) (s102 t) fullShare (out102 (b4 m c t) (b37 m c t) (b38 m c t) (b39 m c t)) ⊢ post m c t (⟨102, by decide⟩ : Fin 134) := by
  unfold post; rw [after102]; exact .rfl
theorem pre103 (c : Dev nD) (t : Fin cfg0.N) : pre m c t (⟨103, by decide⟩ : Fin 134) ⊢ iprop(∃ d, owns (Val := Elt F) (c : Thread nD τ) (s103 t) fullShare d) :=
  exists_elim fun d => exists_intro ((dats m 0 c).before (⟨103, by decide⟩ : Fin 134) t d)
theorem post103 (c : Dev nD) (t : Fin cfg0.N) : owns (c : Thread nD τ) (s103 t) fullShare (out103 (b4 m c t) (b38 m c t)) ⊢ post m c t (⟨103, by decide⟩ : Fin 134) := by
  unfold post; rw [after103]; exact .rfl
theorem pre104 (c : Dev nD) (t : Fin cfg0.N) : pre m c t (⟨104, by decide⟩ : Fin 134) ⊢ iprop(∃ d, owns (Val := Elt F) (c : Thread nD τ) (s104 t) fullShare d) :=
  exists_elim fun d => exists_intro ((dats m 0 c).before (⟨104, by decide⟩ : Fin 134) t d)
theorem post104 (c : Dev nD) (t : Fin cfg0.N) : owns (c : Thread nD τ) (s104 t) fullShare (out104 (b4 m c t) (b39 m c t)) ⊢ post m c t (⟨104, by decide⟩ : Fin 134) := by
  unfold post; rw [after104]; exact .rfl
theorem pre105 (c : Dev nD) (t : Fin cfg0.N) : pre m c t (⟨105, by decide⟩ : Fin 134) ⊢ iprop(∃ d, owns (Val := Elt F) (c : Thread nD τ) (s105 t) fullShare d) :=
  exists_elim fun d => exists_intro ((dats m 0 c).before (⟨105, by decide⟩ : Fin 134) t d)
theorem post105 (c : Dev nD) (t : Fin cfg0.N) : owns (c : Thread nD τ) (s105 t) fullShare (out105 (b5 m c t)) ⊢ post m c t (⟨105, by decide⟩ : Fin 134) := by
  unfold post; rw [after105]; exact .rfl
theorem pre106 (c : Dev nD) (t : Fin cfg0.N) : pre m c t (⟨106, by decide⟩ : Fin 134) ⊢ iprop(∃ d, owns (Val := Elt F) (c : Thread nD τ) (s106 t) fullShare d) :=
  exists_elim fun d => exists_intro ((dats m 0 c).before (⟨106, by decide⟩ : Fin 134) t d)
theorem post106 (c : Dev nD) (t : Fin cfg0.N) : owns (c : Thread nD τ) (s106 t) fullShare (out106 (b5 m c t) (b40 m c t) (b41 m c t) (b42 m c t)) ⊢ post m c t (⟨106, by decide⟩ : Fin 134) := by
  unfold post; rw [after106]; exact .rfl
theorem pre107 (c : Dev nD) (t : Fin cfg0.N) : pre m c t (⟨107, by decide⟩ : Fin 134) ⊢ iprop(∃ d, owns (Val := Elt F) (c : Thread nD τ) (s107 t) fullShare d) :=
  exists_elim fun d => exists_intro ((dats m 0 c).before (⟨107, by decide⟩ : Fin 134) t d)
theorem post107 (c : Dev nD) (t : Fin cfg0.N) : owns (c : Thread nD τ) (s107 t) fullShare (out107 (b5 m c t) (b41 m c t)) ⊢ post m c t (⟨107, by decide⟩ : Fin 134) := by
  unfold post; rw [after107]; exact .rfl
theorem pre108 (c : Dev nD) (t : Fin cfg0.N) : pre m c t (⟨108, by decide⟩ : Fin 134) ⊢ iprop(∃ d, owns (Val := Elt F) (c : Thread nD τ) (s108 t) fullShare d) :=
  exists_elim fun d => exists_intro ((dats m 0 c).before (⟨108, by decide⟩ : Fin 134) t d)
theorem post108 (c : Dev nD) (t : Fin cfg0.N) : owns (c : Thread nD τ) (s108 t) fullShare (out108 (b5 m c t) (b42 m c t)) ⊢ post m c t (⟨108, by decide⟩ : Fin 134) := by
  unfold post; rw [after108]; exact .rfl
theorem pre_outs6 (c : Dev nD) (t : Fin cfg0.N) : bigSepL [(⟨85, by decide⟩ : Fin 134), (⟨86, by decide⟩ : Fin 134), (⟨87, by decide⟩ : Fin 134), (⟨88, by decide⟩ : Fin 134)] (pre m c t) ⊢ any4 (F := F) c (s85 t) (s86 t) (s87 t) (s88 t) :=
  BIClass.sep_mono (pre85 m c t) (BIClass.sep_mono (pre86 m c t) (BIClass.sep_mono (pre87 m c t) (pre88 m c t)))
theorem post_outs6 (c : Dev nD) (t : Fin cfg0.N) : outs4 c (s85 t) (s86 t) (s87 t) (s88 t) (out85 (b2 m c t)) (out86 (b2 m c t) (b25 m c t) (b26 m c t) (b27 m c t)) (out87 (b2 m c t) (b26 m c t)) (out88 (b2 m c t) (b27 m c t)) ⊢ bigSepL [(⟨85, by decide⟩ : Fin 134), (⟨86, by decide⟩ : Fin 134), (⟨87, by decide⟩ : Fin 134), (⟨88, by decide⟩ : Fin 134)] (post m c t) :=
  BIClass.sep_mono (post85 m c t) (BIClass.sep_mono (post86 m c t) (BIClass.sep_mono (post87 m c t) (post88 m c t)))
theorem pre_outs7 (c : Dev nD) (t : Fin cfg0.N) : bigSepL [(⟨89, by decide⟩ : Fin 134), (⟨90, by decide⟩ : Fin 134), (⟨91, by decide⟩ : Fin 134), (⟨92, by decide⟩ : Fin 134)] (pre m c t) ⊢ any4 (F := F) c (s89 t) (s90 t) (s91 t) (s92 t) :=
  BIClass.sep_mono (pre89 m c t) (BIClass.sep_mono (pre90 m c t) (BIClass.sep_mono (pre91 m c t) (pre92 m c t)))
theorem post_outs7 (c : Dev nD) (t : Fin cfg0.N) : outs4 c (s89 t) (s90 t) (s91 t) (s92 t) (out89 (b3 m c t)) (out90 (b3 m c t) (b28 m c t) (b29 m c t) (b30 m c t)) (out91 (b3 m c t) (b29 m c t)) (out92 (b3 m c t) (b30 m c t)) ⊢ bigSepL [(⟨89, by decide⟩ : Fin 134), (⟨90, by decide⟩ : Fin 134), (⟨91, by decide⟩ : Fin 134), (⟨92, by decide⟩ : Fin 134)] (post m c t) :=
  BIClass.sep_mono (post89 m c t) (BIClass.sep_mono (post90 m c t) (BIClass.sep_mono (post91 m c t) (post92 m c t)))
theorem pre_outs8 (c : Dev nD) (t : Fin cfg0.N) : bigSepL [(⟨93, by decide⟩ : Fin 134), (⟨94, by decide⟩ : Fin 134), (⟨95, by decide⟩ : Fin 134), (⟨96, by decide⟩ : Fin 134)] (pre m c t) ⊢ any4 (F := F) c (s93 t) (s94 t) (s95 t) (s96 t) :=
  BIClass.sep_mono (pre93 m c t) (BIClass.sep_mono (pre94 m c t) (BIClass.sep_mono (pre95 m c t) (pre96 m c t)))
theorem post_outs8 (c : Dev nD) (t : Fin cfg0.N) : outs4 c (s93 t) (s94 t) (s95 t) (s96 t) (out93 (b4 m c t)) (out94 (b4 m c t) (b31 m c t) (b32 m c t) (b33 m c t)) (out95 (b4 m c t) (b32 m c t)) (out96 (b4 m c t) (b33 m c t)) ⊢ bigSepL [(⟨93, by decide⟩ : Fin 134), (⟨94, by decide⟩ : Fin 134), (⟨95, by decide⟩ : Fin 134), (⟨96, by decide⟩ : Fin 134)] (post m c t) :=
  BIClass.sep_mono (post93 m c t) (BIClass.sep_mono (post94 m c t) (BIClass.sep_mono (post95 m c t) (post96 m c t)))
theorem pre_outs9 (c : Dev nD) (t : Fin cfg0.N) : bigSepL [(⟨97, by decide⟩ : Fin 134), (⟨98, by decide⟩ : Fin 134), (⟨99, by decide⟩ : Fin 134), (⟨100, by decide⟩ : Fin 134)] (pre m c t) ⊢ any4 (F := F) c (s97 t) (s98 t) (s99 t) (s100 t) :=
  BIClass.sep_mono (pre97 m c t) (BIClass.sep_mono (pre98 m c t) (BIClass.sep_mono (pre99 m c t) (pre100 m c t)))
theorem post_outs9 (c : Dev nD) (t : Fin cfg0.N) : outs4 c (s97 t) (s98 t) (s99 t) (s100 t) (out97 (b4 m c t)) (out98 (b4 m c t) (b34 m c t) (b35 m c t) (b36 m c t)) (out99 (b4 m c t) (b35 m c t)) (out100 (b4 m c t) (b36 m c t)) ⊢ bigSepL [(⟨97, by decide⟩ : Fin 134), (⟨98, by decide⟩ : Fin 134), (⟨99, by decide⟩ : Fin 134), (⟨100, by decide⟩ : Fin 134)] (post m c t) :=
  BIClass.sep_mono (post97 m c t) (BIClass.sep_mono (post98 m c t) (BIClass.sep_mono (post99 m c t) (post100 m c t)))
theorem pre_outs10 (c : Dev nD) (t : Fin cfg0.N) : bigSepL [(⟨101, by decide⟩ : Fin 134), (⟨102, by decide⟩ : Fin 134), (⟨103, by decide⟩ : Fin 134), (⟨104, by decide⟩ : Fin 134)] (pre m c t) ⊢ any4 (F := F) c (s101 t) (s102 t) (s103 t) (s104 t) :=
  BIClass.sep_mono (pre101 m c t) (BIClass.sep_mono (pre102 m c t) (BIClass.sep_mono (pre103 m c t) (pre104 m c t)))
theorem post_outs10 (c : Dev nD) (t : Fin cfg0.N) : outs4 c (s101 t) (s102 t) (s103 t) (s104 t) (out101 (b4 m c t)) (out102 (b4 m c t) (b37 m c t) (b38 m c t) (b39 m c t)) (out103 (b4 m c t) (b38 m c t)) (out104 (b4 m c t) (b39 m c t)) ⊢ bigSepL [(⟨101, by decide⟩ : Fin 134), (⟨102, by decide⟩ : Fin 134), (⟨103, by decide⟩ : Fin 134), (⟨104, by decide⟩ : Fin 134)] (post m c t) :=
  BIClass.sep_mono (post101 m c t) (BIClass.sep_mono (post102 m c t) (BIClass.sep_mono (post103 m c t) (post104 m c t)))
theorem pre_outs11 (c : Dev nD) (t : Fin cfg0.N) : bigSepL [(⟨105, by decide⟩ : Fin 134), (⟨106, by decide⟩ : Fin 134), (⟨107, by decide⟩ : Fin 134), (⟨108, by decide⟩ : Fin 134)] (pre m c t) ⊢ any4 (F := F) c (s105 t) (s106 t) (s107 t) (s108 t) :=
  BIClass.sep_mono (pre105 m c t) (BIClass.sep_mono (pre106 m c t) (BIClass.sep_mono (pre107 m c t) (pre108 m c t)))
theorem post_outs11 (c : Dev nD) (t : Fin cfg0.N) : outs4 c (s105 t) (s106 t) (s107 t) (s108 t) (out105 (b5 m c t)) (out106 (b5 m c t) (b40 m c t) (b41 m c t) (b42 m c t)) (out107 (b5 m c t) (b41 m c t)) (out108 (b5 m c t) (b42 m c t)) ⊢ bigSepL [(⟨105, by decide⟩ : Fin 134), (⟨106, by decide⟩ : Fin 134), (⟨107, by decide⟩ : Fin 134), (⟨108, by decide⟩ : Fin 134)] (post m c t) :=
  BIClass.sep_mono (post105 m c t) (BIClass.sep_mono (post106 m c t) (BIClass.sep_mono (post107 m c t) (post108 m c t)))

end Cert.AdamSmallIdeal.Body

end
-- ==== Proof.AdamSmall.Win5.lean ====
module

public import proofs.«01_k».proof.Proof.AdamSmall.Stage
public import Idealize.ShloMosaic.Lib.Pipeline.FrameBody
public import Idealize.ShloMosaic.Lib.Claim
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.AdamSmallIdeal.Body

open Idealize.ShloMosaic Idealize.ShloMosaic.TcCoe Idealize.ShloMosaic.Tactic
open Cert.AdamSmallIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep)

theorem pre109 (c : Dev nD) (t : Fin cfg0.N) : pre m c t (⟨109, by decide⟩ : Fin 134) ⊢ iprop(∃ d, owns (Val := Elt F) (c : Thread nD τ) (s109 t) fullShare d) :=
  exists_elim fun d => exists_intro ((dats m 0 c).before (⟨109, by decide⟩ : Fin 134) t d)
theorem post109 (c : Dev nD) (t : Fin cfg0.N) : owns (c : Thread nD τ) (s109 t) fullShare (out109 (b5 m c t)) ⊢ post m c t (⟨109, by decide⟩ : Fin 134) := by
  unfold post; rw [after109]; exact .rfl
theorem pre110 (c : Dev nD) (t : Fin cfg0.N) : pre m c t (⟨110, by decide⟩ : Fin 134) ⊢ iprop(∃ d, owns (Val := Elt F) (c : Thread nD τ) (s110 t) fullShare d) :=
  exists_elim fun d => exists_intro ((dats m 0 c).before (⟨110, by decide⟩ : Fin 134) t d)
theorem post110 (c : Dev nD) (t : Fin cfg0.N) : owns (c : Thread nD τ) (s110 t) fullShare (out110 (b5 m c t) (b43 m c t) (b44 m c t) (b45 m c t)) ⊢ post m c t (⟨110, by decide⟩ : Fin 134) := by
  unfold post; rw [after110]; exact .rfl
theorem pre111 (c : Dev nD) (t : Fin cfg0.N) : pre m c t (⟨111, by decide⟩ : Fin 134) ⊢ iprop(∃ d, owns (Val := Elt F) (c : Thread nD τ) (s111 t) fullShare d) :=
  exists_elim fun d => exists_intro ((dats m 0 c).before (⟨111, by decide⟩ : Fin 134) t d)
theorem post111 (c : Dev nD) (t : Fin cfg0.N) : owns (c : Thread nD τ) (s111 t) fullShare (out111 (b5 m c t) (b44 m c t)) ⊢ post m c t (⟨111, by decide⟩ : Fin 134) := by
  unfold post; rw [after111]; exact .rfl
theorem pre112 (c : Dev nD) (t : Fin cfg0.N) : pre m c t (⟨112, by decide⟩ : Fin 134) ⊢ iprop(∃ d, owns (Val := Elt F) (c : Thread nD τ) (s112 t) fullShare d) :=
  exists_elim fun d => exists_intro ((dats m 0 c).before (⟨112, by decide⟩ : Fin 134) t d)
theorem post112 (c : Dev nD) (t : Fin cfg0.N) : owns (c : Thread nD τ) (s112 t) fullShare (out112 (b5 m c t) (b45 m c t)) ⊢ post m c t (⟨112, by decide⟩ : Fin 134) := by
  unfold post; rw [after112]; exact .rfl
theorem pre113 (c : Dev nD) (t : Fin cfg0.N) : pre m c t (⟨113, by decide⟩ : Fin 134) ⊢ iprop(∃ d, owns (Val := Elt F) (c : Thread nD τ) (s113 t) fullShare d) :=
  exists_elim fun d => exists_intro ((dats m 0 c).before (⟨113, by decide⟩ : Fin 134) t d)
theorem post113 (c : Dev nD) (t : Fin cfg0.N) : owns (c : Thread nD τ) (s113 t) fullShare (out113 (b5 m c t)) ⊢ post m c t (⟨113, by decide⟩ : Fin 134) := by
  unfold post; rw [after113]; exact .rfl
theorem pre114 (c : Dev nD) (t : Fin cfg0.N) : pre m c t (⟨114, by decide⟩ : Fin 134) ⊢ iprop(∃ d, owns (Val := Elt F) (c : Thread nD τ) (s114 t) fullShare d) :=
  exists_elim fun d => exists_intro ((dats m 0 c).before (⟨114, by decide⟩ : Fin 134) t d)
theorem post114 (c : Dev nD) (t : Fin cfg0.N) : owns (c : Thread nD τ) (s114 t) fullShare (out114 (b5 m c t) (b46 m c t) (b47 m c t) (b48 m c t)) ⊢ post m c t (⟨114, by decide⟩ : Fin 134) := by
  unfold post; rw [after114]; exact .rfl
theorem pre115 (c : Dev nD) (t : Fin cfg0.N) : pre m c t (⟨115, by decide⟩ : Fin 134) ⊢ iprop(∃ d, owns (Val := Elt F) (c : Thread nD τ) (s115 t) fullShare d) :=
  exists_elim fun d => exists_intro ((dats m 0 c).before (⟨115, by decide⟩ : Fin 134) t d)
theorem post115 (c : Dev nD) (t : Fin cfg0.N) : owns (c : Thread nD τ) (s115 t) fullShare (out115 (b5 m c t) (b47 m c t)) ⊢ post m c t (⟨115, by decide⟩ : Fin 134) := by
  unfold post; rw [after115]; exact .rfl
theorem pre116 (c : Dev nD) (t : Fin cfg0.N) : pre m c t (⟨116, by decide⟩ : Fin 134) ⊢ iprop(∃ d, owns (Val := Elt F) (c : Thread nD τ) (s116 t) fullShare d) :=
  exists_elim fun d => exists_intro ((dats m 0 c).before (⟨116, by decide⟩ : Fin 134) t d)
theorem post116 (c : Dev nD) (t : Fin cfg0.N) : owns (c : Thread nD τ) (s116 t) fullShare (out116 (b5 m c t) (b48 m c t)) ⊢ post m c t (⟨116, by decide⟩ : Fin 134) := by
  unfold post; rw [after116]; exact .rfl
theorem pre117 (c : Dev nD) (t : Fin cfg0.N) : pre m c t (⟨117, by decide⟩ : Fin 134) ⊢ iprop(∃ d, owns (Val := Elt F) (c : Thread nD τ) (s117 t) fullShare d) :=
  exists_elim fun d => exists_intro ((dats m 0 c).before (⟨117, by decide⟩ : Fin 134) t d)
theorem post117 (c : Dev nD) (t : Fin cfg0.N) : owns (c : Thread nD τ) (s117 t) fullShare (out117 (b5 m c t)) ⊢ post m c t (⟨117, by decide⟩ : Fin 134) := by
  unfold post; rw [after117]; exact .rfl
theorem pre118 (c : Dev nD) (t : Fin cfg0.N) : pre m c t (⟨118, by decide⟩ : Fin 134) ⊢ iprop(∃ d, owns (Val := Elt F) (c : Thread nD τ) (s118 t) fullShare d) :=
  exists_elim fun d => exists_intro ((dats m 0 c).before (⟨118, by decide⟩ : Fin 134) t d)
theorem post118 (c : Dev nD) (t : Fin cfg0.N) : owns (c : Thread nD τ) (s118 t) fullShare (out118 (b5 m c t) (b49 m c t) (b50 m c t) (b51 m c t)) ⊢ post m c t (⟨118, by decide⟩ : Fin 134) := by
  unfold post; rw [after118]; exact .rfl
theorem pre119 (c : Dev nD) (t : Fin cfg0.N) : pre m c t (⟨119, by decide⟩ : Fin 134) ⊢ iprop(∃ d, owns (Val := Elt F) (c : Thread nD τ) (s119 t) fullShare d) :=
  exists_elim fun d => exists_intro ((dats m 0 c).before (⟨119, by decide⟩ : Fin 134) t d)
theorem post119 (c : Dev nD) (t : Fin cfg0.N) : owns (c : Thread nD τ) (s119 t) fullShare (out119 (b5 m c t) (b50 m c t)) ⊢ post m c t (⟨119, by decide⟩ : Fin 134) := by
  unfold post; rw [after119]; exact .rfl
theorem pre120 (c : Dev nD) (t : Fin cfg0.N) : pre m c t (⟨120, by decide⟩ : Fin 134) ⊢ iprop(∃ d, owns (Val := Elt F) (c : Thread nD τ) (s120 t) fullShare d) :=
  exists_elim fun d => exists_intro ((dats m 0 c).before (⟨120, by decide⟩ : Fin 134) t d)
theorem post120 (c : Dev nD) (t : Fin cfg0.N) : owns (c : Thread nD τ) (s120 t) fullShare (out120 (b5 m c t) (b51 m c t)) ⊢ post m c t (⟨120, by decide⟩ : Fin 134) := by
  unfold post; rw [after120]; exact .rfl
theorem pre121 (c : Dev nD) (t : Fin cfg0.N) : pre m c t (⟨121, by decide⟩ : Fin 134) ⊢ iprop(∃ d, owns (Val := Elt F) (c : Thread nD τ) (s121 t) fullShare d) :=
  exists_elim fun d => exists_intro ((dats m 0 c).before (⟨121, by decide⟩ : Fin 134) t d)
theorem post121 (c : Dev nD) (t : Fin cfg0.N) : owns (c : Thread nD τ) (s121 t) fullShare (out121 (b5 m c t)) ⊢ post m c t (⟨121, by decide⟩ : Fin 134) := by
  unfold post; rw [after121]; exact .rfl
theorem pre122 (c : Dev nD) (t : Fin cfg0.N) : pre m c t (⟨122, by decide⟩ : Fin 134) ⊢ iprop(∃ d, owns (Val := Elt F) (c : Thread nD τ) (s122 t) fullShare d) :=
  exists_elim fun d => exists_intro ((dats m 0 c).before (⟨122, by decide⟩ : Fin 134) t d)
theorem post122 (c : Dev nD) (t : Fin cfg0.N) : owns (c : Thread nD τ) (s122 t) fullShare (out122 (b5 m c t) (b52 m c t) (b53 m c t) (b54 m c t)) ⊢ post m c t (⟨122, by decide⟩ : Fin 134) := by
  unfold post; rw [after122]; exact .rfl
theorem pre123 (c : Dev nD) (t : Fin cfg0.N) : pre m c t (⟨123, by decide⟩ : Fin 134) ⊢ iprop(∃ d, owns (Val := Elt F) (c : Thread nD τ) (s123 t) fullShare d) :=
  exists_elim fun d => exists_intro ((dats m 0 c).before (⟨123, by decide⟩ : Fin 134) t d)
theorem post123 (c : Dev nD) (t : Fin cfg0.N) : owns (c : Thread nD τ) (s123 t) fullShare (out123 (b5 m c t) (b53 m c t)) ⊢ post m c t (⟨123, by decide⟩ : Fin 134) := by
  unfold post; rw [after123]; exact .rfl
theorem pre124 (c : Dev nD) (t : Fin cfg0.N) : pre m c t (⟨124, by decide⟩ : Fin 134) ⊢ iprop(∃ d, owns (Val := Elt F) (c : Thread nD τ) (s124 t) fullShare d) :=
  exists_elim fun d => exists_intro ((dats m 0 c).before (⟨124, by decide⟩ : Fin 134) t d)
theorem post124 (c : Dev nD) (t : Fin cfg0.N) : owns (c : Thread nD τ) (s124 t) fullShare (out124 (b5 m c t) (b54 m c t)) ⊢ post m c t (⟨124, by decide⟩ : Fin 134) := by
  unfold post; rw [after124]; exact .rfl
theorem pre125 (c : Dev nD) (t : Fin cfg0.N) : pre m c t (⟨125, by decide⟩ : Fin 134) ⊢ iprop(∃ d, owns (Val := Elt F) (c : Thread nD τ) (s125 t) fullShare d) :=
  exists_elim fun d => exists_intro ((dats m 0 c).before (⟨125, by decide⟩ : Fin 134) t d)
theorem post125 (c : Dev nD) (t : Fin cfg0.N) : owns (c : Thread nD τ) (s125 t) fullShare (out125 (b5 m c t)) ⊢ post m c t (⟨125, by decide⟩ : Fin 134) := by
  unfold post; rw [after125]; exact .rfl
theorem pre126 (c : Dev nD) (t : Fin cfg0.N) : pre m c t (⟨126, by decide⟩ : Fin 134) ⊢ iprop(∃ d, owns (Val := Elt F) (c : Thread nD τ) (s126 t) fullShare d) :=
  exists_elim fun d => exists_intro ((dats m 0 c).before (⟨126, by decide⟩ : Fin 134) t d)
theorem post126 (c : Dev nD) (t : Fin cfg0.N) : owns (c : Thread nD τ) (s126 t) fullShare (out126 (b5 m c t) (b55 m c t) (b56 m c t) (b57 m c t)) ⊢ post m c t (⟨126, by decide⟩ : Fin 134) := by
  unfold post; rw [after126]; exact .rfl
theorem pre127 (c : Dev nD) (t : Fin cfg0.N) : pre m c t (⟨127, by decide⟩ : Fin 134) ⊢ iprop(∃ d, owns (Val := Elt F) (c : Thread nD τ) (s127 t) fullShare d) :=
  exists_elim fun d => exists_intro ((dats m 0 c).before (⟨127, by decide⟩ : Fin 134) t d)
theorem post127 (c : Dev nD) (t : Fin cfg0.N) : owns (c : Thread nD τ) (s127 t) fullShare (out127 (b5 m c t) (b56 m c t)) ⊢ post m c t (⟨127, by decide⟩ : Fin 134) := by
  unfold post; rw [after127]; exact .rfl
theorem pre128 (c : Dev nD) (t : Fin cfg0.N) : pre m c t (⟨128, by decide⟩ : Fin 134) ⊢ iprop(∃ d, owns (Val := Elt F) (c : Thread nD τ) (s128 t) fullShare d) :=
  exists_elim fun d => exists_intro ((dats m 0 c).before (⟨128, by decide⟩ : Fin 134) t d)
theorem post128 (c : Dev nD) (t : Fin cfg0.N) : owns (c : Thread nD τ) (s128 t) fullShare (out128 (b5 m c t) (b57 m c t)) ⊢ post m c t (⟨128, by decide⟩ : Fin 134) := by
  unfold post; rw [after128]; exact .rfl
theorem pre129 (c : Dev nD) (t : Fin cfg0.N) : pre m c t (⟨129, by decide⟩ : Fin 134) ⊢ iprop(∃ d, owns (Val := Elt F) (c : Thread nD τ) (s129 t) fullShare d) :=
  exists_elim fun d => exists_intro ((dats m 0 c).before (⟨129, by decide⟩ : Fin 134) t d)
theorem post129 (c : Dev nD) (t : Fin cfg0.N) : owns (c : Thread nD τ) (s129 t) fullShare (out129 (b5 m c t)) ⊢ post m c t (⟨129, by decide⟩ : Fin 134) := by
  unfold post; rw [after129]; exact .rfl
theorem pre130 (c : Dev nD) (t : Fin cfg0.N) : pre m c t (⟨130, by decide⟩ : Fin 134) ⊢ iprop(∃ d, owns (Val := Elt F) (c : Thread nD τ) (s130 t) fullShare d) :=
  exists_elim fun d => exists_intro ((dats m 0 c).before (⟨130, by decide⟩ : Fin 134) t d)
theorem post130 (c : Dev nD) (t : Fin cfg0.N) : owns (c : Thread nD τ) (s130 t) fullShare (out130 (b5 m c t) (b58 m c t) (b59 m c t) (b60 m c t)) ⊢ post m c t (⟨130, by decide⟩ : Fin 134) := by
  unfold post; rw [after130]; exact .rfl
theorem pre131 (c : Dev nD) (t : Fin cfg0.N) : pre m c t (⟨131, by decide⟩ : Fin 134) ⊢ iprop(∃ d, owns (Val := Elt F) (c : Thread nD τ) (s131 t) fullShare d) :=
  exists_elim fun d => exists_intro ((dats m 0 c).before (⟨131, by decide⟩ : Fin 134) t d)
theorem post131 (c : Dev nD) (t : Fin cfg0.N) : owns (c : Thread nD τ) (s131 t) fullShare (out131 (b5 m c t) (b59 m c t)) ⊢ post m c t (⟨131, by decide⟩ : Fin 134) := by
  unfold post; rw [after131]; exact .rfl
theorem pre132 (c : Dev nD) (t : Fin cfg0.N) : pre m c t (⟨132, by decide⟩ : Fin 134) ⊢ iprop(∃ d, owns (Val := Elt F) (c : Thread nD τ) (s132 t) fullShare d) :=
  exists_elim fun d => exists_intro ((dats m 0 c).before (⟨132, by decide⟩ : Fin 134) t d)
theorem post132 (c : Dev nD) (t : Fin cfg0.N) : owns (c : Thread nD τ) (s132 t) fullShare (out132 (b5 m c t) (b60 m c t)) ⊢ post m c t (⟨132, by decide⟩ : Fin 134) := by
  unfold post; rw [after132]; exact .rfl
theorem pre_outs12 (c : Dev nD) (t : Fin cfg0.N) : bigSepL [(⟨109, by decide⟩ : Fin 134), (⟨110, by decide⟩ : Fin 134), (⟨111, by decide⟩ : Fin 134), (⟨112, by decide⟩ : Fin 134)] (pre m c t) ⊢ any4 (F := F) c (s109 t) (s110 t) (s111 t) (s112 t) :=
  BIClass.sep_mono (pre109 m c t) (BIClass.sep_mono (pre110 m c t) (BIClass.sep_mono (pre111 m c t) (pre112 m c t)))
theorem post_outs12 (c : Dev nD) (t : Fin cfg0.N) : outs4 c (s109 t) (s110 t) (s111 t) (s112 t) (out109 (b5 m c t)) (out110 (b5 m c t) (b43 m c t) (b44 m c t) (b45 m c t)) (out111 (b5 m c t) (b44 m c t)) (out112 (b5 m c t) (b45 m c t)) ⊢ bigSepL [(⟨109, by decide⟩ : Fin 134), (⟨110, by decide⟩ : Fin 134), (⟨111, by decide⟩ : Fin 134), (⟨112, by decide⟩ : Fin 134)] (post m c t) :=
  BIClass.sep_mono (post109 m c t) (BIClass.sep_mono (post110 m c t) (BIClass.sep_mono (post111 m c t) (post112 m c t)))
theorem pre_outs13 (c : Dev nD) (t : Fin cfg0.N) : bigSepL [(⟨113, by decide⟩ : Fin 134), (⟨114, by decide⟩ : Fin 134), (⟨115, by decide⟩ : Fin 134), (⟨116, by decide⟩ : Fin 134)] (pre m c t) ⊢ any4 (F := F) c (s113 t) (s114 t) (s115 t) (s116 t) :=
  BIClass.sep_mono (pre113 m c t) (BIClass.sep_mono (pre114 m c t) (BIClass.sep_mono (pre115 m c t) (pre116 m c t)))
theorem post_outs13 (c : Dev nD) (t : Fin cfg0.N) : outs4 c (s113 t) (s114 t) (s115 t) (s116 t) (out113 (b5 m c t)) (out114 (b5 m c t) (b46 m c t) (b47 m c t) (b48 m c t)) (out115 (b5 m c t) (b47 m c t)) (out116 (b5 m c t) (b48 m c t)) ⊢ bigSepL [(⟨113, by decide⟩ : Fin 134), (⟨114, by decide⟩ : Fin 134), (⟨115, by decide⟩ : Fin 134), (⟨116, by decide⟩ : Fin 134)] (post m c t) :=
  BIClass.sep_mono (post113 m c t) (BIClass.sep_mono (post114 m c t) (BIClass.sep_mono (post115 m c t) (post116 m c t)))
theorem pre_outs14 (c : Dev nD) (t : Fin cfg0.N) : bigSepL [(⟨117, by decide⟩ : Fin 134), (⟨118, by decide⟩ : Fin 134), (⟨119, by decide⟩ : Fin 134), (⟨120, by decide⟩ : Fin 134)] (pre m c t) ⊢ any4 (F := F) c (s117 t) (s118 t) (s119 t) (s120 t) :=
  BIClass.sep_mono (pre117 m c t) (BIClass.sep_mono (pre118 m c t) (BIClass.sep_mono (pre119 m c t) (pre120 m c t)))
theorem post_outs14 (c : Dev nD) (t : Fin cfg0.N) : outs4 c (s117 t) (s118 t) (s119 t) (s120 t) (out117 (b5 m c t)) (out118 (b5 m c t) (b49 m c t) (b50 m c t) (b51 m c t)) (out119 (b5 m c t) (b50 m c t)) (out120 (b5 m c t) (b51 m c t)) ⊢ bigSepL [(⟨117, by decide⟩ : Fin 134), (⟨118, by decide⟩ : Fin 134), (⟨119, by decide⟩ : Fin 134), (⟨120, by decide⟩ : Fin 134)] (post m c t) :=
  BIClass.sep_mono (post117 m c t) (BIClass.sep_mono (post118 m c t) (BIClass.sep_mono (post119 m c t) (post120 m c t)))
theorem pre_outs15 (c : Dev nD) (t : Fin cfg0.N) : bigSepL [(⟨121, by decide⟩ : Fin 134), (⟨122, by decide⟩ : Fin 134), (⟨123, by decide⟩ : Fin 134), (⟨124, by decide⟩ : Fin 134)] (pre m c t) ⊢ any4 (F := F) c (s121 t) (s122 t) (s123 t) (s124 t) :=
  BIClass.sep_mono (pre121 m c t) (BIClass.sep_mono (pre122 m c t) (BIClass.sep_mono (pre123 m c t) (pre124 m c t)))
theorem post_outs15 (c : Dev nD) (t : Fin cfg0.N) : outs4 c (s121 t) (s122 t) (s123 t) (s124 t) (out121 (b5 m c t)) (out122 (b5 m c t) (b52 m c t) (b53 m c t) (b54 m c t)) (out123 (b5 m c t) (b53 m c t)) (out124 (b5 m c t) (b54 m c t)) ⊢ bigSepL [(⟨121, by decide⟩ : Fin 134), (⟨122, by decide⟩ : Fin 134), (⟨123, by decide⟩ : Fin 134), (⟨124, by decide⟩ : Fin 134)] (post m c t) :=
  BIClass.sep_mono (post121 m c t) (BIClass.sep_mono (post122 m c t) (BIClass.sep_mono (post123 m c t) (post124 m c t)))
theorem pre_outs16 (c : Dev nD) (t : Fin cfg0.N) : bigSepL [(⟨125, by decide⟩ : Fin 134), (⟨126, by decide⟩ : Fin 134), (⟨127, by decide⟩ : Fin 134), (⟨128, by decide⟩ : Fin 134)] (pre m c t) ⊢ any4 (F := F) c (s125 t) (s126 t) (s127 t) (s128 t) :=
  BIClass.sep_mono (pre125 m c t) (BIClass.sep_mono (pre126 m c t) (BIClass.sep_mono (pre127 m c t) (pre128 m c t)))
theorem post_outs16 (c : Dev nD) (t : Fin cfg0.N) : outs4 c (s125 t) (s126 t) (s127 t) (s128 t) (out125 (b5 m c t)) (out126 (b5 m c t) (b55 m c t) (b56 m c t) (b57 m c t)) (out127 (b5 m c t) (b56 m c t)) (out128 (b5 m c t) (b57 m c t)) ⊢ bigSepL [(⟨125, by decide⟩ : Fin 134), (⟨126, by decide⟩ : Fin 134), (⟨127, by decide⟩ : Fin 134), (⟨128, by decide⟩ : Fin 134)] (post m c t) :=
  BIClass.sep_mono (post125 m c t) (BIClass.sep_mono (post126 m c t) (BIClass.sep_mono (post127 m c t) (post128 m c t)))
theorem pre_outs17 (c : Dev nD) (t : Fin cfg0.N) : bigSepL [(⟨129, by decide⟩ : Fin 134), (⟨130, by decide⟩ : Fin 134), (⟨131, by decide⟩ : Fin 134), (⟨132, by decide⟩ : Fin 134)] (pre m c t) ⊢ any4 (F := F) c (s129 t) (s130 t) (s131 t) (s132 t) :=
  BIClass.sep_mono (pre129 m c t) (BIClass.sep_mono (pre130 m c t) (BIClass.sep_mono (pre131 m c t) (pre132 m c t)))
theorem post_outs17 (c : Dev nD) (t : Fin cfg0.N) : outs4 c (s129 t) (s130 t) (s131 t) (s132 t) (out129 (b5 m c t)) (out130 (b5 m c t) (b58 m c t) (b59 m c t) (b60 m c t)) (out131 (b5 m c t) (b59 m c t)) (out132 (b5 m c t) (b60 m c t)) ⊢ bigSepL [(⟨129, by decide⟩ : Fin 134), (⟨130, by decide⟩ : Fin 134), (⟨131, by decide⟩ : Fin 134), (⟨132, by decide⟩ : Fin 134)] (post m c t) :=
  BIClass.sep_mono (post129 m c t) (BIClass.sep_mono (post130 m c t) (BIClass.sep_mono (post131 m c t) (post132 m c t)))
theorem pre133 (c : Dev nD) (t : Fin cfg0.N) : pre m c t (⟨133, by decide⟩ : Fin 134) ⊢ iprop(∃ d, owns (Val := Elt F) (c : Thread nD τ) (s133 t) fullShare d) :=
  exists_elim fun d => exists_intro ((dats m 0 c).before (⟨133, by decide⟩ : Fin 134) t d)
theorem post133 (c : Dev nD) (t : Fin cfg0.N) : owns (c : Thread nD τ) (s133 t) fullShare (out133 (b6 m c t)) ⊢ post m c t (⟨133, by decide⟩ : Fin 134) := by
  unfold post; rw [after133]; exact .rfl

end Cert.AdamSmallIdeal.Body

end
-- ==== Proof.AdamSmall.Frame.lean ====
module

public import proofs.«01_k».proof.Proof.AdamSmall.Stage
public import proofs.«01_k».proof.Proof.AdamSmall.Body
public import proofs.«01_k».proof.Proof.AdamSmall.Win0
public import proofs.«01_k».proof.Proof.AdamSmall.Win1
public import proofs.«01_k».proof.Proof.AdamSmall.Win2
public import proofs.«01_k».proof.Proof.AdamSmall.Win3
public import proofs.«01_k».proof.Proof.AdamSmall.Win4
public import proofs.«01_k».proof.Proof.AdamSmall.Win5
public import Idealize.ShloMosaic.Lib.Pipeline.FrameBody
public import Idealize.ShloMosaic.Lib.Claim
public import Idealize.ShloMosaic.Lib.Pipeline.BigSepL
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.AdamSmallIdeal.Body

open Idealize.ShloMosaic Idealize.ShloMosaic.TcCoe Idealize.ShloMosaic.Tactic
open Cert.AdamSmallIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.SL.BI (bigSepL bigSep bigSepL_append)

/-- The buffers the body is called with, weight by weight, -/
def preAll (c : Dev nD) (t : Fin cfg0.N) : sProp 𝕄 :=
  iprop(srcs7 c (s0 t) (s1 t) (s2 t) (s3 t) (s4 t) (s5 t) (s6 t) (b0 m c t) (b1 m c t) (b2 m c t) (b3 m c t) (b4 m c t) (b5 m c t) (b6 m c t)
        ∗ ins3 c (s7 t) (s8 t) (s9 t) (b7 m c t) (b8 m c t) (b9 m c t)
        ∗ ins3 c (s10 t) (s11 t) (s12 t) (b10 m c t) (b11 m c t) (b12 m c t)
        ∗ ins3 c (s13 t) (s14 t) (s15 t) (b13 m c t) (b14 m c t) (b15 m c t)
        ∗ ins3 c (s16 t) (s17 t) (s18 t) (b16 m c t) (b17 m c t) (b18 m c t)
        ∗ ins3 c (s19 t) (s20 t) (s21 t) (b19 m c t) (b20 m c t) (b21 m c t)
        ∗ ins3 c (s22 t) (s23 t) (s24 t) (b22 m c t) (b23 m c t) (b24 m c t)
        ∗ ins3 c (s25 t) (s26 t) (s27 t) (b25 m c t) (b26 m c t) (b27 m c t)
        ∗ ins3 c (s28 t) (s29 t) (s30 t) (b28 m c t) (b29 m c t) (b30 m c t)
        ∗ ins3 c (s31 t) (s32 t) (s33 t) (b31 m c t) (b32 m c t) (b33 m c t)
        ∗ ins3 c (s34 t) (s35 t) (s36 t) (b34 m c t) (b35 m c t) (b36 m c t)
        ∗ ins3 c (s37 t) (s38 t) (s39 t) (b37 m c t) (b38 m c t) (b39 m c t)
        ∗ ins3 c (s40 t) (s41 t) (s42 t) (b40 m c t) (b41 m c t) (b42 m c t)
        ∗ ins3 c (s43 t) (s44 t) (s45 t) (b43 m c t) (b44 m c t) (b45 m c t)
        ∗ ins3 c (s46 t) (s47 t) (s48 t) (b46 m c t) (b47 m c t) (b48 m c t)
        ∗ ins3 c (s49 t) (s50 t) (s51 t) (b49 m c t) (b50 m c t) (b51 m c t)
        ∗ ins3 c (s52 t) (s53 t) (s54 t) (b52 m c t) (b53 m c t) (b54 m c t)
        ∗ ins3 c (s55 t) (s56 t) (s57 t) (b55 m c t) (b56 m c t) (b57 m c t)
        ∗ ins3 c (s58 t) (s59 t) (s60 t) (b58 m c t) (b59 m c t) (b60 m c t)
        ∗ any4 (F := F) c (s61 t) (s62 t) (s63 t) (s64 t)
        ∗ any4 (F := F) c (s65 t) (s66 t) (s67 t) (s68 t)
        ∗ any4 (F := F) c (s69 t) (s70 t) (s71 t) (s72 t)
        ∗ any4 (F := F) c (s73 t) (s74 t) (s75 t) (s76 t)
        ∗ any4 (F := F) c (s77 t) (s78 t) (s79 t) (s80 t)
        ∗ any4 (F := F) c (s81 t) (s82 t) (s83 t) (s84 t)
        ∗ any4 (F := F) c (s85 t) (s86 t) (s87 t) (s88 t)
        ∗ any4 (F := F) c (s89 t) (s90 t) (s91 t) (s92 t)
        ∗ any4 (F := F) c (s93 t) (s94 t) (s95 t) (s96 t)
        ∗ any4 (F := F) c (s97 t) (s98 t) (s99 t) (s100 t)
        ∗ any4 (F := F) c (s101 t) (s102 t) (s103 t) (s104 t)
        ∗ any4 (F := F) c (s105 t) (s106 t) (s107 t) (s108 t)
        ∗ any4 (F := F) c (s109 t) (s110 t) (s111 t) (s112 t)
        ∗ any4 (F := F) c (s113 t) (s114 t) (s115 t) (s116 t)
        ∗ any4 (F := F) c (s117 t) (s118 t) (s119 t) (s120 t)
        ∗ any4 (F := F) c (s121 t) (s122 t) (s123 t) (s124 t)
        ∗ any4 (F := F) c (s125 t) (s126 t) (s127 t) (s128 t)
        ∗ any4 (F := F) c (s129 t) (s130 t) (s131 t) (s132 t)
        ∗ (∃ d, owns (Val := Elt F) (c : Thread nD τ) (s133 t) fullShare d))

/-- and those it returns. -/
def postAll (c : Dev nD) (t : Fin cfg0.N) : sProp 𝕄 :=
  iprop(srcs7 c (s0 t) (s1 t) (s2 t) (s3 t) (s4 t) (s5 t) (s6 t) (b0 m c t) (b1 m c t) (b2 m c t) (b3 m c t) (b4 m c t) (b5 m c t) (b6 m c t)
        ∗ ins3 c (s7 t) (s8 t) (s9 t) (b7 m c t) (b8 m c t) (b9 m c t)
        ∗ ins3 c (s10 t) (s11 t) (s12 t) (b10 m c t) (b11 m c t) (b12 m c t)
        ∗ ins3 c (s13 t) (s14 t) (s15 t) (b13 m c t) (b14 m c t) (b15 m c t)
        ∗ ins3 c (s16 t) (s17 t) (s18 t) (b16 m c t) (b17 m c t) (b18 m c t)
        ∗ ins3 c (s19 t) (s20 t) (s21 t) (b19 m c t) (b20 m c t) (b21 m c t)
        ∗ ins3 c (s22 t) (s23 t) (s24 t) (b22 m c t) (b23 m c t) (b24 m c t)
        ∗ ins3 c (s25 t) (s26 t) (s27 t) (b25 m c t) (b26 m c t) (b27 m c t)
        ∗ ins3 c (s28 t) (s29 t) (s30 t) (b28 m c t) (b29 m c t) (b30 m c t)
        ∗ ins3 c (s31 t) (s32 t) (s33 t) (b31 m c t) (b32 m c t) (b33 m c t)
        ∗ ins3 c (s34 t) (s35 t) (s36 t) (b34 m c t) (b35 m c t) (b36 m c t)
        ∗ ins3 c (s37 t) (s38 t) (s39 t) (b37 m c t) (b38 m c t) (b39 m c t)
        ∗ ins3 c (s40 t) (s41 t) (s42 t) (b40 m c t) (b41 m c t) (b42 m c t)
        ∗ ins3 c (s43 t) (s44 t) (s45 t) (b43 m c t) (b44 m c t) (b45 m c t)
        ∗ ins3 c (s46 t) (s47 t) (s48 t) (b46 m c t) (b47 m c t) (b48 m c t)
        ∗ ins3 c (s49 t) (s50 t) (s51 t) (b49 m c t) (b50 m c t) (b51 m c t)
        ∗ ins3 c (s52 t) (s53 t) (s54 t) (b52 m c t) (b53 m c t) (b54 m c t)
        ∗ ins3 c (s55 t) (s56 t) (s57 t) (b55 m c t) (b56 m c t) (b57 m c t)
        ∗ ins3 c (s58 t) (s59 t) (s60 t) (b58 m c t) (b59 m c t) (b60 m c t)
        ∗ outs4 c (s61 t) (s62 t) (s63 t) (s64 t) (out61 (b0 m c t)) (out62 (b0 m c t) (b7 m c t) (b8 m c t) (b9 m c t)) (out63 (b0 m c t) (b8 m c t)) (out64 (b0 m c t) (b9 m c t))
        ∗ outs4 c (s65 t) (s66 t) (s67 t) (s68 t) (out65 (b0 m c t)) (out66 (b0 m c t) (b10 m c t) (b11 m c t) (b12 m c t)) (out67 (b0 m c t) (b11 m c t)) (out68 (b0 m c t) (b12 m c t))
        ∗ outs4 c (s69 t) (s70 t) (s71 t) (s72 t) (out69 (b0 m c t)) (out70 (b0 m c t) (b13 m c t) (b14 m c t) (b15 m c t)) (out71 (b0 m c t) (b14 m c t)) (out72 (b0 m c t) (b15 m c t))
        ∗ outs4 c (s73 t) (s74 t) (s75 t) (s76 t) (out73 (b1 m c t)) (out74 (b1 m c t) (b16 m c t) (b17 m c t) (b18 m c t)) (out75 (b1 m c t) (b17 m c t)) (out76 (b1 m c t) (b18 m c t))
        ∗ outs4 c (s77 t) (s78 t) (s79 t) (s80 t) (out77 (b1 m c t)) (out78 (b1 m c t) (b19 m c t) (b20 m c t) (b21 m c t)) (out79 (b1 m c t) (b20 m c t)) (out80 (b1 m c t) (b21 m c t))
        ∗ outs4 c (s81 t) (s82 t) (s83 t) (s84 t) (out81 (b2 m c t)) (out82 (b2 m c t) (b22 m c t) (b23 m c t) (b24 m c t)) (out83 (b2 m c t) (b23 m c t)) (out84 (b2 m c t) (b24 m c t))
        ∗ outs4 c (s85 t) (s86 t) (s87 t) (s88 t) (out85 (b2 m c t)) (out86 (b2 m c t) (b25 m c t) (b26 m c t) (b27 m c t)) (out87 (b2 m c t) (b26 m c t)) (out88 (b2 m c t) (b27 m c t))
        ∗ outs4 c (s89 t) (s90 t) (s91 t) (s92 t) (out89 (b3 m c t)) (out90 (b3 m c t) (b28 m c t) (b29 m c t) (b30 m c t)) (out91 (b3 m c t) (b29 m c t)) (out92 (b3 m c t) (b30 m c t))
        ∗ outs4 c (s93 t) (s94 t) (s95 t) (s96 t) (out93 (b4 m c t)) (out94 (b4 m c t) (b31 m c t) (b32 m c t) (b33 m c t)) (out95 (b4 m c t) (b32 m c t)) (out96 (b4 m c t) (b33 m c t))
        ∗ outs4 c (s97 t) (s98 t) (s99 t) (s100 t) (out97 (b4 m c t)) (out98 (b4 m c t) (b34 m c t) (b35 m c t) (b36 m c t)) (out99 (b4 m c t) (b35 m c t)) (out100 (b4 m c t) (b36 m c t))
        ∗ outs4 c (s101 t) (s102 t) (s103 t) (s104 t) (out101 (b4 m c t)) (out102 (b4 m c t) (b37 m c t) (b38 m c t) (b39 m c t)) (out103 (b4 m c t) (b38 m c t)) (out104 (b4 m c t) (b39 m c t))
        ∗ outs4 c (s105 t) (s106 t) (s107 t) (s108 t) (out105 (b5 m c t)) (out106 (b5 m c t) (b40 m c t) (b41 m c t) (b42 m c t)) (out107 (b5 m c t) (b41 m c t)) (out108 (b5 m c t) (b42 m c t))
        ∗ outs4 c (s109 t) (s110 t) (s111 t) (s112 t) (out109 (b5 m c t)) (out110 (b5 m c t) (b43 m c t) (b44 m c t) (b45 m c t)) (out111 (b5 m c t) (b44 m c t)) (out112 (b5 m c t) (b45 m c t))
        ∗ outs4 c (s113 t) (s114 t) (s115 t) (s116 t) (out113 (b5 m c t)) (out114 (b5 m c t) (b46 m c t) (b47 m c t) (b48 m c t)) (out115 (b5 m c t) (b47 m c t)) (out116 (b5 m c t) (b48 m c t))
        ∗ outs4 c (s117 t) (s118 t) (s119 t) (s120 t) (out117 (b5 m c t)) (out118 (b5 m c t) (b49 m c t) (b50 m c t) (b51 m c t)) (out119 (b5 m c t) (b50 m c t)) (out120 (b5 m c t) (b51 m c t))
        ∗ outs4 c (s121 t) (s122 t) (s123 t) (s124 t) (out121 (b5 m c t)) (out122 (b5 m c t) (b52 m c t) (b53 m c t) (b54 m c t)) (out123 (b5 m c t) (b53 m c t)) (out124 (b5 m c t) (b54 m c t))
        ∗ outs4 c (s125 t) (s126 t) (s127 t) (s128 t) (out125 (b5 m c t)) (out126 (b5 m c t) (b55 m c t) (b56 m c t) (b57 m c t)) (out127 (b5 m c t) (b56 m c t)) (out128 (b5 m c t) (b57 m c t))
        ∗ outs4 c (s129 t) (s130 t) (s131 t) (s132 t) (out129 (b5 m c t)) (out130 (b5 m c t) (b58 m c t) (b59 m c t) (b60 m c t)) (out131 (b5 m c t) (b59 m c t)) (out132 (b5 m c t) (b60 m c t))
        ∗ owns (c : Thread nD τ) (s133 t) fullShare (out133 (b6 m c t)))

/-- The windows' list, weight by weight. -/
abbrev wins : List (Fin 134) := [(⟨0, by decide⟩ : Fin 134), (⟨1, by decide⟩ : Fin 134), (⟨2, by decide⟩ : Fin 134), (⟨3, by decide⟩ : Fin 134), (⟨4, by decide⟩ : Fin 134), (⟨5, by decide⟩ : Fin 134), (⟨6, by decide⟩ : Fin 134)] ++ ([(⟨7, by decide⟩ : Fin 134), (⟨8, by decide⟩ : Fin 134), (⟨9, by decide⟩ : Fin 134)] ++ ([(⟨10, by decide⟩ : Fin 134), (⟨11, by decide⟩ : Fin 134), (⟨12, by decide⟩ : Fin 134)] ++ ([(⟨13, by decide⟩ : Fin 134), (⟨14, by decide⟩ : Fin 134), (⟨15, by decide⟩ : Fin 134)] ++ ([(⟨16, by decide⟩ : Fin 134), (⟨17, by decide⟩ : Fin 134), (⟨18, by decide⟩ : Fin 134)] ++ ([(⟨19, by decide⟩ : Fin 134), (⟨20, by decide⟩ : Fin 134), (⟨21, by decide⟩ : Fin 134)] ++ ([(⟨22, by decide⟩ : Fin 134), (⟨23, by decide⟩ : Fin 134), (⟨24, by decide⟩ : Fin 134)] ++ ([(⟨25, by decide⟩ : Fin 134), (⟨26, by decide⟩ : Fin 134), (⟨27, by decide⟩ : Fin 134)] ++ ([(⟨28, by decide⟩ : Fin 134), (⟨29, by decide⟩ : Fin 134), (⟨30, by decide⟩ : Fin 134)] ++ ([(⟨31, by decide⟩ : Fin 134), (⟨32, by decide⟩ : Fin 134), (⟨33, by decide⟩ : Fin 134)] ++ ([(⟨34, by decide⟩ : Fin 134), (⟨35, by decide⟩ : Fin 134), (⟨36, by decide⟩ : Fin 134)] ++ ([(⟨37, by decide⟩ : Fin 134), (⟨38, by decide⟩ : Fin 134), (⟨39, by decide⟩ : Fin 134)] ++ ([(⟨40, by decide⟩ : Fin 134), (⟨41, by decide⟩ : Fin 134), (⟨42, by decide⟩ : Fin 134)] ++ ([(⟨43, by decide⟩ : Fin 134), (⟨44, by decide⟩ : Fin 134), (⟨45, by decide⟩ : Fin 134)] ++ ([(⟨46, by decide⟩ : Fin 134), (⟨47, by decide⟩ : Fin 134), (⟨48, by decide⟩ : Fin 134)] ++ ([(⟨49, by decide⟩ : Fin 134), (⟨50, by decide⟩ : Fin 134), (⟨51, by decide⟩ : Fin 134)] ++ ([(⟨52, by decide⟩ : Fin 134), (⟨53, by decide⟩ : Fin 134), (⟨54, by decide⟩ : Fin 134)] ++ ([(⟨55, by decide⟩ : Fin 134), (⟨56, by decide⟩ : Fin 134), (⟨57, by decide⟩ : Fin 134)] ++ ([(⟨58, by decide⟩ : Fin 134), (⟨59, by decide⟩ : Fin 134), (⟨60, by decide⟩ : Fin 134)] ++ ([(⟨61, by decide⟩ : Fin 134), (⟨62, by decide⟩ : Fin 134), (⟨63, by decide⟩ : Fin 134), (⟨64, by decide⟩ : Fin 134)] ++ ([(⟨65, by decide⟩ : Fin 134), (⟨66, by decide⟩ : Fin 134), (⟨67, by decide⟩ : Fin 134), (⟨68, by decide⟩ : Fin 134)] ++ ([(⟨69, by decide⟩ : Fin 134), (⟨70, by decide⟩ : Fin 134), (⟨71, by decide⟩ : Fin 134), (⟨72, by decide⟩ : Fin 134)] ++ ([(⟨73, by decide⟩ : Fin 134), (⟨74, by decide⟩ : Fin 134), (⟨75, by decide⟩ : Fin 134), (⟨76, by decide⟩ : Fin 134)] ++ ([(⟨77, by decide⟩ : Fin 134), (⟨78, by decide⟩ : Fin 134), (⟨79, by decide⟩ : Fin 134), (⟨80, by decide⟩ : Fin 134)] ++ ([(⟨81, by decide⟩ : Fin 134), (⟨82, by decide⟩ : Fin 134), (⟨83, by decide⟩ : Fin 134), (⟨84, by decide⟩ : Fin 134)] ++ ([(⟨85, by decide⟩ : Fin 134), (⟨86, by decide⟩ : Fin 134), (⟨87, by decide⟩ : Fin 134), (⟨88, by decide⟩ : Fin 134)] ++ ([(⟨89, by decide⟩ : Fin 134), (⟨90, by decide⟩ : Fin 134), (⟨91, by decide⟩ : Fin 134), (⟨92, by decide⟩ : Fin 134)] ++ ([(⟨93, by decide⟩ : Fin 134), (⟨94, by decide⟩ : Fin 134), (⟨95, by decide⟩ : Fin 134), (⟨96, by decide⟩ : Fin 134)] ++ ([(⟨97, by decide⟩ : Fin 134), (⟨98, by decide⟩ : Fin 134), (⟨99, by decide⟩ : Fin 134), (⟨100, by decide⟩ : Fin 134)] ++ ([(⟨101, by decide⟩ : Fin 134), (⟨102, by decide⟩ : Fin 134), (⟨103, by decide⟩ : Fin 134), (⟨104, by decide⟩ : Fin 134)] ++ ([(⟨105, by decide⟩ : Fin 134), (⟨106, by decide⟩ : Fin 134), (⟨107, by decide⟩ : Fin 134), (⟨108, by decide⟩ : Fin 134)] ++ ([(⟨109, by decide⟩ : Fin 134), (⟨110, by decide⟩ : Fin 134), (⟨111, by decide⟩ : Fin 134), (⟨112, by decide⟩ : Fin 134)] ++ ([(⟨113, by decide⟩ : Fin 134), (⟨114, by decide⟩ : Fin 134), (⟨115, by decide⟩ : Fin 134), (⟨116, by decide⟩ : Fin 134)] ++ ([(⟨117, by decide⟩ : Fin 134), (⟨118, by decide⟩ : Fin 134), (⟨119, by decide⟩ : Fin 134), (⟨120, by decide⟩ : Fin 134)] ++ ([(⟨121, by decide⟩ : Fin 134), (⟨122, by decide⟩ : Fin 134), (⟨123, by decide⟩ : Fin 134), (⟨124, by decide⟩ : Fin 134)] ++ ([(⟨125, by decide⟩ : Fin 134), (⟨126, by decide⟩ : Fin 134), (⟨127, by decide⟩ : Fin 134), (⟨128, by decide⟩ : Fin 134)] ++ ([(⟨129, by decide⟩ : Fin 134), (⟨130, by decide⟩ : Fin 134), (⟨131, by decide⟩ : Fin 134), (⟨132, by decide⟩ : Fin 134)] ++ [(⟨133, by decide⟩ : Fin 134)]))))))))))))))))))))))))))))))))))))

theorem bigSep_wins (Φ : Fin 134 → sProp 𝕄) : bigSep Finset.univ Φ = bigSepL wins Φ :=
  (bigSep_W0 Φ).trans rfl

theorem pre_all (c : Dev nD) (t : Fin cfg0.N) : bigSep Finset.univ (pre m c t) ⊢ preAll m c t := by
  rw [bigSep_wins]; unfold preAll wins
  rw [bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append]
  exact BIClass.sep_mono (pre_srcs m c t) (BIClass.sep_mono (pre_ins0 m c t) (BIClass.sep_mono (pre_ins1 m c t) (BIClass.sep_mono (pre_ins2 m c t) (BIClass.sep_mono (pre_ins3 m c t) (BIClass.sep_mono (pre_ins4 m c t) (BIClass.sep_mono (pre_ins5 m c t) (BIClass.sep_mono (pre_ins6 m c t) (BIClass.sep_mono (pre_ins7 m c t) (BIClass.sep_mono (pre_ins8 m c t) (BIClass.sep_mono (pre_ins9 m c t) (BIClass.sep_mono (pre_ins10 m c t) (BIClass.sep_mono (pre_ins11 m c t) (BIClass.sep_mono (pre_ins12 m c t) (BIClass.sep_mono (pre_ins13 m c t) (BIClass.sep_mono (pre_ins14 m c t) (BIClass.sep_mono (pre_ins15 m c t) (BIClass.sep_mono (pre_ins16 m c t) (BIClass.sep_mono (pre_ins17 m c t) (BIClass.sep_mono (pre_outs0 m c t) (BIClass.sep_mono (pre_outs1 m c t) (BIClass.sep_mono (pre_outs2 m c t) (BIClass.sep_mono (pre_outs3 m c t) (BIClass.sep_mono (pre_outs4 m c t) (BIClass.sep_mono (pre_outs5 m c t) (BIClass.sep_mono (pre_outs6 m c t) (BIClass.sep_mono (pre_outs7 m c t) (BIClass.sep_mono (pre_outs8 m c t) (BIClass.sep_mono (pre_outs9 m c t) (BIClass.sep_mono (pre_outs10 m c t) (BIClass.sep_mono (pre_outs11 m c t) (BIClass.sep_mono (pre_outs12 m c t) (BIClass.sep_mono (pre_outs13 m c t) (BIClass.sep_mono (pre_outs14 m c t) (BIClass.sep_mono (pre_outs15 m c t) (BIClass.sep_mono (pre_outs16 m c t) (BIClass.sep_mono (pre_outs17 m c t) (pre133 m c t)))))))))))))))))))))))))))))))))))))

theorem post_all (c : Dev nD) (t : Fin cfg0.N) : postAll m c t ⊢ bigSep Finset.univ (post m c t) := by
  rw [bigSep_wins]; unfold postAll wins
  rw [bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append, bigSepL_append]
  exact BIClass.sep_mono (post_srcs m c t) (BIClass.sep_mono (post_ins0 m c t) (BIClass.sep_mono (post_ins1 m c t) (BIClass.sep_mono (post_ins2 m c t) (BIClass.sep_mono (post_ins3 m c t) (BIClass.sep_mono (post_ins4 m c t) (BIClass.sep_mono (post_ins5 m c t) (BIClass.sep_mono (post_ins6 m c t) (BIClass.sep_mono (post_ins7 m c t) (BIClass.sep_mono (post_ins8 m c t) (BIClass.sep_mono (post_ins9 m c t) (BIClass.sep_mono (post_ins10 m c t) (BIClass.sep_mono (post_ins11 m c t) (BIClass.sep_mono (post_ins12 m c t) (BIClass.sep_mono (post_ins13 m c t) (BIClass.sep_mono (post_ins14 m c t) (BIClass.sep_mono (post_ins15 m c t) (BIClass.sep_mono (post_ins16 m c t) (BIClass.sep_mono (post_ins17 m c t) (BIClass.sep_mono (post_outs0 m c t) (BIClass.sep_mono (post_outs1 m c t) (BIClass.sep_mono (post_outs2 m c t) (BIClass.sep_mono (post_outs3 m c t) (BIClass.sep_mono (post_outs4 m c t) (BIClass.sep_mono (post_outs5 m c t) (BIClass.sep_mono (post_outs6 m c t) (BIClass.sep_mono (post_outs7 m c t) (BIClass.sep_mono (post_outs8 m c t) (BIClass.sep_mono (post_outs9 m c t) (BIClass.sep_mono (post_outs10 m c t) (BIClass.sep_mono (post_outs11 m c t) (BIClass.sep_mono (post_outs12 m c t) (BIClass.sep_mono (post_outs13 m c t) (BIClass.sep_mono (post_outs14 m c t) (BIClass.sep_mono (post_outs15 m c t) (BIClass.sep_mono (post_outs16 m c t) (BIClass.sep_mono (post_outs17 m c t) (post133 m c t)))))))))))))))))))))))))))))))))))))

/-- The body at any point. -/
theorem sound_body (c : Dev nD) (t : Fin cfg0.N) :
    iprop((dats m 0 c).Φ t.castSucc ∗ (dats m 0 c).owesAt () t.castSucc ∗ preAll m c t)
      ⊢ wp frame (wpE (defs₀ (F := F)) Variants.none c none) Set.univ (bodyAt0 t)
        (fun _ => iprop((dats m 0 c).Φ t.castSucc ∗ (dats m 0 c).owesAt () t.castSucc ∗ postAll m c t)) := by
  unfold bodyAt0
  iintro ⟨HΦ, Ho, H⟩
  iapply (sound_kernel c Set.univ (s0 t) (hstage0_0 0) (s1 t) (hstage0_1 0) (s2 t) (hstage0_2 0) (s3 t) (hstage0_3 0) (s4 t) (hstage0_4 0) (s5 t) (hstage0_5 0) (s6 t) (hstage0_6 0) (s7 t) (hstage0_7 0) (s8 t) (hstage0_8 0) (s9 t) (hstage0_9 0) (s10 t) (hstage0_10 0) (s11 t) (hstage0_11 0) (s12 t) (hstage0_12 0) (s13 t) (hstage0_13 0) (s14 t) (hstage0_14 0) (s15 t) (hstage0_15 0) (s16 t) (hstage0_16 0) (s17 t) (hstage0_17 0) (s18 t) (hstage0_18 0) (s19 t) (hstage0_19 0) (s20 t) (hstage0_20 0) (s21 t) (hstage0_21 0) (s22 t) (hstage0_22 0) (s23 t) (hstage0_23 0) (s24 t) (hstage0_24 0) (s25 t) (hstage0_25 0) (s26 t) (hstage0_26 0) (s27 t) (hstage0_27 0) (s28 t) (hstage0_28 0) (s29 t) (hstage0_29 0) (s30 t) (hstage0_30 0) (s31 t) (hstage0_31 0) (s32 t) (hstage0_32 0) (s33 t) (hstage0_33 0) (s34 t) (hstage0_34 0) (s35 t) (hstage0_35 0) (s36 t) (hstage0_36 0) (s37 t) (hstage0_37 0) (s38 t) (hstage0_38 0) (s39 t) (hstage0_39 0) (s40 t) (hstage0_40 0) (s41 t) (hstage0_41 0) (s42 t) (hstage0_42 0) (s43 t) (hstage0_43 0) (s44 t) (hstage0_44 0) (s45 t) (hstage0_45 0) (s46 t) (hstage0_46 0) (s47 t) (hstage0_47 0) (s48 t) (hstage0_48 0) (s49 t) (hstage0_49 0) (s50 t) (hstage0_50 0) (s51 t) (hstage0_51 0) (s52 t) (hstage0_52 0) (s53 t) (hstage0_53 0) (s54 t) (hstage0_54 0) (s55 t) (hstage0_55 0) (s56 t) (hstage0_56 0) (s57 t) (hstage0_57 0) (s58 t) (hstage0_58 0) (s59 t) (hstage0_59 0) (s60 t) (hstage0_60 0) (s61 t) (hstage0_61 0) (s62 t) (hstage0_62 0) (s63 t) (hstage0_63 0) (s64 t) (hstage0_64 0) (s65 t) (hstage0_65 0) (s66 t) (hstage0_66 0) (s67 t) (hstage0_67 0) (s68 t) (hstage0_68 0) (s69 t) (hstage0_69 0) (s70 t) (hstage0_70 0) (s71 t) (hstage0_71 0) (s72 t) (hstage0_72 0) (s73 t) (hstage0_73 0) (s74 t) (hstage0_74 0) (s75 t) (hstage0_75 0) (s76 t) (hstage0_76 0) (s77 t) (hstage0_77 0) (s78 t) (hstage0_78 0) (s79 t) (hstage0_79 0) (s80 t) (hstage0_80 0) (s81 t) (hstage0_81 0) (s82 t) (hstage0_82 0) (s83 t) (hstage0_83 0) (s84 t) (hstage0_84 0) (s85 t) (hstage0_85 0) (s86 t) (hstage0_86 0) (s87 t) (hstage0_87 0) (s88 t) (hstage0_88 0) (s89 t) (hstage0_89 0) (s90 t) (hstage0_90 0) (s91 t) (hstage0_91 0) (s92 t) (hstage0_92 0) (s93 t) (hstage0_93 0) (s94 t) (hstage0_94 0) (s95 t) (hstage0_95 0) (s96 t) (hstage0_96 0) (s97 t) (hstage0_97 0) (s98 t) (hstage0_98 0) (s99 t) (hstage0_99 0) (s100 t) (hstage0_100 0) (s101 t) (hstage0_101 0) (s102 t) (hstage0_102 0) (s103 t) (hstage0_103 0) (s104 t) (hstage0_104 0) (s105 t) (hstage0_105 0) (s106 t) (hstage0_106 0) (s107 t) (hstage0_107 0) (s108 t) (hstage0_108 0) (s109 t) (hstage0_109 0) (s110 t) (hstage0_110 0) (s111 t) (hstage0_111 0) (s112 t) (hstage0_112 0) (s113 t) (hstage0_113 0) (s114 t) (hstage0_114 0) (s115 t) (hstage0_115 0) (s116 t) (hstage0_116 0) (s117 t) (hstage0_117 0) (s118 t) (hstage0_118 0) (s119 t) (hstage0_119 0) (s120 t) (hstage0_120 0) (s121 t) (hstage0_121 0) (s122 t) (hstage0_122 0) (s123 t) (hstage0_123 0) (s124 t) (hstage0_124 0) (s125 t) (hstage0_125 0) (s126 t) (hstage0_126 0) (s127 t) (hstage0_127 0) (s128 t) (hstage0_128 0) (s129 t) (hstage0_129 0) (s130 t) (hstage0_130 0) (s131 t) (hstage0_131 0) (s132 t) (hstage0_132 0) (s133 t) (hstage0_133 0) (b0 m c t) (b1 m c t) (b2 m c t) (b3 m c t) (b4 m c t) (b5 m c t) (b6 m c t) (b7 m c t) (b8 m c t) (b9 m c t) (b10 m c t) (b11 m c t) (b12 m c t) (b13 m c t) (b14 m c t) (b15 m c t) (b16 m c t) (b17 m c t) (b18 m c t) (b19 m c t) (b20 m c t) (b21 m c t) (b22 m c t) (b23 m c t) (b24 m c t) (b25 m c t) (b26 m c t) (b27 m c t) (b28 m c t) (b29 m c t) (b30 m c t) (b31 m c t) (b32 m c t) (b33 m c t) (b34 m c t) (b35 m c t) (b36 m c t) (b37 m c t) (b38 m c t) (b39 m c t) (b40 m c t) (b41 m c t) (b42 m c t) (b43 m c t) (b44 m c t) (b45 m c t) (b46 m c t) (b47 m c t) (b48 m c t) (b49 m c t) (b50 m c t) (b51 m c t) (b52 m c t) (b53 m c t) (b54 m c t) (b55 m c t) (b56 m c t) (b57 m c t) (b58 m c t) (b59 m c t) (b60 m c t) _)
  delta preAll
  icases H with ⟨HS, I0, I1, I2, I3, I4, I5, I6, I7, I8, I9, I10, I11, I12, I13, I14, I15, I16, I17, O0, O1, O2, O3, O4, O5, O6, O7, O8, O9, O10, O11, O12, O13, O14, O15, O16, O17, HL⟩
  isplitl [HS]; · iexact HS
  isplitl [I0]; · iexact I0
  isplitl [I1]; · iexact I1
  isplitl [I2]; · iexact I2
  isplitl [I3]; · iexact I3
  isplitl [I4]; · iexact I4
  isplitl [I5]; · iexact I5
  isplitl [I6]; · iexact I6
  isplitl [I7]; · iexact I7
  isplitl [I8]; · iexact I8
  isplitl [I9]; · iexact I9
  isplitl [I10]; · iexact I10
  isplitl [I11]; · iexact I11
  isplitl [I12]; · iexact I12
  isplitl [I13]; · iexact I13
  isplitl [I14]; · iexact I14
  isplitl [I15]; · iexact I15
  isplitl [I16]; · iexact I16
  isplitl [I17]; · iexact I17
  isplitl [O0]; · iexact O0
  isplitl [O1]; · iexact O1
  isplitl [O2]; · iexact O2
  isplitl [O3]; · iexact O3
  isplitl [O4]; · iexact O4
  isplitl [O5]; · iexact O5
  isplitl [O6]; · iexact O6
  isplitl [O7]; · iexact O7
  isplitl [O8]; · iexact O8
  isplitl [O9]; · iexact O9
  isplitl [O10]; · iexact O10
  isplitl [O11]; · iexact O11
  isplitl [O12]; · iexact O12
  isplitl [O13]; · iexact O13
  isplitl [O14]; · iexact O14
  isplitl [O15]; · iexact O15
  isplitl [O16]; · iexact O16
  isplitl [O17]; · iexact O17
  isplitl [HL]; · iexact HL
  iintro H
  isplitl [HΦ]; · iexact HΦ
  isplitl [Ho]; · iexact Ho
  delta postAll
  iexact H

theorem defs₀_row (t : Fin cfg0.N) :
    defs₀ (F := F) .tc cfg0.body (cfg0.bodyArgs t (cfg0.slots t)) = bodyAt0 t := by
  unfold defs₀; rw [Defs.onTc_tc]

/-- What the pipeline asks of the body, at every point. -/
theorem body_obligation (c : Dev nD) : BodyObligation (dats (F := F) m 0 c) (defs₀ (F := F)) Variants.none () Set.univ := fun t => by
  rw [defs₀_row]
  exact triple_restated (sound_body m c t) rfl (BIClass.sep_mono .rfl (BIClass.sep_mono .rfl (pre_all m c t)))
    fun _ => BIClass.sep_mono .rfl (BIClass.sep_mono .rfl (post_all m c t))

set_option backward.isDefEq.respectTransparency.types false in
set_option maxHeartbeats 800000 in
/-- The run, every semaphore counter at zero at the end. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run: every array of the pipeline ends at what its data compute, every other buffer as launched. -/
theorem run_main : θ_run defs (onTc (τ := τ) (main (F := F))) (s₀ m ρ) (Pipeline.FramePost cfgs (dats m) 0 (V m)) :=
  (θ_run defs _ _).mono (fun _ h => h.1) (run_main_quiescent m ρ)

end Cert.AdamSmallIdeal.Body

end
-- ==== Proof.AdamSmall.Args.lean ====
module

public import proofs.«01_k».proof.Proof.AdamSmall.Frame

@[expose] public section

set_option maxRecDepth 16384

noncomputable section

namespace Cert.AdamSmallIdeal.Body

open Idealize.ShloMosaic Idealize.ShloMosaic.TcCoe Idealize.ShloMosaic.Tactic
open Cert.AdamSmallIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The arguments end as launched. -/

theorem arg0 {r} (h : Pipeline.FramePost cfgs (dats m) 0 (V m) r) (c : Dev nD) : r.2.mem ((c.tc : Thread nD τ).loc main_arg0) = m ((c.tc : Thread nD τ).loc main_arg0) :=
  ((h c).1 0).trans (((dats m 0 c).arrAt_in 0 rfl _).trans (A_eq m c 0))
theorem arg1 {r} (h : Pipeline.FramePost cfgs (dats m) 0 (V m) r) (c : Dev nD) : r.2.mem ((c.tc : Thread nD τ).loc main_arg1) = m ((c.tc : Thread nD τ).loc main_arg1) :=
  ((h c).1 1).trans (((dats m 0 c).arrAt_in 1 rfl _).trans (A_eq m c 1))
theorem arg2 {r} (h : Pipeline.FramePost cfgs (dats m) 0 (V m) r) (c : Dev nD) : r.2.mem ((c.tc : Thread nD τ).loc main_arg2) = m ((c.tc : Thread nD τ).loc main_arg2) :=
  ((h c).1 2).trans (((dats m 0 c).arrAt_in 2 rfl _).trans (A_eq m c 2))
theorem arg3 {r} (h : Pipeline.FramePost cfgs (dats m) 0 (V m) r) (c : Dev nD) : r.2.mem ((c.tc : Thread nD τ).loc main_arg3) = m ((c.tc : Thread nD τ).loc main_arg3) :=
  ((h c).1 3).trans (((dats m 0 c).arrAt_in 3 rfl _).trans (A_eq m c 3))
theorem arg4 {r} (h : Pipeline.FramePost cfgs (dats m) 0 (V m) r) (c : Dev nD) : r.2.mem ((c.tc : Thread nD τ).loc main_arg4) = m ((c.tc : Thread nD τ).loc main_arg4) :=
  ((h c).1 4).trans (((dats m 0 c).arrAt_in 4 rfl _).trans (A_eq m c 4))
theorem arg5 {r} (h : Pipeline.FramePost cfgs (dats m) 0 (V m) r) (c : Dev nD) : r.2.mem ((c.tc : Thread nD τ).loc main_arg5) = m ((c.tc : Thread nD τ).loc main_arg5) :=
  ((h c).1 5).trans (((dats m 0 c).arrAt_in 5 rfl _).trans (A_eq m c 5))
theorem arg6 {r} (h : Pipeline.FramePost cfgs (dats m) 0 (V m) r) (c : Dev nD) : r.2.mem ((c.tc : Thread nD τ).loc main_arg6) = m ((c.tc : Thread nD τ).loc main_arg6) :=
  ((h c).1 6).trans (((dats m 0 c).arrAt_in 6 rfl _).trans (A_eq m c 6))
theorem arg7 {r} (h : Pipeline.FramePost cfgs (dats m) 0 (V m) r) (c : Dev nD) : r.2.mem ((c.tc : Thread nD τ).loc main_arg7) = m ((c.tc : Thread nD τ).loc main_arg7) :=
  ((h c).1 7).trans (((dats m 0 c).arrAt_in 7 rfl _).trans (A_eq m c 7))
theorem arg8 {r} (h : Pipeline.FramePost cfgs (dats m) 0 (V m) r) (c : Dev nD) : r.2.mem ((c.tc : Thread nD τ).loc main_arg8) = m ((c.tc : Thread nD τ).loc main_arg8) :=
  ((h c).1 8).trans (((dats m 0 c).arrAt_in 8 rfl _).trans (A_eq m c 8))
theorem arg9 {r} (h : Pipeline.FramePost cfgs (dats m) 0 (V m) r) (c : Dev nD) : r.2.mem ((c.tc : Thread nD τ).loc main_arg9) = m ((c.tc : Thread nD τ).loc main_arg9) :=
  ((h c).1 9).trans (((dats m 0 c).arrAt_in 9 rfl _).trans (A_eq m c 9))
theorem arg10 {r} (h : Pipeline.FramePost cfgs (dats m) 0 (V m) r) (c : Dev nD) : r.2.mem ((c.tc : Thread nD τ).loc main_arg10) = m ((c.tc : Thread nD τ).loc main_arg10) :=
  ((h c).1 10).trans (((dats m 0 c).arrAt_in 10 rfl _).trans (A_eq m c 10))
theorem arg11 {r} (h : Pipeline.FramePost cfgs (dats m) 0 (V m) r) (c : Dev nD) : r.2.mem ((c.tc : Thread nD τ).loc main_arg11) = m ((c.tc : Thread nD τ).loc main_arg11) :=
  ((h c).1 11).trans (((dats m 0 c).arrAt_in 11 rfl _).trans (A_eq m c 11))
theorem arg12 {r} (h : Pipeline.FramePost cfgs (dats m) 0 (V m) r) (c : Dev nD) : r.2.mem ((c.tc : Thread nD τ).loc main_arg12) = m ((c.tc : Thread nD τ).loc main_arg12) :=
  ((h c).1 12).trans (((dats m 0 c).arrAt_in 12 rfl _).trans (A_eq m c 12))
theorem arg13 {r} (h : Pipeline.FramePost cfgs (dats m) 0 (V m) r) (c : Dev nD) : r.2.mem ((c.tc : Thread nD τ).loc main_arg13) = m ((c.tc : Thread nD τ).loc main_arg13) :=
  ((h c).1 13).trans (((dats m 0 c).arrAt_in 13 rfl _).trans (A_eq m c 13))
theorem arg14 {r} (h : Pipeline.FramePost cfgs (dats m) 0 (V m) r) (c : Dev nD) : r.2.mem ((c.tc : Thread nD τ).loc main_arg14) = m ((c.tc : Thread nD τ).loc main_arg14) :=
  ((h c).1 14).trans (((dats m 0 c).arrAt_in 14 rfl _).trans (A_eq m c 14))
theorem arg15 {r} (h : Pipeline.FramePost cfgs (dats m) 0 (V m) r) (c : Dev nD) : r.2.mem ((c.tc : Thread nD τ).loc main_arg15) = m ((c.tc : Thread nD τ).loc main_arg15) :=
  ((h c).1 15).trans (((dats m 0 c).arrAt_in 15 rfl _).trans (A_eq m c 15))
theorem arg16 {r} (h : Pipeline.FramePost cfgs (dats m) 0 (V m) r) (c : Dev nD) : r.2.mem ((c.tc : Thread nD τ).loc main_arg16) = m ((c.tc : Thread nD τ).loc main_arg16) :=
  ((h c).1 16).trans (((dats m 0 c).arrAt_in 16 rfl _).trans (A_eq m c 16))
theorem arg17 {r} (h : Pipeline.FramePost cfgs (dats m) 0 (V m) r) (c : Dev nD) : r.2.mem ((c.tc : Thread nD τ).loc main_arg17) = m ((c.tc : Thread nD τ).loc main_arg17) :=
  ((h c).1 17).trans (((dats m 0 c).arrAt_in 17 rfl _).trans (A_eq m c 17))
theorem arg18 {r} (h : Pipeline.FramePost cfgs (dats m) 0 (V m) r) (c : Dev nD) : r.2.mem ((c.tc : Thread nD τ).loc main_arg18) = m ((c.tc : Thread nD τ).loc main_arg18) :=
  ((h c).1 18).trans (((dats m 0 c).arrAt_in 18 rfl _).trans (A_eq m c 18))
theorem arg19 {r} (h : Pipeline.FramePost cfgs (dats m) 0 (V m) r) (c : Dev nD) : r.2.mem ((c.tc : Thread nD τ).loc main_arg19) = m ((c.tc : Thread nD τ).loc main_arg19) :=
  ((h c).1 19).trans (((dats m 0 c).arrAt_in 19 rfl _).trans (A_eq m c 19))
theorem arg20 {r} (h : Pipeline.FramePost cfgs (dats m) 0 (V m) r) (c : Dev nD) : r.2.mem ((c.tc : Thread nD τ).loc main_arg20) = m ((c.tc : Thread nD τ).loc main_arg20) :=
  ((h c).1 20).trans (((dats m 0 c).arrAt_in 20 rfl _).trans (A_eq m c 20))
theorem arg21 {r} (h : Pipeline.FramePost cfgs (dats m) 0 (V m) r) (c : Dev nD) : r.2.mem ((c.tc : Thread nD τ).loc main_arg21) = m ((c.tc : Thread nD τ).loc main_arg21) :=
  ((h c).1 21).trans (((dats m 0 c).arrAt_in 21 rfl _).trans (A_eq m c 21))
theorem arg22 {r} (h : Pipeline.FramePost cfgs (dats m) 0 (V m) r) (c : Dev nD) : r.2.mem ((c.tc : Thread nD τ).loc main_arg22) = m ((c.tc : Thread nD τ).loc main_arg22) :=
  ((h c).1 22).trans (((dats m 0 c).arrAt_in 22 rfl _).trans (A_eq m c 22))
theorem arg23 {r} (h : Pipeline.FramePost cfgs (dats m) 0 (V m) r) (c : Dev nD) : r.2.mem ((c.tc : Thread nD τ).loc main_arg23) = m ((c.tc : Thread nD τ).loc main_arg23) :=
  ((h c).1 23).trans (((dats m 0 c).arrAt_in 23 rfl _).trans (A_eq m c 23))
theorem arg24 {r} (h : Pipeline.FramePost cfgs (dats m) 0 (V m) r) (c : Dev nD) : r.2.mem ((c.tc : Thread nD τ).loc main_arg24) = m ((c.tc : Thread nD τ).loc main_arg24) :=
  ((h c).1 24).trans (((dats m 0 c).arrAt_in 24 rfl _).trans (A_eq m c 24))
theorem arg25 {r} (h : Pipeline.FramePost cfgs (dats m) 0 (V m) r) (c : Dev nD) : r.2.mem ((c.tc : Thread nD τ).loc main_arg25) = m ((c.tc : Thread nD τ).loc main_arg25) :=
  ((h c).1 25).trans (((dats m 0 c).arrAt_in 25 rfl _).trans (A_eq m c 25))
theorem arg26 {r} (h : Pipeline.FramePost cfgs (dats m) 0 (V m) r) (c : Dev nD) : r.2.mem ((c.tc : Thread nD τ).loc main_arg26) = m ((c.tc : Thread nD τ).loc main_arg26) :=
  ((h c).1 26).trans (((dats m 0 c).arrAt_in 26 rfl _).trans (A_eq m c 26))
theorem arg27 {r} (h : Pipeline.FramePost cfgs (dats m) 0 (V m) r) (c : Dev nD) : r.2.mem ((c.tc : Thread nD τ).loc main_arg27) = m ((c.tc : Thread nD τ).loc main_arg27) :=
  ((h c).1 27).trans (((dats m 0 c).arrAt_in 27 rfl _).trans (A_eq m c 27))
theorem arg28 {r} (h : Pipeline.FramePost cfgs (dats m) 0 (V m) r) (c : Dev nD) : r.2.mem ((c.tc : Thread nD τ).loc main_arg28) = m ((c.tc : Thread nD τ).loc main_arg28) :=
  ((h c).1 28).trans (((dats m 0 c).arrAt_in 28 rfl _).trans (A_eq m c 28))
theorem arg29 {r} (h : Pipeline.FramePost cfgs (dats m) 0 (V m) r) (c : Dev nD) : r.2.mem ((c.tc : Thread nD τ).loc main_arg29) = m ((c.tc : Thread nD τ).loc main_arg29) :=
  ((h c).1 29).trans (((dats m 0 c).arrAt_in 29 rfl _).trans (A_eq m c 29))
theorem arg30 {r} (h : Pipeline.FramePost cfgs (dats m) 0 (V m) r) (c : Dev nD) : r.2.mem ((c.tc : Thread nD τ).loc main_arg30) = m ((c.tc : Thread nD τ).loc main_arg30) :=
  ((h c).1 30).trans (((dats m 0 c).arrAt_in 30 rfl _).trans (A_eq m c 30))
theorem arg31 {r} (h : Pipeline.FramePost cfgs (dats m) 0 (V m) r) (c : Dev nD) : r.2.mem ((c.tc : Thread nD τ).loc main_arg31) = m ((c.tc : Thread nD τ).loc main_arg31) :=
  ((h c).1 31).trans (((dats m 0 c).arrAt_in 31 rfl _).trans (A_eq m c 31))
theorem arg32 {r} (h : Pipeline.FramePost cfgs (dats m) 0 (V m) r) (c : Dev nD) : r.2.mem ((c.tc : Thread nD τ).loc main_arg32) = m ((c.tc : Thread nD τ).loc main_arg32) :=
  ((h c).1 32).trans (((dats m 0 c).arrAt_in 32 rfl _).trans (A_eq m c 32))
theorem arg33 {r} (h : Pipeline.FramePost cfgs (dats m) 0 (V m) r) (c : Dev nD) : r.2.mem ((c.tc : Thread nD τ).loc main_arg33) = m ((c.tc : Thread nD τ).loc main_arg33) :=
  ((h c).1 33).trans (((dats m 0 c).arrAt_in 33 rfl _).trans (A_eq m c 33))
theorem arg34 {r} (h : Pipeline.FramePost cfgs (dats m) 0 (V m) r) (c : Dev nD) : r.2.mem ((c.tc : Thread nD τ).loc main_arg34) = m ((c.tc : Thread nD τ).loc main_arg34) :=
  ((h c).1 34).trans (((dats m 0 c).arrAt_in 34 rfl _).trans (A_eq m c 34))
theorem arg35 {r} (h : Pipeline.FramePost cfgs (dats m) 0 (V m) r) (c : Dev nD) : r.2.mem ((c.tc : Thread nD τ).loc main_arg35) = m ((c.tc : Thread nD τ).loc main_arg35) :=
  ((h c).1 35).trans (((dats m 0 c).arrAt_in 35 rfl _).trans (A_eq m c 35))
theorem arg36 {r} (h : Pipeline.FramePost cfgs (dats m) 0 (V m) r) (c : Dev nD) : r.2.mem ((c.tc : Thread nD τ).loc main_arg36) = m ((c.tc : Thread nD τ).loc main_arg36) :=
  ((h c).1 36).trans (((dats m 0 c).arrAt_in 36 rfl _).trans (A_eq m c 36))
theorem arg37 {r} (h : Pipeline.FramePost cfgs (dats m) 0 (V m) r) (c : Dev nD) : r.2.mem ((c.tc : Thread nD τ).loc main_arg37) = m ((c.tc : Thread nD τ).loc main_arg37) :=
  ((h c).1 37).trans (((dats m 0 c).arrAt_in 37 rfl _).trans (A_eq m c 37))
theorem arg38 {r} (h : Pipeline.FramePost cfgs (dats m) 0 (V m) r) (c : Dev nD) : r.2.mem ((c.tc : Thread nD τ).loc main_arg38) = m ((c.tc : Thread nD τ).loc main_arg38) :=
  ((h c).1 38).trans (((dats m 0 c).arrAt_in 38 rfl _).trans (A_eq m c 38))
theorem arg39 {r} (h : Pipeline.FramePost cfgs (dats m) 0 (V m) r) (c : Dev nD) : r.2.mem ((c.tc : Thread nD τ).loc main_arg39) = m ((c.tc : Thread nD τ).loc main_arg39) :=
  ((h c).1 39).trans (((dats m 0 c).arrAt_in 39 rfl _).trans (A_eq m c 39))
theorem arg40 {r} (h : Pipeline.FramePost cfgs (dats m) 0 (V m) r) (c : Dev nD) : r.2.mem ((c.tc : Thread nD τ).loc main_arg40) = m ((c.tc : Thread nD τ).loc main_arg40) :=
  ((h c).1 40).trans (((dats m 0 c).arrAt_in 40 rfl _).trans (A_eq m c 40))
theorem arg41 {r} (h : Pipeline.FramePost cfgs (dats m) 0 (V m) r) (c : Dev nD) : r.2.mem ((c.tc : Thread nD τ).loc main_arg41) = m ((c.tc : Thread nD τ).loc main_arg41) :=
  ((h c).1 41).trans (((dats m 0 c).arrAt_in 41 rfl _).trans (A_eq m c 41))
theorem arg42 {r} (h : Pipeline.FramePost cfgs (dats m) 0 (V m) r) (c : Dev nD) : r.2.mem ((c.tc : Thread nD τ).loc main_arg42) = m ((c.tc : Thread nD τ).loc main_arg42) :=
  ((h c).1 42).trans (((dats m 0 c).arrAt_in 42 rfl _).trans (A_eq m c 42))
theorem arg43 {r} (h : Pipeline.FramePost cfgs (dats m) 0 (V m) r) (c : Dev nD) : r.2.mem ((c.tc : Thread nD τ).loc main_arg43) = m ((c.tc : Thread nD τ).loc main_arg43) :=
  ((h c).1 43).trans (((dats m 0 c).arrAt_in 43 rfl _).trans (A_eq m c 43))
theorem arg44 {r} (h : Pipeline.FramePost cfgs (dats m) 0 (V m) r) (c : Dev nD) : r.2.mem ((c.tc : Thread nD τ).loc main_arg44) = m ((c.tc : Thread nD τ).loc main_arg44) :=
  ((h c).1 44).trans (((dats m 0 c).arrAt_in 44 rfl _).trans (A_eq m c 44))
theorem arg45 {r} (h : Pipeline.FramePost cfgs (dats m) 0 (V m) r) (c : Dev nD) : r.2.mem ((c.tc : Thread nD τ).loc main_arg45) = m ((c.tc : Thread nD τ).loc main_arg45) :=
  ((h c).1 45).trans (((dats m 0 c).arrAt_in 45 rfl _).trans (A_eq m c 45))
theorem arg46 {r} (h : Pipeline.FramePost cfgs (dats m) 0 (V m) r) (c : Dev nD) : r.2.mem ((c.tc : Thread nD τ).loc main_arg46) = m ((c.tc : Thread nD τ).loc main_arg46) :=
  ((h c).1 46).trans (((dats m 0 c).arrAt_in 46 rfl _).trans (A_eq m c 46))
theorem arg47 {r} (h : Pipeline.FramePost cfgs (dats m) 0 (V m) r) (c : Dev nD) : r.2.mem ((c.tc : Thread nD τ).loc main_arg47) = m ((c.tc : Thread nD τ).loc main_arg47) :=
  ((h c).1 47).trans (((dats m 0 c).arrAt_in 47 rfl _).trans (A_eq m c 47))
theorem arg48 {r} (h : Pipeline.FramePost cfgs (dats m) 0 (V m) r) (c : Dev nD) : r.2.mem ((c.tc : Thread nD τ).loc main_arg48) = m ((c.tc : Thread nD τ).loc main_arg48) :=
  ((h c).1 48).trans (((dats m 0 c).arrAt_in 48 rfl _).trans (A_eq m c 48))
theorem arg49 {r} (h : Pipeline.FramePost cfgs (dats m) 0 (V m) r) (c : Dev nD) : r.2.mem ((c.tc : Thread nD τ).loc main_arg49) = m ((c.tc : Thread nD τ).loc main_arg49) :=
  ((h c).1 49).trans (((dats m 0 c).arrAt_in 49 rfl _).trans (A_eq m c 49))
theorem arg50 {r} (h : Pipeline.FramePost cfgs (dats m) 0 (V m) r) (c : Dev nD) : r.2.mem ((c.tc : Thread nD τ).loc main_arg50) = m ((c.tc : Thread nD τ).loc main_arg50) :=
  ((h c).1 50).trans (((dats m 0 c).arrAt_in 50 rfl _).trans (A_eq m c 50))
theorem arg51 {r} (h : Pipeline.FramePost cfgs (dats m) 0 (V m) r) (c : Dev nD) : r.2.mem ((c.tc : Thread nD τ).loc main_arg51) = m ((c.tc : Thread nD τ).loc main_arg51) :=
  ((h c).1 51).trans (((dats m 0 c).arrAt_in 51 rfl _).trans (A_eq m c 51))
theorem arg52 {r} (h : Pipeline.FramePost cfgs (dats m) 0 (V m) r) (c : Dev nD) : r.2.mem ((c.tc : Thread nD τ).loc main_arg52) = m ((c.tc : Thread nD τ).loc main_arg52) :=
  ((h c).1 52).trans (((dats m 0 c).arrAt_in 52 rfl _).trans (A_eq m c 52))
theorem arg53 {r} (h : Pipeline.FramePost cfgs (dats m) 0 (V m) r) (c : Dev nD) : r.2.mem ((c.tc : Thread nD τ).loc main_arg53) = m ((c.tc : Thread nD τ).loc main_arg53) :=
  ((h c).1 53).trans (((dats m 0 c).arrAt_in 53 rfl _).trans (A_eq m c 53))
theorem arg54 {r} (h : Pipeline.FramePost cfgs (dats m) 0 (V m) r) (c : Dev nD) : r.2.mem ((c.tc : Thread nD τ).loc main_arg54) = m ((c.tc : Thread nD τ).loc main_arg54) :=
  ((h c).1 54).trans (((dats m 0 c).arrAt_in 54 rfl _).trans (A_eq m c 54))
theorem arg55 {r} (h : Pipeline.FramePost cfgs (dats m) 0 (V m) r) (c : Dev nD) : r.2.mem ((c.tc : Thread nD τ).loc main_arg55) = m ((c.tc : Thread nD τ).loc main_arg55) :=
  ((h c).1 55).trans (((dats m 0 c).arrAt_in 55 rfl _).trans (A_eq m c 55))
theorem arg56 {r} (h : Pipeline.FramePost cfgs (dats m) 0 (V m) r) (c : Dev nD) : r.2.mem ((c.tc : Thread nD τ).loc main_arg56) = m ((c.tc : Thread nD τ).loc main_arg56) :=
  ((h c).1 56).trans (((dats m 0 c).arrAt_in 56 rfl _).trans (A_eq m c 56))
theorem arg57 {r} (h : Pipeline.FramePost cfgs (dats m) 0 (V m) r) (c : Dev nD) : r.2.mem ((c.tc : Thread nD τ).loc main_arg57) = m ((c.tc : Thread nD τ).loc main_arg57) :=
  ((h c).1 57).trans (((dats m 0 c).arrAt_in 57 rfl _).trans (A_eq m c 57))
theorem arg58 {r} (h : Pipeline.FramePost cfgs (dats m) 0 (V m) r) (c : Dev nD) : r.2.mem ((c.tc : Thread nD τ).loc main_arg58) = m ((c.tc : Thread nD τ).loc main_arg58) :=
  ((h c).1 58).trans (((dats m 0 c).arrAt_in 58 rfl _).trans (A_eq m c 58))
theorem arg59 {r} (h : Pipeline.FramePost cfgs (dats m) 0 (V m) r) (c : Dev nD) : r.2.mem ((c.tc : Thread nD τ).loc main_arg59) = m ((c.tc : Thread nD τ).loc main_arg59) :=
  ((h c).1 59).trans (((dats m 0 c).arrAt_in 59 rfl _).trans (A_eq m c 59))
theorem arg60 {r} (h : Pipeline.FramePost cfgs (dats m) 0 (V m) r) (c : Dev nD) : r.2.mem ((c.tc : Thread nD τ).loc main_arg60) = m ((c.tc : Thread nD τ).loc main_arg60) :=
  ((h c).1 60).trans (((dats m 0 c).arrAt_in 60 rfl _).trans (A_eq m c 60))

/-- Every argument array ends as launched. -/
theorem unchanged {r} (h : Pipeline.FramePost cfgs (dats m) 0 (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)
    ∧ r.2.mem ((c.tc : Thread nD τ).loc main_arg27) = m ((c.tc : Thread nD τ).loc main_arg27)
    ∧ r.2.mem ((c.tc : Thread nD τ).loc main_arg28) = m ((c.tc : Thread nD τ).loc main_arg28)
    ∧ r.2.mem ((c.tc : Thread nD τ).loc main_arg29) = m ((c.tc : Thread nD τ).loc main_arg29)
    ∧ r.2.mem ((c.tc : Thread nD τ).loc main_arg30) = m ((c.tc : Thread nD τ).loc main_arg30)
    ∧ r.2.mem ((c.tc : Thread nD τ).loc main_arg31) = m ((c.tc : Thread nD τ).loc main_arg31)
    ∧ r.2.mem ((c.tc : Thread nD τ).loc main_arg32) = m ((c.tc : Thread nD τ).loc main_arg32)
    ∧ r.2.mem ((c.tc : Thread nD τ).loc main_arg33) = m ((c.tc : Thread nD τ).loc main_arg33)
    ∧ r.2.mem ((c.tc : Thread nD τ).loc main_arg34) = m ((c.tc : Thread nD τ).loc main_arg34)
    ∧ r.2.mem ((c.tc : Thread nD τ).loc main_arg35) = m ((c.tc : Thread nD τ).loc main_arg35)
    ∧ r.2.mem ((c.tc : Thread nD τ).loc main_arg36) = m ((c.tc : Thread nD τ).loc main_arg36)
    ∧ r.2.mem ((c.tc : Thread nD τ).loc main_arg37) = m ((c.tc : Thread nD τ).loc main_arg37)
    ∧ r.2.mem ((c.tc : Thread nD τ).loc main_arg38) = m ((c.tc : Thread nD τ).loc main_arg38)
    ∧ r.2.mem ((c.tc : Thread nD τ).loc main_arg39) = m ((c.tc : Thread nD τ).loc main_arg39)
    ∧ r.2.mem ((c.tc : Thread nD τ).loc main_arg40) = m ((c.tc : Thread nD τ).loc main_arg40)
    ∧ r.2.mem ((c.tc : Thread nD τ).loc main_arg41) = m ((c.tc : Thread nD τ).loc main_arg41)
    ∧ r.2.mem ((c.tc : Thread nD τ).loc main_arg42) = m ((c.tc : Thread nD τ).loc main_arg42)
    ∧ r.2.mem ((c.tc : Thread nD τ).loc main_arg43) = m ((c.tc : Thread nD τ).loc main_arg43)
    ∧ r.2.mem ((c.tc : Thread nD τ).loc main_arg44) = m ((c.tc : Thread nD τ).loc main_arg44)
    ∧ r.2.mem ((c.tc : Thread nD τ).loc main_arg45) = m ((c.tc : Thread nD τ).loc main_arg45)
    ∧ r.2.mem ((c.tc : Thread nD τ).loc main_arg46) = m ((c.tc : Thread nD τ).loc main_arg46)
    ∧ r.2.mem ((c.tc : Thread nD τ).loc main_arg47) = m ((c.tc : Thread nD τ).loc main_arg47)
    ∧ r.2.mem ((c.tc : Thread nD τ).loc main_arg48) = m ((c.tc : Thread nD τ).loc main_arg48)
    ∧ r.2.mem ((c.tc : Thread nD τ).loc main_arg49) = m ((c.tc : Thread nD τ).loc main_arg49)
    ∧ r.2.mem ((c.tc : Thread nD τ).loc main_arg50) = m ((c.tc : Thread nD τ).loc main_arg50)
    ∧ r.2.mem ((c.tc : Thread nD τ).loc main_arg51) = m ((c.tc : Thread nD τ).loc main_arg51)
    ∧ r.2.mem ((c.tc : Thread nD τ).loc main_arg52) = m ((c.tc : Thread nD τ).loc main_arg52)
    ∧ r.2.mem ((c.tc : Thread nD τ).loc main_arg53) = m ((c.tc : Thread nD τ).loc main_arg53)
    ∧ r.2.mem ((c.tc : Thread nD τ).loc main_arg54) = m ((c.tc : Thread nD τ).loc main_arg54)
    ∧ r.2.mem ((c.tc : Thread nD τ).loc main_arg55) = m ((c.tc : Thread nD τ).loc main_arg55)
    ∧ r.2.mem ((c.tc : Thread nD τ).loc main_arg56) = m ((c.tc : Thread nD τ).loc main_arg56)
    ∧ r.2.mem ((c.tc : Thread nD τ).loc main_arg57) = m ((c.tc : Thread nD τ).loc main_arg57)
    ∧ r.2.mem ((c.tc : Thread nD τ).loc main_arg58) = m ((c.tc : Thread nD τ).loc main_arg58)
    ∧ r.2.mem ((c.tc : Thread nD τ).loc main_arg59) = m ((c.tc : Thread nD τ).loc main_arg59)
    ∧ r.2.mem ((c.tc : Thread nD τ).loc main_arg60) = m ((c.tc : Thread nD τ).loc main_arg60) :=
  ⟨arg0 m h c, arg1 m h c, arg2 m h c, arg3 m h c, arg4 m h c, arg5 m h c, arg6 m h c, arg7 m h c, arg8 m h c, arg9 m h c, arg10 m h c, arg11 m h c, arg12 m h c, arg13 m h c, arg14 m h c, arg15 m h c, arg16 m h c, arg17 m h c, arg18 m h c, arg19 m h c, arg20 m h c, arg21 m h c, arg22 m h c, arg23 m h c, arg24 m h c, arg25 m h c, arg26 m h c, arg27 m h c, arg28 m h c, arg29 m h c, arg30 m h c, arg31 m h c, arg32 m h c, arg33 m h c, arg34 m h c, arg35 m h c, arg36 m h c, arg37 m h c, arg38 m h c, arg39 m h c, arg40 m h c, arg41 m h c, arg42 m h c, arg43 m h c, arg44 m h c, arg45 m h c, arg46 m h c, arg47 m h c, arg48 m h c, arg49 m h c, arg50 m h c, arg51 m h c, arg52 m h c, arg53 m h c, arg54 m h c, arg55 m h c, arg56 m h c, arg57 m h c, arg58 m h c, arg59 m h c, arg60 m h c⟩

/-- The run ends with every argument array as launched and every semaphore counter at zero. -/
theorem frame : θ_run defs (onTc (τ := τ) (main (F := F))) (s₀ m ρ) (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)
    ∧ r.2.mem ((c.tc : Thread nD τ).loc main_arg13) = m ((c.tc : Thread nD τ).loc main_arg13)
    ∧ r.2.mem ((c.tc : Thread nD τ).loc main_arg14) = m ((c.tc : Thread nD τ).loc main_arg14)
    ∧ r.2.mem ((c.tc : Thread nD τ).loc main_arg15) = m ((c.tc : Thread nD τ).loc main_arg15)
    ∧ r.2.mem ((c.tc : Thread nD τ).loc main_arg16) = m ((c.tc : Thread nD τ).loc main_arg16)
    ∧ r.2.mem ((c.tc : Thread nD τ).loc main_arg17) = m ((c.tc : Thread nD τ).loc main_arg17)
    ∧ r.2.mem ((c.tc : Thread nD τ).loc main_arg18) = m ((c.tc : Thread nD τ).loc main_arg18)
    ∧ r.2.mem ((c.tc : Thread nD τ).loc main_arg19) = m ((c.tc : Thread nD τ).loc main_arg19)
    ∧ r.2.mem ((c.tc : Thread nD τ).loc main_arg20) = m ((c.tc : Thread nD τ).loc main_arg20)
    ∧ r.2.mem ((c.tc : Thread nD τ).loc main_arg21) = m ((c.tc : Thread nD τ).loc main_arg21)
    ∧ r.2.mem ((c.tc : Thread nD τ).loc main_arg22) = m ((c.tc : Thread nD τ).loc main_arg22)
    ∧ r.2.mem ((c.tc : Thread nD τ).loc main_arg23) = m ((c.tc : Thread nD τ).loc main_arg23)
    ∧ r.2.mem ((c.tc : Thread nD τ).loc main_arg24) = m ((c.tc : Thread nD τ).loc main_arg24)
    ∧ r.2.mem ((c.tc : Thread nD τ).loc main_arg25) = m ((c.tc : Thread nD τ).loc main_arg25)
    ∧ r.2.mem ((c.tc : Thread nD τ).loc main_arg26) = m ((c.tc : Thread nD τ).loc main_arg26)
    ∧ r.2.mem ((c.tc : Thread nD τ).loc main_arg27) = m ((c.tc : Thread nD τ).loc main_arg27)
    ∧ r.2.mem ((c.tc : Thread nD τ).loc main_arg28) = m ((c.tc : Thread nD τ).loc main_arg28)
    ∧ r.2.mem ((c.tc : Thread nD τ).loc main_arg29) = m ((c.tc : Thread nD τ).loc main_arg29)
    ∧ r.2.mem ((c.tc : Thread nD τ).loc main_arg30) = m ((c.tc : Thread nD τ).loc main_arg30)
    ∧ r.2.mem ((c.tc : Thread nD τ).loc main_arg31) = m ((c.tc : Thread nD τ).loc main_arg31)
    ∧ r.2.mem ((c.tc : Thread nD τ).loc main_arg32) = m ((c.tc : Thread nD τ).loc main_arg32)
    ∧ r.2.mem ((c.tc : Thread nD τ).loc main_arg33) = m ((c.tc : Thread nD τ).loc main_arg33)
    ∧ r.2.mem ((c.tc : Thread nD τ).loc main_arg34) = m ((c.tc : Thread nD τ).loc main_arg34)
    ∧ r.2.mem ((c.tc : Thread nD τ).loc main_arg35) = m ((c.tc : Thread nD τ).loc main_arg35)
    ∧ r.2.mem ((c.tc : Thread nD τ).loc main_arg36) = m ((c.tc : Thread nD τ).loc main_arg36)
    ∧ r.2.mem ((c.tc : Thread nD τ).loc main_arg37) = m ((c.tc : Thread nD τ).loc main_arg37)
    ∧ r.2.mem ((c.tc : Thread nD τ).loc main_arg38) = m ((c.tc : Thread nD τ).loc main_arg38)
    ∧ r.2.mem ((c.tc : Thread nD τ).loc main_arg39) = m ((c.tc : Thread nD τ).loc main_arg39)
    ∧ r.2.mem ((c.tc : Thread nD τ).loc main_arg40) = m ((c.tc : Thread nD τ).loc main_arg40)
    ∧ r.2.mem ((c.tc : Thread nD τ).loc main_arg41) = m ((c.tc : Thread nD τ).loc main_arg41)
    ∧ r.2.mem ((c.tc : Thread nD τ).loc main_arg42) = m ((c.tc : Thread nD τ).loc main_arg42)
    ∧ r.2.mem ((c.tc : Thread nD τ).loc main_arg43) = m ((c.tc : Thread nD τ).loc main_arg43)
    ∧ r.2.mem ((c.tc : Thread nD τ).loc main_arg44) = m ((c.tc : Thread nD τ).loc main_arg44)
    ∧ r.2.mem ((c.tc : Thread nD τ).loc main_arg45) = m ((c.tc : Thread nD τ).loc main_arg45)
    ∧ r.2.mem ((c.tc : Thread nD τ).loc main_arg46) = m ((c.tc : Thread nD τ).loc main_arg46)
    ∧ r.2.mem ((c.tc : Thread nD τ).loc main_arg47) = m ((c.tc : Thread nD τ).loc main_arg47)
    ∧ r.2.mem ((c.tc : Thread nD τ).loc main_arg48) = m ((c.tc : Thread nD τ).loc main_arg48)
    ∧ r.2.mem ((c.tc : Thread nD τ).loc main_arg49) = m ((c.tc : Thread nD τ).loc main_arg49)
    ∧ r.2.mem ((c.tc : Thread nD τ).loc main_arg50) = m ((c.tc : Thread nD τ).loc main_arg50)
    ∧ r.2.mem ((c.tc : Thread nD τ).loc main_arg51) = m ((c.tc : Thread nD τ).loc main_arg51)
    ∧ r.2.mem ((c.tc : Thread nD τ).loc main_arg52) = m ((c.tc : Thread nD τ).loc main_arg52)
    ∧ r.2.mem ((c.tc : Thread nD τ).loc main_arg53) = m ((c.tc : Thread nD τ).loc main_arg53)
    ∧ r.2.mem ((c.tc : Thread nD τ).loc main_arg54) = m ((c.tc : Thread nD τ).loc main_arg54)
    ∧ r.2.mem ((c.tc : Thread nD τ).loc main_arg55) = m ((c.tc : Thread nD τ).loc main_arg55)
    ∧ r.2.mem ((c.tc : Thread nD τ).loc main_arg56) = m ((c.tc : Thread nD τ).loc main_arg56)
    ∧ r.2.mem ((c.tc : Thread nD τ).loc main_arg57) = m ((c.tc : Thread nD τ).loc main_arg57)
    ∧ r.2.mem ((c.tc : Thread nD τ).loc main_arg58) = m ((c.tc : Thread nD τ).loc main_arg58)
    ∧ r.2.mem ((c.tc : Thread nD τ).loc main_arg59) = m ((c.tc : Thread nD τ).loc main_arg59)
    ∧ r.2.mem ((c.tc : Thread nD τ).loc main_arg60) = m ((c.tc : Thread nD τ).loc main_arg60)) ∧ r.2.sem = fun _ => 0) :=
  (θ_run defs _ _).mono (fun _ h => ⟨unchanged m h.1, h.2⟩) (run_main_quiescent m ρ)

end Cert.AdamSmallIdeal.Body

end
-- ==== Proof.AdamSmall.FrameClaims.lean ====
module

public import proofs.«01_k».proof.Defs
public import proofs.«01_k».proof.Proof.Gen.AdamSmall
public import proofs.«01_k».proof.Proof.AdamSmall.Args
public import proofs.«01_k».proof.Proof.AdamSmallBits.Args
public import Idealize.ShloMosaic.Lib.Claim

/-! The frames of the kernel, as the program and over the extended reals. -/

@[expose] public section

set_option maxRecDepth 16384

noncomputable section

namespace Cert.Claims.AdamSmall

open Idealize.ShloMosaic Idealize.ShloMosaic.TcCoe Idealize.SL.Sem

theorem frame_kernel : Cert.quiescent_AdamSmall := fun m ρ _ => Cert.AdamSmall.Body.frame m ρ

theorem frame_ideal : Cert.quiescent_AdamSmallIdeal := fun m ρ _ => Cert.AdamSmallIdeal.Body.frame m ρ

end Cert.Claims.AdamSmall

end
-- ==== Proof.AdamSmall.Input0.lean ====
module

public import proofs.«01_k».proof.Proof.AdamSmall.Blocks
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Each input's block is its whole array. -/

namespace Cert.AdamSmallIdeal.Final

open Cert.AdamSmallIdeal Cert.AdamSmallIdeal.Gen Cert.AdamSmallIdeal.Body

variable (m : (ℓ : Loc nD τ sig) → Buf (Elt Ideal) ℓ)

theorem emb0 (t : Fin cfg0.N) (y : S8x24x1024.Idx) : (win0_0.blk t).view.emb y = y :=
  funext fun a => Fin.ext (Pipeline.Window.rect_emb_val_of_index_zero win0_0 t a rfl y)
theorem bl0 (c : Dev nD) (t : Fin cfg0.N) : b0 m c t = m ((c.tc : Thread nD τ).loc main_arg0) :=
  funext fun j => congrArg (m ((c.tc : Thread nD τ).loc main_arg0)) (emb0 t j)

theorem emb1 (t : Fin cfg0.N) (y : S8x16x768.Idx) : (win0_1.blk t).view.emb y = y :=
  funext fun a => Fin.ext (Pipeline.Window.rect_emb_val_of_index_zero win0_1 t a rfl y)
theorem bl1 (c : Dev nD) (t : Fin cfg0.N) : b1 m c t = m ((c.tc : Thread nD τ).loc main_arg1) :=
  funext fun j => congrArg (m ((c.tc : Thread nD τ).loc main_arg1)) (emb1 t j)

theorem emb2 (t : Fin cfg0.N) (y : S8x520x128.Idx) : (win0_2.blk t).view.emb y = y :=
  funext fun a => Fin.ext (Pipeline.Window.rect_emb_val_of_index_zero win0_2 t a rfl y)
theorem bl2 (c : Dev nD) (t : Fin cfg0.N) : b2 m c t = m ((c.tc : Thread nD τ).loc main_arg2) :=
  funext fun j => congrArg (m ((c.tc : Thread nD τ).loc main_arg2)) (emb2 t j)

theorem emb3 (t : Fin cfg0.N) (y : S8x768x192.Idx) : (win0_3.blk t).view.emb y = y :=
  funext fun a => Fin.ext (Pipeline.Window.rect_emb_val_of_index_zero win0_3 t a rfl y)
theorem bl3 (c : Dev nD) (t : Fin cfg0.N) : b3 m c t = m ((c.tc : Thread nD τ).loc main_arg3) :=
  funext fun j => congrArg (m ((c.tc : Thread nD τ).loc main_arg3)) (emb3 t j)

theorem emb4 (t : Fin cfg0.N) (y : S8x24x128.Idx) : (win0_4.blk t).view.emb y = y :=
  funext fun a => Fin.ext (Pipeline.Window.rect_emb_val_of_index_zero win0_4 t a rfl y)
theorem bl4 (c : Dev nD) (t : Fin cfg0.N) : b4 m c t = m ((c.tc : Thread nD τ).loc main_arg4) :=
  funext fun j => congrArg (m ((c.tc : Thread nD τ).loc main_arg4)) (emb4 t j)

theorem emb5 (t : Fin cfg0.N) (y : S8x80x96.Idx) : (win0_5.blk t).view.emb y = y :=
  funext fun a => Fin.ext (Pipeline.Window.rect_emb_val_of_index_zero win0_5 t a rfl y)
theorem bl5 (c : Dev nD) (t : Fin cfg0.N) : b5 m c t = m ((c.tc : Thread nD τ).loc main_arg5) :=
  funext fun j => congrArg (m ((c.tc : Thread nD τ).loc main_arg5)) (emb5 t j)

theorem emb6 (t : Fin cfg0.N) (y : S8x8x128.Idx) : (win0_6.blk t).view.emb y = y :=
  funext fun a => Fin.ext (Pipeline.Window.rect_emb_val_of_index_zero win0_6 t a rfl y)
theorem bl6 (c : Dev nD) (t : Fin cfg0.N) : b6 m c t = m ((c.tc : Thread nD τ).loc main_arg6) :=
  funext fun j => congrArg (m ((c.tc : Thread nD τ).loc main_arg6)) (emb6 t j)

theorem emb7 (t : Fin cfg0.N) (y : S1x1024.Idx) : (win0_7.blk t).view.emb y = y :=
  funext fun a => Fin.ext (Pipeline.Window.rect_emb_val_of_index_zero win0_7 t a rfl y)
theorem bl7 (c : Dev nD) (t : Fin cfg0.N) : b7 m c t = m ((c.tc : Thread nD τ).loc main_arg7) :=
  funext fun j => congrArg (m ((c.tc : Thread nD τ).loc main_arg7)) (emb7 t j)

theorem emb8 (t : Fin cfg0.N) (y : S1x1024.Idx) : (win0_8.blk t).view.emb y = y :=
  funext fun a => Fin.ext (Pipeline.Window.rect_emb_val_of_index_zero win0_8 t a rfl y)
theorem bl8 (c : Dev nD) (t : Fin cfg0.N) : b8 m c t = m ((c.tc : Thread nD τ).loc main_arg8) :=
  funext fun j => congrArg (m ((c.tc : Thread nD τ).loc main_arg8)) (emb8 t j)

theorem emb9 (t : Fin cfg0.N) (y : S1x1024.Idx) : (win0_9.blk t).view.emb y = y :=
  funext fun a => Fin.ext (Pipeline.Window.rect_emb_val_of_index_zero win0_9 t a rfl y)
theorem bl9 (c : Dev nD) (t : Fin cfg0.N) : b9 m c t = m ((c.tc : Thread nD τ).loc main_arg9) :=
  funext fun j => congrArg (m ((c.tc : Thread nD τ).loc main_arg9)) (emb9 t j)

theorem emb10 (t : Fin cfg0.N) (y : S1x1024.Idx) : (win0_10.blk t).view.emb y = y :=
  funext fun a => Fin.ext (Pipeline.Window.rect_emb_val_of_index_zero win0_10 t a rfl y)
theorem bl10 (c : Dev nD) (t : Fin cfg0.N) : b10 m c t = m ((c.tc : Thread nD τ).loc main_arg10) :=
  funext fun j => congrArg (m ((c.tc : Thread nD τ).loc main_arg10)) (emb10 t j)

theorem emb11 (t : Fin cfg0.N) (y : S1x1024.Idx) : (win0_11.blk t).view.emb y = y :=
  funext fun a => Fin.ext (Pipeline.Window.rect_emb_val_of_index_zero win0_11 t a rfl y)
theorem bl11 (c : Dev nD) (t : Fin cfg0.N) : b11 m c t = m ((c.tc : Thread nD τ).loc main_arg11) :=
  funext fun j => congrArg (m ((c.tc : Thread nD τ).loc main_arg11)) (emb11 t j)

theorem emb12 (t : Fin cfg0.N) (y : S1x1024.Idx) : (win0_12.blk t).view.emb y = y :=
  funext fun a => Fin.ext (Pipeline.Window.rect_emb_val_of_index_zero win0_12 t a rfl y)
theorem bl12 (c : Dev nD) (t : Fin cfg0.N) : b12 m c t = m ((c.tc : Thread nD τ).loc main_arg12) :=
  funext fun j => congrArg (m ((c.tc : Thread nD τ).loc main_arg12)) (emb12 t j)

theorem emb13 (t : Fin cfg0.N) (y : S1x1024.Idx) : (win0_13.blk t).view.emb y = y :=
  funext fun a => Fin.ext (Pipeline.Window.rect_emb_val_of_index_zero win0_13 t a rfl y)
theorem bl13 (c : Dev nD) (t : Fin cfg0.N) : b13 m c t = m ((c.tc : Thread nD τ).loc main_arg13) :=
  funext fun j => congrArg (m ((c.tc : Thread nD τ).loc main_arg13)) (emb13 t j)

theorem emb14 (t : Fin cfg0.N) (y : S1x1024.Idx) : (win0_14.blk t).view.emb y = y :=
  funext fun a => Fin.ext (Pipeline.Window.rect_emb_val_of_index_zero win0_14 t a rfl y)
theorem bl14 (c : Dev nD) (t : Fin cfg0.N) : b14 m c t = m ((c.tc : Thread nD τ).loc main_arg14) :=
  funext fun j => congrArg (m ((c.tc : Thread nD τ).loc main_arg14)) (emb14 t j)

theorem emb15 (t : Fin cfg0.N) (y : S1x1024.Idx) : (win0_15.blk t).view.emb y = y :=
  funext fun a => Fin.ext (Pipeline.Window.rect_emb_val_of_index_zero win0_15 t a rfl y)
theorem bl15 (c : Dev nD) (t : Fin cfg0.N) : b15 m c t = m ((c.tc : Thread nD τ).loc main_arg15) :=
  funext fun j => congrArg (m ((c.tc : Thread nD τ).loc main_arg15)) (emb15 t j)

theorem emb16 (t : Fin cfg0.N) (y : S1x768.Idx) : (win0_16.blk t).view.emb y = y :=
  funext fun a => Fin.ext (Pipeline.Window.rect_emb_val_of_index_zero win0_16 t a rfl y)
theorem bl16 (c : Dev nD) (t : Fin cfg0.N) : b16 m c t = m ((c.tc : Thread nD τ).loc main_arg16) :=
  funext fun j => congrArg (m ((c.tc : Thread nD τ).loc main_arg16)) (emb16 t j)

theorem emb17 (t : Fin cfg0.N) (y : S1x768.Idx) : (win0_17.blk t).view.emb y = y :=
  funext fun a => Fin.ext (Pipeline.Window.rect_emb_val_of_index_zero win0_17 t a rfl y)
theorem bl17 (c : Dev nD) (t : Fin cfg0.N) : b17 m c t = m ((c.tc : Thread nD τ).loc main_arg17) :=
  funext fun j => congrArg (m ((c.tc : Thread nD τ).loc main_arg17)) (emb17 t j)

theorem emb18 (t : Fin cfg0.N) (y : S1x768.Idx) : (win0_18.blk t).view.emb y = y :=
  funext fun a => Fin.ext (Pipeline.Window.rect_emb_val_of_index_zero win0_18 t a rfl y)
theorem bl18 (c : Dev nD) (t : Fin cfg0.N) : b18 m c t = m ((c.tc : Thread nD τ).loc main_arg18) :=
  funext fun j => congrArg (m ((c.tc : Thread nD τ).loc main_arg18)) (emb18 t j)

theorem emb19 (t : Fin cfg0.N) (y : S1x768.Idx) : (win0_19.blk t).view.emb y = y :=
  funext fun a => Fin.ext (Pipeline.Window.rect_emb_val_of_index_zero win0_19 t a rfl y)
theorem bl19 (c : Dev nD) (t : Fin cfg0.N) : b19 m c t = m ((c.tc : Thread nD τ).loc main_arg19) :=
  funext fun j => congrArg (m ((c.tc : Thread nD τ).loc main_arg19)) (emb19 t j)

theorem emb20 (t : Fin cfg0.N) (y : S1x768.Idx) : (win0_20.blk t).view.emb y = y :=
  funext fun a => Fin.ext (Pipeline.Window.rect_emb_val_of_index_zero win0_20 t a rfl y)
theorem bl20 (c : Dev nD) (t : Fin cfg0.N) : b20 m c t = m ((c.tc : Thread nD τ).loc main_arg20) :=
  funext fun j => congrArg (m ((c.tc : Thread nD τ).loc main_arg20)) (emb20 t j)

theorem emb21 (t : Fin cfg0.N) (y : S1x768.Idx) : (win0_21.blk t).view.emb y = y :=
  funext fun a => Fin.ext (Pipeline.Window.rect_emb_val_of_index_zero win0_21 t a rfl y)
theorem bl21 (c : Dev nD) (t : Fin cfg0.N) : b21 m c t = m ((c.tc : Thread nD τ).loc main_arg21) :=
  funext fun j => congrArg (m ((c.tc : Thread nD τ).loc main_arg21)) (emb21 t j)

theorem emb22 (t : Fin cfg0.N) (y : S512x128.Idx) : (win0_22.blk t).view.emb y = y :=
  funext fun a => Fin.ext (Pipeline.Window.rect_emb_val_of_index_zero win0_22 t a rfl y)
theorem bl22 (c : Dev nD) (t : Fin cfg0.N) : b22 m c t = m ((c.tc : Thread nD τ).loc main_arg22) :=
  funext fun j => congrArg (m ((c.tc : Thread nD τ).loc main_arg22)) (emb22 t j)

theorem emb23 (t : Fin cfg0.N) (y : S512x128.Idx) : (win0_23.blk t).view.emb y = y :=
  funext fun a => Fin.ext (Pipeline.Window.rect_emb_val_of_index_zero win0_23 t a rfl y)
theorem bl23 (c : Dev nD) (t : Fin cfg0.N) : b23 m c t = m ((c.tc : Thread nD τ).loc main_arg23) :=
  funext fun j => congrArg (m ((c.tc : Thread nD τ).loc main_arg23)) (emb23 t j)

theorem emb24 (t : Fin cfg0.N) (y : S512x128.Idx) : (win0_24.blk t).view.emb y = y :=
  funext fun a => Fin.ext (Pipeline.Window.rect_emb_val_of_index_zero win0_24 t a rfl y)
theorem bl24 (c : Dev nD) (t : Fin cfg0.N) : b24 m c t = m ((c.tc : Thread nD τ).loc main_arg24) :=
  funext fun j => congrArg (m ((c.tc : Thread nD τ).loc main_arg24)) (emb24 t j)

theorem emb25 (t : Fin cfg0.N) (y : S4x128.Idx) : (win0_25.blk t).view.emb y = y :=
  funext fun a => Fin.ext (Pipeline.Window.rect_emb_val_of_index_zero win0_25 t a rfl y)
theorem bl25 (c : Dev nD) (t : Fin cfg0.N) : b25 m c t = m ((c.tc : Thread nD τ).loc main_arg25) :=
  funext fun j => congrArg (m ((c.tc : Thread nD τ).loc main_arg25)) (emb25 t j)

theorem emb26 (t : Fin cfg0.N) (y : S4x128.Idx) : (win0_26.blk t).view.emb y = y :=
  funext fun a => Fin.ext (Pipeline.Window.rect_emb_val_of_index_zero win0_26 t a rfl y)
theorem bl26 (c : Dev nD) (t : Fin cfg0.N) : b26 m c t = m ((c.tc : Thread nD τ).loc main_arg26) :=
  funext fun j => congrArg (m ((c.tc : Thread nD τ).loc main_arg26)) (emb26 t j)

theorem emb27 (t : Fin cfg0.N) (y : S4x128.Idx) : (win0_27.blk t).view.emb y = y :=
  funext fun a => Fin.ext (Pipeline.Window.rect_emb_val_of_index_zero win0_27 t a rfl y)
theorem bl27 (c : Dev nD) (t : Fin cfg0.N) : b27 m c t = m ((c.tc : Thread nD τ).loc main_arg27) :=
  funext fun j => congrArg (m ((c.tc : Thread nD τ).loc main_arg27)) (emb27 t j)

theorem emb28 (t : Fin cfg0.N) (y : S768x192.Idx) : (win0_28.blk t).view.emb y = y :=
  funext fun a => Fin.ext (Pipeline.Window.rect_emb_val_of_index_zero win0_28 t a rfl y)
theorem bl28 (c : Dev nD) (t : Fin cfg0.N) : b28 m c t = m ((c.tc : Thread nD τ).loc main_arg28) :=
  funext fun j => congrArg (m ((c.tc : Thread nD τ).loc main_arg28)) (emb28 t j)

theorem emb29 (t : Fin cfg0.N) (y : S768x192.Idx) : (win0_29.blk t).view.emb y = y :=
  funext fun a => Fin.ext (Pipeline.Window.rect_emb_val_of_index_zero win0_29 t a rfl y)
theorem bl29 (c : Dev nD) (t : Fin cfg0.N) : b29 m c t = m ((c.tc : Thread nD τ).loc main_arg29) :=
  funext fun j => congrArg (m ((c.tc : Thread nD τ).loc main_arg29)) (emb29 t j)

theorem emb30 (t : Fin cfg0.N) (y : S768x192.Idx) : (win0_30.blk t).view.emb y = y :=
  funext fun a => Fin.ext (Pipeline.Window.rect_emb_val_of_index_zero win0_30 t a rfl y)
theorem bl30 (c : Dev nD) (t : Fin cfg0.N) : b30 m c t = m ((c.tc : Thread nD τ).loc main_arg30) :=
  funext fun j => congrArg (m ((c.tc : Thread nD τ).loc main_arg30)) (emb30 t j)

end Cert.AdamSmallIdeal.Final
end
-- ==== Proof.AdamSmall.Input1.lean ====
module

public import proofs.«01_k».proof.Proof.AdamSmall.Blocks
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Each input's block is its whole array. -/

namespace Cert.AdamSmallIdeal.Final

open Cert.AdamSmallIdeal Cert.AdamSmallIdeal.Gen Cert.AdamSmallIdeal.Body

variable (m : (ℓ : Loc nD τ sig) → Buf (Elt Ideal) ℓ)

theorem emb31 (t : Fin cfg0.N) (y : S1x128.Idx) : (win0_31.blk t).view.emb y = y :=
  funext fun a => Fin.ext (Pipeline.Window.rect_emb_val_of_index_zero win0_31 t a rfl y)
theorem bl31 (c : Dev nD) (t : Fin cfg0.N) : b31 m c t = m ((c.tc : Thread nD τ).loc main_arg31) :=
  funext fun j => congrArg (m ((c.tc : Thread nD τ).loc main_arg31)) (emb31 t j)

theorem emb32 (t : Fin cfg0.N) (y : S1x128.Idx) : (win0_32.blk t).view.emb y = y :=
  funext fun a => Fin.ext (Pipeline.Window.rect_emb_val_of_index_zero win0_32 t a rfl y)
theorem bl32 (c : Dev nD) (t : Fin cfg0.N) : b32 m c t = m ((c.tc : Thread nD τ).loc main_arg32) :=
  funext fun j => congrArg (m ((c.tc : Thread nD τ).loc main_arg32)) (emb32 t j)

theorem emb33 (t : Fin cfg0.N) (y : S1x128.Idx) : (win0_33.blk t).view.emb y = y :=
  funext fun a => Fin.ext (Pipeline.Window.rect_emb_val_of_index_zero win0_33 t a rfl y)
theorem bl33 (c : Dev nD) (t : Fin cfg0.N) : b33 m c t = m ((c.tc : Thread nD τ).loc main_arg33) :=
  funext fun j => congrArg (m ((c.tc : Thread nD τ).loc main_arg33)) (emb33 t j)

theorem emb34 (t : Fin cfg0.N) (y : S1x128.Idx) : (win0_34.blk t).view.emb y = y :=
  funext fun a => Fin.ext (Pipeline.Window.rect_emb_val_of_index_zero win0_34 t a rfl y)
theorem bl34 (c : Dev nD) (t : Fin cfg0.N) : b34 m c t = m ((c.tc : Thread nD τ).loc main_arg34) :=
  funext fun j => congrArg (m ((c.tc : Thread nD τ).loc main_arg34)) (emb34 t j)

theorem emb35 (t : Fin cfg0.N) (y : S1x128.Idx) : (win0_35.blk t).view.emb y = y :=
  funext fun a => Fin.ext (Pipeline.Window.rect_emb_val_of_index_zero win0_35 t a rfl y)
theorem bl35 (c : Dev nD) (t : Fin cfg0.N) : b35 m c t = m ((c.tc : Thread nD τ).loc main_arg35) :=
  funext fun j => congrArg (m ((c.tc : Thread nD τ).loc main_arg35)) (emb35 t j)

theorem emb36 (t : Fin cfg0.N) (y : S1x128.Idx) : (win0_36.blk t).view.emb y = y :=
  funext fun a => Fin.ext (Pipeline.Window.rect_emb_val_of_index_zero win0_36 t a rfl y)
theorem bl36 (c : Dev nD) (t : Fin cfg0.N) : b36 m c t = m ((c.tc : Thread nD τ).loc main_arg36) :=
  funext fun j => congrArg (m ((c.tc : Thread nD τ).loc main_arg36)) (emb36 t j)

theorem emb37 (t : Fin cfg0.N) (y : S1x128.Idx) : (win0_37.blk t).view.emb y = y :=
  funext fun a => Fin.ext (Pipeline.Window.rect_emb_val_of_index_zero win0_37 t a rfl y)
theorem bl37 (c : Dev nD) (t : Fin cfg0.N) : b37 m c t = m ((c.tc : Thread nD τ).loc main_arg37) :=
  funext fun j => congrArg (m ((c.tc : Thread nD τ).loc main_arg37)) (emb37 t j)

theorem emb38 (t : Fin cfg0.N) (y : S1x128.Idx) : (win0_38.blk t).view.emb y = y :=
  funext fun a => Fin.ext (Pipeline.Window.rect_emb_val_of_index_zero win0_38 t a rfl y)
theorem bl38 (c : Dev nD) (t : Fin cfg0.N) : b38 m c t = m ((c.tc : Thread nD τ).loc main_arg38) :=
  funext fun j => congrArg (m ((c.tc : Thread nD τ).loc main_arg38)) (emb38 t j)

theorem emb39 (t : Fin cfg0.N) (y : S1x128.Idx) : (win0_39.blk t).view.emb y = y :=
  funext fun a => Fin.ext (Pipeline.Window.rect_emb_val_of_index_zero win0_39 t a rfl y)
theorem bl39 (c : Dev nD) (t : Fin cfg0.N) : b39 m c t = m ((c.tc : Thread nD τ).loc main_arg39) :=
  funext fun j => congrArg (m ((c.tc : Thread nD τ).loc main_arg39)) (emb39 t j)

theorem emb40 (t : Fin cfg0.N) (y : S3x96.Idx) : (win0_40.blk t).view.emb y = y :=
  funext fun a => Fin.ext (Pipeline.Window.rect_emb_val_of_index_zero win0_40 t a rfl y)
theorem bl40 (c : Dev nD) (t : Fin cfg0.N) : b40 m c t = m ((c.tc : Thread nD τ).loc main_arg40) :=
  funext fun j => congrArg (m ((c.tc : Thread nD τ).loc main_arg40)) (emb40 t j)

theorem emb41 (t : Fin cfg0.N) (y : S3x96.Idx) : (win0_41.blk t).view.emb y = y :=
  funext fun a => Fin.ext (Pipeline.Window.rect_emb_val_of_index_zero win0_41 t a rfl y)
theorem bl41 (c : Dev nD) (t : Fin cfg0.N) : b41 m c t = m ((c.tc : Thread nD τ).loc main_arg41) :=
  funext fun j => congrArg (m ((c.tc : Thread nD τ).loc main_arg41)) (emb41 t j)

theorem emb42 (t : Fin cfg0.N) (y : S3x96.Idx) : (win0_42.blk t).view.emb y = y :=
  funext fun a => Fin.ext (Pipeline.Window.rect_emb_val_of_index_zero win0_42 t a rfl y)
theorem bl42 (c : Dev nD) (t : Fin cfg0.N) : b42 m c t = m ((c.tc : Thread nD τ).loc main_arg42) :=
  funext fun j => congrArg (m ((c.tc : Thread nD τ).loc main_arg42)) (emb42 t j)

theorem emb43 (t : Fin cfg0.N) (y : S1x96.Idx) : (win0_43.blk t).view.emb y = y :=
  funext fun a => Fin.ext (Pipeline.Window.rect_emb_val_of_index_zero win0_43 t a rfl y)
theorem bl43 (c : Dev nD) (t : Fin cfg0.N) : b43 m c t = m ((c.tc : Thread nD τ).loc main_arg43) :=
  funext fun j => congrArg (m ((c.tc : Thread nD τ).loc main_arg43)) (emb43 t j)

theorem emb44 (t : Fin cfg0.N) (y : S1x96.Idx) : (win0_44.blk t).view.emb y = y :=
  funext fun a => Fin.ext (Pipeline.Window.rect_emb_val_of_index_zero win0_44 t a rfl y)
theorem bl44 (c : Dev nD) (t : Fin cfg0.N) : b44 m c t = m ((c.tc : Thread nD τ).loc main_arg44) :=
  funext fun j => congrArg (m ((c.tc : Thread nD τ).loc main_arg44)) (emb44 t j)

theorem emb45 (t : Fin cfg0.N) (y : S1x96.Idx) : (win0_45.blk t).view.emb y = y :=
  funext fun a => Fin.ext (Pipeline.Window.rect_emb_val_of_index_zero win0_45 t a rfl y)
theorem bl45 (c : Dev nD) (t : Fin cfg0.N) : b45 m c t = m ((c.tc : Thread nD τ).loc main_arg45) :=
  funext fun j => congrArg (m ((c.tc : Thread nD τ).loc main_arg45)) (emb45 t j)

theorem emb46 (t : Fin cfg0.N) (y : S31x96.Idx) : (win0_46.blk t).view.emb y = y :=
  funext fun a => Fin.ext (Pipeline.Window.rect_emb_val_of_index_zero win0_46 t a rfl y)
theorem bl46 (c : Dev nD) (t : Fin cfg0.N) : b46 m c t = m ((c.tc : Thread nD τ).loc main_arg46) :=
  funext fun j => congrArg (m ((c.tc : Thread nD τ).loc main_arg46)) (emb46 t j)

theorem emb47 (t : Fin cfg0.N) (y : S31x96.Idx) : (win0_47.blk t).view.emb y = y :=
  funext fun a => Fin.ext (Pipeline.Window.rect_emb_val_of_index_zero win0_47 t a rfl y)
theorem bl47 (c : Dev nD) (t : Fin cfg0.N) : b47 m c t = m ((c.tc : Thread nD τ).loc main_arg47) :=
  funext fun j => congrArg (m ((c.tc : Thread nD τ).loc main_arg47)) (emb47 t j)

theorem emb48 (t : Fin cfg0.N) (y : S31x96.Idx) : (win0_48.blk t).view.emb y = y :=
  funext fun a => Fin.ext (Pipeline.Window.rect_emb_val_of_index_zero win0_48 t a rfl y)
theorem bl48 (c : Dev nD) (t : Fin cfg0.N) : b48 m c t = m ((c.tc : Thread nD τ).loc main_arg48) :=
  funext fun j => congrArg (m ((c.tc : Thread nD τ).loc main_arg48)) (emb48 t j)

theorem emb49 (t : Fin cfg0.N) (y : S1x96.Idx) : (win0_49.blk t).view.emb y = y :=
  funext fun a => Fin.ext (Pipeline.Window.rect_emb_val_of_index_zero win0_49 t a rfl y)
theorem bl49 (c : Dev nD) (t : Fin cfg0.N) : b49 m c t = m ((c.tc : Thread nD τ).loc main_arg49) :=
  funext fun j => congrArg (m ((c.tc : Thread nD τ).loc main_arg49)) (emb49 t j)

theorem emb50 (t : Fin cfg0.N) (y : S1x96.Idx) : (win0_50.blk t).view.emb y = y :=
  funext fun a => Fin.ext (Pipeline.Window.rect_emb_val_of_index_zero win0_50 t a rfl y)
theorem bl50 (c : Dev nD) (t : Fin cfg0.N) : b50 m c t = m ((c.tc : Thread nD τ).loc main_arg50) :=
  funext fun j => congrArg (m ((c.tc : Thread nD τ).loc main_arg50)) (emb50 t j)

theorem emb51 (t : Fin cfg0.N) (y : S1x96.Idx) : (win0_51.blk t).view.emb y = y :=
  funext fun a => Fin.ext (Pipeline.Window.rect_emb_val_of_index_zero win0_51 t a rfl y)
theorem bl51 (c : Dev nD) (t : Fin cfg0.N) : b51 m c t = m ((c.tc : Thread nD τ).loc main_arg51) :=
  funext fun j => congrArg (m ((c.tc : Thread nD τ).loc main_arg51)) (emb51 t j)

theorem emb52 (t : Fin cfg0.N) (y : S1x96.Idx) : (win0_52.blk t).view.emb y = y :=
  funext fun a => Fin.ext (Pipeline.Window.rect_emb_val_of_index_zero win0_52 t a rfl y)
theorem bl52 (c : Dev nD) (t : Fin cfg0.N) : b52 m c t = m ((c.tc : Thread nD τ).loc main_arg52) :=
  funext fun j => congrArg (m ((c.tc : Thread nD τ).loc main_arg52)) (emb52 t j)

theorem emb53 (t : Fin cfg0.N) (y : S1x96.Idx) : (win0_53.blk t).view.emb y = y :=
  funext fun a => Fin.ext (Pipeline.Window.rect_emb_val_of_index_zero win0_53 t a rfl y)
theorem bl53 (c : Dev nD) (t : Fin cfg0.N) : b53 m c t = m ((c.tc : Thread nD τ).loc main_arg53) :=
  funext fun j => congrArg (m ((c.tc : Thread nD τ).loc main_arg53)) (emb53 t j)

theorem emb54 (t : Fin cfg0.N) (y : S1x96.Idx) : (win0_54.blk t).view.emb y = y :=
  funext fun a => Fin.ext (Pipeline.Window.rect_emb_val_of_index_zero win0_54 t a rfl y)
theorem bl54 (c : Dev nD) (t : Fin cfg0.N) : b54 m c t = m ((c.tc : Thread nD τ).loc main_arg54) :=
  funext fun j => congrArg (m ((c.tc : Thread nD τ).loc main_arg54)) (emb54 t j)

theorem emb55 (t : Fin cfg0.N) (y : S1x96.Idx) : (win0_55.blk t).view.emb y = y :=
  funext fun a => Fin.ext (Pipeline.Window.rect_emb_val_of_index_zero win0_55 t a rfl y)
theorem bl55 (c : Dev nD) (t : Fin cfg0.N) : b55 m c t = m ((c.tc : Thread nD τ).loc main_arg55) :=
  funext fun j => congrArg (m ((c.tc : Thread nD τ).loc main_arg55)) (emb55 t j)

theorem emb56 (t : Fin cfg0.N) (y : S1x96.Idx) : (win0_56.blk t).view.emb y = y :=
  funext fun a => Fin.ext (Pipeline.Window.rect_emb_val_of_index_zero win0_56 t a rfl y)
theorem bl56 (c : Dev nD) (t : Fin cfg0.N) : b56 m c t = m ((c.tc : Thread nD τ).loc main_arg56) :=
  funext fun j => congrArg (m ((c.tc : Thread nD τ).loc main_arg56)) (emb56 t j)

theorem emb57 (t : Fin cfg0.N) (y : S1x96.Idx) : (win0_57.blk t).view.emb y = y :=
  funext fun a => Fin.ext (Pipeline.Window.rect_emb_val_of_index_zero win0_57 t a rfl y)
theorem bl57 (c : Dev nD) (t : Fin cfg0.N) : b57 m c t = m ((c.tc : Thread nD τ).loc main_arg57) :=
  funext fun j => congrArg (m ((c.tc : Thread nD τ).loc main_arg57)) (emb57 t j)

theorem emb58 (t : Fin cfg0.N) (y : S1x96.Idx) : (win0_58.blk t).view.emb y = y :=
  funext fun a => Fin.ext (Pipeline.Window.rect_emb_val_of_index_zero win0_58 t a rfl y)
theorem bl58 (c : Dev nD) (t : Fin cfg0.N) : b58 m c t = m ((c.tc : Thread nD τ).loc main_arg58) :=
  funext fun j => congrArg (m ((c.tc : Thread nD τ).loc main_arg58)) (emb58 t j)

theorem emb59 (t : Fin cfg0.N) (y : S1x96.Idx) : (win0_59.blk t).view.emb y = y :=
  funext fun a => Fin.ext (Pipeline.Window.rect_emb_val_of_index_zero win0_59 t a rfl y)
theorem bl59 (c : Dev nD) (t : Fin cfg0.N) : b59 m c t = m ((c.tc : Thread nD τ).loc main_arg59) :=
  funext fun j => congrArg (m ((c.tc : Thread nD τ).loc main_arg59)) (emb59 t j)

theorem emb60 (t : Fin cfg0.N) (y : S1x96.Idx) : (win0_60.blk t).view.emb y = y :=
  funext fun a => Fin.ext (Pipeline.Window.rect_emb_val_of_index_zero win0_60 t a rfl y)
theorem bl60 (c : Dev nD) (t : Fin cfg0.N) : b60 m c t = m ((c.tc : Thread nD τ).loc main_arg60) :=
  funext fun j => congrArg (m ((c.tc : Thread nD τ).loc main_arg60)) (emb60 t j)

end Cert.AdamSmallIdeal.Final
end
-- ==== Proof.AdamSmall.Equal0.lean ====
module

public import proofs.«01_k».proof.Proof.AdamSmall.Values
public import proofs.«01_k».proof.Proof.AdamSmall.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Each output the body leaves is the reference's, of the same arrays. -/

namespace Cert.AdamSmallIdeal.Final

open Cert.AdamSmallIdeal Cert.AdamSmallIdeal.Gen Cert.AdamSmallIdeal.Body Cert.AdamSmallRefIdeal.Terms

theorem o61 (x0 : Vec Ideal S8x24x1024 .f32) : out61 x0 = grad0 x0 := by
  unfold out61
  funext j
  frame_out
  pointwise [k0_pay4, val108, k0_pay3, const, mom, vel, delta, grad0, Fin.sum_univ_eight]
  all_goals rw [ix2_row j]

theorem o62 (x0 : Vec Ideal S8x24x1024 .f32) (x7 : Vec Ideal S1x1024 .f32) (x8 : Vec Ideal S1x1024 .f32) (x9 : Vec Ideal S1x1024 .f32) : out62 x0 x7 x8 x9 = delta AdamSmallRefIdeal.Gen.bcast_S_S1x1024 (grad0 x0) x7 x8 x9 := by
  unfold out62
  funext j
  frame_out
  pointwise [k0_pay8, k0_pay7, val109, k0_pay4, val108, k0_pay3, val110, k0_pay5, val111, k0_pay6, const, mom, vel, delta, grad0, Fin.sum_univ_eight]
  all_goals rw [ix2_row j]

theorem o63 (x0 : Vec Ideal S8x24x1024 .f32) (x8 : Vec Ideal S1x1024 .f32) : out63 x0 x8 = mom AdamSmallRefIdeal.Gen.bcast_S_S1x1024 (grad0 x0) x8 := by
  unfold out63
  funext j
  frame_out
  pointwise [val110, k0_pay5, k0_pay4, val108, k0_pay3, const, mom, vel, delta, grad0, Fin.sum_univ_eight]
  all_goals rw [ix2_row j]

theorem o64 (x0 : Vec Ideal S8x24x1024 .f32) (x9 : Vec Ideal S1x1024 .f32) : out64 x0 x9 = vel AdamSmallRefIdeal.Gen.bcast_S_S1x1024 (grad0 x0) x9 := by
  unfold out64
  funext j
  frame_out
  pointwise [k0_pay7, val109, k0_pay4, val108, k0_pay3, val111, k0_pay6, const, mom, vel, delta, grad0, Fin.sum_univ_eight]
  all_goals rw [ix2_row j]

theorem o65 (x0 : Vec Ideal S8x24x1024 .f32) : out65 x0 = grad1 x0 := by
  unfold out65
  funext j
  frame_out
  pointwise [k0_pay10, val112, k0_pay9, const, mom, vel, delta, grad1, Fin.sum_univ_eight]
  all_goals rw [ix2_row j]

theorem o66 (x0 : Vec Ideal S8x24x1024 .f32) (x10 : Vec Ideal S1x1024 .f32) (x11 : Vec Ideal S1x1024 .f32) (x12 : Vec Ideal S1x1024 .f32) : out66 x0 x10 x11 x12 = delta AdamSmallRefIdeal.Gen.bcast_S_S1x1024 (grad1 x0) x10 x11 x12 := by
  unfold out66
  funext j
  frame_out
  pointwise [k0_pay16, k0_pay13, k0_pay11, k0_pay10, val112, k0_pay9, k0_pay14, k0_pay12, k0_pay15, const, mom, vel, delta, grad1, Fin.sum_univ_eight]
  all_goals rw [ix2_row j]

theorem o67 (x0 : Vec Ideal S8x24x1024 .f32) (x11 : Vec Ideal S1x1024 .f32) : out67 x0 x11 = mom AdamSmallRefIdeal.Gen.bcast_S_S1x1024 (grad1 x0) x11 := by
  unfold out67
  funext j
  frame_out
  pointwise [k0_pay11, k0_pay10, val112, k0_pay9, const, mom, vel, delta, grad1, Fin.sum_univ_eight]
  all_goals rw [ix2_row j]

theorem o68 (x0 : Vec Ideal S8x24x1024 .f32) (x12 : Vec Ideal S1x1024 .f32) : out68 x0 x12 = vel AdamSmallRefIdeal.Gen.bcast_S_S1x1024 (grad1 x0) x12 := by
  unfold out68
  funext j
  frame_out
  pointwise [k0_pay12, k0_pay10, val112, k0_pay9, const, mom, vel, delta, grad1, Fin.sum_univ_eight]
  all_goals rw [ix2_row j]

theorem o69 (x0 : Vec Ideal S8x24x1024 .f32) : out69 x0 = grad2 x0 := by
  unfold out69
  funext j
  frame_out
  pointwise [k0_pay18, val113, k0_pay17, const, mom, vel, delta, grad2, Fin.sum_univ_eight]
  all_goals rw [ix2_row j]

theorem o70 (x0 : Vec Ideal S8x24x1024 .f32) (x13 : Vec Ideal S1x1024 .f32) (x14 : Vec Ideal S1x1024 .f32) (x15 : Vec Ideal S1x1024 .f32) : out70 x0 x13 x14 x15 = delta AdamSmallRefIdeal.Gen.bcast_S_S1x1024 (grad2 x0) x13 x14 x15 := by
  unfold out70
  funext j
  frame_out
  pointwise [k0_pay21, k0_pay19, k0_pay18, k0_pay20, val113, k0_pay17, const, mom, vel, delta, grad2, Fin.sum_univ_eight]
  all_goals rw [ix2_row j]

theorem o71 (x0 : Vec Ideal S8x24x1024 .f32) (x14 : Vec Ideal S1x1024 .f32) : out71 x0 x14 = mom AdamSmallRefIdeal.Gen.bcast_S_S1x1024 (grad2 x0) x14 := by
  unfold out71
  funext j
  frame_out
  pointwise [k0_pay19, k0_pay18, val113, k0_pay17, const, mom, vel, delta, grad2, Fin.sum_univ_eight]
  all_goals rw [ix2_row j]

theorem o72 (x0 : Vec Ideal S8x24x1024 .f32) (x15 : Vec Ideal S1x1024 .f32) : out72 x0 x15 = vel AdamSmallRefIdeal.Gen.bcast_S_S1x1024 (grad2 x0) x15 := by
  unfold out72
  funext j
  frame_out
  pointwise [k0_pay20, k0_pay18, val113, k0_pay17, const, mom, vel, delta, grad2, Fin.sum_univ_eight]
  all_goals rw [ix2_row j]

theorem o73 (x1 : Vec Ideal S8x16x768 .f32) : out73 x1 = grad3 x1 := by
  unfold out73
  funext j
  frame_out
  pointwise [k0_pay22, const, mom, vel, delta, grad3, Fin.sum_univ_eight]
  all_goals rw [ix2_row j]

theorem o74 (x1 : Vec Ideal S8x16x768 .f32) (x16 : Vec Ideal S1x768 .f32) (x17 : Vec Ideal S1x768 .f32) (x18 : Vec Ideal S1x768 .f32) : out74 x1 x16 x17 x18 = delta AdamSmallRefIdeal.Gen.bcast_S_S1x768 (grad3 x1) x16 x17 x18 := by
  unfold out74
  funext j
  frame_out
  pointwise [k0_pay25, k0_pay23, k0_pay24, val114, k0_pay22, const, mom, vel, delta, grad3, Fin.sum_univ_eight]
  all_goals rw [ix2_row j]

theorem o75 (x1 : Vec Ideal S8x16x768 .f32) (x17 : Vec Ideal S1x768 .f32) : out75 x1 x17 = mom AdamSmallRefIdeal.Gen.bcast_S_S1x768 (grad3 x1) x17 := by
  unfold out75
  funext j
  frame_out
  pointwise [k0_pay23, val114, k0_pay22, const, mom, vel, delta, grad3, Fin.sum_univ_eight]
  all_goals rw [ix2_row j]

theorem o76 (x1 : Vec Ideal S8x16x768 .f32) (x18 : Vec Ideal S1x768 .f32) : out76 x1 x18 = vel AdamSmallRefIdeal.Gen.bcast_S_S1x768 (grad3 x1) x18 := by
  unfold out76
  funext j
  frame_out
  pointwise [k0_pay24, val114, k0_pay22, const, mom, vel, delta, grad3, Fin.sum_univ_eight]
  all_goals rw [ix2_row j]

theorem o77 (x1 : Vec Ideal S8x16x768 .f32) : out77 x1 = grad4 x1 := by
  unfold out77
  funext j
  frame_out
  pointwise [k0_pay27, val115, k0_pay26, const, mom, vel, delta, grad4, Fin.sum_univ_eight]
  all_goals rw [ix2_row j]

theorem o78 (x1 : Vec Ideal S8x16x768 .f32) (x19 : Vec Ideal S1x768 .f32) (x20 : Vec Ideal S1x768 .f32) (x21 : Vec Ideal S1x768 .f32) : out78 x1 x19 x20 x21 = delta AdamSmallRefIdeal.Gen.bcast_S_S1x768 (grad4 x1) x19 x20 x21 := by
  unfold out78
  funext j
  frame_out
  pointwise [k0_pay31, k0_pay30, val116, k0_pay27, val115, k0_pay26, val117, k0_pay28, val118, k0_pay29, const, mom, vel, delta, grad4, Fin.sum_univ_eight]
  all_goals rw [ix2_row j]

theorem o79 (x1 : Vec Ideal S8x16x768 .f32) (x20 : Vec Ideal S1x768 .f32) : out79 x1 x20 = mom AdamSmallRefIdeal.Gen.bcast_S_S1x768 (grad4 x1) x20 := by
  unfold out79
  funext j
  frame_out
  pointwise [val117, k0_pay28, k0_pay27, val115, k0_pay26, const, mom, vel, delta, grad4, Fin.sum_univ_eight]
  all_goals rw [ix2_row j]

theorem o80 (x1 : Vec Ideal S8x16x768 .f32) (x21 : Vec Ideal S1x768 .f32) : out80 x1 x21 = vel AdamSmallRefIdeal.Gen.bcast_S_S1x768 (grad4 x1) x21 := by
  unfold out80
  funext j
  frame_out
  pointwise [k0_pay30, val116, k0_pay27, val115, k0_pay26, val118, k0_pay29, const, mom, vel, delta, grad4, Fin.sum_univ_eight]
  all_goals rw [ix2_row j]

end Cert.AdamSmallIdeal.Final
end
-- ==== Proof.AdamSmall.Final0.lean ====
module

public import proofs.«01_k».proof.Proof.AdamSmall.Dats
public import proofs.«01_k».proof.Proof.AdamSmall.Input0
public import proofs.«01_k».proof.Proof.AdamSmall.Input1
public import proofs.«01_k».proof.Proof.AdamSmall.Equal0
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the output arrays hold at the end. -/

namespace Cert.AdamSmallIdeal.Final

open Cert.AdamSmallIdeal Cert.AdamSmallIdeal.Gen Cert.AdamSmallIdeal.Body Cert.AdamSmallRefIdeal.Terms

variable (m : (ℓ : Loc nD τ sig) → Buf (Elt Ideal) ℓ)

theorem emb61 (t : Fin cfg0.N) (y : S1x1024.Idx) : (win0_61.blk t).view.emb y = y :=
  funext fun a => Fin.ext (Pipeline.Window.rect_emb_val_of_index_zero win0_61 t a rfl y)
theorem arr61 (c : Dev nD) (G : Vec Ideal S1x1024 .f32) (h : ∀ t, a61 m c t = G) : (dats m 0 c).arrAt (⟨61, by decide⟩ : Fin 134) (cfgs 0).N = G := by
  refine (dats m 0 c).arrAt_eq_of_covers (⟨61, by decide⟩ : Fin 134) G (by decide +kernel) fun t _ y => ?_
  rw [after61, h]
  exact congrArg G (emb61 t y).symm
theorem final61 (c : Dev nD) : (dats m 0 c).arrAt (⟨61, by decide⟩ : Fin 134) (cfgs 0).N = grad0 (m ((c.tc : Thread nD τ).loc main_arg0)) :=
  arr61 m c _ fun t => by unfold a61; rw [bl0, o61]

theorem emb62 (t : Fin cfg0.N) (y : S1x1024.Idx) : (win0_62.blk t).view.emb y = y :=
  funext fun a => Fin.ext (Pipeline.Window.rect_emb_val_of_index_zero win0_62 t a rfl y)
theorem arr62 (c : Dev nD) (G : Vec Ideal S1x1024 .f32) (h : ∀ t, a62 m c t = G) : (dats m 0 c).arrAt (⟨62, by decide⟩ : Fin 134) (cfgs 0).N = G := by
  refine (dats m 0 c).arrAt_eq_of_covers (⟨62, by decide⟩ : Fin 134) G (by decide +kernel) fun t _ y => ?_
  rw [after62, h]
  exact congrArg G (emb62 t y).symm
theorem final62 (c : Dev nD) : (dats m 0 c).arrAt (⟨62, by decide⟩ : Fin 134) (cfgs 0).N = delta AdamSmallRefIdeal.Gen.bcast_S_S1x1024 (grad0 (m ((c.tc : Thread nD τ).loc main_arg0))) (m ((c.tc : Thread nD τ).loc main_arg7)) (m ((c.tc : Thread nD τ).loc main_arg8)) (m ((c.tc : Thread nD τ).loc main_arg9)) :=
  arr62 m c _ fun t => by unfold a62; rw [bl0, bl7, bl8, bl9, o62]

theorem emb63 (t : Fin cfg0.N) (y : S1x1024.Idx) : (win0_63.blk t).view.emb y = y :=
  funext fun a => Fin.ext (Pipeline.Window.rect_emb_val_of_index_zero win0_63 t a rfl y)
theorem arr63 (c : Dev nD) (G : Vec Ideal S1x1024 .f32) (h : ∀ t, a63 m c t = G) : (dats m 0 c).arrAt (⟨63, by decide⟩ : Fin 134) (cfgs 0).N = G := by
  refine (dats m 0 c).arrAt_eq_of_covers (⟨63, by decide⟩ : Fin 134) G (by decide +kernel) fun t _ y => ?_
  rw [after63, h]
  exact congrArg G (emb63 t y).symm
theorem final63 (c : Dev nD) : (dats m 0 c).arrAt (⟨63, by decide⟩ : Fin 134) (cfgs 0).N = mom AdamSmallRefIdeal.Gen.bcast_S_S1x1024 (grad0 (m ((c.tc : Thread nD τ).loc main_arg0))) (m ((c.tc : Thread nD τ).loc main_arg8)) :=
  arr63 m c _ fun t => by unfold a63; rw [bl0, bl8, o63]

theorem emb64 (t : Fin cfg0.N) (y : S1x1024.Idx) : (win0_64.blk t).view.emb y = y :=
  funext fun a => Fin.ext (Pipeline.Window.rect_emb_val_of_index_zero win0_64 t a rfl y)
theorem arr64 (c : Dev nD) (G : Vec Ideal S1x1024 .f32) (h : ∀ t, a64 m c t = G) : (dats m 0 c).arrAt (⟨64, by decide⟩ : Fin 134) (cfgs 0).N = G := by
  refine (dats m 0 c).arrAt_eq_of_covers (⟨64, by decide⟩ : Fin 134) G (by decide +kernel) fun t _ y => ?_
  rw [after64, h]
  exact congrArg G (emb64 t y).symm
theorem final64 (c : Dev nD) : (dats m 0 c).arrAt (⟨64, by decide⟩ : Fin 134) (cfgs 0).N = vel AdamSmallRefIdeal.Gen.bcast_S_S1x1024 (grad0 (m ((c.tc : Thread nD τ).loc main_arg0))) (m ((c.tc : Thread nD τ).loc main_arg9)) :=
  arr64 m c _ fun t => by unfold a64; rw [bl0, bl9, o64]

theorem emb65 (t : Fin cfg0.N) (y : S1x1024.Idx) : (win0_65.blk t).view.emb y = y :=
  funext fun a => Fin.ext (Pipeline.Window.rect_emb_val_of_index_zero win0_65 t a rfl y)
theorem arr65 (c : Dev nD) (G : Vec Ideal S1x1024 .f32) (h : ∀ t, a65 m c t = G) : (dats m 0 c).arrAt (⟨65, by decide⟩ : Fin 134) (cfgs 0).N = G := by
  refine (dats m 0 c).arrAt_eq_of_covers (⟨65, by decide⟩ : Fin 134) G (by decide +kernel) fun t _ y => ?_
  rw [after65, h]
  exact congrArg G (emb65 t y).symm
theorem final65 (c : Dev nD) : (dats m 0 c).arrAt (⟨65, by decide⟩ : Fin 134) (cfgs 0).N = grad1 (m ((c.tc : Thread nD τ).loc main_arg0)) :=
  arr65 m c _ fun t => by unfold a65; rw [bl0, o65]

theorem emb66 (t : Fin cfg0.N) (y : S1x1024.Idx) : (win0_66.blk t).view.emb y = y :=
  funext fun a => Fin.ext (Pipeline.Window.rect_emb_val_of_index_zero win0_66 t a rfl y)
theorem arr66 (c : Dev nD) (G : Vec Ideal S1x1024 .f32) (h : ∀ t, a66 m c t = G) : (dats m 0 c).arrAt (⟨66, by decide⟩ : Fin 134) (cfgs 0).N = G := by
  refine (dats m 0 c).arrAt_eq_of_covers (⟨66, by decide⟩ : Fin 134) G (by decide +kernel) fun t _ y => ?_
  rw [after66, h]
  exact congrArg G (emb66 t y).symm
theorem final66 (c : Dev nD) : (dats m 0 c).arrAt (⟨66, by decide⟩ : Fin 134) (cfgs 0).N = delta AdamSmallRefIdeal.Gen.bcast_S_S1x1024 (grad1 (m ((c.tc : Thread nD τ).loc main_arg0))) (m ((c.tc : Thread nD τ).loc main_arg10)) (m ((c.tc : Thread nD τ).loc main_arg11)) (m ((c.tc : Thread nD τ).loc main_arg12)) :=
  arr66 m c _ fun t => by unfold a66; rw [bl0, bl10, bl11, bl12, o66]

theorem emb67 (t : Fin cfg0.N) (y : S1x1024.Idx) : (win0_67.blk t).view.emb y = y :=
  funext fun a => Fin.ext (Pipeline.Window.rect_emb_val_of_index_zero win0_67 t a rfl y)
theorem arr67 (c : Dev nD) (G : Vec Ideal S1x1024 .f32) (h : ∀ t, a67 m c t = G) : (dats m 0 c).arrAt (⟨67, by decide⟩ : Fin 134) (cfgs 0).N = G := by
  refine (dats m 0 c).arrAt_eq_of_covers (⟨67, by decide⟩ : Fin 134) G (by decide +kernel) fun t _ y => ?_
  rw [after67, h]
  exact congrArg G (emb67 t y).symm
theorem final67 (c : Dev nD) : (dats m 0 c).arrAt (⟨67, by decide⟩ : Fin 134) (cfgs 0).N = mom AdamSmallRefIdeal.Gen.bcast_S_S1x1024 (grad1 (m ((c.tc : Thread nD τ).loc main_arg0))) (m ((c.tc : Thread nD τ).loc main_arg11)) :=
  arr67 m c _ fun t => by unfold a67; rw [bl0, bl11, o67]

theorem emb68 (t : Fin cfg0.N) (y : S1x1024.Idx) : (win0_68.blk t).view.emb y = y :=
  funext fun a => Fin.ext (Pipeline.Window.rect_emb_val_of_index_zero win0_68 t a rfl y)
theorem arr68 (c : Dev nD) (G : Vec Ideal S1x1024 .f32) (h : ∀ t, a68 m c t = G) : (dats m 0 c).arrAt (⟨68, by decide⟩ : Fin 134) (cfgs 0).N = G := by
  refine (dats m 0 c).arrAt_eq_of_covers (⟨68, by decide⟩ : Fin 134) G (by decide +kernel) fun t _ y => ?_
  rw [after68, h]
  exact congrArg G (emb68 t y).symm
theorem final68 (c : Dev nD) : (dats m 0 c).arrAt (⟨68, by decide⟩ : Fin 134) (cfgs 0).N = vel AdamSmallRefIdeal.Gen.bcast_S_S1x1024 (grad1 (m ((c.tc : Thread nD τ).loc main_arg0))) (m ((c.tc : Thread nD τ).loc main_arg12)) :=
  arr68 m c _ fun t => by unfold a68; rw [bl0, bl12, o68]

theorem emb69 (t : Fin cfg0.N) (y : S1x1024.Idx) : (win0_69.blk t).view.emb y = y :=
  funext fun a => Fin.ext (Pipeline.Window.rect_emb_val_of_index_zero win0_69 t a rfl y)
theorem arr69 (c : Dev nD) (G : Vec Ideal S1x1024 .f32) (h : ∀ t, a69 m c t = G) : (dats m 0 c).arrAt (⟨69, by decide⟩ : Fin 134) (cfgs 0).N = G := by
  refine (dats m 0 c).arrAt_eq_of_covers (⟨69, by decide⟩ : Fin 134) G (by decide +kernel) fun t _ y => ?_
  rw [after69, h]
  exact congrArg G (emb69 t y).symm
theorem final69 (c : Dev nD) : (dats m 0 c).arrAt (⟨69, by decide⟩ : Fin 134) (cfgs 0).N = grad2 (m ((c.tc : Thread nD τ).loc main_arg0)) :=
  arr69 m c _ fun t => by unfold a69; rw [bl0, o69]

theorem emb70 (t : Fin cfg0.N) (y : S1x1024.Idx) : (win0_70.blk t).view.emb y = y :=
  funext fun a => Fin.ext (Pipeline.Window.rect_emb_val_of_index_zero win0_70 t a rfl y)
theorem arr70 (c : Dev nD) (G : Vec Ideal S1x1024 .f32) (h : ∀ t, a70 m c t = G) : (dats m 0 c).arrAt (⟨70, by decide⟩ : Fin 134) (cfgs 0).N = G := by
  refine (dats m 0 c).arrAt_eq_of_covers (⟨70, by decide⟩ : Fin 134) G (by decide +kernel) fun t _ y => ?_
  rw [after70, h]
  exact congrArg G (emb70 t y).symm
theorem final70 (c : Dev nD) : (dats m 0 c).arrAt (⟨70, by decide⟩ : Fin 134) (cfgs 0).N = delta AdamSmallRefIdeal.Gen.bcast_S_S1x1024 (grad2 (m ((c.tc : Thread nD τ).loc main_arg0))) (m ((c.tc : Thread nD τ).loc main_arg13)) (m ((c.tc : Thread nD τ).loc main_arg14)) (m ((c.tc : Thread nD τ).loc main_arg15)) :=
  arr70 m c _ fun t => by unfold a70; rw [bl0, bl13, bl14, bl15, o70]

theorem emb71 (t : Fin cfg0.N) (y : S1x1024.Idx) : (win0_71.blk t).view.emb y = y :=
  funext fun a => Fin.ext (Pipeline.Window.rect_emb_val_of_index_zero win0_71 t a rfl y)
theorem arr71 (c : Dev nD) (G : Vec Ideal S1x1024 .f32) (h : ∀ t, a71 m c t = G) : (dats m 0 c).arrAt (⟨71, by decide⟩ : Fin 134) (cfgs 0).N = G := by
  refine (dats m 0 c).arrAt_eq_of_covers (⟨71, by decide⟩ : Fin 134) G (by decide +kernel) fun t _ y => ?_
  rw [after71, h]
  exact congrArg G (emb71 t y).symm
theorem final71 (c : Dev nD) : (dats m 0 c).arrAt (⟨71, by decide⟩ : Fin 134) (cfgs 0).N = mom AdamSmallRefIdeal.Gen.bcast_S_S1x1024 (grad2 (m ((c.tc : Thread nD τ).loc main_arg0))) (m ((c.tc : Thread nD τ).loc main_arg14)) :=
  arr71 m c _ fun t => by unfold a71; rw [bl0, bl14, o71]

theorem emb72 (t : Fin cfg0.N) (y : S1x1024.Idx) : (win0_72.blk t).view.emb y = y :=
  funext fun a => Fin.ext (Pipeline.Window.rect_emb_val_of_index_zero win0_72 t a rfl y)
theorem arr72 (c : Dev nD) (G : Vec Ideal S1x1024 .f32) (h : ∀ t, a72 m c t = G) : (dats m 0 c).arrAt (⟨72, by decide⟩ : Fin 134) (cfgs 0).N = G := by
  refine (dats m 0 c).arrAt_eq_of_covers (⟨72, by decide⟩ : Fin 134) G (by decide +kernel) fun t _ y => ?_
  rw [after72, h]
  exact congrArg G (emb72 t y).symm
theorem final72 (c : Dev nD) : (dats m 0 c).arrAt (⟨72, by decide⟩ : Fin 134) (cfgs 0).N = vel AdamSmallRefIdeal.Gen.bcast_S_S1x1024 (grad2 (m ((c.tc : Thread nD τ).loc main_arg0))) (m ((c.tc : Thread nD τ).loc main_arg15)) :=
  arr72 m c _ fun t => by unfold a72; rw [bl0, bl15, o72]

theorem emb73 (t : Fin cfg0.N) (y : S1x768.Idx) : (win0_73.blk t).view.emb y = y :=
  funext fun a => Fin.ext (Pipeline.Window.rect_emb_val_of_index_zero win0_73 t a rfl y)
theorem arr73 (c : Dev nD) (G : Vec Ideal S1x768 .f32) (h : ∀ t, a73 m c t = G) : (dats m 0 c).arrAt (⟨73, by decide⟩ : Fin 134) (cfgs 0).N = G := by
  refine (dats m 0 c).arrAt_eq_of_covers (⟨73, by decide⟩ : Fin 134) G (by decide +kernel) fun t _ y => ?_
  rw [after73, h]
  exact congrArg G (emb73 t y).symm
theorem final73 (c : Dev nD) : (dats m 0 c).arrAt (⟨73, by decide⟩ : Fin 134) (cfgs 0).N = grad3 (m ((c.tc : Thread nD τ).loc main_arg1)) :=
  arr73 m c _ fun t => by unfold a73; rw [bl1, o73]

theorem emb74 (t : Fin cfg0.N) (y : S1x768.Idx) : (win0_74.blk t).view.emb y = y :=
  funext fun a => Fin.ext (Pipeline.Window.rect_emb_val_of_index_zero win0_74 t a rfl y)
theorem arr74 (c : Dev nD) (G : Vec Ideal S1x768 .f32) (h : ∀ t, a74 m c t = G) : (dats m 0 c).arrAt (⟨74, by decide⟩ : Fin 134) (cfgs 0).N = G := by
  refine (dats m 0 c).arrAt_eq_of_covers (⟨74, by decide⟩ : Fin 134) G (by decide +kernel) fun t _ y => ?_
  rw [after74, h]
  exact congrArg G (emb74 t y).symm
theorem final74 (c : Dev nD) : (dats m 0 c).arrAt (⟨74, by decide⟩ : Fin 134) (cfgs 0).N = delta AdamSmallRefIdeal.Gen.bcast_S_S1x768 (grad3 (m ((c.tc : Thread nD τ).loc main_arg1))) (m ((c.tc : Thread nD τ).loc main_arg16)) (m ((c.tc : Thread nD τ).loc main_arg17)) (m ((c.tc : Thread nD τ).loc main_arg18)) :=
  arr74 m c _ fun t => by unfold a74; rw [bl1, bl16, bl17, bl18, o74]

theorem emb75 (t : Fin cfg0.N) (y : S1x768.Idx) : (win0_75.blk t).view.emb y = y :=
  funext fun a => Fin.ext (Pipeline.Window.rect_emb_val_of_index_zero win0_75 t a rfl y)
theorem arr75 (c : Dev nD) (G : Vec Ideal S1x768 .f32) (h : ∀ t, a75 m c t = G) : (dats m 0 c).arrAt (⟨75, by decide⟩ : Fin 134) (cfgs 0).N = G := by
  refine (dats m 0 c).arrAt_eq_of_covers (⟨75, by decide⟩ : Fin 134) G (by decide +kernel) fun t _ y => ?_
  rw [after75, h]
  exact congrArg G (emb75 t y).symm
theorem final75 (c : Dev nD) : (dats m 0 c).arrAt (⟨75, by decide⟩ : Fin 134) (cfgs 0).N = mom AdamSmallRefIdeal.Gen.bcast_S_S1x768 (grad3 (m ((c.tc : Thread nD τ).loc main_arg1))) (m ((c.tc : Thread nD τ).loc main_arg17)) :=
  arr75 m c _ fun t => by unfold a75; rw [bl1, bl17, o75]

theorem emb76 (t : Fin cfg0.N) (y : S1x768.Idx) : (win0_76.blk t).view.emb y = y :=
  funext fun a => Fin.ext (Pipeline.Window.rect_emb_val_of_index_zero win0_76 t a rfl y)
theorem arr76 (c : Dev nD) (G : Vec Ideal S1x768 .f32) (h : ∀ t, a76 m c t = G) : (dats m 0 c).arrAt (⟨76, by decide⟩ : Fin 134) (cfgs 0).N = G := by
  refine (dats m 0 c).arrAt_eq_of_covers (⟨76, by decide⟩ : Fin 134) G (by decide +kernel) fun t _ y => ?_
  rw [after76, h]
  exact congrArg G (emb76 t y).symm
theorem final76 (c : Dev nD) : (dats m 0 c).arrAt (⟨76, by decide⟩ : Fin 134) (cfgs 0).N = vel AdamSmallRefIdeal.Gen.bcast_S_S1x768 (grad3 (m ((c.tc : Thread nD τ).loc main_arg1))) (m ((c.tc : Thread nD τ).loc main_arg18)) :=
  arr76 m c _ fun t => by unfold a76; rw [bl1, bl18, o76]

theorem emb77 (t : Fin cfg0.N) (y : S1x768.Idx) : (win0_77.blk t).view.emb y = y :=
  funext fun a => Fin.ext (Pipeline.Window.rect_emb_val_of_index_zero win0_77 t a rfl y)
theorem arr77 (c : Dev nD) (G : Vec Ideal S1x768 .f32) (h : ∀ t, a77 m c t = G) : (dats m 0 c).arrAt (⟨77, by decide⟩ : Fin 134) (cfgs 0).N = G := by
  refine (dats m 0 c).arrAt_eq_of_covers (⟨77, by decide⟩ : Fin 134) G (by decide +kernel) fun t _ y => ?_
  rw [after77, h]
  exact congrArg G (emb77 t y).symm
theorem final77 (c : Dev nD) : (dats m 0 c).arrAt (⟨77, by decide⟩ : Fin 134) (cfgs 0).N = grad4 (m ((c.tc : Thread nD τ).loc main_arg1)) :=
  arr77 m c _ fun t => by unfold a77; rw [bl1, o77]

theorem emb78 (t : Fin cfg0.N) (y : S1x768.Idx) : (win0_78.blk t).view.emb y = y :=
  funext fun a => Fin.ext (Pipeline.Window.rect_emb_val_of_index_zero win0_78 t a rfl y)
theorem arr78 (c : Dev nD) (G : Vec Ideal S1x768 .f32) (h : ∀ t, a78 m c t = G) : (dats m 0 c).arrAt (⟨78, by decide⟩ : Fin 134) (cfgs 0).N = G := by
  refine (dats m 0 c).arrAt_eq_of_covers (⟨78, by decide⟩ : Fin 134) G (by decide +kernel) fun t _ y => ?_
  rw [after78, h]
  exact congrArg G (emb78 t y).symm
theorem final78 (c : Dev nD) : (dats m 0 c).arrAt (⟨78, by decide⟩ : Fin 134) (cfgs 0).N = delta AdamSmallRefIdeal.Gen.bcast_S_S1x768 (grad4 (m ((c.tc : Thread nD τ).loc main_arg1))) (m ((c.tc : Thread nD τ).loc main_arg19)) (m ((c.tc : Thread nD τ).loc main_arg20)) (m ((c.tc : Thread nD τ).loc main_arg21)) :=
  arr78 m c _ fun t => by unfold a78; rw [bl1, bl19, bl20, bl21, o78]

theorem emb79 (t : Fin cfg0.N) (y : S1x768.Idx) : (win0_79.blk t).view.emb y = y :=
  funext fun a => Fin.ext (Pipeline.Window.rect_emb_val_of_index_zero win0_79 t a rfl y)
theorem arr79 (c : Dev nD) (G : Vec Ideal S1x768 .f32) (h : ∀ t, a79 m c t = G) : (dats m 0 c).arrAt (⟨79, by decide⟩ : Fin 134) (cfgs 0).N = G := by
  refine (dats m 0 c).arrAt_eq_of_covers (⟨79, by decide⟩ : Fin 134) G (by decide +kernel) fun t _ y => ?_
  rw [after79, h]
  exact congrArg G (emb79 t y).symm
theorem final79 (c : Dev nD) : (dats m 0 c).arrAt (⟨79, by decide⟩ : Fin 134) (cfgs 0).N = mom AdamSmallRefIdeal.Gen.bcast_S_S1x768 (grad4 (m ((c.tc : Thread nD τ).loc main_arg1))) (m ((c.tc : Thread nD τ).loc main_arg20)) :=
  arr79 m c _ fun t => by unfold a79; rw [bl1, bl20, o79]

theorem emb80 (t : Fin cfg0.N) (y : S1x768.Idx) : (win0_80.blk t).view.emb y = y :=
  funext fun a => Fin.ext (Pipeline.Window.rect_emb_val_of_index_zero win0_80 t a rfl y)
theorem arr80 (c : Dev nD) (G : Vec Ideal S1x768 .f32) (h : ∀ t, a80 m c t = G) : (dats m 0 c).arrAt (⟨80, by decide⟩ : Fin 134) (cfgs 0).N = G := by
  refine (dats m 0 c).arrAt_eq_of_covers (⟨80, by decide⟩ : Fin 134) G (by decide +kernel) fun t _ y => ?_
  rw [after80, h]
  exact congrArg G (emb80 t y).symm
theorem final80 (c : Dev nD) : (dats m 0 c).arrAt (⟨80, by decide⟩ : Fin 134) (cfgs 0).N = vel AdamSmallRefIdeal.Gen.bcast_S_S1x768 (grad4 (m ((c.tc : Thread nD τ).loc main_arg1))) (m ((c.tc : Thread nD τ).loc main_arg21)) :=
  arr80 m c _ fun t => by unfold a80; rw [bl1, bl21, o80]

end Cert.AdamSmallIdeal.Final
end
-- ==== Proof.AdamSmall.Results0.lean ====
module

public import proofs.«01_k».proof.Proof.AdamSmall.Final0
public import Idealize.ShloMosaic.Lib.Claim

@[expose] public section

set_option maxRecDepth 16384

noncomputable section

open Idealize.ShloMosaic Idealize.ShloMosaic.TcCoe Idealize.SL.Sem
open Idealize.ShloMosaic.Pipeline (Dat)

/-! What the results of the run are. -/

namespace Cert.AdamSmallIdeal.Final

open Cert.AdamSmallIdeal Cert.AdamSmallIdeal.Gen Cert.AdamSmallIdeal.Body Cert.AdamSmallRefIdeal.Terms

variable (m : (ℓ : Loc nD τ sig) → Buf (Elt Ideal) ℓ)

theorem res61 {r} (h : Pipeline.FramePost cfgs (dats m) 0 (V m) r) (c : Dev nD) : r.2.mem ((c.tc : Thread nD τ).loc main_v0_0) = grad0 (m ((c.tc : Thread nD τ).loc main_arg0)) :=
  ((h c).1 61).trans (final61 m c)
theorem res62 {r} (h : Pipeline.FramePost cfgs (dats m) 0 (V m) r) (c : Dev nD) : r.2.mem ((c.tc : Thread nD τ).loc main_v0_1) = delta AdamSmallRefIdeal.Gen.bcast_S_S1x1024 (grad0 (m ((c.tc : Thread nD τ).loc main_arg0))) (m ((c.tc : Thread nD τ).loc main_arg7)) (m ((c.tc : Thread nD τ).loc main_arg8)) (m ((c.tc : Thread nD τ).loc main_arg9)) :=
  ((h c).1 62).trans (final62 m c)
theorem res63 {r} (h : Pipeline.FramePost cfgs (dats m) 0 (V m) r) (c : Dev nD) : r.2.mem ((c.tc : Thread nD τ).loc main_v0_2) = mom AdamSmallRefIdeal.Gen.bcast_S_S1x1024 (grad0 (m ((c.tc : Thread nD τ).loc main_arg0))) (m ((c.tc : Thread nD τ).loc main_arg8)) :=
  ((h c).1 63).trans (final63 m c)
theorem res64 {r} (h : Pipeline.FramePost cfgs (dats m) 0 (V m) r) (c : Dev nD) : r.2.mem ((c.tc : Thread nD τ).loc main_v0_3) = vel AdamSmallRefIdeal.Gen.bcast_S_S1x1024 (grad0 (m ((c.tc : Thread nD τ).loc main_arg0))) (m ((c.tc : Thread nD τ).loc main_arg9)) :=
  ((h c).1 64).trans (final64 m c)
theorem res65 {r} (h : Pipeline.FramePost cfgs (dats m) 0 (V m) r) (c : Dev nD) : r.2.mem ((c.tc : Thread nD τ).loc main_v0_4) = grad1 (m ((c.tc : Thread nD τ).loc main_arg0)) :=
  ((h c).1 65).trans (final65 m c)
theorem res66 {r} (h : Pipeline.FramePost cfgs (dats m) 0 (V m) r) (c : Dev nD) : r.2.mem ((c.tc : Thread nD τ).loc main_v0_5) = delta AdamSmallRefIdeal.Gen.bcast_S_S1x1024 (grad1 (m ((c.tc : Thread nD τ).loc main_arg0))) (m ((c.tc : Thread nD τ).loc main_arg10)) (m ((c.tc : Thread nD τ).loc main_arg11)) (m ((c.tc : Thread nD τ).loc main_arg12)) :=
  ((h c).1 66).trans (final66 m c)
theorem res67 {r} (h : Pipeline.FramePost cfgs (dats m) 0 (V m) r) (c : Dev nD) : r.2.mem ((c.tc : Thread nD τ).loc main_v0_6) = mom AdamSmallRefIdeal.Gen.bcast_S_S1x1024 (grad1 (m ((c.tc : Thread nD τ).loc main_arg0))) (m ((c.tc : Thread nD τ).loc main_arg11)) :=
  ((h c).1 67).trans (final67 m c)
theorem res68 {r} (h : Pipeline.FramePost cfgs (dats m) 0 (V m) r) (c : Dev nD) : r.2.mem ((c.tc : Thread nD τ).loc main_v0_7) = vel AdamSmallRefIdeal.Gen.bcast_S_S1x1024 (grad1 (m ((c.tc : Thread nD τ).loc main_arg0))) (m ((c.tc : Thread nD τ).loc main_arg12)) :=
  ((h c).1 68).trans (final68 m c)
theorem res69 {r} (h : Pipeline.FramePost cfgs (dats m) 0 (V m) r) (c : Dev nD) : r.2.mem ((c.tc : Thread nD τ).loc main_v0_8) = grad2 (m ((c.tc : Thread nD τ).loc main_arg0)) :=
  ((h c).1 69).trans (final69 m c)
theorem res70 {r} (h : Pipeline.FramePost cfgs (dats m) 0 (V m) r) (c : Dev nD) : r.2.mem ((c.tc : Thread nD τ).loc main_v0_9) = delta AdamSmallRefIdeal.Gen.bcast_S_S1x1024 (grad2 (m ((c.tc : Thread nD τ).loc main_arg0))) (m ((c.tc : Thread nD τ).loc main_arg13)) (m ((c.tc : Thread nD τ).loc main_arg14)) (m ((c.tc : Thread nD τ).loc main_arg15)) :=
  ((h c).1 70).trans (final70 m c)
theorem res71 {r} (h : Pipeline.FramePost cfgs (dats m) 0 (V m) r) (c : Dev nD) : r.2.mem ((c.tc : Thread nD τ).loc main_v0_10) = mom AdamSmallRefIdeal.Gen.bcast_S_S1x1024 (grad2 (m ((c.tc : Thread nD τ).loc main_arg0))) (m ((c.tc : Thread nD τ).loc main_arg14)) :=
  ((h c).1 71).trans (final71 m c)
theorem res72 {r} (h : Pipeline.FramePost cfgs (dats m) 0 (V m) r) (c : Dev nD) : r.2.mem ((c.tc : Thread nD τ).loc main_v0_11) = vel AdamSmallRefIdeal.Gen.bcast_S_S1x1024 (grad2 (m ((c.tc : Thread nD τ).loc main_arg0))) (m ((c.tc : Thread nD τ).loc main_arg15)) :=
  ((h c).1 72).trans (final72 m c)
theorem res73 {r} (h : Pipeline.FramePost cfgs (dats m) 0 (V m) r) (c : Dev nD) : r.2.mem ((c.tc : Thread nD τ).loc main_v0_12) = grad3 (m ((c.tc : Thread nD τ).loc main_arg1)) :=
  ((h c).1 73).trans (final73 m c)
theorem res74 {r} (h : Pipeline.FramePost cfgs (dats m) 0 (V m) r) (c : Dev nD) : r.2.mem ((c.tc : Thread nD τ).loc main_v0_13) = delta AdamSmallRefIdeal.Gen.bcast_S_S1x768 (grad3 (m ((c.tc : Thread nD τ).loc main_arg1))) (m ((c.tc : Thread nD τ).loc main_arg16)) (m ((c.tc : Thread nD τ).loc main_arg17)) (m ((c.tc : Thread nD τ).loc main_arg18)) :=
  ((h c).1 74).trans (final74 m c)
theorem res75 {r} (h : Pipeline.FramePost cfgs (dats m) 0 (V m) r) (c : Dev nD) : r.2.mem ((c.tc : Thread nD τ).loc main_v0_14) = mom AdamSmallRefIdeal.Gen.bcast_S_S1x768 (grad3 (m ((c.tc : Thread nD τ).loc main_arg1))) (m ((c.tc : Thread nD τ).loc main_arg17)) :=
  ((h c).1 75).trans (final75 m c)
theorem res76 {r} (h : Pipeline.FramePost cfgs (dats m) 0 (V m) r) (c : Dev nD) : r.2.mem ((c.tc : Thread nD τ).loc main_v0_15) = vel AdamSmallRefIdeal.Gen.bcast_S_S1x768 (grad3 (m ((c.tc : Thread nD τ).loc main_arg1))) (m ((c.tc : Thread nD τ).loc main_arg18)) :=
  ((h c).1 76).trans (final76 m c)
theorem res77 {r} (h : Pipeline.FramePost cfgs (dats m) 0 (V m) r) (c : Dev nD) : r.2.mem ((c.tc : Thread nD τ).loc main_v0_16) = grad4 (m ((c.tc : Thread nD τ).loc main_arg1)) :=
  ((h c).1 77).trans (final77 m c)
theorem res78 {r} (h : Pipeline.FramePost cfgs (dats m) 0 (V m) r) (c : Dev nD) : r.2.mem ((c.tc : Thread nD τ).loc main_v0_17) = delta AdamSmallRefIdeal.Gen.bcast_S_S1x768 (grad4 (m ((c.tc : Thread nD τ).loc main_arg1))) (m ((c.tc : Thread nD τ).loc main_arg19)) (m ((c.tc : Thread nD τ).loc main_arg20)) (m ((c.tc : Thread nD τ).loc main_arg21)) :=
  ((h c).1 78).trans (final78 m c)
theorem res79 {r} (h : Pipeline.FramePost cfgs (dats m) 0 (V m) r) (c : Dev nD) : r.2.mem ((c.tc : Thread nD τ).loc main_v0_18) = mom AdamSmallRefIdeal.Gen.bcast_S_S1x768 (grad4 (m ((c.tc : Thread nD τ).loc main_arg1))) (m ((c.tc : Thread nD τ).loc main_arg20)) :=
  ((h c).1 79).trans (final79 m c)
theorem res80 {r} (h : Pipeline.FramePost cfgs (dats m) 0 (V m) r) (c : Dev nD) : r.2.mem ((c.tc : Thread nD τ).loc main_v0_19) = vel AdamSmallRefIdeal.Gen.bcast_S_S1x768 (grad4 (m ((c.tc : Thread nD τ).loc main_arg1))) (m ((c.tc : Thread nD τ).loc main_arg21)) :=
  ((h c).1 80).trans (final80 m c)

end Cert.AdamSmallIdeal.Final

end
-- ==== Proof.AdamSmall.Equal1.lean ====
module

public import proofs.«01_k».proof.Proof.AdamSmall.Values
public import proofs.«01_k».proof.Proof.AdamSmall.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Each output the body leaves is the reference's, of the same arrays. -/

namespace Cert.AdamSmallIdeal.Final

open Cert.AdamSmallIdeal Cert.AdamSmallIdeal.Gen Cert.AdamSmallIdeal.Body Cert.AdamSmallRefIdeal.Terms

theorem o81 (x2 : Vec Ideal S8x520x128 .f32) : out81 x2 = grad5 x2 := by
  unfold out81
  funext j
  frame_out
  pointwise [k0_pay33, val119, k0_pay32, const, mom, vel, delta, grad5, Fin.sum_univ_eight]

theorem o82 (x2 : Vec Ideal S8x520x128 .f32) (x22 : Vec Ideal S512x128 .f32) (x23 : Vec Ideal S512x128 .f32) (x24 : Vec Ideal S512x128 .f32) : out82 x2 x22 x23 x24 = delta AdamSmallRefIdeal.Gen.bcast_S_S512x128 (grad5 x2) x22 x23 x24 := by
  unfold out82
  funext j
  frame_out
  pointwise [k0_pay39, k0_pay36, k0_pay34, k0_pay33, val119, k0_pay32, k0_pay37, k0_pay35, k0_pay38, const, mom, vel, delta, grad5, Fin.sum_univ_eight]

theorem o83 (x2 : Vec Ideal S8x520x128 .f32) (x23 : Vec Ideal S512x128 .f32) : out83 x2 x23 = mom AdamSmallRefIdeal.Gen.bcast_S_S512x128 (grad5 x2) x23 := by
  unfold out83
  funext j
  frame_out
  pointwise [k0_pay34, k0_pay33, val119, k0_pay32, const, mom, vel, delta, grad5, Fin.sum_univ_eight]

theorem o84 (x2 : Vec Ideal S8x520x128 .f32) (x24 : Vec Ideal S512x128 .f32) : out84 x2 x24 = vel AdamSmallRefIdeal.Gen.bcast_S_S512x128 (grad5 x2) x24 := by
  unfold out84
  funext j
  frame_out
  pointwise [k0_pay35, k0_pay33, val119, k0_pay32, const, mom, vel, delta, grad5, Fin.sum_univ_eight]

theorem o85 (x2 : Vec Ideal S8x520x128 .f32) : out85 x2 = grad6 x2 := by
  unfold out85
  funext j
  frame_out
  pointwise [k0_pay41, val120, k0_pay40, const, mom, vel, delta, grad6, Fin.sum_univ_eight]

theorem o86 (x2 : Vec Ideal S8x520x128 .f32) (x25 : Vec Ideal S4x128 .f32) (x26 : Vec Ideal S4x128 .f32) (x27 : Vec Ideal S4x128 .f32) : out86 x2 x25 x26 x27 = delta AdamSmallRefIdeal.Gen.bcast_S_S4x128 (grad6 x2) x25 x26 x27 := by
  unfold out86
  funext j
  frame_out
  pointwise [k0_pay44, k0_pay42, k0_pay41, k0_pay43, val120, k0_pay40, const, mom, vel, delta, grad6, Fin.sum_univ_eight]

theorem o87 (x2 : Vec Ideal S8x520x128 .f32) (x26 : Vec Ideal S4x128 .f32) : out87 x2 x26 = mom AdamSmallRefIdeal.Gen.bcast_S_S4x128 (grad6 x2) x26 := by
  unfold out87
  funext j
  frame_out
  pointwise [k0_pay42, k0_pay41, val120, k0_pay40, const, mom, vel, delta, grad6, Fin.sum_univ_eight]

theorem o88 (x2 : Vec Ideal S8x520x128 .f32) (x27 : Vec Ideal S4x128 .f32) : out88 x2 x27 = vel AdamSmallRefIdeal.Gen.bcast_S_S4x128 (grad6 x2) x27 := by
  unfold out88
  funext j
  frame_out
  pointwise [k0_pay43, k0_pay41, val120, k0_pay40, const, mom, vel, delta, grad6, Fin.sum_univ_eight]

theorem o89 (x3 : Vec Ideal S8x768x192 .f32) : out89 x3 = grad7 x3 := by
  unfold out89
  funext j
  frame_out
  pointwise [k0_pay45, const, mom, vel, delta, grad7, Fin.sum_univ_eight]

theorem o90 (x3 : Vec Ideal S8x768x192 .f32) (x28 : Vec Ideal S768x192 .f32) (x29 : Vec Ideal S768x192 .f32) (x30 : Vec Ideal S768x192 .f32) : out90 x3 x28 x29 x30 = delta AdamSmallRefIdeal.Gen.bcast_S_S768x192 (grad7 x3) x28 x29 x30 := by
  unfold out90
  funext j
  frame_out
  pointwise [k0_pay48, k0_pay46, k0_pay47, val121, k0_pay45, const, mom, vel, delta, grad7, Fin.sum_univ_eight]

theorem o91 (x3 : Vec Ideal S8x768x192 .f32) (x29 : Vec Ideal S768x192 .f32) : out91 x3 x29 = mom AdamSmallRefIdeal.Gen.bcast_S_S768x192 (grad7 x3) x29 := by
  unfold out91
  funext j
  frame_out
  pointwise [k0_pay46, val121, k0_pay45, const, mom, vel, delta, grad7, Fin.sum_univ_eight]

theorem o92 (x3 : Vec Ideal S8x768x192 .f32) (x30 : Vec Ideal S768x192 .f32) : out92 x3 x30 = vel AdamSmallRefIdeal.Gen.bcast_S_S768x192 (grad7 x3) x30 := by
  unfold out92
  funext j
  frame_out
  pointwise [k0_pay47, val121, k0_pay45, const, mom, vel, delta, grad7, Fin.sum_univ_eight]

theorem o93 (x4 : Vec Ideal S8x24x128 .f32) : out93 x4 = grad8 x4 := by
  unfold out93
  funext j
  frame_out
  pointwise [k0_pay50, val122, k0_pay49, const, mom, vel, delta, grad8, Fin.sum_univ_eight]
  all_goals rw [ix2_row j]

theorem o94 (x4 : Vec Ideal S8x24x128 .f32) (x31 : Vec Ideal S1x128 .f32) (x32 : Vec Ideal S1x128 .f32) (x33 : Vec Ideal S1x128 .f32) : out94 x4 x31 x32 x33 = delta AdamSmallRefIdeal.Gen.bcast_S_S1x128 (grad8 x4) x31 x32 x33 := by
  unfold out94
  funext j
  frame_out
  pointwise [k0_pay54, k0_pay53, val123, k0_pay50, val122, k0_pay49, val124, k0_pay51, val125, k0_pay52, const, mom, vel, delta, grad8, Fin.sum_univ_eight]
  all_goals rw [ix2_row j]

theorem o95 (x4 : Vec Ideal S8x24x128 .f32) (x32 : Vec Ideal S1x128 .f32) : out95 x4 x32 = mom AdamSmallRefIdeal.Gen.bcast_S_S1x128 (grad8 x4) x32 := by
  unfold out95
  funext j
  frame_out
  pointwise [val124, k0_pay51, k0_pay50, val122, k0_pay49, const, mom, vel, delta, grad8, Fin.sum_univ_eight]
  all_goals rw [ix2_row j]

theorem o96 (x4 : Vec Ideal S8x24x128 .f32) (x33 : Vec Ideal S1x128 .f32) : out96 x4 x33 = vel AdamSmallRefIdeal.Gen.bcast_S_S1x128 (grad8 x4) x33 := by
  unfold out96
  funext j
  frame_out
  pointwise [k0_pay53, val123, k0_pay50, val122, k0_pay49, val125, k0_pay52, const, mom, vel, delta, grad8, Fin.sum_univ_eight]
  all_goals rw [ix2_row j]

theorem o97 (x4 : Vec Ideal S8x24x128 .f32) : out97 x4 = grad9 x4 := by
  unfold out97
  funext j
  frame_out
  pointwise [k0_pay56, val126, k0_pay55, const, mom, vel, delta, grad9, Fin.sum_univ_eight]
  all_goals rw [ix2_row j]

theorem o98 (x4 : Vec Ideal S8x24x128 .f32) (x34 : Vec Ideal S1x128 .f32) (x35 : Vec Ideal S1x128 .f32) (x36 : Vec Ideal S1x128 .f32) : out98 x4 x34 x35 x36 = delta AdamSmallRefIdeal.Gen.bcast_S_S1x128 (grad9 x4) x34 x35 x36 := by
  unfold out98
  funext j
  frame_out
  pointwise [k0_pay62, k0_pay59, k0_pay57, k0_pay56, val126, k0_pay55, k0_pay60, k0_pay58, k0_pay61, const, mom, vel, delta, grad9, Fin.sum_univ_eight]
  all_goals rw [ix2_row j]

theorem o99 (x4 : Vec Ideal S8x24x128 .f32) (x35 : Vec Ideal S1x128 .f32) : out99 x4 x35 = mom AdamSmallRefIdeal.Gen.bcast_S_S1x128 (grad9 x4) x35 := by
  unfold out99
  funext j
  frame_out
  pointwise [k0_pay57, k0_pay56, val126, k0_pay55, const, mom, vel, delta, grad9, Fin.sum_univ_eight]
  all_goals rw [ix2_row j]

theorem o100 (x4 : Vec Ideal S8x24x128 .f32) (x36 : Vec Ideal S1x128 .f32) : out100 x4 x36 = vel AdamSmallRefIdeal.Gen.bcast_S_S1x128 (grad9 x4) x36 := by
  unfold out100
  funext j
  frame_out
  pointwise [k0_pay58, k0_pay56, val126, k0_pay55, const, mom, vel, delta, grad9, Fin.sum_univ_eight]
  all_goals rw [ix2_row j]

end Cert.AdamSmallIdeal.Final
end
-- ==== Proof.AdamSmall.Final1.lean ====
module

public import proofs.«01_k».proof.Proof.AdamSmall.Dats
public import proofs.«01_k».proof.Proof.AdamSmall.Input0
public import proofs.«01_k».proof.Proof.AdamSmall.Input1
public import proofs.«01_k».proof.Proof.AdamSmall.Equal1
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the output arrays hold at the end. -/

namespace Cert.AdamSmallIdeal.Final

open Cert.AdamSmallIdeal Cert.AdamSmallIdeal.Gen Cert.AdamSmallIdeal.Body Cert.AdamSmallRefIdeal.Terms

variable (m : (ℓ : Loc nD τ sig) → Buf (Elt Ideal) ℓ)

theorem emb81 (t : Fin cfg0.N) (y : S512x128.Idx) : (win0_81.blk t).view.emb y = y :=
  funext fun a => Fin.ext (Pipeline.Window.rect_emb_val_of_index_zero win0_81 t a rfl y)
theorem arr81 (c : Dev nD) (G : Vec Ideal S512x128 .f32) (h : ∀ t, a81 m c t = G) : (dats m 0 c).arrAt (⟨81, by decide⟩ : Fin 134) (cfgs 0).N = G := by
  refine (dats m 0 c).arrAt_eq_of_covers (⟨81, by decide⟩ : Fin 134) G (by decide +kernel) fun t _ y => ?_
  rw [after81, h]
  exact congrArg G (emb81 t y).symm
theorem final81 (c : Dev nD) : (dats m 0 c).arrAt (⟨81, by decide⟩ : Fin 134) (cfgs 0).N = grad5 (m ((c.tc : Thread nD τ).loc main_arg2)) :=
  arr81 m c _ fun t => by unfold a81; rw [bl2, o81]

theorem emb82 (t : Fin cfg0.N) (y : S512x128.Idx) : (win0_82.blk t).view.emb y = y :=
  funext fun a => Fin.ext (Pipeline.Window.rect_emb_val_of_index_zero win0_82 t a rfl y)
theorem arr82 (c : Dev nD) (G : Vec Ideal S512x128 .f32) (h : ∀ t, a82 m c t = G) : (dats m 0 c).arrAt (⟨82, by decide⟩ : Fin 134) (cfgs 0).N = G := by
  refine (dats m 0 c).arrAt_eq_of_covers (⟨82, by decide⟩ : Fin 134) G (by decide +kernel) fun t _ y => ?_
  rw [after82, h]
  exact congrArg G (emb82 t y).symm
theorem final82 (c : Dev nD) : (dats m 0 c).arrAt (⟨82, by decide⟩ : Fin 134) (cfgs 0).N = delta AdamSmallRefIdeal.Gen.bcast_S_S512x128 (grad5 (m ((c.tc : Thread nD τ).loc main_arg2))) (m ((c.tc : Thread nD τ).loc main_arg22)) (m ((c.tc : Thread nD τ).loc main_arg23)) (m ((c.tc : Thread nD τ).loc main_arg24)) :=
  arr82 m c _ fun t => by unfold a82; rw [bl2, bl22, bl23, bl24, o82]

theorem emb83 (t : Fin cfg0.N) (y : S512x128.Idx) : (win0_83.blk t).view.emb y = y :=
  funext fun a => Fin.ext (Pipeline.Window.rect_emb_val_of_index_zero win0_83 t a rfl y)
theorem arr83 (c : Dev nD) (G : Vec Ideal S512x128 .f32) (h : ∀ t, a83 m c t = G) : (dats m 0 c).arrAt (⟨83, by decide⟩ : Fin 134) (cfgs 0).N = G := by
  refine (dats m 0 c).arrAt_eq_of_covers (⟨83, by decide⟩ : Fin 134) G (by decide +kernel) fun t _ y => ?_
  rw [after83, h]
  exact congrArg G (emb83 t y).symm
theorem final83 (c : Dev nD) : (dats m 0 c).arrAt (⟨83, by decide⟩ : Fin 134) (cfgs 0).N = mom AdamSmallRefIdeal.Gen.bcast_S_S512x128 (grad5 (m ((c.tc : Thread nD τ).loc main_arg2))) (m ((c.tc : Thread nD τ).loc main_arg23)) :=
  arr83 m c _ fun t => by unfold a83; rw [bl2, bl23, o83]

theorem emb84 (t : Fin cfg0.N) (y : S512x128.Idx) : (win0_84.blk t).view.emb y = y :=
  funext fun a => Fin.ext (Pipeline.Window.rect_emb_val_of_index_zero win0_84 t a rfl y)
theorem arr84 (c : Dev nD) (G : Vec Ideal S512x128 .f32) (h : ∀ t, a84 m c t = G) : (dats m 0 c).arrAt (⟨84, by decide⟩ : Fin 134) (cfgs 0).N = G := by
  refine (dats m 0 c).arrAt_eq_of_covers (⟨84, by decide⟩ : Fin 134) G (by decide +kernel) fun t _ y => ?_
  rw [after84, h]
  exact congrArg G (emb84 t y).symm
theorem final84 (c : Dev nD) : (dats m 0 c).arrAt (⟨84, by decide⟩ : Fin 134) (cfgs 0).N = vel AdamSmallRefIdeal.Gen.bcast_S_S512x128 (grad5 (m ((c.tc : Thread nD τ).loc main_arg2))) (m ((c.tc : Thread nD τ).loc main_arg24)) :=
  arr84 m c _ fun t => by unfold a84; rw [bl2, bl24, o84]

theorem emb85 (t : Fin cfg0.N) (y : S4x128.Idx) : (win0_85.blk t).view.emb y = y :=
  funext fun a => Fin.ext (Pipeline.Window.rect_emb_val_of_index_zero win0_85 t a rfl y)
theorem arr85 (c : Dev nD) (G : Vec Ideal S4x128 .f32) (h : ∀ t, a85 m c t = G) : (dats m 0 c).arrAt (⟨85, by decide⟩ : Fin 134) (cfgs 0).N = G := by
  refine (dats m 0 c).arrAt_eq_of_covers (⟨85, by decide⟩ : Fin 134) G (by decide +kernel) fun t _ y => ?_
  rw [after85, h]
  exact congrArg G (emb85 t y).symm
theorem final85 (c : Dev nD) : (dats m 0 c).arrAt (⟨85, by decide⟩ : Fin 134) (cfgs 0).N = grad6 (m ((c.tc : Thread nD τ).loc main_arg2)) :=
  arr85 m c _ fun t => by unfold a85; rw [bl2, o85]

theorem emb86 (t : Fin cfg0.N) (y : S4x128.Idx) : (win0_86.blk t).view.emb y = y :=
  funext fun a => Fin.ext (Pipeline.Window.rect_emb_val_of_index_zero win0_86 t a rfl y)
theorem arr86 (c : Dev nD) (G : Vec Ideal S4x128 .f32) (h : ∀ t, a86 m c t = G) : (dats m 0 c).arrAt (⟨86, by decide⟩ : Fin 134) (cfgs 0).N = G := by
  refine (dats m 0 c).arrAt_eq_of_covers (⟨86, by decide⟩ : Fin 134) G (by decide +kernel) fun t _ y => ?_
  rw [after86, h]
  exact congrArg G (emb86 t y).symm
theorem final86 (c : Dev nD) : (dats m 0 c).arrAt (⟨86, by decide⟩ : Fin 134) (cfgs 0).N = delta AdamSmallRefIdeal.Gen.bcast_S_S4x128 (grad6 (m ((c.tc : Thread nD τ).loc main_arg2))) (m ((c.tc : Thread nD τ).loc main_arg25)) (m ((c.tc : Thread nD τ).loc main_arg26)) (m ((c.tc : Thread nD τ).loc main_arg27)) :=
  arr86 m c _ fun t => by unfold a86; rw [bl2, bl25, bl26, bl27, o86]

theorem emb87 (t : Fin cfg0.N) (y : S4x128.Idx) : (win0_87.blk t).view.emb y = y :=
  funext fun a => Fin.ext (Pipeline.Window.rect_emb_val_of_index_zero win0_87 t a rfl y)
theorem arr87 (c : Dev nD) (G : Vec Ideal S4x128 .f32) (h : ∀ t, a87 m c t = G) : (dats m 0 c).arrAt (⟨87, by decide⟩ : Fin 134) (cfgs 0).N = G := by
  refine (dats m 0 c).arrAt_eq_of_covers (⟨87, by decide⟩ : Fin 134) G (by decide +kernel) fun t _ y => ?_
  rw [after87, h]
  exact congrArg G (emb87 t y).symm
theorem final87 (c : Dev nD) : (dats m 0 c).arrAt (⟨87, by decide⟩ : Fin 134) (cfgs 0).N = mom AdamSmallRefIdeal.Gen.bcast_S_S4x128 (grad6 (m ((c.tc : Thread nD τ).loc main_arg2))) (m ((c.tc : Thread nD τ).loc main_arg26)) :=
  arr87 m c _ fun t => by unfold a87; rw [bl2, bl26, o87]

theorem emb88 (t : Fin cfg0.N) (y : S4x128.Idx) : (win0_88.blk t).view.emb y = y :=
  funext fun a => Fin.ext (Pipeline.Window.rect_emb_val_of_index_zero win0_88 t a rfl y)
theorem arr88 (c : Dev nD) (G : Vec Ideal S4x128 .f32) (h : ∀ t, a88 m c t = G) : (dats m 0 c).arrAt (⟨88, by decide⟩ : Fin 134) (cfgs 0).N = G := by
  refine (dats m 0 c).arrAt_eq_of_covers (⟨88, by decide⟩ : Fin 134) G (by decide +kernel) fun t _ y => ?_
  rw [after88, h]
  exact congrArg G (emb88 t y).symm
theorem final88 (c : Dev nD) : (dats m 0 c).arrAt (⟨88, by decide⟩ : Fin 134) (cfgs 0).N = vel AdamSmallRefIdeal.Gen.bcast_S_S4x128 (grad6 (m ((c.tc : Thread nD τ).loc main_arg2))) (m ((c.tc : Thread nD τ).loc main_arg27)) :=
  arr88 m c _ fun t => by unfold a88; rw [bl2, bl27, o88]

theorem emb89 (t : Fin cfg0.N) (y : S768x192.Idx) : (win0_89.blk t).view.emb y = y :=
  funext fun a => Fin.ext (Pipeline.Window.rect_emb_val_of_index_zero win0_89 t a rfl y)
theorem arr89 (c : Dev nD) (G : Vec Ideal S768x192 .f32) (h : ∀ t, a89 m c t = G) : (dats m 0 c).arrAt (⟨89, by decide⟩ : Fin 134) (cfgs 0).N = G := by
  refine (dats m 0 c).arrAt_eq_of_covers (⟨89, by decide⟩ : Fin 134) G (by decide +kernel) fun t _ y => ?_
  rw [after89, h]
  exact congrArg G (emb89 t y).symm
theorem final89 (c : Dev nD) : (dats m 0 c).arrAt (⟨89, by decide⟩ : Fin 134) (cfgs 0).N = grad7 (m ((c.tc : Thread nD τ).loc main_arg3)) :=
  arr89 m c _ fun t => by unfold a89; rw [bl3, o89]

theorem emb90 (t : Fin cfg0.N) (y : S768x192.Idx) : (win0_90.blk t).view.emb y = y :=
  funext fun a => Fin.ext (Pipeline.Window.rect_emb_val_of_index_zero win0_90 t a rfl y)
theorem arr90 (c : Dev nD) (G : Vec Ideal S768x192 .f32) (h : ∀ t, a90 m c t = G) : (dats m 0 c).arrAt (⟨90, by decide⟩ : Fin 134) (cfgs 0).N = G := by
  refine (dats m 0 c).arrAt_eq_of_covers (⟨90, by decide⟩ : Fin 134) G (by decide +kernel) fun t _ y => ?_
  rw [after90, h]
  exact congrArg G (emb90 t y).symm
theorem final90 (c : Dev nD) : (dats m 0 c).arrAt (⟨90, by decide⟩ : Fin 134) (cfgs 0).N = delta AdamSmallRefIdeal.Gen.bcast_S_S768x192 (grad7 (m ((c.tc : Thread nD τ).loc main_arg3))) (m ((c.tc : Thread nD τ).loc main_arg28)) (m ((c.tc : Thread nD τ).loc main_arg29)) (m ((c.tc : Thread nD τ).loc main_arg30)) :=
  arr90 m c _ fun t => by unfold a90; rw [bl3, bl28, bl29, bl30, o90]

theorem emb91 (t : Fin cfg0.N) (y : S768x192.Idx) : (win0_91.blk t).view.emb y = y :=
  funext fun a => Fin.ext (Pipeline.Window.rect_emb_val_of_index_zero win0_91 t a rfl y)
theorem arr91 (c : Dev nD) (G : Vec Ideal S768x192 .f32) (h : ∀ t, a91 m c t = G) : (dats m 0 c).arrAt (⟨91, by decide⟩ : Fin 134) (cfgs 0).N = G := by
  refine (dats m 0 c).arrAt_eq_of_covers (⟨91, by decide⟩ : Fin 134) G (by decide +kernel) fun t _ y => ?_
  rw [after91, h]
  exact congrArg G (emb91 t y).symm
theorem final91 (c : Dev nD) : (dats m 0 c).arrAt (⟨91, by decide⟩ : Fin 134) (cfgs 0).N = mom AdamSmallRefIdeal.Gen.bcast_S_S768x192 (grad7 (m ((c.tc : Thread nD τ).loc main_arg3))) (m ((c.tc : Thread nD τ).loc main_arg29)) :=
  arr91 m c _ fun t => by unfold a91; rw [bl3, bl29, o91]

theorem emb92 (t : Fin cfg0.N) (y : S768x192.Idx) : (win0_92.blk t).view.emb y = y :=
  funext fun a => Fin.ext (Pipeline.Window.rect_emb_val_of_index_zero win0_92 t a rfl y)
theorem arr92 (c : Dev nD) (G : Vec Ideal S768x192 .f32) (h : ∀ t, a92 m c t = G) : (dats m 0 c).arrAt (⟨92, by decide⟩ : Fin 134) (cfgs 0).N = G := by
  refine (dats m 0 c).arrAt_eq_of_covers (⟨92, by decide⟩ : Fin 134) G (by decide +kernel) fun t _ y => ?_
  rw [after92, h]
  exact congrArg G (emb92 t y).symm
theorem final92 (c : Dev nD) : (dats m 0 c).arrAt (⟨92, by decide⟩ : Fin 134) (cfgs 0).N = vel AdamSmallRefIdeal.Gen.bcast_S_S768x192 (grad7 (m ((c.tc : Thread nD τ).loc main_arg3))) (m ((c.tc : Thread nD τ).loc main_arg30)) :=
  arr92 m c _ fun t => by unfold a92; rw [bl3, bl30, o92]

theorem emb93 (t : Fin cfg0.N) (y : S1x128.Idx) : (win0_93.blk t).view.emb y = y :=
  funext fun a => Fin.ext (Pipeline.Window.rect_emb_val_of_index_zero win0_93 t a rfl y)
theorem arr93 (c : Dev nD) (G : Vec Ideal S1x128 .f32) (h : ∀ t, a93 m c t = G) : (dats m 0 c).arrAt (⟨93, by decide⟩ : Fin 134) (cfgs 0).N = G := by
  refine (dats m 0 c).arrAt_eq_of_covers (⟨93, by decide⟩ : Fin 134) G (by decide +kernel) fun t _ y => ?_
  rw [after93, h]
  exact congrArg G (emb93 t y).symm
theorem final93 (c : Dev nD) : (dats m 0 c).arrAt (⟨93, by decide⟩ : Fin 134) (cfgs 0).N = grad8 (m ((c.tc : Thread nD τ).loc main_arg4)) :=
  arr93 m c _ fun t => by unfold a93; rw [bl4, o93]

theorem emb94 (t : Fin cfg0.N) (y : S1x128.Idx) : (win0_94.blk t).view.emb y = y :=
  funext fun a => Fin.ext (Pipeline.Window.rect_emb_val_of_index_zero win0_94 t a rfl y)
theorem arr94 (c : Dev nD) (G : Vec Ideal S1x128 .f32) (h : ∀ t, a94 m c t = G) : (dats m 0 c).arrAt (⟨94, by decide⟩ : Fin 134) (cfgs 0).N = G := by
  refine (dats m 0 c).arrAt_eq_of_covers (⟨94, by decide⟩ : Fin 134) G (by decide +kernel) fun t _ y => ?_
  rw [after94, h]
  exact congrArg G (emb94 t y).symm
theorem final94 (c : Dev nD) : (dats m 0 c).arrAt (⟨94, by decide⟩ : Fin 134) (cfgs 0).N = delta AdamSmallRefIdeal.Gen.bcast_S_S1x128 (grad8 (m ((c.tc : Thread nD τ).loc main_arg4))) (m ((c.tc : Thread nD τ).loc main_arg31)) (m ((c.tc : Thread nD τ).loc main_arg32)) (m ((c.tc : Thread nD τ).loc main_arg33)) :=
  arr94 m c _ fun t => by unfold a94; rw [bl4, bl31, bl32, bl33, o94]

theorem emb95 (t : Fin cfg0.N) (y : S1x128.Idx) : (win0_95.blk t).view.emb y = y :=
  funext fun a => Fin.ext (Pipeline.Window.rect_emb_val_of_index_zero win0_95 t a rfl y)
theorem arr95 (c : Dev nD) (G : Vec Ideal S1x128 .f32) (h : ∀ t, a95 m c t = G) : (dats m 0 c).arrAt (⟨95, by decide⟩ : Fin 134) (cfgs 0).N = G := by
  refine (dats m 0 c).arrAt_eq_of_covers (⟨95, by decide⟩ : Fin 134) G (by decide +kernel) fun t _ y => ?_
  rw [after95, h]
  exact congrArg G (emb95 t y).symm
theorem final95 (c : Dev nD) : (dats m 0 c).arrAt (⟨95, by decide⟩ : Fin 134) (cfgs 0).N = mom AdamSmallRefIdeal.Gen.bcast_S_S1x128 (grad8 (m ((c.tc : Thread nD τ).loc main_arg4))) (m ((c.tc : Thread nD τ).loc main_arg32)) :=
  arr95 m c _ fun t => by unfold a95; rw [bl4, bl32, o95]

theorem emb96 (t : Fin cfg0.N) (y : S1x128.Idx) : (win0_96.blk t).view.emb y = y :=
  funext fun a => Fin.ext (Pipeline.Window.rect_emb_val_of_index_zero win0_96 t a rfl y)
theorem arr96 (c : Dev nD) (G : Vec Ideal S1x128 .f32) (h : ∀ t, a96 m c t = G) : (dats m 0 c).arrAt (⟨96, by decide⟩ : Fin 134) (cfgs 0).N = G := by
  refine (dats m 0 c).arrAt_eq_of_covers (⟨96, by decide⟩ : Fin 134) G (by decide +kernel) fun t _ y => ?_
  rw [after96, h]
  exact congrArg G (emb96 t y).symm
theorem final96 (c : Dev nD) : (dats m 0 c).arrAt (⟨96, by decide⟩ : Fin 134) (cfgs 0).N = vel AdamSmallRefIdeal.Gen.bcast_S_S1x128 (grad8 (m ((c.tc : Thread nD τ).loc main_arg4))) (m ((c.tc : Thread nD τ).loc main_arg33)) :=
  arr96 m c _ fun t => by unfold a96; rw [bl4, bl33, o96]

theorem emb97 (t : Fin cfg0.N) (y : S1x128.Idx) : (win0_97.blk t).view.emb y = y :=
  funext fun a => Fin.ext (Pipeline.Window.rect_emb_val_of_index_zero win0_97 t a rfl y)
theorem arr97 (c : Dev nD) (G : Vec Ideal S1x128 .f32) (h : ∀ t, a97 m c t = G) : (dats m 0 c).arrAt (⟨97, by decide⟩ : Fin 134) (cfgs 0).N = G := by
  refine (dats m 0 c).arrAt_eq_of_covers (⟨97, by decide⟩ : Fin 134) G (by decide +kernel) fun t _ y => ?_
  rw [after97, h]
  exact congrArg G (emb97 t y).symm
theorem final97 (c : Dev nD) : (dats m 0 c).arrAt (⟨97, by decide⟩ : Fin 134) (cfgs 0).N = grad9 (m ((c.tc : Thread nD τ).loc main_arg4)) :=
  arr97 m c _ fun t => by unfold a97; rw [bl4, o97]

theorem emb98 (t : Fin cfg0.N) (y : S1x128.Idx) : (win0_98.blk t).view.emb y = y :=
  funext fun a => Fin.ext (Pipeline.Window.rect_emb_val_of_index_zero win0_98 t a rfl y)
theorem arr98 (c : Dev nD) (G : Vec Ideal S1x128 .f32) (h : ∀ t, a98 m c t = G) : (dats m 0 c).arrAt (⟨98, by decide⟩ : Fin 134) (cfgs 0).N = G := by
  refine (dats m 0 c).arrAt_eq_of_covers (⟨98, by decide⟩ : Fin 134) G (by decide +kernel) fun t _ y => ?_
  rw [after98, h]
  exact congrArg G (emb98 t y).symm
theorem final98 (c : Dev nD) : (dats m 0 c).arrAt (⟨98, by decide⟩ : Fin 134) (cfgs 0).N = delta AdamSmallRefIdeal.Gen.bcast_S_S1x128 (grad9 (m ((c.tc : Thread nD τ).loc main_arg4))) (m ((c.tc : Thread nD τ).loc main_arg34)) (m ((c.tc : Thread nD τ).loc main_arg35)) (m ((c.tc : Thread nD τ).loc main_arg36)) :=
  arr98 m c _ fun t => by unfold a98; rw [bl4, bl34, bl35, bl36, o98]

theorem emb99 (t : Fin cfg0.N) (y : S1x128.Idx) : (win0_99.blk t).view.emb y = y :=
  funext fun a => Fin.ext (Pipeline.Window.rect_emb_val_of_index_zero win0_99 t a rfl y)
theorem arr99 (c : Dev nD) (G : Vec Ideal S1x128 .f32) (h : ∀ t, a99 m c t = G) : (dats m 0 c).arrAt (⟨99, by decide⟩ : Fin 134) (cfgs 0).N = G := by
  refine (dats m 0 c).arrAt_eq_of_covers (⟨99, by decide⟩ : Fin 134) G (by decide +kernel) fun t _ y => ?_
  rw [after99, h]
  exact congrArg G (emb99 t y).symm
theorem final99 (c : Dev nD) : (dats m 0 c).arrAt (⟨99, by decide⟩ : Fin 134) (cfgs 0).N = mom AdamSmallRefIdeal.Gen.bcast_S_S1x128 (grad9 (m ((c.tc : Thread nD τ).loc main_arg4))) (m ((c.tc : Thread nD τ).loc main_arg35)) :=
  arr99 m c _ fun t => by unfold a99; rw [bl4, bl35, o99]

theorem emb100 (t : Fin cfg0.N) (y : S1x128.Idx) : (win0_100.blk t).view.emb y = y :=
  funext fun a => Fin.ext (Pipeline.Window.rect_emb_val_of_index_zero win0_100 t a rfl y)
theorem arr100 (c : Dev nD) (G : Vec Ideal S1x128 .f32) (h : ∀ t, a100 m c t = G) : (dats m 0 c).arrAt (⟨100, by decide⟩ : Fin 134) (cfgs 0).N = G := by
  refine (dats m 0 c).arrAt_eq_of_covers (⟨100, by decide⟩ : Fin 134) G (by decide +kernel) fun t _ y => ?_
  rw [after100, h]
  exact congrArg G (emb100 t y).symm
theorem final100 (c : Dev nD) : (dats m 0 c).arrAt (⟨100, by decide⟩ : Fin 134) (cfgs 0).N = vel AdamSmallRefIdeal.Gen.bcast_S_S1x128 (grad9 (m ((c.tc : Thread nD τ).loc main_arg4))) (m ((c.tc : Thread nD τ).loc main_arg36)) :=
  arr100 m c _ fun t => by unfold a100; rw [bl4, bl36, o100]

end Cert.AdamSmallIdeal.Final
end
-- ==== Proof.AdamSmall.Results1.lean ====
module

public import proofs.«01_k».proof.Proof.AdamSmall.Final1
public import Idealize.ShloMosaic.Lib.Claim

@[expose] public section

set_option maxRecDepth 16384

noncomputable section

open Idealize.ShloMosaic Idealize.ShloMosaic.TcCoe Idealize.SL.Sem
open Idealize.ShloMosaic.Pipeline (Dat)

/-! What the results of the run are. -/

namespace Cert.AdamSmallIdeal.Final

open Cert.AdamSmallIdeal Cert.AdamSmallIdeal.Gen Cert.AdamSmallIdeal.Body Cert.AdamSmallRefIdeal.Terms

variable (m : (ℓ : Loc nD τ sig) → Buf (Elt Ideal) ℓ)

theorem res81 {r} (h : Pipeline.FramePost cfgs (dats m) 0 (V m) r) (c : Dev nD) : r.2.mem ((c.tc : Thread nD τ).loc main_v0_20) = grad5 (m ((c.tc : Thread nD τ).loc main_arg2)) :=
  ((h c).1 81).trans (final81 m c)
theorem res82 {r} (h : Pipeline.FramePost cfgs (dats m) 0 (V m) r) (c : Dev nD) : r.2.mem ((c.tc : Thread nD τ).loc main_v0_21) = delta AdamSmallRefIdeal.Gen.bcast_S_S512x128 (grad5 (m ((c.tc : Thread nD τ).loc main_arg2))) (m ((c.tc : Thread nD τ).loc main_arg22)) (m ((c.tc : Thread nD τ).loc main_arg23)) (m ((c.tc : Thread nD τ).loc main_arg24)) :=
  ((h c).1 82).trans (final82 m c)
theorem res83 {r} (h : Pipeline.FramePost cfgs (dats m) 0 (V m) r) (c : Dev nD) : r.2.mem ((c.tc : Thread nD τ).loc main_v0_22) = mom AdamSmallRefIdeal.Gen.bcast_S_S512x128 (grad5 (m ((c.tc : Thread nD τ).loc main_arg2))) (m ((c.tc : Thread nD τ).loc main_arg23)) :=
  ((h c).1 83).trans (final83 m c)
theorem res84 {r} (h : Pipeline.FramePost cfgs (dats m) 0 (V m) r) (c : Dev nD) : r.2.mem ((c.tc : Thread nD τ).loc main_v0_23) = vel AdamSmallRefIdeal.Gen.bcast_S_S512x128 (grad5 (m ((c.tc : Thread nD τ).loc main_arg2))) (m ((c.tc : Thread nD τ).loc main_arg24)) :=
  ((h c).1 84).trans (final84 m c)
theorem res85 {r} (h : Pipeline.FramePost cfgs (dats m) 0 (V m) r) (c : Dev nD) : r.2.mem ((c.tc : Thread nD τ).loc main_v0_24) = grad6 (m ((c.tc : Thread nD τ).loc main_arg2)) :=
  ((h c).1 85).trans (final85 m c)
theorem res86 {r} (h : Pipeline.FramePost cfgs (dats m) 0 (V m) r) (c : Dev nD) : r.2.mem ((c.tc : Thread nD τ).loc main_v0_25) = delta AdamSmallRefIdeal.Gen.bcast_S_S4x128 (grad6 (m ((c.tc : Thread nD τ).loc main_arg2))) (m ((c.tc : Thread nD τ).loc main_arg25)) (m ((c.tc : Thread nD τ).loc main_arg26)) (m ((c.tc : Thread nD τ).loc main_arg27)) :=
  ((h c).1 86).trans (final86 m c)
theorem res87 {r} (h : Pipeline.FramePost cfgs (dats m) 0 (V m) r) (c : Dev nD) : r.2.mem ((c.tc : Thread nD τ).loc main_v0_26) = mom AdamSmallRefIdeal.Gen.bcast_S_S4x128 (grad6 (m ((c.tc : Thread nD τ).loc main_arg2))) (m ((c.tc : Thread nD τ).loc main_arg26)) :=
  ((h c).1 87).trans (final87 m c)
theorem res88 {r} (h : Pipeline.FramePost cfgs (dats m) 0 (V m) r) (c : Dev nD) : r.2.mem ((c.tc : Thread nD τ).loc main_v0_27) = vel AdamSmallRefIdeal.Gen.bcast_S_S4x128 (grad6 (m ((c.tc : Thread nD τ).loc main_arg2))) (m ((c.tc : Thread nD τ).loc main_arg27)) :=
  ((h c).1 88).trans (final88 m c)
theorem res89 {r} (h : Pipeline.FramePost cfgs (dats m) 0 (V m) r) (c : Dev nD) : r.2.mem ((c.tc : Thread nD τ).loc main_v0_28) = grad7 (m ((c.tc : Thread nD τ).loc main_arg3)) :=
  ((h c).1 89).trans (final89 m c)
theorem res90 {r} (h : Pipeline.FramePost cfgs (dats m) 0 (V m) r) (c : Dev nD) : r.2.mem ((c.tc : Thread nD τ).loc main_v0_29) = delta AdamSmallRefIdeal.Gen.bcast_S_S768x192 (grad7 (m ((c.tc : Thread nD τ).loc main_arg3))) (m ((c.tc : Thread nD τ).loc main_arg28)) (m ((c.tc : Thread nD τ).loc main_arg29)) (m ((c.tc : Thread nD τ).loc main_arg30)) :=
  ((h c).1 90).trans (final90 m c)
theorem res91 {r} (h : Pipeline.FramePost cfgs (dats m) 0 (V m) r) (c : Dev nD) : r.2.mem ((c.tc : Thread nD τ).loc main_v0_30) = mom AdamSmallRefIdeal.Gen.bcast_S_S768x192 (grad7 (m ((c.tc : Thread nD τ).loc main_arg3))) (m ((c.tc : Thread nD τ).loc main_arg29)) :=
  ((h c).1 91).trans (final91 m c)
theorem res92 {r} (h : Pipeline.FramePost cfgs (dats m) 0 (V m) r) (c : Dev nD) : r.2.mem ((c.tc : Thread nD τ).loc main_v0_31) = vel AdamSmallRefIdeal.Gen.bcast_S_S768x192 (grad7 (m ((c.tc : Thread nD τ).loc main_arg3))) (m ((c.tc : Thread nD τ).loc main_arg30)) :=
  ((h c).1 92).trans (final92 m c)
theorem res93 {r} (h : Pipeline.FramePost cfgs (dats m) 0 (V m) r) (c : Dev nD) : r.2.mem ((c.tc : Thread nD τ).loc main_v0_32) = grad8 (m ((c.tc : Thread nD τ).loc main_arg4)) :=
  ((h c).1 93).trans (final93 m c)
theorem res94 {r} (h : Pipeline.FramePost cfgs (dats m) 0 (V m) r) (c : Dev nD) : r.2.mem ((c.tc : Thread nD τ).loc main_v0_33) = delta AdamSmallRefIdeal.Gen.bcast_S_S1x128 (grad8 (m ((c.tc : Thread nD τ).loc main_arg4))) (m ((c.tc : Thread nD τ).loc main_arg31)) (m ((c.tc : Thread nD τ).loc main_arg32)) (m ((c.tc : Thread nD τ).loc main_arg33)) :=
  ((h c).1 94).trans (final94 m c)
theorem res95 {r} (h : Pipeline.FramePost cfgs (dats m) 0 (V m) r) (c : Dev nD) : r.2.mem ((c.tc : Thread nD τ).loc main_v0_34) = mom AdamSmallRefIdeal.Gen.bcast_S_S1x128 (grad8 (m ((c.tc : Thread nD τ).loc main_arg4))) (m ((c.tc : Thread nD τ).loc main_arg32)) :=
  ((h c).1 95).trans (final95 m c)
theorem res96 {r} (h : Pipeline.FramePost cfgs (dats m) 0 (V m) r) (c : Dev nD) : r.2.mem ((c.tc : Thread nD τ).loc main_v0_35) = vel AdamSmallRefIdeal.Gen.bcast_S_S1x128 (grad8 (m ((c.tc : Thread nD τ).loc main_arg4))) (m ((c.tc : Thread nD τ).loc main_arg33)) :=
  ((h c).1 96).trans (final96 m c)
theorem res97 {r} (h : Pipeline.FramePost cfgs (dats m) 0 (V m) r) (c : Dev nD) : r.2.mem ((c.tc : Thread nD τ).loc main_v0_36) = grad9 (m ((c.tc : Thread nD τ).loc main_arg4)) :=
  ((h c).1 97).trans (final97 m c)
theorem res98 {r} (h : Pipeline.FramePost cfgs (dats m) 0 (V m) r) (c : Dev nD) : r.2.mem ((c.tc : Thread nD τ).loc main_v0_37) = delta AdamSmallRefIdeal.Gen.bcast_S_S1x128 (grad9 (m ((c.tc : Thread nD τ).loc main_arg4))) (m ((c.tc : Thread nD τ).loc main_arg34)) (m ((c.tc : Thread nD τ).loc main_arg35)) (m ((c.tc : Thread nD τ).loc main_arg36)) :=
  ((h c).1 98).trans (final98 m c)
theorem res99 {r} (h : Pipeline.FramePost cfgs (dats m) 0 (V m) r) (c : Dev nD) : r.2.mem ((c.tc : Thread nD τ).loc main_v0_38) = mom AdamSmallRefIdeal.Gen.bcast_S_S1x128 (grad9 (m ((c.tc : Thread nD τ).loc main_arg4))) (m ((c.tc : Thread nD τ).loc main_arg35)) :=
  ((h c).1 99).trans (final99 m c)
theorem res100 {r} (h : Pipeline.FramePost cfgs (dats m) 0 (V m) r) (c : Dev nD) : r.2.mem ((c.tc : Thread nD τ).loc main_v0_39) = vel AdamSmallRefIdeal.Gen.bcast_S_S1x128 (grad9 (m ((c.tc : Thread nD τ).loc main_arg4))) (m ((c.tc : Thread nD τ).loc main_arg36)) :=
  ((h c).1 100).trans (final100 m c)

end Cert.AdamSmallIdeal.Final

end
-- ==== Proof.AdamSmall.Equal2.lean ====
module

public import proofs.«01_k».proof.Proof.AdamSmall.Values
public import proofs.«01_k».proof.Proof.AdamSmall.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Each output the body leaves is the reference's, of the same arrays. -/

namespace Cert.AdamSmallIdeal.Final

open Cert.AdamSmallIdeal Cert.AdamSmallIdeal.Gen Cert.AdamSmallIdeal.Body Cert.AdamSmallRefIdeal.Terms

theorem o101 (x4 : Vec Ideal S8x24x128 .f32) : out101 x4 = grad10 x4 := by
  unfold out101
  funext j
  frame_out
  pointwise [k0_pay64, val127, k0_pay63, const, mom, vel, delta, grad10, Fin.sum_univ_eight]
  all_goals rw [ix2_row j]

theorem o102 (x4 : Vec Ideal S8x24x128 .f32) (x37 : Vec Ideal S1x128 .f32) (x38 : Vec Ideal S1x128 .f32) (x39 : Vec Ideal S1x128 .f32) : out102 x4 x37 x38 x39 = delta AdamSmallRefIdeal.Gen.bcast_S_S1x128 (grad10 x4) x37 x38 x39 := by
  unfold out102
  funext j
  frame_out
  pointwise [k0_pay67, k0_pay65, k0_pay64, k0_pay66, val127, k0_pay63, const, mom, vel, delta, grad10, Fin.sum_univ_eight]
  all_goals rw [ix2_row j]

theorem o103 (x4 : Vec Ideal S8x24x128 .f32) (x38 : Vec Ideal S1x128 .f32) : out103 x4 x38 = mom AdamSmallRefIdeal.Gen.bcast_S_S1x128 (grad10 x4) x38 := by
  unfold out103
  funext j
  frame_out
  pointwise [k0_pay65, k0_pay64, val127, k0_pay63, const, mom, vel, delta, grad10, Fin.sum_univ_eight]
  all_goals rw [ix2_row j]

theorem o104 (x4 : Vec Ideal S8x24x128 .f32) (x39 : Vec Ideal S1x128 .f32) : out104 x4 x39 = vel AdamSmallRefIdeal.Gen.bcast_S_S1x128 (grad10 x4) x39 := by
  unfold out104
  funext j
  frame_out
  pointwise [k0_pay66, k0_pay64, val127, k0_pay63, const, mom, vel, delta, grad10, Fin.sum_univ_eight]
  all_goals rw [ix2_row j]

theorem o105 (x5 : Vec Ideal S8x80x96 .f32) : out105 x5 = grad11 x5 := by
  unfold out105
  funext j
  frame_out
  pointwise [k0_pay68, const, mom, vel, delta, grad11, Fin.sum_univ_eight]

theorem o106 (x5 : Vec Ideal S8x80x96 .f32) (x40 : Vec Ideal S3x96 .f32) (x41 : Vec Ideal S3x96 .f32) (x42 : Vec Ideal S3x96 .f32) : out106 x5 x40 x41 x42 = delta AdamSmallRefIdeal.Gen.bcast_S_S3x96 (grad11 x5) x40 x41 x42 := by
  unfold out106
  funext j
  frame_out
  pointwise [k0_pay71, k0_pay69, k0_pay70, val128, k0_pay68, const, mom, vel, delta, grad11, Fin.sum_univ_eight]

theorem o107 (x5 : Vec Ideal S8x80x96 .f32) (x41 : Vec Ideal S3x96 .f32) : out107 x5 x41 = mom AdamSmallRefIdeal.Gen.bcast_S_S3x96 (grad11 x5) x41 := by
  unfold out107
  funext j
  frame_out
  pointwise [k0_pay69, val128, k0_pay68, const, mom, vel, delta, grad11, Fin.sum_univ_eight]

theorem o108 (x5 : Vec Ideal S8x80x96 .f32) (x42 : Vec Ideal S3x96 .f32) : out108 x5 x42 = vel AdamSmallRefIdeal.Gen.bcast_S_S3x96 (grad11 x5) x42 := by
  unfold out108
  funext j
  frame_out
  pointwise [k0_pay70, val128, k0_pay68, const, mom, vel, delta, grad11, Fin.sum_univ_eight]

theorem o109 (x5 : Vec Ideal S8x80x96 .f32) : out109 x5 = grad12 x5 := by
  unfold out109
  funext j
  frame_out
  pointwise [k0_pay73, val129, k0_pay72, const, mom, vel, delta, grad12, Fin.sum_univ_eight]
  all_goals rw [ix2_row j]

theorem o110 (x5 : Vec Ideal S8x80x96 .f32) (x43 : Vec Ideal S1x96 .f32) (x44 : Vec Ideal S1x96 .f32) (x45 : Vec Ideal S1x96 .f32) : out110 x5 x43 x44 x45 = delta AdamSmallRefIdeal.Gen.bcast_S_S1x96 (grad12 x5) x43 x44 x45 := by
  unfold out110
  funext j
  frame_out
  pointwise [k0_pay77, k0_pay76, val130, k0_pay73, val129, k0_pay72, val131, k0_pay74, val132, k0_pay75, const, mom, vel, delta, grad12, Fin.sum_univ_eight]
  all_goals rw [ix2_row j]

theorem o111 (x5 : Vec Ideal S8x80x96 .f32) (x44 : Vec Ideal S1x96 .f32) : out111 x5 x44 = mom AdamSmallRefIdeal.Gen.bcast_S_S1x96 (grad12 x5) x44 := by
  unfold out111
  funext j
  frame_out
  pointwise [val131, k0_pay74, k0_pay73, val129, k0_pay72, const, mom, vel, delta, grad12, Fin.sum_univ_eight]
  all_goals rw [ix2_row j]

theorem o112 (x5 : Vec Ideal S8x80x96 .f32) (x45 : Vec Ideal S1x96 .f32) : out112 x5 x45 = vel AdamSmallRefIdeal.Gen.bcast_S_S1x96 (grad12 x5) x45 := by
  unfold out112
  funext j
  frame_out
  pointwise [k0_pay76, val130, k0_pay73, val129, k0_pay72, val132, k0_pay75, const, mom, vel, delta, grad12, Fin.sum_univ_eight]
  all_goals rw [ix2_row j]

theorem o113 (x5 : Vec Ideal S8x80x96 .f32) : out113 x5 = grad13 x5 := by
  unfold out113
  funext j
  frame_out
  pointwise [k0_pay79, val133, k0_pay78, const, mom, vel, delta, grad13, Fin.sum_univ_eight]

theorem o114 (x5 : Vec Ideal S8x80x96 .f32) (x46 : Vec Ideal S31x96 .f32) (x47 : Vec Ideal S31x96 .f32) (x48 : Vec Ideal S31x96 .f32) : out114 x5 x46 x47 x48 = delta AdamSmallRefIdeal.Gen.bcast_S_S31x96 (grad13 x5) x46 x47 x48 := by
  unfold out114
  funext j
  frame_out
  pointwise [k0_pay85, k0_pay82, k0_pay80, k0_pay79, val133, k0_pay78, k0_pay83, k0_pay81, k0_pay84, const, mom, vel, delta, grad13, Fin.sum_univ_eight]

theorem o115 (x5 : Vec Ideal S8x80x96 .f32) (x47 : Vec Ideal S31x96 .f32) : out115 x5 x47 = mom AdamSmallRefIdeal.Gen.bcast_S_S31x96 (grad13 x5) x47 := by
  unfold out115
  funext j
  frame_out
  pointwise [k0_pay80, k0_pay79, val133, k0_pay78, const, mom, vel, delta, grad13, Fin.sum_univ_eight]

theorem o116 (x5 : Vec Ideal S8x80x96 .f32) (x48 : Vec Ideal S31x96 .f32) : out116 x5 x48 = vel AdamSmallRefIdeal.Gen.bcast_S_S31x96 (grad13 x5) x48 := by
  unfold out116
  funext j
  frame_out
  pointwise [k0_pay81, k0_pay79, val133, k0_pay78, const, mom, vel, delta, grad13, Fin.sum_univ_eight]

end Cert.AdamSmallIdeal.Final
end
-- ==== Proof.AdamSmall.Final2.lean ====
module

public import proofs.«01_k».proof.Proof.AdamSmall.Dats
public import proofs.«01_k».proof.Proof.AdamSmall.Input0
public import proofs.«01_k».proof.Proof.AdamSmall.Input1
public import proofs.«01_k».proof.Proof.AdamSmall.Equal2
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the output arrays hold at the end. -/

namespace Cert.AdamSmallIdeal.Final

open Cert.AdamSmallIdeal Cert.AdamSmallIdeal.Gen Cert.AdamSmallIdeal.Body Cert.AdamSmallRefIdeal.Terms

variable (m : (ℓ : Loc nD τ sig) → Buf (Elt Ideal) ℓ)

theorem emb101 (t : Fin cfg0.N) (y : S1x128.Idx) : (win0_101.blk t).view.emb y = y :=
  funext fun a => Fin.ext (Pipeline.Window.rect_emb_val_of_index_zero win0_101 t a rfl y)
theorem arr101 (c : Dev nD) (G : Vec Ideal S1x128 .f32) (h : ∀ t, a101 m c t = G) : (dats m 0 c).arrAt (⟨101, by decide⟩ : Fin 134) (cfgs 0).N = G := by
  refine (dats m 0 c).arrAt_eq_of_covers (⟨101, by decide⟩ : Fin 134) G (by decide +kernel) fun t _ y => ?_
  rw [after101, h]
  exact congrArg G (emb101 t y).symm
theorem final101 (c : Dev nD) : (dats m 0 c).arrAt (⟨101, by decide⟩ : Fin 134) (cfgs 0).N = grad10 (m ((c.tc : Thread nD τ).loc main_arg4)) :=
  arr101 m c _ fun t => by unfold a101; rw [bl4, o101]

theorem emb102 (t : Fin cfg0.N) (y : S1x128.Idx) : (win0_102.blk t).view.emb y = y :=
  funext fun a => Fin.ext (Pipeline.Window.rect_emb_val_of_index_zero win0_102 t a rfl y)
theorem arr102 (c : Dev nD) (G : Vec Ideal S1x128 .f32) (h : ∀ t, a102 m c t = G) : (dats m 0 c).arrAt (⟨102, by decide⟩ : Fin 134) (cfgs 0).N = G := by
  refine (dats m 0 c).arrAt_eq_of_covers (⟨102, by decide⟩ : Fin 134) G (by decide +kernel) fun t _ y => ?_
  rw [after102, h]
  exact congrArg G (emb102 t y).symm
theorem final102 (c : Dev nD) : (dats m 0 c).arrAt (⟨102, by decide⟩ : Fin 134) (cfgs 0).N = delta AdamSmallRefIdeal.Gen.bcast_S_S1x128 (grad10 (m ((c.tc : Thread nD τ).loc main_arg4))) (m ((c.tc : Thread nD τ).loc main_arg37)) (m ((c.tc : Thread nD τ).loc main_arg38)) (m ((c.tc : Thread nD τ).loc main_arg39)) :=
  arr102 m c _ fun t => by unfold a102; rw [bl4, bl37, bl38, bl39, o102]

theorem emb103 (t : Fin cfg0.N) (y : S1x128.Idx) : (win0_103.blk t).view.emb y = y :=
  funext fun a => Fin.ext (Pipeline.Window.rect_emb_val_of_index_zero win0_103 t a rfl y)
theorem arr103 (c : Dev nD) (G : Vec Ideal S1x128 .f32) (h : ∀ t, a103 m c t = G) : (dats m 0 c).arrAt (⟨103, by decide⟩ : Fin 134) (cfgs 0).N = G := by
  refine (dats m 0 c).arrAt_eq_of_covers (⟨103, by decide⟩ : Fin 134) G (by decide +kernel) fun t _ y => ?_
  rw [after103, h]
  exact congrArg G (emb103 t y).symm
theorem final103 (c : Dev nD) : (dats m 0 c).arrAt (⟨103, by decide⟩ : Fin 134) (cfgs 0).N = mom AdamSmallRefIdeal.Gen.bcast_S_S1x128 (grad10 (m ((c.tc : Thread nD τ).loc main_arg4))) (m ((c.tc : Thread nD τ).loc main_arg38)) :=
  arr103 m c _ fun t => by unfold a103; rw [bl4, bl38, o103]

theorem emb104 (t : Fin cfg0.N) (y : S1x128.Idx) : (win0_104.blk t).view.emb y = y :=
  funext fun a => Fin.ext (Pipeline.Window.rect_emb_val_of_index_zero win0_104 t a rfl y)
theorem arr104 (c : Dev nD) (G : Vec Ideal S1x128 .f32) (h : ∀ t, a104 m c t = G) : (dats m 0 c).arrAt (⟨104, by decide⟩ : Fin 134) (cfgs 0).N = G := by
  refine (dats m 0 c).arrAt_eq_of_covers (⟨104, by decide⟩ : Fin 134) G (by decide +kernel) fun t _ y => ?_
  rw [after104, h]
  exact congrArg G (emb104 t y).symm
theorem final104 (c : Dev nD) : (dats m 0 c).arrAt (⟨104, by decide⟩ : Fin 134) (cfgs 0).N = vel AdamSmallRefIdeal.Gen.bcast_S_S1x128 (grad10 (m ((c.tc : Thread nD τ).loc main_arg4))) (m ((c.tc : Thread nD τ).loc main_arg39)) :=
  arr104 m c _ fun t => by unfold a104; rw [bl4, bl39, o104]

theorem emb105 (t : Fin cfg0.N) (y : S3x96.Idx) : (win0_105.blk t).view.emb y = y :=
  funext fun a => Fin.ext (Pipeline.Window.rect_emb_val_of_index_zero win0_105 t a rfl y)
theorem arr105 (c : Dev nD) (G : Vec Ideal S3x96 .f32) (h : ∀ t, a105 m c t = G) : (dats m 0 c).arrAt (⟨105, by decide⟩ : Fin 134) (cfgs 0).N = G := by
  refine (dats m 0 c).arrAt_eq_of_covers (⟨105, by decide⟩ : Fin 134) G (by decide +kernel) fun t _ y => ?_
  rw [after105, h]
  exact congrArg G (emb105 t y).symm
theorem final105 (c : Dev nD) : (dats m 0 c).arrAt (⟨105, by decide⟩ : Fin 134) (cfgs 0).N = grad11 (m ((c.tc : Thread nD τ).loc main_arg5)) :=
  arr105 m c _ fun t => by unfold a105; rw [bl5, o105]

theorem emb106 (t : Fin cfg0.N) (y : S3x96.Idx) : (win0_106.blk t).view.emb y = y :=
  funext fun a => Fin.ext (Pipeline.Window.rect_emb_val_of_index_zero win0_106 t a rfl y)
theorem arr106 (c : Dev nD) (G : Vec Ideal S3x96 .f32) (h : ∀ t, a106 m c t = G) : (dats m 0 c).arrAt (⟨106, by decide⟩ : Fin 134) (cfgs 0).N = G := by
  refine (dats m 0 c).arrAt_eq_of_covers (⟨106, by decide⟩ : Fin 134) G (by decide +kernel) fun t _ y => ?_
  rw [after106, h]
  exact congrArg G (emb106 t y).symm
theorem final106 (c : Dev nD) : (dats m 0 c).arrAt (⟨106, by decide⟩ : Fin 134) (cfgs 0).N = delta AdamSmallRefIdeal.Gen.bcast_S_S3x96 (grad11 (m ((c.tc : Thread nD τ).loc main_arg5))) (m ((c.tc : Thread nD τ).loc main_arg40)) (m ((c.tc : Thread nD τ).loc main_arg41)) (m ((c.tc : Thread nD τ).loc main_arg42)) :=
  arr106 m c _ fun t => by unfold a106; rw [bl5, bl40, bl41, bl42, o106]

theorem emb107 (t : Fin cfg0.N) (y : S3x96.Idx) : (win0_107.blk t).view.emb y = y :=
  funext fun a => Fin.ext (Pipeline.Window.rect_emb_val_of_index_zero win0_107 t a rfl y)
theorem arr107 (c : Dev nD) (G : Vec Ideal S3x96 .f32) (h : ∀ t, a107 m c t = G) : (dats m 0 c).arrAt (⟨107, by decide⟩ : Fin 134) (cfgs 0).N = G := by
  refine (dats m 0 c).arrAt_eq_of_covers (⟨107, by decide⟩ : Fin 134) G (by decide +kernel) fun t _ y => ?_
  rw [after107, h]
  exact congrArg G (emb107 t y).symm
theorem final107 (c : Dev nD) : (dats m 0 c).arrAt (⟨107, by decide⟩ : Fin 134) (cfgs 0).N = mom AdamSmallRefIdeal.Gen.bcast_S_S3x96 (grad11 (m ((c.tc : Thread nD τ).loc main_arg5))) (m ((c.tc : Thread nD τ).loc main_arg41)) :=
  arr107 m c _ fun t => by unfold a107; rw [bl5, bl41, o107]

theorem emb108 (t : Fin cfg0.N) (y : S3x96.Idx) : (win0_108.blk t).view.emb y = y :=
  funext fun a => Fin.ext (Pipeline.Window.rect_emb_val_of_index_zero win0_108 t a rfl y)
theorem arr108 (c : Dev nD) (G : Vec Ideal S3x96 .f32) (h : ∀ t, a108 m c t = G) : (dats m 0 c).arrAt (⟨108, by decide⟩ : Fin 134) (cfgs 0).N = G := by
  refine (dats m 0 c).arrAt_eq_of_covers (⟨108, by decide⟩ : Fin 134) G (by decide +kernel) fun t _ y => ?_
  rw [after108, h]
  exact congrArg G (emb108 t y).symm
theorem final108 (c : Dev nD) : (dats m 0 c).arrAt (⟨108, by decide⟩ : Fin 134) (cfgs 0).N = vel AdamSmallRefIdeal.Gen.bcast_S_S3x96 (grad11 (m ((c.tc : Thread nD τ).loc main_arg5))) (m ((c.tc : Thread nD τ).loc main_arg42)) :=
  arr108 m c _ fun t => by unfold a108; rw [bl5, bl42, o108]

theorem emb109 (t : Fin cfg0.N) (y : S1x96.Idx) : (win0_109.blk t).view.emb y = y :=
  funext fun a => Fin.ext (Pipeline.Window.rect_emb_val_of_index_zero win0_109 t a rfl y)
theorem arr109 (c : Dev nD) (G : Vec Ideal S1x96 .f32) (h : ∀ t, a109 m c t = G) : (dats m 0 c).arrAt (⟨109, by decide⟩ : Fin 134) (cfgs 0).N = G := by
  refine (dats m 0 c).arrAt_eq_of_covers (⟨109, by decide⟩ : Fin 134) G (by decide +kernel) fun t _ y => ?_
  rw [after109, h]
  exact congrArg G (emb109 t y).symm
theorem final109 (c : Dev nD) : (dats m 0 c).arrAt (⟨109, by decide⟩ : Fin 134) (cfgs 0).N = grad12 (m ((c.tc : Thread nD τ).loc main_arg5)) :=
  arr109 m c _ fun t => by unfold a109; rw [bl5, o109]

theorem emb110 (t : Fin cfg0.N) (y : S1x96.Idx) : (win0_110.blk t).view.emb y = y :=
  funext fun a => Fin.ext (Pipeline.Window.rect_emb_val_of_index_zero win0_110 t a rfl y)
theorem arr110 (c : Dev nD) (G : Vec Ideal S1x96 .f32) (h : ∀ t, a110 m c t = G) : (dats m 0 c).arrAt (⟨110, by decide⟩ : Fin 134) (cfgs 0).N = G := by
  refine (dats m 0 c).arrAt_eq_of_covers (⟨110, by decide⟩ : Fin 134) G (by decide +kernel) fun t _ y => ?_
  rw [after110, h]
  exact congrArg G (emb110 t y).symm
theorem final110 (c : Dev nD) : (dats m 0 c).arrAt (⟨110, by decide⟩ : Fin 134) (cfgs 0).N = delta AdamSmallRefIdeal.Gen.bcast_S_S1x96 (grad12 (m ((c.tc : Thread nD τ).loc main_arg5))) (m ((c.tc : Thread nD τ).loc main_arg43)) (m ((c.tc : Thread nD τ).loc main_arg44)) (m ((c.tc : Thread nD τ).loc main_arg45)) :=
  arr110 m c _ fun t => by unfold a110; rw [bl5, bl43, bl44, bl45, o110]

theorem emb111 (t : Fin cfg0.N) (y : S1x96.Idx) : (win0_111.blk t).view.emb y = y :=
  funext fun a => Fin.ext (Pipeline.Window.rect_emb_val_of_index_zero win0_111 t a rfl y)
theorem arr111 (c : Dev nD) (G : Vec Ideal S1x96 .f32) (h : ∀ t, a111 m c t = G) : (dats m 0 c).arrAt (⟨111, by decide⟩ : Fin 134) (cfgs 0).N = G := by
  refine (dats m 0 c).arrAt_eq_of_covers (⟨111, by decide⟩ : Fin 134) G (by decide +kernel) fun t _ y => ?_
  rw [after111, h]
  exact congrArg G (emb111 t y).symm
theorem final111 (c : Dev nD) : (dats m 0 c).arrAt (⟨111, by decide⟩ : Fin 134) (cfgs 0).N = mom AdamSmallRefIdeal.Gen.bcast_S_S1x96 (grad12 (m ((c.tc : Thread nD τ).loc main_arg5))) (m ((c.tc : Thread nD τ).loc main_arg44)) :=
  arr111 m c _ fun t => by unfold a111; rw [bl5, bl44, o111]

theorem emb112 (t : Fin cfg0.N) (y : S1x96.Idx) : (win0_112.blk t).view.emb y = y :=
  funext fun a => Fin.ext (Pipeline.Window.rect_emb_val_of_index_zero win0_112 t a rfl y)
theorem arr112 (c : Dev nD) (G : Vec Ideal S1x96 .f32) (h : ∀ t, a112 m c t = G) : (dats m 0 c).arrAt (⟨112, by decide⟩ : Fin 134) (cfgs 0).N = G := by
  refine (dats m 0 c).arrAt_eq_of_covers (⟨112, by decide⟩ : Fin 134) G (by decide +kernel) fun t _ y => ?_
  rw [after112, h]
  exact congrArg G (emb112 t y).symm
theorem final112 (c : Dev nD) : (dats m 0 c).arrAt (⟨112, by decide⟩ : Fin 134) (cfgs 0).N = vel AdamSmallRefIdeal.Gen.bcast_S_S1x96 (grad12 (m ((c.tc : Thread nD τ).loc main_arg5))) (m ((c.tc : Thread nD τ).loc main_arg45)) :=
  arr112 m c _ fun t => by unfold a112; rw [bl5, bl45, o112]

theorem emb113 (t : Fin cfg0.N) (y : S31x96.Idx) : (win0_113.blk t).view.emb y = y :=
  funext fun a => Fin.ext (Pipeline.Window.rect_emb_val_of_index_zero win0_113 t a rfl y)
theorem arr113 (c : Dev nD) (G : Vec Ideal S31x96 .f32) (h : ∀ t, a113 m c t = G) : (dats m 0 c).arrAt (⟨113, by decide⟩ : Fin 134) (cfgs 0).N = G := by
  refine (dats m 0 c).arrAt_eq_of_covers (⟨113, by decide⟩ : Fin 134) G (by decide +kernel) fun t _ y => ?_
  rw [after113, h]
  exact congrArg G (emb113 t y).symm
theorem final113 (c : Dev nD) : (dats m 0 c).arrAt (⟨113, by decide⟩ : Fin 134) (cfgs 0).N = grad13 (m ((c.tc : Thread nD τ).loc main_arg5)) :=
  arr113 m c _ fun t => by unfold a113; rw [bl5, o113]

theorem emb114 (t : Fin cfg0.N) (y : S31x96.Idx) : (win0_114.blk t).view.emb y = y :=
  funext fun a => Fin.ext (Pipeline.Window.rect_emb_val_of_index_zero win0_114 t a rfl y)
theorem arr114 (c : Dev nD) (G : Vec Ideal S31x96 .f32) (h : ∀ t, a114 m c t = G) : (dats m 0 c).arrAt (⟨114, by decide⟩ : Fin 134) (cfgs 0).N = G := by
  refine (dats m 0 c).arrAt_eq_of_covers (⟨114, by decide⟩ : Fin 134) G (by decide +kernel) fun t _ y => ?_
  rw [after114, h]
  exact congrArg G (emb114 t y).symm
theorem final114 (c : Dev nD) : (dats m 0 c).arrAt (⟨114, by decide⟩ : Fin 134) (cfgs 0).N = delta AdamSmallRefIdeal.Gen.bcast_S_S31x96 (grad13 (m ((c.tc : Thread nD τ).loc main_arg5))) (m ((c.tc : Thread nD τ).loc main_arg46)) (m ((c.tc : Thread nD τ).loc main_arg47)) (m ((c.tc : Thread nD τ).loc main_arg48)) :=
  arr114 m c _ fun t => by unfold a114; rw [bl5, bl46, bl47, bl48, o114]

theorem emb115 (t : Fin cfg0.N) (y : S31x96.Idx) : (win0_115.blk t).view.emb y = y :=
  funext fun a => Fin.ext (Pipeline.Window.rect_emb_val_of_index_zero win0_115 t a rfl y)
theorem arr115 (c : Dev nD) (G : Vec Ideal S31x96 .f32) (h : ∀ t, a115 m c t = G) : (dats m 0 c).arrAt (⟨115, by decide⟩ : Fin 134) (cfgs 0).N = G := by
  refine (dats m 0 c).arrAt_eq_of_covers (⟨115, by decide⟩ : Fin 134) G (by decide +kernel) fun t _ y => ?_
  rw [after115, h]
  exact congrArg G (emb115 t y).symm
theorem final115 (c : Dev nD) : (dats m 0 c).arrAt (⟨115, by decide⟩ : Fin 134) (cfgs 0).N = mom AdamSmallRefIdeal.Gen.bcast_S_S31x96 (grad13 (m ((c.tc : Thread nD τ).loc main_arg5))) (m ((c.tc : Thread nD τ).loc main_arg47)) :=
  arr115 m c _ fun t => by unfold a115; rw [bl5, bl47, o115]

theorem emb116 (t : Fin cfg0.N) (y : S31x96.Idx) : (win0_116.blk t).view.emb y = y :=
  funext fun a => Fin.ext (Pipeline.Window.rect_emb_val_of_index_zero win0_116 t a rfl y)
theorem arr116 (c : Dev nD) (G : Vec Ideal S31x96 .f32) (h : ∀ t, a116 m c t = G) : (dats m 0 c).arrAt (⟨116, by decide⟩ : Fin 134) (cfgs 0).N = G := by
  refine (dats m 0 c).arrAt_eq_of_covers (⟨116, by decide⟩ : Fin 134) G (by decide +kernel) fun t _ y => ?_
  rw [after116, h]
  exact congrArg G (emb116 t y).symm
theorem final116 (c : Dev nD) : (dats m 0 c).arrAt (⟨116, by decide⟩ : Fin 134) (cfgs 0).N = vel AdamSmallRefIdeal.Gen.bcast_S_S31x96 (grad13 (m ((c.tc : Thread nD τ).loc main_arg5))) (m ((c.tc : Thread nD τ).loc main_arg48)) :=
  arr116 m c _ fun t => by unfold a116; rw [bl5, bl48, o116]

end Cert.AdamSmallIdeal.Final
end
-- ==== Proof.AdamSmall.Results2.lean ====
module

public import proofs.«01_k».proof.Proof.AdamSmall.Final2
public import Idealize.ShloMosaic.Lib.Claim

@[expose] public section

set_option maxRecDepth 16384

noncomputable section

open Idealize.ShloMosaic Idealize.ShloMosaic.TcCoe Idealize.SL.Sem
open Idealize.ShloMosaic.Pipeline (Dat)

/-! What the results of the run are. -/

namespace Cert.AdamSmallIdeal.Final

open Cert.AdamSmallIdeal Cert.AdamSmallIdeal.Gen Cert.AdamSmallIdeal.Body Cert.AdamSmallRefIdeal.Terms

variable (m : (ℓ : Loc nD τ sig) → Buf (Elt Ideal) ℓ)

theorem res101 {r} (h : Pipeline.FramePost cfgs (dats m) 0 (V m) r) (c : Dev nD) : r.2.mem ((c.tc : Thread nD τ).loc main_v0_40) = grad10 (m ((c.tc : Thread nD τ).loc main_arg4)) :=
  ((h c).1 101).trans (final101 m c)
theorem res102 {r} (h : Pipeline.FramePost cfgs (dats m) 0 (V m) r) (c : Dev nD) : r.2.mem ((c.tc : Thread nD τ).loc main_v0_41) = delta AdamSmallRefIdeal.Gen.bcast_S_S1x128 (grad10 (m ((c.tc : Thread nD τ).loc main_arg4))) (m ((c.tc : Thread nD τ).loc main_arg37)) (m ((c.tc : Thread nD τ).loc main_arg38)) (m ((c.tc : Thread nD τ).loc main_arg39)) :=
  ((h c).1 102).trans (final102 m c)
theorem res103 {r} (h : Pipeline.FramePost cfgs (dats m) 0 (V m) r) (c : Dev nD) : r.2.mem ((c.tc : Thread nD τ).loc main_v0_42) = mom AdamSmallRefIdeal.Gen.bcast_S_S1x128 (grad10 (m ((c.tc : Thread nD τ).loc main_arg4))) (m ((c.tc : Thread nD τ).loc main_arg38)) :=
  ((h c).1 103).trans (final103 m c)
theorem res104 {r} (h : Pipeline.FramePost cfgs (dats m) 0 (V m) r) (c : Dev nD) : r.2.mem ((c.tc : Thread nD τ).loc main_v0_43) = vel AdamSmallRefIdeal.Gen.bcast_S_S1x128 (grad10 (m ((c.tc : Thread nD τ).loc main_arg4))) (m ((c.tc : Thread nD τ).loc main_arg39)) :=
  ((h c).1 104).trans (final104 m c)
theorem res105 {r} (h : Pipeline.FramePost cfgs (dats m) 0 (V m) r) (c : Dev nD) : r.2.mem ((c.tc : Thread nD τ).loc main_v0_44) = grad11 (m ((c.tc : Thread nD τ).loc main_arg5)) :=
  ((h c).1 105).trans (final105 m c)
theorem res106 {r} (h : Pipeline.FramePost cfgs (dats m) 0 (V m) r) (c : Dev nD) : r.2.mem ((c.tc : Thread nD τ).loc main_v0_45) = delta AdamSmallRefIdeal.Gen.bcast_S_S3x96 (grad11 (m ((c.tc : Thread nD τ).loc main_arg5))) (m ((c.tc : Thread nD τ).loc main_arg40)) (m ((c.tc : Thread nD τ).loc main_arg41)) (m ((c.tc : Thread nD τ).loc main_arg42)) :=
  ((h c).1 106).trans (final106 m c)
theorem res107 {r} (h : Pipeline.FramePost cfgs (dats m) 0 (V m) r) (c : Dev nD) : r.2.mem ((c.tc : Thread nD τ).loc main_v0_46) = mom AdamSmallRefIdeal.Gen.bcast_S_S3x96 (grad11 (m ((c.tc : Thread nD τ).loc main_arg5))) (m ((c.tc : Thread nD τ).loc main_arg41)) :=
  ((h c).1 107).trans (final107 m c)
theorem res108 {r} (h : Pipeline.FramePost cfgs (dats m) 0 (V m) r) (c : Dev nD) : r.2.mem ((c.tc : Thread nD τ).loc main_v0_47) = vel AdamSmallRefIdeal.Gen.bcast_S_S3x96 (grad11 (m ((c.tc : Thread nD τ).loc main_arg5))) (m ((c.tc : Thread nD τ).loc main_arg42)) :=
  ((h c).1 108).trans (final108 m c)
theorem res109 {r} (h : Pipeline.FramePost cfgs (dats m) 0 (V m) r) (c : Dev nD) : r.2.mem ((c.tc : Thread nD τ).loc main_v0_48) = grad12 (m ((c.tc : Thread nD τ).loc main_arg5)) :=
  ((h c).1 109).trans (final109 m c)
theorem res110 {r} (h : Pipeline.FramePost cfgs (dats m) 0 (V m) r) (c : Dev nD) : r.2.mem ((c.tc : Thread nD τ).loc main_v0_49) = delta AdamSmallRefIdeal.Gen.bcast_S_S1x96 (grad12 (m ((c.tc : Thread nD τ).loc main_arg5))) (m ((c.tc : Thread nD τ).loc main_arg43)) (m ((c.tc : Thread nD τ).loc main_arg44)) (m ((c.tc : Thread nD τ).loc main_arg45)) :=
  ((h c).1 110).trans (final110 m c)
theorem res111 {r} (h : Pipeline.FramePost cfgs (dats m) 0 (V m) r) (c : Dev nD) : r.2.mem ((c.tc : Thread nD τ).loc main_v0_50) = mom AdamSmallRefIdeal.Gen.bcast_S_S1x96 (grad12 (m ((c.tc : Thread nD τ).loc main_arg5))) (m ((c.tc : Thread nD τ).loc main_arg44)) :=
  ((h c).1 111).trans (final111 m c)
theorem res112 {r} (h : Pipeline.FramePost cfgs (dats m) 0 (V m) r) (c : Dev nD) : r.2.mem ((c.tc : Thread nD τ).loc main_v0_51) = vel AdamSmallRefIdeal.Gen.bcast_S_S1x96 (grad12 (m ((c.tc : Thread nD τ).loc main_arg5))) (m ((c.tc : Thread nD τ).loc main_arg45)) :=
  ((h c).1 112).trans (final112 m c)
theorem res113 {r} (h : Pipeline.FramePost cfgs (dats m) 0 (V m) r) (c : Dev nD) : r.2.mem ((c.tc : Thread nD τ).loc main_v0_52) = grad13 (m ((c.tc : Thread nD τ).loc main_arg5)) :=
  ((h c).1 113).trans (final113 m c)
theorem res114 {r} (h : Pipeline.FramePost cfgs (dats m) 0 (V m) r) (c : Dev nD) : r.2.mem ((c.tc : Thread nD τ).loc main_v0_53) = delta AdamSmallRefIdeal.Gen.bcast_S_S31x96 (grad13 (m ((c.tc : Thread nD τ).loc main_arg5))) (m ((c.tc : Thread nD τ).loc main_arg46)) (m ((c.tc : Thread nD τ).loc main_arg47)) (m ((c.tc : Thread nD τ).loc main_arg48)) :=
  ((h c).1 114).trans (final114 m c)
theorem res115 {r} (h : Pipeline.FramePost cfgs (dats m) 0 (V m) r) (c : Dev nD) : r.2.mem ((c.tc : Thread nD τ).loc main_v0_54) = mom AdamSmallRefIdeal.Gen.bcast_S_S31x96 (grad13 (m ((c.tc : Thread nD τ).loc main_arg5))) (m ((c.tc : Thread nD τ).loc main_arg47)) :=
  ((h c).1 115).trans (final115 m c)
theorem res116 {r} (h : Pipeline.FramePost cfgs (dats m) 0 (V m) r) (c : Dev nD) : r.2.mem ((c.tc : Thread nD τ).loc main_v0_55) = vel AdamSmallRefIdeal.Gen.bcast_S_S31x96 (grad13 (m ((c.tc : Thread nD τ).loc main_arg5))) (m ((c.tc : Thread nD τ).loc main_arg48)) :=
  ((h c).1 116).trans (final116 m c)

end Cert.AdamSmallIdeal.Final

end
-- ==== Proof.AdamSmall.Equal3.lean ====
module

public import proofs.«01_k».proof.Proof.AdamSmall.Values
public import proofs.«01_k».proof.Proof.AdamSmall.Reference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! Each output the body leaves is the reference's, of the same arrays. -/

namespace Cert.AdamSmallIdeal.Final

open Cert.AdamSmallIdeal Cert.AdamSmallIdeal.Gen Cert.AdamSmallIdeal.Body Cert.AdamSmallRefIdeal.Terms

theorem o117 (x5 : Vec Ideal S8x80x96 .f32) : out117 x5 = grad14 x5 := by
  unfold out117
  funext j
  frame_out
  pointwise [k0_pay87, val134, k0_pay86, const, mom, vel, delta, grad14, Fin.sum_univ_eight]
  all_goals rw [ix2_row j]

theorem o118 (x5 : Vec Ideal S8x80x96 .f32) (x49 : Vec Ideal S1x96 .f32) (x50 : Vec Ideal S1x96 .f32) (x51 : Vec Ideal S1x96 .f32) : out118 x5 x49 x50 x51 = delta AdamSmallRefIdeal.Gen.bcast_S_S1x96 (grad14 x5) x49 x50 x51 := by
  unfold out118
  funext j
  frame_out
  pointwise [k0_pay90, k0_pay88, k0_pay87, k0_pay89, val134, k0_pay86, const, mom, vel, delta, grad14, Fin.sum_univ_eight]
  all_goals rw [ix2_row j]

theorem o119 (x5 : Vec Ideal S8x80x96 .f32) (x50 : Vec Ideal S1x96 .f32) : out119 x5 x50 = mom AdamSmallRefIdeal.Gen.bcast_S_S1x96 (grad14 x5) x50 := by
  unfold out119
  funext j
  frame_out
  pointwise [k0_pay88, k0_pay87, val134, k0_pay86, const, mom, vel, delta, grad14, Fin.sum_univ_eight]
  all_goals rw [ix2_row j]

theorem o120 (x5 : Vec Ideal S8x80x96 .f32) (x51 : Vec Ideal S1x96 .f32) : out120 x5 x51 = vel AdamSmallRefIdeal.Gen.bcast_S_S1x96 (grad14 x5) x51 := by
  unfold out120
  funext j
  frame_out
  pointwise [k0_pay89, k0_pay87, val134, k0_pay86, const, mom, vel, delta, grad14, Fin.sum_univ_eight]
  all_goals rw [ix2_row j]

theorem o121 (x5 : Vec Ideal S8x80x96 .f32) : out121 x5 = grad15 x5 := by
  unfold out121
  funext j
  frame_out
  pointwise [k0_pay91, const, mom, vel, delta, grad15, Fin.sum_univ_eight]
  all_goals rw [ix2_row j]

theorem o122 (x5 : Vec Ideal S8x80x96 .f32) (x52 : Vec Ideal S1x96 .f32) (x53 : Vec Ideal S1x96 .f32) (x54 : Vec Ideal S1x96 .f32) : out122 x5 x52 x53 x54 = delta AdamSmallRefIdeal.Gen.bcast_S_S1x96 (grad15 x5) x52 x53 x54 := by
  unfold out122
  funext j
  frame_out
  pointwise [k0_pay94, k0_pay92, k0_pay93, val135, k0_pay91, const, mom, vel, delta, grad15, Fin.sum_univ_eight]
  all_goals rw [ix2_row j]

theorem o123 (x5 : Vec Ideal S8x80x96 .f32) (x53 : Vec Ideal S1x96 .f32) : out123 x5 x53 = mom AdamSmallRefIdeal.Gen.bcast_S_S1x96 (grad15 x5) x53 := by
  unfold out123
  funext j
  frame_out
  pointwise [k0_pay92, val135, k0_pay91, const, mom, vel, delta, grad15, Fin.sum_univ_eight]
  all_goals rw [ix2_row j]

theorem o124 (x5 : Vec Ideal S8x80x96 .f32) (x54 : Vec Ideal S1x96 .f32) : out124 x5 x54 = vel AdamSmallRefIdeal.Gen.bcast_S_S1x96 (grad15 x5) x54 := by
  unfold out124
  funext j
  frame_out
  pointwise [k0_pay93, val135, k0_pay91, const, mom, vel, delta, grad15, Fin.sum_univ_eight]
  all_goals rw [ix2_row j]

theorem o125 (x5 : Vec Ideal S8x80x96 .f32) : out125 x5 = grad16 x5 := by
  unfold out125
  funext j
  frame_out
  pointwise [k0_pay96, val136, k0_pay95, const, mom, vel, delta, grad16, Fin.sum_univ_eight]
  all_goals rw [ix2_row j]

theorem o126 (x5 : Vec Ideal S8x80x96 .f32) (x55 : Vec Ideal S1x96 .f32) (x56 : Vec Ideal S1x96 .f32) (x57 : Vec Ideal S1x96 .f32) : out126 x5 x55 x56 x57 = delta AdamSmallRefIdeal.Gen.bcast_S_S1x96 (grad16 x5) x55 x56 x57 := by
  unfold out126
  funext j
  frame_out
  pointwise [k0_pay100, k0_pay99, val137, k0_pay96, val136, k0_pay95, val138, k0_pay97, val139, k0_pay98, const, mom, vel, delta, grad16, Fin.sum_univ_eight]
  all_goals rw [ix2_row j]

theorem o127 (x5 : Vec Ideal S8x80x96 .f32) (x56 : Vec Ideal S1x96 .f32) : out127 x5 x56 = mom AdamSmallRefIdeal.Gen.bcast_S_S1x96 (grad16 x5) x56 := by
  unfold out127
  funext j
  frame_out
  pointwise [val138, k0_pay97, k0_pay96, val136, k0_pay95, const, mom, vel, delta, grad16, Fin.sum_univ_eight]
  all_goals rw [ix2_row j]

theorem o128 (x5 : Vec Ideal S8x80x96 .f32) (x57 : Vec Ideal S1x96 .f32) : out128 x5 x57 = vel AdamSmallRefIdeal.Gen.bcast_S_S1x96 (grad16 x5) x57 := by
  unfold out128
  funext j
  frame_out
  pointwise [k0_pay99, val137, k0_pay96, val136, k0_pay95, val139, k0_pay98, const, mom, vel, delta, grad16, Fin.sum_univ_eight]
  all_goals rw [ix2_row j]

theorem o129 (x5 : Vec Ideal S8x80x96 .f32) : out129 x5 = grad17 x5 := by
  unfold out129
  funext j
  frame_out
  pointwise [k0_pay102, val140, k0_pay101, const, mom, vel, delta, grad17, Fin.sum_univ_eight]
  all_goals rw [ix2_row j]

theorem o130 (x5 : Vec Ideal S8x80x96 .f32) (x58 : Vec Ideal S1x96 .f32) (x59 : Vec Ideal S1x96 .f32) (x60 : Vec Ideal S1x96 .f32) : out130 x5 x58 x59 x60 = delta AdamSmallRefIdeal.Gen.bcast_S_S1x96 (grad17 x5) x58 x59 x60 := by
  unfold out130
  funext j
  frame_out
  pointwise [k0_pay1, k0_pay105, k0_pay103, k0_pay102, val140, k0_pay101, k0_pay106, k0_pay104, k0_pay107, const, mom, vel, delta, grad17, Fin.sum_univ_eight]
  all_goals rw [ix2_row j]

theorem o131 (x5 : Vec Ideal S8x80x96 .f32) (x59 : Vec Ideal S1x96 .f32) : out131 x5 x59 = mom AdamSmallRefIdeal.Gen.bcast_S_S1x96 (grad17 x5) x59 := by
  unfold out131
  funext j
  frame_out
  pointwise [k0_pay103, k0_pay102, val140, k0_pay101, const, mom, vel, delta, grad17, Fin.sum_univ_eight]
  all_goals rw [ix2_row j]

theorem o132 (x5 : Vec Ideal S8x80x96 .f32) (x60 : Vec Ideal S1x96 .f32) : out132 x5 x60 = vel AdamSmallRefIdeal.Gen.bcast_S_S1x96 (grad17 x5) x60 := by
  unfold out132
  funext j
  frame_out
  pointwise [k0_pay104, k0_pay102, val140, k0_pay101, const, mom, vel, delta, grad17, Fin.sum_univ_eight]
  all_goals rw [ix2_row j]

theorem o133 (x6 : Vec Ideal S8x8x128 .f32) : out133 x6 = loss x6 := by
  unfold out133
  funext j
  frame_out
  pointwise [k0_pay2, loss, Fin.sum_univ_eight]
  all_goals rw [ix2_row j]

end Cert.AdamSmallIdeal.Final
end
-- ==== Proof.AdamSmall.Final3.lean ====
module

public import proofs.«01_k».proof.Proof.AdamSmall.Dats
public import proofs.«01_k».proof.Proof.AdamSmall.Input0
public import proofs.«01_k».proof.Proof.AdamSmall.Input1
public import proofs.«01_k».proof.Proof.AdamSmall.Equal3
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! What the output arrays hold at the end. -/

namespace Cert.AdamSmallIdeal.Final

open Cert.AdamSmallIdeal Cert.AdamSmallIdeal.Gen Cert.AdamSmallIdeal.Body Cert.AdamSmallRefIdeal.Terms

variable (m : (ℓ : Loc nD τ sig) → Buf (Elt Ideal) ℓ)

theorem emb117 (t : Fin cfg0.N) (y : S1x96.Idx) : (win0_117.blk t).view.emb y = y :=
  funext fun a => Fin.ext (Pipeline.Window.rect_emb_val_of_index_zero win0_117 t a rfl y)
theorem arr117 (c : Dev nD) (G : Vec Ideal S1x96 .f32) (h : ∀ t, a117 m c t = G) : (dats m 0 c).arrAt (⟨117, by decide⟩ : Fin 134) (cfgs 0).N = G := by
  refine (dats m 0 c).arrAt_eq_of_covers (⟨117, by decide⟩ : Fin 134) G (by decide +kernel) fun t _ y => ?_
  rw [after117, h]
  exact congrArg G (emb117 t y).symm
theorem final117 (c : Dev nD) : (dats m 0 c).arrAt (⟨117, by decide⟩ : Fin 134) (cfgs 0).N = grad14 (m ((c.tc : Thread nD τ).loc main_arg5)) :=
  arr117 m c _ fun t => by unfold a117; rw [bl5, o117]

theorem emb118 (t : Fin cfg0.N) (y : S1x96.Idx) : (win0_118.blk t).view.emb y = y :=
  funext fun a => Fin.ext (Pipeline.Window.rect_emb_val_of_index_zero win0_118 t a rfl y)
theorem arr118 (c : Dev nD) (G : Vec Ideal S1x96 .f32) (h : ∀ t, a118 m c t = G) : (dats m 0 c).arrAt (⟨118, by decide⟩ : Fin 134) (cfgs 0).N = G := by
  refine (dats m 0 c).arrAt_eq_of_covers (⟨118, by decide⟩ : Fin 134) G (by decide +kernel) fun t _ y => ?_
  rw [after118, h]
  exact congrArg G (emb118 t y).symm
theorem final118 (c : Dev nD) : (dats m 0 c).arrAt (⟨118, by decide⟩ : Fin 134) (cfgs 0).N = delta AdamSmallRefIdeal.Gen.bcast_S_S1x96 (grad14 (m ((c.tc : Thread nD τ).loc main_arg5))) (m ((c.tc : Thread nD τ).loc main_arg49)) (m ((c.tc : Thread nD τ).loc main_arg50)) (m ((c.tc : Thread nD τ).loc main_arg51)) :=
  arr118 m c _ fun t => by unfold a118; rw [bl5, bl49, bl50, bl51, o118]

theorem emb119 (t : Fin cfg0.N) (y : S1x96.Idx) : (win0_119.blk t).view.emb y = y :=
  funext fun a => Fin.ext (Pipeline.Window.rect_emb_val_of_index_zero win0_119 t a rfl y)
theorem arr119 (c : Dev nD) (G : Vec Ideal S1x96 .f32) (h : ∀ t, a119 m c t = G) : (dats m 0 c).arrAt (⟨119, by decide⟩ : Fin 134) (cfgs 0).N = G := by
  refine (dats m 0 c).arrAt_eq_of_covers (⟨119, by decide⟩ : Fin 134) G (by decide +kernel) fun t _ y => ?_
  rw [after119, h]
  exact congrArg G (emb119 t y).symm
theorem final119 (c : Dev nD) : (dats m 0 c).arrAt (⟨119, by decide⟩ : Fin 134) (cfgs 0).N = mom AdamSmallRefIdeal.Gen.bcast_S_S1x96 (grad14 (m ((c.tc : Thread nD τ).loc main_arg5))) (m ((c.tc : Thread nD τ).loc main_arg50)) :=
  arr119 m c _ fun t => by unfold a119; rw [bl5, bl50, o119]

theorem emb120 (t : Fin cfg0.N) (y : S1x96.Idx) : (win0_120.blk t).view.emb y = y :=
  funext fun a => Fin.ext (Pipeline.Window.rect_emb_val_of_index_zero win0_120 t a rfl y)
theorem arr120 (c : Dev nD) (G : Vec Ideal S1x96 .f32) (h : ∀ t, a120 m c t = G) : (dats m 0 c).arrAt (⟨120, by decide⟩ : Fin 134) (cfgs 0).N = G := by
  refine (dats m 0 c).arrAt_eq_of_covers (⟨120, by decide⟩ : Fin 134) G (by decide +kernel) fun t _ y => ?_
  rw [after120, h]
  exact congrArg G (emb120 t y).symm
theorem final120 (c : Dev nD) : (dats m 0 c).arrAt (⟨120, by decide⟩ : Fin 134) (cfgs 0).N = vel AdamSmallRefIdeal.Gen.bcast_S_S1x96 (grad14 (m ((c.tc : Thread nD τ).loc main_arg5))) (m ((c.tc : Thread nD τ).loc main_arg51)) :=
  arr120 m c _ fun t => by unfold a120; rw [bl5, bl51, o120]

theorem emb121 (t : Fin cfg0.N) (y : S1x96.Idx) : (win0_121.blk t).view.emb y = y :=
  funext fun a => Fin.ext (Pipeline.Window.rect_emb_val_of_index_zero win0_121 t a rfl y)
theorem arr121 (c : Dev nD) (G : Vec Ideal S1x96 .f32) (h : ∀ t, a121 m c t = G) : (dats m 0 c).arrAt (⟨121, by decide⟩ : Fin 134) (cfgs 0).N = G := by
  refine (dats m 0 c).arrAt_eq_of_covers (⟨121, by decide⟩ : Fin 134) G (by decide +kernel) fun t _ y => ?_
  rw [after121, h]
  exact congrArg G (emb121 t y).symm
theorem final121 (c : Dev nD) : (dats m 0 c).arrAt (⟨121, by decide⟩ : Fin 134) (cfgs 0).N = grad15 (m ((c.tc : Thread nD τ).loc main_arg5)) :=
  arr121 m c _ fun t => by unfold a121; rw [bl5, o121]

theorem emb122 (t : Fin cfg0.N) (y : S1x96.Idx) : (win0_122.blk t).view.emb y = y :=
  funext fun a => Fin.ext (Pipeline.Window.rect_emb_val_of_index_zero win0_122 t a rfl y)
theorem arr122 (c : Dev nD) (G : Vec Ideal S1x96 .f32) (h : ∀ t, a122 m c t = G) : (dats m 0 c).arrAt (⟨122, by decide⟩ : Fin 134) (cfgs 0).N = G := by
  refine (dats m 0 c).arrAt_eq_of_covers (⟨122, by decide⟩ : Fin 134) G (by decide +kernel) fun t _ y => ?_
  rw [after122, h]
  exact congrArg G (emb122 t y).symm
theorem final122 (c : Dev nD) : (dats m 0 c).arrAt (⟨122, by decide⟩ : Fin 134) (cfgs 0).N = delta AdamSmallRefIdeal.Gen.bcast_S_S1x96 (grad15 (m ((c.tc : Thread nD τ).loc main_arg5))) (m ((c.tc : Thread nD τ).loc main_arg52)) (m ((c.tc : Thread nD τ).loc main_arg53)) (m ((c.tc : Thread nD τ).loc main_arg54)) :=
  arr122 m c _ fun t => by unfold a122; rw [bl5, bl52, bl53, bl54, o122]

theorem emb123 (t : Fin cfg0.N) (y : S1x96.Idx) : (win0_123.blk t).view.emb y = y :=
  funext fun a => Fin.ext (Pipeline.Window.rect_emb_val_of_index_zero win0_123 t a rfl y)
theorem arr123 (c : Dev nD) (G : Vec Ideal S1x96 .f32) (h : ∀ t, a123 m c t = G) : (dats m 0 c).arrAt (⟨123, by decide⟩ : Fin 134) (cfgs 0).N = G := by
  refine (dats m 0 c).arrAt_eq_of_covers (⟨123, by decide⟩ : Fin 134) G (by decide +kernel) fun t _ y => ?_
  rw [after123, h]
  exact congrArg G (emb123 t y).symm
theorem final123 (c : Dev nD) : (dats m 0 c).arrAt (⟨123, by decide⟩ : Fin 134) (cfgs 0).N = mom AdamSmallRefIdeal.Gen.bcast_S_S1x96 (grad15 (m ((c.tc : Thread nD τ).loc main_arg5))) (m ((c.tc : Thread nD τ).loc main_arg53)) :=
  arr123 m c _ fun t => by unfold a123; rw [bl5, bl53, o123]

theorem emb124 (t : Fin cfg0.N) (y : S1x96.Idx) : (win0_124.blk t).view.emb y = y :=
  funext fun a => Fin.ext (Pipeline.Window.rect_emb_val_of_index_zero win0_124 t a rfl y)
theorem arr124 (c : Dev nD) (G : Vec Ideal S1x96 .f32) (h : ∀ t, a124 m c t = G) : (dats m 0 c).arrAt (⟨124, by decide⟩ : Fin 134) (cfgs 0).N = G := by
  refine (dats m 0 c).arrAt_eq_of_covers (⟨124, by decide⟩ : Fin 134) G (by decide +kernel) fun t _ y => ?_
  rw [after124, h]
  exact congrArg G (emb124 t y).symm
theorem final124 (c : Dev nD) : (dats m 0 c).arrAt (⟨124, by decide⟩ : Fin 134) (cfgs 0).N = vel AdamSmallRefIdeal.Gen.bcast_S_S1x96 (grad15 (m ((c.tc : Thread nD τ).loc main_arg5))) (m ((c.tc : Thread nD τ).loc main_arg54)) :=
  arr124 m c _ fun t => by unfold a124; rw [bl5, bl54, o124]

theorem emb125 (t : Fin cfg0.N) (y : S1x96.Idx) : (win0_125.blk t).view.emb y = y :=
  funext fun a => Fin.ext (Pipeline.Window.rect_emb_val_of_index_zero win0_125 t a rfl y)
theorem arr125 (c : Dev nD) (G : Vec Ideal S1x96 .f32) (h : ∀ t, a125 m c t = G) : (dats m 0 c).arrAt (⟨125, by decide⟩ : Fin 134) (cfgs 0).N = G := by
  refine (dats m 0 c).arrAt_eq_of_covers (⟨125, by decide⟩ : Fin 134) G (by decide +kernel) fun t _ y => ?_
  rw [after125, h]
  exact congrArg G (emb125 t y).symm
theorem final125 (c : Dev nD) : (dats m 0 c).arrAt (⟨125, by decide⟩ : Fin 134) (cfgs 0).N = grad16 (m ((c.tc : Thread nD τ).loc main_arg5)) :=
  arr125 m c _ fun t => by unfold a125; rw [bl5, o125]

theorem emb126 (t : Fin cfg0.N) (y : S1x96.Idx) : (win0_126.blk t).view.emb y = y :=
  funext fun a => Fin.ext (Pipeline.Window.rect_emb_val_of_index_zero win0_126 t a rfl y)
theorem arr126 (c : Dev nD) (G : Vec Ideal S1x96 .f32) (h : ∀ t, a126 m c t = G) : (dats m 0 c).arrAt (⟨126, by decide⟩ : Fin 134) (cfgs 0).N = G := by
  refine (dats m 0 c).arrAt_eq_of_covers (⟨126, by decide⟩ : Fin 134) G (by decide +kernel) fun t _ y => ?_
  rw [after126, h]
  exact congrArg G (emb126 t y).symm
theorem final126 (c : Dev nD) : (dats m 0 c).arrAt (⟨126, by decide⟩ : Fin 134) (cfgs 0).N = delta AdamSmallRefIdeal.Gen.bcast_S_S1x96 (grad16 (m ((c.tc : Thread nD τ).loc main_arg5))) (m ((c.tc : Thread nD τ).loc main_arg55)) (m ((c.tc : Thread nD τ).loc main_arg56)) (m ((c.tc : Thread nD τ).loc main_arg57)) :=
  arr126 m c _ fun t => by unfold a126; rw [bl5, bl55, bl56, bl57, o126]

theorem emb127 (t : Fin cfg0.N) (y : S1x96.Idx) : (win0_127.blk t).view.emb y = y :=
  funext fun a => Fin.ext (Pipeline.Window.rect_emb_val_of_index_zero win0_127 t a rfl y)
theorem arr127 (c : Dev nD) (G : Vec Ideal S1x96 .f32) (h : ∀ t, a127 m c t = G) : (dats m 0 c).arrAt (⟨127, by decide⟩ : Fin 134) (cfgs 0).N = G := by
  refine (dats m 0 c).arrAt_eq_of_covers (⟨127, by decide⟩ : Fin 134) G (by decide +kernel) fun t _ y => ?_
  rw [after127, h]
  exact congrArg G (emb127 t y).symm
theorem final127 (c : Dev nD) : (dats m 0 c).arrAt (⟨127, by decide⟩ : Fin 134) (cfgs 0).N = mom AdamSmallRefIdeal.Gen.bcast_S_S1x96 (grad16 (m ((c.tc : Thread nD τ).loc main_arg5))) (m ((c.tc : Thread nD τ).loc main_arg56)) :=
  arr127 m c _ fun t => by unfold a127; rw [bl5, bl56, o127]

theorem emb128 (t : Fin cfg0.N) (y : S1x96.Idx) : (win0_128.blk t).view.emb y = y :=
  funext fun a => Fin.ext (Pipeline.Window.rect_emb_val_of_index_zero win0_128 t a rfl y)
theorem arr128 (c : Dev nD) (G : Vec Ideal S1x96 .f32) (h : ∀ t, a128 m c t = G) : (dats m 0 c).arrAt (⟨128, by decide⟩ : Fin 134) (cfgs 0).N = G := by
  refine (dats m 0 c).arrAt_eq_of_covers (⟨128, by decide⟩ : Fin 134) G (by decide +kernel) fun t _ y => ?_
  rw [after128, h]
  exact congrArg G (emb128 t y).symm
theorem final128 (c : Dev nD) : (dats m 0 c).arrAt (⟨128, by decide⟩ : Fin 134) (cfgs 0).N = vel AdamSmallRefIdeal.Gen.bcast_S_S1x96 (grad16 (m ((c.tc : Thread nD τ).loc main_arg5))) (m ((c.tc : Thread nD τ).loc main_arg57)) :=
  arr128 m c _ fun t => by unfold a128; rw [bl5, bl57, o128]

theorem emb129 (t : Fin cfg0.N) (y : S1x96.Idx) : (win0_129.blk t).view.emb y = y :=
  funext fun a => Fin.ext (Pipeline.Window.rect_emb_val_of_index_zero win0_129 t a rfl y)
theorem arr129 (c : Dev nD) (G : Vec Ideal S1x96 .f32) (h : ∀ t, a129 m c t = G) : (dats m 0 c).arrAt (⟨129, by decide⟩ : Fin 134) (cfgs 0).N = G := by
  refine (dats m 0 c).arrAt_eq_of_covers (⟨129, by decide⟩ : Fin 134) G (by decide +kernel) fun t _ y => ?_
  rw [after129, h]
  exact congrArg G (emb129 t y).symm
theorem final129 (c : Dev nD) : (dats m 0 c).arrAt (⟨129, by decide⟩ : Fin 134) (cfgs 0).N = grad17 (m ((c.tc : Thread nD τ).loc main_arg5)) :=
  arr129 m c _ fun t => by unfold a129; rw [bl5, o129]

theorem emb130 (t : Fin cfg0.N) (y : S1x96.Idx) : (win0_130.blk t).view.emb y = y :=
  funext fun a => Fin.ext (Pipeline.Window.rect_emb_val_of_index_zero win0_130 t a rfl y)
theorem arr130 (c : Dev nD) (G : Vec Ideal S1x96 .f32) (h : ∀ t, a130 m c t = G) : (dats m 0 c).arrAt (⟨130, by decide⟩ : Fin 134) (cfgs 0).N = G := by
  refine (dats m 0 c).arrAt_eq_of_covers (⟨130, by decide⟩ : Fin 134) G (by decide +kernel) fun t _ y => ?_
  rw [after130, h]
  exact congrArg G (emb130 t y).symm
theorem final130 (c : Dev nD) : (dats m 0 c).arrAt (⟨130, by decide⟩ : Fin 134) (cfgs 0).N = delta AdamSmallRefIdeal.Gen.bcast_S_S1x96 (grad17 (m ((c.tc : Thread nD τ).loc main_arg5))) (m ((c.tc : Thread nD τ).loc main_arg58)) (m ((c.tc : Thread nD τ).loc main_arg59)) (m ((c.tc : Thread nD τ).loc main_arg60)) :=
  arr130 m c _ fun t => by unfold a130; rw [bl5, bl58, bl59, bl60, o130]

theorem emb131 (t : Fin cfg0.N) (y : S1x96.Idx) : (win0_131.blk t).view.emb y = y :=
  funext fun a => Fin.ext (Pipeline.Window.rect_emb_val_of_index_zero win0_131 t a rfl y)
theorem arr131 (c : Dev nD) (G : Vec Ideal S1x96 .f32) (h : ∀ t, a131 m c t = G) : (dats m 0 c).arrAt (⟨131, by decide⟩ : Fin 134) (cfgs 0).N = G := by
  refine (dats m 0 c).arrAt_eq_of_covers (⟨131, by decide⟩ : Fin 134) G (by decide +kernel) fun t _ y => ?_
  rw [after131, h]
  exact congrArg G (emb131 t y).symm
theorem final131 (c : Dev nD) : (dats m 0 c).arrAt (⟨131, by decide⟩ : Fin 134) (cfgs 0).N = mom AdamSmallRefIdeal.Gen.bcast_S_S1x96 (grad17 (m ((c.tc : Thread nD τ).loc main_arg5))) (m ((c.tc : Thread nD τ).loc main_arg59)) :=
  arr131 m c _ fun t => by unfold a131; rw [bl5, bl59, o131]

theorem emb132 (t : Fin cfg0.N) (y : S1x96.Idx) : (win0_132.blk t).view.emb y = y :=
  funext fun a => Fin.ext (Pipeline.Window.rect_emb_val_of_index_zero win0_132 t a rfl y)
theorem arr132 (c : Dev nD) (G : Vec Ideal S1x96 .f32) (h : ∀ t, a132 m c t = G) : (dats m 0 c).arrAt (⟨132, by decide⟩ : Fin 134) (cfgs 0).N = G := by
  refine (dats m 0 c).arrAt_eq_of_covers (⟨132, by decide⟩ : Fin 134) G (by decide +kernel) fun t _ y => ?_
  rw [after132, h]
  exact congrArg G (emb132 t y).symm
theorem final132 (c : Dev nD) : (dats m 0 c).arrAt (⟨132, by decide⟩ : Fin 134) (cfgs 0).N = vel AdamSmallRefIdeal.Gen.bcast_S_S1x96 (grad17 (m ((c.tc : Thread nD τ).loc main_arg5))) (m ((c.tc : Thread nD τ).loc main_arg60)) :=
  arr132 m c _ fun t => by unfold a132; rw [bl5, bl60, o132]

theorem emb133 (t : Fin cfg0.N) (y : S1x128.Idx) : (win0_133.blk t).view.emb y = y :=
  funext fun a => Fin.ext (Pipeline.Window.rect_emb_val_of_index_zero win0_133 t a rfl y)
theorem arr133 (c : Dev nD) (G : Vec Ideal S1x128 .f32) (h : ∀ t, a133 m c t = G) : (dats m 0 c).arrAt (⟨133, by decide⟩ : Fin 134) (cfgs 0).N = G := by
  refine (dats m 0 c).arrAt_eq_of_covers (⟨133, by decide⟩ : Fin 134) G (by decide +kernel) fun t _ y => ?_
  rw [after133, h]
  exact congrArg G (emb133 t y).symm
theorem final133 (c : Dev nD) : (dats m 0 c).arrAt (⟨133, by decide⟩ : Fin 134) (cfgs 0).N = loss (m ((c.tc : Thread nD τ).loc main_arg6)) :=
  arr133 m c _ fun t => by unfold a133; rw [bl6, o133]

end Cert.AdamSmallIdeal.Final
end
-- ==== Proof.AdamSmall.Results3.lean ====
module

public import proofs.«01_k».proof.Proof.AdamSmall.Final3
public import Idealize.ShloMosaic.Lib.Claim

@[expose] public section

set_option maxRecDepth 16384

noncomputable section

open Idealize.ShloMosaic Idealize.ShloMosaic.TcCoe Idealize.SL.Sem
open Idealize.ShloMosaic.Pipeline (Dat)

/-! What the results of the run are. -/

namespace Cert.AdamSmallIdeal.Final

open Cert.AdamSmallIdeal Cert.AdamSmallIdeal.Gen Cert.AdamSmallIdeal.Body Cert.AdamSmallRefIdeal.Terms

variable (m : (ℓ : Loc nD τ sig) → Buf (Elt Ideal) ℓ)

theorem res117 {r} (h : Pipeline.FramePost cfgs (dats m) 0 (V m) r) (c : Dev nD) : r.2.mem ((c.tc : Thread nD τ).loc main_v0_56) = grad14 (m ((c.tc : Thread nD τ).loc main_arg5)) :=
  ((h c).1 117).trans (final117 m c)
theorem res118 {r} (h : Pipeline.FramePost cfgs (dats m) 0 (V m) r) (c : Dev nD) : r.2.mem ((c.tc : Thread nD τ).loc main_v0_57) = delta AdamSmallRefIdeal.Gen.bcast_S_S1x96 (grad14 (m ((c.tc : Thread nD τ).loc main_arg5))) (m ((c.tc : Thread nD τ).loc main_arg49)) (m ((c.tc : Thread nD τ).loc main_arg50)) (m ((c.tc : Thread nD τ).loc main_arg51)) :=
  ((h c).1 118).trans (final118 m c)
theorem res119 {r} (h : Pipeline.FramePost cfgs (dats m) 0 (V m) r) (c : Dev nD) : r.2.mem ((c.tc : Thread nD τ).loc main_v0_58) = mom AdamSmallRefIdeal.Gen.bcast_S_S1x96 (grad14 (m ((c.tc : Thread nD τ).loc main_arg5))) (m ((c.tc : Thread nD τ).loc main_arg50)) :=
  ((h c).1 119).trans (final119 m c)
theorem res120 {r} (h : Pipeline.FramePost cfgs (dats m) 0 (V m) r) (c : Dev nD) : r.2.mem ((c.tc : Thread nD τ).loc main_v0_59) = vel AdamSmallRefIdeal.Gen.bcast_S_S1x96 (grad14 (m ((c.tc : Thread nD τ).loc main_arg5))) (m ((c.tc : Thread nD τ).loc main_arg51)) :=
  ((h c).1 120).trans (final120 m c)
theorem res121 {r} (h : Pipeline.FramePost cfgs (dats m) 0 (V m) r) (c : Dev nD) : r.2.mem ((c.tc : Thread nD τ).loc main_v0_60) = grad15 (m ((c.tc : Thread nD τ).loc main_arg5)) :=
  ((h c).1 121).trans (final121 m c)
theorem res122 {r} (h : Pipeline.FramePost cfgs (dats m) 0 (V m) r) (c : Dev nD) : r.2.mem ((c.tc : Thread nD τ).loc main_v0_61) = delta AdamSmallRefIdeal.Gen.bcast_S_S1x96 (grad15 (m ((c.tc : Thread nD τ).loc main_arg5))) (m ((c.tc : Thread nD τ).loc main_arg52)) (m ((c.tc : Thread nD τ).loc main_arg53)) (m ((c.tc : Thread nD τ).loc main_arg54)) :=
  ((h c).1 122).trans (final122 m c)
theorem res123 {r} (h : Pipeline.FramePost cfgs (dats m) 0 (V m) r) (c : Dev nD) : r.2.mem ((c.tc : Thread nD τ).loc main_v0_62) = mom AdamSmallRefIdeal.Gen.bcast_S_S1x96 (grad15 (m ((c.tc : Thread nD τ).loc main_arg5))) (m ((c.tc : Thread nD τ).loc main_arg53)) :=
  ((h c).1 123).trans (final123 m c)
theorem res124 {r} (h : Pipeline.FramePost cfgs (dats m) 0 (V m) r) (c : Dev nD) : r.2.mem ((c.tc : Thread nD τ).loc main_v0_63) = vel AdamSmallRefIdeal.Gen.bcast_S_S1x96 (grad15 (m ((c.tc : Thread nD τ).loc main_arg5))) (m ((c.tc : Thread nD τ).loc main_arg54)) :=
  ((h c).1 124).trans (final124 m c)
theorem res125 {r} (h : Pipeline.FramePost cfgs (dats m) 0 (V m) r) (c : Dev nD) : r.2.mem ((c.tc : Thread nD τ).loc main_v0_64) = grad16 (m ((c.tc : Thread nD τ).loc main_arg5)) :=
  ((h c).1 125).trans (final125 m c)
theorem res126 {r} (h : Pipeline.FramePost cfgs (dats m) 0 (V m) r) (c : Dev nD) : r.2.mem ((c.tc : Thread nD τ).loc main_v0_65) = delta AdamSmallRefIdeal.Gen.bcast_S_S1x96 (grad16 (m ((c.tc : Thread nD τ).loc main_arg5))) (m ((c.tc : Thread nD τ).loc main_arg55)) (m ((c.tc : Thread nD τ).loc main_arg56)) (m ((c.tc : Thread nD τ).loc main_arg57)) :=
  ((h c).1 126).trans (final126 m c)
theorem res127 {r} (h : Pipeline.FramePost cfgs (dats m) 0 (V m) r) (c : Dev nD) : r.2.mem ((c.tc : Thread nD τ).loc main_v0_66) = mom AdamSmallRefIdeal.Gen.bcast_S_S1x96 (grad16 (m ((c.tc : Thread nD τ).loc main_arg5))) (m ((c.tc : Thread nD τ).loc main_arg56)) :=
  ((h c).1 127).trans (final127 m c)
theorem res128 {r} (h : Pipeline.FramePost cfgs (dats m) 0 (V m) r) (c : Dev nD) : r.2.mem ((c.tc : Thread nD τ).loc main_v0_67) = vel AdamSmallRefIdeal.Gen.bcast_S_S1x96 (grad16 (m ((c.tc : Thread nD τ).loc main_arg5))) (m ((c.tc : Thread nD τ).loc main_arg57)) :=
  ((h c).1 128).trans (final128 m c)
theorem res129 {r} (h : Pipeline.FramePost cfgs (dats m) 0 (V m) r) (c : Dev nD) : r.2.mem ((c.tc : Thread nD τ).loc main_v0_68) = grad17 (m ((c.tc : Thread nD τ).loc main_arg5)) :=
  ((h c).1 129).trans (final129 m c)
theorem res130 {r} (h : Pipeline.FramePost cfgs (dats m) 0 (V m) r) (c : Dev nD) : r.2.mem ((c.tc : Thread nD τ).loc main_v0_69) = delta AdamSmallRefIdeal.Gen.bcast_S_S1x96 (grad17 (m ((c.tc : Thread nD τ).loc main_arg5))) (m ((c.tc : Thread nD τ).loc main_arg58)) (m ((c.tc : Thread nD τ).loc main_arg59)) (m ((c.tc : Thread nD τ).loc main_arg60)) :=
  ((h c).1 130).trans (final130 m c)
theorem res131 {r} (h : Pipeline.FramePost cfgs (dats m) 0 (V m) r) (c : Dev nD) : r.2.mem ((c.tc : Thread nD τ).loc main_v0_70) = mom AdamSmallRefIdeal.Gen.bcast_S_S1x96 (grad17 (m ((c.tc : Thread nD τ).loc main_arg5))) (m ((c.tc : Thread nD τ).loc main_arg59)) :=
  ((h c).1 131).trans (final131 m c)
theorem res132 {r} (h : Pipeline.FramePost cfgs (dats m) 0 (V m) r) (c : Dev nD) : r.2.mem ((c.tc : Thread nD τ).loc main_v0_71) = vel AdamSmallRefIdeal.Gen.bcast_S_S1x96 (grad17 (m ((c.tc : Thread nD τ).loc main_arg5))) (m ((c.tc : Thread nD τ).loc main_arg60)) :=
  ((h c).1 132).trans (final132 m c)
theorem res133 {r} (h : Pipeline.FramePost cfgs (dats m) 0 (V m) r) (c : Dev nD) : r.2.mem ((c.tc : Thread nD τ).loc main_v0_72) = loss (m ((c.tc : Thread nD τ).loc main_arg6)) :=
  ((h c).1 133).trans (final133 m c)

end Cert.AdamSmallIdeal.Final

end
-- ==== Proof.AdamSmall.Claims.lean ====
module

public import proofs.«01_k».proof.Proof.AdamSmall.RefClaims
public import proofs.«01_k».proof.Proof.AdamSmall.FrameClaims
public import proofs.«01_k».proof.Proof.AdamSmall.Results0
public import proofs.«01_k».proof.Proof.AdamSmall.Results1
public import proofs.«01_k».proof.Proof.AdamSmall.Results2
public import proofs.«01_k».proof.Proof.AdamSmall.Results3

/-! The claims about the optimiser on the small weights. -/

@[expose] public section

set_option maxRecDepth 16384

noncomputable section

namespace Cert.Claims.AdamSmall

open Cert.AdamSmallRefIdeal.Terms
open Idealize.ShloMosaic Idealize.ShloMosaic.TcCoe Idealize.SL.Sem

theorem preserves : Cert.preserves_AdamSmall_AdamSmallIdeal := trivial

set_option maxHeartbeats 4000000 in
/-- The kernel's results are the reference's over the extended reals. -/
theorem algebraic : Cert.algebraic_AdamSmallIdeal_AdamSmallRefIdeal := by
  intro m g m' g' _ hagree
  refine ⟨fun c => grad0 (m ((c.tc : Thread Cert.AdamSmallIdeal.nD Cert.AdamSmallIdeal.τ).loc Cert.AdamSmallIdeal.main_arg0)),
    fun c => delta Cert.AdamSmallRefIdeal.Gen.bcast_S_S1x1024 (grad0 (m ((c.tc : Thread Cert.AdamSmallIdeal.nD Cert.AdamSmallIdeal.τ).loc Cert.AdamSmallIdeal.main_arg0))) (m ((c.tc : Thread Cert.AdamSmallIdeal.nD Cert.AdamSmallIdeal.τ).loc Cert.AdamSmallIdeal.main_arg7)) (m ((c.tc : Thread Cert.AdamSmallIdeal.nD Cert.AdamSmallIdeal.τ).loc Cert.AdamSmallIdeal.main_arg8)) (m ((c.tc : Thread Cert.AdamSmallIdeal.nD Cert.AdamSmallIdeal.τ).loc Cert.AdamSmallIdeal.main_arg9)),
    fun c => mom Cert.AdamSmallRefIdeal.Gen.bcast_S_S1x1024 (grad0 (m ((c.tc : Thread Cert.AdamSmallIdeal.nD Cert.AdamSmallIdeal.τ).loc Cert.AdamSmallIdeal.main_arg0))) (m ((c.tc : Thread Cert.AdamSmallIdeal.nD Cert.AdamSmallIdeal.τ).loc Cert.AdamSmallIdeal.main_arg8)),
    fun c => vel Cert.AdamSmallRefIdeal.Gen.bcast_S_S1x1024 (grad0 (m ((c.tc : Thread Cert.AdamSmallIdeal.nD Cert.AdamSmallIdeal.τ).loc Cert.AdamSmallIdeal.main_arg0))) (m ((c.tc : Thread Cert.AdamSmallIdeal.nD Cert.AdamSmallIdeal.τ).loc Cert.AdamSmallIdeal.main_arg9)),
    fun c => grad1 (m ((c.tc : Thread Cert.AdamSmallIdeal.nD Cert.AdamSmallIdeal.τ).loc Cert.AdamSmallIdeal.main_arg0)),
    fun c => delta Cert.AdamSmallRefIdeal.Gen.bcast_S_S1x1024 (grad1 (m ((c.tc : Thread Cert.AdamSmallIdeal.nD Cert.AdamSmallIdeal.τ).loc Cert.AdamSmallIdeal.main_arg0))) (m ((c.tc : Thread Cert.AdamSmallIdeal.nD Cert.AdamSmallIdeal.τ).loc Cert.AdamSmallIdeal.main_arg10)) (m ((c.tc : Thread Cert.AdamSmallIdeal.nD Cert.AdamSmallIdeal.τ).loc Cert.AdamSmallIdeal.main_arg11)) (m ((c.tc : Thread Cert.AdamSmallIdeal.nD Cert.AdamSmallIdeal.τ).loc Cert.AdamSmallIdeal.main_arg12)),
    fun c => mom Cert.AdamSmallRefIdeal.Gen.bcast_S_S1x1024 (grad1 (m ((c.tc : Thread Cert.AdamSmallIdeal.nD Cert.AdamSmallIdeal.τ).loc Cert.AdamSmallIdeal.main_arg0))) (m ((c.tc : Thread Cert.AdamSmallIdeal.nD Cert.AdamSmallIdeal.τ).loc Cert.AdamSmallIdeal.main_arg11)),
    fun c => vel Cert.AdamSmallRefIdeal.Gen.bcast_S_S1x1024 (grad1 (m ((c.tc : Thread Cert.AdamSmallIdeal.nD Cert.AdamSmallIdeal.τ).loc Cert.AdamSmallIdeal.main_arg0))) (m ((c.tc : Thread Cert.AdamSmallIdeal.nD Cert.AdamSmallIdeal.τ).loc Cert.AdamSmallIdeal.main_arg12)),
    fun c => grad2 (m ((c.tc : Thread Cert.AdamSmallIdeal.nD Cert.AdamSmallIdeal.τ).loc Cert.AdamSmallIdeal.main_arg0)),
    fun c => delta Cert.AdamSmallRefIdeal.Gen.bcast_S_S1x1024 (grad2 (m ((c.tc : Thread Cert.AdamSmallIdeal.nD Cert.AdamSmallIdeal.τ).loc Cert.AdamSmallIdeal.main_arg0))) (m ((c.tc : Thread Cert.AdamSmallIdeal.nD Cert.AdamSmallIdeal.τ).loc Cert.AdamSmallIdeal.main_arg13)) (m ((c.tc : Thread Cert.AdamSmallIdeal.nD Cert.AdamSmallIdeal.τ).loc Cert.AdamSmallIdeal.main_arg14)) (m ((c.tc : Thread Cert.AdamSmallIdeal.nD Cert.AdamSmallIdeal.τ).loc Cert.AdamSmallIdeal.main_arg15)),
    fun c => mom Cert.AdamSmallRefIdeal.Gen.bcast_S_S1x1024 (grad2 (m ((c.tc : Thread Cert.AdamSmallIdeal.nD Cert.AdamSmallIdeal.τ).loc Cert.AdamSmallIdeal.main_arg0))) (m ((c.tc : Thread Cert.AdamSmallIdeal.nD Cert.AdamSmallIdeal.τ).loc Cert.AdamSmallIdeal.main_arg14)),
    fun c => vel Cert.AdamSmallRefIdeal.Gen.bcast_S_S1x1024 (grad2 (m ((c.tc : Thread Cert.AdamSmallIdeal.nD Cert.AdamSmallIdeal.τ).loc Cert.AdamSmallIdeal.main_arg0))) (m ((c.tc : Thread Cert.AdamSmallIdeal.nD Cert.AdamSmallIdeal.τ).loc Cert.AdamSmallIdeal.main_arg15)),
    fun c => grad3 (m ((c.tc : Thread Cert.AdamSmallIdeal.nD Cert.AdamSmallIdeal.τ).loc Cert.AdamSmallIdeal.main_arg1)),
    fun c => delta Cert.AdamSmallRefIdeal.Gen.bcast_S_S1x768 (grad3 (m ((c.tc : Thread Cert.AdamSmallIdeal.nD Cert.AdamSmallIdeal.τ).loc Cert.AdamSmallIdeal.main_arg1))) (m ((c.tc : Thread Cert.AdamSmallIdeal.nD Cert.AdamSmallIdeal.τ).loc Cert.AdamSmallIdeal.main_arg16)) (m ((c.tc : Thread Cert.AdamSmallIdeal.nD Cert.AdamSmallIdeal.τ).loc Cert.AdamSmallIdeal.main_arg17)) (m ((c.tc : Thread Cert.AdamSmallIdeal.nD Cert.AdamSmallIdeal.τ).loc Cert.AdamSmallIdeal.main_arg18)),
    fun c => mom Cert.AdamSmallRefIdeal.Gen.bcast_S_S1x768 (grad3 (m ((c.tc : Thread Cert.AdamSmallIdeal.nD Cert.AdamSmallIdeal.τ).loc Cert.AdamSmallIdeal.main_arg1))) (m ((c.tc : Thread Cert.AdamSmallIdeal.nD Cert.AdamSmallIdeal.τ).loc Cert.AdamSmallIdeal.main_arg17)),
    fun c => vel Cert.AdamSmallRefIdeal.Gen.bcast_S_S1x768 (grad3 (m ((c.tc : Thread Cert.AdamSmallIdeal.nD Cert.AdamSmallIdeal.τ).loc Cert.AdamSmallIdeal.main_arg1))) (m ((c.tc : Thread Cert.AdamSmallIdeal.nD Cert.AdamSmallIdeal.τ).loc Cert.AdamSmallIdeal.main_arg18)),
    fun c => grad4 (m ((c.tc : Thread Cert.AdamSmallIdeal.nD Cert.AdamSmallIdeal.τ).loc Cert.AdamSmallIdeal.main_arg1)),
    fun c => delta Cert.AdamSmallRefIdeal.Gen.bcast_S_S1x768 (grad4 (m ((c.tc : Thread Cert.AdamSmallIdeal.nD Cert.AdamSmallIdeal.τ).loc Cert.AdamSmallIdeal.main_arg1))) (m ((c.tc : Thread Cert.AdamSmallIdeal.nD Cert.AdamSmallIdeal.τ).loc Cert.AdamSmallIdeal.main_arg19)) (m ((c.tc : Thread Cert.AdamSmallIdeal.nD Cert.AdamSmallIdeal.τ).loc Cert.AdamSmallIdeal.main_arg20)) (m ((c.tc : Thread Cert.AdamSmallIdeal.nD Cert.AdamSmallIdeal.τ).loc Cert.AdamSmallIdeal.main_arg21)),
    fun c => mom Cert.AdamSmallRefIdeal.Gen.bcast_S_S1x768 (grad4 (m ((c.tc : Thread Cert.AdamSmallIdeal.nD Cert.AdamSmallIdeal.τ).loc Cert.AdamSmallIdeal.main_arg1))) (m ((c.tc : Thread Cert.AdamSmallIdeal.nD Cert.AdamSmallIdeal.τ).loc Cert.AdamSmallIdeal.main_arg20)),
    fun c => vel Cert.AdamSmallRefIdeal.Gen.bcast_S_S1x768 (grad4 (m ((c.tc : Thread Cert.AdamSmallIdeal.nD Cert.AdamSmallIdeal.τ).loc Cert.AdamSmallIdeal.main_arg1))) (m ((c.tc : Thread Cert.AdamSmallIdeal.nD Cert.AdamSmallIdeal.τ).loc Cert.AdamSmallIdeal.main_arg21)),
    fun c => grad5 (m ((c.tc : Thread Cert.AdamSmallIdeal.nD Cert.AdamSmallIdeal.τ).loc Cert.AdamSmallIdeal.main_arg2)),
    fun c => delta Cert.AdamSmallRefIdeal.Gen.bcast_S_S512x128 (grad5 (m ((c.tc : Thread Cert.AdamSmallIdeal.nD Cert.AdamSmallIdeal.τ).loc Cert.AdamSmallIdeal.main_arg2))) (m ((c.tc : Thread Cert.AdamSmallIdeal.nD Cert.AdamSmallIdeal.τ).loc Cert.AdamSmallIdeal.main_arg22)) (m ((c.tc : Thread Cert.AdamSmallIdeal.nD Cert.AdamSmallIdeal.τ).loc Cert.AdamSmallIdeal.main_arg23)) (m ((c.tc : Thread Cert.AdamSmallIdeal.nD Cert.AdamSmallIdeal.τ).loc Cert.AdamSmallIdeal.main_arg24)),
    fun c => mom Cert.AdamSmallRefIdeal.Gen.bcast_S_S512x128 (grad5 (m ((c.tc : Thread Cert.AdamSmallIdeal.nD Cert.AdamSmallIdeal.τ).loc Cert.AdamSmallIdeal.main_arg2))) (m ((c.tc : Thread Cert.AdamSmallIdeal.nD Cert.AdamSmallIdeal.τ).loc Cert.AdamSmallIdeal.main_arg23)),
    fun c => vel Cert.AdamSmallRefIdeal.Gen.bcast_S_S512x128 (grad5 (m ((c.tc : Thread Cert.AdamSmallIdeal.nD Cert.AdamSmallIdeal.τ).loc Cert.AdamSmallIdeal.main_arg2))) (m ((c.tc : Thread Cert.AdamSmallIdeal.nD Cert.AdamSmallIdeal.τ).loc Cert.AdamSmallIdeal.main_arg24)),
    fun c => grad6 (m ((c.tc : Thread Cert.AdamSmallIdeal.nD Cert.AdamSmallIdeal.τ).loc Cert.AdamSmallIdeal.main_arg2)),
    fun c => delta Cert.AdamSmallRefIdeal.Gen.bcast_S_S4x128 (grad6 (m ((c.tc : Thread Cert.AdamSmallIdeal.nD Cert.AdamSmallIdeal.τ).loc Cert.AdamSmallIdeal.main_arg2))) (m ((c.tc : Thread Cert.AdamSmallIdeal.nD Cert.AdamSmallIdeal.τ).loc Cert.AdamSmallIdeal.main_arg25)) (m ((c.tc : Thread Cert.AdamSmallIdeal.nD Cert.AdamSmallIdeal.τ).loc Cert.AdamSmallIdeal.main_arg26)) (m ((c.tc : Thread Cert.AdamSmallIdeal.nD Cert.AdamSmallIdeal.τ).loc Cert.AdamSmallIdeal.main_arg27)),
    fun c => mom Cert.AdamSmallRefIdeal.Gen.bcast_S_S4x128 (grad6 (m ((c.tc : Thread Cert.AdamSmallIdeal.nD Cert.AdamSmallIdeal.τ).loc Cert.AdamSmallIdeal.main_arg2))) (m ((c.tc : Thread Cert.AdamSmallIdeal.nD Cert.AdamSmallIdeal.τ).loc Cert.AdamSmallIdeal.main_arg26)),
    fun c => vel Cert.AdamSmallRefIdeal.Gen.bcast_S_S4x128 (grad6 (m ((c.tc : Thread Cert.AdamSmallIdeal.nD Cert.AdamSmallIdeal.τ).loc Cert.AdamSmallIdeal.main_arg2))) (m ((c.tc : Thread Cert.AdamSmallIdeal.nD Cert.AdamSmallIdeal.τ).loc Cert.AdamSmallIdeal.main_arg27)),
    fun c => grad7 (m ((c.tc : Thread Cert.AdamSmallIdeal.nD Cert.AdamSmallIdeal.τ).loc Cert.AdamSmallIdeal.main_arg3)),
    fun c => delta Cert.AdamSmallRefIdeal.Gen.bcast_S_S768x192 (grad7 (m ((c.tc : Thread Cert.AdamSmallIdeal.nD Cert.AdamSmallIdeal.τ).loc Cert.AdamSmallIdeal.main_arg3))) (m ((c.tc : Thread Cert.AdamSmallIdeal.nD Cert.AdamSmallIdeal.τ).loc Cert.AdamSmallIdeal.main_arg28)) (m ((c.tc : Thread Cert.AdamSmallIdeal.nD Cert.AdamSmallIdeal.τ).loc Cert.AdamSmallIdeal.main_arg29)) (m ((c.tc : Thread Cert.AdamSmallIdeal.nD Cert.AdamSmallIdeal.τ).loc Cert.AdamSmallIdeal.main_arg30)),
    fun c => mom Cert.AdamSmallRefIdeal.Gen.bcast_S_S768x192 (grad7 (m ((c.tc : Thread Cert.AdamSmallIdeal.nD Cert.AdamSmallIdeal.τ).loc Cert.AdamSmallIdeal.main_arg3))) (m ((c.tc : Thread Cert.AdamSmallIdeal.nD Cert.AdamSmallIdeal.τ).loc Cert.AdamSmallIdeal.main_arg29)),
    fun c => vel Cert.AdamSmallRefIdeal.Gen.bcast_S_S768x192 (grad7 (m ((c.tc : Thread Cert.AdamSmallIdeal.nD Cert.AdamSmallIdeal.τ).loc Cert.AdamSmallIdeal.main_arg3))) (m ((c.tc : Thread Cert.AdamSmallIdeal.nD Cert.AdamSmallIdeal.τ).loc Cert.AdamSmallIdeal.main_arg30)),
    fun c => grad8 (m ((c.tc : Thread Cert.AdamSmallIdeal.nD Cert.AdamSmallIdeal.τ).loc Cert.AdamSmallIdeal.main_arg4)),
    fun c => delta Cert.AdamSmallRefIdeal.Gen.bcast_S_S1x128 (grad8 (m ((c.tc : Thread Cert.AdamSmallIdeal.nD Cert.AdamSmallIdeal.τ).loc Cert.AdamSmallIdeal.main_arg4))) (m ((c.tc : Thread Cert.AdamSmallIdeal.nD Cert.AdamSmallIdeal.τ).loc Cert.AdamSmallIdeal.main_arg31)) (m ((c.tc : Thread Cert.AdamSmallIdeal.nD Cert.AdamSmallIdeal.τ).loc Cert.AdamSmallIdeal.main_arg32)) (m ((c.tc : Thread Cert.AdamSmallIdeal.nD Cert.AdamSmallIdeal.τ).loc Cert.AdamSmallIdeal.main_arg33)),
    fun c => mom Cert.AdamSmallRefIdeal.Gen.bcast_S_S1x128 (grad8 (m ((c.tc : Thread Cert.AdamSmallIdeal.nD Cert.AdamSmallIdeal.τ).loc Cert.AdamSmallIdeal.main_arg4))) (m ((c.tc : Thread Cert.AdamSmallIdeal.nD Cert.AdamSmallIdeal.τ).loc Cert.AdamSmallIdeal.main_arg32)),
    fun c => vel Cert.AdamSmallRefIdeal.Gen.bcast_S_S1x128 (grad8 (m ((c.tc : Thread Cert.AdamSmallIdeal.nD Cert.AdamSmallIdeal.τ).loc Cert.AdamSmallIdeal.main_arg4))) (m ((c.tc : Thread Cert.AdamSmallIdeal.nD Cert.AdamSmallIdeal.τ).loc Cert.AdamSmallIdeal.main_arg33)),
    fun c => grad9 (m ((c.tc : Thread Cert.AdamSmallIdeal.nD Cert.AdamSmallIdeal.τ).loc Cert.AdamSmallIdeal.main_arg4)),
    fun c => delta Cert.AdamSmallRefIdeal.Gen.bcast_S_S1x128 (grad9 (m ((c.tc : Thread Cert.AdamSmallIdeal.nD Cert.AdamSmallIdeal.τ).loc Cert.AdamSmallIdeal.main_arg4))) (m ((c.tc : Thread Cert.AdamSmallIdeal.nD Cert.AdamSmallIdeal.τ).loc Cert.AdamSmallIdeal.main_arg34)) (m ((c.tc : Thread Cert.AdamSmallIdeal.nD Cert.AdamSmallIdeal.τ).loc Cert.AdamSmallIdeal.main_arg35)) (m ((c.tc : Thread Cert.AdamSmallIdeal.nD Cert.AdamSmallIdeal.τ).loc Cert.AdamSmallIdeal.main_arg36)),
    fun c => mom Cert.AdamSmallRefIdeal.Gen.bcast_S_S1x128 (grad9 (m ((c.tc : Thread Cert.AdamSmallIdeal.nD Cert.AdamSmallIdeal.τ).loc Cert.AdamSmallIdeal.main_arg4))) (m ((c.tc : Thread Cert.AdamSmallIdeal.nD Cert.AdamSmallIdeal.τ).loc Cert.AdamSmallIdeal.main_arg35)),
    fun c => vel Cert.AdamSmallRefIdeal.Gen.bcast_S_S1x128 (grad9 (m ((c.tc : Thread Cert.AdamSmallIdeal.nD Cert.AdamSmallIdeal.τ).loc Cert.AdamSmallIdeal.main_arg4))) (m ((c.tc : Thread Cert.AdamSmallIdeal.nD Cert.AdamSmallIdeal.τ).loc Cert.AdamSmallIdeal.main_arg36)),
    fun c => grad10 (m ((c.tc : Thread Cert.AdamSmallIdeal.nD Cert.AdamSmallIdeal.τ).loc Cert.AdamSmallIdeal.main_arg4)),
    fun c => delta Cert.AdamSmallRefIdeal.Gen.bcast_S_S1x128 (grad10 (m ((c.tc : Thread Cert.AdamSmallIdeal.nD Cert.AdamSmallIdeal.τ).loc Cert.AdamSmallIdeal.main_arg4))) (m ((c.tc : Thread Cert.AdamSmallIdeal.nD Cert.AdamSmallIdeal.τ).loc Cert.AdamSmallIdeal.main_arg37)) (m ((c.tc : Thread Cert.AdamSmallIdeal.nD Cert.AdamSmallIdeal.τ).loc Cert.AdamSmallIdeal.main_arg38)) (m ((c.tc : Thread Cert.AdamSmallIdeal.nD Cert.AdamSmallIdeal.τ).loc Cert.AdamSmallIdeal.main_arg39)),
    fun c => mom Cert.AdamSmallRefIdeal.Gen.bcast_S_S1x128 (grad10 (m ((c.tc : Thread Cert.AdamSmallIdeal.nD Cert.AdamSmallIdeal.τ).loc Cert.AdamSmallIdeal.main_arg4))) (m ((c.tc : Thread Cert.AdamSmallIdeal.nD Cert.AdamSmallIdeal.τ).loc Cert.AdamSmallIdeal.main_arg38)),
    fun c => vel Cert.AdamSmallRefIdeal.Gen.bcast_S_S1x128 (grad10 (m ((c.tc : Thread Cert.AdamSmallIdeal.nD Cert.AdamSmallIdeal.τ).loc Cert.AdamSmallIdeal.main_arg4))) (m ((c.tc : Thread Cert.AdamSmallIdeal.nD Cert.AdamSmallIdeal.τ).loc Cert.AdamSmallIdeal.main_arg39)),
    fun c => grad11 (m ((c.tc : Thread Cert.AdamSmallIdeal.nD Cert.AdamSmallIdeal.τ).loc Cert.AdamSmallIdeal.main_arg5)),
    fun c => delta Cert.AdamSmallRefIdeal.Gen.bcast_S_S3x96 (grad11 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg40)) (m ((c.tc : Thread Cert.AdamSmallIdeal.nD Cert.AdamSmallIdeal.τ).loc Cert.AdamSmallIdeal.main_arg41)) (m ((c.tc : Thread Cert.AdamSmallIdeal.nD Cert.AdamSmallIdeal.τ).loc Cert.AdamSmallIdeal.main_arg42)),
    fun c => mom Cert.AdamSmallRefIdeal.Gen.bcast_S_S3x96 (grad11 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg41)),
    fun c => vel Cert.AdamSmallRefIdeal.Gen.bcast_S_S3x96 (grad11 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg42)),
    fun c => grad12 (m ((c.tc : Thread Cert.AdamSmallIdeal.nD Cert.AdamSmallIdeal.τ).loc Cert.AdamSmallIdeal.main_arg5)),
    fun c => delta Cert.AdamSmallRefIdeal.Gen.bcast_S_S1x96 (grad12 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg43)) (m ((c.tc : Thread Cert.AdamSmallIdeal.nD Cert.AdamSmallIdeal.τ).loc Cert.AdamSmallIdeal.main_arg44)) (m ((c.tc : Thread Cert.AdamSmallIdeal.nD Cert.AdamSmallIdeal.τ).loc Cert.AdamSmallIdeal.main_arg45)),
    fun c => mom Cert.AdamSmallRefIdeal.Gen.bcast_S_S1x96 (grad12 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg44)),
    fun c => vel Cert.AdamSmallRefIdeal.Gen.bcast_S_S1x96 (grad12 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg45)),
    fun c => grad13 (m ((c.tc : Thread Cert.AdamSmallIdeal.nD Cert.AdamSmallIdeal.τ).loc Cert.AdamSmallIdeal.main_arg5)),
    fun c => delta Cert.AdamSmallRefIdeal.Gen.bcast_S_S31x96 (grad13 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg46)) (m ((c.tc : Thread Cert.AdamSmallIdeal.nD Cert.AdamSmallIdeal.τ).loc Cert.AdamSmallIdeal.main_arg47)) (m ((c.tc : Thread Cert.AdamSmallIdeal.nD Cert.AdamSmallIdeal.τ).loc Cert.AdamSmallIdeal.main_arg48)),
    fun c => mom Cert.AdamSmallRefIdeal.Gen.bcast_S_S31x96 (grad13 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg47)),
    fun c => vel Cert.AdamSmallRefIdeal.Gen.bcast_S_S31x96 (grad13 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg48)),
    fun c => grad14 (m ((c.tc : Thread Cert.AdamSmallIdeal.nD Cert.AdamSmallIdeal.τ).loc Cert.AdamSmallIdeal.main_arg5)),
    fun c => delta Cert.AdamSmallRefIdeal.Gen.bcast_S_S1x96 (grad14 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg49)) (m ((c.tc : Thread Cert.AdamSmallIdeal.nD Cert.AdamSmallIdeal.τ).loc Cert.AdamSmallIdeal.main_arg50)) (m ((c.tc : Thread Cert.AdamSmallIdeal.nD Cert.AdamSmallIdeal.τ).loc Cert.AdamSmallIdeal.main_arg51)),
    fun c => mom Cert.AdamSmallRefIdeal.Gen.bcast_S_S1x96 (grad14 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg50)),
    fun c => vel Cert.AdamSmallRefIdeal.Gen.bcast_S_S1x96 (grad14 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg51)),
    fun c => grad15 (m ((c.tc : Thread Cert.AdamSmallIdeal.nD Cert.AdamSmallIdeal.τ).loc Cert.AdamSmallIdeal.main_arg5)),
    fun c => delta Cert.AdamSmallRefIdeal.Gen.bcast_S_S1x96 (grad15 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg52)) (m ((c.tc : Thread Cert.AdamSmallIdeal.nD Cert.AdamSmallIdeal.τ).loc Cert.AdamSmallIdeal.main_arg53)) (m ((c.tc : Thread Cert.AdamSmallIdeal.nD Cert.AdamSmallIdeal.τ).loc Cert.AdamSmallIdeal.main_arg54)),
    fun c => mom Cert.AdamSmallRefIdeal.Gen.bcast_S_S1x96 (grad15 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg53)),
    fun c => vel Cert.AdamSmallRefIdeal.Gen.bcast_S_S1x96 (grad15 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg54)),
    fun c => grad16 (m ((c.tc : Thread Cert.AdamSmallIdeal.nD Cert.AdamSmallIdeal.τ).loc Cert.AdamSmallIdeal.main_arg5)),
    fun c => delta Cert.AdamSmallRefIdeal.Gen.bcast_S_S1x96 (grad16 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg55)) (m ((c.tc : Thread Cert.AdamSmallIdeal.nD Cert.AdamSmallIdeal.τ).loc Cert.AdamSmallIdeal.main_arg56)) (m ((c.tc : Thread Cert.AdamSmallIdeal.nD Cert.AdamSmallIdeal.τ).loc Cert.AdamSmallIdeal.main_arg57)),
    fun c => mom Cert.AdamSmallRefIdeal.Gen.bcast_S_S1x96 (grad16 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg56)),
    fun c => vel Cert.AdamSmallRefIdeal.Gen.bcast_S_S1x96 (grad16 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg57)),
    fun c => grad17 (m ((c.tc : Thread Cert.AdamSmallIdeal.nD Cert.AdamSmallIdeal.τ).loc Cert.AdamSmallIdeal.main_arg5)),
    fun c => delta Cert.AdamSmallRefIdeal.Gen.bcast_S_S1x96 (grad17 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg58)) (m ((c.tc : Thread Cert.AdamSmallIdeal.nD Cert.AdamSmallIdeal.τ).loc Cert.AdamSmallIdeal.main_arg59)) (m ((c.tc : Thread Cert.AdamSmallIdeal.nD Cert.AdamSmallIdeal.τ).loc Cert.AdamSmallIdeal.main_arg60)),
    fun c => mom Cert.AdamSmallRefIdeal.Gen.bcast_S_S1x96 (grad17 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg59)),
    fun c => vel Cert.AdamSmallRefIdeal.Gen.bcast_S_S1x96 (grad17 (m ((c.tc : Thread Cert.AdamSmallIdeal.nD Cert.AdamSmallIdeal.τ).loc Cert.AdamSmallIdeal.main_arg5))) (m ((c.tc : Thread Cert.AdamSmallIdeal.nD Cert.AdamSmallIdeal.τ).loc Cert.AdamSmallIdeal.main_arg60)),
    fun c => loss (m ((c.tc : Thread Cert.AdamSmallIdeal.nD Cert.AdamSmallIdeal.τ).loc Cert.AdamSmallIdeal.main_arg6)), ?_, ?_⟩
  · refine (θ_run Cert.AdamSmallIdeal.defs _ _).mono (fun r h c => ?_) (Cert.AdamSmallIdeal.Body.run_main m g)
    exact ⟨Cert.AdamSmallIdeal.Final.res61 m h c, Cert.AdamSmallIdeal.Final.res62 m h c, Cert.AdamSmallIdeal.Final.res63 m h c, Cert.AdamSmallIdeal.Final.res64 m h c, Cert.AdamSmallIdeal.Final.res65 m h c, Cert.AdamSmallIdeal.Final.res66 m h c, Cert.AdamSmallIdeal.Final.res67 m h c, Cert.AdamSmallIdeal.Final.res68 m h c, Cert.AdamSmallIdeal.Final.res69 m h c, Cert.AdamSmallIdeal.Final.res70 m h c, Cert.AdamSmallIdeal.Final.res71 m h c, Cert.AdamSmallIdeal.Final.res72 m h c, Cert.AdamSmallIdeal.Final.res73 m h c, Cert.AdamSmallIdeal.Final.res74 m h c, Cert.AdamSmallIdeal.Final.res75 m h c, Cert.AdamSmallIdeal.Final.res76 m h c, Cert.AdamSmallIdeal.Final.res77 m h c, Cert.AdamSmallIdeal.Final.res78 m h c, Cert.AdamSmallIdeal.Final.res79 m h c, Cert.AdamSmallIdeal.Final.res80 m h c, Cert.AdamSmallIdeal.Final.res81 m h c, Cert.AdamSmallIdeal.Final.res82 m h c, Cert.AdamSmallIdeal.Final.res83 m h c, Cert.AdamSmallIdeal.Final.res84 m h c, Cert.AdamSmallIdeal.Final.res85 m h c, Cert.AdamSmallIdeal.Final.res86 m h c, Cert.AdamSmallIdeal.Final.res87 m h c, Cert.AdamSmallIdeal.Final.res88 m h c, Cert.AdamSmallIdeal.Final.res89 m h c, Cert.AdamSmallIdeal.Final.res90 m h c, Cert.AdamSmallIdeal.Final.res91 m h c, Cert.AdamSmallIdeal.Final.res92 m h c, Cert.AdamSmallIdeal.Final.res93 m h c, Cert.AdamSmallIdeal.Final.res94 m h c, Cert.AdamSmallIdeal.Final.res95 m h c, Cert.AdamSmallIdeal.Final.res96 m h c, Cert.AdamSmallIdeal.Final.res97 m h c, Cert.AdamSmallIdeal.Final.res98 m h c, Cert.AdamSmallIdeal.Final.res99 m h c, Cert.AdamSmallIdeal.Final.res100 m h c, Cert.AdamSmallIdeal.Final.res101 m h c, Cert.AdamSmallIdeal.Final.res102 m h c, Cert.AdamSmallIdeal.Final.res103 m h c, Cert.AdamSmallIdeal.Final.res104 m h c, Cert.AdamSmallIdeal.Final.res105 m h c, Cert.AdamSmallIdeal.Final.res106 m h c, Cert.AdamSmallIdeal.Final.res107 m h c, Cert.AdamSmallIdeal.Final.res108 m h c, Cert.AdamSmallIdeal.Final.res109 m h c, Cert.AdamSmallIdeal.Final.res110 m h c, Cert.AdamSmallIdeal.Final.res111 m h c, Cert.AdamSmallIdeal.Final.res112 m h c, Cert.AdamSmallIdeal.Final.res113 m h c, Cert.AdamSmallIdeal.Final.res114 m h c, Cert.AdamSmallIdeal.Final.res115 m h c, Cert.AdamSmallIdeal.Final.res116 m h c, Cert.AdamSmallIdeal.Final.res117 m h c, Cert.AdamSmallIdeal.Final.res118 m h c, Cert.AdamSmallIdeal.Final.res119 m h c, Cert.AdamSmallIdeal.Final.res120 m h c, Cert.AdamSmallIdeal.Final.res121 m h c, Cert.AdamSmallIdeal.Final.res122 m h c, Cert.AdamSmallIdeal.Final.res123 m h c, Cert.AdamSmallIdeal.Final.res124 m h c, Cert.AdamSmallIdeal.Final.res125 m h c, Cert.AdamSmallIdeal.Final.res126 m h c, Cert.AdamSmallIdeal.Final.res127 m h c, Cert.AdamSmallIdeal.Final.res128 m h c, Cert.AdamSmallIdeal.Final.res129 m h c, Cert.AdamSmallIdeal.Final.res130 m h c, Cert.AdamSmallIdeal.Final.res131 m h c, Cert.AdamSmallIdeal.Final.res132 m h c, Cert.AdamSmallIdeal.Final.res133 m h c, Cert.AdamSmallIdeal.Body.unchanged m h c⟩
  · refine (θ_run Cert.AdamSmallRefIdeal.defs _ _).mono (fun r h c => ?_) (run_reference m' g')
    obtain ⟨h61, h62, h63, h64, h65, h66, h67, h68, h69, h70, h71, h72, h73, h74, h75, h76, h77, h78, h79, h80, h81, h82, h83, h84, h85, h86, h87, h88, h89, h90, h91, h92, h93, h94, h95, h96, h97, h98, h99, h100, h101, h102, h103, h104, h105, h106, h107, h108, h109, h110, h111, h112, h113, h114, h115, h116, h117, h118, h119, h120, h121, h122, h123, h124, h125, h126, h127, h128, h129, h130, h131, h132, h133, hu⟩ := h c
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39, a40, a41, a42, a43, a44, a45, a46, a47, a48, a49, a50, a51, a52, a53, a54, a55, a56, a57, a58, a59, a60⟩ := hagree c
    exact ⟨h61.trans (by rw [a0] <;> rfl), h62.trans (by rw [a0, a7, a8, a9] <;> rfl), h63.trans (by rw [a0, a8] <;> rfl), h64.trans (by rw [a0, a9] <;> rfl), h65.trans (by rw [a0] <;> rfl), h66.trans (by rw [a0, a10, a11, a12] <;> rfl), h67.trans (by rw [a0, a11] <;> rfl), h68.trans (by rw [a0, a12] <;> rfl), h69.trans (by rw [a0] <;> rfl), h70.trans (by rw [a0, a13, a14, a15] <;> rfl), h71.trans (by rw [a0, a14] <;> rfl), h72.trans (by rw [a0, a15] <;> rfl), h73.trans (by rw [a1] <;> rfl), h74.trans (by rw [a1, a16, a17, a18] <;> rfl), h75.trans (by rw [a1, a17] <;> rfl), h76.trans (by rw [a1, a18] <;> rfl), h77.trans (by rw [a1] <;> rfl), h78.trans (by rw [a1, a19, a20, a21] <;> rfl), h79.trans (by rw [a1, a20] <;> rfl), h80.trans (by rw [a1, a21] <;> rfl), h81.trans (by rw [a2] <;> rfl), h82.trans (by rw [a2, a22, a23, a24] <;> rfl), h83.trans (by rw [a2, a23] <;> rfl), h84.trans (by rw [a2, a24] <;> rfl), h85.trans (by rw [a2] <;> rfl), h86.trans (by rw [a2, a25, a26, a27] <;> rfl), h87.trans (by rw [a2, a26] <;> rfl), h88.trans (by rw [a2, a27] <;> rfl), h89.trans (by rw [a3] <;> rfl), h90.trans (by rw [a3, a28, a29, a30] <;> rfl), h91.trans (by rw [a3, a29] <;> rfl), h92.trans (by rw [a3, a30] <;> rfl), h93.trans (by rw [a4] <;> rfl), h94.trans (by rw [a4, a31, a32, a33] <;> rfl), h95.trans (by rw [a4, a32] <;> rfl), h96.trans (by rw [a4, a33] <;> rfl), h97.trans (by rw [a4] <;> rfl), h98.trans (by rw [a4, a34, a35, a36] <;> rfl), h99.trans (by rw [a4, a35] <;> rfl), h100.trans (by rw [a4, a36] <;> rfl), h101.trans (by rw [a4] <;> rfl), h102.trans (by rw [a4, a37, a38, a39] <;> rfl), h103.trans (by rw [a4, a38] <;> rfl), h104.trans (by rw [a4, a39] <;> rfl), h105.trans (by rw [a5] <;> rfl), h106.trans (by rw [a5, a40, a41, a42] <;> rfl), h107.trans (by rw [a5, a41] <;> rfl), h108.trans (by rw [a5, a42] <;> rfl), h109.trans (by rw [a5] <;> rfl), h110.trans (by rw [a5, a43, a44, a45] <;> rfl), h111.trans (by rw [a5, a44] <;> rfl), h112.trans (by rw [a5, a45] <;> rfl), h113.trans (by rw [a5] <;> rfl), h114.trans (by rw [a5, a46, a47, a48] <;> rfl), h115.trans (by rw [a5, a47] <;> rfl), h116.trans (by rw [a5, a48] <;> rfl), h117.trans (by rw [a5] <;> rfl), h118.trans (by rw [a5, a49, a50, a51] <;> rfl), h119.trans (by rw [a5, a50] <;> rfl), h120.trans (by rw [a5, a51] <;> rfl), h121.trans (by rw [a5] <;> rfl), h122.trans (by rw [a5, a52, a53, a54] <;> rfl), h123.trans (by rw [a5, a53] <;> rfl), h124.trans (by rw [a5, a54] <;> rfl), h125.trans (by rw [a5] <;> rfl), h126.trans (by rw [a5, a55, a56, a57] <;> rfl), h127.trans (by rw [a5, a56] <;> rfl), h128.trans (by rw [a5, a57] <;> rfl), h129.trans (by rw [a5] <;> rfl), h130.trans (by rw [a5, a58, a59, a60] <;> rfl), h131.trans (by rw [a5, a59] <;> rfl), h132.trans (by rw [a5, a60] <;> rfl), h133.trans (by rw [a6] <;> rfl), hu⟩

end Cert.Claims.AdamSmall

end
-- ==== Proof.lean ====
module

public import proofs.«01_k».proof.Defs
public import proofs.«01_k».proof.Proof.Gen.DxEvenIdeal.Value
public import proofs.«01_k».proof.Proof.Gen.DxEvenRefIdeal.Run
public import proofs.«01_k».proof.Proof.DxEven.Claims
public import proofs.«01_k».proof.Proof.Gen.DxOddIdeal.Value
public import proofs.«01_k».proof.Proof.Gen.DxOddRefIdeal.Run
public import proofs.«01_k».proof.Proof.DxOdd.Claims
public import proofs.«01_k».proof.Proof.Gen.DwInEvenIdeal.Value
public import proofs.«01_k».proof.Proof.Gen.DwInEvenRefIdeal.Run
public import proofs.«01_k».proof.Proof.DwInEven.Claims
public import proofs.«01_k».proof.Proof.Gen.DwInOddIdeal.Value
public import proofs.«01_k».proof.Proof.Gen.DwInOddRefIdeal.Run
public import proofs.«01_k».proof.Proof.DwInOdd.Claims
public import proofs.«01_k».proof.Proof.Gen.DwOutIdeal.Value
public import proofs.«01_k».proof.Proof.Gen.DwOutRefIdeal.Run
public import proofs.«01_k».proof.Proof.DwOut.Claims
public import proofs.«01_k».proof.Proof.Gen.InEvenIdeal.Value
public import proofs.«01_k».proof.Proof.Gen.InEvenRefIdeal.Run
public import proofs.«01_k».proof.Proof.InEven.Claims
public import proofs.«01_k».proof.Proof.Gen.InOddIdeal.Value
public import proofs.«01_k».proof.Proof.Gen.InOddRefIdeal.Run
public import proofs.«01_k».proof.Proof.InOdd.Claims
public import proofs.«01_k».proof.Proof.Gen.KvInIdeal.Value
public import proofs.«01_k».proof.Proof.Gen.KvInRefIdeal.Run
public import proofs.«01_k».proof.Proof.KvIn.Claims
public import proofs.«01_k».proof.Proof.Gen.KvBwdIdeal.Value
public import proofs.«01_k».proof.Proof.Gen.KvBwdRefIdeal.Run
public import proofs.«01_k».proof.Proof.KvBwd.Claims
public import proofs.«01_k».proof.Proof.Gen.AdamInEvenIdeal.Value
public import proofs.«01_k».proof.Proof.Gen.AdamInEvenRefIdeal.Run
public import proofs.«01_k».proof.Proof.AdamInEven.Claims
public import proofs.«01_k».proof.Proof.Gen.AdamInOddIdeal.Value
public import proofs.«01_k».proof.Proof.Gen.AdamInOddRefIdeal.Run
public import proofs.«01_k».proof.Proof.AdamInOdd.Claims
public import proofs.«01_k».proof.Proof.Gen.AdamKvIdeal.Value
public import proofs.«01_k».proof.Proof.Gen.AdamKvRefIdeal.Run
public import proofs.«01_k».proof.Proof.AdamKv.Claims
public import proofs.«01_k».proof.Proof.Gen.AdamOutIdeal.Value
public import proofs.«01_k».proof.Proof.Gen.AdamOutRefIdeal.Run
public import proofs.«01_k».proof.Proof.AdamOut.Claims
public import proofs.«01_k».proof.Proof.Gen.AdamPwIdeal.Value
public import proofs.«01_k».proof.Proof.Gen.AdamPwRefIdeal.Run
public import proofs.«01_k».proof.Proof.AdamPw.Claims
public import proofs.«01_k».proof.Proof.Gen.AdamSmall
public import proofs.«01_k».proof.Proof.Gen.AdamSmall.Skeleton
public import proofs.«01_k».proof.Proof.Gen.AdamSmall.Launch
public import proofs.«01_k».proof.Proof.Gen.AdamSmall.Points
public import proofs.«01_k».proof.Proof.Gen.AdamSmallIdeal
public import proofs.«01_k».proof.Proof.Gen.AdamSmallIdeal.Skeleton
public import proofs.«01_k».proof.Proof.Gen.AdamSmallIdeal.Launch
public import proofs.«01_k».proof.Proof.Gen.AdamSmallIdeal.Points
public import proofs.«01_k».proof.Proof.Gen.AdamSmallRefIdeal.Run
public import proofs.«01_k».proof.Proof.AdamSmall.Claims

/-! The assembly: every claim about every program, taken from that program's own module. -/

@[expose] public section

noncomputable section

namespace Cert.Proof

theorem claim : Cert.Claim :=
  ⟨Cert.DxEven.Gen.facts, Cert.DxEvenIdeal.Gen.facts, Cert.DxEvenRefIdeal.Gen.facts, Cert.DxOdd.Gen.facts, Cert.DxOddIdeal.Gen.facts, Cert.DxOddRefIdeal.Gen.facts, Cert.DwInEven.Gen.facts, Cert.DwInEvenIdeal.Gen.facts, Cert.DwInEvenRefIdeal.Gen.facts, Cert.DwInOdd.Gen.facts, Cert.DwInOddIdeal.Gen.facts, Cert.DwInOddRefIdeal.Gen.facts, Cert.DwOut.Gen.facts, Cert.DwOutIdeal.Gen.facts, Cert.DwOutRefIdeal.Gen.facts, Cert.InEven.Gen.facts, Cert.InEvenIdeal.Gen.facts, Cert.InEvenRefIdeal.Gen.facts, Cert.InOdd.Gen.facts, Cert.InOddIdeal.Gen.facts, Cert.InOddRefIdeal.Gen.facts, Cert.KvIn.Gen.facts, Cert.KvInIdeal.Gen.facts, Cert.KvInRefIdeal.Gen.facts, Cert.KvBwd.Gen.facts, Cert.KvBwdIdeal.Gen.facts, Cert.KvBwdRefIdeal.Gen.facts, Cert.AdamInEven.Gen.facts, Cert.AdamInEvenIdeal.Gen.facts, Cert.AdamInEvenRefIdeal.Gen.facts, Cert.AdamInOdd.Gen.facts, Cert.AdamInOddIdeal.Gen.facts, Cert.AdamInOddRefIdeal.Gen.facts, Cert.AdamKv.Gen.facts, Cert.AdamKvIdeal.Gen.facts, Cert.AdamKvRefIdeal.Gen.facts, Cert.AdamOut.Gen.facts, Cert.AdamOutIdeal.Gen.facts, Cert.AdamOutRefIdeal.Gen.facts, Cert.AdamPw.Gen.facts, Cert.AdamPwIdeal.Gen.facts, Cert.AdamPwRefIdeal.Gen.facts, Cert.AdamSmall.Gen.facts, Cert.AdamSmallIdeal.Gen.facts, Cert.AdamSmallRefIdeal.Gen.facts,
    Claims.DxEven.frame_kernel, Claims.DxEven.frame_ideal, Claims.DxEven.frame_reference,
    Claims.DxOdd.frame_kernel, Claims.DxOdd.frame_ideal, Claims.DxOdd.frame_reference,
    Claims.DwInEven.frame_kernel, Claims.DwInEven.frame_ideal, Claims.DwInEven.frame_reference,
    Claims.DwInOdd.frame_kernel, Claims.DwInOdd.frame_ideal, Claims.DwInOdd.frame_reference,
    Claims.DwOut.frame_kernel, Claims.DwOut.frame_ideal, Claims.DwOut.frame_reference,
    Claims.InEven.frame_kernel, Claims.InEven.frame_ideal, Claims.InEven.frame_reference,
    Claims.InOdd.frame_kernel, Claims.InOdd.frame_ideal, Claims.InOdd.frame_reference,
    Claims.KvIn.frame_kernel, Claims.KvIn.frame_ideal, Claims.KvIn.frame_reference,
    Claims.KvBwd.frame_kernel, Claims.KvBwd.frame_ideal, Claims.KvBwd.frame_reference,
    Claims.AdamInEven.frame_kernel, Claims.AdamInEven.frame_ideal, Claims.AdamInEven.frame_reference,
    Claims.AdamInOdd.frame_kernel, Claims.AdamInOdd.frame_ideal, Claims.AdamInOdd.frame_reference,
    Claims.AdamKv.frame_kernel, Claims.AdamKv.frame_ideal, Claims.AdamKv.frame_reference,
    Claims.AdamOut.frame_kernel, Claims.AdamOut.frame_ideal, Claims.AdamOut.frame_reference,
    Claims.AdamPw.frame_kernel, Claims.AdamPw.frame_ideal, Claims.AdamPw.frame_reference,
    Claims.AdamSmall.frame_kernel, Claims.AdamSmall.frame_ideal, Claims.AdamSmall.frame_reference,
    Claims.DxEven.preserves, Claims.DxEven.algebraic,
    Claims.DxOdd.preserves, Claims.DxOdd.algebraic,
    Claims.DwInEven.preserves, Claims.DwInEven.algebraic,
    Claims.DwInOdd.preserves, Claims.DwInOdd.algebraic,
    Claims.DwOut.preserves, Claims.DwOut.algebraic,
    Claims.InEven.preserves, Claims.InEven.algebraic,
    Claims.InOdd.preserves, Claims.InOdd.algebraic,
    Claims.KvIn.preserves, Claims.KvIn.algebraic,
    Claims.KvBwd.preserves, Claims.KvBwd.algebraic,
    Claims.AdamInEven.preserves, Claims.AdamInEven.algebraic,
    Claims.AdamInOdd.preserves, Claims.AdamInOdd.algebraic,
    Claims.AdamKv.preserves, Claims.AdamKv.algebraic,
    Claims.AdamOut.preserves, Claims.AdamOut.algebraic,
    Claims.AdamPw.preserves, Claims.AdamPw.algebraic,
    Claims.AdamSmall.preserves, Claims.AdamSmall.algebraic⟩

end Cert.Proof

end
